-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_fwd_finite [hPre_fwd_finite : Cert.Pre_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWRefIdeal (m : (ℓ : Loc Cert.GradWRefIdeal.nD Cert.GradWRefIdeal.τ Cert.GradWRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Cols (m : (ℓ : Loc Cert.Cols.nD Cert.Cols.τ Cert.Cols.sig) → Buf (Elt Bits) ℓ) : Prop :=
  True

def Pre_ColsIdeal (m : (ℓ : Loc Cert.ColsIdeal.nD Cert.ColsIdeal.τ Cert.ColsIdeal.sig) → Buf (Elt Ideal) ℓ) : Prop :=
  True

def Pre_ColsRefIdeal (m : (ℓ : Loc Cert.ColsRefIdeal.nD Cert.ColsRefIdeal.τ Cert.ColsRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_fwd_finite [hAttnFwdIdeal : Cert.AttnFwdIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Cols [hCols : Cert.Cols.Facts] : Prop :=
  ∀ (m : (ℓ : Loc Cert.Cols.nD Cert.Cols.τ Cert.Cols.sig) → Buf (Elt Bits) ℓ) (g : Dev Cert.Cols.nD → PrngReg), Pre_Cols m →
    θ_run (Cert.Cols.defs (F := Bits)) (onTc (τ := Cert.Cols.τ) (Cert.Cols.main (F := Bits))) ⟨m, fun _ => 0, g⟩ (fun r => (∀ c : Dev Cert.Cols.nD,
      r.2.mem ((c.tc : Thread Cert.Cols.nD Cert.Cols.τ).loc Cert.Cols.main_arg0) = m ((c.tc : Thread Cert.Cols.nD Cert.Cols.τ).loc Cert.Cols.main_arg0)
      ∧ r.2.mem ((c.tc : Thread Cert.Cols.nD Cert.Cols.τ).loc Cert.Cols.main_arg1) = m ((c.tc : Thread Cert.Cols.nD Cert.Cols.τ).loc Cert.Cols.main_arg1)
      ∧ r.2.mem ((c.tc : Thread Cert.Cols.nD Cert.Cols.τ).loc Cert.Cols.main_arg2) = m ((c.tc : Thread Cert.Cols.nD Cert.Cols.τ).loc Cert.Cols.main_arg2))
      ∧ r.2.sem = fun _ => 0)

def quiescent_ColsIdeal [hColsIdeal : Cert.ColsIdeal.Facts] : Prop :=
  ∀ (m : (ℓ : Loc Cert.ColsIdeal.nD Cert.ColsIdeal.τ Cert.ColsIdeal.sig) → Buf (Elt Ideal) ℓ) (g : Dev Cert.ColsIdeal.nD → PrngReg), Pre_ColsIdeal m →
    θ_run (Cert.ColsIdeal.defs (F := Ideal)) (onTc (τ := Cert.ColsIdeal.τ) (Cert.ColsIdeal.main (F := Ideal))) ⟨m, fun _ => 0, g⟩ (fun r => (∀ c : Dev Cert.ColsIdeal.nD,
      r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
      ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
      ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2))
      ∧ r.2.sem = fun _ => 0)

def quiescent_ColsRefIdeal [hColsRefIdeal : Cert.ColsRefIdeal.Facts] : Prop :=
  ∀ (m : (ℓ : Loc Cert.ColsRefIdeal.nD Cert.ColsRefIdeal.τ Cert.ColsRefIdeal.sig) → Buf (Elt Ideal) ℓ) (g : Dev Cert.ColsRefIdeal.nD → PrngReg), Pre_ColsRefIdeal m →
    θ_run (Cert.ColsRefIdeal.defs (F := Ideal)) (onTc (τ := Cert.ColsRefIdeal.τ) (Cert.ColsRefIdeal.main (F := Ideal))) ⟨m, fun _ => 0, g⟩ (fun r => (∀ c : Dev Cert.ColsRefIdeal.nD,
      r.2.mem ((c.tc : Thread Cert.ColsRefIdeal.nD Cert.ColsRefIdeal.τ).loc Cert.ColsRefIdeal.main_arg0) = m ((c.tc : Thread Cert.ColsRefIdeal.nD Cert.ColsRefIdeal.τ).loc Cert.ColsRefIdeal.main_arg0)
      ∧ r.2.mem ((c.tc : Thread Cert.ColsRefIdeal.nD Cert.ColsRefIdeal.τ).loc Cert.ColsRefIdeal.main_arg1) = m ((c.tc : Thread Cert.ColsRefIdeal.nD Cert.ColsRefIdeal.τ).loc Cert.ColsRefIdeal.main_arg1)
      ∧ r.2.mem ((c.tc : Thread Cert.ColsRefIdeal.nD Cert.ColsRefIdeal.τ).loc Cert.ColsRefIdeal.main_arg2) = m ((c.tc : Thread Cert.ColsRefIdeal.nD Cert.ColsRefIdeal.τ).loc Cert.ColsRefIdeal.main_arg2))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5)
      ∧ r.2.mem ((c.tc : Thread Cert.SsdFwd.nD Cert.SsdFwd.τ).loc Cert.SsdFwd.main_arg6) = m ((c.tc : Thread Cert.SsdFwd.nD Cert.SsdFwd.τ).loc Cert.SsdFwd.main_arg6))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def preserves_InBwd_InBwdIdeal : Prop :=
  True

def algebraic_InBwdIdeal_InRefIdeal_pre_in_finite [hInBwdIdeal : Cert.InBwdIdeal.Facts] [hInRefIdeal : Cert.InRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_in_finite m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)
      ∧ m' ((c.tc : Thread Cert.InRefIdeal.nD Cert.InRefIdeal.τ).loc Cert.InRefIdeal.main_arg6) = m ((c.tc : Thread Cert.InBwdIdeal.nD Cert.InBwdIdeal.τ).loc Cert.InBwdIdeal.main_arg6)) →
    ∃ (v0 : (c : Dev Cert.InBwdIdeal.nD) → Buf (Elt Ideal) ((c.tc : Thread Cert.InBwdIdeal.nD Cert.InBwdIdeal.τ).loc Cert.InBwdIdeal.main_v14_0)) (v1 : (c : Dev Cert.InBwdIdeal.nD) → Buf (Elt Ideal) ((c.tc : Thread Cert.InBwdIdeal.nD Cert.InBwdIdeal.τ).loc Cert.InBwdIdeal.main_v14_1)) (v2 : (c : Dev Cert.InBwdIdeal.nD) → Buf (Elt Ideal) ((c.tc : Thread Cert.InBwdIdeal.nD Cert.InBwdIdeal.τ).loc Cert.InBwdIdeal.main_v14_2)) (v3 : (c : Dev Cert.InBwdIdeal.nD) → Buf (Elt Ideal) ((c.tc : Thread Cert.InBwdIdeal.nD Cert.InBwdIdeal.τ).loc Cert.InBwdIdeal.main_v14_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v14_0) = v0 c
          ∧ r.2.mem ((c.tc : Thread Cert.InBwdIdeal.nD Cert.InBwdIdeal.τ).loc Cert.InBwdIdeal.main_v14_1) = v1 c
          ∧ r.2.mem ((c.tc : Thread Cert.InBwdIdeal.nD Cert.InBwdIdeal.τ).loc Cert.InBwdIdeal.main_v14_2) = v2 c
          ∧ r.2.mem ((c.tc : Thread Cert.InBwdIdeal.nD Cert.InBwdIdeal.τ).loc Cert.InBwdIdeal.main_v14_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v51) = v0 c
          ∧ r.2.mem ((c.tc : Thread Cert.InRefIdeal.nD Cert.InRefIdeal.τ).loc Cert.InRefIdeal.main_v26) = v1 c
          ∧ r.2.mem ((c.tc : Thread Cert.InRefIdeal.nD Cert.InRefIdeal.τ).loc Cert.InRefIdeal.main_v29) = v2 c
          ∧ r.2.mem ((c.tc : Thread Cert.InRefIdeal.nD Cert.InRefIdeal.τ).loc Cert.InRefIdeal.main_v34) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_AttnBwd_AttnBwdIdeal : Prop :=
  True

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v26_0)) (v1 : (c : Dev Cert.AttnBwdIdeal.nD) → Buf (Elt Ideal) ((c.tc : Thread Cert.AttnBwdIdeal.nD Cert.AttnBwdIdeal.τ).loc Cert.AttnBwdIdeal.main_v26_1)) (v2 : (c : Dev Cert.AttnBwdIdeal.nD) → Buf (Elt Ideal) ((c.tc : Thread Cert.AttnBwdIdeal.nD Cert.AttnBwdIdeal.τ).loc Cert.AttnBwdIdeal.main_v26_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v26_0) = v0 c
          ∧ r.2.mem ((c.tc : Thread Cert.AttnBwdIdeal.nD Cert.AttnBwdIdeal.τ).loc Cert.AttnBwdIdeal.main_v26_1) = v1 c
          ∧ r.2.mem ((c.tc : Thread Cert.AttnBwdIdeal.nD Cert.AttnBwdIdeal.τ).loc Cert.AttnBwdIdeal.main_v26_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v37) = v0 c
          ∧ r.2.mem ((c.tc : Thread Cert.AttnRefIdeal.nD Cert.AttnRefIdeal.τ).loc Cert.AttnRefIdeal.main_v39) = v1 c
          ∧ r.2.mem ((c.tc : Thread Cert.AttnRefIdeal.nD Cert.AttnRefIdeal.τ).loc Cert.AttnRefIdeal.main_v41) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v3_0)) (v1 : (c : Dev Cert.PostIdeal.nD) → Buf (Elt Ideal) ((c.tc : Thread Cert.PostIdeal.nD Cert.PostIdeal.τ).loc Cert.PostIdeal.main_v3_1)) (v2 : (c : Dev Cert.PostIdeal.nD) → Buf (Elt Ideal) ((c.tc : Thread Cert.PostIdeal.nD Cert.PostIdeal.τ).loc Cert.PostIdeal.main_v3_2)) (v3 : (c : Dev Cert.PostIdeal.nD) → Buf (Elt Ideal) ((c.tc : Thread Cert.PostIdeal.nD Cert.PostIdeal.τ).loc Cert.PostIdeal.main_v3_3)) (v4 : (c : Dev Cert.PostIdeal.nD) → Buf (Elt Ideal) ((c.tc : Thread Cert.PostIdeal.nD Cert.PostIdeal.τ).loc Cert.PostIdeal.main_v3_4)) (v5 : (c : Dev Cert.PostIdeal.nD) → Buf (Elt Ideal) ((c.tc : Thread Cert.PostIdeal.nD Cert.PostIdeal.τ).loc Cert.PostIdeal.main_v3_5)) (v6 : (c : Dev Cert.PostIdeal.nD) → Buf (Elt Ideal) ((c.tc : Thread Cert.PostIdeal.nD Cert.PostIdeal.τ).loc Cert.PostIdeal.main_v3_6)) (v7 : (c : Dev Cert.PostIdeal.nD) → Buf (Elt Ideal) ((c.tc : Thread Cert.PostIdeal.nD Cert.PostIdeal.τ).loc Cert.PostIdeal.main_v3_7)) (v8 : (c : Dev Cert.PostIdeal.nD) → Buf (Elt Ideal) ((c.tc : Thread Cert.PostIdeal.nD Cert.PostIdeal.τ).loc Cert.PostIdeal.main_v3_8)) (v9 : (c : Dev Cert.PostIdeal.nD) → Buf (Elt Ideal) ((c.tc : Thread Cert.PostIdeal.nD Cert.PostIdeal.τ).loc Cert.PostIdeal.main_v3_9)) (v10 : (c : Dev Cert.PostIdeal.nD) → Buf (Elt Ideal) ((c.tc : Thread Cert.PostIdeal.nD Cert.PostIdeal.τ).loc Cert.PostIdeal.main_v3_10)) (v11 : (c : Dev Cert.PostIdeal.nD) → Buf (Elt Ideal) ((c.tc : Thread Cert.PostIdeal.nD Cert.PostIdeal.τ).loc Cert.PostIdeal.main_v3_11)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v3_0) = v0 c
          ∧ r.2.mem ((c.tc : Thread Cert.PostIdeal.nD Cert.PostIdeal.τ).loc Cert.PostIdeal.main_v3_1) = v1 c
          ∧ r.2.mem ((c.tc : Thread Cert.PostIdeal.nD Cert.PostIdeal.τ).loc Cert.PostIdeal.main_v3_2) = v2 c
          ∧ r.2.mem ((c.tc : Thread Cert.PostIdeal.nD Cert.PostIdeal.τ).loc Cert.PostIdeal.main_v3_3) = v3 c
          ∧ r.2.mem ((c.tc : Thread Cert.PostIdeal.nD Cert.PostIdeal.τ).loc Cert.PostIdeal.main_v3_4) = v4 c
          ∧ r.2.mem ((c.tc : Thread Cert.PostIdeal.nD Cert.PostIdeal.τ).loc Cert.PostIdeal.main_v3_5) = v5 c
          ∧ r.2.mem ((c.tc : Thread Cert.PostIdeal.nD Cert.PostIdeal.τ).loc Cert.PostIdeal.main_v3_6) = v6 c
          ∧ r.2.mem ((c.tc : Thread Cert.PostIdeal.nD Cert.PostIdeal.τ).loc Cert.PostIdeal.main_v3_7) = v7 c
          ∧ r.2.mem ((c.tc : Thread Cert.PostIdeal.nD Cert.PostIdeal.τ).loc Cert.PostIdeal.main_v3_8) = v8 c
          ∧ r.2.mem ((c.tc : Thread Cert.PostIdeal.nD Cert.PostIdeal.τ).loc Cert.PostIdeal.main_v3_9) = v9 c
          ∧ r.2.mem ((c.tc : Thread Cert.PostIdeal.nD Cert.PostIdeal.τ).loc Cert.PostIdeal.main_v3_10) = v10 c
          ∧ r.2.mem ((c.tc : Thread Cert.PostIdeal.nD Cert.PostIdeal.τ).loc Cert.PostIdeal.main_v3_11) = v11 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v149) = v0 c
          ∧ r.2.mem ((c.tc : Thread Cert.PostRefIdeal.nD Cert.PostRefIdeal.τ).loc Cert.PostRefIdeal.main_v145) = v1 c
          ∧ r.2.mem ((c.tc : Thread Cert.PostRefIdeal.nD Cert.PostRefIdeal.τ).loc Cert.PostRefIdeal.main_v89) = v2 c
          ∧ r.2.mem ((c.tc : Thread Cert.PostRefIdeal.nD Cert.PostRefIdeal.τ).loc Cert.PostRefIdeal.main_v150) = v3 c
          ∧ r.2.mem ((c.tc : Thread Cert.PostRefIdeal.nD Cert.PostRefIdeal.τ).loc Cert.PostRefIdeal.main_v73) = v4 c
          ∧ r.2.mem ((c.tc : Thread Cert.PostRefIdeal.nD Cert.PostRefIdeal.τ).loc Cert.PostRefIdeal.main_v94) = v5 c
          ∧ r.2.mem ((c.tc : Thread Cert.PostRefIdeal.nD Cert.PostRefIdeal.τ).loc Cert.PostRefIdeal.main_v146) = v6 c
          ∧ r.2.mem ((c.tc : Thread Cert.PostRefIdeal.nD Cert.PostRefIdeal.τ).loc Cert.PostRefIdeal.main_v147) = v7 c
          ∧ r.2.mem ((c.tc : Thread Cert.PostRefIdeal.nD Cert.PostRefIdeal.τ).loc Cert.PostRefIdeal.main_v148) = v8 c
          ∧ r.2.mem ((c.tc : Thread Cert.PostRefIdeal.nD Cert.PostRefIdeal.τ).loc Cert.PostRefIdeal.main_v118) = v9 c
          ∧ r.2.mem ((c.tc : Thread Cert.PostRefIdeal.nD Cert.PostRefIdeal.τ).loc Cert.PostRefIdeal.main_v125) = v10 c
          ∧ r.2.mem ((c.tc : Thread Cert.PostRefIdeal.nD Cert.PostRefIdeal.τ).loc Cert.PostRefIdeal.main_v100) = v11 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_AttnFwd_AttnFwdIdeal : Prop :=
  True

def algebraic_AttnFwdIdeal_FwdRefIdeal_pre_fwd_finite [hAttnFwdIdeal : Cert.AttnFwdIdeal.Facts] [hFwdRefIdeal : Cert.FwdRefIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_AttnFwdIdeal_fwd_finite m →
    (∀ c : Dev Cert.AttnFwdIdeal.nD,
      m' ((c.tc : Thread Cert.FwdRefIdeal.nD Cert.FwdRefIdeal.τ).loc Cert.FwdRefIdeal.main_arg0) = m ((c.tc : Thread Cert.AttnFwdIdeal.nD Cert.AttnFwdIdeal.τ).loc Cert.AttnFwdIdeal.main_arg0)
      ∧ m' ((c.tc : Thread Cert.FwdRefIdeal.nD Cert.FwdRefIdeal.τ).loc Cert.FwdRefIdeal.main_arg1) = m ((c.tc : Thread Cert.AttnFwdIdeal.nD Cert.AttnFwdIdeal.τ).loc Cert.AttnFwdIdeal.main_arg1)
      ∧ m' ((c.tc : Thread Cert.FwdRefIdeal.nD Cert.FwdRefIdeal.τ).loc Cert.FwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v2) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v22) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v3) = v0 c
          ∧ r.2.mem ((c.tc : Thread Cert.SmallRefIdeal.nD Cert.SmallRefIdeal.τ).loc Cert.SmallRefIdeal.main_v8) = v1 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)) (v3 : (c : Dev Cert.ProjIdeal.nD) → Buf (Elt Ideal) ((c.tc : Thread Cert.ProjIdeal.nD Cert.ProjIdeal.τ).loc Cert.ProjIdeal.main_v7_3)) (v4 : (c : Dev Cert.ProjIdeal.nD) → Buf (Elt Ideal) ((c.tc : Thread Cert.ProjIdeal.nD Cert.ProjIdeal.τ).loc Cert.ProjIdeal.main_v7_4)) (v5 : (c : Dev Cert.ProjIdeal.nD) → Buf (Elt Ideal) ((c.tc : Thread Cert.ProjIdeal.nD Cert.ProjIdeal.τ).loc Cert.ProjIdeal.main_v7_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_v7_3) = v3 c
          ∧ r.2.mem ((c.tc : Thread Cert.ProjIdeal.nD Cert.ProjIdeal.τ).loc Cert.ProjIdeal.main_v7_4) = v4 c
          ∧ r.2.mem ((c.tc : Thread Cert.ProjIdeal.nD Cert.ProjIdeal.τ).loc Cert.ProjIdeal.main_v7_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v28) = v1 c
          ∧ r.2.mem ((c.tc : Thread Cert.ProjRefIdeal.nD Cert.ProjRefIdeal.τ).loc Cert.ProjRefIdeal.main_v20) = v2 c
          ∧ r.2.mem ((c.tc : Thread Cert.ProjRefIdeal.nD Cert.ProjRefIdeal.τ).loc Cert.ProjRefIdeal.main_v23) = v3 c
          ∧ r.2.mem ((c.tc : Thread Cert.ProjRefIdeal.nD Cert.ProjRefIdeal.τ).loc Cert.ProjRefIdeal.main_v21) = v4 c
          ∧ r.2.mem ((c.tc : Thread Cert.ProjRefIdeal.nD Cert.ProjRefIdeal.τ).loc Cert.ProjRefIdeal.main_v29) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_GradW_GradWIdeal : Prop :=
  True

def algebraic_GradWIdeal_GradWRefIdeal [hGradWIdeal : Cert.GradWIdeal.Facts] [hGradWRefIdeal : Cert.GradWRefIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v0)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v0) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v7) = v0 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v2_0)) (v1 : (c : Dev Cert.AdamIdeal.nD) → Buf (Elt Ideal) ((c.tc : Thread Cert.AdamIdeal.nD Cert.AdamIdeal.τ).loc Cert.AdamIdeal.main_v2_1)) (v2 : (c : Dev Cert.AdamIdeal.nD) → Buf (Elt Ideal) ((c.tc : Thread Cert.AdamIdeal.nD Cert.AdamIdeal.τ).loc Cert.AdamIdeal.main_v2_2)) (v3 : (c : Dev Cert.AdamIdeal.nD) → Buf (Elt Ideal) ((c.tc : Thread Cert.AdamIdeal.nD Cert.AdamIdeal.τ).loc Cert.AdamIdeal.main_v2_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v2_0) = v0 c
          ∧ r.2.mem ((c.tc : Thread Cert.AdamIdeal.nD Cert.AdamIdeal.τ).loc Cert.AdamIdeal.main_v2_1) = v1 c
          ∧ r.2.mem ((c.tc : Thread Cert.AdamIdeal.nD Cert.AdamIdeal.τ).loc Cert.AdamIdeal.main_v2_2) = v2 c
          ∧ r.2.mem ((c.tc : Thread Cert.AdamIdeal.nD Cert.AdamIdeal.τ).loc Cert.AdamIdeal.main_v2_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Cols_ColsIdeal : Prop :=
  True

def algebraic_ColsIdeal_ColsRefIdeal [hColsIdeal : Cert.ColsIdeal.Facts] [hColsRefIdeal : Cert.ColsRefIdeal.Facts] : Prop :=
  ∀ (m : (ℓ : Loc Cert.ColsIdeal.nD Cert.ColsIdeal.τ Cert.ColsIdeal.sig) → Buf (Elt Ideal) ℓ) (g : Dev Cert.ColsIdeal.nD → PrngReg)
    (m' : (ℓ : Loc Cert.ColsRefIdeal.nD Cert.ColsRefIdeal.τ Cert.ColsRefIdeal.sig) → Buf (Elt Ideal) ℓ) (g' : Dev Cert.ColsRefIdeal.nD → PrngReg), Pre_ColsIdeal m →
    (∀ c : Dev Cert.ColsIdeal.nD,
      m' ((c.tc : Thread Cert.ColsRefIdeal.nD Cert.ColsRefIdeal.τ).loc Cert.ColsRefIdeal.main_arg0) = m ((c.tc : Thread Cert.ColsIdeal.nD Cert.ColsIdeal.τ).loc Cert.ColsIdeal.main_arg0)
      ∧ m' ((c.tc : Thread Cert.ColsRefIdeal.nD Cert.ColsRefIdeal.τ).loc Cert.ColsRefIdeal.main_arg1) = m ((c.tc : Thread Cert.ColsIdeal.nD Cert.ColsIdeal.τ).loc Cert.ColsIdeal.main_arg1)
      ∧ m' ((c.tc : Thread Cert.ColsRefIdeal.nD Cert.ColsRefIdeal.τ).loc Cert.ColsRefIdeal.main_arg2) = m ((c.tc : Thread Cert.ColsIdeal.nD Cert.ColsIdeal.τ).loc Cert.ColsIdeal.main_arg2)) →
    ∃ (v0 : (c : Dev Cert.ColsIdeal.nD) → Buf (Elt Ideal) ((c.tc : Thread Cert.ColsIdeal.nD Cert.ColsIdeal.τ).loc Cert.ColsIdeal.main_v0)),
      θ_run (Cert.ColsIdeal.defs (F := Ideal)) (onTc (τ := Cert.ColsIdeal.τ) (Cert.ColsIdeal.main (F := Ideal))) ⟨m, fun _ => 0, g⟩ (fun r => ∀ c : Dev Cert.ColsIdeal.nD,
          r.2.mem ((c.tc : Thread Cert.ColsIdeal.nD Cert.ColsIdeal.τ).loc Cert.ColsIdeal.main_v0) = v0 c
          ∧ r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
          ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
          ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2))
      ∧ θ_run (Cert.ColsRefIdeal.defs (F := Ideal)) (onTc (τ := Cert.ColsRefIdeal.τ) (Cert.ColsRefIdeal.main (F := Ideal))) ⟨m', fun _ => 0, g'⟩ (fun r => ∀ c : Dev Cert.ColsRefIdeal.nD,
          r.2.mem ((c.tc : Thread Cert.ColsRefIdeal.nD Cert.ColsRefIdeal.τ).loc Cert.ColsRefIdeal.main_v11) = v0 c
          ∧ r.2.mem ((c.tc : Thread Cert.ColsRefIdeal.nD Cert.ColsRefIdeal.τ).loc Cert.ColsRefIdeal.main_arg0) = m' ((c.tc : Thread Cert.ColsRefIdeal.nD Cert.ColsRefIdeal.τ).loc Cert.ColsRefIdeal.main_arg0)
          ∧ r.2.mem ((c.tc : Thread Cert.ColsRefIdeal.nD Cert.ColsRefIdeal.τ).loc Cert.ColsRefIdeal.main_arg1) = m' ((c.tc : Thread Cert.ColsRefIdeal.nD Cert.ColsRefIdeal.τ).loc Cert.ColsRefIdeal.main_arg1)
          ∧ r.2.mem ((c.tc : Thread Cert.ColsRefIdeal.nD Cert.ColsRefIdeal.τ).loc Cert.ColsRefIdeal.main_arg2) = m' ((c.tc : Thread Cert.ColsRefIdeal.nD Cert.ColsRefIdeal.τ).loc Cert.ColsRefIdeal.main_arg2))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v0) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def preserves_SsdFwd_SsdFwdIdeal : Prop :=
  True

def algebraic_SsdFwdIdeal_ConvRefIdeal [hSsdFwdIdeal : Cert.SsdFwdIdeal.Facts] [hConvRefIdeal : Cert.ConvRefIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_SsdFwdIdeal m →
    (∀ c : Dev Cert.SsdFwdIdeal.nD,
      m' ((c.tc : Thread Cert.ConvRefIdeal.nD Cert.ConvRefIdeal.τ).loc Cert.ConvRefIdeal.main_arg0) = m ((c.tc : Thread Cert.SsdFwdIdeal.nD Cert.SsdFwdIdeal.τ).loc Cert.SsdFwdIdeal.main_arg0)
      ∧ m' ((c.tc : Thread Cert.ConvRefIdeal.nD Cert.ConvRefIdeal.τ).loc Cert.ConvRefIdeal.main_arg1) = m ((c.tc : Thread Cert.SsdFwdIdeal.nD Cert.SsdFwdIdeal.τ).loc Cert.SsdFwdIdeal.main_arg1)
      ∧ m' ((c.tc : Thread Cert.ConvRefIdeal.nD Cert.ConvRefIdeal.τ).loc Cert.ConvRefIdeal.main_arg2) = m ((c.tc : Thread Cert.SsdFwdIdeal.nD Cert.SsdFwdIdeal.τ).loc Cert.SsdFwdIdeal.main_arg2)
      ∧ m' ((c.tc : Thread Cert.ConvRefIdeal.nD Cert.ConvRefIdeal.τ).loc Cert.ConvRefIdeal.main_arg3) = m ((c.tc : Thread Cert.SsdFwdIdeal.nD Cert.SsdFwdIdeal.τ).loc Cert.SsdFwdIdeal.main_arg3)
      ∧ m' ((c.tc : Thread Cert.ConvRefIdeal.nD Cert.ConvRefIdeal.τ).loc Cert.ConvRefIdeal.main_arg4) = m ((c.tc : Thread Cert.SsdFwdIdeal.nD Cert.SsdFwdIdeal.τ).loc Cert.SsdFwdIdeal.main_arg4)
      ∧ m' ((c.tc : Thread Cert.ConvRefIdeal.nD Cert.ConvRefIdeal.τ).loc Cert.ConvRefIdeal.main_arg5) = m ((c.tc : Thread Cert.SsdFwdIdeal.nD Cert.SsdFwdIdeal.τ).loc Cert.SsdFwdIdeal.main_arg5)
      ∧ m' ((c.tc : Thread Cert.ConvRefIdeal.nD Cert.ConvRefIdeal.τ).loc Cert.ConvRefIdeal.main_arg6) = m ((c.tc : Thread Cert.SsdFwdIdeal.nD Cert.SsdFwdIdeal.τ).loc Cert.SsdFwdIdeal.main_arg6)) →
    ∃ (v0 : (c : Dev Cert.SsdFwdIdeal.nD) → Buf (Elt Ideal) ((c.tc : Thread Cert.SsdFwdIdeal.nD Cert.SsdFwdIdeal.τ).loc Cert.SsdFwdIdeal.main_v4_0)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v4_0) = v0 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
          ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
          ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v22) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def Claim : Prop :=
  ∃ (hInBwd : Cert.InBwd.Facts) (hInBwdIdeal : Cert.InBwdIdeal.Facts) (hInRefIdeal : Cert.InRefIdeal.Facts) (hAttnBwd : Cert.AttnBwd.Facts) (hAttnBwdIdeal : Cert.AttnBwdIdeal.Facts) (hAttnRefIdeal : Cert.AttnRefIdeal.Facts) (hPost : Cert.Post.Facts) (hPostIdeal : Cert.PostIdeal.Facts) (hPostRefIdeal : Cert.PostRefIdeal.Facts) (hAttnFwd : Cert.AttnFwd.Facts) (hAttnFwdIdeal : Cert.AttnFwdIdeal.Facts) (hFwdRefIdeal : Cert.FwdRefIdeal.Facts) (hSmall : Cert.Small.Facts) (hSmallIdeal : Cert.SmallIdeal.Facts) (hSmallRefIdeal : Cert.SmallRefIdeal.Facts) (hProj : Cert.Proj.Facts) (hProjIdeal : Cert.ProjIdeal.Facts) (hProjRefIdeal : Cert.ProjRefIdeal.Facts) (hGradW : Cert.GradW.Facts) (hGradWIdeal : Cert.GradWIdeal.Facts) (hGradWRefIdeal : Cert.GradWRefIdeal.Facts) (hAdam : Cert.Adam.Facts) (hAdamIdeal : Cert.AdamIdeal.Facts) (hAdamRefIdeal : Cert.AdamRefIdeal.Facts) (hCols : Cert.Cols.Facts) (hColsIdeal : Cert.ColsIdeal.Facts) (hColsRefIdeal : Cert.ColsRefIdeal.Facts) (hCast : Cert.Cast.Facts) (hCastIdeal : Cert.CastIdeal.Facts) (hCastRefIdeal : Cert.CastRefIdeal.Facts) (hSsdFwd : Cert.SsdFwd.Facts) (hSsdFwdIdeal : Cert.SsdFwdIdeal.Facts) (hConvRefIdeal : Cert.ConvRefIdeal.Facts) (hPre_in_finite : Cert.Pre_in_finite.Facts) (hPre_attn_finite : Cert.Pre_attn_finite.Facts) (hPre_post_finite : Cert.Pre_post_finite.Facts) (hPre_fwd_finite : Cert.Pre_fwd_finite.Facts),
    quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_AttnFwd (hAttnFwd := hAttnFwd)
    ∧ quiescent_AttnFwdIdeal (hAttnFwdIdeal := hAttnFwdIdeal)
    ∧ quiescent_AttnFwdIdeal_pre_fwd_finite (hAttnFwdIdeal := hAttnFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_Small (hSmall := hSmall)
    ∧ quiescent_SmallIdeal (hSmallIdeal := hSmallIdeal)
    ∧ quiescent_SmallRefIdeal (hSmallRefIdeal := hSmallRefIdeal)
    ∧ quiescent_Proj (hProj := hProj)
    ∧ quiescent_ProjIdeal (hProjIdeal := hProjIdeal)
    ∧ quiescent_ProjRefIdeal (hProjRefIdeal := hProjRefIdeal)
    ∧ quiescent_GradW (hGradW := hGradW)
    ∧ quiescent_GradWIdeal (hGradWIdeal := hGradWIdeal)
    ∧ quiescent_GradWRefIdeal (hGradWRefIdeal := hGradWRefIdeal)
    ∧ quiescent_Adam (hAdam := hAdam)
    ∧ quiescent_AdamIdeal (hAdamIdeal := hAdamIdeal)
    ∧ quiescent_AdamRefIdeal (hAdamRefIdeal := hAdamRefIdeal)
    ∧ quiescent_Cols (hCols := hCols)
    ∧ quiescent_ColsIdeal (hColsIdeal := hColsIdeal)
    ∧ quiescent_ColsRefIdeal (hColsRefIdeal := hColsRefIdeal)
    ∧ quiescent_Cast (hCast := hCast)
    ∧ quiescent_CastIdeal (hCastIdeal := hCastIdeal)
    ∧ quiescent_CastRefIdeal (hCastRefIdeal := hCastRefIdeal)
    ∧ quiescent_SsdFwd (hSsdFwd := hSsdFwd)
    ∧ quiescent_SsdFwdIdeal (hSsdFwdIdeal := hSsdFwdIdeal)
    ∧ quiescent_ConvRefIdeal (hConvRefIdeal := hConvRefIdeal)
    ∧ preserves_InBwd_InBwdIdeal
    ∧ algebraic_InBwdIdeal_InRefIdeal_pre_in_finite (hInBwdIdeal := hInBwdIdeal) (hInRefIdeal := hInRefIdeal) (hPre_in_finite := hPre_in_finite)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_Post_PostIdeal
    ∧ algebraic_PostIdeal_PostRefIdeal_pre_post_finite (hPostIdeal := hPostIdeal) (hPostRefIdeal := hPostRefIdeal) (hPre_post_finite := hPre_post_finite)
    ∧ preserves_AttnFwd_AttnFwdIdeal
    ∧ algebraic_AttnFwdIdeal_FwdRefIdeal_pre_fwd_finite (hAttnFwdIdeal := hAttnFwdIdeal) (hFwdRefIdeal := hFwdRefIdeal) (hPre_fwd_finite := hPre_fwd_finite)
    ∧ preserves_Small_SmallIdeal
    ∧ algebraic_SmallIdeal_SmallRefIdeal (hSmallIdeal := hSmallIdeal) (hSmallRefIdeal := hSmallRefIdeal)
    ∧ preserves_Proj_ProjIdeal
    ∧ algebraic_ProjIdeal_ProjRefIdeal (hProjIdeal := hProjIdeal) (hProjRefIdeal := hProjRefIdeal)
    ∧ preserves_GradW_GradWIdeal
    ∧ algebraic_GradWIdeal_GradWRefIdeal (hGradWIdeal := hGradWIdeal) (hGradWRefIdeal := hGradWRefIdeal)
    ∧ preserves_Adam_AdamIdeal
    ∧ algebraic_AdamIdeal_AdamRefIdeal (hAdamIdeal := hAdamIdeal) (hAdamRefIdeal := hAdamRefIdeal)
    ∧ preserves_Cols_ColsIdeal
    ∧ algebraic_ColsIdeal_ColsRefIdeal (hColsIdeal := hColsIdeal) (hColsRefIdeal := hColsRefIdeal)
    ∧ preserves_Cast_CastIdeal
    ∧ algebraic_CastIdeal_CastRefIdeal (hCastIdeal := hCastIdeal) (hCastRefIdeal := hCastRefIdeal)
    ∧ preserves_SsdFwd_SsdFwdIdeal
    ∧ algebraic_SsdFwdIdeal_ConvRefIdeal (hSsdFwdIdeal := hSsdFwdIdeal) (hConvRefIdeal := hConvRefIdeal)
-- ==== Pre_attn_finite.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn_part1 {F : FTy → Type} [FloatOps F] (main_v13 : IVec S_ 1) (main_v16 : IVec S16x4096x64 1) : IVec S_ 1 :=
  let main_c_5 : IVec S_ 1 := constantI S_ 1 1#1
  let main_v17 : IVec S_ 1 := (fun x v => Host.reduce IntOp.andi x v reducesTo_S16x4096x64_S_d0_1_2 h_S_) main_v16 main_c_5
  let main_v18 : IVec S_ 1 := andi main_v13 main_v17
  main_v18

def fn {F : FTy → Type} [FloatOps F] (main_arg0 : FVec F S16x4096x64 .f32) (main_arg1 : FVec F S16x4096x64 .f32) (main_arg2 : FVec F S16x4096x64 .f32) (main_arg3 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  let main_v14 : FVec F S16x4096x64 .f32 := Host.absf main_arg3
  let main_cst_4 : FVec F S_ .f32 := constant S_ .f32 0x7F800000#32
  let main_v15 : FVec F S16x4096x64 .f32 := broadcastInDim S16x4096x64 ![] bcast_S_S16x4096x64 main_cst_4
  let main_v16 : IVec S16x4096x64 1 := cmpf .olt main_v14 main_v15
  fn_part1 (F := F) main_v13 main_v16
-- ==== Pre_fwd_finite.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) (main_arg2 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  main_v13
-- ==== Pre_in_finite.lean ====
abbrev S4096x1024 : Shape := ⟨2, ![4096, 1024]⟩
abbrev S1x1024 : Shape := ⟨2, ![1, 1024]⟩
abbrev S1024x6672 : Shape := ⟨2, ![1024, 6672]⟩
abbrev S4096x6672 : Shape := ⟨2, ![4096, 6672]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6672 : S_.BroadcastsInDim S1024x6672 (![] : Fin 0 → Fin S1024x6672.rank)
  reducesTo_S1024x6672_S_d0_1 : S1024x6672.ReducesTo [0, 1] S_
  bcast_S_S4096x6672 : S_.BroadcastsInDim S4096x6672 (![] : Fin 0 → Fin S4096x6672.rank)
  reducesTo_S4096x6672_S_d0_1 : S4096x6672.ReducesTo [0, 1] S_

variable [Facts]

def fn_part1 {F : FTy → Type} [FloatOps F] (main_arg6 : FVec F S4096x6672 .f32) (main_v13 : IVec S_ 1) (main_v16 : IVec S1024x6672 1) : IVec S_ 1 :=
  let main_c_5 : IVec S_ 1 := constantI S_ 1 1#1
  let main_v17 : IVec S_ 1 := (fun x v => Host.reduce IntOp.andi x v reducesTo_S1024x6672_S_d0_1 h_S_) main_v16 main_c_5
  let main_v18 : IVec S_ 1 := andi main_v13 main_v17
  let main_v19 : FVec F S4096x6672 .f32 := Host.absf main_arg6
  let main_cst_6 : FVec F S_ .f32 := constant S_ .f32 0x7F800000#32
  let main_v20 : FVec F S4096x6672 .f32 := broadcastInDim S4096x6672 ![] bcast_S_S4096x6672 main_cst_6
  let main_v21 : IVec S4096x6672 1 := cmpf .olt main_v19 main_v20
  let main_c_7 : IVec S_ 1 := constantI S_ 1 1#1
  let main_v22 : IVec S_ 1 := (fun x v => Host.reduce IntOp.andi x v reducesTo_S4096x6672_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x6672 .f32) (main_arg5 : FVec F S4096x1024 .f32) (main_arg6 : FVec F S4096x6672 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x6672 .f32 := Host.absf main_arg4
  let main_cst_4 : FVec F S_ .f32 := constant S_ .f32 0x7F800000#32
  let main_v15 : FVec F S1024x6672 .f32 := broadcastInDim S1024x6672 ![] bcast_S_S1024x6672 main_cst_4
  let main_v16 : IVec S1024x6672 1 := cmpf .olt main_v14 main_v15
  fn_part1 (F := F) main_arg6 main_v13 main_v16
-- ==== Pre_post_finite.lean ====
abbrev S4096x1024 : Shape := ⟨2, ![4096, 1024]⟩
abbrev S16x4096x64 : Shape := ⟨3, ![16, 4096, 64]⟩
abbrev S2048x1024 : Shape := ⟨2, ![2048, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x4096x64 : S_.BroadcastsInDim S16x4096x64 (![] : Fin 0 → Fin S16x4096x64.rank)
  reducesTo_S16x4096x64_S_d0_1_2 : S16x4096x64.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S1x1024 .f32) (main_arg8 : FVec F S1x1024 .f32) (main_arg9 : FVec F S1x1024 .f32) (main_arg10 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S4096x1024 .f32) (main_arg5 : FVec F S4096x1024 .f32) (main_arg6 : FVec F S2048x1024 .f32) (main_arg7 : FVec F S1x1024 .f32) (main_arg8 : FVec F S1x1024 .f32) (main_arg9 : FVec F S1x1024 .f32) (main_arg10 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S16x4096x64 .f32) (main_arg3 : FVec F S4096x1024 .f32) (main_arg4 : FVec F S4096x1024 .f32) (main_arg5 : FVec F S4096x1024 .f32) (main_arg6 : FVec F S2048x1024 .f32) (main_arg7 : FVec F S1x1024 .f32) (main_arg8 : FVec F S1x1024 .f32) (main_arg9 : FVec F S1x1024 .f32) (main_arg10 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_v13 main_v16
-- ==== InBwd.lean ====
abbrev S4096x1024 : Shape := ⟨2, ![4096, 1024]⟩
abbrev S1x1024 : Shape := ⟨2, ![1, 1024]⟩
abbrev S1024x6672 : Shape := ⟨2, ![1024, 6672]⟩
abbrev S4096x6672 : Shape := ⟨2, ![4096, 6672]⟩
abbrev S1024x4096 : Shape := ⟨2, ![1024, 4096]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x6784 : Shape := ⟨2, ![1024, 6784]⟩
abbrev S4096x3072 : Shape := ⟨2, ![4096, 3072]⟩
abbrev S4096x1536 : Shape := ⟨2, ![4096, 1536]⟩
abbrev S4096x16 : Shape := ⟨2, ![4096, 16]⟩
abbrev S4096x128 : Shape := ⟨2, ![4096, 128]⟩
abbrev S256x3072 : Shape := ⟨2, ![256, 3072]⟩
abbrev S256x1024 : Shape := ⟨2, ![256, 1024]⟩
abbrev S256x1536 : Shape := ⟨2, ![256, 1536]⟩
abbrev S256x128 : Shape := ⟨2, ![256, 128]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 29
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6672, .f32⟩
  | .hbm, ⟨5, _⟩ => ⟨S4096x1024, .f32⟩
  | .hbm, ⟨6, _⟩ => ⟨S4096x6672, .f32⟩
  | .hbm, ⟨7, _⟩ => ⟨S1024x6672, .bf16⟩
  | .hbm, ⟨8, _⟩ => ⟨S1024x4096, .bf16⟩
  | .hbm, ⟨9, _⟩ => ⟨S1024x1024, .bf16⟩
  | .hbm, ⟨10, _⟩ => ⟨S1024x1536, .bf16⟩
  | .hbm, ⟨11, _⟩ => ⟨S1024x16, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S1024x6784, .bf16⟩
  | .hbm, ⟨16, _⟩ => ⟨S4096x6672, .bf16⟩
  | .hbm, ⟨17, _⟩ => ⟨S4096x3072, .bf16⟩
  | .hbm, ⟨18, _⟩ => ⟨S4096x1024, .bf16⟩
  | .hbm, ⟨19, _⟩ => ⟨S4096x1024, .bf16⟩
  | .hbm, ⟨20, _⟩ => ⟨S4096x1536, .bf16⟩
  | .hbm, ⟨21, _⟩ => ⟨S4096x16, .bf16⟩
  | .hbm, ⟨22, _⟩ => ⟨S_, .i32⟩
  | .hbm, ⟨23, _⟩ => ⟨S_, .bf16⟩
  | .hbm, ⟨24, _⟩ => ⟨S4096x128, .bf16⟩
  | .hbm, ⟨25, _⟩ => ⟨S4096x1024, .f32⟩
  | .hbm, ⟨26, _⟩ => ⟨S1x1024, .f32⟩
  | .hbm, ⟨27, _⟩ => ⟨S1x1024, .f32⟩
  | .hbm, ⟨28, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1536, .bf16⟩
  | .local _ .vmem, ⟨7, _⟩ => ⟨S256x1536, .bf16⟩
  | .local _ .vmem, ⟨8, _⟩ => ⟨S256x128, .bf16⟩
  | .local _ .vmem, ⟨9, _⟩ => ⟨S256x128, .bf16⟩
  | .local _ .vmem, ⟨10, _⟩ => ⟨S1024x6784, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_call1_v0 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x6784 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InRefIdeal.lean ====
abbrev S4096x1024 : Shape := ⟨2, ![4096, 1024]⟩
abbrev S1x1024 : Shape := ⟨2, ![1, 1024]⟩
abbrev S1024x6672 : Shape := ⟨2, ![1024, 6672]⟩
abbrev S4096x6672 : Shape := ⟨2, ![4096, 6672]⟩
abbrev S_ : Shape := ⟨0, ![]⟩
abbrev S4096 : Shape := ⟨1, ![4096]⟩
abbrev S4096x1 : Shape := ⟨2, ![4096, 1]⟩
abbrev S6672x1024 : Shape := ⟨2, ![6672, 1024]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6672, .f32⟩
  | .hbm, ⟨5, _⟩ => ⟨S4096x1024, .f32⟩
  | .hbm, ⟨6, _⟩ => ⟨S4096x6672, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x6672, .f32⟩
  | .hbm, ⟨34, _⟩ => ⟨S6672x1024, .f32⟩
  | .hbm, ⟨35, _⟩ => ⟨S1024x6672, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AttnBwd.lean ====
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x1 : Shape := ⟨3, ![16, 4096, 1]⟩
abbrev S16x4096x128 : Shape := ⟨3, ![16, 4096, 128]⟩
abbrev S48x4096x64 : Shape := ⟨3, ![48, 4096, 64]⟩
abbrev S16x32x64x128 : Shape := ⟨4, ![16, 32, 64, 128]⟩
abbrev S1x2048x64 : Shape := ⟨3, ![1, 2048, 64]⟩
abbrev S1x4096x64 : Shape := ⟨3, ![1, 4096, 64]⟩
abbrev S1x2048x128 : Shape := ⟨3, ![1, 2048, 128]⟩
abbrev S1x32x64x128 : Shape := ⟨4, ![1, 32, 64, 128]⟩
abbrev S2048x64 : Shape := ⟨2, ![2048, 64]⟩
abbrev S2048x128 : Shape := ⟨2, ![2048, 128]⟩
abbrev S2048x1 : Shape := ⟨2, ![2048, 1]⟩
abbrev S64x64 : Shape := ⟨2, ![64, 64]⟩
abbrev S64x2048 : Shape := ⟨2, ![64, 2048]⟩
abbrev S128x128 : Shape := ⟨2, ![128, 128]⟩
abbrev S256x128 : Shape := ⟨2, ![256, 128]⟩
abbrev S1x128x64 : Shape := ⟨3, ![1, 128, 64]⟩
abbrev S128x64 : Shape := ⟨2, ![128, 64]⟩
abbrev S2048x256 : Shape := ⟨2, ![2048, 256]⟩
abbrev S1x1x64x128 : Shape := ⟨4, ![1, 1, 64, 128]⟩
abbrev S64x128 : Shape := ⟨2, ![64, 128]⟩
abbrev S1920x64 : Shape := ⟨2, ![1920, 64]⟩
abbrev S1920x1 : Shape := ⟨2, ![1920, 1]⟩
abbrev S1920x128 : Shape := ⟨2, ![1920, 128]⟩
abbrev S1920x256 : Shape := ⟨2, ![1920, 256]⟩
abbrev S64x1920 : Shape := ⟨2, ![64, 1920]⟩
abbrev S128x1 : Shape := ⟨2, ![128, 1]⟩
abbrev S1792x64 : Shape := ⟨2, ![1792, 64]⟩
abbrev S1792x1 : Shape := ⟨2, ![1792, 1]⟩
abbrev S1792x128 : Shape := ⟨2, ![1792, 128]⟩
abbrev S1792x256 : Shape := ⟨2, ![1792, 256]⟩
abbrev S64x1792 : Shape := ⟨2, ![64, 1792]⟩
abbrev S256x64 : Shape := ⟨2, ![256, 64]⟩
abbrev S256x1 : Shape := ⟨2, ![256, 1]⟩
abbrev S1664x64 : Shape := ⟨2, ![1664, 64]⟩
abbrev S1664x1 : Shape := ⟨2, ![1664, 1]⟩
abbrev S1664x128 : Shape := ⟨2, ![1664, 128]⟩
abbrev S1664x256 : Shape := ⟨2, ![1664, 256]⟩
abbrev S64x1664 : Shape := ⟨2, ![64, 1664]⟩
abbrev S384x64 : Shape := ⟨2, ![384, 64]⟩
abbrev S384x1 : Shape := ⟨2, ![384, 1]⟩
abbrev S1536x64 : Shape := ⟨2, ![1536, 64]⟩
abbrev S1536x1 : Shape := ⟨2, ![1536, 1]⟩
abbrev S1536x128 : Shape := ⟨2, ![1536, 128]⟩
abbrev S1536x256 : Shape := ⟨2, ![1536, 256]⟩
abbrev S64x1536 : Shape := ⟨2, ![64, 1536]⟩
abbrev S512x64 : Shape := ⟨2, ![512, 64]⟩
abbrev S512x1 : Shape := ⟨2, ![512, 1]⟩
abbrev S1408x64 : Shape := ⟨2, ![1408, 64]⟩
abbrev S1408x1 : Shape := ⟨2, ![1408, 1]⟩
abbrev S1408x128 : Shape := ⟨2, ![1408, 128]⟩
abbrev S1408x256 : Shape := ⟨2, ![1408, 256]⟩
abbrev S64x1408 : Shape := ⟨2, ![64, 1408]⟩
abbrev S640x64 : Shape := ⟨2, ![640, 64]⟩
abbrev S640x1 : Shape := ⟨2, ![640, 1]⟩
abbrev S1280x64 : Shape := ⟨2, ![1280, 64]⟩
abbrev S1280x1 : Shape := ⟨2, ![1280, 1]⟩
abbrev S1280x128 : Shape := ⟨2, ![1280, 128]⟩
abbrev S1280x256 : Shape := ⟨2, ![1280, 256]⟩
abbrev S64x1280 : Shape := ⟨2, ![64, 1280]⟩
abbrev S768x64 : Shape := ⟨2, ![768, 64]⟩
abbrev S768x1 : Shape := ⟨2, ![768, 1]⟩
abbrev S1152x64 : Shape := ⟨2, ![1152, 64]⟩
abbrev S1152x1 : Shape := ⟨2, ![1152, 1]⟩
abbrev S1152x128 : Shape := ⟨2, ![1152, 128]⟩
abbrev S1152x256 : Shape := ⟨2, ![1152, 256]⟩
abbrev S64x1152 : Shape := ⟨2, ![64, 1152]⟩
abbrev S896x64 : Shape := ⟨2, ![896, 64]⟩
abbrev S896x1 : Shape := ⟨2, ![896, 1]⟩
abbrev S1024x64 : Shape := ⟨2, ![1024, 64]⟩
abbrev S1024x1 : Shape := ⟨2, ![1024, 1]⟩
abbrev S1024x128 : Shape := ⟨2, ![1024, 128]⟩
abbrev S1024x256 : Shape := ⟨2, ![1024, 256]⟩
abbrev S64x1024 : Shape := ⟨2, ![64, 1024]⟩
abbrev S896x128 : Shape := ⟨2, ![896, 128]⟩
abbrev S896x256 : Shape := ⟨2, ![896, 256]⟩
abbrev S64x896 : Shape := ⟨2, ![64, 896]⟩
abbrev S768x128 : Shape := ⟨2, ![768, 128]⟩
abbrev S768x256 : Shape := ⟨2, ![768, 256]⟩
abbrev S64x768 : Shape := ⟨2, ![64, 768]⟩
abbrev S640x128 : Shape := ⟨2, ![640, 128]⟩
abbrev S640x256 : Shape := ⟨2, ![640, 256]⟩
abbrev S64x640 : Shape := ⟨2, ![64, 640]⟩
abbrev S512x128 : Shape := ⟨2, ![512, 128]⟩
abbrev S512x256 : Shape := ⟨2, ![512, 256]⟩
abbrev S64x512 : Shape := ⟨2, ![64, 512]⟩
abbrev S384x128 : Shape := ⟨2, ![384, 128]⟩
abbrev S384x256 : Shape := ⟨2, ![384, 256]⟩
abbrev S64x384 : Shape := ⟨2, ![64, 384]⟩
abbrev S256x256 : Shape := ⟨2, ![256, 256]⟩
abbrev S64x256 : Shape := ⟨2, ![64, 256]⟩
abbrev S128x256 : Shape := ⟨2, ![128, 256]⟩

abbrev nBuf : Space → Nat
  | .hbm => 74
  | .vmem => 16
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x64, .f32⟩
  | .hbm, ⟨4, _⟩ => ⟨S16x4096x4096, .f32⟩
  | .hbm, ⟨5, _⟩ => ⟨S_, .f32⟩
  | .hbm, ⟨6, _⟩ => ⟨S16x4096x4096, .f32⟩
  | .hbm, ⟨7, _⟩ => ⟨S16x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S16x4096x4096, .f32⟩
  | .hbm, ⟨16, _⟩ => ⟨S_, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S16x4096x4096, .f32⟩
  | .hbm, ⟨21, _⟩ => ⟨S16x4096x4096, .i1⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S_, .f32⟩
  | .hbm, ⟨50, _⟩ => ⟨S16x4096x4096, .i1⟩
  | .hbm, ⟨51, _⟩ => ⟨S16x4096x4096, .f32⟩
  | .hbm, ⟨52, _⟩ => ⟨S16x4096x4096, .f32⟩
  | .hbm, ⟨53, _⟩ => ⟨S_, .f32⟩
  | .hbm, ⟨54, _⟩ => ⟨S_, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S_, .f32⟩
  | .hbm, ⟨59, _⟩ => ⟨S_, .f32⟩
  | .hbm, ⟨60, _⟩ => ⟨S16x4096x4096, .i1⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S16x4096x64, .f32⟩
  | .hbm, ⟨65, _⟩ => ⟨S16x4096x1, .f32⟩
  | .hbm, ⟨66, _⟩ => ⟨S16x4096x64, .f32⟩
  | .hbm, ⟨67, _⟩ => ⟨S16x4096x128, .f32⟩
  | .hbm, ⟨68, _⟩ => ⟨S48x4096x64, .f32⟩
  | .hbm, ⟨69, _⟩ => ⟨S48x4096x64, .bf16⟩
  | .hbm, ⟨70, _⟩ => ⟨S16x4096x64, .bf16⟩
  | .hbm, ⟨71, _⟩ => ⟨S16x4096x64, .f32⟩
  | .hbm, ⟨72, _⟩ => ⟨S16x32x64x128, .f32⟩
  | .hbm, ⟨73, _⟩ => ⟨S16x32x64x128, .f32⟩
  | .local _ .vmem, ⟨0, _⟩ => ⟨S1x2048x64, .bf16⟩
  | .local _ .vmem, ⟨1, _⟩ => ⟨S1x2048x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .f32⟩
  | .local _ .vmem, ⟨11, _⟩ => ⟨S1x2048x64, .f32⟩
  | .local _ .vmem, ⟨12, _⟩ => ⟨S1x32x64x128, .f32⟩
  | .local _ .vmem, ⟨13, _⟩ => ⟨S1x32x64x128, .f32⟩
  | .local _ .vmem, ⟨14, _⟩ => ⟨S1x32x64x128, .f32⟩
  | .local _ .vmem, ⟨15, _⟩ => ⟨S1x32x64x128, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_v11 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v12 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v13 : Ref sig .tc := ⟨.hbm, 52, rfl⟩
abbrev main_call3_cst : Ref sig .tc := ⟨.hbm, 53, rfl⟩
abbrev main_call3_v0 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26_0 : Ref sig .tc := ⟨.hbm, 71, rfl⟩
abbrev main_v26_1 : Ref sig .tc := ⟨.hbm, 72, rfl⟩
abbrev main_v26_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

@[reducible] def k0_t1_loop (i : grid0.Coords) : Scf.Loop 32 :=
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_15 : BitVec 32 := 1#32
  ⟨c0_i32_14, v44, c1_i32_15⟩
def k0_mult1 (i : grid0.Coords) (k0_t1 : Fin (k0_t1_loop i).trips) : BitVec 32 :=
  let c8_i32_534 : BitVec 32 := 8#32
  let c0_i32_14 : BitVec 32 := 0#32
  let c1_i32_15 : BitVec 32 := 1#32
  let arg10 : BitVec 32 := Scf.iv c0_i32_14 c1_i32_15 k0_t1
  let v1564 : BitVec 32 := Scalar.muli c8_i32_534 arg10
  let c0_i32_535 : BitVec 32 := 0#32
  let v1565 : BitVec 32 := Scalar.addi v1564 c0_i32_535
  let c128_i32_536 : BitVec 32 := 128#32
  let v1566 : BitVec 32 := Scalar.muli v1565 c128_i32_536
  v1566
def k0_off1 (i : grid0.Coords) (k0_t1 : Fin (k0_t1_loop i).trips) (c0_i32_535 : BitVec 32) : Fin 3 → Nat :=
  let c0_537 : Index := 0#32
  let c8_i32_534 : BitVec 32 := 8#32
  let c0_i32_14 : BitVec 32 := 0#32
  let c1_i32_15 : BitVec 32 := 1#32
  let arg10 : BitVec 32 := Scf.iv c0_i32_14 c1_i32_15 k0_t1
  let v1564 : BitVec 32 := Scalar.muli c8_i32_534 arg10
  let v1565 : BitVec 32 := Scalar.addi v1564 c0_i32_535
  let c128_i32_536 : BitVec 32 := 128#32
  let v1566 : BitVec 32 := Scalar.muli v1565 c128_i32_536
  let v1567 : BitVec 32 := v1566
  let v1568 : Index := Scalar.indexCast v1567
  let c0_538 : Index := 0#32
  ![0, v1568.toNat, 0]
def k0_off2 (i : grid0.Coords) (k0_t1 : Fin (k0_t1_loop i).trips) (c0_i32_535 : BitVec 32) : Fin 4 → Nat :=
  let c0_550 : Index := 0#32
  let c8_i32_534 : BitVec 32 := 8#32
  let c0_i32_14 : BitVec 32 := 0#32
  let c1_i32_15 : BitVec 32 := 1#32
  let arg10 : BitVec 32 := Scf.iv c0_i32_14 c1_i32_15 k0_t1
  let v1564 : BitVec 32 := Scalar.muli c8_i32_534 arg10
  let v1565 : BitVec 32 := Scalar.addi v1564 c0_i32_535
  let v1612 : Index := Scalar.indexCast v1565
  let c0_551 : Index := 0#32
  let c0_552 : Index := 0#32
  ![0, v1612.toNat, 0, 0]
def k0_mult2 (i : grid0.Coords) (k0_t1 : Fin (k0_t1_loop i).trips) : BitVec 32 :=
  let c8_i32_564 : BitVec 32 := 8#32
  let c0_i32_14 : BitVec 32 := 0#32
  let c1_i32_15 : BitVec 32 := 1#32
  let arg10 : BitVec 32 := Scf.iv c0_i32_14 c1_i32_15 k0_t1
  let v1637 : BitVec 32 := Scalar.muli c8_i32_564 arg10
  let c1_i32_565 : BitVec 32 := 1#32
  let v1638 : BitVec 32 := Scalar.addi v1637 c1_i32_565
  let c128_i32_566 : BitVec 32 := 128#32
  let v1639 : BitVec 32 := Scalar.muli v1638 c128_i32_566
  v1639
def k0_mult3 (i : grid0.Coords) (k0_t1 : Fin (k0_t1_loop i).trips) : BitVec 32 :=
  let c8_i32_594 : BitVec 32 := 8#32
  let c0_i32_14 : BitVec 32 := 0#32
  let c1_i32_15 : BitVec 32 := 1#32
  let arg10 : BitVec 32 := Scf.iv c0_i32_14 c1_i32_15 k0_t1
  let v1710 : BitVec 32 := Scalar.muli c8_i32_594 arg10
  let c2_i32_595 : BitVec 32 := 2#32
  let v1711 : BitVec 32 := Scalar.addi v1710 c2_i32_595
  let c128_i32_596 : BitVec 32 := 128#32
  let v1712 : BitVec 32 := Scalar.muli v1711 c128_i32_596
  v1712
def k0_mult4 (i : grid0.Coords) (k0_t1 : Fin (k0_t1_loop i).trips) : BitVec 32 :=
  let c8_i32_624 : BitVec 32 := 8#32
  let c0_i32_14 : BitVec 32 := 0#32
  let c1_i32_15 : BitVec 32 := 1#32
  let arg10 : BitVec 32 := Scf.iv c0_i32_14 c1_i32_15 k0_t1
  let v1783 : BitVec 32 := Scalar.muli c8_i32_624 arg10
  let c3_i32_625 : BitVec 32 := 3#32
  let v1784 : BitVec 32 := Scalar.addi v1783 c3_i32_625
  let c128_i32_626 : BitVec 32 := 128#32
  let v1785 : BitVec 32 := Scalar.muli v1784 c128_i32_626
  v1785
def k0_mult5 (i : grid0.Coords) (k0_t1 : Fin (k0_t1_loop i).trips) : BitVec 32 :=
  let c8_i32_654 : BitVec 32 := 8#32
  let c0_i32_14 : BitVec 32 := 0#32
  let c1_i32_15 : BitVec 32 := 1#32
  let arg10 : BitVec 32 := Scf.iv c0_i32_14 c1_i32_15 k0_t1
  let v1856 : BitVec 32 := Scalar.muli c8_i32_654 arg10
  let c4_i32_655 : BitVec 32 := 4#32
  let v1857 : BitVec 32 := Scalar.addi v1856 c4_i32_655
  let c128_i32_656 : BitVec 32 := 128#32
  let v1858 : BitVec 32 := Scalar.muli v1857 c128_i32_656
  v1858
def k0_mult6 (i : grid0.Coords) (k0_t1 : Fin (k0_t1_loop i).trips) : BitVec 32 :=
  let c8_i32_684 : BitVec 32 := 8#32
  let c0_i32_14 : BitVec 32 := 0#32
  let c1_i32_15 : BitVec 32 := 1#32
  let arg10 : BitVec 32 := Scf.iv c0_i32_14 c1_i32_15 k0_t1
  let v1929 : BitVec 32 := Scalar.muli c8_i32_684 arg10
  let c5_i32_685 : BitVec 32 := 5#32
  let v1930 : BitVec 32 := Scalar.addi v1929 c5_i32_685
  let c128_i32_686 : BitVec 32 := 128#32
  let v1931 : BitVec 32 := Scalar.muli v1930 c128_i32_686
  v1931
def k0_mult7 (i : grid0.Coords) (k0_t1 : Fin (k0_t1_loop i).trips) : BitVec 32 :=
  let c8_i32_714 : BitVec 32 := 8#32
  let c0_i32_14 : BitVec 32 := 0#32
  let c1_i32_15 : BitVec 32 := 1#32
  let arg10 : BitVec 32 := Scf.iv c0_i32_14 c1_i32_15 k0_t1
  let v2002 : BitVec 32 := Scalar.muli c8_i32_714 arg10
  let c6_i32_715 : BitVec 32 := 6#32
  let v2003 : BitVec 32 := Scalar.addi v2002 c6_i32_715
  let c128_i32_716 : BitVec 32 := 128#32
  let v2004 : BitVec 32 := Scalar.muli v2003 c128_i32_716
  v2004
def k0_mult8 (i : grid0.Coords) (k0_t1 : Fin (k0_t1_loop i).trips) : BitVec 32 :=
  let c8_i32_744 : BitVec 32 := 8#32
  let c0_i32_14 : BitVec 32 := 0#32
  let c1_i32_15 : BitVec 32 := 1#32
  let arg10 : BitVec 32 := Scf.iv c0_i32_14 c1_i32_15 k0_t1
  let v2075 : BitVec 32 := Scalar.muli c8_i32_744 arg10
  let c7_i32_745 : BitVec 32 := 7#32
  let v2076 : BitVec 32 := Scalar.addi v2075 c7_i32_745
  let c128_i32_746 : BitVec 32 := 128#32
  let v2077 : BitVec 32 := Scalar.muli v2076 c128_i32_746
  v2077
@[reducible] def k0_t2_loop (i : grid0.Coords) : Scf.Loop 32 :=
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let v41 : BitVec 32 := Scalar.addi c0_i32_14 v40
  let c1_i32_16 : BitVec 32 := 1#32
  ⟨v44, v41, c1_i32_16⟩
def k0_mult9 (i : grid0.Coords) (k0_t2 : Fin (k0_t2_loop i).trips) : BitVec 32 :=
  let c8_i32_534 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v1564 : BitVec 32 := Scalar.muli c8_i32_534 arg10
  let c0_i32_535 : BitVec 32 := 0#32
  let v1565 : BitVec 32 := Scalar.addi v1564 c0_i32_535
  let c128_i32_536 : BitVec 32 := 128#32
  let v1566 : BitVec 32 := Scalar.muli v1565 c128_i32_536
  v1566
def k0_off3 (i : grid0.Coords) (k0_t2 : Fin (k0_t2_loop i).trips) (c0_i32_535 : BitVec 32) : Fin 3 → Nat :=
  let c0_537 : Index := 0#32
  let c8_i32_534 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v1564 : BitVec 32 := Scalar.muli c8_i32_534 arg10
  let v1565 : BitVec 32 := Scalar.addi v1564 c0_i32_535
  let c128_i32_536 : BitVec 32 := 128#32
  let v1566 : BitVec 32 := Scalar.muli v1565 c128_i32_536
  let v1567 : BitVec 32 := v1566
  let v1568 : Index := Scalar.indexCast v1567
  let c0_538 : Index := 0#32
  ![0, v1568.toNat, 0]
def k0_off4 (i : grid0.Coords) (k0_t2 : Fin (k0_t2_loop i).trips) (c0_i32_535 : BitVec 32) : Fin 4 → Nat :=
  let c0_550 : Index := 0#32
  let c8_i32_534 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v1564 : BitVec 32 := Scalar.muli c8_i32_534 arg10
  let v1565 : BitVec 32 := Scalar.addi v1564 c0_i32_535
  let v1612 : Index := Scalar.indexCast v1565
  let c0_551 : Index := 0#32
  let c0_552 : Index := 0#32
  ![0, v1612.toNat, 0, 0]
def k0_mult10 (i : grid0.Coords) (k0_t2 : Fin (k0_t2_loop i).trips) : BitVec 32 :=
  let c8_i32_564 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v1637 : BitVec 32 := Scalar.muli c8_i32_564 arg10
  let c1_i32_565 : BitVec 32 := 1#32
  let v1638 : BitVec 32 := Scalar.addi v1637 c1_i32_565
  let c128_i32_566 : BitVec 32 := 128#32
  let v1639 : BitVec 32 := Scalar.muli v1638 c128_i32_566
  v1639
def k0_mult11 (i : grid0.Coords) (k0_t2 : Fin (k0_t2_loop i).trips) : BitVec 32 :=
  let c8_i32_594 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v1710 : BitVec 32 := Scalar.muli c8_i32_594 arg10
  let c2_i32_595 : BitVec 32 := 2#32
  let v1711 : BitVec 32 := Scalar.addi v1710 c2_i32_595
  let c128_i32_596 : BitVec 32 := 128#32
  let v1712 : BitVec 32 := Scalar.muli v1711 c128_i32_596
  v1712
def k0_mult12 (i : grid0.Coords) (k0_t2 : Fin (k0_t2_loop i).trips) : BitVec 32 :=
  let c8_i32_624 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v1783 : BitVec 32 := Scalar.muli c8_i32_624 arg10
  let c3_i32_625 : BitVec 32 := 3#32
  let v1784 : BitVec 32 := Scalar.addi v1783 c3_i32_625
  let c128_i32_626 : BitVec 32 := 128#32
  let v1785 : BitVec 32 := Scalar.muli v1784 c128_i32_626
  v1785
def k0_mult13 (i : grid0.Coords) (k0_t2 : Fin (k0_t2_loop i).trips) : BitVec 32 :=
  let c8_i32_654 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v1856 : BitVec 32 := Scalar.muli c8_i32_654 arg10
  let c4_i32_655 : BitVec 32 := 4#32
  let v1857 : BitVec 32 := Scalar.addi v1856 c4_i32_655
  let c128_i32_656 : BitVec 32 := 128#32
  let v1858 : BitVec 32 := Scalar.muli v1857 c128_i32_656
  v1858
def k0_mult14 (i : grid0.Coords) (k0_t2 : Fin (k0_t2_loop i).trips) : BitVec 32 :=
  let c8_i32_684 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v1929 : BitVec 32 := Scalar.muli c8_i32_684 arg10
  let c5_i32_685 : BitVec 32 := 5#32
  let v1930 : BitVec 32 := Scalar.addi v1929 c5_i32_685
  let c128_i32_686 : BitVec 32 := 128#32
  let v1931 : BitVec 32 := Scalar.muli v1930 c128_i32_686
  v1931
def k0_mult15 (i : grid0.Coords) (k0_t2 : Fin (k0_t2_loop i).trips) : BitVec 32 :=
  let c8_i32_714 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v2002 : BitVec 32 := Scalar.muli c8_i32_714 arg10
  let c6_i32_715 : BitVec 32 := 6#32
  let v2003 : BitVec 32 := Scalar.addi v2002 c6_i32_715
  let c128_i32_716 : BitVec 32 := 128#32
  let v2004 : BitVec 32 := Scalar.muli v2003 c128_i32_716
  v2004
def k0_mult16 (i : grid0.Coords) (k0_t2 : Fin (k0_t2_loop i).trips) : BitVec 32 :=
  let c8_i32_744 : BitVec 32 := 8#32
  let c0_i32_14 : BitVec 32 := 0#32
  let arg1 : BitVec 32 := BitVec.ofNat 32 (i 1).val
  let c2_i32 : BitVec 32 := 2#32
  let v39 : BitVec 32 := Scalar.muli arg1 c2_i32
  let v40 : BitVec 32 := Scalar.subi v39 c0_i32_14
  let c1_i32 : BitVec 32 := 1#32
  let v42 : BitVec 32 := Scalar.divsi v40 c1_i32
  let v43 : BitVec 32 := Scalar.muli v42 c1_i32
  let v44 : BitVec 32 := Scalar.addi c0_i32_14 v43
  let c1_i32_16 : BitVec 32 := 1#32
  let arg10 : BitVec 32 := Scf.iv v44 c1_i32_16 k0_t2
  let v2075 : BitVec 32 := Scalar.muli c8_i32_744 arg10
  let c7_i32_745 : BitVec 32 := 7#32
  let v2076 : BitVec 32 := Scalar.addi v2075 c7_i32_745
  let c128_i32_746 : BitVec 32 := 128#32
  let v2077 : BitVec 32 := Scalar.muli v2076 c128_i32_746
  v2077
def k0_mult17 (i : grid0.Coords) : BitVec 32 :=
  let arg1 : BitVec 32 := BitVec.ofNat 32 (i 1).val
  let c16_i32 : BitVec 32 := 16#32
  let v47 : BitVec 32 := Scalar.muli arg1 c16_i32
  let c0_i32_17 : BitVec 32 := 0#32
  let v48 : BitVec 32 := Scalar.addi v47 c0_i32_17
  let c128_i32 : BitVec 32 := 128#32
  let v49 : BitVec 32 := Scalar.muli v48 c128_i32
  v49
def k0_off5 (i : grid0.Coords) (c0_i32_17 : BitVec 32) : Fin 3 → Nat :=
  let c0_18 : Index := 0#32
  let arg1 : BitVec 32 := BitVec.ofNat 32 (i 1).val
  let c16_i32 : BitVec 32 := 16#32
  let v47 : BitVec 32 := Scalar.muli arg1 c16_i32
  let v48 : BitVec 32 := Scalar.addi v47 c0_i32_17
  let c128_i32 : BitVec 32 := 128#32
  let v49 : BitVec 32 := Scalar.muli v48 c128_i32
  let v50 : BitVec 32 := v49
  let v51 : Index := Scalar.indexCast v50
  let c0_19 : Index := 0#32
  ![0, v51.toNat, 0]
def k0_off6 (i : grid0.Coords) (c0_i32_17 : BitVec 32) : Fin 4 → Nat :=
  let c0_34 : Index := 0#32
  let arg1 : BitVec 32 := BitVec.ofNat 32 (i 1).val
  let c16_i32 : BitVec 32 := 16#32
  let v47 : BitVec 32 := Scalar.muli arg1 c16_i32
  let v48 : BitVec 32 := Scalar.addi v47 c0_i32_17
  let v104 : Index := Scalar.indexCast v48
  let c0_35 : Index := 0#32
  let c0_36 : Index := 0#32
  ![0, v104.toNat, 0, 0]
def k0_mult18 (i : grid0.Coords) : BitVec 32 :=
  let arg1 : BitVec 32 := BitVec.ofNat 32 (i 1).val
  let c16_i32_48 : BitVec 32 := 16#32
  let v129 : BitVec 32 := Scalar.muli arg1 c16_i32_48
  let c1_i32_49 : BitVec 32 := 1#32
  let v130 : BitVec 32 := Scalar.addi v129 c1_i32_49
  let c128_i32_50 : BitVec 32 := 128#32
  let v137 : BitVec 32 := Scalar.muli v130 c128_i32_50
  v137
def k0_mult19 (i : grid0.Coords) : BitVec 32 :=
  let arg1 : BitVec 32 := BitVec.ofNat 32 (i 1).val
  let c16_i32_81 : BitVec 32 := 16#32
  let v225 : BitVec 32 := Scalar.muli arg1 c16_i32_81
  let c2_i32_82 : BitVec 32 := 2#32
  let v226 : BitVec 32 := Scalar.addi v225 c2_i32_82
  let c128_i32_83 : BitVec 32 := 128#32
  let v233 : BitVec 32 := Scalar.muli v226 c128_i32_83
  v233
def k0_mult20 (i : grid0.Coords) : BitVec 32 :=
  let arg1 : BitVec 32 := BitVec.ofNat 32 (i 1).val
  let c16_i32_114 : BitVec 32 := 16#32
  let v321 : BitVec 32 := Scalar.muli arg1 c16_i32_114
  let c3_i32 : BitVec 32 := 3#32
  let v322 : BitVec 32 := Scalar.addi v321 c3_i32
  let c128_i32_115 : BitVec 32 := 128#32
  let v329 : BitVec 32 := Scalar.muli v322 c128_i32_115
  v329
def k0_mult21 (i : grid0.Coords) : BitVec 32 :=
  let arg1 : BitVec 32 := BitVec.ofNat 32 (i 1).val
  let c16_i32_146 : BitVec 32 := 16#32
  let v417 : BitVec 32 := Scalar.muli arg1 c16_i32_146
  let c4_i32 : BitVec 32 := 4#32
  let v418 : BitVec 32 := Scalar.addi v417 c4_i32
  let c128_i32_147 : BitVec 32 := 128#32
  let v425 : BitVec 32 := Scalar.muli v418 c128_i32_147
  v425
def k0_mult22 (i : grid0.Coords) : BitVec 32 :=
  let arg1 : BitVec 32 := BitVec.ofNat 32 (i 1).val
  let c16_i32_178 : BitVec 32 := 16#32
  let v513 : BitVec 32 := Scalar.muli arg1 c16_i32_178
  let c5_i32 : BitVec 32 := 5#32
  let v514 : BitVec 32 := Scalar.addi v513 c5_i32
  let c128_i32_179 : BitVec 32 := 128#32
  let v521 : BitVec 32 := Scalar.muli v514 c128_i32_179
  v521
def k0_mult23 (i : grid0.Coords) : BitVec 32 :=
  let arg1 : BitVec 32 := BitVec.ofNat 32 (i 1).val
  let c16_i32_210 : BitVec 32 := 16#32
  let v609 : BitVec 32 := Scalar.muli arg1 c16_i32_210
  let c6_i32 : BitVec 32 := 6#32
  let v610 : BitVec 32 := Scalar.addi v609 c6_i32
  let c128_i32_211 : BitVec 32 := 128#32
  let v617 : BitVec 32 := Scalar.muli v610 c128_i32_211
  v617
def k0_mult24 (i : grid0.Coords) : BitVec 32 :=
  let arg1 : BitVec 32 := BitVec.ofNat 32 (i 1).val
  let c16_i32_242 : BitVec 32 := 16#32
  let v705 : BitVec 32 := Scalar.muli arg1 c16_i32_242
  let c7_i32 : BitVec 32 := 7#32
  let v706 : BitVec 32 := Scalar.addi v705 c7_i32
  let c128_i32_243 : BitVec 32 := 128#32
  let v713 : BitVec 32 := Scalar.muli v706 c128_i32_243
  v713
def k0_mult25 (i : grid0.Coords) : BitVec 32 :=
  let arg1 : BitVec 32 := BitVec.ofNat 32 (i 1).val
  let c16_i32_274 : BitVec 32 := 16#32
  let v801 : BitVec 32 := Scalar.muli arg1 c16_i32_274
  let c8_i32 : BitVec 32 := 8#32
  let v802 : BitVec 32 := Scalar.addi v801 c8_i32
  let c128_i32_275 : BitVec 32 := 128#32
  let v809 : BitVec 32 := Scalar.muli v802 c128_i32_275
  v809
def k0_mult26 (i : grid0.Coords) : BitVec 32 :=
  let arg1 : BitVec 32 := BitVec.ofNat 32 (i 1).val
  let c16_i32_306 : BitVec 32 := 16#32
  let v897 : BitVec 32 := Scalar.muli arg1 c16_i32_306
  let c9_i32 : BitVec 32 := 9#32
  let v898 : BitVec 32 := Scalar.addi v897 c9_i32
  let c128_i32_307 : BitVec 32 := 128#32
  let v905 : BitVec 32 := Scalar.muli v898 c128_i32_307
  v905
def k0_mult27 (i : grid0.Coords) : BitVec 32 :=
  let arg1 : BitVec 32 := BitVec.ofNat 32 (i 1).val
  let c16_i32_338 : BitVec 32 := 16#32
  let v993 : BitVec 32 := Scalar.muli arg1 c16_i32_338
  let c10_i32 : BitVec 32 := 10#32
  let v994 : BitVec 32 := Scalar.addi v993 c10_i32
  let c128_i32_339 : BitVec 32 := 128#32
  let v1001 : BitVec 32 := Scalar.muli v994 c128_i32_339
  v1001
def k0_mult28 (i : grid0.Coords) : BitVec 32 :=
  let arg1 : BitVec 32 := BitVec.ofNat 32 (i 1).val
  let c16_i32_370 : BitVec 32 := 16#32
  let v1089 : BitVec 32 := Scalar.muli arg1 c16_i32_370
  let c11_i32 : BitVec 32 := 11#32
  let v1090 : BitVec 32 := Scalar.addi v1089 c11_i32
  let c128_i32_371 : BitVec 32 := 128#32
  let v1097 : BitVec 32 := Scalar.muli v1090 c128_i32_371
  v1097
def k0_mult29 (i : grid0.Coords) : BitVec 32 :=
  let arg1 : BitVec 32 := BitVec.ofNat 32 (i 1).val
  let c16_i32_402 : BitVec 32 := 16#32
  let v1185 : BitVec 32 := Scalar.muli arg1 c16_i32_402
  let c12_i32 : BitVec 32 := 12#32
  let v1186 : BitVec 32 := Scalar.addi v1185 c12_i32
  let c128_i32_403 : BitVec 32 := 128#32
  let v1193 : BitVec 32 := Scalar.muli v1186 c128_i32_403
  v1193
def k0_mult30 (i : grid0.Coords) : BitVec 32 :=
  let arg1 : BitVec 32 := BitVec.ofNat 32 (i 1).val
  let c16_i32_434 : BitVec 32 := 16#32
  let v1281 : BitVec 32 := Scalar.muli arg1 c16_i32_434
  let c13_i32 : BitVec 32 := 13#32
  let v1282 : BitVec 32 := Scalar.addi v1281 c13_i32
  let c128_i32_435 : BitVec 32 := 128#32
  let v1289 : BitVec 32 := Scalar.muli v1282 c128_i32_435
  v1289
def k0_mult31 (i : grid0.Coords) : BitVec 32 :=
  let arg1 : BitVec 32 := BitVec.ofNat 32 (i 1).val
  let c16_i32_466 : BitVec 32 := 16#32
  let v1377 : BitVec 32 := Scalar.muli arg1 c16_i32_466
  let c14_i32 : BitVec 32 := 14#32
  let v1378 : BitVec 32 := Scalar.addi v1377 c14_i32
  let c128_i32_467 : BitVec 32 := 128#32
  let v1385 : BitVec 32 := Scalar.muli v1378 c128_i32_467
  v1385
def k0_mult32 (i : grid0.Coords) : BitVec 32 :=
  let arg1 : BitVec 32 := BitVec.ofNat 32 (i 1).val
  let c16_i32_498 : BitVec 32 := 16#32
  let v1473 : BitVec 32 := Scalar.muli arg1 c16_i32_498
  let c15_i32 : BitVec 32 := 15#32
  let v1474 : BitVec 32 := Scalar.addi v1473 c15_i32
  let c128_i32_499 : BitVec 32 := 128#32
  let v1481 : BitVec 32 := Scalar.muli v1474 c128_i32_499
  v1481
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttnRefIdeal.lean ====
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x1 : Shape := ⟨3, ![16, 4096, 1]⟩
abbrev S16x64x4096 : Shape := ⟨3, ![16, 64, 4096]⟩
abbrev S16x32x128x64 : Shape := ⟨4, ![16, 32, 128, 64]⟩
abbrev S16x32x64x128 : Shape := ⟨4, ![16, 32, 64, 128]⟩

abbrev nBuf : Space → Nat
  | .hbm => 166
  | .vmem => 0
  | .smem => 0
  | _ => 0

abbrev hbmTy0_0 (i : Nat) : BufTy := match i % 128 with
  | 0 => ⟨S16x4096x64, .f32⟩
  | 1 => ⟨S16x4096x64, .f32⟩
  | 2 => ⟨S16x4096x64, .f32⟩
  | 3 => ⟨S16x4096x64, .f32⟩
  | 4 => ⟨S16x4096x4096, .f32⟩
  | 5 => ⟨S_, .f32⟩
  | 6 => ⟨S16x4096x4096, .f32⟩
  | 7 => ⟨S16x4096x4096, .f32⟩
  | 8 => ⟨S4096, .i32⟩
  | 9 => ⟨S1x4096, .i32⟩
  | 10 => ⟨S4096, .i32⟩
  | 11 => ⟨S4096x1, .i32⟩
  | 12 => ⟨S4096x4096, .i32⟩
  | 13 => ⟨S4096x4096, .i32⟩
  | 14 => ⟨S4096x4096, .i1⟩
  | 15 => ⟨S16x4096x4096, .f32⟩
  | 16 => ⟨S_, .f32⟩
  | 17 => ⟨S16x4096x4096, .f32⟩
  | 18 => ⟨S16x4096x4096, .f32⟩
  | 19 => ⟨S16x4096x4096, .f32⟩
  | 20 => ⟨S16x4096x4096, .f32⟩
  | 21 => ⟨S16x4096x4096, .i1⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .f32⟩
  | 30 => ⟨S_, .f32⟩
  | 31 => ⟨S16x4096x4096, .f32⟩
  | 32 => ⟨S16x4096x4096, .i1⟩
  | 33 => ⟨S_, .f32⟩
  | 34 => ⟨S16x4096x4096, .f32⟩
  | 35 => ⟨S16x4096x4096, .f32⟩
  | 36 => ⟨S_, .f32⟩
  | 37 => ⟨S16x4096x4096, .f32⟩
  | 38 => ⟨S16x4096x4096, .i1⟩
  | 39 => ⟨S_, .f32⟩
  | 40 => ⟨S16x4096x4096, .f32⟩
  | 41 => ⟨S16x4096x4096, .f32⟩
  | 42 => ⟨S16x4096x4096, .f32⟩
  | 43 => ⟨S16x4096x4096, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S16x4096x4096, .f32⟩
  | 52 => ⟨S16x4096x4096, .i1⟩
  | 53 => ⟨S_, .f32⟩
  | 54 => ⟨S16x4096x4096, .f32⟩
  | 55 => ⟨S16x4096x4096, .f32⟩
  | 56 => ⟨S16x4096x4096, .f32⟩
  | 57 => ⟨S16x4096x4096, .f32⟩
  | 58 => ⟨S16x4096x4096, .f32⟩
  | 59 => ⟨S_, .f32⟩
  | 60 => ⟨S16x4096x4096, .f32⟩
  | 61 => ⟨S16x4096x4096, .f32⟩
  | 62 => ⟨S16x4096x4096, .f32⟩
  | 63 => ⟨S16x4096x4096, .f32⟩
  | 64 => ⟨S16x4096x4096, .f32⟩
  | 65 => ⟨S_, .f32⟩
  | 66 => ⟨S16x4096x4096, .f32⟩
  | 67 => ⟨S16x4096x4096, .f32⟩
  | 68 => ⟨S16x4096x4096, .f32⟩
  | 69 => ⟨S16x4096x4096, .f32⟩
  | 70 => ⟨S16x4096x4096, .i1⟩
  | 71 => ⟨S16x4096x4096, .f32⟩
  | 72 => ⟨S16x4096x4096, .f32⟩
  | 73 => ⟨S16x4096x4096, .f32⟩
  | 74 => ⟨S16x4096x4096, .f32⟩
  | 75 => ⟨S16x4096x4096, .f32⟩
  | 76 => ⟨S16x4096x4096, .f32⟩
  | 77 => ⟨S16x4096x4096, .f32⟩
  | 78 => ⟨S16x4096x4096, .f32⟩
  | 79 => ⟨S_, .f32⟩
  | 80 => ⟨S16x4096x4096, .f32⟩
  | 81 => ⟨S16x4096x4096, .i1⟩
  | 82 => ⟨S_, .f32⟩
  | 83 => ⟨S16x4096x4096, .f32⟩
  | 84 => ⟨S16x4096x4096, .f32⟩
  | 85 => ⟨S_, .f32⟩
  | 86 => ⟨S16x4096x4096, .f32⟩
  | 87 => ⟨S16x4096x4096, .i1⟩
  | 88 => ⟨S_, .f32⟩
  | 89 => ⟨S16x4096x4096, .f32⟩
  | 90 => ⟨S16x4096x4096, .f32⟩
  | 91 => ⟨S16x4096x4096, .f32⟩
  | 92 => ⟨S16x4096x4096, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S16x4096x4096, .f32⟩
  | 101 => ⟨S16x4096x4096, .i1⟩
  | 102 => ⟨S_, .f32⟩
  | 103 => ⟨S16x4096x4096, .f32⟩
  | 104 => ⟨S16x4096x4096, .f32⟩
  | 105 => ⟨S16x4096x4096, .f32⟩
  | 106 => ⟨S16x4096x4096, .f32⟩
  | 107 => ⟨S16x4096x4096, .f32⟩
  | 108 => ⟨S_, .f32⟩
  | 109 => ⟨S16x4096x4096, .f32⟩
  | 110 => ⟨S16x4096x4096, .f32⟩
  | 111 => ⟨S16x4096x4096, .f32⟩
  | 112 => ⟨S_, .f32⟩
  | 113 => ⟨S_, .f32⟩
  | 114 => ⟨S16x4096x4096, .i1⟩
  | 115 => ⟨S16x4096x4096, .f32⟩
  | 116 => ⟨S16x4096x4096, .f32⟩
  | 117 => ⟨S_, .f32⟩
  | 118 => ⟨S16x4096x4096, .f32⟩
  | 119 => ⟨S_, .f32⟩
  | 120 => ⟨S_, .f32⟩
  | 121 => ⟨S16x4096x4096, .f32⟩
  | 122 => ⟨S16x4096x4096, .f32⟩
  | 123 => ⟨S16x4096x4096, .f32⟩
  | 124 => ⟨S_, .f32⟩
  | 125 => ⟨S_, .f32⟩
  | 126 => ⟨S16x4096x4096, .i1⟩
  | 127 => ⟨S16x4096x4096, .f32⟩
  | _ => ⟨S16x4096x64, .f32⟩

abbrev hbmTy0_1 (i : Nat) : BufTy := match i % 128 with
  | 0 => ⟨S16x4096x4096, .f32⟩
  | 1 => ⟨S_, .f32⟩
  | 2 => ⟨S16x4096x4096, .f32⟩
  | 3 => ⟨S16x4096x4096, .f32⟩
  | 4 => ⟨S16x4096x64, .f32⟩
  | 5 => ⟨S16x4096x1, .f32⟩
  | 6 => ⟨S16x64x4096, .f32⟩
  | 7 => ⟨S16x4096x64, .f32⟩
  | 8 => ⟨S16x4096x4096, .f32⟩
  | 9 => ⟨S16x4096x4096, .f32⟩
  | 10 => ⟨S_, .f32⟩
  | 11 => ⟨S16x4096x4096, .f32⟩
  | 12 => ⟨S16x4096x4096, .f32⟩
  | 13 => ⟨S16x4096x4096, .f32⟩
  | 14 => ⟨S_, .f32⟩
  | 15 => ⟨S_, .f32⟩
  | 16 => ⟨S16x4096x4096, .f32⟩
  | 17 => ⟨S16x4096x4096, .f32⟩
  | 18 => ⟨S_, .f32⟩
  | 19 => ⟨S16x4096x4096, .f32⟩
  | 20 => ⟨S16x4096x4096, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S_, .f32⟩
  | 30 => ⟨S16x4096x4096, .f32⟩
  | 31 => ⟨S16x4096x4096, .f32⟩
  | 32 => ⟨S16x4096x64, .f32⟩
  | 33 => ⟨S16x4096x64, .f32⟩
  | 34 => ⟨S16x32x128x64, .f32⟩
  | 35 => ⟨S16x32x64x128, .f32⟩
  | 36 => ⟨S16x32x128x64, .f32⟩
  | 37 => ⟨S16x32x64x128, .f32⟩
  | _ => ⟨S16x4096x64, .f32⟩

abbrev hbmTy (i : Nat) : BufTy := match i / 128 with
  | 0 => hbmTy0_0 i
  | 1 => hbmTy0_1 i
  | _ => ⟨S16x4096x64, .f32⟩

abbrev bufTy : (tb : Table) → Fin (tcTables nBuf tb) → BufTy
  | .hbm, ⟨i, _⟩ => hbmTy i
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1_0 : Ref sig .tc := ⟨.hbm, 29, rfl⟩
abbrev main_call0_call0_cst_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_cst_2 : Ref sig .tc := ⟨.hbm, 36, rfl⟩
abbrev main_call0_call0_v17 : Ref sig .tc := ⟨.hbm, 37, rfl⟩
abbrev main_call0_call0_v18 : Ref sig .tc := ⟨.hbm, 38, rfl⟩
abbrev main_call0_call0_cst_3 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_v10_1 : Ref sig .tc := ⟨.hbm, 43, rfl⟩
abbrev main_call0_call0_cst_4 : Ref sig .tc := ⟨.hbm, 44, rfl⟩
abbrev main_call0_call0_cst_5 : Ref sig .tc := ⟨.hbm, 45, rfl⟩
abbrev main_call0_call0_v23 : Ref sig .tc := ⟨.hbm, 46, rfl⟩
abbrev main_call0_call0_cst_6 : Ref sig .tc := ⟨.hbm, 47, rfl⟩
abbrev main_call0_call0_cst_7 : Ref sig .tc := ⟨.hbm, 48, rfl⟩
abbrev main_call0_call0_v24 : Ref sig .tc := ⟨.hbm, 49, rfl⟩
abbrev main_call0_call0_cst_8 : Ref sig .tc := ⟨.hbm, 50, rfl⟩
abbrev main_call0_call0_v25 : Ref sig .tc := ⟨.hbm, 51, rfl⟩
abbrev main_call0_call0_v26 : Ref sig .tc := ⟨.hbm, 52, rfl⟩
abbrev main_call0_call0_cst_9 : Ref sig .tc := ⟨.hbm, 53, rfl⟩
abbrev main_call0_call0_v27 : Ref sig .tc := ⟨.hbm, 54, rfl⟩
abbrev main_call0_call0_v28 : Ref sig .tc := ⟨.hbm, 55, rfl⟩
abbrev main_call0_call0_v29 : Ref sig .tc := ⟨.hbm, 56, rfl⟩
abbrev main_call0_call0_v30 : Ref sig .tc := ⟨.hbm, 57, rfl⟩
abbrev main_call0_call0_v31 : Ref sig .tc := ⟨.hbm, 58, rfl⟩
abbrev main_call0_call0_cst_10 : Ref sig .tc := ⟨.hbm, 59, rfl⟩
abbrev main_call0_call0_v32 : Ref sig .tc := ⟨.hbm, 60, rfl⟩
abbrev main_v10_2 : Ref sig .tc := ⟨.hbm, 61, rfl⟩
abbrev main_v10_0 : Ref sig .tc := ⟨.hbm, 62, rfl⟩
abbrev main_v11 : Ref sig .tc := ⟨.hbm, 63, rfl⟩
abbrev main_call1_v0 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_v2 : Ref sig .tc := ⟨.hbm, 68, rfl⟩
abbrev main_call1_call0_v3 : Ref sig .tc := ⟨.hbm, 69, rfl⟩
abbrev main_call1_call0_v4 : Ref sig .tc := ⟨.hbm, 70, rfl⟩
abbrev main_call1_call0_v5 : Ref sig .tc := ⟨.hbm, 71, rfl⟩
abbrev main_call1_call0_v6 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_v11 : Ref sig .tc := ⟨.hbm, 77, rfl⟩
abbrev main_call1_v1_0 : Ref sig .tc := ⟨.hbm, 78, rfl⟩
abbrev main_call1_call0_cst_0 : Ref sig .tc := ⟨.hbm, 79, rfl⟩
abbrev main_call1_call0_v13 : Ref sig .tc := ⟨.hbm, 80, rfl⟩
abbrev main_call1_call0_v14 : Ref sig .tc := ⟨.hbm, 81, rfl⟩
abbrev main_call1_call0_cst_1 : Ref sig .tc := ⟨.hbm, 82, rfl⟩
abbrev main_call1_call0_v15 : Ref sig .tc := ⟨.hbm, 83, rfl⟩
abbrev main_call1_call0_v16 : Ref sig .tc := ⟨.hbm, 84, rfl⟩
abbrev main_call1_call0_cst_2 : Ref sig .tc := ⟨.hbm, 85, rfl⟩
abbrev main_call1_call0_v17 : Ref sig .tc := ⟨.hbm, 86, rfl⟩
abbrev main_call1_call0_v18 : Ref sig .tc := ⟨.hbm, 87, rfl⟩
abbrev main_call1_call0_cst_3 : Ref sig .tc := ⟨.hbm, 88, rfl⟩
abbrev main_call1_call0_v19 : Ref sig .tc := ⟨.hbm, 89, rfl⟩
abbrev main_call1_call0_v20 : Ref sig .tc := ⟨.hbm, 90, rfl⟩
abbrev main_call1_call0_v21 : Ref sig .tc := ⟨.hbm, 91, rfl⟩
abbrev main_v12_1 : Ref sig .tc := ⟨.hbm, 92, rfl⟩
abbrev main_call1_call0_cst_4 : Ref sig .tc := ⟨.hbm, 93, rfl⟩
abbrev main_call1_call0_cst_5 : Ref sig .tc := ⟨.hbm, 94, rfl⟩
abbrev main_call1_call0_v23 : Ref sig .tc := ⟨.hbm, 95, rfl⟩
abbrev main_call1_call0_cst_6 : Ref sig .tc := ⟨.hbm, 96, rfl⟩
abbrev main_call1_call0_cst_7 : Ref sig .tc := ⟨.hbm, 97, rfl⟩
abbrev main_call1_call0_v24 : Ref sig .tc := ⟨.hbm, 98, rfl⟩
abbrev main_call1_call0_cst_8 : Ref sig .tc := ⟨.hbm, 99, rfl⟩
abbrev main_call1_call0_v25 : Ref sig .tc := ⟨.hbm, 100, rfl⟩
abbrev main_call1_call0_v26 : Ref sig .tc := ⟨.hbm, 101, rfl⟩
abbrev main_call1_call0_cst_9 : Ref sig .tc := ⟨.hbm, 102, rfl⟩
abbrev main_call1_call0_v27 : Ref sig .tc := ⟨.hbm, 103, rfl⟩
abbrev main_call1_call0_v28 : Ref sig .tc := ⟨.hbm, 104, rfl⟩
abbrev main_call1_call0_v29 : Ref sig .tc := ⟨.hbm, 105, rfl⟩
abbrev main_call1_call0_v30 : Ref sig .tc := ⟨.hbm, 106, rfl⟩
abbrev main_call1_call0_v31 : Ref sig .tc := ⟨.hbm, 107, rfl⟩
abbrev main_call1_call0_cst_10 : Ref sig .tc := ⟨.hbm, 108, rfl⟩
abbrev main_call1_call0_v32 : Ref sig .tc := ⟨.hbm, 109, rfl⟩
abbrev main_v12_2 : Ref sig .tc := ⟨.hbm, 110, rfl⟩
abbrev main_v12_0 : Ref sig .tc := ⟨.hbm, 111, rfl⟩
abbrev main_cst_0 : Ref sig .tc := ⟨.hbm, 112, rfl⟩
abbrev main_call2_v0 : Ref sig .tc := ⟨.hbm, 113, rfl⟩
abbrev main_v13_1 : Ref sig .tc := ⟨.hbm, 114, rfl⟩
abbrev main_call2_v2 : Ref sig .tc := ⟨.hbm, 115, rfl⟩
abbrev main_v13_0 : Ref sig .tc := ⟨.hbm, 116, rfl⟩
abbrev main_call2_cst : Ref sig .tc := ⟨.hbm, 117, rfl⟩
abbrev main_v13_2 : Ref sig .tc := ⟨.hbm, 118, rfl⟩
abbrev main_call3_cst : Ref sig .tc := ⟨.hbm, 119, rfl⟩
abbrev main_call3_v0 : Ref sig .tc := ⟨.hbm, 120, rfl⟩
abbrev main_v14 : Ref sig .tc := ⟨.hbm, 121, rfl⟩
abbrev main_v15 : Ref sig .tc := ⟨.hbm, 122, rfl⟩
abbrev main_v16 : Ref sig .tc := ⟨.hbm, 123, rfl⟩
abbrev main_cst_1 : Ref sig .tc := ⟨.hbm, 124, rfl⟩
abbrev main_call4_v0 : Ref sig .tc := ⟨.hbm, 125, rfl⟩
abbrev main_v17_1 : Ref sig .tc := ⟨.hbm, 126, rfl⟩
abbrev main_call4_v2 : Ref sig .tc := ⟨.hbm, 127, rfl⟩
abbrev main_v17_0 : Ref sig .tc := ⟨.hbm, 128, rfl⟩
abbrev main_call4_cst : Ref sig .tc := ⟨.hbm, 129, rfl⟩
abbrev main_v17_2 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_call5_cst : Ref sig .tc := ⟨.hbm, 138, rfl⟩
abbrev main_call5_v0 : Ref sig .tc := ⟨.hbm, 139, rfl⟩
abbrev main_v25 : Ref sig .tc := ⟨.hbm, 140, rfl⟩
abbrev main_v26 : Ref sig .tc := ⟨.hbm, 141, rfl⟩
abbrev main_call6_cst : Ref sig .tc := ⟨.hbm, 142, rfl⟩
abbrev main_call6_v0 : Ref sig .tc := ⟨.hbm, 143, rfl⟩
abbrev main_v27 : Ref sig .tc := ⟨.hbm, 144, rfl⟩
abbrev main_v28 : Ref sig .tc := ⟨.hbm, 145, rfl⟩
abbrev main_call7_cst : Ref sig .tc := ⟨.hbm, 146, rfl⟩
abbrev main_call7_v0 : Ref sig .tc := ⟨.hbm, 147, rfl⟩
abbrev main_v29 : Ref sig .tc := ⟨.hbm, 148, rfl⟩
abbrev main_call8_v0 : Ref sig .tc := ⟨.hbm, 149, rfl⟩
abbrev main_call8_v1 : Ref sig .tc := ⟨.hbm, 150, rfl⟩
abbrev main_v30 : Ref sig .tc := ⟨.hbm, 151, rfl⟩
abbrev main_v31 : Ref sig .tc := ⟨.hbm, 152, rfl⟩
abbrev main_call9_v0 : Ref sig .tc := ⟨.hbm, 153, rfl⟩
abbrev main_call9_v1 : Ref sig .tc := ⟨.hbm, 154, rfl⟩
abbrev main_v32 : Ref sig .tc := ⟨.hbm, 155, rfl⟩
abbrev main_v33 : Ref sig .tc := ⟨.hbm, 156, rfl⟩
abbrev main_cst_2 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩

abbrev nD : Nat := 1
abbrev τ : Topo := Topo.v7x

variable {F : FTy → Type} [FloatOps F]
-- ==== Post.lean ====
abbrev S4096x1024 : Shape := ⟨2, ![4096, 1024]⟩
abbrev S16x4096x64 : Shape := ⟨3, ![16, 4096, 64]⟩
abbrev S2048x1024 : Shape := ⟨2, ![2048, 1024]⟩
abbrev S1x1024 : Shape := ⟨2, ![1, 1024]⟩
abbrev S_ : Shape := ⟨0, ![]⟩
abbrev S16x4096x128 : Shape := ⟨3, ![16, 4096, 128]⟩
abbrev S2048x4096 : Shape := ⟨2, ![2048, 4096]⟩
abbrev S1x128 : Shape := ⟨2, ![1, 128]⟩
abbrev S256x1024 : Shape := ⟨2, ![256, 1024]⟩
abbrev S16x256x128 : Shape := ⟨3, ![16, 256, 128]⟩
abbrev S2048x256 : Shape := ⟨2, ![2048, 256]⟩
abbrev S16x256x64 : Shape := ⟨3, ![16, 256, 64]⟩
abbrev S1x256x128 : Shape := ⟨3, ![1, 256, 128]⟩
abbrev S256x128 : Shape := ⟨2, ![256, 128]⟩
abbrev S256x64 : Shape := ⟨2, ![256, 64]⟩
abbrev S256 : Shape := ⟨1, ![256]⟩
abbrev S256x1 : Shape := ⟨2, ![256, 1]⟩
abbrev S256x256 : Shape := ⟨2, ![256, 256]⟩
abbrev S1024x256 : Shape := ⟨2, ![1024, 256]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩
abbrev S1x256x64 : Shape := ⟨3, ![1, 256, 64]⟩

abbrev nBuf : Space → Nat
  | .hbm => 27
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x4096x64, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S16x4096x64, .f32⟩
  | .hbm, ⟨13, _⟩ => ⟨S16x4096x128, .f32⟩
  | .hbm, ⟨14, _⟩ => ⟨S2048x1024, .bf16⟩
  | .hbm, ⟨15, _⟩ => ⟨S2048x4096, .bf16⟩
  | .hbm, ⟨16, _⟩ => ⟨S4096x1024, .bf16⟩
  | .hbm, ⟨17, _⟩ => ⟨S4096x1024, .f32⟩
  | .hbm, ⟨18, _⟩ => ⟨S1x128, .f32⟩
  | .hbm, ⟨19, _⟩ => ⟨S1x1024, .f32⟩
  | .hbm, ⟨20, _⟩ => ⟨S1x1024, .f32⟩
  | .hbm, ⟨21, _⟩ => ⟨S16x4096x64, .bf16⟩
  | .hbm, ⟨22, _⟩ => ⟨S4096x1024, .bf16⟩
  | .hbm, ⟨23, _⟩ => ⟨S4096x1024, .bf16⟩
  | .hbm, ⟨24, _⟩ => ⟨S4096x1024, .f32⟩
  | .hbm, ⟨25, _⟩ => ⟨S1x1024, .f32⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x256x128, .f32⟩
  | .local _ .vmem, ⟨5, _⟩ => ⟨S16x256x128, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S2048x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S2048x256, .bf16⟩
  | .local _ .vmem, ⟨18, _⟩ => ⟨S2048x256, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S1x128, .f32⟩
  | .local _ .vmem, ⟨24, _⟩ => ⟨S1x1024, .f32⟩
  | .local _ .vmem, ⟨25, _⟩ => ⟨S1x1024, .f32⟩
  | .local _ .vmem, ⟨26, _⟩ => ⟨S16x256x64, .bf16⟩
  | .local _ .vmem, ⟨27, _⟩ => ⟨S16x256x64, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | .local _ .vmem, ⟨35, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_v3_9 : Ref sig .tc := ⟨.hbm, 24, rfl⟩
abbrev main_v3_10 : Ref sig .tc := ⟨.hbm, 25, rfl⟩
abbrev main_v3_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg22_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem22_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S16x256x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== PostRefIdeal.lean ====
abbrev S4096x1024 : Shape := ⟨2, ![4096, 1024]⟩
abbrev S16x4096x64 : Shape := ⟨3, ![16, 4096, 64]⟩
abbrev S2048x1024 : Shape := ⟨2, ![2048, 1024]⟩
abbrev S1x1024 : Shape := ⟨2, ![1, 1024]⟩
abbrev S4096x16x64 : Shape := ⟨3, ![4096, 16, 64]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S1024 : Shape := ⟨1, ![1024]⟩
abbrev S2048x4096 : Shape := ⟨2, ![2048, 4096]⟩
abbrev S1x128 : Shape := ⟨2, ![1, 128]⟩

abbrev nBuf : Space → Nat
  | .hbm => 225
  | .vmem => 0
  | .smem => 0
  | _ => 0

abbrev hbmTy0_0 (i : Nat) : BufTy := match i % 128 with
  | 0 => ⟨S4096x1024, .f32⟩
  | 1 => ⟨S4096x1024, .f32⟩
  | 2 => ⟨S16x4096x64, .f32⟩
  | 3 => ⟨S4096x1024, .f32⟩
  | 4 => ⟨S4096x1024, .f32⟩
  | 5 => ⟨S4096x1024, .f32⟩
  | 6 => ⟨S2048x1024, .f32⟩
  | 7 => ⟨S1x1024, .f32⟩
  | 8 => ⟨S1x1024, .f32⟩
  | 9 => ⟨S1x1024, .f32⟩
  | 10 => ⟨S1x1024, .f32⟩
  | 11 => ⟨S4096x16x64, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S4096x1024, .f32⟩
  | 78 => ⟨S4096x1024, .f32⟩
  | 79 => ⟨S4096x2048, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S4096x1024, .f32⟩
  | 107 => ⟨S4096x1024, .f32⟩
  | 108 => ⟨S_, .f32⟩
  | 109 => ⟨S4096, .f32⟩
  | 110 => ⟨S_, .f32⟩
  | 111 => ⟨S4096, .f32⟩
  | 112 => ⟨S4096, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S4096, .f32⟩
  | 121 => ⟨S_, .f32⟩
  | 122 => ⟨S4096, .f32⟩
  | 123 => ⟨S4096, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S1024, .f32⟩
  | 1 => ⟨S1x1024, .f32⟩
  | 2 => ⟨S4096x1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S4096x1024, .f32⟩
  | 9 => ⟨S4096x1024, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S1024, .f32⟩
  | 26 => ⟨S1x1024, .f32⟩
  | 27 => ⟨S4096x2048, .f32⟩
  | 28 => ⟨S4096x1024, .f32⟩
  | 29 => ⟨S4096x1024, .f32⟩
  | 30 => ⟨S4096x1024, .f32⟩
  | 31 => ⟨S_, .f32⟩
  | 32 => ⟨S1024, .f32⟩
  | 33 => ⟨S1x1024, .f32⟩
  | 34 => ⟨S4096x1024, .f32⟩
  | 35 => ⟨S4096x1024, .f32⟩
  | 36 => ⟨S4096x1024, .f32⟩
  | 37 => ⟨S_, .f32⟩
  | 38 => ⟨S4096, .f32⟩
  | 39 => ⟨S4096x1, .f32⟩
  | 40 => ⟨S4096x1024, .f32⟩
  | 41 => ⟨S4096x1024, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S4096x1024, .f32⟩
  | 70 => ⟨S4096x1024, .f32⟩
  | 71 => ⟨S4096x1024, .f32⟩
  | 72 => ⟨S_, .f32⟩
  | 73 => ⟨S4096, .f32⟩
  | 74 => ⟨S4096x1, .f32⟩
  | 75 => ⟨S4096x1024, .f32⟩
  | 76 => ⟨S4096x1024, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x16x64, .f32⟩
  | 89 => ⟨S16x4096x64, .f32⟩
  | 90 => ⟨S4096x2048, .bf16⟩
  | 91 => ⟨S4096x1024, .bf16⟩
  | 92 => ⟨S16x4096x64, .bf16⟩
  | 93 => ⟨S4096x1024, .bf16⟩
  | 94 => ⟨S4096x1024, .bf16⟩
  | 95 => ⟨S2048x4096, .bf16⟩
  | 96 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v17_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v17_1 : Ref sig .tc := ⟨.hbm, 43, rfl⟩
abbrev main_v17_0 : Ref sig .tc := ⟨.hbm, 44, rfl⟩
abbrev main_v18 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_v19_2 : Ref sig .tc := ⟨.hbm, 53, rfl⟩
abbrev main_call1_cst_1 : Ref sig .tc := ⟨.hbm, 54, rfl⟩
abbrev main_call1_v6 : Ref sig .tc := ⟨.hbm, 55, rfl⟩
abbrev main_call1_v7 : Ref sig .tc := ⟨.hbm, 56, rfl⟩
abbrev main_v19_1 : Ref sig .tc := ⟨.hbm, 57, rfl⟩
abbrev main_v19_0 : Ref sig .tc := ⟨.hbm, 58, rfl⟩
abbrev main_v20 : Ref sig .tc := ⟨.hbm, 59, rfl⟩
abbrev main_v21 : Ref sig .tc := ⟨.hbm, 60, rfl⟩
abbrev main_cst_3 : Ref sig .tc := ⟨.hbm, 61, rfl⟩
abbrev main_v22 : Ref sig .tc := ⟨.hbm, 62, rfl⟩
abbrev main_v23 : Ref sig .tc := ⟨.hbm, 63, rfl⟩
abbrev main_cst_4 : Ref sig .tc := ⟨.hbm, 64, rfl⟩
abbrev main_v24 : Ref sig .tc := ⟨.hbm, 65, rfl⟩
abbrev main_v25 : Ref sig .tc := ⟨.hbm, 66, rfl⟩
abbrev main_cst_5 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_6 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_7 : Ref sig .tc := ⟨.hbm, 85, rfl⟩
abbrev main_v42 : Ref sig .tc := ⟨.hbm, 86, rfl⟩
abbrev main_v43 : Ref sig .tc := ⟨.hbm, 87, rfl⟩
abbrev main_cst_8 : Ref sig .tc := ⟨.hbm, 88, rfl⟩
abbrev main_v44 : Ref sig .tc := ⟨.hbm, 89, rfl⟩
abbrev main_v45 : Ref sig .tc := ⟨.hbm, 90, rfl⟩
abbrev main_cst_9 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_10 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_11 : Ref sig .tc := ⟨.hbm, 105, rfl⟩
abbrev main_v58 : Ref sig .tc := ⟨.hbm, 106, rfl⟩
abbrev main_v59 : Ref sig .tc := ⟨.hbm, 107, rfl⟩
abbrev main_cst_12 : Ref sig .tc := ⟨.hbm, 108, rfl⟩
abbrev main_v60 : Ref sig .tc := ⟨.hbm, 109, rfl⟩
abbrev main_cst_13 : Ref sig .tc := ⟨.hbm, 110, rfl⟩
abbrev main_v61 : Ref sig .tc := ⟨.hbm, 111, rfl⟩
abbrev main_v62 : Ref sig .tc := ⟨.hbm, 112, rfl⟩
abbrev main_cst_14 : Ref sig .tc := ⟨.hbm, 113, rfl⟩
abbrev main_v63 : Ref sig .tc := ⟨.hbm, 114, rfl⟩
abbrev main_cst_15 : Ref sig .tc := ⟨.hbm, 115, rfl⟩
abbrev main_v64 : Ref sig .tc := ⟨.hbm, 116, rfl⟩
abbrev main_cst_16 : Ref sig .tc := ⟨.hbm, 117, rfl⟩
abbrev main_cst_17 : Ref sig .tc := ⟨.hbm, 118, rfl⟩
abbrev main_v65 : Ref sig .tc := ⟨.hbm, 119, rfl⟩
abbrev main_v66 : Ref sig .tc := ⟨.hbm, 120, rfl⟩
abbrev main_cst_18 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_19 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_20 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_21 : Ref sig .tc := ⟨.hbm, 139, rfl⟩
abbrev main_v82 : Ref sig .tc := ⟨.hbm, 140, rfl⟩
abbrev main_v83 : Ref sig .tc := ⟨.hbm, 141, rfl⟩
abbrev main_cst_22 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_23 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_24 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_25 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_26 : Ref sig .tc := ⟨.hbm, 171, rfl⟩
abbrev main_v109 : Ref sig .tc := ⟨.hbm, 172, rfl⟩
abbrev main_v110 : Ref sig .tc := ⟨.hbm, 173, rfl⟩
abbrev main_cst_27 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_call3_v0 : Ref sig .tc := ⟨.hbm, 189, rfl⟩
abbrev main_call3_v1 : Ref sig .tc := ⟨.hbm, 190, rfl⟩
abbrev main_call3_v2 : Ref sig .tc := ⟨.hbm, 191, rfl⟩
abbrev main_v122 : Ref sig .tc := ⟨.hbm, 192, rfl⟩
abbrev main_v123 : Ref sig .tc := ⟨.hbm, 193, rfl⟩
abbrev main_cst_28 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_cst_29 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_30 : Ref sig .tc := ⟨.hbm, 206, rfl⟩
abbrev main_v134 : Ref sig .tc := ⟨.hbm, 207, rfl⟩
abbrev main_v135 : Ref sig .tc := ⟨.hbm, 208, rfl⟩
abbrev main_cst_31 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩

abbrev nD : Nat := 1
abbrev τ : Topo := Topo.v7x

variable {F : FTy → Type} [FloatOps F]
-- ==== AttnFwd.lean ====
abbrev S16x4096x64 : Shape := ⟨3, ![16, 4096, 64]⟩
abbrev S48x4096x64 : Shape := ⟨3, ![48, 4096, 64]⟩
abbrev S16x4096x128 : Shape := ⟨3, ![16, 4096, 128]⟩
abbrev S1x2048x64 : Shape := ⟨3, ![1, 2048, 64]⟩
abbrev S1x4096x64 : Shape := ⟨3, ![1, 4096, 64]⟩
abbrev S1x2048x128 : Shape := ⟨3, ![1, 2048, 128]⟩
abbrev S2048x64 : Shape := ⟨2, ![2048, 64]⟩
abbrev S256x128 : Shape := ⟨2, ![256, 128]⟩
abbrev S2048x1 : Shape := ⟨2, ![2048, 1]⟩
abbrev S128x64 : Shape := ⟨2, ![128, 64]⟩
abbrev S128x1 : Shape := ⟨2, ![128, 1]⟩
abbrev S1x128x64 : Shape := ⟨3, ![1, 128, 64]⟩
abbrev S128x128 : Shape := ⟨2, ![128, 128]⟩
abbrev S128x256 : Shape := ⟨2, ![128, 256]⟩
abbrev S1920x64 : Shape := ⟨2, ![1920, 64]⟩
abbrev S1920x1 : Shape := ⟨2, ![1920, 1]⟩
abbrev S256x64 : Shape := ⟨2, ![256, 64]⟩
abbrev S256x1 : Shape := ⟨2, ![256, 1]⟩
abbrev S256x256 : Shape := ⟨2, ![256, 256]⟩
abbrev S1792x64 : Shape := ⟨2, ![1792, 64]⟩
abbrev S1792x1 : Shape := ⟨2, ![1792, 1]⟩
abbrev S384x64 : Shape := ⟨2, ![384, 64]⟩
abbrev S384x1 : Shape := ⟨2, ![384, 1]⟩
abbrev S384x128 : Shape := ⟨2, ![384, 128]⟩
abbrev S384x256 : Shape := ⟨2, ![384, 256]⟩
abbrev S1664x64 : Shape := ⟨2, ![1664, 64]⟩
abbrev S1664x1 : Shape := ⟨2, ![1664, 1]⟩
abbrev S512x64 : Shape := ⟨2, ![512, 64]⟩
abbrev S512x1 : Shape := ⟨2, ![512, 1]⟩
abbrev S512x128 : Shape := ⟨2, ![512, 128]⟩
abbrev S512x256 : Shape := ⟨2, ![512, 256]⟩
abbrev S1536x64 : Shape := ⟨2, ![1536, 64]⟩
abbrev S1536x1 : Shape := ⟨2, ![1536, 1]⟩
abbrev S640x64 : Shape := ⟨2, ![640, 64]⟩
abbrev S640x1 : Shape := ⟨2, ![640, 1]⟩
abbrev S640x128 : Shape := ⟨2, ![640, 128]⟩
abbrev S640x256 : Shape := ⟨2, ![640, 256]⟩
abbrev S1408x64 : Shape := ⟨2, ![1408, 64]⟩
abbrev S1408x1 : Shape := ⟨2, ![1408, 1]⟩
abbrev S768x64 : Shape := ⟨2, ![768, 64]⟩
abbrev S768x1 : Shape := ⟨2, ![768, 1]⟩
abbrev S768x128 : Shape := ⟨2, ![768, 128]⟩
abbrev S768x256 : Shape := ⟨2, ![768, 256]⟩
abbrev S1280x64 : Shape := ⟨2, ![1280, 64]⟩
abbrev S1280x1 : Shape := ⟨2, ![1280, 1]⟩
abbrev S896x64 : Shape := ⟨2, ![896, 64]⟩
abbrev S896x1 : Shape := ⟨2, ![896, 1]⟩
abbrev S896x128 : Shape := ⟨2, ![896, 128]⟩
abbrev S896x256 : Shape := ⟨2, ![896, 256]⟩
abbrev S1152x64 : Shape := ⟨2, ![1152, 64]⟩
abbrev S1152x1 : Shape := ⟨2, ![1152, 1]⟩
abbrev S1024x64 : Shape := ⟨2, ![1024, 64]⟩
abbrev S1024x1 : Shape := ⟨2, ![1024, 1]⟩
abbrev S1024x128 : Shape := ⟨2, ![1024, 128]⟩
abbrev S1024x256 : Shape := ⟨2, ![1024, 256]⟩
abbrev S1152x128 : Shape := ⟨2, ![1152, 128]⟩
abbrev S1152x256 : Shape := ⟨2, ![1152, 256]⟩
abbrev S1280x128 : Shape := ⟨2, ![1280, 128]⟩
abbrev S1280x256 : Shape := ⟨2, ![1280, 256]⟩
abbrev S1408x128 : Shape := ⟨2, ![1408, 128]⟩
abbrev S1408x256 : Shape := ⟨2, ![1408, 256]⟩
abbrev S1536x128 : Shape := ⟨2, ![1536, 128]⟩
abbrev S1536x256 : Shape := ⟨2, ![1536, 256]⟩
abbrev S1664x128 : Shape := ⟨2, ![1664, 128]⟩
abbrev S1664x256 : Shape := ⟨2, ![1664, 256]⟩
abbrev S1792x128 : Shape := ⟨2, ![1792, 128]⟩
abbrev S1792x256 : Shape := ⟨2, ![1792, 256]⟩
abbrev S1920x128 : Shape := ⟨2, ![1920, 128]⟩
abbrev S1920x256 : Shape := ⟨2, ![1920, 256]⟩
abbrev S2048x128 : Shape := ⟨2, ![2048, 128]⟩
abbrev S2048x256 : Shape := ⟨2, ![2048, 256]⟩

abbrev nBuf : Space → Nat
  | .hbm => 6
  | .vmem => 8
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S48x4096x64, .f32⟩
  | .hbm, ⟨4, _⟩ => ⟨S48x4096x64, .bf16⟩
  | .hbm, ⟨5, _⟩ => ⟨S16x4096x128, .f32⟩
  | .local _ .vmem, ⟨0, _⟩ => ⟨S1x2048x64, .bf16⟩
  | .local _ .vmem, ⟨1, _⟩ => ⟨S1x2048x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x2048x128, .f32⟩
  | .local _ .vmem, ⟨7, _⟩ => ⟨S1x2048x128, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c16_i32 : BitVec 32 := 16#32
  let v14 : BitVec 32 := Scalar.muli arg1 c16_i32
  let c15_i32 : BitVec 32 := 15#32
  let v15 : BitVec 32 := Scalar.addi v14 c15_i32
  let c128_i32 : BitVec 32 := 128#32
  let v19 : BitVec 32 := Scalar.muli v15 c128_i32
  v19
def k0_off1 (i : grid0.Coords) (c15_i32 : BitVec 32) : Fin 3 → Nat :=
  let c0_4 : Index := 0#32
  let arg1 : BitVec 32 := BitVec.ofNat 32 (i 1).val
  let c16_i32 : BitVec 32 := 16#32
  let v14 : BitVec 32 := Scalar.muli arg1 c16_i32
  let v15 : BitVec 32 := Scalar.addi v14 c15_i32
  let c128_i32 : BitVec 32 := 128#32
  let v19 : BitVec 32 := Scalar.muli v15 c128_i32
  let v20 : BitVec 32 := v19
  let v21 : Index := Scalar.indexCast v20
  let c0_5 : Index := 0#32
  ![0, v21.toNat, 0]
def k0_mult2 (i : grid0.Coords) : BitVec 32 :=
  let arg1 : BitVec 32 := BitVec.ofNat 32 (i 1).val
  let c16_i32_16 : BitVec 32 := 16#32
  let v67 : BitVec 32 := Scalar.muli arg1 c16_i32_16
  let c14_i32 : BitVec 32 := 14#32
  let v68 : BitVec 32 := Scalar.addi v67 c14_i32
  let c128_i32_17 : BitVec 32 := 128#32
  let v72 : BitVec 32 := Scalar.muli v68 c128_i32_17
  v72
def k0_mult3 (i : grid0.Coords) : BitVec 32 :=
  let arg1 : BitVec 32 := BitVec.ofNat 32 (i 1).val
  let c16_i32_30 : BitVec 32 := 16#32
  let v120 : BitVec 32 := Scalar.muli arg1 c16_i32_30
  let c13_i32 : BitVec 32 := 13#32
  let v121 : BitVec 32 := Scalar.addi v120 c13_i32
  let c128_i32_31 : BitVec 32 := 128#32
  let v125 : BitVec 32 := Scalar.muli v121 c128_i32_31
  v125
def k0_mult4 (i : grid0.Coords) : BitVec 32 :=
  let arg1 : BitVec 32 := BitVec.ofNat 32 (i 1).val
  let c16_i32_44 : BitVec 32 := 16#32
  let v173 : BitVec 32 := Scalar.muli arg1 c16_i32_44
  let c12_i32 : BitVec 32 := 12#32
  let v174 : BitVec 32 := Scalar.addi v173 c12_i32
  let c128_i32_45 : BitVec 32 := 128#32
  let v178 : BitVec 32 := Scalar.muli v174 c128_i32_45
  v178
def k0_mult5 (i : grid0.Coords) : BitVec 32 :=
  let arg1 : BitVec 32 := BitVec.ofNat 32 (i 1).val
  let c16_i32_58 : BitVec 32 := 16#32
  let v226 : BitVec 32 := Scalar.muli arg1 c16_i32_58
  let c11_i32 : BitVec 32 := 11#32
  let v227 : BitVec 32 := Scalar.addi v226 c11_i32
  let c128_i32_59 : BitVec 32 := 128#32
  let v231 : BitVec 32 := Scalar.muli v227 c128_i32_59
  v231
def k0_mult6 (i : grid0.Coords) : BitVec 32 :=
  let arg1 : BitVec 32 := BitVec.ofNat 32 (i 1).val
  let c16_i32_72 : BitVec 32 := 16#32
  let v279 : BitVec 32 := Scalar.muli arg1 c16_i32_72
  let c10_i32 : BitVec 32 := 10#32
  let v280 : BitVec 32 := Scalar.addi v279 c10_i32
  let c128_i32_73 : BitVec 32 := 128#32
  let v284 : BitVec 32 := Scalar.muli v280 c128_i32_73
  v284
def k0_mult7 (i : grid0.Coords) : BitVec 32 :=
  let arg1 : BitVec 32 := BitVec.ofNat 32 (i 1).val
  let c16_i32_86 : BitVec 32 := 16#32
  let v332 : BitVec 32 := Scalar.muli arg1 c16_i32_86
  let c9_i32 : BitVec 32 := 9#32
  let v333 : BitVec 32 := Scalar.addi v332 c9_i32
  let c128_i32_87 : BitVec 32 := 128#32
  let v337 : BitVec 32 := Scalar.muli v333 c128_i32_87
  v337
def k0_mult8 (i : grid0.Coords) : BitVec 32 :=
  let arg1 : BitVec 32 := BitVec.ofNat 32 (i 1).val
  let c16_i32_100 : BitVec 32 := 16#32
  let v385 : BitVec 32 := Scalar.muli arg1 c16_i32_100
  let c8_i32 : BitVec 32 := 8#32
  let v386 : BitVec 32 := Scalar.addi v385 c8_i32
  let c128_i32_101 : BitVec 32 := 128#32
  let v390 : BitVec 32 := Scalar.muli v386 c128_i32_101
  v390
def k0_mult9 (i : grid0.Coords) : BitVec 32 :=
  let arg1 : BitVec 32 := BitVec.ofNat 32 (i 1).val
  let c16_i32_114 : BitVec 32 := 16#32
  let v438 : BitVec 32 := Scalar.muli arg1 c16_i32_114
  let c7_i32 : BitVec 32 := 7#32
  let v439 : BitVec 32 := Scalar.addi v438 c7_i32
  let c128_i32_115 : BitVec 32 := 128#32
  let v443 : BitVec 32 := Scalar.muli v439 c128_i32_115
  v443
def k0_mult10 (i : grid0.Coords) : BitVec 32 :=
  let arg1 : BitVec 32 := BitVec.ofNat 32 (i 1).val
  let c16_i32_128 : BitVec 32 := 16#32
  let v491 : BitVec 32 := Scalar.muli arg1 c16_i32_128
  let c6_i32 : BitVec 32 := 6#32
  let v492 : BitVec 32 := Scalar.addi v491 c6_i32
  let c128_i32_129 : BitVec 32 := 128#32
  let v496 : BitVec 32 := Scalar.muli v492 c128_i32_129
  v496
def k0_mult11 (i : grid0.Coords) : BitVec 32 :=
  let arg1 : BitVec 32 := BitVec.ofNat 32 (i 1).val
  let c16_i32_142 : BitVec 32 := 16#32
  let v544 : BitVec 32 := Scalar.muli arg1 c16_i32_142
  let c5_i32 : BitVec 32 := 5#32
  let v545 : BitVec 32 := Scalar.addi v544 c5_i32
  let c128_i32_143 : BitVec 32 := 128#32
  let v549 : BitVec 32 := Scalar.muli v545 c128_i32_143
  v549
def k0_mult12 (i : grid0.Coords) : BitVec 32 :=
  let arg1 : BitVec 32 := BitVec.ofNat 32 (i 1).val
  let c16_i32_156 : BitVec 32 := 16#32
  let v597 : BitVec 32 := Scalar.muli arg1 c16_i32_156
  let c4_i32 : BitVec 32 := 4#32
  let v598 : BitVec 32 := Scalar.addi v597 c4_i32
  let c128_i32_157 : BitVec 32 := 128#32
  let v602 : BitVec 32 := Scalar.muli v598 c128_i32_157
  v602
def k0_mult13 (i : grid0.Coords) : BitVec 32 :=
  let arg1 : BitVec 32 := BitVec.ofNat 32 (i 1).val
  let c16_i32_170 : BitVec 32 := 16#32
  let v650 : BitVec 32 := Scalar.muli arg1 c16_i32_170
  let c3_i32 : BitVec 32 := 3#32
  let v651 : BitVec 32 := Scalar.addi v650 c3_i32
  let c128_i32_171 : BitVec 32 := 128#32
  let v655 : BitVec 32 := Scalar.muli v651 c128_i32_171
  v655
def k0_mult14 (i : grid0.Coords) : BitVec 32 :=
  let arg1 : BitVec 32 := BitVec.ofNat 32 (i 1).val
  let c16_i32_184 : BitVec 32 := 16#32
  let v703 : BitVec 32 := Scalar.muli arg1 c16_i32_184
  let c2_i32 : BitVec 32 := 2#32
  let v704 : BitVec 32 := Scalar.addi v703 c2_i32
  let c128_i32_185 : BitVec 32 := 128#32
  let v708 : BitVec 32 := Scalar.muli v704 c128_i32_185
  v708
def k0_mult15 (i : grid0.Coords) : BitVec 32 :=
  let arg1 : BitVec 32 := BitVec.ofNat 32 (i 1).val
  let c16_i32_198 : BitVec 32 := 16#32
  let v756 : BitVec 32 := Scalar.muli arg1 c16_i32_198
  let c1_i32 : BitVec 32 := 1#32
  let v757 : BitVec 32 := Scalar.addi v756 c1_i32
  let c128_i32_199 : BitVec 32 := 128#32
  let v761 : BitVec 32 := Scalar.muli v757 c128_i32_199
  v761
def k0_mult16 (i : grid0.Coords) : BitVec 32 :=
  let arg1 : BitVec 32 := BitVec.ofNat 32 (i 1).val
  let c16_i32_212 : BitVec 32 := 16#32
  let v809 : BitVec 32 := Scalar.muli arg1 c16_i32_212
  let c0_i32 : BitVec 32 := 0#32
  let v810 : BitVec 32 := Scalar.addi v809 c0_i32
  let c128_i32_213 : BitVec 32 := 128#32
  let v811 : BitVec 32 := Scalar.muli v810 c128_i32_213
  v811
@[reducible] def k0_t1_loop (i : grid0.Coords) : Scf.Loop 32 :=
  let c0_i32_227 : BitVec 32 := 0#32
  let arg1 : BitVec 32 := BitVec.ofNat 32 (i 1).val
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_229 : BitVec 32 := 1#32
  ⟨c0_i32_227, v860, c1_i32_229⟩
def k0_mult17 (i : grid0.Coords) (k0_t1 : Fin (k0_t1_loop i).trips) : BitVec 32 :=
  let arg1 : BitVec 32 := BitVec.ofNat 32 (i 1).val
  let c16_i32_234 : BitVec 32 := 16#32
  let v869 : BitVec 32 := Scalar.muli arg1 c16_i32_234
  let c1_i32_235 : BitVec 32 := 1#32
  let v870 : BitVec 32 := Scalar.subi v869 c1_i32_235
  let c8_i32_236 : BitVec 32 := 8#32
  let c0_i32_227 : BitVec 32 := 0#32
  let c1_i32_229 : BitVec 32 := 1#32
  let arg6 : BitVec 32 := Scf.iv c0_i32_227 c1_i32_229 k0_t1
  let v871 : BitVec 32 := Scalar.muli c8_i32_236 arg6
  let v872 : BitVec 32 := Scalar.subi v870 v871
  let c0_i32_237 : BitVec 32 := 0#32
  let v873 : BitVec 32 := Scalar.subi v872 c0_i32_237
  let c128_i32_238 : BitVec 32 := 128#32
  let v874 : BitVec 32 := Scalar.muli v873 c128_i32_238
  v874
def k0_off2 (i : grid0.Coords) (k0_t1 : Fin (k0_t1_loop i).trips) (c0_i32_237 : BitVec 32) : Fin 3 → Nat :=
  let c0_239 : Index := 0#32
  let arg1 : BitVec 32 := BitVec.ofNat 32 (i 1).val
  let c16_i32_234 : BitVec 32 := 16#32
  let v869 : BitVec 32 := Scalar.muli arg1 c16_i32_234
  let c1_i32_235 : BitVec 32 := 1#32
  let v870 : BitVec 32 := Scalar.subi v869 c1_i32_235
  let c8_i32_236 : BitVec 32 := 8#32
  let c0_i32_227 : BitVec 32 := 0#32
  let c1_i32_229 : BitVec 32 := 1#32
  let arg6 : BitVec 32 := Scf.iv c0_i32_227 c1_i32_229 k0_t1
  let v871 : BitVec 32 := Scalar.muli c8_i32_236 arg6
  let v872 : BitVec 32 := Scalar.subi v870 v871
  let v873 : BitVec 32 := Scalar.subi v872 c0_i32_237
  let c128_i32_238 : BitVec 32 := 128#32
  let v874 : BitVec 32 := Scalar.muli v873 c128_i32_238
  let v875 : BitVec 32 := v874
  let v876 : Index := Scalar.indexCast v875
  let c0_240 : Index := 0#32
  ![0, v876.toNat, 0]
def k0_mult18 (i : grid0.Coords) (k0_t1 : Fin (k0_t1_loop i).trips) : BitVec 32 :=
  let arg1 : BitVec 32 := BitVec.ofNat 32 (i 1).val
  let c16_i32_249 : BitVec 32 := 16#32
  let v911 : BitVec 32 := Scalar.muli arg1 c16_i32_249
  let c1_i32_250 : BitVec 32 := 1#32
  let v912 : BitVec 32 := Scalar.subi v911 c1_i32_250
  let c8_i32_251 : BitVec 32 := 8#32
  let c0_i32_227 : BitVec 32 := 0#32
  let c1_i32_229 : BitVec 32 := 1#32
  let arg6 : BitVec 32 := Scf.iv c0_i32_227 c1_i32_229 k0_t1
  let v913 : BitVec 32 := Scalar.muli c8_i32_251 arg6
  let v914 : BitVec 32 := Scalar.subi v912 v913
  let c1_i32_252 : BitVec 32 := 1#32
  let v915 : BitVec 32 := Scalar.subi v914 c1_i32_252
  let c128_i32_253 : BitVec 32 := 128#32
  let v916 : BitVec 32 := Scalar.muli v915 c128_i32_253
  v916
def k0_mult19 (i : grid0.Coords) (k0_t1 : Fin (k0_t1_loop i).trips) : BitVec 32 :=
  let arg1 : BitVec 32 := BitVec.ofNat 32 (i 1).val
  let c16_i32_264 : BitVec 32 := 16#32
  let v953 : BitVec 32 := Scalar.muli arg1 c16_i32_264
  let c1_i32_265 : BitVec 32 := 1#32
  let v954 : BitVec 32 := Scalar.subi v953 c1_i32_265
  let c8_i32_266 : BitVec 32 := 8#32
  let c0_i32_227 : BitVec 32 := 0#32
  let c1_i32_229 : BitVec 32 := 1#32
  let arg6 : BitVec 32 := Scf.iv c0_i32_227 c1_i32_229 k0_t1
  let v955 : BitVec 32 := Scalar.muli c8_i32_266 arg6
  let v956 : BitVec 32 := Scalar.subi v954 v955
  let c2_i32_267 : BitVec 32 := 2#32
  let v957 : BitVec 32 := Scalar.subi v956 c2_i32_267
  let c128_i32_268 : BitVec 32 := 128#32
  let v958 : BitVec 32 := Scalar.muli v957 c128_i32_268
  v958
def k0_mult20 (i : grid0.Coords) (k0_t1 : Fin (k0_t1_loop i).trips) : BitVec 32 :=
  let arg1 : BitVec 32 := BitVec.ofNat 32 (i 1).val
  let c16_i32_279 : BitVec 32 := 16#32
  let v995 : BitVec 32 := Scalar.muli arg1 c16_i32_279
  let c1_i32_280 : BitVec 32 := 1#32
  let v996 : BitVec 32 := Scalar.subi v995 c1_i32_280
  let c8_i32_281 : BitVec 32 := 8#32
  let c0_i32_227 : BitVec 32 := 0#32
  let c1_i32_229 : BitVec 32 := 1#32
  let arg6 : BitVec 32 := Scf.iv c0_i32_227 c1_i32_229 k0_t1
  let v997 : BitVec 32 := Scalar.muli c8_i32_281 arg6
  let v998 : BitVec 32 := Scalar.subi v996 v997
  let c3_i32_282 : BitVec 32 := 3#32
  let v999 : BitVec 32 := Scalar.subi v998 c3_i32_282
  let c128_i32_283 : BitVec 32 := 128#32
  let v1000 : BitVec 32 := Scalar.muli v999 c128_i32_283
  v1000
def k0_mult21 (i : grid0.Coords) (k0_t1 : Fin (k0_t1_loop i).trips) : BitVec 32 :=
  let arg1 : BitVec 32 := BitVec.ofNat 32 (i 1).val
  let c16_i32_294 : BitVec 32 := 16#32
  let v1037 : BitVec 32 := Scalar.muli arg1 c16_i32_294
  let c1_i32_295 : BitVec 32 := 1#32
  let v1038 : BitVec 32 := Scalar.subi v1037 c1_i32_295
  let c8_i32_296 : BitVec 32 := 8#32
  let c0_i32_227 : BitVec 32 := 0#32
  let c1_i32_229 : BitVec 32 := 1#32
  let arg6 : BitVec 32 := Scf.iv c0_i32_227 c1_i32_229 k0_t1
  let v1039 : BitVec 32 := Scalar.muli c8_i32_296 arg6
  let v1040 : BitVec 32 := Scalar.subi v1038 v1039
  let c4_i32_297 : BitVec 32 := 4#32
  let v1041 : BitVec 32 := Scalar.subi v1040 c4_i32_297
  let c128_i32_298 : BitVec 32 := 128#32
  let v1042 : BitVec 32 := Scalar.muli v1041 c128_i32_298
  v1042
def k0_mult22 (i : grid0.Coords) (k0_t1 : Fin (k0_t1_loop i).trips) : BitVec 32 :=
  let arg1 : BitVec 32 := BitVec.ofNat 32 (i 1).val
  let c16_i32_309 : BitVec 32 := 16#32
  let v1079 : BitVec 32 := Scalar.muli arg1 c16_i32_309
  let c1_i32_310 : BitVec 32 := 1#32
  let v1080 : BitVec 32 := Scalar.subi v1079 c1_i32_310
  let c8_i32_311 : BitVec 32 := 8#32
  let c0_i32_227 : BitVec 32 := 0#32
  let c1_i32_229 : BitVec 32 := 1#32
  let arg6 : BitVec 32 := Scf.iv c0_i32_227 c1_i32_229 k0_t1
  let v1081 : BitVec 32 := Scalar.muli c8_i32_311 arg6
  let v1082 : BitVec 32 := Scalar.subi v1080 v1081
  let c5_i32_312 : BitVec 32 := 5#32
  let v1083 : BitVec 32 := Scalar.subi v1082 c5_i32_312
  let c128_i32_313 : BitVec 32 := 128#32
  let v1084 : BitVec 32 := Scalar.muli v1083 c128_i32_313
  v1084
def k0_mult23 (i : grid0.Coords) (k0_t1 : Fin (k0_t1_loop i).trips) : BitVec 32 :=
  let arg1 : BitVec 32 := BitVec.ofNat 32 (i 1).val
  let c16_i32_324 : BitVec 32 := 16#32
  let v1121 : BitVec 32 := Scalar.muli arg1 c16_i32_324
  let c1_i32_325 : BitVec 32 := 1#32
  let v1122 : BitVec 32 := Scalar.subi v1121 c1_i32_325
  let c8_i32_326 : BitVec 32 := 8#32
  let c0_i32_227 : BitVec 32 := 0#32
  let c1_i32_229 : BitVec 32 := 1#32
  let arg6 : BitVec 32 := Scf.iv c0_i32_227 c1_i32_229 k0_t1
  let v1123 : BitVec 32 := Scalar.muli c8_i32_326 arg6
  let v1124 : BitVec 32 := Scalar.subi v1122 v1123
  let c6_i32_327 : BitVec 32 := 6#32
  let v1125 : BitVec 32 := Scalar.subi v1124 c6_i32_327
  let c128_i32_328 : BitVec 32 := 128#32
  let v1126 : BitVec 32 := Scalar.muli v1125 c128_i32_328
  v1126
def k0_mult24 (i : grid0.Coords) (k0_t1 : Fin (k0_t1_loop i).trips) : BitVec 32 :=
  let arg1 : BitVec 32 := BitVec.ofNat 32 (i 1).val
  let c16_i32_339 : BitVec 32 := 16#32
  let v1163 : BitVec 32 := Scalar.muli arg1 c16_i32_339
  let c1_i32_340 : BitVec 32 := 1#32
  let v1164 : BitVec 32 := Scalar.subi v1163 c1_i32_340
  let c8_i32_341 : BitVec 32 := 8#32
  let c0_i32_227 : BitVec 32 := 0#32
  let c1_i32_229 : BitVec 32 := 1#32
  let arg6 : BitVec 32 := Scf.iv c0_i32_227 c1_i32_229 k0_t1
  let v1165 : BitVec 32 := Scalar.muli c8_i32_341 arg6
  let v1166 : BitVec 32 := Scalar.subi v1164 v1165
  let c7_i32_342 : BitVec 32 := 7#32
  let v1167 : BitVec 32 := Scalar.subi v1166 c7_i32_342
  let c128_i32_343 : BitVec 32 := 128#32
  let v1168 : BitVec 32 := Scalar.muli v1167 c128_i32_343
  v1168
@[reducible] def k0_t2_loop (i : grid0.Coords) : Scf.Loop 32 :=
  let c0_i32_227 : BitVec 32 := 0#32
  let arg1 : BitVec 32 := BitVec.ofNat 32 (i 1).val
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let v857 : BitVec 32 := Scalar.addi c0_i32_227 v856
  let c1_i32_230 : BitVec 32 := 1#32
  ⟨v860, v857, c1_i32_230⟩
def k0_mult25 (i : grid0.Coords) (k0_t2 : Fin (k0_t2_loop i).trips) : BitVec 32 :=
  let arg1 : BitVec 32 := BitVec.ofNat 32 (i 1).val
  let c16_i32_234 : BitVec 32 := 16#32
  let v869 : BitVec 32 := Scalar.muli arg1 c16_i32_234
  let c1_i32_235 : BitVec 32 := 1#32
  let v870 : BitVec 32 := Scalar.subi v869 c1_i32_235
  let c8_i32_236 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v871 : BitVec 32 := Scalar.muli c8_i32_236 arg6
  let v872 : BitVec 32 := Scalar.subi v870 v871
  let c0_i32_237 : BitVec 32 := 0#32
  let v873 : BitVec 32 := Scalar.subi v872 c0_i32_237
  let c128_i32_238 : BitVec 32 := 128#32
  let v874 : BitVec 32 := Scalar.muli v873 c128_i32_238
  v874
def k0_off3 (i : grid0.Coords) (k0_t2 : Fin (k0_t2_loop i).trips) (c0_i32_237 : BitVec 32) : Fin 3 → Nat :=
  let c0_239 : Index := 0#32
  let arg1 : BitVec 32 := BitVec.ofNat 32 (i 1).val
  let c16_i32_234 : BitVec 32 := 16#32
  let v869 : BitVec 32 := Scalar.muli arg1 c16_i32_234
  let c1_i32_235 : BitVec 32 := 1#32
  let v870 : BitVec 32 := Scalar.subi v869 c1_i32_235
  let c8_i32_236 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v871 : BitVec 32 := Scalar.muli c8_i32_236 arg6
  let v872 : BitVec 32 := Scalar.subi v870 v871
  let v873 : BitVec 32 := Scalar.subi v872 c0_i32_237
  let c128_i32_238 : BitVec 32 := 128#32
  let v874 : BitVec 32 := Scalar.muli v873 c128_i32_238
  let v875 : BitVec 32 := v874
  let v876 : Index := Scalar.indexCast v875
  let c0_240 : Index := 0#32
  ![0, v876.toNat, 0]
def k0_mult26 (i : grid0.Coords) (k0_t2 : Fin (k0_t2_loop i).trips) : BitVec 32 :=
  let arg1 : BitVec 32 := BitVec.ofNat 32 (i 1).val
  let c16_i32_249 : BitVec 32 := 16#32
  let v911 : BitVec 32 := Scalar.muli arg1 c16_i32_249
  let c1_i32_250 : BitVec 32 := 1#32
  let v912 : BitVec 32 := Scalar.subi v911 c1_i32_250
  let c8_i32_251 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v913 : BitVec 32 := Scalar.muli c8_i32_251 arg6
  let v914 : BitVec 32 := Scalar.subi v912 v913
  let c1_i32_252 : BitVec 32 := 1#32
  let v915 : BitVec 32 := Scalar.subi v914 c1_i32_252
  let c128_i32_253 : BitVec 32 := 128#32
  let v916 : BitVec 32 := Scalar.muli v915 c128_i32_253
  v916
def k0_mult27 (i : grid0.Coords) (k0_t2 : Fin (k0_t2_loop i).trips) : BitVec 32 :=
  let arg1 : BitVec 32 := BitVec.ofNat 32 (i 1).val
  let c16_i32_264 : BitVec 32 := 16#32
  let v953 : BitVec 32 := Scalar.muli arg1 c16_i32_264
  let c1_i32_265 : BitVec 32 := 1#32
  let v954 : BitVec 32 := Scalar.subi v953 c1_i32_265
  let c8_i32_266 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v955 : BitVec 32 := Scalar.muli c8_i32_266 arg6
  let v956 : BitVec 32 := Scalar.subi v954 v955
  let c2_i32_267 : BitVec 32 := 2#32
  let v957 : BitVec 32 := Scalar.subi v956 c2_i32_267
  let c128_i32_268 : BitVec 32 := 128#32
  let v958 : BitVec 32 := Scalar.muli v957 c128_i32_268
  v958
def k0_mult28 (i : grid0.Coords) (k0_t2 : Fin (k0_t2_loop i).trips) : BitVec 32 :=
  let arg1 : BitVec 32 := BitVec.ofNat 32 (i 1).val
  let c16_i32_279 : BitVec 32 := 16#32
  let v995 : BitVec 32 := Scalar.muli arg1 c16_i32_279
  let c1_i32_280 : BitVec 32 := 1#32
  let v996 : BitVec 32 := Scalar.subi v995 c1_i32_280
  let c8_i32_281 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v997 : BitVec 32 := Scalar.muli c8_i32_281 arg6
  let v998 : BitVec 32 := Scalar.subi v996 v997
  let c3_i32_282 : BitVec 32 := 3#32
  let v999 : BitVec 32 := Scalar.subi v998 c3_i32_282
  let c128_i32_283 : BitVec 32 := 128#32
  let v1000 : BitVec 32 := Scalar.muli v999 c128_i32_283
  v1000
def k0_mult29 (i : grid0.Coords) (k0_t2 : Fin (k0_t2_loop i).trips) : BitVec 32 :=
  let arg1 : BitVec 32 := BitVec.ofNat 32 (i 1).val
  let c16_i32_294 : BitVec 32 := 16#32
  let v1037 : BitVec 32 := Scalar.muli arg1 c16_i32_294
  let c1_i32_295 : BitVec 32 := 1#32
  let v1038 : BitVec 32 := Scalar.subi v1037 c1_i32_295
  let c8_i32_296 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v1039 : BitVec 32 := Scalar.muli c8_i32_296 arg6
  let v1040 : BitVec 32 := Scalar.subi v1038 v1039
  let c4_i32_297 : BitVec 32 := 4#32
  let v1041 : BitVec 32 := Scalar.subi v1040 c4_i32_297
  let c128_i32_298 : BitVec 32 := 128#32
  let v1042 : BitVec 32 := Scalar.muli v1041 c128_i32_298
  v1042
def k0_mult30 (i : grid0.Coords) (k0_t2 : Fin (k0_t2_loop i).trips) : BitVec 32 :=
  let arg1 : BitVec 32 := BitVec.ofNat 32 (i 1).val
  let c16_i32_309 : BitVec 32 := 16#32
  let v1079 : BitVec 32 := Scalar.muli arg1 c16_i32_309
  let c1_i32_310 : BitVec 32 := 1#32
  let v1080 : BitVec 32 := Scalar.subi v1079 c1_i32_310
  let c8_i32_311 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v1081 : BitVec 32 := Scalar.muli c8_i32_311 arg6
  let v1082 : BitVec 32 := Scalar.subi v1080 v1081
  let c5_i32_312 : BitVec 32 := 5#32
  let v1083 : BitVec 32 := Scalar.subi v1082 c5_i32_312
  let c128_i32_313 : BitVec 32 := 128#32
  let v1084 : BitVec 32 := Scalar.muli v1083 c128_i32_313
  v1084
def k0_mult31 (i : grid0.Coords) (k0_t2 : Fin (k0_t2_loop i).trips) : BitVec 32 :=
  let arg1 : BitVec 32 := BitVec.ofNat 32 (i 1).val
  let c16_i32_324 : BitVec 32 := 16#32
  let v1121 : BitVec 32 := Scalar.muli arg1 c16_i32_324
  let c1_i32_325 : BitVec 32 := 1#32
  let v1122 : BitVec 32 := Scalar.subi v1121 c1_i32_325
  let c8_i32_326 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v1123 : BitVec 32 := Scalar.muli c8_i32_326 arg6
  let v1124 : BitVec 32 := Scalar.subi v1122 v1123
  let c6_i32_327 : BitVec 32 := 6#32
  let v1125 : BitVec 32 := Scalar.subi v1124 c6_i32_327
  let c128_i32_328 : BitVec 32 := 128#32
  let v1126 : BitVec 32 := Scalar.muli v1125 c128_i32_328
  v1126
def k0_mult32 (i : grid0.Coords) (k0_t2 : Fin (k0_t2_loop i).trips) : BitVec 32 :=
  let arg1 : BitVec 32 := BitVec.ofNat 32 (i 1).val
  let c16_i32_339 : BitVec 32 := 16#32
  let v1163 : BitVec 32 := Scalar.muli arg1 c16_i32_339
  let c1_i32_340 : BitVec 32 := 1#32
  let v1164 : BitVec 32 := Scalar.subi v1163 c1_i32_340
  let c8_i32_341 : BitVec 32 := 8#32
  let c0_i32_227 : BitVec 32 := 0#32
  let c2_i32_226 : BitVec 32 := 2#32
  let v855 : BitVec 32 := Scalar.muli arg1 c2_i32_226
  let v856 : BitVec 32 := Scalar.subi v855 c0_i32_227
  let c1_i32_228 : BitVec 32 := 1#32
  let v858 : BitVec 32 := Scalar.divsi v856 c1_i32_228
  let v859 : BitVec 32 := Scalar.muli v858 c1_i32_228
  let v860 : BitVec 32 := Scalar.addi c0_i32_227 v859
  let c1_i32_230 : BitVec 32 := 1#32
  let arg6 : BitVec 32 := Scf.iv v860 c1_i32_230 k0_t2
  let v1165 : BitVec 32 := Scalar.muli c8_i32_341 arg6
  let v1166 : BitVec 32 := Scalar.subi v1164 v1165
  let c7_i32_342 : BitVec 32 := 7#32
  let v1167 : BitVec 32 := Scalar.subi v1166 c7_i32_342
  let c128_i32_343 : BitVec 32 := 128#32
  let v1168 : BitVec 32 := Scalar.muli v1167 c128_i32_343
  v1168
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FwdRefIdeal.lean ====
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x1 : Shape := ⟨3, ![16, 4096, 1]⟩
abbrev S16x4096x128 : Shape := ⟨3, ![16, 4096, 128]⟩

abbrev nBuf : Space → Nat
  | .hbm => 67
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x4096, .f32⟩
  | .hbm, ⟨4, _⟩ => ⟨S_, .f32⟩
  | .hbm, ⟨5, _⟩ => ⟨S16x4096x4096, .f32⟩
  | .hbm, ⟨6, _⟩ => ⟨S16x4096x4096, .f32⟩
  | .hbm, ⟨7, _⟩ => ⟨S4096, .i32⟩
  | .hbm, ⟨8, _⟩ => ⟨S1x4096, .i32⟩
  | .hbm, ⟨9, _⟩ => ⟨S4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S16x4096x4096, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S16x4096x4096, .i1⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .i1⟩
  | .hbm, ⟨38, _⟩ => ⟨S16x4096x4096, .f32⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S_, .f32⟩
  | .hbm, ⟨48, _⟩ => ⟨S_, .f32⟩
  | .hbm, ⟨49, _⟩ => ⟨S16x4096x4096, .i1⟩
  | .hbm, ⟨50, _⟩ => ⟨S16x4096x4096, .f32⟩
  | .hbm, ⟨51, _⟩ => ⟨S16x4096x4096, .f32⟩
  | .hbm, ⟨52, _⟩ => ⟨S_, .f32⟩
  | .hbm, ⟨53, _⟩ => ⟨S_, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S_, .f32⟩
  | .hbm, ⟨59, _⟩ => ⟨S16x4096x4096, .i1⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x64, .f32⟩
  | .hbm, ⟨64, _⟩ => ⟨S16x4096x1, .f32⟩
  | .hbm, ⟨65, _⟩ => ⟨S16x4096x64, .f32⟩
  | .hbm, ⟨66, _⟩ => ⟨S16x4096x128, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v12 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v13 : Ref sig .tc := ⟨.hbm, 51, rfl⟩
abbrev main_call3_cst : Ref sig .tc := ⟨.hbm, 52, rfl⟩
abbrev main_call3_v0 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩

abbrev nD : Nat := 1
abbrev τ : Topo := Topo.v7x

variable {F : FTy → Type} [FloatOps F]
-- ==== Small.lean ====
abbrev S8x15360 : Shape := ⟨2, ![8, 15360]⟩
abbrev S8x1024 : Shape := ⟨2, ![8, 1024]⟩
abbrev S8x384 : Shape := ⟨2, ![8, 384]⟩
abbrev S1x15360 : Shape := ⟨2, ![1, 15360]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S8x15360, .f32⟩
  | .hbm, ⟨1, _⟩ => ⟨S8x1024, .f32⟩
  | .hbm, ⟨2, _⟩ => ⟨S8x384, .f32⟩
  | .hbm, ⟨3, _⟩ => ⟨S1x15360, .f32⟩
  | .hbm, ⟨4, _⟩ => ⟨S1024x384, .f32⟩
  | .local _ .vmem, ⟨0, _⟩ => ⟨S8x15360, .f32⟩
  | .local _ .vmem, ⟨1, _⟩ => ⟨S8x1024, .f32⟩
  | .local _ .vmem, ⟨2, _⟩ => ⟨S8x384, .f32⟩
  | .local _ .vmem, ⟨3, _⟩ => ⟨S1x15360, .f32⟩
  | .local _ .vmem, ⟨4, _⟩ => ⟨S1024x384, .f32⟩
  | _, _ => ⟨S8x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x15360 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x15360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== SmallRefIdeal.lean ====
abbrev S8x15360 : Shape := ⟨2, ![8, 15360]⟩
abbrev S8x1024 : Shape := ⟨2, ![8, 1024]⟩
abbrev S8x384 : Shape := ⟨2, ![8, 384]⟩
abbrev S_ : Shape := ⟨0, ![]⟩
abbrev S1x15360 : Shape := ⟨2, ![1, 15360]⟩
abbrev S15360 : Shape := ⟨1, ![15360]⟩
abbrev S1024x384 : Shape := ⟨2, ![1024, 384]⟩
abbrev S384x1024 : Shape := ⟨2, ![384, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x15360, .f32⟩
  | .hbm, ⟨1, _⟩ => ⟨S8x1024, .f32⟩
  | .hbm, ⟨2, _⟩ => ⟨S8x384, .f32⟩
  | .hbm, ⟨3, _⟩ => ⟨S_, .f32⟩
  | .hbm, ⟨4, _⟩ => ⟨S1x15360, .f32⟩
  | .hbm, ⟨5, _⟩ => ⟨S8x15360, .f32⟩
  | .hbm, ⟨6, _⟩ => ⟨S_, .f32⟩
  | .hbm, ⟨7, _⟩ => ⟨S15360, .f32⟩
  | .hbm, ⟨8, _⟩ => ⟨S1x15360, .f32⟩
  | .hbm, ⟨9, _⟩ => ⟨S_, .f32⟩
  | .hbm, ⟨10, _⟩ => ⟨S1024x384, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x384, .f32⟩
  | .hbm, ⟨21, _⟩ => ⟨S384x1024, .f32⟩
  | .hbm, ⟨22, _⟩ => ⟨S1024x384, .f32⟩
  | _, _ => ⟨S8x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x6672 : Shape := ⟨2, ![1024, 6672]⟩
abbrev S1024x4096 : Shape := ⟨2, ![1024, 4096]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x6784 : Shape := ⟨2, ![1024, 6784]⟩
abbrev S48x4096x64 : Shape := ⟨3, ![48, 4096, 64]⟩
abbrev S4096x1536 : Shape := ⟨2, ![4096, 1536]⟩
abbrev S4096x128 : Shape := ⟨2, ![4096, 128]⟩
abbrev S256x1024 : Shape := ⟨2, ![256, 1024]⟩
abbrev S1024x256 : Shape := ⟨2, ![1024, 256]⟩
abbrev S48x256x64 : Shape := ⟨3, ![48, 256, 64]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x64 : Shape := ⟨2, ![256, 64]⟩
abbrev S1x256x64 : Shape := ⟨3, ![1, 256, 64]⟩
abbrev S1024x512 : Shape := ⟨2, ![1024, 512]⟩
abbrev S256x512 : Shape := ⟨2, ![256, 512]⟩

abbrev nBuf : Space → Nat
  | .hbm => 20
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6672, .f32⟩
  | .hbm, ⟨5, _⟩ => ⟨S1024x6672, .bf16⟩
  | .hbm, ⟨6, _⟩ => ⟨S1024x4096, .bf16⟩
  | .hbm, ⟨7, _⟩ => ⟨S1024x1024, .bf16⟩
  | .hbm, ⟨8, _⟩ => ⟨S1024x1536, .bf16⟩
  | .hbm, ⟨9, _⟩ => ⟨S1024x16, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S1024x6784, .bf16⟩
  | .hbm, ⟨14, _⟩ => ⟨S1024x4096, .bf16⟩
  | .hbm, ⟨15, _⟩ => ⟨S48x4096x64, .bf16⟩
  | .hbm, ⟨16, _⟩ => ⟨S4096x1024, .f32⟩
  | .hbm, ⟨17, _⟩ => ⟨S4096x1024, .f32⟩
  | .hbm, ⟨18, _⟩ => ⟨S4096x1536, .f32⟩
  | .hbm, ⟨19, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x6784, .bf16⟩
  | .local _ .vmem, ⟨6, _⟩ => ⟨S1024x256, .bf16⟩
  | .local _ .vmem, ⟨7, _⟩ => ⟨S1024x256, .bf16⟩
  | .local _ .vmem, ⟨8, _⟩ => ⟨S48x256x64, .bf16⟩
  | .local _ .vmem, ⟨9, _⟩ => ⟨S48x256x64, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1536, .f32⟩
  | .local _ .vmem, ⟨15, _⟩ => ⟨S256x1536, .f32⟩
  | .local _ .vmem, ⟨16, _⟩ => ⟨S256x128, .f32⟩
  | .local _ .vmem, ⟨17, _⟩ => ⟨S256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x6784 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S4096x1024 : Shape := ⟨2, ![4096, 1024]⟩
abbrev S1x1024 : Shape := ⟨2, ![1, 1024]⟩
abbrev S1024x6672 : Shape := ⟨2, ![1024, 6672]⟩
abbrev S_ : Shape := ⟨0, ![]⟩
abbrev S4096 : Shape := ⟨1, ![4096]⟩
abbrev S4096x1 : Shape := ⟨2, ![4096, 1]⟩
abbrev S4096x6672 : Shape := ⟨2, ![4096, 6672]⟩
abbrev S4096x3072 : Shape := ⟨2, ![4096, 3072]⟩
abbrev S4096x1536 : Shape := ⟨2, ![4096, 1536]⟩
abbrev S4096x16 : Shape := ⟨2, ![4096, 16]⟩
abbrev S4096x48x64 : Shape := ⟨3, ![4096, 48, 64]⟩
abbrev S48x4096x64 : Shape := ⟨3, ![48, 4096, 64]⟩
abbrev S1024x4096 : Shape := ⟨2, ![1024, 4096]⟩
abbrev S4096x128 : Shape := ⟨2, ![4096, 128]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6672, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x6672, .f32⟩
  | .hbm, ⟨28, _⟩ => ⟨S4096x3072, .f32⟩
  | .hbm, ⟨29, _⟩ => ⟨S4096x1024, .f32⟩
  | .hbm, ⟨30, _⟩ => ⟨S4096x1536, .f32⟩
  | .hbm, ⟨31, _⟩ => ⟨S4096x16, .f32⟩
  | .hbm, ⟨32, _⟩ => ⟨S4096x1024, .f32⟩
  | .hbm, ⟨33, _⟩ => ⟨S4096x48x64, .f32⟩
  | .hbm, ⟨34, _⟩ => ⟨S48x4096x64, .f32⟩
  | .hbm, ⟨35, _⟩ => ⟨S1024x4096, .f32⟩
  | .hbm, ⟨36, _⟩ => ⟨S1024x4096, .bf16⟩
  | .hbm, ⟨37, _⟩ => ⟨S48x4096x64, .bf16⟩
  | .hbm, ⟨38, _⟩ => ⟨S_, .i32⟩
  | .hbm, ⟨39, _⟩ => ⟨S_, .f32⟩
  | .hbm, ⟨40, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== GradW.lean ====
abbrev S1024x4096 : Shape := ⟨2, ![1024, 4096]⟩
abbrev S4096x3072 : Shape := ⟨2, ![4096, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWRefIdeal.lean ====
abbrev S1024x4096 : Shape := ⟨2, ![1024, 4096]⟩
abbrev S4096x3072 : Shape := ⟨2, ![4096, 3072]⟩
abbrev S_ : Shape := ⟨0, ![]⟩
abbrev S1024x3072 : Shape := ⟨2, ![1024, 3072]⟩
abbrev S4096x1024 : Shape := ⟨2, ![4096, 1024]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S1024x4096, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Adam.lean ====
abbrev S1x9088 : Shape := ⟨2, ![1, 9088]⟩
abbrev S1x15360 : Shape := ⟨2, ![1, 15360]⟩
abbrev S1x1x9088 : Shape := ⟨3, ![1, 1, 9088]⟩

abbrev nBuf : Space → Nat
  | .hbm => 10
  | .vmem => 8
  | .smem => 0
  | _ => 0

abbrev bufTy : (tb : Table) → Fin (tcTables nBuf tb) → BufTy
  | .hbm, ⟨0, _⟩ => ⟨S1x9088, .f32⟩
  | .hbm, ⟨1, _⟩ => ⟨S1x15360, .f32⟩
  | .hbm, ⟨2, _⟩ => ⟨S1x9088, .f32⟩
  | .hbm, ⟨3, _⟩ => ⟨S1x9088, .f32⟩
  | .hbm, ⟨4, _⟩ => ⟨S1x9088, .f32⟩
  | .hbm, ⟨5, _⟩ => ⟨S1x1x9088, .f32⟩
  | .hbm, ⟨6, _⟩ => ⟨S1x9088, .f32⟩
  | .hbm, ⟨7, _⟩ => ⟨S1x9088, .f32⟩
  | .hbm, ⟨8, _⟩ => ⟨S1x9088, .f32⟩
  | .hbm, ⟨9, _⟩ => ⟨S1x9088, .f32⟩
  | .local _ .vmem, ⟨0, _⟩ => ⟨S1x9088, .f32⟩
  | .local _ .vmem, ⟨1, _⟩ => ⟨S1x1x9088, .f32⟩
  | .local _ .vmem, ⟨2, _⟩ => ⟨S1x9088, .f32⟩
  | .local _ .vmem, ⟨3, _⟩ => ⟨S1x9088, .f32⟩
  | .local _ .vmem, ⟨4, _⟩ => ⟨S1x9088, .f32⟩
  | .local _ .vmem, ⟨5, _⟩ => ⟨S1x9088, .f32⟩
  | .local _ .vmem, ⟨6, _⟩ => ⟨S1x9088, .f32⟩
  | .local _ .vmem, ⟨7, _⟩ => ⟨S1x9088, .f32⟩
  | _, _ => ⟨S1x9088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x9088 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x9088 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x9088 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x9088 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x9088 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x9088 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x9088 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x9088 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRefIdeal.lean ====
abbrev S1x9088 : Shape := ⟨2, ![1, 9088]⟩
abbrev S1x15360 : Shape := ⟨2, ![1, 15360]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x9088, .f32⟩
  | .hbm, ⟨1, _⟩ => ⟨S1x15360, .f32⟩
  | .hbm, ⟨2, _⟩ => ⟨S1x9088, .f32⟩
  | .hbm, ⟨3, _⟩ => ⟨S1x9088, .f32⟩
  | .hbm, ⟨4, _⟩ => ⟨S1x9088, .f32⟩
  | .hbm, ⟨5, _⟩ => ⟨S_, .f32⟩
  | .hbm, ⟨6, _⟩ => ⟨S1x9088, .f32⟩
  | .hbm, ⟨7, _⟩ => ⟨S1x9088, .f32⟩
  | .hbm, ⟨8, _⟩ => ⟨S_, .f32⟩
  | .hbm, ⟨9, _⟩ => ⟨S1x9088, .f32⟩
  | .hbm, ⟨10, _⟩ => ⟨S1x9088, .f32⟩
  | .hbm, ⟨11, _⟩ => ⟨S1x9088, .f32⟩
  | .hbm, ⟨12, _⟩ => ⟨S_, .f32⟩
  | .hbm, ⟨13, _⟩ => ⟨S1x9088, .f32⟩
  | .hbm, ⟨14, _⟩ => ⟨S1x9088, .f32⟩
  | .hbm, ⟨15, _⟩ => ⟨S1x9088, .f32⟩
  | .hbm, ⟨16, _⟩ => ⟨S_, .f32⟩
  | .hbm, ⟨17, _⟩ => ⟨S1x9088, .f32⟩
  | .hbm, ⟨18, _⟩ => ⟨S1x9088, .f32⟩
  | .hbm, ⟨19, _⟩ => ⟨S1x9088, .f32⟩
  | .hbm, ⟨20, _⟩ => ⟨S_, .f32⟩
  | .hbm, ⟨21, _⟩ => ⟨S1x9088, .f32⟩
  | .hbm, ⟨22, _⟩ => ⟨S1x9088, .f32⟩
  | .hbm, ⟨23, _⟩ => ⟨S_, .f32⟩
  | .hbm, ⟨24, _⟩ => ⟨S1x9088, .f32⟩
  | .hbm, ⟨25, _⟩ => ⟨S1x9088, .f32⟩
  | .hbm, ⟨26, _⟩ => ⟨S1x9088, .f32⟩
  | .hbm, ⟨27, _⟩ => ⟨S_, .f32⟩
  | .hbm, ⟨28, _⟩ => ⟨S1x9088, .f32⟩
  | .hbm, ⟨29, _⟩ => ⟨S1x9088, .f32⟩
  | .hbm, ⟨30, _⟩ => ⟨S1x9088, .f32⟩
  | .hbm, ⟨31, _⟩ => ⟨S_, .f32⟩
  | .hbm, ⟨32, _⟩ => ⟨S1x9088, .f32⟩
  | .hbm, ⟨33, _⟩ => ⟨S1x9088, .f32⟩
  | .hbm, ⟨34, _⟩ => ⟨S1x9088, .f32⟩
  | .hbm, ⟨35, _⟩ => ⟨S_, .f32⟩
  | .hbm, ⟨36, _⟩ => ⟨S1x9088, .f32⟩
  | .hbm, ⟨37, _⟩ => ⟨S1x9088, .f32⟩
  | _, _ => ⟨S1x9088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Cols.lean ====
abbrev S16x4096x64 : Shape := ⟨3, ![16, 4096, 64]⟩
abbrev S16x32x64x128 : Shape := ⟨4, ![16, 32, 64, 128]⟩
abbrev S4096x3072 : Shape := ⟨2, ![4096, 3072]⟩
abbrev S16x256x64 : Shape := ⟨3, ![16, 256, 64]⟩
abbrev S16x2x64x128 : Shape := ⟨4, ![16, 2, 64, 128]⟩
abbrev S256x3072 : Shape := ⟨2, ![256, 3072]⟩
abbrev S1x256x64 : Shape := ⟨3, ![1, 256, 64]⟩
abbrev S256x64 : Shape := ⟨2, ![256, 64]⟩
abbrev S256x1024 : Shape := ⟨2, ![256, 1024]⟩
abbrev S128x128 : Shape := ⟨2, ![128, 128]⟩
abbrev S1x1x64x128 : Shape := ⟨4, ![1, 1, 64, 128]⟩
abbrev S64x128 : Shape := ⟨2, ![64, 128]⟩
abbrev S128x64 : Shape := ⟨2, ![128, 64]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16x4096x64, .f32⟩
  | .hbm, ⟨1, _⟩ => ⟨S16x32x64x128, .f32⟩
  | .hbm, ⟨2, _⟩ => ⟨S16x32x64x128, .f32⟩
  | .hbm, ⟨3, _⟩ => ⟨S4096x3072, .bf16⟩
  | .local _ .vmem, ⟨0, _⟩ => ⟨S16x256x64, .f32⟩
  | .local _ .vmem, ⟨1, _⟩ => ⟨S16x256x64, .f32⟩
  | .local _ .vmem, ⟨2, _⟩ => ⟨S16x2x64x128, .f32⟩
  | .local _ .vmem, ⟨3, _⟩ => ⟨S16x2x64x128, .f32⟩
  | .local _ .vmem, ⟨4, _⟩ => ⟨S16x2x64x128, .f32⟩
  | .local _ .vmem, ⟨5, _⟩ => ⟨S16x2x64x128, .f32⟩
  | .local _ .vmem, ⟨6, _⟩ => ⟨S256x3072, .bf16⟩
  | .local _ .vmem, ⟨7, _⟩ => ⟨S256x3072, .bf16⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ColsRefIdeal.lean ====
abbrev S16x4096x64 : Shape := ⟨3, ![16, 4096, 64]⟩
abbrev S16x32x64x128 : Shape := ⟨4, ![16, 32, 64, 128]⟩
abbrev S4096x16x64 : Shape := ⟨3, ![4096, 16, 64]⟩
abbrev S4096x1024 : Shape := ⟨2, ![4096, 1024]⟩
abbrev S16x32x128x64 : Shape := ⟨4, ![16, 32, 128, 64]⟩
abbrev S4096x3072 : Shape := ⟨2, ![4096, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x32x64x128, .f32⟩
  | .hbm, ⟨2, _⟩ => ⟨S16x32x64x128, .f32⟩
  | .hbm, ⟨3, _⟩ => ⟨S4096x16x64, .f32⟩
  | .hbm, ⟨4, _⟩ => ⟨S4096x1024, .f32⟩
  | .hbm, ⟨5, _⟩ => ⟨S16x32x128x64, .f32⟩
  | .hbm, ⟨6, _⟩ => ⟨S16x4096x64, .f32⟩
  | .hbm, ⟨7, _⟩ => ⟨S4096x16x64, .f32⟩
  | .hbm, ⟨8, _⟩ => ⟨S4096x1024, .f32⟩
  | .hbm, ⟨9, _⟩ => ⟨S16x32x128x64, .f32⟩
  | .hbm, ⟨10, _⟩ => ⟨S16x4096x64, .f32⟩
  | .hbm, ⟨11, _⟩ => ⟨S4096x16x64, .f32⟩
  | .hbm, ⟨12, _⟩ => ⟨S4096x1024, .f32⟩
  | .hbm, ⟨13, _⟩ => ⟨S4096x3072, .f32⟩
  | .hbm, ⟨14, _⟩ => ⟨S4096x3072, .bf16⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Cast.lean ====
abbrev S1024x834 : Shape := ⟨2, ![1024, 834]⟩
abbrev S128x834 : Shape := ⟨2, ![128, 834]⟩

abbrev nBuf : Space → Nat
  | .hbm => 2
  | .vmem => 4
  | .smem => 0
  | _ => 0

abbrev bufTy : (tb : Table) → Fin (tcTables nBuf tb) → BufTy
  | .hbm, ⟨0, _⟩ => ⟨S1024x834, .f32⟩
  | .hbm, ⟨1, _⟩ => ⟨S1024x834, .bf16⟩
  | .local _ .vmem, ⟨0, _⟩ => ⟨S128x834, .f32⟩
  | .local _ .vmem, ⟨1, _⟩ => ⟨S128x834, .f32⟩
  | .local _ .vmem, ⟨2, _⟩ => ⟨S128x834, .bf16⟩
  | .local _ .vmem, ⟨3, _⟩ => ⟨S128x834, .bf16⟩
  | _, _ => ⟨S1024x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x834 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x834 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastRefIdeal.lean ====
abbrev S1024x834 : Shape := ⟨2, ![1024, 834]⟩

abbrev nBuf : Space → Nat
  | .hbm => 2
  | .vmem => 0
  | .smem => 0
  | _ => 0

abbrev bufTy : (tb : Table) → Fin (tcTables nBuf tb) → BufTy
  | .hbm, ⟨0, _⟩ => ⟨S1024x834, .f32⟩
  | .hbm, ⟨1, _⟩ => ⟨S1024x834, .bf16⟩
  | _, _ => ⟨S1024x834, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== SsdFwd.lean ====
abbrev S4096x1536 : Shape := ⟨2, ![4096, 1536]⟩
abbrev S4096x16 : Shape := ⟨2, ![4096, 16]⟩
abbrev S4x1536 : Shape := ⟨2, ![4, 1536]⟩
abbrev S1x1536 : Shape := ⟨2, ![1, 1536]⟩
abbrev S1x16 : Shape := ⟨2, ![1, 16]⟩
abbrev S_ : Shape := ⟨0, ![]⟩
abbrev S4096x128 : Shape := ⟨2, ![4096, 128]⟩
abbrev S1x128 : Shape := ⟨2, ![1, 128]⟩
abbrev S4096x1024 : Shape := ⟨2, ![4096, 1024]⟩
abbrev S32x16x64x128 : Shape := ⟨4, ![32, 16, 64, 128]⟩
abbrev S128x1536 : Shape := ⟨2, ![128, 1536]⟩
abbrev S128x128 : Shape := ⟨2, ![128, 128]⟩
abbrev S128x1024 : Shape := ⟨2, ![128, 1024]⟩
abbrev S1x16x64x128 : Shape := ⟨4, ![1, 16, 64, 128]⟩
abbrev S16x64x128 : Shape := ⟨3, ![16, 64, 128]⟩
abbrev S128x2048 : Shape := ⟨2, ![128, 2048]⟩
abbrev S1x64x128 : Shape := ⟨3, ![1, 64, 128]⟩
abbrev S64x128 : Shape := ⟨2, ![64, 128]⟩
abbrev S1x1x64x128 : Shape := ⟨4, ![1, 1, 64, 128]⟩
abbrev S128x64 : Shape := ⟨2, ![128, 64]⟩
abbrev S1x1 : Shape := ⟨2, ![1, 1]⟩
abbrev S1x1024 : Shape := ⟨2, ![1, 1024]⟩

abbrev nBuf : Space → Nat
  | .hbm => 22
  | .vmem => 17
  | .smem => 0
  | _ => 0

abbrev bufTy : (tb : Table) → Fin (tcTables nBuf tb) → BufTy
  | .hbm, ⟨0, _⟩ => ⟨S4096x1536, .f32⟩
  | .hbm, ⟨1, _⟩ => ⟨S4096x16, .f32⟩
  | .hbm, ⟨2, _⟩ => ⟨S4x1536, .f32⟩
  | .hbm, ⟨3, _⟩ => ⟨S1x1536, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S4096x1536, .f32⟩
  | .hbm, ⟨20, _⟩ => ⟨S4096x1024, .f32⟩
  | .hbm, ⟨21, _⟩ => ⟨S32x16x64x128, .f32⟩
  | .local _ .vmem, ⟨0, _⟩ => ⟨S128x1536, .f32⟩
  | .local _ .vmem, ⟨1, _⟩ => ⟨S128x1536, .f32⟩
  | .local _ .vmem, ⟨2, _⟩ => ⟨S128x128, .f32⟩
  | .local _ .vmem, ⟨3, _⟩ => ⟨S128x128, .f32⟩
  | .local _ .vmem, ⟨4, _⟩ => ⟨S4x1536, .f32⟩
  | .local _ .vmem, ⟨5, _⟩ => ⟨S1x1536, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x1536, .f32⟩
  | .local _ .vmem, ⟨10, _⟩ => ⟨S128x1536, .f32⟩
  | .local _ .vmem, ⟨11, _⟩ => ⟨S128x1024, .f32⟩
  | .local _ .vmem, ⟨12, _⟩ => ⟨S128x1024, .f32⟩
  | .local _ .vmem, ⟨13, _⟩ => ⟨S1x16x64x128, .f32⟩
  | .local _ .vmem, ⟨14, _⟩ => ⟨S1x16x64x128, .f32⟩
  | .local _ .vmem, ⟨15, _⟩ => ⟨S128x1536, .f32⟩
  | .local _ .vmem, ⟨16, _⟩ => ⟨S16x64x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvRefIdeal.lean ====
abbrev S4096x1536 : Shape := ⟨2, ![4096, 1536]⟩
abbrev S4096x16 : Shape := ⟨2, ![4096, 16]⟩
abbrev S4x1536 : Shape := ⟨2, ![4, 1536]⟩
abbrev S1x1536 : Shape := ⟨2, ![1, 1536]⟩
abbrev S1x16 : Shape := ⟨2, ![1, 16]⟩
abbrev S_ : Shape := ⟨0, ![]⟩
abbrev S3x1536 : Shape := ⟨2, ![3, 1536]⟩
abbrev S4099x1536 : Shape := ⟨2, ![4099, 1536]⟩

abbrev nBuf : Space → Nat
  | .hbm => 31
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x16, .f32⟩
  | .hbm, ⟨2, _⟩ => ⟨S4x1536, .f32⟩
  | .hbm, ⟨3, _⟩ => ⟨S1x1536, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S3x1536, .f32⟩
  | .hbm, ⟨9, _⟩ => ⟨S4099x1536, .f32⟩
  | .hbm, ⟨10, _⟩ => ⟨S4096x1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S1x1536, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S4096x1536, .f32⟩
  | .hbm, ⟨20, _⟩ => ⟨S1x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S4096x1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Reals.lean ====
/- Extended reals that are real: the steps every value proof here takes once its arguments are finite. -/
module

public import Idealize.ShloMosaic.Lib.Pipeline.ValueKit
public import Idealize.ShloMosaic.Lib.Pointwise
public import Idealize.ShloMosaic.Lib.ReduceAll
public import Idealize.ShloMosaic.PureOps.Ideal

@[expose] public section

namespace Cert.Reals

open Idealize.ShloMosaic

/-- A finite sum of reals is taken in the reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  rw [Ideal.div_coe hb, ← EReal.coe_mul, mul_one_div]

theorem rsqrt_coe (a : ℝ) (ha : 0 < a) : Ideal.rsqrt (a : EReal) = (((√a)⁻¹ : ℝ) : EReal) := by
  show (if a < 0 then (⊥ : EReal) else if a = 0 then ⊤ else (((√a)⁻¹ : ℝ) : EReal)) = _
  rw [if_neg ha.le.not_gt, if_neg ha.ne']

theorem exp_coe (a : ℝ) : Ideal.exp (a : EReal) = ((Real.exp a : ℝ) : EReal) := rfl

theorem log_coe (a : ℝ) (ha : 0 < a) : Ideal.log (a : EReal) = ((Real.log a : ℝ) : EReal) := by
  show (if a ≤ 0 then (⊥ : EReal) else ((Real.log a : ℝ) : EReal)) = _
  rw [if_neg (not_le.mpr ha)]

theorem log1p_coe (a : ℝ) (ha : 0 < 1 + a) : Ideal.log1p (a : EReal) = ((Real.log (1 + a) : ℝ) : EReal) := by
  show Ideal.log (1 + (a : EReal)) = _
  rw [← EReal.coe_one, ← EReal.coe_add, log_coe _ ha]

theorem logistic_coe (a : ℝ) : Ideal.logistic (a : EReal) = ((1 / (1 + Real.exp (-a)) : ℝ) : EReal) := by
  show Ideal.div 1 (1 + Ideal.exp (-(a : EReal))) = _
  rw [← EReal.coe_neg, exp_coe, ← EReal.coe_one, ← EReal.coe_add, div_coe _ _ (by positivity)]

/-- An extended real whose magnitude compares below `+∞` is a real. -/
theorem real_of_abs_lt (x y : EReal) (hy : y = ⊤) (h : Ideal.cmp .olt (max x (-x)) y = 1#1) : ∃ r : ℝ, x = r := by
  subst hy
  induction x with
  | coe r => exact ⟨r, rfl⟩
  | bot => simp [Ideal.cmp] at h
  | top => simp [Ideal.cmp] at h

/-- The finiteness test of an array, as the preconditions print it: all of it is real where the test reads one. -/
theorem all_real {s t u : Shape} [Subsingleton t.Idx] {axes : List (Fin s.rank)} {d : Fin u.rank → Fin s.rank} {φ : FTy} {b : BitVec φ.bits}
    (x : FVec Ideal s φ) (hb : u.BroadcastsInDim s d) (init : u.Idx → BitVec 1) (h : s.ReducesTo axes t) (hu : 0 < u.numel)
    (hinf : Ideal.ofBits φ b = ⊤) (j : t.Idx)
    (e : Host.reduce IntOp.andi (cmpf .olt (Host.absf x) (broadcastInDim s d hb (constant u φ b))) init h hu j = 1#1) (i : s.Idx) :
    ∃ r : ℝ, x i = (r : EReal) :=
  real_of_abs_lt _ _ hinf (Host.reduce_andi_all _ _ h hu j e i)

/-- A conjunction of two one-bit tests reads one where both do. -/
theorem andi_one {a b : BitVec 1} (h : IntOp.andi a b = 1#1) : a = 1#1 ∧ b = 1#1 := by
  revert a b; decide

theorem inf_f32 : Ideal.ofBits .f32 0x7F800000#32 = ⊤ := by
  simp [Ideal.ofBits, Ideal.ieee]

theorem c1024_f32 : Ideal.ofBits .f32 0x44800000#32 = ((1024 : ℝ) : EReal) := by
  simp [Ideal.ofBits, Ideal.ieee]; norm_num [← EReal.coe_mul]

theorem cneghalf_f32 : Ideal.ofBits .f32 0xBF000000#32 = ((-(1 / 2) : ℝ) : EReal) := by
  simp [Ideal.ofBits, Ideal.ieee]; norm_num [← EReal.coe_mul]

theorem cone_f32 : Ideal.ofBits .f32 0x3F800000#32 = ((1 : ℝ) : EReal) := by
  rw [Ideal.ofBits_one_f32]; rfl

/-- The normalisation's small constant. -/
noncomputable def eps : ℝ := 8796093 * 2 ^ (-43 : Int)

theorem eps_pos : 0 < eps := by unfold eps; positivity

theorem eps_f32 : Ideal.ofBits .f32 0x358637BD#32 = ((eps : ℝ) : EReal) := by
  unfold eps
  simp [Ideal.ofBits, Ideal.ieee]

/-! A `concatenate` piece by piece: its shape fact does not read the pieces. -/

theorem cat2_congr {α : Type} {s0 s1 t : Shape} {d : Fin t.rank} {x0 y0 : s0.Idx → α} {x1 y1 : s1.Idx → α}
    (h : Shape.Concatenates [s0, s1] t d) (e0 : x0 = y0) (e1 : x1 = y1) :
    concatenate t d [⟨s0, x0⟩, ⟨s1, x1⟩] h = concatenate t d [⟨s0, y0⟩, ⟨s1, y1⟩] h := by
  subst e0 e1; rfl

theorem cat4_congr {α : Type} {s0 s1 s2 s3 t : Shape} {d : Fin t.rank} {x0 y0 : s0.Idx → α} {x1 y1 : s1.Idx → α} {x2 y2 : s2.Idx → α} {x3 y3 : s3.Idx → α}
    (h : Shape.Concatenates [s0, s1, s2, s3] t d) (e0 : x0 = y0) (e1 : x1 = y1) (e2 : x2 = y2) (e3 : x3 = y3) :
    concatenate t d [⟨s0, x0⟩, ⟨s1, x1⟩, ⟨s2, x2⟩, ⟨s3, x3⟩] h = concatenate t d [⟨s0, y0⟩, ⟨s1, y1⟩, ⟨s2, y2⟩, ⟨s3, y3⟩] h := by
  subst e0 e1 e2 e3; rfl

end Cert.Reals

end
-- ==== Proof.InVal.lean ====
module

public import proofs.«01_k».proof.Proof.Reals
public import proofs.«01_k».proof.Proof.Gen.InBwdIdeal.Value
public import Idealize.ShloMosaic.Lib.Pipeline.ValueKit
public import Idealize.ShloMosaic.Lib.Pointwise

@[expose] public section

set_option maxRecDepth 16384

noncomputable section

namespace Cert.InBwdIdeal.Value

open Cert.InBwdIdeal Cert.InBwdIdeal.Gen Cert.Reals Idealize.ShloMosaic Idealize.ShloMosaic.TcCoe Idealize.SL.Sem
open Idealize.ShloMosaic.Pipeline (Dat)

/-- The row's gradient before the normalisation, as the body forms it: a product per group of columns. -/
abbrev dhP (B0 : Vec Ideal S256x3072 .bf16) (B1 : Vec Ideal S256x1024 .bf16) (B2 : Vec Ideal S256x1024 .bf16) (B3 : Vec Ideal S256x1536 .bf16)
    (B4 : Vec Ideal S256x128 .bf16) (W : Vec Ideal S1024x6784 .bf16) : FVec Ideal S256x1024 .f32 :=
  k0_pay8 (F := Ideal) (k0_pay7 (k0_pay5 (View.ld B0 (Rect.unit ![0, 0] ![256, 512] inb_S256x3072_S256x512_0_0)) (View.ld W (Rect.unit ![0, 0] ![1024, 512] inb_S1024x6784_S1024x512_0_0)) (View.ld B0 (Rect.unit ![0, 512] ![256, 512] inb_S256x3072_S256x512_0_512)) (View.ld W (Rect.unit ![0, 512] ![1024, 512] inb_S1024x6784_S1024x512_0_512)) (View.ld B0 (Rect.unit ![0, 1024] ![256, 512] inb_S256x3072_S256x512_0_1024)) (View.ld W (Rect.unit ![0, 1024] ![1024, 512] inb_S1024x6784_S1024x512_0_1024)) (View.ld B0 (Rect.unit ![0, 1536] ![256, 512] inb_S256x3072_S256x512_0_1536)) (View.ld W (Rect.unit ![0, 1536] ![1024, 512] inb_S1024x6784_S1024x512_0_1536))) (k0_pay6 (View.ld B0 (Rect.unit ![0, 2048] ![256, 512] inb_S256x3072_S256x512_0_2048))) (View.ld W (Rect.unit ![0, 2048] ![1024, 512] inb_S1024x6784_S1024x512_0_2048)) (View.ld B0 (Rect.unit ![0, 2560] ![256, 512] inb_S256x3072_S256x512_0_2560)) (View.ld W (Rect.unit ![0, 2560] ![1024, 512] inb_S1024x6784_S1024x512_0_2560)) (View.ld B1 (Rect.unit ![0, 0] ![256, 512] inb_S256x1024_S256x512_0_0)) (View.ld W (Rect.unit ![0, 3072] ![1024, 512] inb_S1024x6784_S1024x512_0_3072)) (View.ld B1 (Rect.unit ![0, 512] ![256, 512] inb_S256x1024_S256x512_0_512)) (View.ld W (Rect.unit ![0, 3584] ![1024, 512] inb_S1024x6784_S1024x512_0_3584)) (View.ld B2 (Rect.unit ![0, 0] ![256, 512] inb_S256x1024_S256x512_0_0)) (View.ld W (Rect.unit ![0, 4096] ![1024, 512] inb_S1024x6784_S1024x512_0_4096)) (View.ld B2 (Rect.unit ![0, 512] ![256, 512] inb_S256x1024_S256x512_0_512)) (View.ld W (Rect.unit ![0, 4608] ![1024, 512] inb_S1024x6784_S1024x512_0_4608))) (View.ld B3 (Rect.unit ![0, 0] ![256, 512] inb_S256x1536_S256x512_0_0)) (View.ld W (Rect.unit ![0, 5120] ![1024, 512] inb_S1024x6784_S1024x512_0_5120)) (View.ld B3 (Rect.unit ![0, 512] ![256, 512] inb_S256x1536_S256x512_0_512)) (View.ld W (Rect.unit ![0, 5632] ![1024, 512] inb_S1024x6784_S1024x512_0_5632)) (View.ld B3 (Rect.unit ![0, 1024] ![256, 512] inb_S256x1536_S256x512_0_1024)) (View.ld W (Rect.unit ![0, 6144] ![1024, 512] inb_S1024x6784_S1024x512_0_6144)) B4 (View.ld W (Rect.unit ![0, 6656] ![1024, 128] inb_S1024x6784_S1024x128_0_6656))

theorem dhP_at (B0 : Vec Ideal S256x3072 .bf16) (B1 : Vec Ideal S256x1024 .bf16) (B2 : Vec Ideal S256x1024 .bf16) (B3 : Vec Ideal S256x1536 .bf16)
    (B4 : Vec Ideal S256x128 .bf16) (W : Vec Ideal S1024x6784 .bf16) (a : Fin 256) (b : Fin 1024) : dhP B0 B1 B2 B3 B4 W (ix2 a b) =
      (∑ k : Fin 512, B0 (ix2 a ⟨0 + k, by omega⟩) * W (ix2 b ⟨0 + k, by omega⟩))
      + (∑ k : Fin 512, B0 (ix2 a ⟨512 + k, by omega⟩) * W (ix2 b ⟨512 + k, by omega⟩))
      + (∑ k : Fin 512, B0 (ix2 a ⟨1024 + k, by omega⟩) * W (ix2 b ⟨1024 + k, by omega⟩))
      + (∑ k : Fin 512, B0 (ix2 a ⟨1536 + k, by omega⟩) * W (ix2 b ⟨1536 + k, by omega⟩))
      + (∑ k : Fin 512, B0 (ix2 a ⟨2048 + k, by omega⟩) * W (ix2 b ⟨2048 + k, by omega⟩))
      + (∑ k : Fin 512, B0 (ix2 a ⟨2560 + k, by omega⟩) * W (ix2 b ⟨2560 + k, by omega⟩))
      + (∑ k : Fin 512, B1 (ix2 a ⟨0 + k, by omega⟩) * W (ix2 b ⟨3072 + k, by omega⟩))
      + (∑ k : Fin 512, B1 (ix2 a ⟨512 + k, by omega⟩) * W (ix2 b ⟨3584 + k, by omega⟩))
      + (∑ k : Fin 512, B2 (ix2 a ⟨0 + k, by omega⟩) * W (ix2 b ⟨4096 + k, by omega⟩))
      + (∑ k : Fin 512, B2 (ix2 a ⟨512 + k, by omega⟩) * W (ix2 b ⟨4608 + k, by omega⟩))
      + (∑ k : Fin 512, B3 (ix2 a ⟨0 + k, by omega⟩) * W (ix2 b ⟨5120 + k, by omega⟩))
      + (∑ k : Fin 512, B3 (ix2 a ⟨512 + k, by omega⟩) * W (ix2 b ⟨5632 + k, by omega⟩))
      + (∑ k : Fin 512, B3 (ix2 a ⟨1024 + k, by omega⟩) * W (ix2 b ⟨6144 + k, by omega⟩))
      + (∑ k : Fin 128, B4 (ix2 a k) * W (ix2 b ⟨6656 + k, by omega⟩)) := by
  unfold dhP
  pointwise [k0_pay5, k0_pay6, k0_pay7, k0_pay8]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] ∧ win0_10.index t = ![t.val, 0] :=
  (by decide +kernel : ∀ t : Fin grid0.N, _)

/-! The host's operands of the region, as it computes them. -/

theorem V_v8 (c : Dev nD) : V m c main_v8 = extractStridedSlice S4096x3072 ![0, 0]
    (truncf (F := Ideal) .bf16 (m ((c : Thread nD τ).loc main_arg6)) bitsLt_bf16_f32) slices_S4096x6672_S4096x3072_0_0 := by
  unfold V
  simp only [List.flatten_cons, List.flatten_nil, List.append_nil, List.cons_append, List.nil_append]
  after_results_simp <;> rfl

theorem V_v9 (c : Dev nD) : V m c main_v9 = extractStridedSlice S4096x1024 ![0, 3072]
    (truncf (F := Ideal) .bf16 (m ((c : Thread nD τ).loc main_arg6)) bitsLt_bf16_f32) slices_S4096x6672_S4096x1024_0_3072 := by
  unfold V
  simp only [List.flatten_cons, List.flatten_nil, List.append_nil, List.cons_append, List.nil_append]
  after_results_simp <;> rfl

theorem V_v10 (c : Dev nD) : V m c main_v10 = extractStridedSlice S4096x1024 ![0, 5648]
    (truncf (F := Ideal) .bf16 (m ((c : Thread nD τ).loc main_arg6)) bitsLt_bf16_f32) slices_S4096x6672_S4096x1024_0_5648 := by
  unfold V
  simp only [List.flatten_cons, List.flatten_nil, List.append_nil, List.cons_append, List.nil_append]
  after_results_simp <;> rfl

theorem V_v11 (c : Dev nD) : V m c main_v11 = extractStridedSlice S4096x1536 ![0, 4096]
    (truncf (F := Ideal) .bf16 (m ((c : Thread nD τ).loc main_arg6)) bitsLt_bf16_f32) slices_S4096x6672_S4096x1536_0_4096 := by
  unfold V
  simp only [List.flatten_cons, List.flatten_nil, List.append_nil, List.cons_append, List.nil_append]
  after_results_simp <;> rfl

theorem V_v13 (c : Dev nD) : V m c main_v13 = pad S4096x128 ![0, 0] ![0, 112] ![0, 0] (extractStridedSlice S4096x16 ![0, 5632]
    (truncf (F := Ideal) .bf16 (m ((c : Thread nD τ).loc main_arg6)) bitsLt_bf16_f32) slices_S4096x6672_S4096x16_0_5632)
    (sitofp (F := Ideal) .bf16 (constantI S_ 32 0#32)) pads_S4096x16_S4096x128_000_01120 h_S_ := by
  unfold V
  simp only [List.flatten_cons, List.flatten_nil, List.append_nil, List.cons_append, List.nil_append]
  after_results_simp <;> rfl

theorem V_v6 (c : Dev nD) : V m c main_v6 = concatenate S1024x6784 1
    [⟨S1024x4096, extractStridedSlice S1024x4096 ![0, 0] (truncf (F := Ideal) .bf16 (m ((c : Thread nD τ).loc main_arg4)) bitsLt_bf16_f32) slices_S1024x6672_S1024x4096_0_0⟩,
      ⟨S1024x1024, extractStridedSlice S1024x1024 ![0, 5648] (truncf (F := Ideal) .bf16 (m ((c : Thread nD τ).loc main_arg4)) bitsLt_bf16_f32) slices_S1024x6672_S1024x1024_0_5648⟩,
      ⟨S1024x1536, extractStridedSlice S1024x1536 ![0, 4096] (truncf (F := Ideal) .bf16 (m ((c : Thread nD τ).loc main_arg4)) bitsLt_bf16_f32) slices_S1024x6672_S1024x1536_0_4096⟩,
      ⟨S1024x128, pad S1024x128 ![0, 0] ![0, 112] ![0, 0] (extractStridedSlice S1024x16 ![0, 5632] (truncf (F := Ideal) .bf16 (m ((c : Thread nD τ).loc main_arg4)) bitsLt_bf16_f32) slices_S1024x6672_S1024x16_0_5632)
        (sitofp (F := Ideal) .bf16 (constantI S_ 32 0#32)) pads_S1024x16_S1024x128_000_01120 h_S_⟩]
    concatenates_S1024x4096_S1024x1024_S1024x1536_S1024x128_S1024x6784_d1 := by
  unfold V
  simp only [List.flatten_cons, List.flatten_nil, List.append_nil, List.cons_append, List.nil_append]
  after_results_simp
  refine cat4_congr _ ?_ ?_ ?_ ?_
  all_goals (dsimp only [Matrix.cons_val]; after_results_simp <;> rfl)

/-- Row `r` of an array of 6672 columns, read at any number: 0 past the end. -/
def col {n : ℕ} (x : (⟨2, ![n, 6672]⟩ : Shape).Idx → EReal) (r : Fin n) (k : ℕ) : EReal := if h : k < 6672 then x (ix2 r ⟨k, h⟩) else 0

theorem col_at {n : ℕ} (x : (⟨2, ![n, 6672]⟩ : Shape).Idx → EReal) (r r' : Fin n) (k : ℕ) (l : Fin 6672) (hr : r'.val = r.val) (hl : l.val = k) :
    x (ix2 r' l) = col x r k := by
  obtain rfl : r' = r := Fin.ext hr
  subst hl
  rw [col, dif_pos l.isLt]

theorem rd0 (c : Dev nD) (t : Fin cfg0.N) (a : Fin 256) (k : Fin 3072) (i : Fin 4096) (hi : i.val = t.val * 256 + a.val) :
    iblk m c 0 t (ix2 a k) = col (m ((c : Thread nD τ).loc main_arg6)) i (0 + k) := by
  blk_simp [iblk, idx t, V_v8 m c]
  pointwise
  refine col_at _ _ _ _ _ ?_ ?_ <;> blk_simp [idx t] <;> omega

theorem rd1 (c : Dev nD) (t : Fin cfg0.N) (a : Fin 256) (k : Fin 1024) (i : Fin 4096) (hi : i.val = t.val * 256 + a.val) :
    iblk m c 1 t (ix2 a k) = col (m ((c : Thread nD τ).loc main_arg6)) i (3072 + k) := by
  blk_simp [iblk, idx t, V_v9 m c]
  pointwise
  refine col_at _ _ _ _ _ ?_ ?_ <;> blk_simp [idx t] <;> omega

theorem rd2 (c : Dev nD) (t : Fin cfg0.N) (a : Fin 256) (k : Fin 1024) (i : Fin 4096) (hi : i.val = t.val * 256 + a.val) :
    iblk m c 2 t (ix2 a k) = col (m ((c : Thread nD τ).loc main_arg6)) i (5648 + k) := by
  blk_simp [iblk, idx t, V_v10 m c]
  pointwise
  refine col_at _ _ _ _ _ ?_ ?_ <;> blk_simp [idx t] <;> omega

theorem rd3 (c : Dev nD) (t : Fin cfg0.N) (a : Fin 256) (k : Fin 1536) (i : Fin 4096) (hi : i.val = t.val * 256 + a.val) :
    iblk m c 3 t (ix2 a k) = col (m ((c : Thread nD τ).loc main_arg6)) i (4096 + k) := by
  blk_simp [iblk, idx t, V_v11 m c]
  pointwise
  refine col_at _ _ _ _ _ ?_ ?_ <;> blk_simp [idx t] <;> omega

theorem rd4 (c : Dev nD) (t : Fin cfg0.N) (a : Fin 256) (k : Fin 128) (i : Fin 4096) (hi : i.val = t.val * 256 + a.val) :
    iblk m c 4 t (ix2 a k) = if k.val < 16 then col (m ((c : Thread nD τ).loc main_arg6)) i (5632 + k) else 0 := by
  blk_simp [iblk, idx t, V_v13 m c]
  pointwise
  have e : (((View.whole main_v13).slice (win0_4.rect t)).emb (ix2 a k) 1 : ℕ) = k := by blk_simp [idx t]
  split_ifs with h h' h'
  · refine col_at _ _ _ _ _ ?_ ?_ <;> blk_simp [idx t] <;> omega
  · omega
  · omega
  · simp [FloatOps.sitofp]

/-- Where the packed weights hold the reference's column: 6672 stands for the padding. -/
def wcol (k : ℕ) : ℕ := if k < 4096 then k else if k < 5120 then k + 1552 else if k < 6672 then k - 1024 else 6672

theorem wcol_qkvz {k : ℕ} (h : k < 4096) : wcol k = k := if_pos h
theorem wcol_zs {k : ℕ} (h : 4096 ≤ k) (h' : k < 5120) : wcol k = k + 1552 := by rw [wcol, if_neg (by omega), if_pos h']
theorem wcol_xbc {k : ℕ} (h : 5120 ≤ k) (h' : k < 6672) : wcol k = k - 1024 := by
  rw [wcol, if_neg (by omega), if_neg (by omega), if_pos h']
theorem wcol_pad {k : ℕ} (h : 6672 ≤ k) : wcol k = 6672 := by
  rw [wcol, if_neg (by omega), if_neg (by omega), if_neg (by omega)]

theorem wp_ladder (X : FVec Ideal S1024x6672 .f32) (b : Fin 1024) (k : Fin 6784) :
    concatenate S1024x6784 1
    [⟨S1024x4096, extractStridedSlice S1024x4096 ![0, 0] (truncf (F := Ideal) .bf16 X bitsLt_bf16_f32) slices_S1024x6672_S1024x4096_0_0⟩,
      ⟨S1024x1024, extractStridedSlice S1024x1024 ![0, 5648] (truncf (F := Ideal) .bf16 X bitsLt_bf16_f32) slices_S1024x6672_S1024x1024_0_5648⟩,
      ⟨S1024x1536, extractStridedSlice S1024x1536 ![0, 4096] (truncf (F := Ideal) .bf16 X bitsLt_bf16_f32) slices_S1024x6672_S1024x1536_0_4096⟩,
      ⟨S1024x128, pad S1024x128 ![0, 0] ![0, 112] ![0, 0] (extractStridedSlice S1024x16 ![0, 5632] (truncf (F := Ideal) .bf16 X bitsLt_bf16_f32) slices_S1024x6672_S1024x16_0_5632)
        (sitofp (F := Ideal) .bf16 (constantI S_ 32 0#32)) pads_S1024x16_S1024x128_000_01120 h_S_⟩]
    concatenates_S1024x4096_S1024x1024_S1024x1536_S1024x128_S1024x6784_d1 (ix2 b k) =
    if h1 : k.val < 4096 then X (ix2 b ⟨k, by omega⟩) else if h2 : k.val - 4096 < 1024 then X (ix2 b ⟨5648 + (k.val - 4096), by omega⟩)
    else if h3 : k.val - 4096 - 1024 < 1536 then X (ix2 b ⟨4096 + (k.val - 4096 - 1024), by omega⟩)
    else if h4 : k.val - 4096 - 1024 - 1536 < 16 then X (ix2 b ⟨5632 + (k.val - 4096 - 1024 - 1536), by omega⟩)
    else FloatOps.sitofp (F := Ideal) FTy.bf16 0#32 := by
  pointwise

theorem ladder_col (X : FVec Ideal S1024x6672 .f32) (b : Fin 1024) (k : Fin 6784) :
    (if h1 : k.val < 4096 then X (ix2 b ⟨k, by omega⟩) else if h2 : k.val - 4096 < 1024 then X (ix2 b ⟨5648 + (k.val - 4096), by omega⟩)
    else if h3 : k.val - 4096 - 1024 < 1536 then X (ix2 b ⟨4096 + (k.val - 4096 - 1024), by omega⟩)
    else if h4 : k.val - 4096 - 1024 - 1536 < 16 then X (ix2 b ⟨5632 + (k.val - 4096 - 1024 - 1536), by omega⟩)
    else FloatOps.sitofp (F := Ideal) FTy.bf16 0#32) = col X b (wcol k) := by
  split_ifs with h1 h2 h3 h4
  · exact col_at _ _ _ _ _ rfl (by rw [wcol_qkvz h1])
  · exact col_at _ _ _ _ _ rfl (by rw [wcol_zs (by omega) (by omega)]; simp only []; omega)
  · exact col_at _ _ _ _ _ rfl (by rw [wcol_xbc (by omega) (by omega)]; simp only []; omega)
  · exact col_at _ _ _ _ _ rfl (by rw [wcol_xbc (by omega) (by omega)]; simp only []; omega)
  · rw [wcol_pad (by omega), col, dif_neg (lt_irrefl _)]; simp [FloatOps.sitofp]

theorem rd5 (c : Dev nD) (t : Fin cfg0.N) (b : Fin 1024) (k : Fin 6784) :
    iblk m c 5 t (ix2 b k) = col (m ((c : Thread nD τ).loc main_arg4)) b (wcol k) := by
  refine Eq.trans (b := V m c main_v6 (ix2 b k)) ?_ ?_
  · blk_simp [iblk, idx t]
    blk_ext [idx t]
  · rw [V_v6]; exact (wp_ladder _ _ _).trans (ladder_col _ _ _)

end Cert.InBwdIdeal.Value
-- ==== Proof.InDh.lean ====
module

public import proofs.«01_k».proof.Proof.InVal

@[expose] public section

set_option maxRecDepth 16384

noncomputable section

namespace Cert.InBwdIdeal.Value

open Cert.InBwdIdeal Cert.InBwdIdeal.Gen Cert.Reals Idealize.ShloMosaic Idealize.ShloMosaic.TcCoe Idealize.SL.Sem
open Idealize.ShloMosaic.Pipeline (Dat)

variable (m : (ℓ : Loc nD τ sig) → Buf (Elt Ideal) ℓ)

/-- The projection's cotangent against the weights: the gradient of row `i` of what the projection reads. -/
def dhE (D : FVec Ideal S4096x6672 .f32) (W : FVec Ideal S1024x6672 .f32) (i : Fin 4096) (b : Fin 1024) : EReal :=
  ∑ n : Fin 6672, D (ix2 i n) * W (ix2 b n)

section Split

variable (D : FVec Ideal S4096x6672 .f32) (W : FVec Ideal S1024x6672 .f32) (i : Fin 4096) (b : Fin 1024)

/-- One product of the contraction, by the reference's column. -/
def part (k : ℕ) : EReal := col D i k * col W b k

/-- A group of columns, wherever the two operands hold it. -/
theorem group (n o w p : ℕ) (hw : ∀ k, k < n → wcol (w + k) = p + k) (ho : o = p) :
    ∑ k : Fin n, col D i (o + k) * col W b (wcol (w + k)) = ∑ k ∈ Finset.range n, part D W i b (p + k) := by
  subst ho
  rw [← Fin.sum_univ_eq_sum_range (fun k => part D W i b (o + k)) n]
  exact Finset.sum_congr rfl fun k _ => by rw [hw k k.isLt, part]

/-- The padded group: its last 112 columns are zeros. -/
theorem group_dt : ∑ k : Fin 128, (if k.val < 16 then col D i (5632 + k) else 0) * col W b (wcol (6656 + k)) =
    ∑ k ∈ Finset.range 16, part D W i b (5632 + k) := by
  rw [Fin.sum_univ_eq_sum_range (fun k => (if k < 16 then col D i (5632 + k) else 0) * col W b (wcol (6656 + k))) 128,
    show 128 = 16 + 112 from rfl, Finset.sum_range_add]
  rw [Finset.sum_eq_zero (s := Finset.range 112) fun k _ => by rw [if_neg (by omega), zero_mul], add_zero]
  refine Finset.sum_congr rfl fun k hk => ?_
  have hk := Finset.mem_range.mp hk
  rw [if_pos hk, wcol_xbc (by omega) (by omega), part]
  congr 2; omega

theorem dhE_eq : dhE D W i b = ∑ k ∈ Finset.range 6672, part D W i b k := by
  rw [← Fin.sum_univ_eq_sum_range (fun k => part D W i b k) 6672]
  exact Finset.sum_congr rfl fun k _ => by rw [part, ← col_at D i i k k rfl rfl, ← col_at W b b k k rfl rfl]

/-- The contraction, group by group in the order of the columns. -/
theorem split : ∑ k ∈ Finset.range 6672, part D W i b k =
    ∑ k ∈ Finset.range 512, part D W i b (0 + k)
    + ∑ k ∈ Finset.range 512, part D W i b (512 + k)
    + ∑ k ∈ Finset.range 512, part D W i b (1024 + k)
    + ∑ k ∈ Finset.range 512, part D W i b (1536 + k)
    + ∑ k ∈ Finset.range 512, part D W i b (2048 + k)
    + ∑ k ∈ Finset.range 512, part D W i b (2560 + k)
    + ∑ k ∈ Finset.range 512, part D W i b (3072 + k)
    + ∑ k ∈ Finset.range 512, part D W i b (3584 + k)
    + ∑ k ∈ Finset.range 512, part D W i b (4096 + k)
    + ∑ k ∈ Finset.range 512, part D W i b (4608 + k)
    + ∑ k ∈ Finset.range 512, part D W i b (5120 + k)
    + ∑ k ∈ Finset.range 16, part D W i b (5632 + k)
    + ∑ k ∈ Finset.range 512, part D W i b (5648 + k)
    + ∑ k ∈ Finset.range 512, part D W i b (6160 + k) := by
  rw [show (6672 : ℕ) = 512 + 512 + 512 + 512 + 512 + 512 + 512 + 512 + 512 + 512 + 512 + 16 + 512 + 512 from rfl]
  simp only [Finset.sum_range_add, zero_add]

end Split

abbrev dhB (c : Dev nD) (t : Fin cfg0.N) : FVec Ideal S256x1024 .f32 :=
  dhP (iblk m c 0 t) (iblk m c 1 t) (iblk m c 2 t) (iblk m c 3 t) (iblk m c 4 t) (iblk m c 5 t)

theorem dhB_at (c : Dev nD) (t : Fin cfg0.N) (a : Fin 256) (b : Fin 1024) (i : Fin 4096) (hi : i.val = t.val * 256 + a.val) :
    dhB m c t (ix2 a b) = dhE (m ((c : Thread nD τ).loc main_arg6)) (m ((c : Thread nD τ).loc main_arg4)) i b := by
  refine (dhP_at _ _ _ _ _ _ a b).trans ?_
  simp only [rd0 m c t a _ i hi, rd1 m c t a _ i hi, rd2 m c t a _ i hi, rd3 m c t a _ i hi, rd4 m c t a _ i hi, rd5 m c t b, ← add_assoc]
  rw [dhE_eq, split, group_dt]
  rw [group _ _ _ _ 512 (0 + 0) 0 0 (fun k hk => by rw [wcol_qkvz (by omega)]) rfl]
  rw [group _ _ _ _ 512 (0 + 512) 512 512 (fun k hk => by rw [wcol_qkvz (by omega)]) rfl]
  rw [group _ _ _ _ 512 (0 + 1024) 1024 1024 (fun k hk => by rw [wcol_qkvz (by omega)]) rfl]
  rw [group _ _ _ _ 512 (0 + 1536) 1536 1536 (fun k hk => by rw [wcol_qkvz (by omega)]) rfl]
  rw [group _ _ _ _ 512 (0 + 2048) 2048 2048 (fun k hk => by rw [wcol_qkvz (by omega)]) rfl]
  rw [group _ _ _ _ 512 (0 + 2560) 2560 2560 (fun k hk => by rw [wcol_qkvz (by omega)]) rfl]
  rw [group _ _ _ _ 512 (3072 + 0) 3072 3072 (fun k hk => by rw [wcol_qkvz (by omega)]) rfl]
  rw [group _ _ _ _ 512 (3072 + 512) 3584 3584 (fun k hk => by rw [wcol_qkvz (by omega)]) rfl]
  rw [group _ _ _ _ 512 (5648 + 0) 4096 5648 (fun k hk => by rw [wcol_zs (by omega) (by omega)]; omega) rfl]
  rw [group _ _ _ _ 512 (5648 + 512) 4608 6160 (fun k hk => by rw [wcol_zs (by omega) (by omega)]; omega) rfl]
  rw [group _ _ _ _ 512 (4096 + 0) 5120 4096 (fun k hk => by rw [wcol_xbc (by omega) (by omega)]; omega) rfl]
  rw [group _ _ _ _ 512 (4096 + 512) 5632 4608 (fun k hk => by rw [wcol_xbc (by omega) (by omega)]; omega) rfl]
  rw [group _ _ _ _ 512 (4096 + 1024) 6144 5120 (fun k hk => by rw [wcol_xbc (by omega) (by omega)]; omega) rfl]
  abel

end Cert.InBwdIdeal.Value

end
-- ==== Proof.InFinal.lean ====
module

public import proofs.«01_k».proof.Proof.InDh

@[expose] public section

set_option maxRecDepth 16384

noncomputable section

namespace Cert.InBwdIdeal.Value

open Cert.InBwdIdeal Cert.InBwdIdeal.Gen Cert.Reals Idealize.ShloMosaic Idealize.ShloMosaic.TcCoe Idealize.SL.Sem
open Idealize.ShloMosaic.Pipeline (Dat)

variable (m : (ℓ : Loc nD τ sig) → Buf (Elt Ideal) ℓ)

/-! What each store holds, over the row block's gradient `d` and the row block `x`. -/

theorem pay9_at (x : Vec Ideal S256x1024 .f32) (a : Fin 256) (u : Fin 1) : k0_pay9 (F := Ideal) x (ix2 a u) =
    Ideal.rsqrt (Ideal.div (∑ l : Fin 1024, x (ix2 a l) * x (ix2 a l)) (Ideal.ofBits .f32 0x44800000#32) + Ideal.ofBits .f32 0x358637BD#32) := by
  pointwise [k0_pay9]

theorem pay10_at (x : Vec Ideal S256x1024 .f32) (a : Fin 256) (b : Fin 1024) : k0_pay10 (F := Ideal) x (ix2 a b) =
    x (ix2 a b) * k0_pay9 (F := Ideal) x (ix2 a 0) := by
  pointwise [k0_pay10]

theorem pay11_at (d : FVec Ideal S256x1024 .f32) (acc : Vec Ideal S1x1024 .f32) (j : S1x1024.Idx) : k0_pay11 (F := Ideal) d acc j =
    acc j + ∑ a : Fin 256, d (ix2 a (j 1)) := by
  pointwise [k0_pay11]

theorem pay12_at (d xh : FVec Ideal S256x1024 .f32) (g acc : Vec Ideal S1x1024 .f32) (j : S1x1024.Idx) : k0_pay12 (F := Ideal) d xh g acc j =
    acc j + ∑ a : Fin 256, d (ix2 a (j 1)) * xh (ix2 a (j 1)) * g (ix2 0 (j 1)) := by
  pointwise [k0_pay12]

theorem pay13_at (d : FVec Ideal S256x1024 .f32) (s : Vec Ideal S1x1024 .f32) (a : Fin 256) (b : Fin 1024) : k0_pay13 (F := Ideal) d s (ix2 a b) =
    d (ix2 a b) * (Ideal.ofBits .f32 0x3F800000#32 + s (ix2 0 b)) := by
  pointwise [k0_pay13]

theorem pay14_at (d xh : FVec Ideal S256x1024 .f32) (s acc : Vec Ideal S1x1024 .f32) (j : S1x1024.Idx) : k0_pay14 (F := Ideal) d xh s acc j =
    acc j + ∑ a : Fin 256, d (ix2 a (j 1)) * (Ideal.ofBits .f32 0x3F800000#32 + s (ix2 0 (j 1))) * xh (ix2 a (j 1)) := by
  pointwise [k0_pay14, k0_pay13]

theorem pay1_at (r : FVec Ideal S256x1 .f32) (xh : FVec Ideal S256x1024 .f32) (e : Vec Ideal S256x1024 .f32) (d : FVec Ideal S256x1024 .f32)
    (g s : Vec Ideal S1x1024 .f32) (a : Fin 256) (b : Fin 1024) :
    k0_pay1 (F := Ideal) r xh e (k0_pay15 d g s) (k0_pay16 d xh g s) (FloatOps.ofBits FTy.f32 1149239296#32) (ix2 a b) =
      e (ix2 a b) + r (ix2 a 0) * (d (ix2 a b) * (Ideal.ofBits .f32 0x3F800000#32 + s (ix2 0 b)) * g (ix2 0 b)
        - xh (ix2 a b) * Ideal.div (∑ l : Fin 1024, d (ix2 a l) * (Ideal.ofBits .f32 0x3F800000#32 + s (ix2 0 l)) * g (ix2 0 l) * xh (ix2 a l))
            (Ideal.ofBits .f32 0x44800000#32)) := by
  pointwise [k0_pay1, k0_pay13, k0_pay15, k0_pay16]

theorem zero_at (j : S1x1024.Idx) : k0_pay2 (F := Ideal) j = 0 ∧ k0_pay3 (F := Ideal) j = 0 ∧ k0_pay4 (F := Ideal) j = 0 := by
  refine ⟨?_, ?_, ?_⟩ <;> pointwise [k0_pay2, k0_pay3, k0_pay4]

theorem rd8 (c : Dev nD) (t : Fin cfg0.N) (b : Fin 1024) : iblk m c 8 t (ix2 0 b) = m ((c : Thread nD τ).loc main_arg1) (ix2 0 b) := by
  blk_ext [iblk, V, idx t]

theorem rd9 (c : Dev nD) (t : Fin cfg0.N) (b : Fin 1024) : iblk m c 9 t (ix2 0 b) = m ((c : Thread nD τ).loc main_arg2) (ix2 0 b) := by
  blk_ext [iblk, V, idx t]

theorem rd6 (c : Dev nD) (t : Fin cfg0.N) (a : Fin 256) (b : Fin 1024) (i : Fin 4096) (hi : i.val = t.val * 256 + a.val) :
    iblk m c 6 t (ix2 a b) = m ((c : Thread nD τ).loc main_arg0) (ix2 i b) := by
  blk_simp [iblk, idx t, V_main_arg0 m c]
  blk_ext [idx t]

theorem rd7 (c : Dev nD) (t : Fin cfg0.N) (a : Fin 256) (b : Fin 1024) (i : Fin 4096) (hi : i.val = t.val * 256 + a.val) :
    iblk m c 7 t (ix2 a b) = m ((c : Thread nD τ).loc main_arg5) (ix2 i b) := by
  blk_simp [iblk, idx t, V_main_arg5 m c]
  blk_ext [idx t]

/-- One over the row's root mean square. -/
def rE (x : FVec Ideal S4096x1024 .f32) (i : Fin 4096) : EReal :=
  Ideal.rsqrt (Ideal.div (∑ l : Fin 1024, x (ix2 i l) * x (ix2 i l)) (Ideal.ofBits .f32 0x44800000#32) + Ideal.ofBits .f32 0x358637BD#32)

/-- The normalised row. -/
def xhE (x : FVec Ideal S4096x1024 .f32) (i : Fin 4096) (b : Fin 1024) : EReal := x (ix2 i b) * rE x i

theorem r_blk (c : Dev nD) (t : Fin cfg0.N) (a : Fin 256) (i : Fin 4096) (hi : i.val = t.val * 256 + a.val) :
    k0_pay9 (F := Ideal) (iblk m c 6 t) (ix2 a 0) = rE (m ((c : Thread nD τ).loc main_arg0)) i := by
  rw [pay9_at, rE]
  simp only [rd6 m c t a _ i hi]

theorem xh_blk (c : Dev nD) (t : Fin cfg0.N) (a : Fin 256) (b : Fin 1024) (i : Fin 4096) (hi : i.val = t.val * 256 + a.val) :
    k0_pay10 (F := Ideal) (iblk m c 6 t) (ix2 a b) = xhE (m ((c : Thread nD τ).loc main_arg0)) i b := by
  rw [pay10_at, r_blk m c t a i hi, rd6 m c t a b i hi, xhE]

/-- The shift's gradient: the rows' gradients summed. -/
theorem final11 (c : Dev nD) : (dats m 0 c).arrAt 11 cfg0.N = fun j => (∑ i : Fin 4096,
    dhE (m ((c : Thread nD τ).loc main_arg6)) (m ((c : Thread nD τ).loc main_arg4)) i (j 1) : EReal) := by
  refine (dats m 0 c).arrAt_eq_of_after_last 11 t0_15 (by decide +kernel) _ fun j => ?_
  blk_simp
  rw [after0_11, Pipeline.eq_sum_fin_of_reset_step_apply_last (fun n h => (outsAt0 m c n h).2.1) 16 (fun _ => 0)
    (fun t j => ∑ a : Fin 256, dhB m c t (ix2 a (j 1)))
    (fun t h j => by rw [outsAt0_A m c t h]; frame_out; rw [pay11_at, (zero_at j).1])
    (fun t h j => by rw [outsAt0_B m c t h]; frame_out; rw [pay11_at])
    (le_of_eq N_0) t0_15 rfl j, zero_add]
  refine Fin.sum_mul_add_congr fun t a hi => ?_
  exact dhB_at m c t a (j 1) ⟨_, hi⟩ rfl

/-- The scale's gradient: the rows' gradients against the normalised rows and the gain. -/
theorem final12 (c : Dev nD) : (dats m 0 c).arrAt 12 cfg0.N = fun j => (∑ i : Fin 4096,
    dhE (m ((c : Thread nD τ).loc main_arg6)) (m ((c : Thread nD τ).loc main_arg4)) i (j 1) * xhE (m ((c : Thread nD τ).loc main_arg0)) i (j 1)
      * (m ((c : Thread nD τ).loc main_arg1) (ix2 0 (j 1)) : EReal) : EReal) := by
  refine (dats m 0 c).arrAt_eq_of_after_last 12 t0_15 (by decide +kernel) _ fun j => ?_
  blk_simp
  rw [after0_12, Pipeline.eq_sum_fin_of_reset_step_apply_last (fun n h => (outsAt0 m c n h).2.2.1) 16 (fun _ => 0)
    (fun t j => ∑ a : Fin 256, dhB m c t (ix2 a (j 1)) * k0_pay10 (F := Ideal) (iblk m c 6 t) (ix2 a (j 1)) * (show FVec Ideal S1x1024 .f32 from iblk m c 8 t) (ix2 0 (j 1)))
    (fun t h j => by rw [outsAt0_A m c t h]; frame_out; rw [pay12_at, (zero_at j).2.1])
    (fun t h j => by rw [outsAt0_B m c t h]; frame_out; rw [pay12_at])
    (le_of_eq N_0) t0_15 rfl j, zero_add]
  refine Fin.sum_mul_add_congr fun t a hi => ?_
  rw [dhB_at m c t a (j 1) ⟨_, hi⟩ rfl, xh_blk m c t a (j 1) ⟨_, hi⟩ rfl]
  exact congrArg _ (rd8 m c t (j 1))

/-- The gain's gradient: the scaled rows' gradients against the normalised rows. -/
theorem final13 (c : Dev nD) : (dats m 0 c).arrAt 13 cfg0.N = fun j => (∑ i : Fin 4096,
    dhE (m ((c : Thread nD τ).loc main_arg6)) (m ((c : Thread nD τ).loc main_arg4)) i (j 1)
      * (Ideal.ofBits .f32 0x3F800000#32 + (m ((c : Thread nD τ).loc main_arg2) (ix2 0 (j 1)) : EReal)) * xhE (m ((c : Thread nD τ).loc main_arg0)) i (j 1) : EReal) := by
  refine (dats m 0 c).arrAt_eq_of_after_last 13 t0_15 (by decide +kernel) _ fun j => ?_
  blk_simp
  rw [after0_13, Pipeline.eq_sum_fin_of_reset_step_apply_last (fun n h => (outsAt0 m c n h).2.2.2) 16 (fun _ => 0)
    (fun t j => ∑ a : Fin 256, dhB m c t (ix2 a (j 1)) * (Ideal.ofBits .f32 0x3F800000#32 + (show FVec Ideal S1x1024 .f32 from iblk m c 9 t) (ix2 0 (j 1)))
      * k0_pay10 (F := Ideal) (iblk m c 6 t) (ix2 a (j 1)))
    (fun t h j => by rw [outsAt0_A m c t h]; frame_out; rw [pay14_at, (zero_at j).2.2])
    (fun t h j => by rw [outsAt0_B m c t h]; frame_out; rw [pay14_at])
    (le_of_eq N_0) t0_15 rfl j, zero_add]
  refine Fin.sum_mul_add_congr fun t a hi => ?_
  rw [dhB_at m c t a (j 1) ⟨_, hi⟩ rfl, xh_blk m c t a (j 1) ⟨_, hi⟩ rfl]
  exact congrArg (fun z => _ * (_ + z) * _) (rd9 m c t (j 1))

/-- What the gradient of a row adds to the cotangent the row already has. -/
def gxE (D : FVec Ideal S4096x6672 .f32) (W : FVec Ideal S1024x6672 .f32) (x : FVec Ideal S4096x1024 .f32) (g s : FVec Ideal S1x1024 .f32)
    (i : Fin 4096) (b : Fin 1024) : EReal :=
  rE x i * (dhE D W i b * (Ideal.ofBits .f32 0x3F800000#32 + s (ix2 0 b)) * g (ix2 0 b)
    - xhE x i b * Ideal.div (∑ l : Fin 1024, dhE D W i l * (Ideal.ofBits .f32 0x3F800000#32 + s (ix2 0 l)) * g (ix2 0 l) * xhE x i l)
        (Ideal.ofBits .f32 0x44800000#32))

theorem point10 (c : Dev nD) (t : Fin cfg0.N) : (outsAt0 m c t.val t.isLt).1 =
    k0_pay1 (F := Ideal) (k0_pay9 (iblk m c 6 t)) (k0_pay10 (iblk m c 6 t)) (iblk m c 7 t) (k0_pay15 (dhB m c t) (iblk m c 8 t) (iblk m c 9 t))
      (k0_pay16 (dhB m c t) (k0_pay10 (iblk m c 6 t)) (iblk m c 8 t) (iblk m c 9 t)) (FloatOps.ofBits FTy.f32 1149239296#32) := by
  by_cases h : t.val % 16 = 0
  · rw [outsAt0_A m c t h]; frame_out
  · rw [outsAt0_B m c t h]; frame_out

theorem point10_at (c : Dev nD) (t : Fin cfg0.N) (a : Fin 256) (b : Fin 1024) (i : Fin 4096) (hi : i.val = t.val * 256 + a.val) :
    (outsAt0 m c t.val t.isLt).1 (ix2 a b) = (show FVec Ideal S4096x1024 .f32 from m ((c : Thread nD τ).loc main_arg5)) (ix2 i b)
    + gxE (m ((c : Thread nD τ).loc main_arg6)) (m ((c : Thread nD τ).loc main_arg4)) (m ((c : Thread nD τ).loc main_arg0))
        (m ((c : Thread nD τ).loc main_arg1)) (m ((c : Thread nD τ).loc main_arg2)) i b := by
  rw [point10, pay1_at, rd7 m c t a b i hi, r_blk m c t a i hi, gxE]
  simp only [xh_blk m c t a _ i hi, dhB_at m c t a _ i hi, rd8 m c t, rd9 m c t]

theorem point10_of (c : Dev nD) (t : Fin cfg0.N) (y : S256x1024.Idx) (j : S4096x1024.Idx) (h0 : (j 0).val = t.val * 256 + (y 0).val)
    (h1 : (j 1).val = (y 1).val) :
    (outsAt0 m c t.val t.isLt).1 y = (show FVec Ideal S4096x1024 .f32 from m ((c : Thread nD τ).loc main_arg5)) j
    + gxE (m ((c : Thread nD τ).loc main_arg6)) (m ((c : Thread nD τ).loc main_arg4)) (m ((c : Thread nD τ).loc main_arg0))
        (m ((c : Thread nD τ).loc main_arg1)) (m ((c : Thread nD τ).loc main_arg2)) (j 0) (j 1) := by
  obtain ⟨a, b, rfl⟩ : ∃ (a : Fin 256) (b : Fin 1024), y = ix2 a b := ⟨_, _, eq_ix2 y⟩
  obtain ⟨i, b', rfl⟩ : ∃ (i : Fin 4096) (b' : Fin 1024), j = ix2 i b' := ⟨_, _, eq_ix2 j⟩
  obtain rfl : b' = b := Fin.ext h1
  exact point10_at m c t a b' i h0

/-- The gradient of the input row. -/
theorem final10 (c : Dev nD) : (dats m 0 c).arrAt 10 cfg0.N = fun j => (show FVec Ideal S4096x1024 .f32 from m ((c : Thread nD τ).loc main_arg5)) j
    + gxE (m ((c : Thread nD τ).loc main_arg6)) (m ((c : Thread nD τ).loc main_arg4)) (m ((c : Thread nD τ).loc main_arg0))
        (m ((c : Thread nD τ).loc main_arg1)) (m ((c : Thread nD τ).loc main_arg2)) (j 0) (j 1) := by
  refine (dats m 0 c).arrAt_eq_of_covers 10 _ (by decide +kernel) fun t hf y => ?_
  blk_simp
  rw [after0_10]
  have h0 : ((win0_10.blk t).view.emb y 0 : ℕ) = t.val * 256 + (y 0 : ℕ) := by blk_simp [idx t]
  have h1 : ((win0_10.blk t).view.emb y 1 : ℕ) = (y 1 : ℕ) := by blk_simp [idx t]
  exact point10_of m c t y _ h0 h1

end Cert.InBwdIdeal.Value

end
-- ==== Proof.InRefVal.lean ====
/- What the input projection's reference returns, read at an index: the derivative of the norm, the affine map and the product. -/
module

public import proofs.«01_k».proof.Proof.Gen.InRefIdeal.Run
public import proofs.«01_k».proof.Proof.InFinal

@[expose] public section

set_option maxRecDepth 16384

noncomputable section

namespace Cert.InRefIdeal.Value

open Cert.InRefIdeal Cert.InRefIdeal.Gen Cert.InRefIdeal.Facts Cert.Reals Idealize.ShloMosaic Idealize.ShloMosaic.TcCoe Idealize.SL.Sem
open Cert.InBwdIdeal.Value (dhE rE xhE gxE)

variable (x : FVec Ideal S4096x1024 .f32) (g s : FVec Ideal S1x1024 .f32) (W : FVec Ideal S1024x6672 .f32) (D : FVec Ideal S4096x6672 .f32)

/-- The cotangent of the normed row. -/
abbrev dh : FVec Ideal S4096x1024 .f32 := Host.dotGeneral dot_S4096x6672_S1024x6672_S4096x1024_1_1_0_0_n_n none D W

/-- The mean square of a row with its small constant. -/
abbrev ms : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- A column over the row. -/
abbrev wide (r : FVec Ideal S4096x1 .f32) : FVec Ideal S4096x1024 .f32 := broadcastInDim S4096x1024 ![0, 1] bcast_S4096x1_S4096x1024_0_1 r

/-- A row over all rows. -/
abbrev tall (v : FVec Ideal S1x1024 .f32) : FVec Ideal S4096x1024 .f32 := broadcastInDim S4096x1024 ![0, 1] bcast_S1x1024_S4096x1024_0_1 v

/-- One and the scale. -/
abbrev onep : FVec Ideal S1x1024 .f32 := addf (broadcastInDim S1x1024 ![] bcast_S_S1x1024 (constant S_ .f32 0x3F800000#32)) s

/-- The sum down the rows. -/
abbrev down (v : FVec Ideal S4096x1024 .f32) : FVec Ideal S1x1024 .f32 :=
  shapeCast _ (Host.reduceAdd v (constant S_ .f32 0x00000000#32) reducesTo_S4096x1024_S1024_d0 h_S_) shapeCasts_S1024_S1x1024

theorem dh_at (i : Fin 4096) (b : Fin 1024) : dh W D (ix2 i b) = dhE D W i b := by
  pointwise [dhE]

theorem ms_at (i : Fin 4096) (u : Fin 1) : ms x (ix2 i u) =
    Ideal.div (∑ l : Fin 1024, x (ix2 i l) * x (ix2 i l)) (Ideal.ofBits .f32 0x44800000#32) + Ideal.ofBits .f32 0x358637BD#32 := by
  pointwise

theorem down_at (v : FVec Ideal S4096x1024 .f32) (j : S1x1024.Idx) : down v j = ∑ i : Fin 4096, v (ix2 i (j 1)) := by
  pointwise

theorem rs_at (i : Fin 4096) (u : Fin 1) : Host.rsqrt (ms x) (ix2 i u) = rE x i := by
  rw [rE, ← ms_at x i u]; rfl

theorem hat_at (i : Fin 4096) (b : Fin 1024) : mulf x (wide (Host.rsqrt (ms x))) (ix2 i b) = xhE x i b := by
  rw [xhE, ← rs_at x i 0]
  pointwise

theorem tall_at (v : FVec Ideal S1x1024 .f32) (i : Fin 4096) (b : Fin 1024) : tall v (ix2 i b) = v (ix2 0 b) := by
  pointwise

theorem onep_at (b : Fin 1024) : onep s (ix2 0 b) = Ideal.ofBits .f32 0x3F800000#32 + s (ix2 0 b) := by
  pointwise

/-- The shift's gradient. -/
theorem dshift_at : down (dh W D) = fun j => ∑ i : Fin 4096, dhE D W i (j 1) := by
  funext j
  rw [down_at]
  exact Finset.sum_congr rfl fun i _ => dh_at W D i (j 1)

theorem dscale_term (i : Fin 4096) (b : Fin 1024) : mulf (mulf (mulf x (wide (Host.rsqrt (ms x)))) (tall g)) (dh W D) (ix2 i b)
    = dhE D W i b * xhE x i b * g (ix2 0 b) := by
  show mulf x (wide (Host.rsqrt (ms x))) (ix2 i b) * tall g (ix2 i b) * dh W D (ix2 i b) = _
  rw [hat_at, tall_at, dh_at, mul_comm, mul_assoc]

/-- The scale's gradient. -/
theorem dscale_at : down (mulf (mulf (mulf x (wide (Host.rsqrt (ms x)))) (tall g)) (dh W D))
    = fun j => ∑ i : Fin 4096, dhE D W i (j 1) * xhE x i (j 1) * g (ix2 0 (j 1)) := by
  funext j
  rw [down_at]
  exact Finset.sum_congr rfl fun i _ => dscale_term x g W D i (j 1)

theorem ggain_term (i : Fin 4096) (b : Fin 1024) : mulf (mulf x (wide (Host.rsqrt (ms x)))) (mulf (dh W D) (tall (onep s))) (ix2 i b)
    = dhE D W i b * (Ideal.ofBits .f32 0x3F800000#32 + s (ix2 0 b)) * xhE x i b := by
  show mulf x (wide (Host.rsqrt (ms x))) (ix2 i b) * (dh W D (ix2 i b) * tall (onep s) (ix2 i b)) = _
  rw [hat_at, tall_at, dh_at, onep_at, mul_comm]

/-- The gain's gradient. -/
theorem ggain_at : down (mulf (mulf x (wide (Host.rsqrt (ms x)))) (mulf (dh W D) (tall (onep s))))
    = fun j => ∑ i : Fin 4096, dhE D W i (j 1) * (Ideal.ofBits .f32 0x3F800000#32 + s (ix2 0 (j 1))) * xhE x i (j 1) := by
  funext j
  rw [down_at]
  exact Finset.sum_congr rfl fun i _ => ggain_term x s W D i (j 1)

/-- The cotangent through the gain, the scale and the product. -/
abbrev tg : FVec Ideal S4096x1024 .f32 := mulf (mulf (dh W D) (tall (onep s))) (tall g)

theorem tg_at (i : Fin 4096) (b : Fin 1024) : tg g s W D (ix2 i b)
    = dhE D W i b * (Ideal.ofBits .f32 0x3F800000#32 + s (ix2 0 b)) * g (ix2 0 b) := by
  show dh W D (ix2 i b) * tall (onep s) (ix2 i b) * tall g (ix2 i b) = _
  rw [tall_at, tall_at, dh_at, onep_at]

/-- What the mean square hands back to every element of a row, halved. -/
abbrev back (t : FVec Ideal S4096x1024 .f32) : FVec Ideal S4096x1024 .f32 :=
  broadcastInDim S4096x1024 ![0] bcast_S4096_S4096x1024_0 (Host.reduceAdd (Host.divf (mulf (shapeCast _ (Host.reduceAdd (mulf x t)
    (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (ms x)) (ms x))))
    (broadcastInDim S4096x1 ![] bcast_S_S4096x1 (constant S_ .f32 0x44800000#32))) (constant S_ .f32 0x00000000#32) reducesTo_S4096x1_S4096_d1 h_S_)

theorem back_at (t : FVec Ideal S4096x1024 .f32) (i : Fin 4096) (b : Fin 1024) : back x t (ix2 i b) =
    Ideal.div ((∑ l : Fin 1024, x (ix2 i l) * t (ix2 i l)) * (Ideal.ofBits .f32 0xBF000000#32 * Ideal.div (rE x i)
      (Ideal.div (∑ l : Fin 1024, x (ix2 i l) * x (ix2 i l)) (Ideal.ofBits .f32 0x44800000#32) + Ideal.ofBits .f32 0x358637BD#32)))
      (Ideal.ofBits .f32 0x44800000#32) := by
  pointwise [rE]
  simp only [Finset.univ_unique, Finset.sum_singleton]

variable (m : (ℓ : Loc nD τ sig) → Buf (Elt Ideal) ℓ) (c : Dev nD)

theorem res_eq : res_main_v51 m c =
    let x : FVec Ideal S4096x1024 .f32 := m ((c.tc : Thread nD τ).loc main_arg0)
    let t := tg (m ((c.tc : Thread nD τ).loc main_arg1)) (m ((c.tc : Thread nD τ).loc main_arg2)) (m ((c.tc : Thread nD τ).loc main_arg4)) (m ((c.tc : Thread nD τ).loc main_arg6))
    addf (addf (addf (m ((c.tc : Thread nD τ).loc main_arg5)) (mulf t (wide (Host.rsqrt (ms x))))) (mulf x (back x t))) (mulf (back x t) x) := by
  unfold res_main_v51
  rfl

end Cert.InRefIdeal.Value

end
-- ==== Proof.Rms.lean ====
/- The gradient of a root-mean-square norm: the closed form against the one that differentiation gives, on real rows. -/
module

public import proofs.«01_k».proof.Proof.Reals

@[expose] public section

namespace Cert.Reals

open Idealize.ShloMosaic

/-- The mean square of a real row, with the small constant, is a positive real. -/
theorem ms_real {n : ℕ} (N : ℝ) (hN : 0 < N) (X : Fin n → ℝ) :
    Ideal.div (∑ l, (X l : EReal) * (X l : EReal)) (N : EReal) + (eps : EReal) = (((∑ l, X l * X l) / N + eps : ℝ) : EReal) := by
  simp only [← EReal.coe_mul]
  rw [sum_coe, div_coe _ _ hN.ne', ← EReal.coe_add]

theorem ms_pos {n : ℕ} (N : ℝ) (hN : 0 < N) (X : Fin n → ℝ) : 0 < (∑ l, X l * X l) / N + eps := by
  have : 0 ≤ ∑ l, X l * X l := Finset.sum_nonneg fun l _ => mul_self_nonneg _
  have := eps_pos
  positivity

/-- The identity in the reals: `q` is the inverse root of `v`. -/
theorem rms_back_real (N q v P x t : ℝ) (hN : N ≠ 0) (hv : v ≠ 0) (hq : q * q * v = 1) :
    t * q + x * (P * (-(1 / 2) * (q / v)) / N) + P * (-(1 / 2) * (q / v)) / N * x = q * (t - x * q * (P * q / N)) := by
  have e : q / v = q * q * q := by rw [div_eq_iff hv]; linear_combination (-q) * hq
  rw [e]
  field_simp
  ring

/-- What the norm's derivative hands back to an element of the row, in both forms. -/
theorem rms_back {n : ℕ} (N : ℝ) (hN : 0 < N) (x t : Fin n → EReal) (hx : ∀ l, ∃ r : ℝ, x l = r) (ht : ∀ l, ∃ r : ℝ, t l = r)
    (b : Fin n) (v r B : EReal) (hv : v = Ideal.div (∑ l, x l * x l) (N : EReal) + (eps : EReal)) (hr : r = Ideal.rsqrt v)
    (hB : B = Ideal.div ((∑ l, x l * t l) * (((-(1 / 2) : ℝ) : EReal) * Ideal.div r v)) (N : EReal)) :
    t b * r + x b * B + B * x b = r * (t b - x b * r * Ideal.div (∑ l, t l * (x l * r)) (N : EReal)) := by
  choose X hX using hx
  choose T hT using ht
  obtain rfl : x = fun l => (X l : EReal) := funext hX
  obtain rfl : t = fun l => (T l : EReal) := funext hT
  have pos := ms_pos N hN X
  rw [ms_real N hN] at hv
  subst hv
  rw [rsqrt_coe _ pos] at hr
  subst hr
  rw [div_coe _ _ pos.ne'] at hB
  simp only [← EReal.coe_mul] at hB
  rw [sum_coe, ← EReal.coe_mul, div_coe _ _ hN.ne'] at hB
  subst hB
  simp only [← EReal.coe_mul]
  rw [sum_coe, div_coe _ _ hN.ne']
  simp only [← EReal.coe_mul, ← EReal.coe_add, ← EReal.coe_sub]
  congr 1
  have := rms_back_real N (√((∑ l, X l * X l) / N + eps))⁻¹ _ (∑ l, X l * T l) (X b) (T b) hN.ne' pos.ne' (by
    rw [← mul_inv, Real.mul_self_sqrt pos.le]; exact inv_mul_cancel₀ pos.ne')
  rw [this]
  have e : ∑ l, T l * (X l * (√((∑ l, X l * X l) / N + eps))⁻¹) = (∑ l, X l * T l) * (√((∑ l, X l * X l) / N + eps))⁻¹ := by
    rw [Finset.sum_mul]
    exact Finset.sum_congr rfl fun l _ => by ring
  rw [e]

end Cert.Reals

end
-- ==== Proof.InAlg.lean ====
/- The input projection's backward call against the derivative of its forward lines: the claims about the pair. -/
module

public import proofs.«01_k».proof.Defs
public import proofs.«01_k».proof.Proof.Gen.Pre_in_finite
public import proofs.«01_k».proof.Proof.Gen.InBwd.Frame
public import proofs.«01_k».proof.Proof.InRefVal
public import proofs.«01_k».proof.Proof.Rms

@[expose] public section

set_option maxRecDepth 16384

noncomputable section

namespace Cert.InPair

open Cert.InRefIdeal Cert.InRefIdeal.Gen Cert.InRefIdeal.Value Cert.Reals Idealize.ShloMosaic Idealize.ShloMosaic.TcCoe Idealize.SL.Sem
open Cert.InBwdIdeal.Value (dhE rE xhE gxE)

/-- Every element is a real. -/
abbrev Real' {s : Shape} (x : FVec Ideal s .f32) : Prop := ∀ i, ∃ r : ℝ, x i = r

/-- The precondition says that five of the arguments are real. -/
theorem decode (x : FVec Ideal S4096x1024 .f32) (g s h : FVec Ideal S1x1024 .f32) (W : FVec Ideal S1024x6672 .f32) (e : FVec Ideal S4096x1024 .f32)
    (D : FVec Ideal S4096x6672 .f32) (hp : Cert.Pre_in_finite.fn (F := Ideal) x g s h W e D = fun _ => 1#1) :
    Real' x ∧ Real' g ∧ Real' s ∧ Real' W ∧ Real' D := by
  have h0 := congrFun hp (fun i => i.elim0)
  obtain ⟨h1, hD⟩ := andi_one h0
  obtain ⟨h2, hW⟩ := andi_one h1
  obtain ⟨h3, hs⟩ := andi_one h2
  obtain ⟨hx, hg⟩ := andi_one h3
  haveI : Subsingleton S_.Idx := ⟨fun a b => funext fun i => i.elim0⟩
  exact ⟨all_real _ _ _ _ _ inf_f32 _ hx, all_real _ _ _ _ _ inf_f32 _ hg, all_real _ _ _ _ _ inf_f32 _ hs,
    all_real _ _ _ _ _ inf_f32 _ hW, all_real _ _ _ _ _ inf_f32 _ hD⟩

variable (x : FVec Ideal S4096x1024 .f32) (g s : FVec Ideal S1x1024 .f32) (W : FVec Ideal S1024x6672 .f32) (D : FVec Ideal S4096x6672 .f32)

theorem t_real (hg : Real' g) (hs : Real' s) (hW : Real' W) (hD : Real' D) (i : Fin 4096) (b : Fin 1024) :
    ∃ r : ℝ, dhE D W i b * (Ideal.ofBits .f32 0x3F800000#32 + s (ix2 0 b)) * g (ix2 0 b) = r := by
  choose G hG using hg
  choose S hS using hs
  choose w hw using hW
  choose d hd using hD
  unfold dhE
  simp only [hG, hS, hw, hd, cone_f32, ← EReal.coe_mul, ← EReal.coe_add]
  rw [sum_coe]
  exact ⟨_, by rw [← EReal.coe_mul, ← EReal.coe_mul]⟩

/-- The gradient of the input, element by element. -/
theorem gx_at (e : FVec Ideal S4096x1024 .f32) (hx : Real' x) (hg : Real' g) (hs : Real' s) (hW : Real' W) (hD : Real' D) (i : Fin 4096) (b : Fin 1024) :
    addf (addf (addf e (mulf (tg g s W D) (wide (Host.rsqrt (ms x))))) (mulf x (back x (tg g s W D)))) (mulf (back x (tg g s W D)) x) (ix2 i b)
      = e (ix2 i b) + gxE D W x g s i b := by
  have hw : wide (Host.rsqrt (ms x)) (ix2 i b) = rE x i := by rw [← rs_at x i 0]; pointwise
  show e (ix2 i b) + tg g s W D (ix2 i b) * wide (Host.rsqrt (ms x)) (ix2 i b) + x (ix2 i b) * back x (tg g s W D) (ix2 i b)
    + back x (tg g s W D) (ix2 i b) * x (ix2 i b) = _
  rw [hw, back_at, c1024_f32, eps_f32, cneghalf_f32]
  simp only [tg_at]
  have key := rms_back 1024 (by norm_num) (fun l => x (ix2 i l))
    (fun l => dhE D W i l * (Ideal.ofBits .f32 0x3F800000#32 + s (ix2 0 l)) * g (ix2 0 l)) (fun l => hx _) (t_real g s W D hg hs hW hD i) b _ (rE x i) _
    rfl (by rw [rE, c1024_f32, eps_f32]) rfl
  rw [add_assoc, add_assoc, ← add_assoc (_ * rE x i)]
  refine congrArg (e (ix2 i b) + ·) (key.trans ?_)
  simp only [gxE, xhE, c1024_f32]

theorem gx_eq (e : FVec Ideal S4096x1024 .f32) (hx : Real' x) (hg : Real' g) (hs : Real' s) (hW : Real' W) (hD : Real' D) :
    addf (addf (addf e (mulf (tg g s W D) (wide (Host.rsqrt (ms x))))) (mulf x (back x (tg g s W D)))) (mulf (back x (tg g s W D)) x)
      = fun j => e j + gxE D W x g s (j 0) (j 1) := by
  funext j
  obtain ⟨i, b, rfl⟩ : ∃ (i : Fin 4096) (b : Fin 1024), j = ix2 i b := ⟨_, _, eq_ix2 j⟩
  exact gx_at x g s W D e hx hg hs hW hD i b

/-- The reference's frame. -/
theorem frame_ref : Cert.quiescent_InRefIdeal := fun m ρ _ =>
  (θ_run Cert.InRefIdeal.defs _ _).mono (fun r h => ⟨fun c => (h c).2.2.2.2, Idealize.ShloMosaic.sem_eq_zero_of_no_sems (by decide) r.2⟩) (Cert.InRefIdeal.Value.run (F := Ideal) m ρ)

theorem frame_ref_pre : Cert.quiescent_InRefIdeal_pre_in_finite := fun m ρ _ => frame_ref m ρ trivial

/-- Kernel and reference return the same four arrays. -/
theorem algebraic : Cert.algebraic_InBwdIdeal_InRefIdeal_pre_in_finite := by
  intro m ρ m' ρ' hp ha
  refine ⟨fun c => (Cert.InBwdIdeal.Gen.dats m 0 c).arrAt 10 Cert.InBwdIdeal.cfg0.N, fun c => (Cert.InBwdIdeal.Gen.dats m 0 c).arrAt 11 Cert.InBwdIdeal.cfg0.N,
    fun c => (Cert.InBwdIdeal.Gen.dats m 0 c).arrAt 12 Cert.InBwdIdeal.cfg0.N, fun c => (Cert.InBwdIdeal.Gen.dats m 0 c).arrAt 13 Cert.InBwdIdeal.cfg0.N,
    Cert.InBwdIdeal.Value.run_blocks m ρ, ?_⟩
  refine (θ_run Cert.InRefIdeal.defs _ _).mono (fun r h c => ?_) (Cert.InRefIdeal.Value.run (F := Ideal) m' ρ')
  obtain ⟨r0, r1, r2, r3, keep⟩ := h c
  obtain ⟨h0, h1, h2, h3, h4, h5, h6⟩ := ha c
  obtain ⟨fx, fg, fs, fW, fD⟩ := decode _ _ _ _ _ _ _ (hp c)
  refine ⟨?_, ?_, ?_, ?_, keep⟩
  · rw [r0, res_eq, h0, h1, h2, h4, h5, h6]
    exact (gx_eq _ _ _ _ _ _ fx fg fs fW fD).trans (Cert.InBwdIdeal.Value.final10 m c).symm
  · rw [r1, h4, h6]
    exact (dshift_at _ _).trans (Cert.InBwdIdeal.Value.final11 m c).symm
  · rw [r2, h0, h1, h4, h6]
    exact (dscale_at _ _ _ _).trans (Cert.InBwdIdeal.Value.final12 m c).symm
  · rw [r3, h0, h2, h4, h6]
    exact (ggain_at _ _ _ _).trans (Cert.InBwdIdeal.Value.final13 m c).symm

/-- All claims about the pair. -/
theorem claims : (Cert.quiescent_InBwd ∧ Cert.quiescent_InBwdIdeal ∧ Cert.quiescent_InBwdIdeal_pre_in_finite ∧ Cert.quiescent_InRefIdeal
    ∧ Cert.quiescent_InRefIdeal_pre_in_finite) ∧ Cert.preserves_InBwd_InBwdIdeal ∧ Cert.algebraic_InBwdIdeal_InRefIdeal_pre_in_finite :=
  ⟨⟨fun m ρ _ => Cert.InBwd.Gen.frame m ρ, fun m ρ _ => Cert.InBwdIdeal.Gen.frame m ρ, fun m ρ _ => Cert.InBwdIdeal.Gen.frame m ρ,
    frame_ref, frame_ref_pre⟩, trivial, algebraic⟩

end Cert.InPair

end
-- ==== Proof.AttnTile.lean ====
module

public import proofs.«01_k».proof.Proof.Reals
public import Idealize.ShloMosaic.Lib.MatmulPlain
public import Idealize.ShloMosaic.Lib.Pointwise
public import Idealize.ShloMosaic.Lib.Pipeline.ValueKit

@[expose] public section

noncomputable section

/-! One tile of the attention's backward pass on `n` query rows and one block of 128 keys: what the body computes from
    the rows of the queries, of the cotangent, of the total, and of the state carried from the key blocks before it
    (`pre`, the sum of the logarithms so far; `dpre`, the sum of the weights' gradients so far; `dq`). -/

namespace Cert.AttnTile

open Cert.Reals Idealize.ShloMosaic

/-- A matrix's shape. -/
abbrev T (a b : ℕ) : Shape := ⟨2, ![a, b]⟩

/-- What the tile's operations ask of the number of rows. -/
structure Rows (n : ℕ) : Prop where
  cat : Shape.Concatenates [T n 128, T n 128] (T n 256) 1
  bc : (T n 1).Broadcasts (T n 128)
  sl : (T n 128).Slices ![0, 127] (T n 1)
  io0 : (T n 128).Iotas .tc 32 [0]
  io1 : (T n 128).Iotas .tc 32 [1]

section

variable {n : ℕ} (h : Rows n)

def mask : IVec (T n 128) 1 :=
  cmpi .slt (iota .tc (T n 128) 32 [1] h.io1) (iota .tc (T n 128) 32 [0] h.io0)

def sc (q : FVec Ideal (T n 64) .bf16) (k : FVec Ideal (T 128 64) .bf16) : FVec Ideal (T n 128) .f32 :=
  matmul (DotDims.transposedRhs n 64 128) none q k (constant (T n 128) .f32 0x00000000#32)

def lsg (z : FVec Ideal (T n 128) .f32) : FVec Ideal (T n 128) .f32 :=
  subf (minimumf z (broadcast (T n 128) (Scalar.ofBits .f32 0x00000000#32)))
    (log (addf (broadcast (T n 128) (Scalar.ofBits .f32 0x3F800000#32))
      (exp (subf (broadcast (T n 128) (Scalar.ofBits .f32 0x00000000#32)) (absf z)))))

def lomM (z : FVec Ideal (T n 128) .f32) : FVec Ideal (T n 128) .f32 :=
  select (mask h) (subf (lsg z) z) (broadcast (T n 128) (Scalar.ofBits .f32 0x00000000#32))

def pin (lom : FVec Ideal (T n 128) .f32) (inc : FVec Ideal (T 256 128) .bf16) : FVec Ideal (T n 128) .f32 :=
  matmul (DotDims.plain n 256 128) none
    (concatenate (T n 256) 1 [⟨T n 128, truncf .bf16 lom (by decide)⟩,
      ⟨T n 128, truncf .bf16 (subf lom (extf .f32 (truncf .bf16 lom (by decide)) (by decide))) (by decide)⟩] h.cat)
    inc (constant (T n 128) .f32 0x00000000#32)

def expo (lb pn : FVec Ideal (T n 128) .f32) (tot pre : FVec Ideal (T n 1) .f32) : FVec Ideal (T n 128) .f32 :=
  addf lb (subf (broadcastTo (T n 128) (subf tot pre) h.bc) pn)

def wgtM (a : FVec Ideal (T n 128) .f32) : FVec Ideal (T n 128) .f32 :=
  exp (select (mask h) a (broadcast (T n 128) (Scalar.ofBits .f32 0xFF800000#32)))

def dAt (d : FVec Ideal (T n 64) .bf16) (v : FVec Ideal (T 128 64) .bf16) (w : FVec Ideal (T n 128) .f32) :
    FVec Ideal (T n 128) .f32 :=
  mulf (matmul (DotDims.transposedRhs n 64 128) none d v (constant (T n 128) .f32 0x00000000#32)) w

def dLt (dA : FVec Ideal (T n 128) .f32) (bef : FVec Ideal (T 128 128) .bf16) : FVec Ideal (T n 128) .f32 :=
  matmul (DotDims.plain n 128 128) none (truncf .bf16 dA (by decide) : FVec Ideal (T n 128) .bf16) bef (constant (T n 128) .f32 0x00000000#32)

def dZt (lb dA dL : FVec Ideal (T n 128) .f32) (dpre : FVec Ideal (T n 1) .f32) : FVec Ideal (T n 128) .f32 :=
  subf (mulf dA (subf (broadcast (T n 128) (Scalar.ofBits .f32 0x3F800000#32)) (exp lb)))
    (mulf (addf dL (broadcastTo (T n 128) dpre h.bc)) (exp lb))

def dZM (z : FVec Ideal (T n 128) .f32) : FVec Ideal (T n 128) .f32 :=
  select (mask h) z (broadcast (T n 128) (Scalar.ofBits .f32 0x00000000#32))

def dqN (dq : FVec Ideal (T n 64) .f32) (dz : FVec Ideal (T n 128) .f32) (k : FVec Ideal (T 128 64) .bf16) :
    FVec Ideal (T n 64) .f32 :=
  addf dq (matmul (DotDims.plain n 128 64) none (truncf .bf16 dz (by decide) : FVec Ideal (T n 128) .bf16) k (constant (T n 64) .f32 0x00000000#32))

def keyN (x : FVec Ideal (T 64 n) .bf16) (y : FVec Ideal (T n 128) .f32) : FVec Ideal (T 64 128) .f32 :=
  matmul (DotDims.plain 64 n 128) none x (truncf .bf16 y (by decide) : FVec Ideal (T n 128) .bf16) (constant (T 64 128) .f32 0x00000000#32)

def preN (pre : FVec Ideal (T n 1) .f32) (pn : FVec Ideal (T n 128) .f32) : FVec Ideal (T n 1) .f32 :=
  addf pre (extractStridedSlice (T n 1) ![0, 127] pn h.sl)

def dpreN (dpre : FVec Ideal (T n 1) .f32) (dA dL : FVec Ideal (T n 128) .f32) : FVec Ideal (T n 1) .f32 :=
  addf (addf dpre (extractStridedSlice (T n 1) ![0, 127] dL h.sl)) (extractStridedSlice (T n 1) ![0, 127] dA h.sl)

end

/-- The state carried over the key blocks. -/
structure St (n : ℕ) where
  dq : FVec Ideal (T n 64) .f32
  pre : FVec Ideal (T n 1) .f32
  dpre : FVec Ideal (T n 1) .f32

/-- The rows a tile reads beside the state. -/
structure Inp (n : ℕ) where
  q : FVec Ideal (T n 64) .bf16
  d : FVec Ideal (T n 64) .bf16
  tot : FVec Ideal (T n 1) .f32
  inc : FVec Ideal (T 256 128) .bf16
  bef : FVec Ideal (T 128 128) .bf16

section

variable {n : ℕ} (h : Rows n) (I : Inp n) (k v : FVec Ideal (T 128 64) .bf16) (s : St n)

/-! A tile below the diagonal. -/

def pinU : FVec Ideal (T n 128) .f32 := pin h (subf (lsg (sc I.q k)) (sc I.q k)) I.inc
def wU : FVec Ideal (T n 128) .f32 := exp (expo h (lsg (sc I.q k)) (pinU h I k) I.tot s.pre)
def dAU : FVec Ideal (T n 128) .f32 := dAt I.d v (wU h I k s)
def dLU : FVec Ideal (T n 128) .f32 := dLt (dAU h I k v s) I.bef
def dzU : FVec Ideal (T n 128) .f32 := dZt h (lsg (sc I.q k)) (dAU h I k v s) (dLU h I k v s) s.dpre
def stepU : St n := ⟨dqN s.dq (dzU h I k v s) k, preN h s.pre (pinU h I k), dpreN h s.dpre (dAU h I k v s) (dLU h I k v s)⟩

/-! A tile on the diagonal: the key's column comes before the query's row, or the entry does not count. -/

def pinM : FVec Ideal (T n 128) .f32 := pin h (lomM h (sc I.q k)) I.inc
def wM : FVec Ideal (T n 128) .f32 := wgtM h (expo h (lsg (sc I.q k)) (pinM h I k) I.tot s.pre)
def dAM : FVec Ideal (T n 128) .f32 := dAt I.d v (wM h I k s)
def dLM : FVec Ideal (T n 128) .f32 := dLt (dAM h I k v s) I.bef
def dzM : FVec Ideal (T n 128) .f32 := dZM h (dZt h (lsg (sc I.q k)) (dAM h I k v s) (dLM h I k v s) s.dpre)
def stepM : St n := ⟨dqN s.dq (dzM h I k v s) k, preN h s.pre (pinM h I k), dpreN h s.dpre (dAM h I k v s) (dLM h I k v s)⟩

end

/-! The state of the last `n` of `r + n` rows, and the state with those rows replaced. -/

structure Cut (N r n : ℕ) : Prop where
  sq : (T N 64).Slices ![r, 0] (T n 64)
  s1 : (T N 1).Slices ![r, 0] (T n 1)
  st : (T 64 N).Slices ![0, r] (T 64 n)
  hq : (T N 64).Slices ![0, 0] (T r 64)
  h1 : (T N 1).Slices ![0, 0] (T r 1)
  cq : Shape.Concatenates [T r 64, T n 64] (T N 64) 0
  c1 : Shape.Concatenates [T r 1, T n 1] (T N 1) 0

section

variable {N r n : ℕ} (c : Cut N r n)

def St.low (s : St N) : St n :=
  ⟨extractStridedSlice (T n 64) ![r, 0] s.dq c.sq, extractStridedSlice (T n 1) ![r, 0] s.pre c.s1,
    extractStridedSlice (T n 1) ![r, 0] s.dpre c.s1⟩

def St.put (s : St N) (p : St n) : St N :=
  ⟨concatenate (T N 64) 0 [⟨T r 64, extractStridedSlice (T r 64) ![0, 0] s.dq c.hq⟩, ⟨T n 64, p.dq⟩] c.cq,
    concatenate (T N 1) 0 [⟨T r 1, extractStridedSlice (T r 1) ![0, 0] s.pre c.h1⟩, ⟨T n 1, p.pre⟩] c.c1,
    concatenate (T N 1) 0 [⟨T r 1, extractStridedSlice (T r 1) ![0, 0] s.dpre c.h1⟩, ⟨T n 1, p.dpre⟩] c.c1⟩

def Inp.low (I : Inp N) : Inp n :=
  ⟨extractStridedSlice (T n 64) ![r, 0] I.q c.sq, extractStridedSlice (T n 64) ![r, 0] I.d c.sq,
    extractStridedSlice (T n 1) ![r, 0] I.tot c.s1, I.inc, I.bef⟩

end

end Cert.AttnTile

end
-- ==== Proof.AttnAt.lean ====
module

public import proofs.«01_k».proof.Proof.AttnTile

@[expose] public section

noncomputable section

/-! The tile's operations at an entry. -/

namespace Cert.AttnTile

open Cert.Reals Idealize.ShloMosaic

theorem zero_at (s : Shape) (i : s.Idx) : constant (F := Ideal) s .f32 0x00000000#32 i = 0 := by
  pointwise

theorem mm_at {M K N : ℕ} (x : FVec Ideal (T M K) .bf16) (y : FVec Ideal (T K N) .bf16) (i : Fin M) (c : Fin N) :
    matmul (DotDims.plain M K N) none x y (constant (T M N) .f32 0x00000000#32) (ix2 i c) = ∑ k : Fin K, x (ix2 i k) * y (ix2 k c) :=
  (Ideal.matmul_plain_apply none x y _ i c).trans (by rw [zero_at, zero_add]; rfl)

theorem mmT_at {M K N : ℕ} (x : FVec Ideal (T M K) .bf16) (y : FVec Ideal (T N K) .bf16) (i : Fin M) (c : Fin N) :
    matmul (DotDims.transposedRhs M K N) none x y (constant (T M N) .f32 0x00000000#32) (ix2 i c) = ∑ k : Fin K, x (ix2 i k) * y (ix2 c k) :=
  (Ideal.matmul_transposedRhs_apply none x y _ i c).trans (by rw [zero_at, zero_add]; rfl)

section

variable {n : ℕ} (h : Rows n)

theorem bc_at (x : FVec Ideal (T n 1) .f32) (i : Fin n) (c : Fin 128) : broadcastTo (T n 128) x h.bc (ix2 i c) = x (ix2 i 0) := by
  pointwise
  refine congrArg x (funext fun a => Fin.ext ?_)
  match a with
  | 0 =>
    show (if _ : n = 1 then (⟨0, _⟩ : Fin n) else ⟨i.val, _⟩).val = i.val
    split
    · have := i.isLt; show 0 = i.val; omega
    · rfl
  | 1 => rfl

theorem last_at (x : FVec Ideal (T n 128) .f32) (i : Fin n) : extractStridedSlice (T n 1) ![0, 127] x h.sl (ix2 i 0) = x (ix2 i 127) := by
  pointwise
  refine congrArg x (funext fun a => Fin.ext ?_)
  match a with
  | 0 => show 0 + i.val = i.val; omega
  | 1 => rfl

theorem slt_ofNat (a b : ℕ) (ha : a ≤ 2048) (hb : b ≤ 2048) : IntOp.cmpi .slt (BitVec.ofNat 32 a) (BitVec.ofNat 32 b) = if a < b then 1#1 else 0#1 := by
  have e : ∀ n ≤ 2048, (BitVec.ofNat 32 n).toInt = (n : ℤ) := fun n hn => by
    rw [BitVec.toInt_eq_toNat_of_lt] <;> rw [BitVec.toNat_ofNat, Nat.mod_eq_of_lt (by omega)]
    omega
  show BitVec.ofBool (BitVec.slt _ _) = _
  rw [BitVec.slt, e a ha, e b hb]
  by_cases hab : a < b
  · rw [if_pos hab, decide_eq_true (by exact_mod_cast hab)]; rfl
  · rw [if_neg hab, decide_eq_false (by exact_mod_cast hab)]; rfl

theorem mask_at (hn : n ≤ 2048) (i : Fin n) (c : Fin 128) : mask h (ix2 i c) = if c.val < i.val then 1#1 else 0#1 := by
  unfold mask
  pointwise
  exact slt_ofNat _ _ (by omega) (by omega)

theorem sel_at (hn : n ≤ 2048) (x y : FVec Ideal (T n 128) .f32) (i : Fin n) (c : Fin 128) :
    select (mask h) x y (ix2 i c) = if c.val < i.val then x (ix2 i c) else y (ix2 i c) := by
  pointwise
  rw [mask_at h hn]
  split <;> rfl

theorem sc_at (q : FVec Ideal (T n 64) .bf16) (k : FVec Ideal (T 128 64) .bf16) (i : Fin n) (c : Fin 128) :
    sc q k (ix2 i c) = ∑ d : Fin 64, q (ix2 i d) * k (ix2 c d) :=
  mmT_at _ _ _ _

theorem lsg_at (z : FVec Ideal (T n 128) .f32) (i : Fin n) (c : Fin 128) :
    lsg z (ix2 i c) = min (z (ix2 i c)) 0 - Ideal.log (1 + Ideal.exp (0 - max (z (ix2 i c)) (-(z (ix2 i c))))) := by
  pointwise [lsg]
  rfl

theorem lomM_at (hn : n ≤ 2048) (z : FVec Ideal (T n 128) .f32) (i : Fin n) (c : Fin 128) :
    lomM h z (ix2 i c) = if c.val < i.val then lsg z (ix2 i c) - z (ix2 i c) else 0 := by
  unfold lomM
  rw [sel_at h hn]
  pointwise

theorem expo_at (lb pn : FVec Ideal (T n 128) .f32) (tot pre : FVec Ideal (T n 1) .f32) (i : Fin n) (c : Fin 128) :
    expo h lb pn tot pre (ix2 i c) = lb (ix2 i c) + ((tot (ix2 i 0) - pre (ix2 i 0)) - pn (ix2 i c)) := by
  unfold expo
  rw [addf_apply, subf_apply, bc_at h]
  rfl

theorem wgtM_at (hn : n ≤ 2048) (a : FVec Ideal (T n 128) .f32) (i : Fin n) (c : Fin 128) :
    wgtM h a (ix2 i c) = if c.val < i.val then Ideal.exp (a (ix2 i c)) else 0 := by
  show Ideal.exp (select (mask h) a _ (ix2 i c)) = _
  rw [sel_at h hn]
  split
  · rfl
  · show Ideal.exp (Ideal.ofBits .f32 0xFF800000#32) = 0
    rw [show Ideal.ofBits .f32 0xFF800000#32 = ⊥ by simp [Ideal.ofBits, Ideal.ieee]]
    rfl

theorem dAt_at (d : FVec Ideal (T n 64) .bf16) (v : FVec Ideal (T 128 64) .bf16) (w : FVec Ideal (T n 128) .f32) (i : Fin n) (c : Fin 128) :
    dAt d v w (ix2 i c) = (∑ e : Fin 64, d (ix2 i e) * v (ix2 c e)) * w (ix2 i c) := by
  unfold dAt
  rw [mulf_apply, mmT_at]
  rfl

theorem dLt_at (dA : FVec Ideal (T n 128) .f32) (bef : FVec Ideal (T 128 128) .bf16) (i : Fin n) (c : Fin 128) :
    dLt dA bef (ix2 i c) = ∑ x : Fin 128, dA (ix2 i x) * bef (ix2 x c) :=
  mm_at _ _ _ _

theorem dZt_at (lb dA dL : FVec Ideal (T n 128) .f32) (dpre : FVec Ideal (T n 1) .f32) (i : Fin n) (c : Fin 128) :
    dZt h lb dA dL dpre (ix2 i c) = dA (ix2 i c) * (1 - Ideal.exp (lb (ix2 i c))) - (dL (ix2 i c) + dpre (ix2 i 0)) * Ideal.exp (lb (ix2 i c)) := by
  unfold dZt
  rw [subf_apply, mulf_apply, mulf_apply, addf_apply, bc_at h]
  pointwise

theorem dZM_at (hn : n ≤ 2048) (z : FVec Ideal (T n 128) .f32) (i : Fin n) (c : Fin 128) :
    dZM h z (ix2 i c) = if c.val < i.val then z (ix2 i c) else 0 := by
  unfold dZM
  rw [sel_at h hn]
  pointwise

theorem dqN_at (dq : FVec Ideal (T n 64) .f32) (dz : FVec Ideal (T n 128) .f32) (k : FVec Ideal (T 128 64) .bf16) (i : Fin n) (d : Fin 64) :
    dqN dq dz k (ix2 i d) = dq (ix2 i d) + ∑ c : Fin 128, dz (ix2 i c) * k (ix2 c d) := by
  unfold dqN
  rw [addf_apply, mm_at]
  rfl

theorem keyN_at (x : FVec Ideal (T 64 n) .bf16) (y : FVec Ideal (T n 128) .f32) (d : Fin 64) (c : Fin 128) :
    keyN x y (ix2 d c) = ∑ i : Fin n, x (ix2 d i) * y (ix2 i c) :=
  mm_at _ _ _ _

theorem pin_at (lom : FVec Ideal (T n 128) .f32) (inc : FVec Ideal (T 256 128) .bf16) (i : Fin n) (c : Fin 128) :
    pin h lom inc (ix2 i c) = (∑ x : Fin 128, lom (ix2 i x) * inc (ix2 ⟨x.val, by omega⟩ c))
      + ∑ x : Fin 128, (lom (ix2 i x) - lom (ix2 i x)) * inc (ix2 ⟨128 + x.val, by omega⟩ c) := by
  unfold pin
  rw [mm_at]
  refine (Fin.sum_univ_add (a := 128) (b := 128) _).trans ?_
  refine congrArg₂ (· + ·) (Finset.sum_congr rfl fun x _ => congrArg (· * _) ?_) (Finset.sum_congr rfl fun x _ => congrArg (· * _) ?_)
  · exact concatenate_pair_apply_left (t := T n 256) (s₁ := T n 128) (s₂ := T n 128) 1 _ _ h.cat _ rfl (ix2 i x) fun b => by
      match b with
      | 0 => rfl
      | 1 => rfl
  · exact concatenate_pair_apply_right (t := T n 256) (s₁ := T n 128) (s₂ := T n 128) 1 _ _ h.cat _ rfl rfl (ix2 i x)
      (fun b hb => by
        match b, hb with
        | 0, _ => rfl
        | 1, hb => exact absurd rfl hb) (by show x.val + 128 = 128 + x.val; omega)

theorem preN_at (pre : FVec Ideal (T n 1) .f32) (pn : FVec Ideal (T n 128) .f32) (i : Fin n) :
    preN h pre pn (ix2 i 0) = pre (ix2 i 0) + pn (ix2 i 127) := by
  unfold preN
  rw [addf_apply, last_at h]
  rfl

theorem dpreN_at (dpre : FVec Ideal (T n 1) .f32) (dA dL : FVec Ideal (T n 128) .f32) (i : Fin n) :
    dpreN h dpre dA dL (ix2 i 0) = dpre (ix2 i 0) + dL (ix2 i 127) + dA (ix2 i 127) := by
  unfold dpreN
  rw [addf_apply, addf_apply, last_at h, last_at h]
  rfl

end

end Cert.AttnTile

end
-- ==== Proof.AttnReal.lean ====
module

public import proofs.«01_k».proof.Proof.AttnAt

@[expose] public section

noncomputable section

/-! Stick-breaking attention of one head over the reals, rows and columns counted by naturals, and its tiles: a tile's
    operations on real rows leave the sums over the columns so far. -/

namespace Cert.AttnTile

open Cert.Reals Idealize.ShloMosaic Finset

/-- The logarithm of the logistic function, as it is computed. -/
def lsig (z : ℝ) : ℝ := min z 0 - Real.log (1 + Real.exp (-|z|))

/-- One head's queries (scaled), keys, values and the cotangent of its output. -/
structure Head where
  q : ℕ → ℕ → ℝ
  k : ℕ → ℕ → ℝ
  v : ℕ → ℕ → ℝ
  ct : ℕ → ℕ → ℝ

namespace Head

variable (H : Head)

/-- The score of query `t` and key `s`; the log of what remains of the stick; its sum over the first `m` keys; the
    weight; the weight's gradient; its sum; the score's gradient. -/
def Z (t s : ℕ) : ℝ := ∑ d : Fin 64, H.q t d * H.k s d
def L (t s : ℕ) : ℝ := if s < t then lsig (H.Z t s) - H.Z t s else 0
def P (t m : ℕ) : ℝ := ∑ s ∈ range m, H.L t s
def W (t s : ℕ) : ℝ := if s < t then Real.exp (lsig (H.Z t s) + (H.P t 4096 - H.P t (s + 1))) else 0
def D (t s : ℕ) : ℝ := (∑ d : Fin 64, H.ct t d * H.v s d) * H.W t s
def E (t m : ℕ) : ℝ := ∑ s ∈ range m, H.D t s
def G (t s : ℕ) : ℝ :=
  if s < t then H.D t s * (1 - Real.exp (lsig (H.Z t s))) - H.E t s * Real.exp (lsig (H.Z t s)) else 0
def Q (t m d : ℕ) : ℝ := ∑ s ∈ range m, H.G t s * H.k s d

end Head

/-! Sums against the triangles. -/

theorem sum_le (f : ℕ → ℝ) (c : Fin 128) : ∑ x : Fin 128, f x * (if x.val ≤ c.val then 1 else 0) = ∑ x ∈ range (c + 1), f x := by
  rw [Fin.sum_univ_eq_sum_range (fun x => f x * (if x ≤ c.val then 1 else 0)) 128]
  simp only [mul_ite, mul_one, mul_zero]
  rw [← sum_filter]
  refine sum_congr (ext fun x => ?_) fun _ _ => rfl
  have := c.isLt
  simp only [mem_filter, mem_range]
  omega

theorem sum_lt (f : ℕ → ℝ) (c : Fin 128) : ∑ x : Fin 128, f x * (if x.val < c.val then 1 else 0) = ∑ x ∈ range c, f x := by
  rw [Fin.sum_univ_eq_sum_range (fun x => f x * (if x < c.val then 1 else 0)) 128]
  simp only [mul_ite, mul_one, mul_zero]
  rw [← sum_filter]
  refine sum_congr (ext fun x => ?_) fun _ _ => rfl
  have := c.isLt
  simp only [mem_filter, mem_range]
  omega

theorem sum_from (f : ℕ → ℝ) (a n : ℕ) : ∑ x ∈ range n, f (a + x) = (∑ x ∈ range (a + n), f x) - ∑ x ∈ range a, f x := by
  rw [sum_range_add]; ring

/-- The rows of a tile are the head's rows from `t0` on, `m` of them before the columns' first. -/
structure InpAt (H : Head) (t0 : ℕ) {n : ℕ} (I : Inp n) : Prop where
  q : ∀ i d, I.q (ix2 i d) = ((H.q (t0 + i.val) d.val : ℝ) : EReal)
  d : ∀ i d, I.d (ix2 i d) = ((H.ct (t0 + i.val) d.val : ℝ) : EReal)
  tot : ∀ i, I.tot (ix2 i 0) = ((H.P (t0 + i.val) 4096 : ℝ) : EReal)
  inc : ∀ x c, I.inc (ix2 x c) = (((if x.val % 128 ≤ c.val then 1 else 0 : ℝ)) : EReal)
  bef : ∀ x c, I.bef (ix2 x c) = (((if x.val < c.val then 1 else 0 : ℝ)) : EReal)

/-- The state is the one after the first `m` columns. -/
structure StAt (H : Head) (t0 m : ℕ) {n : ℕ} (s : St n) : Prop where
  dq : ∀ i d, s.dq (ix2 i d) = ((H.Q (t0 + i.val) m d.val : ℝ) : EReal)
  pre : ∀ i, s.pre (ix2 i 0) = ((H.P (t0 + i.val) m : ℝ) : EReal)
  dpre : ∀ i, s.dpre (ix2 i 0) = ((H.E (t0 + i.val) m : ℝ) : EReal)

section

variable {n : ℕ} (h : Rows n) (H : Head) (t0 m : ℕ) (I : Inp n) (k v : FVec Ideal (T 128 64) .bf16) (s : St n)

theorem sc_coe (hI : InpAt H t0 I) (hk : ∀ c d, k (ix2 c d) = ((H.k (m + c.val) d.val : ℝ) : EReal)) (i : Fin n) (c : Fin 128) :
    sc I.q k (ix2 i c) = ((H.Z (t0 + i) (m + c) : ℝ) : EReal) := by
  rw [sc_at]
  simp only [hI.q, hk, ← EReal.coe_mul]
  rw [sum_coe]; rfl

theorem lsg_coe (x : FVec Ideal (T n 128) .f32) (i : Fin n) (c : Fin 128) (z : ℝ) (hz : x (ix2 i c) = (z : EReal)) :
    lsg x (ix2 i c) = ((lsig z : ℝ) : EReal) := by
  rw [lsg_at, hz, ← EReal.coe_neg, ← EReal.coe_strictMono.monotone.map_max, ← EReal.coe_zero, ← EReal.coe_strictMono.monotone.map_min, ← EReal.coe_sub, exp_coe, ← EReal.coe_one, ← EReal.coe_add,
    log_coe _ (by positivity), ← EReal.coe_sub]
  unfold lsig
  rw [zero_sub, abs_eq_max_neg]

/-- The running sum inside a tile. -/
theorem pin_coe (hI : InpAt H t0 I) (x : FVec Ideal (T n 128) .f32)
    (hx : ∀ i c, x (ix2 i c) = ((H.L (t0 + i.val) (m + c.val) : ℝ) : EReal)) (i : Fin n) (c : Fin 128) :
    pin h x I.inc (ix2 i c) = ((H.P (t0 + i) (m + (c + 1)) - H.P (t0 + i) m : ℝ) : EReal) := by
  rw [pin_at]
  simp only [hx, hI.inc, ← EReal.coe_sub, sub_self, ← EReal.coe_mul, zero_mul]
  rw [sum_coe, sum_coe, sum_const_zero, ← EReal.coe_add, add_zero]
  congr 1
  unfold Head.P
  rw [← sum_from, ← sum_le]
  refine sum_congr rfl fun x _ => ?_
  rw [Nat.mod_eq_of_lt x.isLt]

/-- Where a tile's logs, weights and their gradients are the head's, so are what it stores and the state it leaves. -/
theorem rest_coe (hI : InpAt H t0 I) (hs : StAt H t0 m s) (hv : ∀ c d, v (ix2 c d) = ((H.v (m + c.val) d.val : ℝ) : EReal))
    (w : FVec Ideal (T n 128) .f32) (hw : ∀ i c, w (ix2 i c) = ((H.W (t0 + i.val) (m + c.val) : ℝ) : EReal)) (i : Fin n) (c : Fin 128) :
    dAt I.d v w (ix2 i c) = ((H.D (t0 + i) (m + c) : ℝ) : EReal)
    ∧ dLt (dAt I.d v w) I.bef (ix2 i c) = ((H.E (t0 + i) (m + c) - H.E (t0 + i) m : ℝ) : EReal) := by
  have hd : ∀ i c, dAt I.d v w (ix2 i c) = ((H.D (t0 + i.val) (m + c.val) : ℝ) : EReal) := fun i c => by
    rw [dAt_at]
    simp only [hI.d, hv, hw, ← EReal.coe_mul]
    rw [sum_coe, ← EReal.coe_mul]; rfl
  refine ⟨hd i c, ?_⟩
  rw [dLt_at]
  simp only [hd, hI.bef, ← EReal.coe_mul]
  rw [sum_coe]
  congr 1
  unfold Head.E
  rw [← sum_from, ← sum_lt]

theorem expo_coe (hI : InpAt H t0 I) (hs : StAt H t0 m s) (hk : ∀ c d, k (ix2 c d) = ((H.k (m + c.val) d.val : ℝ) : EReal))
    (pn : FVec Ideal (T n 128) .f32) (hp : ∀ i c, pn (ix2 i c) = ((H.P (t0 + i.val) (m + (c.val + 1)) - H.P (t0 + i.val) m : ℝ) : EReal)) (i : Fin n) (c : Fin 128) :
    Ideal.exp (expo h (lsg (sc I.q k)) pn I.tot s.pre (ix2 i c))
      = ((Real.exp (lsig (H.Z (t0 + i) (m + c)) + (H.P (t0 + i) 4096 - H.P (t0 + i) (m + c + 1))) : ℝ) : EReal) := by
  rw [expo_at, hI.tot, hs.pre, hp, lsg_coe _ i c _ (sc_coe H t0 m I k hI hk i c), ← EReal.coe_sub, ← EReal.coe_sub, ← EReal.coe_add, exp_coe]
  rw [show m + c.val + 1 = m + (c.val + 1) by omega]
  congr 3
  ring

theorem dZ_coe (hs : StAt H t0 m s) (x a l : FVec Ideal (T n 128) .f32)
    (hx : ∀ i c, x (ix2 i c) = ((H.Z (t0 + i.val) (m + c.val) : ℝ) : EReal))
    (ha : ∀ i c, a (ix2 i c) = ((H.D (t0 + i.val) (m + c.val) : ℝ) : EReal))
    (hl : ∀ i c, l (ix2 i c) = ((H.E (t0 + i.val) (m + c.val) - H.E (t0 + i.val) m : ℝ) : EReal)) (i : Fin n) (c : Fin 128) :
    dZt h (lsg x) a l s.dpre (ix2 i c) = ((H.D (t0 + i) (m + c) * (1 - Real.exp (lsig (H.Z (t0 + i) (m + c))))
      - H.E (t0 + i) (m + c) * Real.exp (lsig (H.Z (t0 + i) (m + c))) : ℝ) : EReal) := by
  rw [dZt_at, ha, hl, hs.dpre, lsg_coe _ i c _ (hx i c), exp_coe, ← EReal.coe_one, ← EReal.coe_sub, ← EReal.coe_add, ← EReal.coe_mul, ← EReal.coe_mul, ← EReal.coe_sub]
  congr 1
  ring

/-- The state after the tile. -/
theorem step_coe (hs : StAt H t0 m s) (hk : ∀ c d, k (ix2 c d) = ((H.k (m + c.val) d.val : ℝ) : EReal)) (pn a l z : FVec Ideal (T n 128) .f32)
    (hp : ∀ i c, pn (ix2 i c) = ((H.P (t0 + i.val) (m + (c.val + 1)) - H.P (t0 + i.val) m : ℝ) : EReal))
    (ha : ∀ i c, a (ix2 i c) = ((H.D (t0 + i.val) (m + c.val) : ℝ) : EReal))
    (hl : ∀ i c, l (ix2 i c) = ((H.E (t0 + i.val) (m + c.val) - H.E (t0 + i.val) m : ℝ) : EReal))
    (hz : ∀ i c, z (ix2 i c) = ((H.G (t0 + i.val) (m + c.val) : ℝ) : EReal)) :
    StAt H t0 (m + 128) (⟨dqN s.dq z k, preN h s.pre pn, dpreN h s.dpre a l⟩ : St n) where
  dq i d := by
    show dqN s.dq z k (ix2 i d) = _
    rw [dqN_at, hs.dq]
    simp only [hz, hk, ← EReal.coe_mul]
    rw [sum_coe, ← EReal.coe_add]
    congr 1
    unfold Head.Q
    rw [sum_range_add, Fin.sum_univ_eq_sum_range (fun c => H.G (t0 + i.val) (m + c) * H.k (m + c) d.val) 128]
  pre i := by
    show preN h s.pre pn (ix2 i 0) = _
    rw [preN_at, hs.pre, hp, ← EReal.coe_add]
    congr 1
    show _ + (H.P _ (m + 128) - _) = _
    ring
  dpre i := by
    show dpreN h s.dpre a l (ix2 i 0) = _
    rw [dpreN_at, hs.dpre, hl, ha, ← EReal.coe_add, ← EReal.coe_add]
    congr 1
    show H.E _ m + (H.E _ (m + 127) - H.E _ m) + H.D _ (m + 127) = H.E _ (m + 127 + 1)
    conv_rhs => unfold Head.E
    rw [sum_range_succ]
    unfold Head.E
    ring

variable (hI : InpAt H t0 I) (hs : StAt H t0 m s)
  (hk : ∀ c d, k (ix2 c d) = ((H.k (m + c.val) d.val : ℝ) : EReal)) (hv : ∀ c d, v (ix2 c d) = ((H.v (m + c.val) d.val : ℝ) : EReal))

include hI hs hk hv in
/-- A tile below the diagonal: its weights, its scores' gradients and the state it leaves. -/
theorem tileU (ht : m + 128 ≤ t0) :
    (∀ i c, wU h I k s (ix2 i c) = ((H.W (t0 + i.val) (m + c.val) : ℝ) : EReal))
    ∧ (∀ i c, dzU h I k v s (ix2 i c) = ((H.G (t0 + i.val) (m + c.val) : ℝ) : EReal))
    ∧ StAt H t0 (m + 128) (stepU h I k v s) := by
  have lt : ∀ (i : Fin n) (c : Fin 128), m + c.val < t0 + i.val := fun i c => by omega
  have hz := sc_coe H t0 m I k hI hk
  have hp : ∀ i c, pinU h I k (ix2 i c) = _ := pin_coe h H t0 m I hI (subf (lsg (sc I.q k)) (sc I.q k)) fun i c => by
    rw [subf_apply, lsg_coe _ i c _ (hz i c), hz i c]
    show (_ : EReal) - _ = _
    rw [← EReal.coe_sub]
    unfold Head.L; rw [if_pos (lt i c)]
  have hw : ∀ i c, wU h I k s (ix2 i c) = ((H.W (t0 + i.val) (m + c.val) : ℝ) : EReal) := fun i c => by
    refine (expo_coe h H t0 m I k s hI hs hk (pinU h I k) hp i c).trans ?_
    unfold Head.W; rw [if_pos (lt i c)]
  have hr := rest_coe H t0 m I v s hI hs hv (wU h I k s) hw
  have hg : ∀ i c, dzU h I k v s (ix2 i c) = ((H.G (t0 + i.val) (m + c.val) : ℝ) : EReal) := fun i c => by
    refine (dZ_coe h H t0 m s hs (sc I.q k) (dAU h I k v s) (dLU h I k v s) hz (fun i c => (hr i c).1) (fun i c => (hr i c).2) i c).trans ?_
    unfold Head.G; rw [if_pos (lt i c)]
  exact ⟨hw, hg, step_coe h H t0 m k s hs hk _ _ _ _ hp (fun i c => (hr i c).1) (fun i c => (hr i c).2) hg⟩

include hI hs hk hv in
/-- A tile on the diagonal. -/
theorem tileM (hn : n ≤ 2048) (ht : t0 = m) :
    (∀ i c, wM h I k s (ix2 i c) = ((H.W (t0 + i.val) (m + c.val) : ℝ) : EReal))
    ∧ (∀ i c, dzM h I k v s (ix2 i c) = ((H.G (t0 + i.val) (m + c.val) : ℝ) : EReal))
    ∧ StAt H t0 (m + 128) (stepM h I k v s) := by
  have lt : ∀ (i : Fin n) (c : Fin 128), c.val < i.val ↔ m + c.val < t0 + i.val := fun i c => by omega
  have hz := sc_coe H t0 m I k hI hk
  have hp : ∀ i c, pinM h I k (ix2 i c) = _ := pin_coe h H t0 m I hI (lomM h (sc I.q k)) fun i c => by
    rw [lomM_at h hn, lsg_coe _ i c _ (hz i c), hz i c, ← EReal.coe_sub]
    unfold Head.L; simp only [lt]; split <;> rfl
  have hw : ∀ i c, wM h I k s (ix2 i c) = ((H.W (t0 + i.val) (m + c.val) : ℝ) : EReal) := fun i c => by
    unfold wM
    rw [wgtM_at h hn, expo_coe h H t0 m I k s hI hs hk (pinM h I k) hp i c]
    unfold Head.W; simp only [lt]; split <;> rfl
  have hr := rest_coe H t0 m I v s hI hs hv (wM h I k s) hw
  have hg : ∀ i c, dzM h I k v s (ix2 i c) = ((H.G (t0 + i.val) (m + c.val) : ℝ) : EReal) := fun i c => by
    unfold dzM
    rw [dZM_at h hn, dZ_coe h H t0 m s hs (sc I.q k) (dAM h I k v s) (dLM h I k v s) hz (fun i c => (hr i c).1) (fun i c => (hr i c).2) i c]
    unfold Head.G; simp only [lt]; split <;> rfl
  exact ⟨hw, hg, step_coe h H t0 m k s hs hk _ _ _ _ hp (fun i c => (hr i c).1) (fun i c => (hr i c).2) hg⟩

end

/-- A tile's part of a transposed result. -/
theorem key_coe {n : ℕ} (x : FVec Ideal (T 64 n) .bf16) (y : FVec Ideal (T n 128) .f32) (f : ℕ → ℕ → ℝ) (g : ℕ → ℕ → ℝ)
    (t0 m : ℕ) (hx : ∀ d i, x (ix2 d i) = ((f (t0 + i.val) d.val : ℝ) : EReal)) (hy : ∀ i c, y (ix2 i c) = ((g (t0 + i.val) (m + c.val) : ℝ) : EReal))
    (d : Fin 64) (c : Fin 128) :
    keyN x y (ix2 d c) = ((∑ i ∈ range n, f (t0 + i) d * g (t0 + i) (m + c) : ℝ) : EReal) := by
  rw [keyN_at]
  simp only [hx, hy, ← EReal.coe_mul]
  rw [sum_coe, Fin.sum_univ_eq_sum_range (fun i => f (t0 + i) d * g (t0 + i) (m + c)) n]

end Cert.AttnTile

end
-- ==== Proof.AttnCum.lean ====
/- Running sums along the last axis of a rank-three array, read at an index. -/
module

public import proofs.«01_k».proof.Proof.AttnReal
public import Idealize.ShloMosaic.Lib.ShapeFacts

@[expose] public section

noncomputable section

namespace Cert.AttnCum

open Idealize.ShloMosaic

/-- A left fold of sums from zero is the sum. -/
theorem foldl_sum {n : ℕ} (g : Fin n → EReal) : (List.finRange n).foldl (fun r i => r + g i) 0 = ∑ i, g i := by
  rw [Fin.sum_univ_def, List.sum_eq_foldl, List.foldl_map]

/-- The window's place along the last axis. -/
theorem symm_last {N : ℕ} (n : Fin (⟨3, ![1, 1, N]⟩ : Shape).numel) : ((⟨3, ![1, 1, N]⟩ : Shape).rowMajor.symm n 2).val = n.val := by
  have h := Shape.rowMajor_val_three ((⟨3, ![1, 1, N]⟩ : Shape).rowMajor.symm n)
  rw [Equiv.apply_symm_apply] at h
  have h0 : ((⟨3, ![1, 1, N]⟩ : Shape).rowMajor.symm n 0).val = 0 := Nat.lt_one_iff.mp ((⟨3, ![1, 1, N]⟩ : Shape).rowMajor.symm n 0).isLt
  have h1 : ((⟨3, ![1, 1, N]⟩ : Shape).rowMajor.symm n 1).val = 0 := Nat.lt_one_iff.mp ((⟨3, ![1, 1, N]⟩ : Shape).rowMajor.symm n 1).isLt
  rw [h0, h1] at h
  simpa using h.symm

theorem numel_win (N : ℕ) : (⟨3, ![1, 1, N]⟩ : Shape).numel = N := by
  rw [Shape.numel_rank3]; simp

/-- A window as long as the last axis, padded low by `lo` and high by `hi`. -/
theorem window_at {A B N lo hi : ℕ} (x : FVec Ideal ⟨3, ![A, B, N]⟩ .f32) (init : (⟨0, ![]⟩ : Shape).Idx → Ideal .f32)
    (h : (⟨3, ![A, B, N]⟩ : Shape).ReduceWindows (![1, 1, N] : Fin 3 → ℕ) ![1, 1, 1] ![0, 0, lo] ![0, 0, hi] ⟨3, ![A, B, N]⟩) (hu : 0 < (⟨0, ![]⟩ : Shape).numel)
    (hinit : init (Shape.Idx.first hu) = (0 : EReal)) (a : Fin A) (b : Fin B) (j : Fin N) (f : ℕ → EReal) (hf : ∀ i : Fin N, x (ix3 a b i) = f i.val) :
    Host.reduceWindowAdd ![1, 1, N] ![1, 1, 1] ![0, 0, lo] ![0, 0, hi] x init h hu (ix3 a b j)
      = ∑ n ∈ Finset.range N, if lo ≤ j.val + n ∧ j.val + n - lo < N then f (j.val + n - lo) else 0 := by
  have key : Host.reduceWindowAdd ![1, 1, N] ![1, 1, 1] ![0, 0, lo] ![0, 0, hi] x init h hu (ix3 a b j)
      = (List.finRange (⟨3, ![1, 1, N]⟩ : Shape).numel).foldl
        (fun r n => r + if lo ≤ j.val + n.val ∧ j.val + n.val - lo < N then f (j.val + n.val - lo) else 0) (0 : EReal) := by
    show List.foldl _ (init (Shape.Idx.first hu)) _ = _
    rw [hinit]
    refine List.foldl_ext _ _ _ fun r n _ => ?_
    have h2 := symm_last n
    have h0 : ((⟨3, ![1, 1, N]⟩ : Shape).rowMajor.symm n 0).val = 0 := Nat.lt_one_iff.mp ((⟨3, ![1, 1, N]⟩ : Shape).rowMajor.symm n 0).isLt
    have h1 : ((⟨3, ![1, 1, N]⟩ : Shape).rowMajor.symm n 1).val = 0 := Nat.lt_one_iff.mp ((⟨3, ![1, 1, N]⟩ : Shape).rowMajor.symm n 1).isLt
    dsimp only
    congr 1
    split
    · next hin =>
      have hb := hin 2
      change lo ≤ j.val * 1 + ((⟨3, ![1, 1, N]⟩ : Shape).rowMajor.symm n 2).val ∧ j.val * 1 + ((⟨3, ![1, 1, N]⟩ : Shape).rowMajor.symm n 2).val - lo < N at hb
      rw [h2, Nat.mul_one] at hb
      rw [if_pos hb]
      refine (congrArg x (funext fun d => Fin.ext ?_)).trans (hf ⟨j.val + n.val - lo, hb.2⟩)
      match d with
      | ⟨0, _⟩ =>
        show a.val * 1 + ((⟨3, ![1, 1, N]⟩ : Shape).rowMajor.symm n 0).val - 0 = a.val
        rw [h0]; omega
      | ⟨1, _⟩ =>
        show b.val * 1 + ((⟨3, ![1, 1, N]⟩ : Shape).rowMajor.symm n 1).val - 0 = b.val
        rw [h1]; omega
      | ⟨2, _⟩ =>
        show j.val * 1 + ((⟨3, ![1, 1, N]⟩ : Shape).rowMajor.symm n 2).val - lo = j.val + n.val - lo
        rw [h2, Nat.mul_one]
    · next hin =>
      rw [if_neg fun hb => hin fun d => ?_]
      match d with
      | ⟨0, _⟩ =>
        show 0 ≤ a.val * 1 + ((⟨3, ![1, 1, N]⟩ : Shape).rowMajor.symm n 0).val ∧ a.val * 1 + ((⟨3, ![1, 1, N]⟩ : Shape).rowMajor.symm n 0).val - 0 < A
        rw [h0]; have := a.isLt; omega
      | ⟨1, _⟩ =>
        show 0 ≤ b.val * 1 + ((⟨3, ![1, 1, N]⟩ : Shape).rowMajor.symm n 1).val ∧ b.val * 1 + ((⟨3, ![1, 1, N]⟩ : Shape).rowMajor.symm n 1).val - 0 < B
        rw [h1]; have := b.isLt; omega
      | ⟨2, _⟩ =>
        show lo ≤ j.val * 1 + ((⟨3, ![1, 1, N]⟩ : Shape).rowMajor.symm n 2).val ∧ j.val * 1 + ((⟨3, ![1, 1, N]⟩ : Shape).rowMajor.symm n 2).val - lo < N
        rw [h2, Nat.mul_one]; exact hb
  rw [key, foldl_sum, Fin.sum_univ_eq_sum_range (fun n => if lo ≤ j.val + n ∧ j.val + n - lo < N then f (j.val + n - lo) else 0), numel_win]

/-- The sum up to and with an entry. -/
theorem upto_at {A B N lo : ℕ} (hN : lo + 1 = N) (x : FVec Ideal ⟨3, ![A, B, N]⟩ .f32) (init : (⟨0, ![]⟩ : Shape).Idx → Ideal .f32)
    (h : (⟨3, ![A, B, N]⟩ : Shape).ReduceWindows (![1, 1, N] : Fin 3 → ℕ) ![1, 1, 1] ![0, 0, lo] ![0, 0, 0] ⟨3, ![A, B, N]⟩) (hu : 0 < (⟨0, ![]⟩ : Shape).numel)
    (hinit : init (Shape.Idx.first hu) = (0 : EReal)) (a : Fin A) (b : Fin B) (j : Fin N) (f : ℕ → ℝ) (hf : ∀ i : Fin N, x (ix3 a b i) = (f i.val : EReal)) :
    Host.reduceWindowAdd ![1, 1, N] ![1, 1, 1] ![0, 0, lo] ![0, 0, 0] x init h hu (ix3 a b j)
      = ((∑ i ∈ Finset.range (j.val + 1), f i : ℝ) : EReal) := by
  have hj := j.isLt
  rw [window_at x init h hu hinit a b j (fun i => ((f i : ℝ) : EReal)) hf, ← Finset.sum_filter, ← Reals.sum_coe]
  refine Finset.sum_nbij' (fun n => j.val + n - lo) (fun i => i + lo - j.val) ?_ ?_ ?_ ?_ fun _ _ => rfl <;>
    (intro n hn; simp only [Finset.mem_filter, Finset.mem_range] at hn ⊢; omega)

/-- The sum from an entry on. -/
theorem from_at {A B N hi : ℕ} (x : FVec Ideal ⟨3, ![A, B, N]⟩ .f32) (init : (⟨0, ![]⟩ : Shape).Idx → Ideal .f32)
    (h : (⟨3, ![A, B, N]⟩ : Shape).ReduceWindows (![1, 1, N] : Fin 3 → ℕ) ![1, 1, 1] ![0, 0, 0] ![0, 0, hi] ⟨3, ![A, B, N]⟩) (hu : 0 < (⟨0, ![]⟩ : Shape).numel)
    (hinit : init (Shape.Idx.first hu) = (0 : EReal)) (a : Fin A) (b : Fin B) (j : Fin N) (f : ℕ → ℝ) (hf : ∀ i : Fin N, x (ix3 a b i) = (f i.val : EReal)) :
    Host.reduceWindowAdd ![1, 1, N] ![1, 1, 1] ![0, 0, 0] ![0, 0, hi] x init h hu (ix3 a b j)
      = ((∑ i ∈ Finset.range N, f i - ∑ i ∈ Finset.range j.val, f i : ℝ) : EReal) := by
  have hj := j.isLt
  rw [window_at x init h hu hinit a b j (fun i => ((f i : ℝ) : EReal)) hf, ← Finset.sum_filter, ← Finset.sum_Ico_eq_sub f hj.le, ← Reals.sum_coe]
  refine Finset.sum_nbij' (fun n => j.val + n - 0) (fun i => i - j.val) ?_ ?_ ?_ ?_ fun _ _ => rfl <;>
    (intro n hn; simp only [Finset.mem_filter, Finset.mem_range, Finset.mem_Ico] at hn ⊢; omega)

end Cert.AttnCum
-- ==== Proof.AttnRefVal.lean ====
/- What the attention's reference returns, read at an index: the derivative of the stick-breaking weights, of real arguments. -/
module

public import proofs.«01_k».proof.Proof.Gen.AttnRefIdeal.Run
public import proofs.«01_k».proof.Proof.AttnCum

@[expose] public section

set_option maxRecDepth 16384

noncomputable section

namespace Cert.AttnRefIdeal.Value

open Cert.AttnRefIdeal Cert.AttnRefIdeal.Gen Cert.AttnRefIdeal.Facts Cert.Reals Cert.AttnTile Idealize.ShloMosaic Idealize.ShloMosaic.TcCoe Idealize.SL.Sem

/-! The functions of one number. -/

/-- The softplus of a real, as it is computed. -/
def spl (z : ℝ) : ℝ := max z 0 + Real.log (1 + Real.exp (-|z|))

theorem spl_neg (z : ℝ) : -spl (-z) = lsig z := by
  unfold spl lsig
  rw [abs_neg, neg_add, ← sub_eq_add_neg, max_neg_zero']
  where max_neg_zero' : -(max (-z) 0) = min z 0 := by rw [← min_neg_neg, neg_neg, neg_zero]

theorem spl_pos (z : ℝ) : -spl z = lsig z - z := by
  unfold spl lsig
  have : max z 0 = z - min z 0 := by rcases le_total z 0 with h | h <;> simp [h]
  rw [this]; ring

/-- The logistic function of the negative is one less. -/
theorem exp_spl_neg (z : ℝ) : Real.exp (-z - spl (-z)) = 1 - Real.exp (lsig z) := by
  have hl : ∀ z, Real.exp (lsig z) = 1 / (1 + Real.exp (-z)) := fun z => by
    unfold lsig
    rw [Real.exp_sub, Real.exp_log (by positivity)]
    rcases le_total z 0 with h | h
    · rw [min_eq_left h, abs_of_nonpos h, neg_neg]
      have := Real.exp_pos z
      rw [Real.exp_neg]
      field_simp
      ring
    · rw [min_eq_right h, abs_of_nonneg h, Real.exp_zero]
  rw [sub_eq_add_neg, spl_neg, add_comm, Real.exp_add, hl]
  have := Real.exp_pos (-z)
  field_simp
  ring

theorem exp_spl_pos (z : ℝ) : Real.exp (z - spl z) = Real.exp (lsig z) := by
  rw [sub_eq_add_neg, spl_pos]; congr 1; ring

/-! The arrays. -/

/-- One number everywhere. -/
abbrev cst (w : BitVec 32) : FVec Ideal S16x4096x4096 .f32 := broadcastInDim S16x4096x4096 ![] bcast_S_S16x4096x4096 (constant S_ .f32 w)

/-- The softplus. -/
abbrev sp (x : FVec Ideal S16x4096x4096 .f32) : FVec Ideal S16x4096x4096 .f32 :=
  select (cmpf .une (subf x (cst 0x00000000#32)) (subf x (cst 0x00000000#32))) (addf x (cst 0x00000000#32))
    (addf (maximumf x (cst 0x00000000#32)) (Host.log1p (Host.exp (Host.negf (Host.absf (subf x (cst 0x00000000#32)))))))

/-- The softplus's derivative. -/
abbrev dsp (x : FVec Ideal S16x4096x4096 .f32) : FVec Ideal S16x4096x4096 .f32 :=
  Host.exp (subf (select (cmpf .oeq x (cst 0x7F800000#32)) (cst 0x00000000#32) x)
    (select (cmpf .oeq (sp x) (cst 0x7F800000#32)) (cst 0x00000000#32) (sp x)))

theorem zero_f32 : Ideal.ofBits .f32 0x00000000#32 = ((0 : ℝ) : EReal) := by
  rw [EReal.coe_zero]; exact Ideal.ofBits_zero _

theorem sp_coe (x : FVec Ideal S16x4096x4096 .f32) (j : S16x4096x4096.Idx) (z : ℝ) (hz : x j = (z : EReal)) : sp x j = ((spl z : ℝ) : EReal) := by
  show Scalar.select (Ideal.cmp .une (x j - Ideal.ofBits .f32 0x00000000#32) (x j - Ideal.ofBits .f32 0x00000000#32)) (x j + Ideal.ofBits .f32 0x00000000#32)
    (max (x j) (Ideal.ofBits .f32 0x00000000#32) + Ideal.log1p (Ideal.exp (-(max (x j - Ideal.ofBits .f32 0x00000000#32) (-(x j - Ideal.ofBits .f32 0x00000000#32)))))) = _
  rw [hz, zero_f32, show Ideal.cmp .une (((z : ℝ) : EReal) - ((0 : ℝ) : EReal)) (((z : ℝ) : EReal) - ((0 : ℝ) : EReal)) = 0#1 by simp [Ideal.cmp],
    show ∀ a b : EReal, Scalar.select 0#1 a b = b from fun _ _ => rfl, ← EReal.coe_sub, sub_zero, ← EReal.coe_neg, ← EReal.coe_strictMono.monotone.map_max,
    ← EReal.coe_strictMono.monotone.map_max, ← EReal.coe_neg, exp_coe, log1p_coe _ (by positivity), ← EReal.coe_add]
  unfold spl
  rw [abs_eq_max_neg]

theorem dsp_coe (x : FVec Ideal S16x4096x4096 .f32) (j : S16x4096x4096.Idx) (z : ℝ) (hz : x j = (z : EReal)) :
    dsp x j = ((Real.exp (z - spl z) : ℝ) : EReal) := by
  have hi : ∀ r : ℝ, Ideal.cmp .oeq ((r : ℝ) : EReal) ⊤ = 0#1 := fun r => by simp [Ideal.cmp]
  show Ideal.exp (Scalar.select (Ideal.cmp .oeq (x j) (Ideal.ofBits .f32 0x7F800000#32)) (Ideal.ofBits .f32 0x00000000#32) (x j)
    - Scalar.select (Ideal.cmp .oeq (sp x j) (Ideal.ofBits .f32 0x7F800000#32)) (Ideal.ofBits .f32 0x00000000#32) (sp x j)) = _
  rw [sp_coe x j z hz, hz, inf_f32, hi, hi, show ∀ a b : EReal, Scalar.select 0#1 a b = b from fun _ _ => rfl,
    show ∀ a b : EReal, Scalar.select 0#1 a b = b from fun _ _ => rfl, ← EReal.coe_sub, exp_coe]

variable (q k v ct : FVec Ideal S16x4096x64 .f32)

/-- The scores. -/
abbrev zR : FVec Ideal S16x4096x4096 .f32 :=
  mulf (Host.dotGeneral dot_S16x4096x64_S16x4096x64_S16x4096x4096_2_2_1_1_0_0 none q k) (cst 0x3E000000#32)

/-- The keys before the query. -/
abbrev mR : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

abbrev mask : IVec S16x4096x4096 1 := broadcastInDim S16x4096x4096 ![1, 2] bcast_S4096x4096_S16x4096x4096_1_2 mR

/-- What stands where the key isn't before the query. -/
abbrev keep (x : FVec Ideal S16x4096x4096 .f32) (w : BitVec 32) : FVec Ideal S16x4096x4096 .f32 := select mask x (cst w)

/-- The logs of what remains, and their sum from a key on. -/
abbrev lR : FVec Ideal S16x4096x4096 .f32 := keep (Host.negf (sp (Host.negf (Host.negf (zR q k))))) 0x00000000#32

abbrev tailR : FVec Ideal S16x4096x4096 .f32 :=
  Host.reduceWindowAdd ![1, 1, 4096] ![1, 1, 1] ![0, 0, 0] ![0, 0, 4095] (lR q k) (broadcastInDim S_ ![] bcast_S_S_ (constant S_ .f32 0x00000000#32))
    reduceWindows_S16x4096x4096_S16x4096x4096_w1s1p0_0_w1s1p0_0_w4096s1p0_4095 h_S_

/-- The weights. -/
abbrev wR : FVec Ideal S16x4096x4096 .f32 :=
  Host.exp (keep (addf (Host.negf (sp (Host.negf (zR q k)))) (subf (tailR q k) (lR q k))) 0xFF800000#32)

/-- The weights' gradient, masked, and its sum up to a key. -/
abbrev dR : FVec Ideal S16x4096x4096 .f32 :=
  keep (mulf (Host.dotGeneral dot_S16x4096x64_S16x4096x64_S16x4096x4096_2_2_1_1_0_0 none ct v) (wR q k)) 0x00000000#32

abbrev headR : FVec Ideal S16x4096x4096 .f32 :=
  Host.reduceWindowAdd ![1, 1, 4096] ![1, 1, 1] ![0, 0, 4095] ![0, 0, 0] (dR q k v ct) (broadcastInDim S_ ![] bcast_S_S_ (constant S_ .f32 0x00000000#32))
    reduceWindows_S16x4096x4096_S16x4096x4096_w1s1p0_0_w1s1p0_0_w4096s1p4095_0 h_S_

/-- The scores' gradient, scaled. -/
abbrev gR : FVec Ideal S16x4096x4096 .f32 :=
  mulf (addf (Host.negf (Host.negf (mulf (Host.negf (keep (addf (Host.negf (dR q k v ct)) (headR q k v ct)) 0x00000000#32)) (dsp (Host.negf (Host.negf (zR q k)))))))
    (Host.negf (mulf (Host.negf (dR q k v ct)) (dsp (Host.negf (zR q k)))))) (cst 0x3E000000#32)

/-- The three results. -/
abbrev dqR : FVec Ideal S16x4096x64 .f32 := Host.dotGeneral dot_S16x4096x4096_S16x4096x64_S16x4096x64_2_1_1_2_0_0 none (gR q k v ct) k

abbrev tileR (x : FVec Ideal S16x4096x64 .f32) : FVec Ideal S16x32x64x128 .f32 :=
  transpose S16x32x64x128 [0, 1, 3, 2] (shapeCast _ x shapeCasts_S16x4096x64_S16x32x128x64) transposes_S16x32x128x64_S16x32x64x128_0_1_3_2

abbrev dkR : FVec Ideal S16x32x64x128 .f32 :=
  tileR (Host.dotGeneral dot_S16x4096x4096_S16x4096x64_S16x4096x64_1_1_2_2_0_0 none (gR q k v ct) q)

abbrev dvR : FVec Ideal S16x32x64x128 .f32 :=
  tileR (transpose S16x4096x64 [0, 2, 1] (Host.dotGeneral dot_S16x4096x64_S16x4096x4096_S16x64x4096_1_1_2_2_0_0 none ct (wR q k)) transposes_S16x64x4096_S16x4096x64_0_2_1)

variable (m : (ℓ : Loc nD τ sig) → Buf (Elt Ideal) ℓ) (c : Dev nD)

theorem res2_eq : res_out2 (F := Ideal) m c = dvR (m ((c.tc : Thread nD τ).loc main_arg0)) (m ((c.tc : Thread nD τ).loc main_arg1)) (m ((c.tc : Thread nD τ).loc main_arg3)) := rfl

theorem res1_eq : res_out1 (F := Ideal) m c = dkR (m ((c.tc : Thread nD τ).loc main_arg0)) (m ((c.tc : Thread nD τ).loc main_arg1)) (m ((c.tc : Thread nD τ).loc main_arg2)) (m ((c.tc : Thread nD τ).loc main_arg3)) := rfl

theorem res0_eq : res_out0 (F := Ideal) m c = dqR (m ((c.tc : Thread nD τ).loc main_arg0)) (m ((c.tc : Thread nD τ).loc main_arg1)) (m ((c.tc : Thread nD τ).loc main_arg2)) (m ((c.tc : Thread nD τ).loc main_arg3)) := rfl

/-! The entries, of real arguments. -/

/-- The number at an entry. -/
def rd (x : FVec Ideal S16x4096x64 .f32) (h : Fin 16) (t d : ℕ) : ℝ := if p : t < 4096 ∧ d < 64 then (x (ix3 h ⟨t, p.1⟩ ⟨d, p.2⟩)).toReal else 0

theorem rd_at (x : FVec Ideal S16x4096x64 .f32) (hx : ∀ i, ∃ r : ℝ, x i = r) (h : Fin 16) (t : Fin 4096) (d : Fin 64) :
    x (ix3 h t d) = ((rd x h t.val d.val : ℝ) : EReal) := by
  unfold rd
  rw [dif_pos ⟨t.isLt, d.isLt⟩]
  obtain ⟨r, hr⟩ := hx (ix3 h t d)
  show x (ix3 h t d) = ((x (ix3 h t d)).toReal : EReal)
  rw [hr, EReal.toReal_coe]

/-- A head of the arguments. -/
def hd (h : Fin 16) : Head where
  q t d := rd q h t d / 8
  k t d := rd k h t d
  v t d := rd v h t d
  ct t d := rd ct h t d

variable (hq : ∀ i, ∃ r : ℝ, q i = r) (hk : ∀ i, ∃ r : ℝ, k i = r) (hv : ∀ i, ∃ r : ℝ, v i = r) (hct : ∀ i, ∃ r : ℝ, ct i = r)

theorem ceighth : Ideal.ofBits .f32 0x3E000000#32 = ((1 / 8 : ℝ) : EReal) := by
  simp [Ideal.ofBits, Ideal.ieee]; norm_num [← EReal.coe_mul]

theorem bot_f32 : Ideal.ofBits .f32 0xFF800000#32 = ⊥ := by
  simp [Ideal.ofBits, Ideal.ieee]

theorem slt_big (a b : ℕ) (ha : a < 4096) (hb : b < 4096) : IntOp.cmpi .slt (BitVec.ofNat 32 a) (BitVec.ofNat 32 b) = if a < b then 1#1 else 0#1 := by
  have e : ∀ n < 4096, (BitVec.ofNat 32 n).toInt = (n : ℤ) := fun n hn => by
    rw [BitVec.toInt_eq_toNat_of_lt] <;> rw [BitVec.toNat_ofNat, Nat.mod_eq_of_lt (by omega)]
    omega
  show BitVec.ofBool (BitVec.slt _ _) = _
  rw [BitVec.slt, e a ha, e b hb]
  by_cases h : a < b
  · rw [if_pos h, decide_eq_true (by exact_mod_cast h)]; rfl
  · rw [if_neg h, decide_eq_false (by exact_mod_cast h)]; rfl

theorem dot_at (x y : FVec Ideal S16x4096x64 .f32) (h : Fin 16) (t s : Fin 4096) :
    Host.dotGeneral dot_S16x4096x64_S16x4096x64_S16x4096x4096_2_2_1_1_0_0 none x y (ix3 h t s) = ∑ d : Fin 64, x (ix3 h t d) * y (ix3 h s d) := by
  pointwise

include hq hk in
theorem z_at (h : Fin 16) (t s : Fin 4096) : zR q k (ix3 h t s) = (((hd q k v ct h).Z t s : ℝ) : EReal) := by
  show Host.dotGeneral dot_S16x4096x64_S16x4096x64_S16x4096x4096_2_2_1_1_0_0 none q k (ix3 h t s) * Ideal.ofBits .f32 0x3E000000#32 = _
  rw [dot_at, ceighth]
  simp only [rd_at q hq, rd_at k hk, ← EReal.coe_mul]
  rw [sum_coe, ← EReal.coe_mul]
  congr 1
  unfold Head.Z hd
  rw [Finset.sum_mul]
  refine Finset.sum_congr rfl fun d _ => ?_
  ring

theorem mask_at (h : Fin 16) (t s : Fin 4096) : mask (ix3 h t s) = if s.val < t.val then 1#1 else 0#1 := by
  have e : mask (ix3 h t s) = IntOp.cmpi .slt (BitVec.ofNat 32 s.val) (BitVec.ofNat 32 t.val) := by pointwise
  rw [e]
  exact slt_big s.val t.val s.isLt t.isLt

theorem keep_at (x : FVec Ideal S16x4096x4096 .f32) (w : BitVec 32) (h : Fin 16) (t s : Fin 4096) :
    keep x w (ix3 h t s) = if s.val < t.val then x (ix3 h t s) else Ideal.ofBits .f32 w := by
  show Scalar.select (mask (ix3 h t s)) (x (ix3 h t s)) (Ideal.ofBits .f32 w) = _
  rw [mask_at]
  by_cases p : s.val < t.val
  · rw [if_pos p, if_pos p]; rfl
  · rw [if_neg p, if_neg p]; rfl

theorem keep_coe (x : FVec Ideal S16x4096x4096 .f32) (h : Fin 16) (t s : Fin 4096) (r : ℝ) (hr : s.val < t.val → x (ix3 h t s) = (r : EReal)) :
    keep x 0x00000000#32 (ix3 h t s) = ((if s.val < t.val then r else 0 : ℝ) : EReal) := by
  rw [keep_at]
  by_cases p : s.val < t.val
  · rw [if_pos p, if_pos p, hr p]
  · rw [if_neg p, if_neg p, zero_f32]

include hq hk in
theorem l_at (h : Fin 16) (t s : Fin 4096) : lR q k (ix3 h t s) = (((hd q k v ct h).L t s : ℝ) : EReal) := by
  refine (keep_coe _ h t s (lsig ((hd q k v ct h).Z t s) - (hd q k v ct h).Z t s) fun _ => ?_)
  show -(sp (Host.negf (Host.negf (zR q k))) (ix3 h t s)) = _
  rw [sp_coe _ _ ((hd q k v ct h).Z t s) (by
    show -(-(zR q k (ix3 h t s))) = _
    rw [z_at q k v ct hq hk, neg_neg]), ← EReal.coe_neg, spl_pos]

theorem first_zero : (broadcastInDim S_ ![] bcast_S_S_ (constant (F := Ideal) S_ .f32 0x00000000#32)) (Shape.Idx.first h_S_) = (0 : EReal) :=
  zero_f32.trans EReal.coe_zero

include hq hk in
theorem tail_at (h : Fin 16) (t s : Fin 4096) :
    tailR q k (ix3 h t s) = (((hd q k v ct h).P t 4096 - (hd q k v ct h).P t s : ℝ) : EReal) :=
  AttnCum.from_at _ _ _ _ first_zero h t s _ fun i => l_at q k v ct hq hk h t i

include hq hk in
theorem w_at (h : Fin 16) (t s : Fin 4096) : wR q k (ix3 h t s) = (((hd q k v ct h).W t s : ℝ) : EReal) := by
  show Ideal.exp (keep _ _ (ix3 h t s)) = _
  rw [keep_at]
  unfold Head.W
  by_cases p : s.val < t.val
  · rw [if_pos p, if_pos p]
    show Ideal.exp (-(sp (Host.negf (zR q k)) (ix3 h t s)) + (tailR q k (ix3 h t s) - lR q k (ix3 h t s))) = _
    rw [sp_coe _ _ (-(hd q k v ct h).Z t s) (by
      show -(zR q k (ix3 h t s)) = _
      rw [z_at q k v ct hq hk, ← EReal.coe_neg]), tail_at q k v ct hq hk, l_at q k v ct hq hk, ← EReal.coe_neg, ← EReal.coe_sub, ← EReal.coe_add, exp_coe, spl_neg]
    congr 3
    unfold Head.P
    rw [Finset.sum_range_succ _ s.val]
    ring
  · rw [if_neg p, if_neg p]
    exact (congrArg Ideal.exp bot_f32).trans rfl

include hq hk hv hct in
theorem d_at (h : Fin 16) (t s : Fin 4096) : dR q k v ct (ix3 h t s) = (((hd q k v ct h).D t s : ℝ) : EReal) := by
  refine (keep_coe _ h t s ((hd q k v ct h).D t s) fun _ => ?_).trans (congrArg _ ?_)
  · show Host.dotGeneral dot_S16x4096x64_S16x4096x64_S16x4096x4096_2_2_1_1_0_0 none ct v (ix3 h t s) * wR q k (ix3 h t s) = _
    rw [dot_at, w_at q k v ct hq hk]
    simp only [rd_at v hv, rd_at ct hct, ← EReal.coe_mul]
    rw [sum_coe, ← EReal.coe_mul]
    rfl
  · by_cases p : s.val < t.val
    · rw [if_pos p]
    · rw [if_neg p]
      unfold Head.D Head.W
      rw [if_neg p, mul_zero]

include hq hk hv hct in
theorem head_at (h : Fin 16) (t s : Fin 4096) : headR q k v ct (ix3 h t s) = (((hd q k v ct h).E t (s + 1) : ℝ) : EReal) :=
  AttnCum.upto_at rfl _ _ _ _ first_zero h t s _ fun i => d_at q k v ct hq hk hv hct h t i

include hq hk hv hct in
/-- The score's gradient. -/
theorem g_at (h : Fin 16) (t s : Fin 4096) : gR q k v ct (ix3 h t s) = (((hd q k v ct h).G t s * (1 / 8) : ℝ) : EReal) := by
  have hz := z_at q k v ct hq hk h t s
  show (-(-(-(keep (addf (Host.negf (dR q k v ct)) (headR q k v ct)) 0x00000000#32 (ix3 h t s)) * dsp (Host.negf (Host.negf (zR q k))) (ix3 h t s)))
    + -(-(dR q k v ct (ix3 h t s)) * dsp (Host.negf (zR q k)) (ix3 h t s))) * Ideal.ofBits .f32 0x3E000000#32 = _
  rw [keep_coe _ h t s ((hd q k v ct h).E t s) (fun _ => by
      show -(dR q k v ct (ix3 h t s)) + headR q k v ct (ix3 h t s) = _
      rw [d_at q k v ct hq hk hv hct, head_at q k v ct hq hk hv hct, ← EReal.coe_neg, ← EReal.coe_add]
      congr 1
      unfold Head.E
      rw [Finset.sum_range_succ]
      ring),
    dsp_coe _ _ ((hd q k v ct h).Z t s) (by
      show -(-(zR q k (ix3 h t s))) = _
      rw [hz, neg_neg]),
    dsp_coe _ _ (-(hd q k v ct h).Z t s) (by
      show -(zR q k (ix3 h t s)) = _
      rw [hz, ← EReal.coe_neg]),
    d_at q k v ct hq hk hv hct, ceighth, exp_spl_pos, exp_spl_neg]
  simp only [← EReal.coe_neg, ← EReal.coe_mul, ← EReal.coe_add]
  congr 2
  unfold Head.G
  by_cases p : s.val < t.val
  · rw [if_pos p, if_pos p]; ring
  · rw [if_neg p, if_neg p]
    unfold Head.D Head.W
    rw [if_neg p]; ring

include hq hk hv hct in
theorem dq_at (h : Fin 16) (t : Fin 4096) (d : Fin 64) : dqR q k v ct (ix3 h t d) = (((hd q k v ct h).Q t 4096 d * (1 / 8) : ℝ) : EReal) := by
  have e : ∀ g : FVec Ideal S16x4096x4096 .f32, Host.dotGeneral dot_S16x4096x4096_S16x4096x64_S16x4096x64_2_1_1_2_0_0 none g k (ix3 h t d)
      = ∑ s : Fin 4096, g (ix3 h t s) * k (ix3 h s d) := fun g => by pointwise
  rw [dqR, e]
  simp only [g_at q k v ct hq hk hv hct, rd_at k hk, ← EReal.coe_mul]
  rw [sum_coe]
  congr 1
  unfold Head.Q
  rw [Finset.sum_mul, ← Fin.sum_univ_eq_sum_range (fun s => (hd q k v ct h).G t s * (hd q k v ct h).k s d * (1 / 8)) 4096]
  refine Finset.sum_congr rfl fun s _ => ?_
  show _ = _ * rd k h s d * _
  ring

theorem tile_at (x : FVec Ideal S16x4096x64 .f32) (h : Fin 16) (b : Fin 32) (d : Fin 64) (e : Fin 128) :
    tileR x (ix4 h b d e) = x (ix3 h ⟨128 * b.val + e.val, by omega⟩ d) := by
  have hT : tileR x (ix4 h b d e) = x (ix3 h ⟨b.val * 128 + e.val, by omega⟩ d) := by pointwise
  rw [hT]
  exact congrArg x (congrArg (ix3 h · d) (Fin.ext (congrArg (· + e.val) (Nat.mul_comm _ _))))

include hq hk hv hct in
theorem dk_at (h : Fin 16) (b : Fin 32) (d : Fin 64) (e : Fin 128) :
    dkR q k v ct (ix4 h b d e) = ((∑ t ∈ Finset.range 4096, (hd q k v ct h).q t d * (hd q k v ct h).G t (128 * b + e) : ℝ) : EReal) := by
  have f : ∀ (g : FVec Ideal S16x4096x4096 .f32) (s : Fin 4096), Host.dotGeneral dot_S16x4096x4096_S16x4096x64_S16x4096x64_1_1_2_2_0_0 none g q (ix3 h s d)
      = ∑ t : Fin 4096, g (ix3 h t s) * q (ix3 h t d) := fun g s => by pointwise
  rw [dkR, tile_at, f]
  simp only [g_at q k v ct hq hk hv hct, rd_at q hq, ← EReal.coe_mul]
  rw [sum_coe, ← Fin.sum_univ_eq_sum_range (fun t => (hd q k v ct h).q t d * (hd q k v ct h).G t (128 * b + e)) 4096]
  congr 1
  refine Finset.sum_congr rfl fun t _ => ?_
  show _ = rd q h t d / 8 * _
  ring

include hq hk hv hct in
theorem dv_at (h : Fin 16) (b : Fin 32) (d : Fin 64) (e : Fin 128) :
    dvR q k ct (ix4 h b d e) = ((∑ t ∈ Finset.range 4096, (hd q k v ct h).ct t d * (hd q k v ct h).W t (128 * b + e) : ℝ) : EReal) := by
  have f : ∀ (g : FVec Ideal S16x4096x4096 .f32) (s : Fin 4096), transpose S16x4096x64 [0, 2, 1]
      (Host.dotGeneral dot_S16x4096x64_S16x4096x4096_S16x64x4096_1_1_2_2_0_0 none ct g) transposes_S16x64x4096_S16x4096x64_0_2_1 (ix3 h s d)
      = ∑ t : Fin 4096, ct (ix3 h t d) * g (ix3 h t s) := fun g s => by pointwise
  rw [dvR, tile_at, f]
  simp only [w_at q k v ct hq hk, rd_at ct hct, ← EReal.coe_mul]
  rw [sum_coe, ← Fin.sum_univ_eq_sum_range (fun t => (hd q k v ct h).ct t d * (hd q k v ct h).W t (128 * b + e)) 4096]
  rfl

end Cert.AttnRefIdeal.Value

end
-- ==== Proof.AttnTrip.lean ====
module

public import proofs.«01_k».proof.Proof.AttnTile
public import proofs.«01_k».proof.Proof.Gen.AttnBwdIdeal.Value

@[expose] public section

set_option maxRecDepth 16384

noncomputable section

namespace Cert.AttnBwdIdeal.Value

open Cert.AttnBwdIdeal Cert.AttnBwdIdeal.Gen Cert.AttnTile Idealize.ShloMosaic Idealize.ShloMosaic.TcCoe Idealize.SL.Sem

theorem rows2048 : Rows 2048 := ⟨concatenates_S2048x128_S2048x128_S2048x256_d1, broadcasts_S2048x1_S2048x128, slices_S2048x128_o0_127_S2048x1, iota_S2048x128_d0_w32, iota_S2048x128_d1_w32⟩

/-- A block of keys or values, as a matrix. -/
abbrev blk (x : Vec Ideal S1x128x64 .bf16) : FVec Ideal (T 128 64) .bf16 := shapeCast S128x64 x shapeCasts_S1x128x64_S128x64

/-- A block of the transposed results with one tile's part added. -/
abbrev acc4 (x : Vec Ideal S1x1x64x128 .f32) (y : FVec Ideal (T 64 128) .f32) : Vec Ideal S1x1x64x128 .f32 :=
  shapeCast S1x1x64x128 (addf (shapeCast S64x128 x shapeCasts_S1x1x64x128_S64x128) y) shapeCasts_S64x128_S1x1x64x128

/-- The state after the first `u` tiles of a trip. -/
def tU (I : Inp 2048) (K V : ℕ → FVec Ideal (T 128 64) .bf16) (s : St 2048) : ℕ → St 2048
  | 0 => s
  | u + 1 => stepU rows2048 I (K u) (V u) (tU I K V s u)

/-- The products of the transposed queries with the gradients of the scores, and of the transposed cotangent with the
    weights, at the trip's tile `u`. -/
abbrev gkU (I : Inp 2048) (x : FVec Ideal (T 64 2048) .bf16) (K V : ℕ → FVec Ideal (T 128 64) .bf16) (s : St 2048) (u : ℕ) : FVec Ideal (T 64 128) .f32 :=
  keyN x (dzU rows2048 I (K u) (V u) (tU I K V s u))

abbrev gvU (I : Inp 2048) (x : FVec Ideal (T 64 2048) .bf16) (K V : ℕ → FVec Ideal (T 128 64) .bf16) (s : St 2048) (u : ℕ) : FVec Ideal (T 64 128) .f32 :=
  keyN x (wU rows2048 I (K u) (tU I K V s u))

section

variable (𝒱 : Variants) (c : Dev nD) (bd : Option 𝒱.V) (i : grid0.Coords) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole) (arg6 : Memref sig .tc .vmem S1x2048x64 .bf16) (harg6 : arg6.IsWhole) (arg7 : Memref sig .tc .vmem S1x2048x64 .f32) (harg7 : arg7.IsWhole) (arg8 : Memref sig .tc .vmem S1x32x64x128 .f32) (harg8 : arg8.IsWhole) (arg9 : Memref sig .tc .vmem S1x32x64x128 .f32) (harg9 : arg9.IsWhole) (arg1 : BitVec 32) (v6 : FVec Ideal S2048x64 .bf16) (v8 : FVec Ideal S2048x64 .bf16) (v11 : FVec Ideal S2048x1 .f32) (v19 : FVec Ideal S64x2048 .bf16) (v21 : FVec Ideal S64x2048 .bf16) (v31 : FVec Ideal S256x128 .bf16) (v35 : FVec Ideal S128x128 .bf16) (v36 : FVec Ideal S2048x64 .f32) (v37 : FVec Ideal S2048x1 .f32) (v38 : FVec Ideal S2048x1 .f32) (X_arg3 : BufTy.Contents (Elt Ideal) arg3.view.ty) (X_arg4 : BufTy.Contents (Elt Ideal) arg4.view.ty)

/-- The keys of the trip's tile `u`. -/
abbrev k3 (k : Fin (k0_t1_loop i).trips) (u : ℕ) : FVec Ideal (T 128 64) .bf16 :=
  blk (View.readAt (Elt Ideal) arg3.view (Rect.unit (s := S1x4096x64) (k0_off1 i k (BitVec.ofNat 32 (Fin.ofNat 8 u).val)) S1x128x64.size (k0_off1_inb i k (Fin.ofNat 8 u))).toLoadRect X_arg3)

/-- Its values. -/
abbrev v4 (k : Fin (k0_t1_loop i).trips) (u : ℕ) : FVec Ideal (T 128 64) .bf16 :=
  blk (View.readAt (Elt Ideal) arg4.view (Rect.unit (s := S1x4096x64) (k0_off1 i k (BitVec.ofNat 32 (Fin.ofNat 8 u).val)) S1x128x64.size (k0_off1_inb i k (Fin.ofNat 8 u))).toLoadRect X_arg4)

theorem trip_state (k : Fin (k0_t1_loop i).trips) (acc : FVec Ideal S2048x64 .f32 × FVec Ideal S2048x1 .f32 × FVec Ideal S2048x1 .f32) (f8 : BufTy.Contents (Elt Ideal) arg8.view.ty) (f9 : BufTy.Contents (Elt Ideal) arg9.view.ty) :
   tripR_k0_t1 (F := Ideal) 𝒱 c bd i arg2 harg2 arg3 harg3 arg4 harg4 arg5 harg5 arg6 harg6 arg7 harg7 arg8 harg8 arg9 harg9 arg1 v6 v8 v11 v19 v21 v31 v35 v36 v37 v38 X_arg3 X_arg4 k acc f8 f9 =
    ((tU ⟨v6, v8, v11, v31, v35⟩ (k3 i arg3 X_arg3 k) (v4 i arg4 X_arg4 k) ⟨acc.1, acc.2.1, acc.2.2⟩ 8).dq,
      (tU ⟨v6, v8, v11, v31, v35⟩ (k3 i arg3 X_arg3 k) (v4 i arg4 X_arg4 k) ⟨acc.1, acc.2.1, acc.2.2⟩ 8).pre,
      (tU ⟨v6, v8, v11, v31, v35⟩ (k3 i arg3 X_arg3 k) (v4 i arg4 X_arg4 k) ⟨acc.1, acc.2.1, acc.2.2⟩ 8).dpre) := by
  unfold tripR_k0_t1 trip_k0_t1
  rfl

/-- The stores of the trip's first `u` tiles in one of the transposed results, last first: each adds its part to what
    the trip found. -/
def tL (arg : Memref sig .tc .vmem S1x32x64x128 .f32) (f : BufTy.Contents (Elt Ideal) arg.view.ty) (k : Fin (k0_t1_loop i).trips) (g : ℕ → FVec Ideal (T 64 128) .f32) : ℕ → List (View.Piece (Elt Ideal) S1x32x64x128 .f32)
  | 0 => []
  | u + 1 => ⟨Rect.unit (s := S1x32x64x128) (k0_off2 i k (BitVec.ofNat 32 (Fin.ofNat 8 u).val)) S1x1x64x128.size (k0_off2_inb i k (Fin.ofNat 8 u)),
      acc4 (View.readAt (Elt Ideal) arg.view (Rect.unit (s := S1x32x64x128) (k0_off2 i k (BitVec.ofNat 32 (Fin.ofNat 8 u).val)) S1x1x64x128.size (k0_off2_inb i k (Fin.ofNat 8 u))).toLoadRect f) (g u)⟩ :: tL arg f k g u

theorem trip_stores (k : Fin (k0_t1_loop i).trips) (acc : FVec Ideal S2048x64 .f32 × FVec Ideal S2048x1 .f32 × FVec Ideal S2048x1 .f32) (f8 : BufTy.Contents (Elt Ideal) arg8.view.ty) (f9 : BufTy.Contents (Elt Ideal) arg9.view.ty) :
   tripL_k0_t1 (F := Ideal) 𝒱 c bd i arg2 harg2 arg3 harg3 arg4 harg4 arg5 harg5 arg6 harg6 arg7 harg7 arg8 harg8 arg9 harg9 arg1 v6 v8 v11 v19 v21 v31 v35 v36 v37 v38 X_arg3 X_arg4 k acc f8 f9 =
    (tL i arg8 f8 k (gkU ⟨v6, v8, v11, v31, v35⟩ v19 (k3 i arg3 X_arg3 k) (v4 i arg4 X_arg4 k) ⟨acc.1, acc.2.1, acc.2.2⟩) 8,
      tL i arg9 f9 k (gvU ⟨v6, v8, v11, v31, v35⟩ v21 (k3 i arg3 X_arg3 k) (v4 i arg4 X_arg4 k) ⟨acc.1, acc.2.1, acc.2.2⟩) 8) := by
  unfold tripL_k0_t1 trip_k0_t1
  rfl

end

end Cert.AttnBwdIdeal.Value

end
-- ==== Proof.AttnRun.lean ====
module

public import proofs.«01_k».proof.Proof.AttnTrip

@[expose] public section

set_option maxRecDepth 16384

noncomputable section

/-! What one grid point's body computes, in the tiles of `AttnTile`: the loop over the groups of eight tiles below the
    diagonal, then the sixteen tiles on it. -/

namespace Cert.AttnBwdIdeal.Value

open Cert.AttnBwdIdeal Cert.AttnBwdIdeal.Gen Cert.AttnTile Idealize.ShloMosaic Idealize.ShloMosaic.TcCoe Idealize.SL.Sem

/-- The first row of the diagonal's tile `j`, and the number of rows from there on. -/
abbrev rowD (j : ℕ) : ℕ := 128 * (Fin.ofNat 16 j).val
abbrev numD (j : ℕ) : ℕ := 2048 - 128 * (Fin.ofNat 16 j).val

theorem rowsD (j : ℕ) : Rows (numD j) := by
  show Rows (2048 - 128 * (Fin.ofNat 16 j).val)
  generalize Fin.ofNat 16 j = u
  revert u
  intro u
  constructor <;> revert u <;> decide

theorem cutD (j : ℕ) : Cut 2048 (rowD j) (numD j) := by
  show Cut 2048 (128 * (Fin.ofNat 16 j).val) (2048 - 128 * (Fin.ofNat 16 j).val)
  generalize Fin.ofNat 16 j = u
  constructor <;> revert u <;> decide

/-- The state after the diagonal's tile `j` from the state before it: the first tile takes every row, each later one
    the rows from its own first row on. -/
def dSt (I : Inp 2048) (K V : ℕ → FVec Ideal (T 128 64) .bf16) (s : St 2048) : ℕ → St 2048
  | 0 => stepM rows2048 I (K 0) (V 0) s
  | j + 1 => s.put (cutD (j + 1)) (stepM (rowsD (j + 1)) (I.low (cutD (j + 1))) (K (j + 1)) (V (j + 1)) (s.low (cutD (j + 1))))

/-- The state after the diagonal's first `j` tiles. -/
def dS (I : Inp 2048) (K V : ℕ → FVec Ideal (T 128 64) .bf16) (s : St 2048) : ℕ → St 2048
  | 0 => s
  | j + 1 => dSt I K V (dS I K V s j) j

/-- What the diagonal's tile `j` adds, from the state before it, to its block of the keys' gradient, and to that of the
    values'. -/
def gkD (I : Inp 2048) (x : FVec Ideal (T 64 2048) .bf16) (K V : ℕ → FVec Ideal (T 128 64) .bf16) (s : St 2048) : ℕ → FVec Ideal (T 64 128) .f32
  | 0 => keyN x (dzM rows2048 I (K 0) (V 0) s)
  | j + 1 => keyN (extractStridedSlice (T 64 (numD (j + 1))) ![0, rowD (j + 1)] x (cutD (j + 1)).st)
      (dzM (rowsD (j + 1)) (I.low (cutD (j + 1))) (K (j + 1)) (V (j + 1)) (s.low (cutD (j + 1))))

def gvD (I : Inp 2048) (x : FVec Ideal (T 64 2048) .bf16) (K : ℕ → FVec Ideal (T 128 64) .bf16) (s : St 2048) : ℕ → FVec Ideal (T 64 128) .f32
  | 0 => keyN x (wM rows2048 I (K 0) s)
  | j + 1 => keyN (extractStridedSlice (T 64 (numD (j + 1))) ![0, rowD (j + 1)] x (cutD (j + 1)).st)
      (wM (rowsD (j + 1)) (I.low (cutD (j + 1))) (K (j + 1)) (s.low (cutD (j + 1))))

section

variable (i : grid0.Coords)

/-- The keys, or the values, of the diagonal's tile `j`. -/
abbrev kD (arg : Memref sig .tc .vmem S1x4096x64 .bf16) (X : BufTy.Contents (Elt Ideal) arg.view.ty) (j : ℕ) : FVec Ideal (T 128 64) .bf16 :=
  blk (View.readAt (Elt Ideal) arg.view (Rect.unit (s := S1x4096x64) (k0_off5 i (BitVec.ofNat 32 (Fin.ofNat 16 j).val)) S1x128x64.size (k0_off5_inb i (Fin.ofNat 16 j))).toLoadRect X)

/-- The store of the diagonal's tile `j` in one of the transposed results: its part added to what is there. -/
abbrev dP (arg : Memref sig .tc .vmem S1x32x64x128 .f32) (f : BufTy.Contents (Elt Ideal) arg.view.ty) (j : ℕ) (y : FVec Ideal (T 64 128) .f32) : View.Piece (Elt Ideal) S1x32x64x128 .f32 :=
  ⟨Rect.unit (s := S1x32x64x128) (k0_off6 i (BitVec.ofNat 32 (Fin.ofNat 16 j).val)) S1x1x64x128.size (k0_off6_inb i (Fin.ofNat 16 j)),
    acc4 (View.readAt (Elt Ideal) arg.view (Rect.unit (s := S1x32x64x128) (k0_off6 i (BitVec.ofNat 32 (Fin.ofNat 16 j).val)) S1x1x64x128.size (k0_off6_inb i (Fin.ofNat 16 j))).toLoadRect f) y⟩

/-- The stores up to the diagonal's first `j` tiles. -/
def dL (arg : Memref sig .tc .vmem S1x32x64x128 .f32) (G : BufTy.Contents (Elt Ideal) arg.view.ty) (L : List (View.Piece (Elt Ideal) S1x32x64x128 .f32)) (g : ℕ → FVec Ideal (T 64 128) .f32) : ℕ → List (View.Piece (Elt Ideal) S1x32x64x128 .f32)
  | 0 => L
  | j + 1 => dP i arg (arg.view.writes (Elt Ideal) G (dL arg G L g j)) j (g j) :: dL arg G L g j

variable (c : Dev nD) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole) (arg6 : Memref sig .tc .vmem S1x2048x64 .bf16) (harg6 : arg6.IsWhole) (arg7 : Memref sig .tc .vmem S1x2048x64 .f32) (harg7 : arg7.IsWhole) (arg8 : Memref sig .tc .vmem S1x32x64x128 .f32) (harg8 : arg8.IsWhole) (arg9 : Memref sig .tc .vmem S1x32x64x128 .f32) (harg9 : arg9.IsWhole)
  (x0 : Vec Ideal S1x2048x64 .bf16) (x1 : Vec Ideal S1x4096x64 .bf16) (x2 : Vec Ideal S1x4096x64 .bf16) (x3 : Vec Ideal S1x2048x128 .f32) (x4 : Vec Ideal S1x2048x64 .bf16)

/-- The rows the point reads. -/
abbrev I0 : Inp 2048 := ⟨k0_pay267 (View.readAt (Elt Ideal) arg2.view (Rect.unit ![0, 0, 0] S1x2048x64.size inb_S1x2048x64_S1x2048x64_0_0_0).toLoadRect (harg2.unread x0)), k0_pay268 (View.readAt (Elt Ideal) arg6.view (Rect.unit ![0, 0, 0] S1x2048x64.size inb_S1x2048x64_S1x2048x64_0_0_0).toLoadRect (harg6.unread x4)), k0_pay269 (View.readAt (Elt Ideal) arg5.view (Rect.unit ![0, 0, 0] S1x2048x128.size inb_S1x2048x128_S1x2048x128_0_0_0).toLoadRect (harg5.unread x3)), k0_pay273, k0_pay274⟩

abbrev qT0 : FVec Ideal (T 64 2048) .bf16 := k0_pay271 (View.readAt (Elt Ideal) arg2.view (Rect.unit ![0, 0, 0] S1x2048x64.size inb_S1x2048x64_S1x2048x64_0_0_0).toLoadRect (harg2.unread x0))
abbrev dT0 : FVec Ideal (T 64 2048) .bf16 := k0_pay272 (View.readAt (Elt Ideal) arg6.view (Rect.unit ![0, 0, 0] S1x2048x64.size inb_S1x2048x64_S1x2048x64_0_0_0).toLoadRect (harg6.unread x4))

/-- The loop from contents `G8` and `G9` of the transposed results, and the remainder loop after it. -/
def lp1 (G8 : BufTy.Contents (Elt Ideal) arg8.view.ty) (G9 : BufTy.Contents (Elt Ideal) arg9.view.ty) :=
  st_k0_t1 (F := Ideal) Variants.none c none i arg2 harg2 arg3 harg3 arg4 harg4 arg5 harg5 arg6 harg6 arg7 harg7 arg8 harg8 arg9 harg9 (BitVec.ofNat 32 ↑(i 1)) (k0_pay267 (View.readAt (Elt Ideal) arg2.view (Rect.unit ![0, 0, 0] S1x2048x64.size inb_S1x2048x64_S1x2048x64_0_0_0).toLoadRect (harg2.unread x0))) (k0_pay268 (View.readAt (Elt Ideal) arg6.view (Rect.unit ![0, 0, 0] S1x2048x64.size inb_S1x2048x64_S1x2048x64_0_0_0).toLoadRect (harg6.unread x4))) (k0_pay269 (View.readAt (Elt Ideal) arg5.view (Rect.unit ![0, 0, 0] S1x2048x128.size inb_S1x2048x128_S1x2048x128_0_0_0).toLoadRect (harg5.unread x3)))
    (k0_pay271 (View.readAt (Elt Ideal) arg2.view (Rect.unit ![0, 0, 0] S1x2048x64.size inb_S1x2048x64_S1x2048x64_0_0_0).toLoadRect (harg2.unread x0))) (k0_pay272 (View.readAt (Elt Ideal) arg6.view (Rect.unit ![0, 0, 0] S1x2048x64.size inb_S1x2048x64_S1x2048x64_0_0_0).toLoadRect (harg6.unread x4))) k0_pay273 k0_pay274 k0_pay275 k0_pay276 k0_pay277 (harg3.unread x1) (harg4.unread x2) G8 G9 (k0_pay275, k0_pay276, k0_pay277) (Scf.trips (k0_t1_loop i).lb (k0_t1_loop i).ub (k0_t1_loop i).st)

def lp2 (G8 : BufTy.Contents (Elt Ideal) arg8.view.ty) (G9 : BufTy.Contents (Elt Ideal) arg9.view.ty) (acc : FVec Ideal S2048x64 .f32 × FVec Ideal S2048x1 .f32 × FVec Ideal S2048x1 .f32) :=
  st_k0_t2 (F := Ideal) Variants.none c none i arg2 harg2 arg3 harg3 arg4 harg4 arg5 harg5 arg6 harg6 arg7 harg7 arg8 harg8 arg9 harg9 (BitVec.ofNat 32 ↑(i 1)) (k0_pay267 (View.readAt (Elt Ideal) arg2.view (Rect.unit ![0, 0, 0] S1x2048x64.size inb_S1x2048x64_S1x2048x64_0_0_0).toLoadRect (harg2.unread x0))) (k0_pay268 (View.readAt (Elt Ideal) arg6.view (Rect.unit ![0, 0, 0] S1x2048x64.size inb_S1x2048x64_S1x2048x64_0_0_0).toLoadRect (harg6.unread x4))) (k0_pay269 (View.readAt (Elt Ideal) arg5.view (Rect.unit ![0, 0, 0] S1x2048x128.size inb_S1x2048x128_S1x2048x128_0_0_0).toLoadRect (harg5.unread x3)))
    (k0_pay271 (View.readAt (Elt Ideal) arg2.view (Rect.unit ![0, 0, 0] S1x2048x64.size inb_S1x2048x64_S1x2048x64_0_0_0).toLoadRect (harg2.unread x0))) (k0_pay272 (View.readAt (Elt Ideal) arg6.view (Rect.unit ![0, 0, 0] S1x2048x64.size inb_S1x2048x64_S1x2048x64_0_0_0).toLoadRect (harg6.unread x4))) k0_pay273 k0_pay274 k0_pay275 k0_pay276 k0_pay277 (Scalar.addi 0#32 (Scalar.muli (Scalar.divsi (Scalar.subi (Scalar.muli (BitVec.ofNat 32 ↑(i 1)) 2#32) 0#32) 1#32) 1#32)) (harg3.unread x1) (harg4.unread x2) G8 G9 acc (Scf.trips (k0_t2_loop i).lb (k0_t2_loop i).ub (k0_t2_loop i).st)

/-- The point's blocks: the queries' gradient from the state after the loops; the stores of the diagonal after the
    loops' stores. -/
abbrev outQ (s : St 2048) : List (View.Piece (Elt Ideal) S1x2048x64 .f32) :=
  [⟨Rect.unit (s := S1x2048x64) ![0, 0, 0] S1x2048x64.size inb_S1x2048x64_S1x2048x64_0_0_0,
    shapeCast S1x2048x64 (mulf s.dq (broadcast S2048x64 (Scalar.ofBits .f32 0x3E000000#32))) shapeCasts_S2048x64_S1x2048x64⟩]

def s_A : St 2048 := ⟨(lp2 i c arg2 harg2 arg3 harg3 arg4 harg4 arg5 harg5 arg6 harg6 arg7 harg7 arg8 harg8 arg9 harg9 x0 x1 x2 x3 x4 (arg8.view.writes (Elt Ideal) (arg8.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.1 ++ [⟨Rect.unit (s := S1x32x64x128) ![0, 0, 0, 0] S1x32x64x128.size inb_S1x32x64x128_S1x32x64x128_0_0_0_0, (k0_pay265 (F := Ideal))⟩])) (arg9.view.writes (Elt Ideal) (arg9.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.2 ++ [⟨Rect.unit (s := S1x32x64x128) ![0, 0, 0, 0] S1x32x64x128.size inb_S1x32x64x128_S1x32x64x128_0_0_0_0, (k0_pay266 (F := Ideal))⟩])) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.2)).1.1, (lp2 i c arg2 harg2 arg3 harg3 arg4 harg4 arg5 harg5 arg6 harg6 arg7 harg7 arg8 harg8 arg9 harg9 x0 x1 x2 x3 x4 (arg8.view.writes (Elt Ideal) (arg8.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.1 ++ [⟨Rect.unit (s := S1x32x64x128) ![0, 0, 0, 0] S1x32x64x128.size inb_S1x32x64x128_S1x32x64x128_0_0_0_0, (k0_pay265 (F := Ideal))⟩])) (arg9.view.writes (Elt Ideal) (arg9.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.2 ++ [⟨Rect.unit (s := S1x32x64x128) ![0, 0, 0, 0] S1x32x64x128.size inb_S1x32x64x128_S1x32x64x128_0_0_0_0, (k0_pay266 (F := Ideal))⟩])) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.2)).1.2.1, (lp2 i c arg2 harg2 arg3 harg3 arg4 harg4 arg5 harg5 arg6 harg6 arg7 harg7 arg8 harg8 arg9 harg9 x0 x1 x2 x3 x4 (arg8.view.writes (Elt Ideal) (arg8.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.1 ++ [⟨Rect.unit (s := S1x32x64x128) ![0, 0, 0, 0] S1x32x64x128.size inb_S1x32x64x128_S1x32x64x128_0_0_0_0, (k0_pay265 (F := Ideal))⟩])) (arg9.view.writes (Elt Ideal) (arg9.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.2 ++ [⟨Rect.unit (s := S1x32x64x128) ![0, 0, 0, 0] S1x32x64x128.size inb_S1x32x64x128_S1x32x64x128_0_0_0_0, (k0_pay266 (F := Ideal))⟩])) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.2)).1.2.2⟩
def b8_A : List (View.Piece (Elt Ideal) S1x32x64x128 .f32) := (lp2 i c arg2 harg2 arg3 harg3 arg4 harg4 arg5 harg5 arg6 harg6 arg7 harg7 arg8 harg8 arg9 harg9 x0 x1 x2 x3 x4 (arg8.view.writes (Elt Ideal) (arg8.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.1 ++ [⟨Rect.unit (s := S1x32x64x128) ![0, 0, 0, 0] S1x32x64x128.size inb_S1x32x64x128_S1x32x64x128_0_0_0_0, (k0_pay265 (F := Ideal))⟩])) (arg9.view.writes (Elt Ideal) (arg9.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.2 ++ [⟨Rect.unit (s := S1x32x64x128) ![0, 0, 0, 0] S1x32x64x128.size inb_S1x32x64x128_S1x32x64x128_0_0_0_0, (k0_pay266 (F := Ideal))⟩])) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.2)).2.1 ++ ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.1 ++ [⟨Rect.unit (s := S1x32x64x128) ![0, 0, 0, 0] S1x32x64x128.size inb_S1x32x64x128_S1x32x64x128_0_0_0_0, (k0_pay265 (F := Ideal))⟩])
def b9_A : List (View.Piece (Elt Ideal) S1x32x64x128 .f32) := (lp2 i c arg2 harg2 arg3 harg3 arg4 harg4 arg5 harg5 arg6 harg6 arg7 harg7 arg8 harg8 arg9 harg9 x0 x1 x2 x3 x4 (arg8.view.writes (Elt Ideal) (arg8.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.1 ++ [⟨Rect.unit (s := S1x32x64x128) ![0, 0, 0, 0] S1x32x64x128.size inb_S1x32x64x128_S1x32x64x128_0_0_0_0, (k0_pay265 (F := Ideal))⟩])) (arg9.view.writes (Elt Ideal) (arg9.view.junk) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.2 ++ [⟨Rect.unit (s := S1x32x64x128) ![0, 0, 0, 0] S1x32x64x128.size inb_S1x32x64x128_S1x32x64x128_0_0_0_0, (k0_pay266 (F := Ideal))⟩])) ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.1, (lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).1.2.2)).2.2 ++ ((lp1 i c arg2 harg2 arg3 harg3 arg4 harg4 arg5 harg5 arg6 harg6 arg7 harg7 arg8 harg8 arg9 harg9 x0 x1 x2 x3 x4 (arg8.view.writes (Elt Ideal) arg8.view.junk [⟨Rect.unit (s := S1x32x64x128) ![0, 0, 0, 0] S1x32x64x128.size inb_S1x32x64x128_S1x32x64x128_0_0_0_0, (k0_pay265 (F := Ideal))⟩]) (arg9.view.writes (Elt Ideal) arg9.view.junk [⟨Rect.unit (s := S1x32x64x128) ![0, 0, 0, 0] S1x32x64x128.size inb_S1x32x64x128_S1x32x64x128_0_0_0_0, (k0_pay266 (F := Ideal))⟩])).2.2 ++ [⟨Rect.unit (s := S1x32x64x128) ![0, 0, 0, 0] S1x32x64x128.size inb_S1x32x64x128_S1x32x64x128_0_0_0_0, (k0_pay266 (F := Ideal))⟩])

def s_B (xo6 : Vec Ideal S1x32x64x128 .f32) (xo7 : Vec Ideal S1x32x64x128 .f32) : St 2048 := ⟨(lp2 i c arg2 harg2 arg3 harg3 arg4 harg4 arg5 harg5 arg6 harg6 arg7 harg7 arg8 harg8 arg9 harg9 x0 x1 x2 x3 x4 (arg8.view.writes (Elt Ideal) (harg8.unread xo6) ((lp1 i c arg2 harg2 arg3 harg3 arg4 harg4 arg5 harg5 arg6 harg6 arg7 harg7 arg8 harg8 arg9 harg9 x0 x1 x2 x3 x4 (harg8.unread xo6) (harg9.unread xo7)).2.1)) (arg9.view.writes (Elt Ideal) (harg9.unread xo7) ((lp1 i c arg2 harg2 arg3 harg3 arg4 harg4 arg5 harg5 arg6 harg6 arg7 harg7 arg8 harg8 arg9 harg9 x0 x1 x2 x3 x4 (harg8.unread xo6) (harg9.unread xo7)).2.2)) ((lp1 i c arg2 harg2 arg3 harg3 arg4 harg4 arg5 harg5 arg6 harg6 arg7 harg7 arg8 harg8 arg9 harg9 x0 x1 x2 x3 x4 (harg8.unread xo6) (harg9.unread xo7)).1.1, (lp1 i c arg2 harg2 arg3 harg3 arg4 harg4 arg5 harg5 arg6 harg6 arg7 harg7 arg8 harg8 arg9 harg9 x0 x1 x2 x3 x4 (harg8.unread xo6) (harg9.unread xo7)).1.2.1, (lp1 i c arg2 harg2 arg3 harg3 arg4 harg4 arg5 harg5 arg6 harg6 arg7 harg7 arg8 harg8 arg9 harg9 x0 x1 x2 x3 x4 (harg8.unread xo6) (harg9.unread xo7)).1.2.2)).1.1, (lp2 i c arg2 harg2 arg3 harg3 arg4 harg4 arg5 harg5 arg6 harg6 arg7 harg7 arg8 harg8 arg9 harg9 x0 x1 x2 x3 x4 (arg8.view.writes (Elt Ideal) (harg8.unread xo6) ((lp1 i c arg2 harg2 arg3 harg3 arg4 harg4 arg5 harg5 arg6 harg6 arg7 harg7 arg8 harg8 arg9 harg9 x0 x1 x2 x3 x4 (harg8.unread xo6) (harg9.unread xo7)).2.1)) (arg9.view.writes (Elt Ideal) (harg9.unread xo7) ((lp1 i c arg2 harg2 arg3 harg3 arg4 harg4 arg5 harg5 arg6 harg6 arg7 harg7 arg8 harg8 arg9 harg9 x0 x1 x2 x3 x4 (harg8.unread xo6) (harg9.unread xo7)).2.2)) ((lp1 i c arg2 harg2 arg3 harg3 arg4 harg4 arg5 harg5 arg6 harg6 arg7 harg7 arg8 harg8 arg9 harg9 x0 x1 x2 x3 x4 (harg8.unread xo6) (harg9.unread xo7)).1.1, (lp1 i c arg2 harg2 arg3 harg3 arg4 harg4 arg5 harg5 arg6 harg6 arg7 harg7 arg8 harg8 arg9 harg9 x0 x1 x2 x3 x4 (harg8.unread xo6) (harg9.unread xo7)).1.2.1, (lp1 i c arg2 harg2 arg3 harg3 arg4 harg4 arg5 harg5 arg6 harg6 arg7 harg7 arg8 harg8 arg9 harg9 x0 x1 x2 x3 x4 (harg8.unread xo6) (harg9.unread xo7)).1.2.2)).1.2.1, (lp2 i c arg2 harg2 arg3 harg3 arg4 harg4 arg5 harg5 arg6 harg6 arg7 harg7 arg8 harg8 arg9 harg9 x0 x1 x2 x3 x4 (arg8.view.writes (Elt Ideal) (harg8.unread xo6) ((lp1 i c arg2 harg2 arg3 harg3 arg4 harg4 arg5 harg5 arg6 harg6 arg7 harg7 arg8 harg8 arg9 harg9 x0 x1 x2 x3 x4 (harg8.unread xo6) (harg9.unread xo7)).2.1)) (arg9.view.writes (Elt Ideal) (harg9.unread xo7) ((lp1 i c arg2 harg2 arg3 harg3 arg4 harg4 arg5 harg5 arg6 harg6 arg7 harg7 arg8 harg8 arg9 harg9 x0 x1 x2 x3 x4 (harg8.unread xo6) (harg9.unread xo7)).2.2)) ((lp1 i c arg2 harg2 arg3 harg3 arg4 harg4 arg5 harg5 arg6 harg6 arg7 harg7 arg8 harg8 arg9 harg9 x0 x1 x2 x3 x4 (harg8.unread xo6) (harg9.unread xo7)).1.1, (lp1 i c arg2 harg2 arg3 harg3 arg4 harg4 arg5 harg5 arg6 harg6 arg7 harg7 arg8 harg8 arg9 harg9 x0 x1 x2 x3 x4 (harg8.unread xo6) (harg9.unread xo7)).1.2.1, (lp1 i c arg2 harg2 arg3 harg3 arg4 harg4 arg5 harg5 arg6 harg6 arg7 harg7 arg8 harg8 arg9 harg9 x0 x1 x2 x3 x4 (harg8.unread xo6) (harg9.unread xo7)).1.2.2)).1.2.2⟩
def b8_B (xo6 : Vec Ideal S1x32x64x128 .f32) (xo7 : Vec Ideal S1x32x64x128 .f32) : List (View.Piece (Elt Ideal) S1x32x64x128 .f32) := (lp2 i c arg2 harg2 arg3 harg3 arg4 harg4 arg5 harg5 arg6 harg6 arg7 harg7 arg8 harg8 arg9 harg9 x0 x1 x2 x3 x4 (arg8.view.writes (Elt Ideal) (harg8.unread xo6) ((lp1 i c arg2 harg2 arg3 harg3 arg4 harg4 arg5 harg5 arg6 harg6 arg7 harg7 arg8 harg8 arg9 harg9 x0 x1 x2 x3 x4 (harg8.unread xo6) (harg9.unread xo7)).2.1)) (arg9.view.writes (Elt Ideal) (harg9.unread xo7) ((lp1 i c arg2 harg2 arg3 harg3 arg4 harg4 arg5 harg5 arg6 harg6 arg7 harg7 arg8 harg8 arg9 harg9 x0 x1 x2 x3 x4 (harg8.unread xo6) (harg9.unread xo7)).2.2)) ((lp1 i c arg2 harg2 arg3 harg3 arg4 harg4 arg5 harg5 arg6 harg6 arg7 harg7 arg8 harg8 arg9 harg9 x0 x1 x2 x3 x4 (harg8.unread xo6) (harg9.unread xo7)).1.1, (lp1 i c arg2 harg2 arg3 harg3 arg4 harg4 arg5 harg5 arg6 harg6 arg7 harg7 arg8 harg8 arg9 harg9 x0 x1 x2 x3 x4 (harg8.unread xo6) (harg9.unread xo7)).1.2.1, (lp1 i c arg2 harg2 arg3 harg3 arg4 harg4 arg5 harg5 arg6 harg6 arg7 harg7 arg8 harg8 arg9 harg9 x0 x1 x2 x3 x4 (harg8.unread xo6) (harg9.unread xo7)).1.2.2)).2.1 ++ ((lp1 i c arg2 harg2 arg3 harg3 arg4 harg4 arg5 harg5 arg6 harg6 arg7 harg7 arg8 harg8 arg9 harg9 x0 x1 x2 x3 x4 (harg8.unread xo6) (harg9.unread xo7)).2.1)
def b9_B (xo6 : Vec Ideal S1x32x64x128 .f32) (xo7 : Vec Ideal S1x32x64x128 .f32) : List (View.Piece (Elt Ideal) S1x32x64x128 .f32) := (lp2 i c arg2 harg2 arg3 harg3 arg4 harg4 arg5 harg5 arg6 harg6 arg7 harg7 arg8 harg8 arg9 harg9 x0 x1 x2 x3 x4 (arg8.view.writes (Elt Ideal) (harg8.unread xo6) ((lp1 i c arg2 harg2 arg3 harg3 arg4 harg4 arg5 harg5 arg6 harg6 arg7 harg7 arg8 harg8 arg9 harg9 x0 x1 x2 x3 x4 (harg8.unread xo6) (harg9.unread xo7)).2.1)) (arg9.view.writes (Elt Ideal) (harg9.unread xo7) ((lp1 i c arg2 harg2 arg3 harg3 arg4 harg4 arg5 harg5 arg6 harg6 arg7 harg7 arg8 harg8 arg9 harg9 x0 x1 x2 x3 x4 (harg8.unread xo6) (harg9.unread xo7)).2.2)) ((lp1 i c arg2 harg2 arg3 harg3 arg4 harg4 arg5 harg5 arg6 harg6 arg7 harg7 arg8 harg8 arg9 harg9 x0 x1 x2 x3 x4 (harg8.unread xo6) (harg9.unread xo7)).1.1, (lp1 i c arg2 harg2 arg3 harg3 arg4 harg4 arg5 harg5 arg6 harg6 arg7 harg7 arg8 harg8 arg9 harg9 x0 x1 x2 x3 x4 (harg8.unread xo6) (harg9.unread xo7)).1.2.1, (lp1 i c arg2 harg2 arg3 harg3 arg4 harg4 arg5 harg5 arg6 harg6 arg7 harg7 arg8 harg8 arg9 harg9 x0 x1 x2 x3 x4 (harg8.unread xo6) (harg9.unread xo7)).1.2.2)).2.2 ++ ((lp1 i c arg2 harg2 arg3 harg3 arg4 harg4 arg5 harg5 arg6 harg6 arg7 harg7 arg8 harg8 arg9 harg9 x0 x1 x2 x3 x4 (harg8.unread xo6) (harg9.unread xo7)).2.2)

end

end Cert.AttnBwdIdeal.Value

end
-- ==== Proof.AttnCut.lean ====
module

public import proofs.«01_k».proof.Proof.AttnReal
public import proofs.«01_k».proof.Proof.AttnRun

@[expose] public section

set_option maxRecDepth 16384

noncomputable section

/-! The rows of a diagonal's tile among all rows, and the tiles of a trip and of the diagonal in turn. -/

namespace Cert.AttnTile

open Cert.Reals Idealize.ShloMosaic Finset

theorem cut2_at {N r n b : ℕ} (x : (T N b).Idx → EReal) (h : (T N b).Slices ![r, 0] (T n b)) (i : Fin n) (d : Fin b) (hi : r + i.val < N) :
    extractStridedSlice (T n b) ![r, 0] x h (ix2 i d) = x (ix2 ⟨r + i.val, hi⟩ d) := by
  refine congrArg x (funext fun a => Fin.ext ?_)
  match a with
  | 0 => rfl
  | 1 => show 0 + d.val = d.val; omega

theorem cutT_at {N r n b : ℕ} (x : (T b N).Idx → EReal) (h : (T b N).Slices ![0, r] (T b n)) (d : Fin b) (i : Fin n) (hi : r + i.val < N) :
    extractStridedSlice (T b n) ![0, r] x h (ix2 d i) = x (ix2 d ⟨r + i.val, hi⟩) := by
  refine congrArg x (funext fun a => Fin.ext ?_)
  match a with
  | 0 => show 0 + d.val = d.val; omega
  | 1 => rfl

theorem put2_at {N r n b : ℕ} (x : (T r b).Idx → EReal) (y : (T n b).Idx → EReal) (h : Shape.Concatenates [T r b, T n b] (T N b) 0)
    (i : Fin N) (d : Fin b) :
    (∀ hi : i.val < r, concatenate (T N b) 0 [⟨T r b, x⟩, ⟨T n b, y⟩] h (ix2 i d) = x (ix2 ⟨i.val, hi⟩ d))
    ∧ ∀ j : Fin n, i.val = r + j.val → concatenate (T N b) 0 [⟨T r b, x⟩, ⟨T n b, y⟩] h (ix2 i d) = y (ix2 j d) := by
  refine ⟨fun hi => ?_, fun j hj => ?_⟩
  · exact concatenate_pair_apply_left (t := T N b) (s₁ := T r b) (s₂ := T n b) 0 _ _ h _ rfl (ix2 ⟨i.val, hi⟩ d) fun a => by
      match a with
      | 0 => rfl
      | 1 => rfl
  · exact concatenate_pair_apply_right (t := T N b) (s₁ := T r b) (s₂ := T n b) 0 _ _ h _ rfl rfl (ix2 j d)
      (fun a ha => by
        match a, ha with
        | 0, ha => exact absurd rfl ha
        | 1, _ => rfl) (by show j.val + r = i.val; omega)

namespace Head

variable (H : Head) (t m : ℕ)

/-- Keys at or after the query add nothing. -/
theorem stay (f : ℕ → ℝ) (n : ℕ) (hf : ∀ s, t ≤ s → f s = 0) (ht : t ≤ m) : ∑ s ∈ range (m + n), f s = ∑ s ∈ range m, f s := by
  rw [sum_range_add, sum_eq_zero (s := range n) fun x _ => hf _ (by omega), add_zero]

theorem L_zero (s : ℕ) (hs : t ≤ s) : H.L t s = 0 := by unfold L; rw [if_neg (by omega)]
theorem W_zero (s : ℕ) (hs : t ≤ s) : H.W t s = 0 := by unfold W; rw [if_neg (by omega)]
theorem D_zero (s : ℕ) (hs : t ≤ s) : H.D t s = 0 := by unfold D; rw [W_zero H t s hs, mul_zero]
theorem G_zero (s : ℕ) (hs : t ≤ s) : H.G t s = 0 := by unfold G; rw [if_neg (by omega)]

theorem P_stay (n : ℕ) (ht : t ≤ m) : H.P t (m + n) = H.P t m := stay t m _ n (H.L_zero t) ht
theorem E_stay (n : ℕ) (ht : t ≤ m) : H.E t (m + n) = H.E t m := stay t m _ n (H.D_zero t) ht
theorem Q_stay (n d : ℕ) (ht : t ≤ m) : H.Q t (m + n) d = H.Q t m d :=
  stay t m (fun s => H.G t s * H.k s d) n (fun s hs => by rw [H.G_zero t s hs, zero_mul]) ht

end Head

section

variable {N r n : ℕ} (c : Cut N r n) (hN : r + n = N) (H : Head) (t0 m : ℕ)

include hN

theorem InpAt.low {I : Inp N} (hI : InpAt H t0 I) : InpAt H (t0 + r) (I.low c) where
  q i d := (cut2_at I.q c.sq i d (by omega)).trans ((hI.q _ _).trans (by rw [Nat.add_assoc]))
  d i d := (cut2_at I.d c.sq i d (by omega)).trans ((hI.d _ _).trans (by rw [Nat.add_assoc]))
  tot i := (cut2_at I.tot c.s1 i 0 (by omega)).trans ((hI.tot _).trans (by rw [Nat.add_assoc]))
  inc := hI.inc
  bef := hI.bef

theorem StAt.low {s : St N} (hs : StAt H t0 m s) : StAt H (t0 + r) m (s.low c) where
  dq i d := (cut2_at s.dq c.sq i d (by omega)).trans ((hs.dq _ _).trans (by rw [Nat.add_assoc]))
  pre i := (cut2_at s.pre c.s1 i 0 (by omega)).trans ((hs.pre _).trans (by rw [Nat.add_assoc]))
  dpre i := (cut2_at s.dpre c.s1 i 0 (by omega)).trans ((hs.dpre _).trans (by rw [Nat.add_assoc]))

theorem StAt.put {s : St N} {p : St n} (hs : StAt H t0 m s) (hp : StAt H (t0 + r) (m + 128) p) (hm : m = t0 + r) : StAt H t0 (m + 128) (s.put c p) where
  dq i d := by
    by_cases hi : i.val < r
    · refine ((put2_at _ _ c.cq i d).1 hi).trans ((cut2_at s.dq c.hq _ d (by show 0 + i.val < N; omega)).trans ((hs.dq _ _).trans ?_))
      simp only [Nat.zero_add]
      rw [H.Q_stay _ _ _ _ (by omega)]
    · refine ((put2_at _ _ c.cq i d).2 ⟨i.val - r, by omega⟩ (by show i.val = r + (i.val - r); omega)).trans ((hp.dq _ _).trans ?_)
      rw [show t0 + r + (i.val - r) = t0 + i.val by omega]
  pre i := by
    by_cases hi : i.val < r
    · refine ((put2_at _ _ c.c1 i 0).1 hi).trans ((cut2_at s.pre c.h1 _ 0 (by show 0 + i.val < N; omega)).trans ((hs.pre _).trans ?_))
      simp only [Nat.zero_add]
      rw [H.P_stay _ _ _ (by omega)]
    · refine ((put2_at _ _ c.c1 i 0).2 ⟨i.val - r, by omega⟩ (by show i.val = r + (i.val - r); omega)).trans ((hp.pre _).trans ?_)
      rw [show t0 + r + (i.val - r) = t0 + i.val by omega]
  dpre i := by
    by_cases hi : i.val < r
    · refine ((put2_at _ _ c.c1 i 0).1 hi).trans ((cut2_at s.dpre c.h1 _ 0 (by show 0 + i.val < N; omega)).trans ((hs.dpre _).trans ?_))
      simp only [Nat.zero_add]
      rw [H.E_stay _ _ _ (by omega)]
    · refine ((put2_at _ _ c.c1 i 0).2 ⟨i.val - r, by omega⟩ (by show i.val = r + (i.val - r); omega)).trans ((hp.dpre _).trans ?_)
      rw [show t0 + r + (i.val - r) = t0 + i.val by omega]

end

end Cert.AttnTile

namespace Cert.AttnBwdIdeal.Value

open Cert.AttnTile Idealize.ShloMosaic Finset

variable (H : Head) (t0 m : ℕ) (I : Inp 2048) (x : FVec Ideal (T 64 2048) .bf16) (K V : ℕ → FVec Ideal (T 128 64) .bf16) (s : St 2048)
  (hI : InpAt H t0 I)

section

variable (hK : ∀ j c d, j < 8 → K j (ix2 c d) = ((H.k (m + 128 * j + c.val) d.val : ℝ) : EReal)) (hV : ∀ j c d, j < 8 → V j (ix2 c d) = ((H.v (m + 128 * j + c.val) d.val : ℝ) : EReal))

include hI hK hV

/-- A trip's tiles in turn. -/
theorem tU_at (hs : StAt H t0 m s) (u : ℕ) (h8 : u ≤ 8) (hu : m + 128 * u ≤ t0) : StAt H t0 (m + 128 * u) (tU I K V s u) := by
  induction u with
  | zero => exact hs
  | succ u ih => exact (tileU rows2048 H t0 (m + 128 * u) I (K u) (V u) _ hI (ih (by omega) (by omega)) (fun c d => hK u c d (by omega)) (fun c d => hV u c d (by omega)) (by omega)).2.2

theorem gkU_at (f : ℕ → ℕ → ℝ) (hx : ∀ d i, x (ix2 d i) = ((f (t0 + i.val) d.val : ℝ) : EReal)) (hs : StAt H t0 m s) (u : ℕ) (h8 : u < 8) (hu : m + 128 * u + 128 ≤ t0) (d : Fin 64) (c : Fin 128) :
    gkU I x K V s u (ix2 d c) = ((∑ i ∈ range 2048, f (t0 + i) d * H.G (t0 + i) (m + 128 * u + c) : ℝ) : EReal) :=
  key_coe x _ f H.G t0 (m + 128 * u) hx
    (tileU rows2048 H t0 (m + 128 * u) I (K u) (V u) _ hI (tU_at H t0 m I K V s hI hK hV hs u (by omega) (by omega)) (fun c d => hK u c d h8) (fun c d => hV u c d h8) (by omega)).2.1 d c

theorem gvU_at (f : ℕ → ℕ → ℝ) (hx : ∀ d i, x (ix2 d i) = ((f (t0 + i.val) d.val : ℝ) : EReal)) (hs : StAt H t0 m s) (u : ℕ) (h8 : u < 8) (hu : m + 128 * u + 128 ≤ t0) (d : Fin 64) (c : Fin 128) :
    gvU I x K V s u (ix2 d c) = ((∑ i ∈ range 2048, f (t0 + i) d * H.W (t0 + i) (m + 128 * u + c) : ℝ) : EReal) :=
  key_coe x _ f H.W t0 (m + 128 * u) hx
    (tileU rows2048 H t0 (m + 128 * u) I (K u) (V u) _ hI (tU_at H t0 m I K V s hI hK hV hs u (by omega) (by omega)) (fun c d => hK u c d h8) (fun c d => hV u c d h8) (by omega)).1 d c

end

section

variable (hK : ∀ j c d, j < 16 → K j (ix2 c d) = ((H.k (t0 + 128 * j + c.val) d.val : ℝ) : EReal)) (hV : ∀ j c d, j < 16 → V j (ix2 c d) = ((H.v (t0 + 128 * j + c.val) d.val : ℝ) : EReal))

theorem ofNat16 (j : ℕ) (hj : j < 16) : (Fin.ofNat 16 j).val = j := Nat.mod_eq_of_lt hj

theorem tail_sum (f : ℕ → ℝ) (r n N : ℕ) (hN : r + n = N) (h0 : ∀ i < r, f i = 0) : ∑ i ∈ range n, f (r + i) = ∑ i ∈ range N, f i := by
  subst hN
  rw [sum_range_add, sum_eq_zero (s := range r) fun i hi => h0 i (mem_range.mp hi), zero_add]

include hI hK hV

/-- The diagonal's tile `j`: its weights' and gradients' parts of the transposed results, and the state it leaves. -/
theorem dSt_at (f : ℕ → ℕ → ℝ) (j : ℕ) (hj : j < 16) (hs : StAt H t0 (t0 + 128 * j) s) :
    StAt H t0 (t0 + 128 * (j + 1)) (dSt I K V s j)
    ∧ ((∀ d i, x (ix2 d i) = ((f (t0 + i.val) d.val : ℝ) : EReal)) → ∀ d c,
      gkD I x K V s j (ix2 d c) = ((∑ i ∈ range 2048, f (t0 + i) d.val * H.G (t0 + i) (t0 + 128 * j + c.val) : ℝ) : EReal)
      ∧ gvD I x K s j (ix2 d c) = ((∑ i ∈ range 2048, f (t0 + i) d.val * H.W (t0 + i) (t0 + 128 * j + c.val) : ℝ) : EReal)) := by
  cases j with
  | zero =>
    have tl := tileM rows2048 H t0 t0 I (K 0) (V 0) s hI hs (fun c d => hK 0 c d (by omega)) (fun c d => hV 0 c d (by omega)) (le_refl _) rfl
    exact ⟨tl.2.2, fun hx d c => ⟨key_coe x _ f H.G t0 t0 hx tl.2.1 d c, key_coe x _ f H.W t0 t0 hx tl.1 d c⟩⟩
  | succ j =>
    have e : (Fin.ofNat 16 (j + 1)).val = j + 1 := ofNat16 _ hj
    have hN : rowD (j + 1) + numD (j + 1) = 2048 := by show 128 * _ + (2048 - 128 * _) = 2048; omega
    have hr : t0 + rowD (j + 1) = t0 + 128 * (j + 1) := by show t0 + 128 * _ = _; omega
    have tl := tileM (rowsD (j + 1)) H (t0 + rowD (j + 1)) (t0 + 128 * (j + 1)) (I.low (cutD (j + 1))) (K (j + 1)) (V (j + 1)) (s.low (cutD (j + 1)))
      (hI.low _ hN) (hs.low _ hN) (fun c d => hK _ c d hj) (fun c d => hV _ c d hj) (by omega) hr
    refine ⟨hs.put (cutD (j + 1)) hN H t0 _ tl.2.2 hr.symm, fun hx d c => ?_⟩
    have hx' : ∀ (d : Fin 64) (i : Fin (numD (j + 1))), extractStridedSlice (T 64 (numD (j + 1))) ![0, rowD (j + 1)] x (cutD (j + 1)).st (ix2 d i)
        = ((f (t0 + rowD (j + 1) + i.val) d.val : ℝ) : EReal) := fun d i => by
      rw [cutT_at x _ d i (by omega), hx, Nat.add_assoc]
    have wr : ∀ g : ℕ → ℕ → ℝ, (∀ t s, t ≤ s → g t s = 0) →
        ∑ i ∈ range (numD (j + 1)), f (t0 + rowD (j + 1) + i) d.val * g (t0 + rowD (j + 1) + i) (t0 + 128 * (j + 1) + c.val)
          = ∑ i ∈ range 2048, f (t0 + i) d.val * g (t0 + i) (t0 + 128 * (j + 1) + c.val) := fun g hg => by
      simp only [Nat.add_assoc t0 (rowD (j + 1))]
      refine tail_sum (fun i => f (t0 + i) d.val * g (t0 + i) (t0 + 128 * (j + 1) + c.val)) _ _ _ hN fun i hi => ?_
      show f (t0 + i) d.val * g (t0 + i) (t0 + 128 * (j + 1) + c.val) = 0
      rw [hg _ _ (by omega), mul_zero]
    exact ⟨(key_coe _ _ f H.G _ _ hx' tl.2.1 d c).trans (by rw [wr _ fun t s => H.G_zero t s]),
      (key_coe _ _ f H.W _ _ hx' tl.1 d c).trans (by rw [wr _ fun t s => H.W_zero t s])⟩

end

end Cert.AttnBwdIdeal.Value

end
-- ==== Proof.AttnOff.lean ====
module

public import proofs.«01_k».proof.Proof.AttnCut
public import Idealize.ShloMosaic.Lib.WritesUnit

@[expose] public section

set_option maxRecDepth 16384

noncomputable section

/-! Where the body's loads and stores lie, and what its lists of stores leave. -/

namespace Cert.AttnBwdIdeal.Value

open Cert.AttnBwdIdeal Cert.AttnBwdIdeal.Gen Cert.AttnTile Idealize.ShloMosaic Idealize.ShloMosaic.TcCoe Idealize.SL.Sem

theorem trips1 (i : grid0.Coords) : Scf.trips (k0_t1_loop i).lb (k0_t1_loop i).ub (k0_t1_loop i).st = 2 * (i 1).val := by
  unfold k0_t1_loop
  generalize i 1 = b
  revert b
  change ∀ b : Fin 2, _
  decide +kernel

theorem trips2 (i : grid0.Coords) : Scf.trips (k0_t2_loop i).lb (k0_t2_loop i).ub (k0_t2_loop i).st = 0 := by
  unfold k0_t2_loop
  generalize i 1 = b
  revert b
  change ∀ b : Fin 2, _
  decide +kernel

theorem off5 (i : grid0.Coords) (j : ℕ) : k0_off5 i (BitVec.ofNat 32 (Fin.ofNat 16 j).val) = ![0, 2048 * (i 1).val + 128 * (Fin.ofNat 16 j).val, 0] := by
  unfold k0_off5
  generalize Fin.ofNat 16 j = u
  generalize i 1 = b
  revert b u
  change ∀ (u : Fin 16) (b : Fin 2), _
  decide +kernel

theorem off6 (i : grid0.Coords) (j : ℕ) : k0_off6 i (BitVec.ofNat 32 (Fin.ofNat 16 j).val) = ![0, 16 * (i 1).val + (Fin.ofNat 16 j).val, 0, 0] := by
  unfold k0_off6
  generalize Fin.ofNat 16 j = u
  generalize i 1 = b
  revert b u
  change ∀ (u : Fin 16) (b : Fin 2), _
  decide +kernel

theorem trip_lt {i : grid0.Coords} (k : Fin (k0_t1_loop i).trips) : k.val < 2 := by
  have := k.isLt
  have e : (k0_t1_loop i).trips = 2 * (i 1).val := trips1 i
  have h1 := (i 1).isLt
  have h2 : (i 1).val < 2 := h1
  omega

theorem off1 (i : grid0.Coords) (k : Fin (k0_t1_loop i).trips) (u : ℕ) :
    k0_off1 i k (BitVec.ofNat 32 (Fin.ofNat 8 u).val) = ![0, 1024 * k.val + 128 * (Fin.ofNat 8 u).val, 0] := by
  unfold k0_off1
  have hk := trip_lt k
  generalize k.val = b at hk
  generalize Fin.ofNat 8 u = u
  revert u
  obtain ⟨b', rfl⟩ : ∃ b' : Fin 2, b = b'.val := ⟨⟨b, hk⟩, rfl⟩
  revert b'
  change ∀ (b : Fin 2), _ → ∀ (u : Fin 8), _
  decide +kernel

theorem off2 (i : grid0.Coords) (k : Fin (k0_t1_loop i).trips) (u : ℕ) :
    k0_off2 i k (BitVec.ofNat 32 (Fin.ofNat 8 u).val) = ![0, 8 * k.val + (Fin.ofNat 8 u).val, 0, 0] := by
  unfold k0_off2
  have hk := trip_lt k
  generalize k.val = b at hk
  generalize Fin.ofNat 8 u = u
  revert u
  obtain ⟨b', rfl⟩ : ∃ b' : Fin 2, b = b'.val := ⟨⟨b, hk⟩, rfl⟩
  revert b'
  change ∀ (b : Fin 2), _ → ∀ (u : Fin 8), _
  decide +kernel

/-- A block of 128 rows of a whole buffer of keys or values. -/
theorem blk_read (arg : Memref sig .tc .vmem S1x4096x64 .bf16) (X : BufTy.Contents (Elt Ideal) arg.view.ty) (off : Fin 3 → ℕ) (o : ℕ) (ho : off = ![0, o, 0])
    (inb : ∀ a, off a + S1x128x64.size a ≤ S1x4096x64.size a) (c : Fin 128) (d : Fin 64) (hc : o + c.val < 4096) :
    blk (View.readAt (Elt Ideal) arg.view (Rect.unit (s := S1x4096x64) off S1x128x64.size inb).toLoadRect X) (ix2 c d)
      = arg.view.read (Elt Ideal) X (ix3 0 ⟨o + c.val, hc⟩ d) := by
  subst ho
  pointwise [blk]
  refine congrArg (arg.view.read (Elt Ideal) X) (funext fun a => Fin.ext ?_)
  match a with
  | 0 => rfl
  | 1 => show o + 1 * c.val = o + c.val; omega
  | 2 => show 0 + 1 * d.val = d.val; omega

/-- One store of a block of a transposed result, adding a part to what was there. -/
theorem store_read (arg : Memref sig .tc .vmem S1x32x64x128 .f32) (G f : BufTy.Contents (Elt Ideal) arg.view.ty) (off : Fin 4 → ℕ) (o : ℕ) (ho : off = ![0, o, 0, 0])
    (inb : ∀ a, off a + S1x1x64x128.size a ≤ S1x32x64x128.size a) (y : FVec Ideal (T 64 128) .f32) (L : List (View.Piece (Elt Ideal) S1x32x64x128 .f32))
    (b : Fin 32) (d : Fin 64) (c : Fin 128) :
    arg.view.read (Elt Ideal) (arg.view.writes (Elt Ideal) G (⟨Rect.unit (s := S1x32x64x128) off S1x1x64x128.size inb,
        acc4 (View.readAt (Elt Ideal) arg.view (Rect.unit (s := S1x32x64x128) off S1x1x64x128.size inb).toLoadRect f) y⟩ :: L)) (ix4 0 b d c)
      = if b.val = o then (arg.view.read (Elt Ideal) f (ix4 0 b d c) : EReal) + y (ix2 d c) else arg.view.read (Elt Ideal) (arg.view.writes (Elt Ideal) G L) (ix4 0 b d c) := by
  subst ho
  split
  · rename_i hb
    refine (View.read_writes_cons_unit_of_mem arg.view G inb _ L (ix4 0 b d c) (ix4 0 0 d c) rfl fun a => ?_).trans ?_
    · match a with
      | 0 => rfl
      | 1 => exact hb
      | 2 => exact (Nat.zero_add _).symm
      | 3 => exact (Nat.zero_add _).symm
    · pointwise [acc4]
      refine congrArg (· + _) (congrArg (arg.view.read (Elt Ideal) f) (funext fun a => Fin.ext ?_))
      match a with
      | 0 => rfl
      | 1 => show o + 1 * 0 = b.val; omega
      | 2 => show 0 + 1 * d.val = d.val; omega
      | 3 => show 0 + 1 * c.val = c.val; omega
  · rename_i hb
    exact View.read_writes_cons_unit_of_not_mem arg.view G inb _ L (ix4 0 b d c) rfl 1 (by
      show b.val < o ∨ o + 1 ≤ b.val
      omega)

end Cert.AttnBwdIdeal.Value

end
-- ==== Proof.AttnLoop.lean ====
module

public import proofs.«01_k».proof.Proof.AttnOff

@[expose] public section

set_option maxRecDepth 16384

noncomputable section

/-! What the loop below the diagonal, and the chain on it, leave in the state and in the transposed results. -/

namespace Cert.AttnTile

open Finset

/-- What rows `t0 … t0 + 2047` add to the entry of the keys' and of the values' transposed gradient, in block `b`. -/
def partK (H : Head) (t0 b d c : ℕ) : ℝ := ∑ i ∈ range 2048, H.q (t0 + i) d * H.G (t0 + i) (128 * b + c)
def partV (H : Head) (t0 b d c : ℕ) : ℝ := ∑ i ∈ range 2048, H.ct (t0 + i) d * H.W (t0 + i) (128 * b + c)

end Cert.AttnTile

namespace Cert.AttnBwdIdeal.Value

open Cert.AttnBwdIdeal Cert.AttnBwdIdeal.Gen Cert.AttnTile Idealize.ShloMosaic Idealize.ShloMosaic.TcCoe Idealize.SL.Sem
open Finset (range)

theorem ofNat8 (j : ℕ) (hj : j < 8) : (Fin.ofNat 8 j).val = j := Nat.mod_eq_of_lt hj

theorem k3_at (i : grid0.Coords) (arg : Memref sig .tc .vmem S1x4096x64 .bf16) (X : BufTy.Contents (Elt Ideal) arg.view.ty) (f : ℕ → ℕ → ℝ)
    (h : ∀ r d, arg.view.read (Elt Ideal) X (ix3 0 r d) = ((f r.val d.val : ℝ) : EReal)) (k : Fin (k0_t1_loop i).trips) (u : ℕ) (hu : u < 8) (c : Fin 128) (d : Fin 64) :
    k3 i arg X k u (ix2 c d) = ((f (1024 * k.val + 128 * u + c.val) d.val : ℝ) : EReal) := by
  have hk := trip_lt k
  have ho := (off1 i k u).trans (by rw [ofNat8 u hu])
  exact (blk_read arg X _ _ ho _ c d (by omega)).trans (h _ _)

theorem kD_at (i : grid0.Coords) (arg : Memref sig .tc .vmem S1x4096x64 .bf16) (X : BufTy.Contents (Elt Ideal) arg.view.ty) (f : ℕ → ℕ → ℝ)
    (h : ∀ r d, arg.view.read (Elt Ideal) X (ix3 0 r d) = ((f r.val d.val : ℝ) : EReal)) (j : ℕ) (hj : j < 16) (c : Fin 128) (d : Fin 64) :
    kD i arg X j (ix2 c d) = ((f (2048 * (i 1).val + 128 * j + c.val) d.val : ℝ) : EReal) := by
  have hi : (i 1).val < 2 := (i 1).isLt
  have ho := (off5 i j).trans (by rw [ofNat16 j hj])
  exact (blk_read arg X _ _ ho _ c d (by omega)).trans (h _ _)

/-- The entries after a trip's first `u` stores. -/
theorem tL_read (i : grid0.Coords) (arg : Memref sig .tc .vmem S1x32x64x128 .f32) (G f : BufTy.Contents (Elt Ideal) arg.view.ty) (k : Fin (k0_t1_loop i).trips)
    (g : ℕ → FVec Ideal (T 64 128) .f32) (L : List (View.Piece (Elt Ideal) S1x32x64x128 .f32)) (hf : f = arg.view.writes (Elt Ideal) G L)
    (b : Fin 32) (d : Fin 64) (c : Fin 128) (u : ℕ) (hu : u ≤ 8) :
    arg.view.read (Elt Ideal) (arg.view.writes (Elt Ideal) G (tL i arg f k g u ++ L)) (ix4 0 b d c)
      = if 8 * k.val ≤ b.val ∧ b.val < 8 * k.val + u then (arg.view.read (Elt Ideal) f (ix4 0 b d c) : EReal) + g (b.val - 8 * k.val) (ix2 d c)
        else arg.view.read (Elt Ideal) f (ix4 0 b d c) := by
  induction u with
  | zero => rw [if_neg (by omega), hf]; rfl
  | succ u ih =>
    have ho := (off2 i k u).trans (by rw [ofNat8 u (by omega)])
    refine (store_read arg G f _ _ ho _ (g u) (tL i arg f k g u ++ L) b d c).trans ?_
    rw [ih (by omega)]
    by_cases hb : b.val = 8 * k.val + u
    · rw [if_pos hb, if_pos (by omega), hb, Nat.add_sub_cancel_left]
    · rw [if_neg hb]
      exact if_congr (by omega) rfl rfl

/-- The entries after the diagonal's first `j` stores. -/
theorem chain_read (i : grid0.Coords) (arg : Memref sig .tc .vmem S1x32x64x128 .f32) (G : BufTy.Contents (Elt Ideal) arg.view.ty) (S : ℕ → ℕ → ℕ → ℝ)
    (g : ℕ → FVec Ideal (T 64 128) .f32) (hg : ∀ j < 16, ∀ d c, g j (ix2 d c) = ((S (16 * (i 1).val + j) d.val c.val : ℝ) : EReal))
    (L : ℕ → List (View.Piece (Elt Ideal) S1x32x64x128 .f32)) (hL : ∀ j < 16, L (j + 1) = dP i arg (arg.view.writes (Elt Ideal) G (L j)) j (g j) :: L j)
    (b : Fin 32) (d : Fin 64) (c : Fin 128) (j : ℕ) (hj : j ≤ 16) :
    arg.view.read (Elt Ideal) (arg.view.writes (Elt Ideal) G (L j)) (ix4 0 b d c)
      = if 16 * (i 1).val ≤ b.val ∧ b.val < 16 * (i 1).val + j then (arg.view.read (Elt Ideal) (arg.view.writes (Elt Ideal) G (L 0)) (ix4 0 b d c) : EReal) + ((S b.val d.val c.val : ℝ) : EReal)
        else arg.view.read (Elt Ideal) (arg.view.writes (Elt Ideal) G (L 0)) (ix4 0 b d c) := by
  induction j with
  | zero => rw [if_neg (by omega)]
  | succ j ih =>
    have ho := (off6 i j).trans (by rw [ofNat16 j (by omega)])
    rw [hL j (by omega)]
    refine (store_read arg G _ _ _ ho _ (g j) (L j) b d c).trans ?_
    rw [ih (by omega), hg j (by omega)]
    by_cases hb : b.val = 16 * (i 1).val + j
    · rw [if_pos hb, if_neg (by omega), if_pos (by omega), hb]
    · rw [if_neg hb]
      exact if_congr (by omega) rfl rfl

section

variable (𝒱 : Variants) (c : Dev nD) (bd : Option 𝒱.V) (i : grid0.Coords) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole) (arg6 : Memref sig .tc .vmem S1x2048x64 .bf16) (harg6 : arg6.IsWhole) (arg7 : Memref sig .tc .vmem S1x2048x64 .f32) (harg7 : arg7.IsWhole) (arg8 : Memref sig .tc .vmem S1x32x64x128 .f32) (harg8 : arg8.IsWhole) (arg9 : Memref sig .tc .vmem S1x32x64x128 .f32) (harg9 : arg9.IsWhole) (arg1 : BitVec 32) (v6 : FVec Ideal S2048x64 .bf16) (v8 : FVec Ideal S2048x64 .bf16) (v11 : FVec Ideal S2048x1 .f32) (v19 : FVec Ideal S64x2048 .bf16) (v21 : FVec Ideal S64x2048 .bf16) (v31 : FVec Ideal S256x128 .bf16) (v35 : FVec Ideal S128x128 .bf16) (v36 : FVec Ideal S2048x64 .f32) (v37 : FVec Ideal S2048x1 .f32) (v38 : FVec Ideal S2048x1 .f32) (X_arg3 : BufTy.Contents (Elt Ideal) arg3.view.ty) (X_arg4 : BufTy.Contents (Elt Ideal) arg4.view.ty) (G8 : BufTy.Contents (Elt Ideal) arg8.view.ty) (G9 : BufTy.Contents (Elt Ideal) arg9.view.ty) (init : FVec Ideal S2048x64 .f32 × FVec Ideal S2048x1 .f32 × FVec Ideal S2048x1 .f32)

theorem loop_at (H : Head) (hI : InpAt H (2048 * (i 1).val) (⟨v6, v8, v11, v31, v35⟩ : Inp 2048))
    (h3 : ∀ r d, arg3.view.read (Elt Ideal) X_arg3 (ix3 0 r d) = ((H.k r.val d.val : ℝ) : EReal)) (h4 : ∀ r d, arg4.view.read (Elt Ideal) X_arg4 (ix3 0 r d) = ((H.v r.val d.val : ℝ) : EReal))
    (hq : ∀ d r, v19 (ix2 d r) = ((H.q (2048 * (i 1).val + r.val) d.val : ℝ) : EReal)) (hd : ∀ d r, v21 (ix2 d r) = ((H.ct (2048 * (i 1).val + r.val) d.val : ℝ) : EReal))
    (h0 : StAt H (2048 * (i 1).val) 0 (⟨init.1, init.2.1, init.2.2⟩ : St 2048)) (k : ℕ) (hk : k ≤ 2 * (i 1).val) :
    StAt H (2048 * (i 1).val) (1024 * k) (⟨(st_k0_t1 (F := Ideal) 𝒱 c bd i arg2 harg2 arg3 harg3 arg4 harg4 arg5 harg5 arg6 harg6 arg7 harg7 arg8 harg8 arg9 harg9 arg1 v6 v8 v11 v19 v21 v31 v35 v36 v37 v38 X_arg3 X_arg4 G8 G9 init k).1.1, (st_k0_t1 (F := Ideal) 𝒱 c bd i arg2 harg2 arg3 harg3 arg4 harg4 arg5 harg5 arg6 harg6 arg7 harg7 arg8 harg8 arg9 harg9 arg1 v6 v8 v11 v19 v21 v31 v35 v36 v37 v38 X_arg3 X_arg4 G8 G9 init k).1.2.1, (st_k0_t1 (F := Ideal) 𝒱 c bd i arg2 harg2 arg3 harg3 arg4 harg4 arg5 harg5 arg6 harg6 arg7 harg7 arg8 harg8 arg9 harg9 arg1 v6 v8 v11 v19 v21 v31 v35 v36 v37 v38 X_arg3 X_arg4 G8 G9 init k).1.2.2⟩ : St 2048)
    ∧ (∀ (b : Fin 32) (d : Fin 64) (e : Fin 128), arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg1 v6 v8 v11 v19 v21 v31 v35 v36 v37 v38 X_arg3 X_arg4 G8 G9 init k).2.1) (ix4 0 b d e)
        = if b.val < 8 * k then (arg8.view.read (Elt Ideal) G8 (ix4 0 b d e) : EReal) + ((partK H (2048 * (i 1).val) b.val d.val e.val : ℝ) : EReal) else arg8.view.read (Elt Ideal) G8 (ix4 0 b d e))
    ∧ (∀ (b : Fin 32) (d : Fin 64) (e : Fin 128), arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg1 v6 v8 v11 v19 v21 v31 v35 v36 v37 v38 X_arg3 X_arg4 G8 G9 init k).2.2) (ix4 0 b d e)
        = if b.val < 8 * k then (arg9.view.read (Elt Ideal) G9 (ix4 0 b d e) : EReal) + ((partV H (2048 * (i 1).val) b.val d.val e.val : ℝ) : EReal) else arg9.view.read (Elt Ideal) G9 (ix4 0 b d e)) := by
  induction k with
  | zero => exact ⟨h0, fun b d e => by rw [if_neg (by omega)]; rfl, fun b d e => by rw [if_neg (by omega)]; rfl⟩
  | succ k ih =>
    obtain ⟨i0, i8, i9⟩ := ih (by omega)
    have ht : (k0_t1_loop i).trips = 2 * (i 1).val := trips1 i
    have hs := st_k0_t1_succ (F := Ideal) 𝒱 c bd i arg2 harg2 arg3 harg3 arg4 harg4 arg5 harg5 arg6 harg6 arg7 harg7 arg8 harg8 arg9 harg9 arg1 v6 v8 v11 v19 v21 v31 v35 v36 v37 v38 X_arg3 X_arg4 G8 G9 init ⟨k, by omega⟩
    rw [trip_state, trip_stores] at hs
    simp only at hs
    rw [hs]
    have K := fun (j : ℕ) (c : Fin 128) (d : Fin 64) (hj : j < 8) => k3_at i arg3 X_arg3 H.k h3 ⟨k, by omega⟩ j hj c d
    have V := fun (j : ℕ) (c : Fin 128) (d : Fin 64) (hj : j < 8) => k3_at i arg4 X_arg4 H.v h4 ⟨k, by omega⟩ j hj c d
    refine ⟨?_, fun b d e => ?_, fun b d e => ?_⟩
    · exact tU_at H (2048 * (i 1).val) (1024 * k) _ _ _ _ hI K V i0 8 (by omega) (by omega)
    · refine (tL_read i arg8 G8 _ ⟨k, by omega⟩ _ _ rfl b d e 8 (by omega)).trans ?_
      rw [i8]
      by_cases hb : 8 * k ≤ b.val ∧ b.val < 8 * k + 8
      · rw [if_pos hb, if_neg (by omega), if_pos (by omega)]
        refine congrArg _ ((gkU_at H (2048 * (i 1).val) (1024 * k) _ _ _ _ _ hI K V H.q hq i0 (b.val - 8 * k) (by omega) (by omega) d e).trans ?_)
        rw [show 1024 * k + 128 * (b.val - 8 * k) + e.val = 128 * b.val + e.val by omega]
        rfl
      · rw [if_neg hb]
        exact if_congr (by omega) rfl rfl
    · refine (tL_read i arg9 G9 _ ⟨k, by omega⟩ _ _ rfl b d e 8 (by omega)).trans ?_
      rw [i9]
      by_cases hb : 8 * k ≤ b.val ∧ b.val < 8 * k + 8
      · rw [if_pos hb, if_neg (by omega), if_pos (by omega)]
        refine congrArg _ ((gvU_at H (2048 * (i 1).val) (1024 * k) _ _ _ _ _ hI K V H.ct hd i0 (b.val - 8 * k) (by omega) (by omega) d e).trans ?_)
        rw [show 1024 * k + 128 * (b.val - 8 * k) + e.val = 128 * b.val + e.val by omega]
        rfl
      · rw [if_neg hb]
        exact if_congr (by omega) rfl rfl

end

/-- The states along the diagonal. -/
theorem diag_at (H : Head) (t0 : ℕ) (I : Inp 2048) (hI : InpAt H t0 I) (K V : ℕ → FVec Ideal (T 128 64) .bf16)
    (hK : ∀ j c d, j < 16 → K j (ix2 c d) = ((H.k (t0 + 128 * j + c.val) d.val : ℝ) : EReal)) (hV : ∀ j c d, j < 16 → V j (ix2 c d) = ((H.v (t0 + 128 * j + c.val) d.val : ℝ) : EReal))
    (n : ℕ → St 2048) (h0 : StAt H t0 t0 (n 0)) (hn : ∀ j < 15, n (j + 1) = dSt I K V (n j) j) (j : ℕ) (hj : j ≤ 15) : StAt H t0 (t0 + 128 * j) (n j) := by
  induction j with
  | zero => exact h0
  | succ j ih =>
    rw [hn j (by omega)]
    exact (dSt_at H t0 I (fun _ => 0) K V (n j) hI hK hV (fun _ _ => 0) j (by omega) (ih (by omega))).1

end Cert.AttnBwdIdeal.Value

end
-- ==== Proof.AttnPay.lean ====
module

public import proofs.«01_k».proof.Proof.AttnLoop

@[expose] public section

set_option maxRecDepth 16384

noncomputable section

/-! The values the body makes before its loops. -/

namespace Cert.AttnBwdIdeal.Value

open Cert.AttnBwdIdeal Cert.AttnBwdIdeal.Gen Cert.AttnTile Cert.Reals Idealize.ShloMosaic Idealize.ShloMosaic.TcCoe Idealize.SL.Sem

theorem ceighth_bf16 : Ideal.ofBits .bf16 0x3E00#16 = ((1 / 8 : ℝ) : EReal) := by
  simp [Ideal.ofBits, Ideal.ieee]; norm_num [← EReal.coe_mul]

theorem ceighth_f32 : Ideal.ofBits .f32 0x3E000000#32 = ((1 / 8 : ℝ) : EReal) := by
  simp [Ideal.ofBits, Ideal.ieee]; norm_num [← EReal.coe_mul]

/-- A truth value as a number. -/
theorem bit_at (p : Prop) [Decidable p] (b : BitVec 1) (h : b = if p then 1#1 else 0#1) :
    (FloatOps.sitofp (F := Ideal) .f32 (BitVec.setWidth 32 b) : EReal) = (((if p then 1 else 0 : ℝ)) : EReal) := by
  subst h
  show ((((BitVec.setWidth 32 (if p then 1#1 else 0#1)).toInt : ℝ)) : EReal) = _
  split
  · rw [show (BitVec.setWidth 32 1#1).toInt = 1 from by decide, Int.cast_one]
  · rw [show (BitVec.setWidth 32 0#1).toInt = 0 from by decide, Int.cast_zero]

theorem eq_ofNat (a b : ℕ) (ha : a ≤ 2048) (hb : b ≤ 2048) : IntOp.cmpi .eq (BitVec.ofNat 32 a) (BitVec.ofNat 32 b) = if a = b then 1#1 else 0#1 := by
  show BitVec.ofBool (BitVec.ofNat 32 a == BitVec.ofNat 32 b) = _
  by_cases hab : a = b
  · rw [if_pos hab, hab, beq_self_eq_true]; rfl
  · rw [if_neg hab, beq_eq_false_iff_ne.mpr fun h => hab (by
      have := congrArg BitVec.toNat h
      rw [BitVec.toNat_ofNat, BitVec.toNat_ofNat] at this
      omega)]
    rfl

theorem sle_ofNat (a b : ℕ) (ha : a ≤ 2048) (hb : b ≤ 2048) : IntOp.cmpi .sle (BitVec.ofNat 32 a) (BitVec.ofNat 32 b) = if a ≤ b then 1#1 else 0#1 := by
  have e : ∀ n ≤ 2048, (BitVec.ofNat 32 n).toInt = (n : ℤ) := fun n hn => by
    rw [BitVec.toInt_eq_toNat_of_lt] <;> rw [BitVec.toNat_ofNat, Nat.mod_eq_of_lt (by omega)]
    omega
  show BitVec.ofBool (BitVec.sle _ _) = _
  rw [BitVec.sle, e a ha, e b hb]
  by_cases hab : a ≤ b
  · rw [if_pos hab, decide_eq_true (by exact_mod_cast hab)]; rfl
  · rw [if_neg hab, decide_eq_false (by exact_mod_cast hab)]; rfl

theorem and127 (x : Fin 256) : IntOp.andi (BitVec.ofNat 32 x.val) 127#32 = BitVec.ofNat 32 (x.val % 128) := by
  revert x
  decide +kernel

theorem pay267_at (v : Vec Ideal S1x2048x64 .bf16) (r : Fin 2048) (d : Fin 64) : k0_pay267 v (ix2 r d) = (v (ix3 0 r d) : EReal) * Ideal.ofBits .bf16 0x3E00#16 := by
  pointwise [k0_pay267]

theorem pay268_at (v : Vec Ideal S1x2048x64 .bf16) (r : Fin 2048) (d : Fin 64) : k0_pay268 v (ix2 r d) = v (ix3 0 r d) := by
  pointwise [k0_pay268]

theorem pay269_at (v : Vec Ideal S1x2048x128 .f32) (r : Fin 2048) : k0_pay269 v (ix2 r 0) = v (ix3 0 r 64) := by
  pointwise [k0_pay269]

/-- A row of the identity against a column. -/
theorem eye_sum (d : Fin 64) (f : Fin 64 → EReal) :
    ∑ x : Fin 64, (FloatOps.sitofp (F := Ideal) .f32 (BitVec.setWidth 32 (IntOp.cmpi .eq (BitVec.ofNat 32 d.val) (BitVec.ofNat 32 x.val))) : EReal) * f x = f d := by
  refine (Finset.sum_eq_single d (fun x _ hx => ?_) (fun h => absurd (Finset.mem_univ d) h)).trans ?_
  · rw [bit_at (d.val = x.val) _ (eq_ofNat _ _ (by omega) (by omega)), if_neg (fun h => hx (Fin.ext h.symm)), EReal.coe_zero, zero_mul]
  · rw [bit_at (d.val = d.val) _ (eq_ofNat _ _ (by omega) (by omega)), if_pos rfl, EReal.coe_one, one_mul]

theorem pay271_at (v : Vec Ideal S1x2048x64 .bf16) (r : Fin 2048) (d : Fin 64) : k0_pay271 v (ix2 d r) = k0_pay267 v (ix2 r d) := by
  pointwise [k0_pay271, k0_pay270]
  exact eye_sum d fun x => k0_pay267 v (ix2 r x)

theorem pay272_at (v : Vec Ideal S1x2048x64 .bf16) (r : Fin 2048) (d : Fin 64) : k0_pay272 v (ix2 d r) = k0_pay268 v (ix2 r d) := by
  pointwise [k0_pay272, k0_pay270]
  exact eye_sum d fun x => k0_pay268 v (ix2 r x)

theorem pay273_at (x : Fin 256) (c : Fin 128) : k0_pay273 (F := Ideal) (ix2 x c) = (((if x.val % 128 ≤ c.val then 1 else 0 : ℝ)) : EReal) := by
  pointwise [k0_pay273]
  exact bit_at _ _ (by rw [and127]; exact sle_ofNat _ _ (by omega) (by omega))

theorem pay274_at (x : Fin 128) (c : Fin 128) : k0_pay274 (F := Ideal) (ix2 x c) = (((if x.val < c.val then 1 else 0 : ℝ)) : EReal) := by
  pointwise [k0_pay274]
  exact bit_at _ _ (slt_ofNat _ _ (by omega) (by omega))

theorem pay275_at (r : Fin 2048) (d : Fin 64) : k0_pay275 (F := Ideal) (ix2 r d) = 0 := by
  pointwise [k0_pay275]

theorem pay276_at (r : Fin 2048) : k0_pay276 (F := Ideal) (ix2 r 0) = 0 := by
  pointwise [k0_pay276]

theorem pay277_at (r : Fin 2048) : k0_pay277 (F := Ideal) (ix2 r 0) = 0 := by
  pointwise [k0_pay277]

/-- The state the loops begin from. -/
theorem init_at (H : Head) (t0 : ℕ) : StAt H t0 0 (⟨k0_pay275 (F := Ideal), k0_pay276 (F := Ideal), k0_pay277 (F := Ideal)⟩ : St 2048) where
  dq i d := (pay275_at i d).trans EReal.coe_zero.symm
  pre i := (pay276_at i).trans EReal.coe_zero.symm
  dpre i := (pay277_at i).trans EReal.coe_zero.symm

/-- The blocks a point reads are the head's, from row `t0` on. -/
structure PtAt (H : Head) (t0 : ℕ) (x0 : Vec Ideal S1x2048x64 .bf16) (x1 x2 : Vec Ideal S1x4096x64 .bf16) (x3 : Vec Ideal S1x2048x128 .f32) (x4 : Vec Ideal S1x2048x64 .bf16) : Prop where
  q : ∀ r d, x0 (ix3 0 r d) = ((8 * H.q (t0 + r.val) d.val : ℝ) : EReal)
  k : ∀ r d, x1 (ix3 0 r d) = ((H.k r.val d.val : ℝ) : EReal)
  v : ∀ r d, x2 (ix3 0 r d) = ((H.v r.val d.val : ℝ) : EReal)
  tot : ∀ r, x3 (ix3 0 r 64) = ((H.P (t0 + r.val) 4096 : ℝ) : EReal)
  ct : ∀ r d, x4 (ix3 0 r d) = ((H.ct (t0 + r.val) d.val : ℝ) : EReal)

section

variable {H : Head} {t0 : ℕ} {x0 : Vec Ideal S1x2048x64 .bf16} {x1 x2 : Vec Ideal S1x4096x64 .bf16} {x3 : Vec Ideal S1x2048x128 .f32} {x4 : Vec Ideal S1x2048x64 .bf16}
  (h : PtAt H t0 x0 x1 x2 x3 x4) {y0 : Vec Ideal S1x2048x64 .bf16} {y3 : Vec Ideal S1x2048x128 .f32} {y4 : Vec Ideal S1x2048x64 .bf16} (h0 : y0 = x0) (h3 : y3 = x3) (h4 : y4 = x4)

include h h0

theorem q_at (r : Fin 2048) (d : Fin 64) : k0_pay267 y0 (ix2 r d) = ((H.q (t0 + r.val) d.val : ℝ) : EReal) := by
  rw [pay267_at, h0, h.q, ceighth_bf16, ← EReal.coe_mul]
  exact congrArg _ (by ring)

theorem qT_at (d : Fin 64) (r : Fin 2048) : k0_pay271 y0 (ix2 d r) = ((H.q (t0 + r.val) d.val : ℝ) : EReal) :=
  (pay271_at y0 r d).trans (q_at h h0 r d)

include h4

omit h0 in
theorem dT_at (d : Fin 64) (r : Fin 2048) : k0_pay272 y4 (ix2 d r) = ((H.ct (t0 + r.val) d.val : ℝ) : EReal) :=
  (pay272_at y4 r d).trans (by rw [pay268_at, h4]; exact h.ct r d)

include h3

theorem inp_at : InpAt H t0 (⟨k0_pay267 y0, k0_pay268 y4, k0_pay269 y3, k0_pay273 (F := Ideal), k0_pay274 (F := Ideal)⟩ : Inp 2048) where
  q := q_at h h0
  d r d := (pay268_at y4 r d).trans (by rw [h4]; exact h.ct r d)
  tot r := (pay269_at y3 r).trans (by rw [h3]; exact h.tot r)
  inc := pay273_at
  bef := pay274_at

end

end Cert.AttnBwdIdeal.Value

end
-- ==== Proof.AttnHost.lean ====
/- What the attention kernel's windows read: the head's queries, keys, values, cotangent and the sum of its logs. -/
module

public import proofs.«01_k».proof.Proof.AttnRefVal
public import proofs.«01_k».proof.Proof.AttnPay
public import proofs.«01_k».proof.Proof.Gen.AttnBwdIdeal.Value

@[expose] public section

set_option maxRecDepth 16384

noncomputable section

namespace Cert.AttnBwdIdeal.Value

open Cert.AttnBwdIdeal Cert.AttnBwdIdeal.Gen Cert.AttnBwdIdeal.Facts Cert.Reals Cert.AttnTile Idealize.ShloMosaic Idealize.ShloMosaic.TcCoe Idealize.SL.Sem
open Cert.AttnRefIdeal.Value (wR tailR hd rd)

variable (m : (ℓ : Loc nD τ sig) → Buf (Elt Ideal) ℓ) (c : Dev nD)

abbrev qA : FVec Ideal S16x4096x64 .f32 := m ((c : Thread nD τ).loc main_arg0)
abbrev kA : FVec Ideal S16x4096x64 .f32 := m ((c : Thread nD τ).loc main_arg1)
abbrev vA : FVec Ideal S16x4096x64 .f32 := m ((c : Thread nD τ).loc main_arg2)
abbrev ctA : FVec Ideal S16x4096x64 .f32 := m ((c : Thread nD τ).loc main_arg3)

theorem V_v25 : V m c main_v25 = truncf (F := Ideal) .bf16 (ctA m c) bitsLt_bf16_f32 := by
  unfold V
  simp only [List.flatten_cons, List.flatten_nil, List.append_nil, List.cons_append, List.nil_append]
  after_results_simp <;> rfl

theorem V_v24 : V m c main_v24 = truncf (F := Ideal) .bf16 (concatenate S48x4096x64 0 [⟨S16x4096x64, qA m c⟩, ⟨S16x4096x64, kA m c⟩, ⟨S16x4096x64, vA m c⟩]
    concatenates_S16x4096x64_S16x4096x64_S16x4096x64_S48x4096x64_d0) bitsLt_bf16_f32 := by
  unfold V
  simp only [List.flatten_cons, List.flatten_nil, List.append_nil, List.cons_append, List.nil_append]
  after_results_simp <;> rfl

theorem V_v22 : V m c main_v22 = concatenate S16x4096x128 2
    [⟨S16x4096x64, Host.dotGeneral dot_S16x4096x4096_S16x4096x64_S16x4096x64_2_1_1_2_0_0 none (wR (qA m c) (kA m c)) (vA m c)⟩,
      ⟨S16x4096x64, broadcastInDim S16x4096x64 ![0, 1, 2] bcast_S16x4096x1_S16x4096x64_0_1_2
        (extractStridedSlice S16x4096x1 ![0, 0, 0] (tailR (qA m c) (kA m c)) slices_S16x4096x4096_S16x4096x1_0_0_0)⟩]
    concatenates_S16x4096x64_S16x4096x64_S16x4096x128_d2 := by
  unfold V
  simp only [List.flatten_cons, List.flatten_nil, List.append_nil, List.cons_append, List.nil_append]
  after_results_simp <;> rfl

end Cert.AttnBwdIdeal.Value

end
-- ==== Proof.AttnPoint.lean ====
module

public import proofs.«01_k».proof.Proof.AttnPay

@[expose] public section

set_option maxRecDepth 16384

noncomputable section

/-! What one grid point leaves in its three blocks. -/

namespace Cert.AttnTile

open Finset

theorem partK_zero (H : Head) (t0 b d c : ℕ) (h : t0 + 2048 ≤ 128 * b) : partK H t0 b d c = 0 :=
  sum_eq_zero fun i hi => by rw [mem_range] at hi; rw [H.G_zero _ _ (by omega), mul_zero]

theorem partV_zero (H : Head) (t0 b d c : ℕ) (h : t0 + 2048 ≤ 128 * b) : partV H t0 b d c = 0 :=
  sum_eq_zero fun i hi => by rw [mem_range] at hi; rw [H.W_zero _ _ (by omega), mul_zero]

end Cert.AttnTile

namespace Cert.AttnBwdIdeal.Value

open Cert.AttnBwdIdeal Cert.AttnBwdIdeal.Gen Cert.AttnTile Cert.Reals Idealize.ShloMosaic Idealize.ShloMosaic.TcCoe Idealize.SL.Sem

/-- One transposed result after the diagonal's sixteen stores. -/
theorem diag_read (i : grid0.Coords) (arg : Memref sig .tc .vmem S1x32x64x128 .f32) (G : BufTy.Contents (Elt Ideal) arg.view.ty) (S : ℕ → ℕ → ℕ → ℝ)
    (hS : ∀ b d e, 2048 * (i 1).val + 2048 ≤ 128 * b → S b d e = 0) (g : ℕ → FVec Ideal (T 64 128) .f32)
    (hg : ∀ j < 16, ∀ d c, g j (ix2 d c) = ((S (16 * (i 1).val + j) d.val c.val : ℝ) : EReal))
    (L : ℕ → List (View.Piece (Elt Ideal) S1x32x64x128 .f32)) (hL : ∀ j < 15, L (j + 1) = dP i arg (arg.view.writes (Elt Ideal) G (L j)) j (g j) :: L j)
    (c0 : Fin 32 → Fin 64 → Fin 128 → EReal)
    (h0 : ∀ b d e, arg.view.read (Elt Ideal) (arg.view.writes (Elt Ideal) G (L 0)) (ix4 0 b d e) = if b.val < 16 * (i 1).val then c0 b d e + ((S b.val d.val e.val : ℝ) : EReal) else c0 b d e)
    (b : Fin 32) (d : Fin 64) (e : Fin 128) :
    arg.view.read (Elt Ideal) (arg.view.writes (Elt Ideal) G (dP i arg (arg.view.writes (Elt Ideal) G (L 15)) 15 (g 15) :: L 15)) (ix4 0 b d e)
      = c0 b d e + ((S b.val d.val e.val : ℝ) : EReal) := by
  have key := chain_read i arg G S g hg (fun j => if j < 16 then L j else dP i arg (arg.view.writes (Elt Ideal) G (L 15)) 15 (g 15) :: L 15)
    (fun j hj => by
      by_cases h : j < 15
      · simp only [if_pos (show j < 16 by omega), if_pos (show j + 1 < 16 by omega)]
        exact hL j h
      · obtain rfl : j = 15 := by omega
        rfl) b d e 16 (le_refl _)
  simp only [if_neg (show ¬(16 < 16) by omega), if_pos (show 0 < 16 by omega)] at key
  refine key.trans ?_
  rw [h0]
  by_cases h1 : b.val < 16 * (i 1).val
  · rw [if_neg (by omega), if_pos h1]
  · by_cases h2 : b.val < 16 * (i 1).val + 16
    · rw [if_pos (by omega), if_neg h1]
    · rw [if_neg (by omega), if_neg h1, hS _ _ _ (by omega), EReal.coe_zero, add_zero]

section

variable {i : grid0.Coords} {H : Head} {I : Inp 2048} {qT dT : FVec Ideal (T 64 2048) .bf16} {K V : ℕ → FVec Ideal (T 128 64) .bf16}
  (hI : InpAt H (2048 * (i 1).val) I) (hq : ∀ d r, qT (ix2 d r) = ((H.q (2048 * (i 1).val + r.val) d.val : ℝ) : EReal)) (hd : ∀ d r, dT (ix2 d r) = ((H.ct (2048 * (i 1).val + r.val) d.val : ℝ) : EReal))
  (hK : ∀ j c d, j < 16 → K j (ix2 c d) = ((H.k (2048 * (i 1).val + 128 * j + c.val) d.val : ℝ) : EReal)) (hV : ∀ j c d, j < 16 → V j (ix2 c d) = ((H.v (2048 * (i 1).val + 128 * j + c.val) d.val : ℝ) : EReal))
  {n : ℕ → St 2048} (hn : ∀ j < 14, n (j + 1) = dSt I K V (n j) j) (h0 : StAt H (2048 * (i 1).val) (2048 * (i 1).val) (n 0))

/-- The states the diagonal's tiles begin from. -/
abbrev ends (I : Inp 2048) (K V : ℕ → FVec Ideal (T 128 64) .bf16) (n : ℕ → St 2048) (j : ℕ) : St 2048 := if j < 15 then n j else dSt I K V (n 14) 14

include hI hK hV hn h0

theorem ends_at (j : ℕ) (hj : j ≤ 15) : StAt H (2048 * (i 1).val) (2048 * (i 1).val + 128 * j) (ends I K V n j) := by
  refine diag_at H _ I hI K V hK hV (ends I K V n) h0 (fun j hj => ?_) j hj
  by_cases h : j < 14
  · simp only [ends, if_pos (show j < 15 by omega), if_pos (show j + 1 < 15 by omega)]
    exact hn j h
  · obtain rfl : j = 14 := by omega
    rfl

theorem last_at16 : StAt H (2048 * (i 1).val) (2048 * (i 1).val + 2048) (dSt I K V (dSt I K V (n 14) 14) 15) :=
  (dSt_at H _ I (fun _ => 0) K V _ hI hK hV (fun _ _ => 0) 15 (by omega) (ends_at hI hK hV hn h0 15 (le_refl _))).1

include hq in
theorem keys_at (arg : Memref sig .tc .vmem S1x32x64x128 .f32) (G : BufTy.Contents (Elt Ideal) arg.view.ty) (L : ℕ → List (View.Piece (Elt Ideal) S1x32x64x128 .f32))
    (hL : ∀ j < 15, L (j + 1) = dP i arg (arg.view.writes (Elt Ideal) G (L j)) j (gkD I qT K V (n j) j) :: L j) (c0 : Fin 32 → Fin 64 → Fin 128 → EReal)
    (hb : ∀ b d e, arg.view.read (Elt Ideal) (arg.view.writes (Elt Ideal) G (L 0)) (ix4 0 b d e) = if b.val < 16 * (i 1).val then c0 b d e + ((partK H (2048 * (i 1).val) b.val d.val e.val : ℝ) : EReal) else c0 b d e)
    (b : Fin 32) (d : Fin 64) (e : Fin 128) :
    arg.view.read (Elt Ideal) (arg.view.writes (Elt Ideal) G (dP i arg (arg.view.writes (Elt Ideal) G (L 15)) 15 (gkD I qT K V (dSt I K V (n 14) 14) 15) :: L 15)) (ix4 0 b d e)
      = c0 b d e + ((partK H (2048 * (i 1).val) b.val d.val e.val : ℝ) : EReal) := by
  refine diag_read i arg G (partK H (2048 * (i 1).val)) (fun b d e h => partK_zero H _ b d e h) (fun j => gkD I qT K V (ends I K V n j) j) (fun j hj d c => ?_) L
    (fun j hj => (hL j hj).trans (by simp only [ends, if_pos hj])) c0 hb b d e
  refine (((dSt_at H _ I qT K V _ hI hK hV H.q j hj (ends_at hI hK hV hn h0 j (by omega))).2 hq d c).1).trans ?_
  unfold partK
  rw [show 128 * (16 * (i 1).val + j) = 2048 * (i 1).val + 128 * j by omega]

include hd in
theorem vals_at (arg : Memref sig .tc .vmem S1x32x64x128 .f32) (G : BufTy.Contents (Elt Ideal) arg.view.ty) (L : ℕ → List (View.Piece (Elt Ideal) S1x32x64x128 .f32))
    (hL : ∀ j < 15, L (j + 1) = dP i arg (arg.view.writes (Elt Ideal) G (L j)) j (gvD I dT K (n j) j) :: L j) (c0 : Fin 32 → Fin 64 → Fin 128 → EReal)
    (hb : ∀ b d e, arg.view.read (Elt Ideal) (arg.view.writes (Elt Ideal) G (L 0)) (ix4 0 b d e) = if b.val < 16 * (i 1).val then c0 b d e + ((partV H (2048 * (i 1).val) b.val d.val e.val : ℝ) : EReal) else c0 b d e)
    (b : Fin 32) (d : Fin 64) (e : Fin 128) :
    arg.view.read (Elt Ideal) (arg.view.writes (Elt Ideal) G (dP i arg (arg.view.writes (Elt Ideal) G (L 15)) 15 (gvD I dT K (dSt I K V (n 14) 14) 15) :: L 15)) (ix4 0 b d e)
      = c0 b d e + ((partV H (2048 * (i 1).val) b.val d.val e.val : ℝ) : EReal) := by
  refine diag_read i arg G (partV H (2048 * (i 1).val)) (fun b d e h => partV_zero H _ b d e h) (fun j => gvD I dT K (ends I K V n j) j) (fun j hj d c => ?_) L
    (fun j hj => (hL j hj).trans (by simp only [ends, if_pos hj])) c0 hb b d e
  refine (((dSt_at H _ I dT K V _ hI hK hV H.ct j hj (ends_at hI hK hV hn h0 j (by omega))).2 hd d c).2).trans ?_
  unfold partV
  rw [show 128 * (16 * (i 1).val + j) = 2048 * (i 1).val + 128 * j by omega]

end

theorem outQ_read (v : View sig .tc .vmem S1x2048x64 .f32) (f : v.ty.Contents (Elt Ideal)) (s : St 2048) (r : Fin 2048) (d : Fin 64) :
    v.read (Elt Ideal) (v.writes (Elt Ideal) f (outQ s)) (ix3 0 r d) = (s.dq (ix2 r d) : EReal) * Ideal.ofBits .f32 0x3E000000#32 := by
  refine (View.read_writes_cons_unit_of_mem v f _ _ [] (ix3 0 r d) (ix3 0 r d) rfl fun a => ?_).trans ?_
  · match a with
    | 0 => rfl
    | 1 => exact (Nat.zero_add _).symm
    | 2 => exact (Nat.zero_add _).symm
  · pointwise

section

variable (i : grid0.Coords) (c : Dev nD) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole) (arg6 : Memref sig .tc .vmem S1x2048x64 .bf16) (harg6 : arg6.IsWhole) (arg7 : Memref sig .tc .vmem S1x2048x64 .f32) (harg7 : arg7.IsWhole) (arg8 : Memref sig .tc .vmem S1x32x64x128 .f32) (harg8 : arg8.IsWhole) (arg9 : Memref sig .tc .vmem S1x32x64x128 .f32) (harg9 : arg9.IsWhole)
  (x0 : Vec Ideal S1x2048x64 .bf16) (x1 : Vec Ideal S1x4096x64 .bf16) (x2 : Vec Ideal S1x4096x64 .bf16) (x3 : Vec Ideal S1x2048x128 .f32) (x4 : Vec Ideal S1x2048x64 .bf16) (H : Head) (h : PtAt H (2048 * (i 1).val) x0 x1 x2 x3 x4)

theorem get2 : View.readAt (Elt Ideal) arg2.view (Rect.unit ![0, 0, 0] S1x2048x64.size inb_S1x2048x64_S1x2048x64_0_0_0).toLoadRect (harg2.unread x0) = x0 := by
  rw [View.readAt_eq_ld, Memref.IsWhole.read_unread]
  exact View.ld_unit_zero (by funext a; match a with | 0 => rfl | 1 => rfl | 2 => rfl) _ _

theorem get5 : View.readAt (Elt Ideal) arg5.view (Rect.unit ![0, 0, 0] S1x2048x128.size inb_S1x2048x128_S1x2048x128_0_0_0).toLoadRect (harg5.unread x3) = x3 := by
  rw [View.readAt_eq_ld, Memref.IsWhole.read_unread]
  exact View.ld_unit_zero (by funext a; match a with | 0 => rfl | 1 => rfl | 2 => rfl) _ _

include h

theorem get3 (r : Fin 4096) (d : Fin 64) : arg3.view.read (Elt Ideal) (harg3.unread x1) (ix3 0 r d) = ((H.k r.val d.val : ℝ) : EReal) := by
  rw [Memref.IsWhole.read_unread]; exact h.k r d

theorem get4 (r : Fin 4096) (d : Fin 64) : arg4.view.read (Elt Ideal) (harg4.unread x2) (ix3 0 r d) = ((H.v r.val d.val : ℝ) : EReal) := by
  rw [Memref.IsWhole.read_unread]; exact h.v r d

theorem lp1_at (G8 : BufTy.Contents (Elt Ideal) arg8.view.ty) (G9 : BufTy.Contents (Elt Ideal) arg9.view.ty) :
    StAt H (2048 * (i 1).val) (2048 * (i 1).val) (⟨(lp1 i c arg2 harg2 arg3 harg3 arg4 harg4 arg5 harg5 arg6 harg6 arg7 harg7 arg8 harg8 arg9 harg9 x0 x1 x2 x3 x4 G8 G9).1.1, (lp1 i c arg2 harg2 arg3 harg3 arg4 harg4 arg5 harg5 arg6 harg6 arg7 harg7 arg8 harg8 arg9 harg9 x0 x1 x2 x3 x4 G8 G9).1.2.1, (lp1 i c arg2 harg2 arg3 harg3 arg4 harg4 arg5 harg5 arg6 harg6 arg7 harg7 arg8 harg8 arg9 harg9 x0 x1 x2 x3 x4 G8 G9).1.2.2⟩ : St 2048)
    ∧ (∀ (b : Fin 32) (d : Fin 64) (e : Fin 128), arg8.view.read (Elt Ideal) (arg8.view.writes (Elt Ideal) G8 (lp1 i c arg2 harg2 arg3 harg3 arg4 harg4 arg5 harg5 arg6 harg6 arg7 harg7 arg8 harg8 arg9 harg9 x0 x1 x2 x3 x4 G8 G9).2.1) (ix4 0 b d e)
        = if b.val < 16 * (i 1).val then (arg8.view.read (Elt Ideal) G8 (ix4 0 b d e) : EReal) + ((partK H (2048 * (i 1).val) b.val d.val e.val : ℝ) : EReal) else arg8.view.read (Elt Ideal) G8 (ix4 0 b d e))
    ∧ (∀ (b : Fin 32) (d : Fin 64) (e : Fin 128), arg9.view.read (Elt Ideal) (arg9.view.writes (Elt Ideal) G9 (lp1 i c arg2 harg2 arg3 harg3 arg4 harg4 arg5 harg5 arg6 harg6 arg7 harg7 arg8 harg8 arg9 harg9 x0 x1 x2 x3 x4 G8 G9).2.2) (ix4 0 b d e)
        = if b.val < 16 * (i 1).val then (arg9.view.read (Elt Ideal) G9 (ix4 0 b d e) : EReal) + ((partV H (2048 * (i 1).val) b.val d.val e.val : ℝ) : EReal) else arg9.view.read (Elt Ideal) G9 (ix4 0 b d e)) := by
  have key := loop_at Variants.none c none i arg2 harg2 arg3 harg3 arg4 harg4 arg5 harg5 arg6 harg6 arg7 harg7 arg8 harg8 arg9 harg9 (BitVec.ofNat 32 ↑(i 1)) _ _ _ _ _ _ _ k0_pay275 k0_pay276 k0_pay277 (harg3.unread x1) (harg4.unread x2) G8 G9 (k0_pay275, k0_pay276, k0_pay277) H
    (inp_at h (get2 arg2 harg2 x0) (get5 arg5 harg5 x3) (get2 arg6 harg6 x4)) (get3 i arg3 harg3 x0 x1 x2 x3 x4 H h) (get4 i arg4 harg4 x0 x1 x2 x3 x4 H h)
    (qT_at h (get2 arg2 harg2 x0)) (dT_at h (get2 arg6 harg6 x4)) (init_at H _) (2 * (i 1).val) (le_refl _)
  unfold lp1
  rw [trips1]
  rw [show 1024 * (2 * (i 1).val) = 2048 * (i 1).val by omega, show 8 * (2 * (i 1).val) = 16 * (i 1).val by omega] at key
  exact key

omit h in
theorem lp2_eq (G8 : BufTy.Contents (Elt Ideal) arg8.view.ty) (G9 : BufTy.Contents (Elt Ideal) arg9.view.ty) (acc : FVec Ideal S2048x64 .f32 × FVec Ideal S2048x1 .f32 × FVec Ideal S2048x1 .f32) :
    lp2 i c arg2 harg2 arg3 harg3 arg4 harg4 arg5 harg5 arg6 harg6 arg7 harg7 arg8 harg8 arg9 harg9 x0 x1 x2 x3 x4 G8 G9 acc = (acc, [], []) := by
  unfold lp2
  rw [trips2]
  rfl

end

end Cert.AttnBwdIdeal.Value

end
-- ==== Proof.AttnRunA.lean ====
module

public import proofs.«01_k».proof.Proof.AttnRun

@[expose] public section

set_option maxRecDepth 16384

noncomputable section

/-! The body's run where the point is the first of its head, tile by tile, in the terms of `AttnRun`. -/

namespace Cert.AttnBwdIdeal.Value

open Cert.AttnBwdIdeal Cert.AttnBwdIdeal.Gen Cert.AttnTile Idealize.ShloMosaic Idealize.ShloMosaic.TcCoe Idealize.SL.Sem

attribute [local irreducible] st_k0_t1 st_k0_t2

section

variable (i : grid0.Coords) (c : Dev nD) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole) (arg6 : Memref sig .tc .vmem S1x2048x64 .bf16) (harg6 : arg6.IsWhole) (arg7 : Memref sig .tc .vmem S1x2048x64 .f32) (harg7 : arg7.IsWhole) (arg8 : Memref sig .tc .vmem S1x32x64x128 .f32) (harg8 : arg8.IsWhole) (arg9 : Memref sig .tc .vmem S1x32x64x128 .f32) (harg9 : arg9.IsWhole)
  (x0 : Vec Ideal S1x2048x64 .bf16) (x1 : Vec Ideal S1x4096x64 .bf16) (x2 : Vec Ideal S1x4096x64 .bf16) (x3 : Vec Ideal S1x2048x128 .f32) (x4 : Vec Ideal S1x2048x64 .bf16)

/-- The run's state after the diagonal's first `j` tiles, and its lists of stores. -/
def n_A : ℕ → St 2048
  | 0 => ⟨kernelRun0_A.sl.r_5 c i arg2 harg2 arg3 harg3 arg4 harg4 arg5 harg5 arg6 harg6 arg7 harg7 arg8 harg8 arg9 harg9 x0 x1 x2 x3 x4, kernelRun0_A.sl.r_6 c i arg2 harg2 arg3 harg3 arg4 harg4 arg5 harg5 arg6 harg6 arg7 harg7 arg8 harg8 arg9 harg9 x0 x1 x2 x3 x4, kernelRun0_A.sl.r_7 c i arg2 harg2 arg3 harg3 arg4 harg4 arg5 harg5 arg6 harg6 arg7 harg7 arg8 harg8 arg9 harg9 x0 x1 x2 x3 x4⟩
  | 1 => ⟨kernelRun0_A.sl.r_15 c i arg2 harg2 arg3 harg3 arg4 harg4 arg5 harg5 arg6 harg6 arg7 harg7 arg8 harg8 arg9 harg9 x0 x1 x2 x3 x4, kernelRun0_A.sl.r_17 c i arg2 harg2 arg3 harg3 arg4 harg4 arg5 harg5 arg6 harg6 arg7 harg7 arg8 harg8 arg9 harg9 x0 x1 x2 x3 x4, kernelRun0_A.sl.r_18 c i arg2 harg2 arg3 harg3 arg4 harg4 arg5 harg5 arg6 harg6 arg7 harg7 arg8 harg8 arg9 harg9 x0 x1 x2 x3 x4⟩
  | 2 => ⟨kernelRun0_A.sl.r_34 c i arg2 harg2 arg3 harg3 arg4 harg4 arg5 harg5 arg6 harg6 arg7 harg7 arg8 harg8 arg9 harg9 x0 x1 x2 x3 x4, kernelRun0_A.sl.r_35 c i arg2 harg2 arg3 harg3 arg4 harg4 arg5 harg5 arg6 harg6 arg7 harg7 arg8 harg8 arg9 harg9 x0 x1 x2 x3 x4, kernelRun0_A.sl.r_36 c i arg2 harg2 arg3 harg3 arg4 harg4 arg5 harg5 arg6 harg6 arg7 harg7 arg8 harg8 arg9 harg9 x0 x1 x2 x3 x4⟩
  | 3 => ⟨kernelRun0_A.sl.r_52 c i arg2 harg2 arg3 harg3 arg4 harg4 arg5 harg5 arg6 harg6 arg7 harg7 arg8 harg8 arg9 harg9 x0 x1 x2 x3 x4, kernelRun0_A.sl.r_53 c i arg2 harg2 arg3 harg3 arg4 harg4 arg5 harg5 arg6 harg6 arg7 harg7 arg8 harg8 arg9 harg9 x0 x1 x2 x3 x4, kernelRun0_A.sl.r_54 c i arg2 harg2 arg3 harg3 arg4 harg4 arg5 harg5 arg6 harg6 arg7 harg7 arg8 harg8 arg9 harg9 x0 x1 x2 x3 x4⟩
  | 4 => ⟨kernelRun0_A.sl.r_71 c i arg2 harg2 arg3 harg3 arg4 harg4 arg5 harg5 arg6 harg6 arg7 harg7 arg8 harg8 arg9 harg9 x0 x1 x2 x3 x4, kernelRun0_A.sl.r_72 c i arg2 harg2 arg3 harg3 arg4 harg4 arg5 harg5 arg6 harg6 arg7 harg7 arg8 harg8 arg9 harg9 x0 x1 x2 x3 x4, kernelRun0_A.sl.r_73 c i arg2 harg2 arg3 harg3 arg4 harg4 arg5 harg5 arg6 harg6 arg7 harg7 arg8 harg8 arg9 harg9 x0 x1 x2 x3 x4⟩
  | 5 => ⟨kernelRun0_A.sl.r_87 c i arg2 harg2 arg3 harg3 arg4 harg4 arg5 harg5 arg6 harg6 arg7 harg7 arg8 harg8 arg9 harg9 x0 x1 x2 x3 x4, kernelRun0_A.sl.r_88 c i arg2 harg2 arg3 harg3 arg4 harg4 arg5 harg5 arg6 harg6 arg7 harg7 arg8 harg8 arg9 harg9 x0 x1 x2 x3 x4, kernelRun0_A.sl.r_89 c i arg2 harg2 arg3 harg3 arg4 harg4 arg5 harg5 arg6 harg6 arg7 harg7 arg8 harg8 arg9 harg9 x0 x1 x2 x3 x4⟩
  | 6 => ⟨kernelRun0_A.sl.r_103 c i arg2 harg2 arg3 harg3 arg4 harg4 arg5 harg5 arg6 harg6 arg7 harg7 arg8 harg8 arg9 harg9 x0 x1 x2 x3 x4, kernelRun0_A.sl.r_104 c i arg2 harg2 arg3 harg3 arg4 harg4 arg5 harg5 arg6 harg6 arg7 harg7 arg8 harg8 arg9 harg9 x0 x1 x2 x3 x4, kernelRun0_A.sl.r_105 c i arg2 harg2 arg3 harg3 arg4 harg4 arg5 harg5 arg6 harg6 arg7 harg7 arg8 harg8 arg9 harg9 x0 x1 x2 x3 x4⟩
  | 7 => ⟨kernelRun0_A.sl.r_119 c i arg2 harg2 arg3 harg3 arg4 harg4 arg5 harg5 arg6 harg6 arg7 harg7 arg8 harg8 arg9 harg9 x0 x1 x2 x3 x4, kernelRun0_A.sl.r_120 c i arg2 harg2 arg3 harg3 arg4 harg4 arg5 harg5 arg6 harg6 arg7 harg7 arg8 harg8 arg9 harg9 x0 x1 x2 x3 x4, kernelRun0_A.sl.r_121 c i arg2 harg2 arg3 harg3 arg4 harg4 arg5 harg5 arg6 harg6 arg7 harg7 arg8 harg8 arg9 harg9 x0 x1 x2 x3 x4⟩
  | 8 => ⟨kernelRun0_A.sl.r_136 c i arg2 harg2 arg3 harg3 arg4 harg4 arg5 harg5 arg6 harg6 arg7 harg7 arg8 harg8 arg9 harg9 x0 x1 x2 x3 x4, kernelRun0_A.sl.r_137 c i arg2 harg2 arg3 harg3 arg4 harg4 arg5 harg5 arg6 harg6 arg7 harg7 arg8 harg8 arg9 harg9 x0 x1 x2 x3 x4, kernelRun0_A.sl.r_138 c i arg2 harg2 arg3 harg3 arg4 harg4 arg5 harg5 arg6 harg6 arg7 harg7 arg8 harg8 arg9 harg9 x0 x1 x2 x3 x4⟩
  | 9 => ⟨kernelRun0_A.sl.r_155 c i arg2 harg2 arg3 harg3 arg4 harg4 arg5 harg5 arg6 harg6 arg7 harg7 arg8 harg8 arg9 harg9 x0 x1 x2 x3 x4, kernelRun0_A.sl.r_156 c i arg2 harg2 arg3 harg3 arg4 harg4 arg5 harg5 arg6 harg6 arg7 harg7 arg8 harg8 arg9 harg9 x0 x1 x2 x3 x4, kernelRun0_A.sl.r_157 c i arg2 harg2 arg3 harg3 arg4 harg4 arg5 harg5 arg6 harg6 arg7 harg7 arg8 harg8 arg9 harg9 x0 x1 x2 x3 x4⟩
  | 10 => ⟨kernelRun0_A.sl.r_172 c i arg2 harg2 arg3 harg3 arg4 harg4 arg5 harg5 arg6 harg6 arg7 harg7 arg8 harg8 arg9 harg9 x0 x1 x2 x3 x4, kernelRun0_A.sl.r_173 c i arg2 harg2 arg3 harg3 arg4 harg4 arg5 harg5 arg6 harg6 arg7 harg7 arg8 harg8 arg9 harg9 x0 x1 x2 x3 x4, kernelRun0_A.sl.r_174 c i arg2 harg2 arg3 harg3 arg4 harg4 arg5 harg5 arg6 harg6 arg7 harg7 arg8 harg8 arg9 harg9 x0 x1 x2 x3 x4⟩
  | 11 => ⟨kernelRun0_A.sl.r_188 c i arg2 harg2 arg3 harg3 arg4 harg4 arg5 harg5 arg6 harg6 arg7 harg7 arg8 harg8 arg9 harg9 x0 x1 x2 x3 x4, kernelRun0_A.sl.r_189 c i arg2 harg2 arg3 harg3 arg4 harg4 arg5 harg5 arg6 harg6 arg7 harg7 arg8 harg8 arg9 harg9 x0 x1 x2 x3 x4, kernelRun0_A.sl.r_190 c i arg2 harg2 arg3 harg3 arg4 harg4 arg5 harg5 arg6 harg6 arg7 harg7 arg8 harg8 arg9 harg9 x0 x1 x2 x3 x4⟩
  | 12 => ⟨kernelRun0_A.sl.r_204 c i arg2 harg2 arg3 harg3 arg4 harg4 arg5 harg5 arg6 harg6 arg7 harg7 arg8 harg8 arg9 harg9 x0 x1 x2 x3 x4, kernelRun0_A.sl.r_205 c i arg2 harg2 arg3 harg3 arg4 harg4 arg5 harg5 arg6 harg6 arg7 harg7 arg8 harg8 arg9 harg9 x0 x1 x2 x3 x4, kernelRun0_A.sl.r_206 c i arg2 harg2 arg3 harg3 arg4 harg4 arg5 harg5 arg6 harg6 arg7 harg7 arg8 harg8 arg9 harg9 x0 x1 x2 x3 x4⟩
  | 13 => ⟨kernelRun0_A.sl.r_224 c i arg2 harg2 arg3 harg3 arg4 harg4 arg5 harg5 arg6 harg6 arg7 harg7 arg8 harg8 arg9 harg9 x0 x1 x2 x3 x4, kernelRun0_A.sl.r_225 c i arg2 harg2 arg3 harg3 arg4 harg4 arg5 harg5 arg6 harg6 arg7 harg7 arg8 harg8 arg9 harg9 x0 x1 x2 x3 x4, kernelRun0_A.sl.r_226 c i arg2 harg2 arg3 harg3 arg4 harg4 arg5 harg5 arg6 harg6 arg7 harg7 arg8 harg8 arg9 harg9 x0 x1 x2 x3 x4⟩
  | 14 => ⟨kernelRun0_A.sl.r_242 c i arg2 harg2 arg3 harg3 arg4 harg4 arg5 harg5 arg6 harg6 arg7 harg7 arg8 harg8 arg9 harg9 x0 x1 x2 x3 x4, kernelRun0_A.sl.r_243 c i arg2 harg2 arg3 harg3 arg4 harg4 arg5 harg5 arg6 harg6 arg7 harg7 arg8 harg8 arg9 harg9 x0 x1 x2 x3 x4, kernelRun0_A.sl.r_244 c i arg2 harg2 arg3 harg3 arg4 harg4 arg5 harg5 arg6 harg6 arg7 harg7 arg8 harg8 arg9 harg9 x0 x1 x2 x3 x4⟩
  | _ => ⟨kernelRun0_A.sl.r_242 c i arg2 harg2 arg3 harg3 arg4 harg4 arg5 harg5 arg6 harg6 arg7 harg7 arg8 harg8 arg9 harg9 x0 x1 x2 x3 x4, kernelRun0_A.sl.r_243 c i arg2 harg2 arg3 harg3 arg4 harg4 arg5 harg5 arg6 harg6 arg7 harg7 arg8 harg8 arg9 harg9 x0 x1 x2 x3 x4, kernelRun0_A.sl.r_244 c i arg2 harg2 arg3 harg3 arg4 harg4 arg5 harg5 arg6 harg6 arg7 harg7 arg8 harg8 arg9 harg9 x0 x1 x2 x3 x4⟩

def h8_A : ℕ → List (View.Piece (Elt Ideal) S1x32x64x128 .f32)
  | 0 => b8_A i c arg2 harg2 arg3 harg3 arg4 harg4 arg5 harg5 arg6 harg6 arg7 harg7 arg8 harg8 arg9 harg9 x0 x1 x2 x3 x4
  | 1 => kernelRun0_A.sl.H6_1_1 c i arg2 harg2 arg3 harg3 arg4 harg4 arg5 harg5 arg6 harg6 arg7 harg7 arg8 harg8 arg9 harg9 x0 x1 x2 x3 x4
  | 2 => kernelRun0_A.sl.H6_2 c i arg2 harg2 arg3 harg3 arg4 harg4 arg5 harg5 arg6 harg6 arg7 harg7 arg8 harg8 arg9 harg9 x0 x1 x2 x3 x4
  | 3 => kernelRun0_A.sl.H6_3 c i arg2 harg2 arg3 harg3 arg4 harg4 arg5 harg5 arg6 harg6 arg7 harg7 arg8 harg8 arg9 harg9 x0 x1 x2 x3 x4
  | 4 => kernelRun0_A.sl.H6_4 c i arg2 harg2 arg3 harg3 arg4 harg4 arg5 harg5 arg6 harg6 arg7 harg7 arg8 harg8 arg9 harg9 x0 x1 x2 x3 x4
  | 5 => kernelRun0_A.sl.H6_5 c i arg2 harg2 arg3 harg3 arg4 harg4 arg5 harg5 arg6 harg6 arg7 harg7 arg8 harg8 arg9 harg9 x0 x1 x2 x3 x4
  | 6 => kernelRun0_A.sl.H6_6 c i arg2 harg2 arg3 harg3 arg4 harg4 arg5 harg5 arg6 harg6 arg7 harg7 arg8 harg8 arg9 harg9 x0 x1 x2 x3 x4
  | 7 => kernelRun0_A.sl.H6_7 c i arg2 harg2 arg3 harg3 arg4 harg4 arg5 harg5 arg6 harg6 arg7 harg7 arg8 harg8 arg9 harg9 x0 x1 x2 x3 x4
  | 8 => kernelRun0_A.sl.H6_8 c i arg2 harg2 arg3 harg3 arg4 harg4 arg5 harg5 arg6 harg6 arg7 harg7 arg8 harg8 arg9 harg9 x0 x1 x2 x3 x4
  | 9 => kernelRun0_A.sl.H6_9 c i arg2 harg2 arg3 harg3 arg4 harg4 arg5 harg5 arg6 harg6 arg7 harg7 arg8 harg8 arg9 harg9 x0 x1 x2 x3 x4
  | 10 => kernelRun0_A.sl.H6_10 c i arg2 harg2 arg3 harg3 arg4 harg4 arg5 harg5 arg6 harg6 arg7 harg7 arg8 harg8 arg9 harg9 x0 x1 x2 x3 x4
  | 11 => kernelRun0_A.sl.H6_11 c i arg2 harg2 arg3 harg3 arg4 harg4 arg5 harg5 arg6 harg6 arg7 harg7 arg8 harg8 arg9 harg9 x0 x1 x2 x3 x4
  | 12 => kernelRun0_A.sl.H6_12 c i arg2 harg2 arg3 harg3 arg4 harg4 arg5 harg5 arg6 harg6 arg7 harg7 arg8 harg8 arg9 harg9 x0 x1 x2 x3 x4
  | 13 => kernelRun0_A.sl.H6_13 c i arg2 harg2 arg3 harg3 arg4 harg4 arg5 harg5 arg6 harg6 arg7 harg7 arg8 harg8 arg9 harg9 x0 x1 x2 x3 x4
  | 14 => kernelRun0_A.sl.H6_14 c i arg2 harg2 arg3 harg3 arg4 harg4 arg5 harg5 arg6 harg6 arg7 harg7 arg8 harg8 arg9 harg9 x0 x1 x2 x3 x4
  | _ => kernelRun0_A.sl.H6_15 c i arg2 harg2 arg3 harg3 arg4 harg4 arg5 harg5 arg6 harg6 arg7 harg7 arg8 harg8 arg9 harg9 x0 x1 x2 x3 x4

def h9_A : ℕ → List (View.Piece (Elt Ideal) S1x32x64x128 .f32)
  | 0 => b9_A i c arg2 harg2 arg3 harg3 arg4 harg4 arg5 harg5 arg6 harg6 arg7 harg7 arg8 harg8 arg9 harg9 x0 x1 x2 x3 x4
  | 1 => kernelRun0_A.sl.H7_1_1 c i arg2 harg2 arg3 harg3 arg4 harg4 arg5 harg5 arg6 harg6 arg7 harg7 arg8 harg8 arg9 harg9 x0 x1 x2 x3 x4
  | 2 => kernelRun0_A.sl.H7_2 c i arg2 harg2 arg3 harg3 arg4 harg4 arg5 harg5 arg6 harg6 arg7 harg7 arg8 harg8 arg9 harg9 x0 x1 x2 x3 x4
  | 3 => kernelRun0_A.sl.H7_3 c i arg2 harg2 arg3 harg3 arg4 harg4 arg5 harg5 arg6 harg6 arg7 harg7 arg8 harg8 arg9 harg9 x0 x1 x2 x3 x4
  | 4 => kernelRun0_A.sl.H7_4 c i arg2 harg2 arg3 harg3 arg4 harg4 arg5 harg5 arg6 harg6 arg7 harg7 arg8 harg8 arg9 harg9 x0 x1 x2 x3 x4
  | 5 => kernelRun0_A.sl.H7_5 c i arg2 harg2 arg3 harg3 arg4 harg4 arg5 harg5 arg6 harg6 arg7 harg7 arg8 harg8 arg9 harg9 x0 x1 x2 x3 x4
  | 6 => kernelRun0_A.sl.H7_6 c i arg2 harg2 arg3 harg3 arg4 harg4 arg5 harg5 arg6 harg6 arg7 harg7 arg8 harg8 arg9 harg9 x0 x1 x2 x3 x4
  | 7 => kernelRun0_A.sl.H7_7 c i arg2 harg2 arg3 harg3 arg4 harg4 arg5 harg5 arg6 harg6 arg7 harg7 arg8 harg8 arg9 harg9 x0 x1 x2 x3 x4
  | 8 => kernelRun0_A.sl.H7_8 c i arg2 harg2 arg3 harg3 arg4 harg4 arg5 harg5 arg6 harg6 arg7 harg7 arg8 harg8 arg9 harg9 x0 x1 x2 x3 x4
  | 9 => kernelRun0_A.sl.H7_9 c i arg2 harg2 arg3 harg3 arg4 harg4 arg5 harg5 arg6 harg6 arg7 harg7 arg8 harg8 arg9 harg9 x0 x1 x2 x3 x4
  | 10 => kernelRun0_A.sl.H7_10 c i arg2 harg2 arg3 harg3 arg4 harg4 arg5 harg5 arg6 harg6 arg7 harg7 arg8 harg8 arg9 harg9 x0 x1 x2 x3 x4
  | 11 => kernelRun0_A.sl.H7_11 c i arg2 harg2 arg3 harg3 arg4 harg4 arg5 harg5 arg6 harg6 arg7 harg7 arg8 harg8 arg9 harg9 x0 x1 x2 x3 x4
  | 12 => kernelRun0_A.sl.H7_12 c i arg2 harg2 arg3 harg3 arg4 harg4 arg5 harg5 arg6 harg6 arg7 harg7 arg8 harg8 arg9 harg9 x0 x1 x2 x3 x4
  | 13 => kernelRun0_A.sl.H7_13 c i arg2 harg2 arg3 harg3 arg4 harg4 arg5 harg5 arg6 harg6 arg7 harg7 arg8 harg8 arg9 harg9 x0 x1 x2 x3 x4
  | 14 => kernelRun0_A.sl.H7_14 c i arg2 harg2 arg3 harg3 arg4 harg4 arg5 harg5 arg6 harg6 arg7 harg7 arg8 harg8 arg9 harg9 x0 x1 x2 x3 x4
  | _ => kernelRun0_A.sl.H7_15 c i arg2 harg2 arg3 harg3 arg4 harg4 arg5 harg5 arg6 harg6 arg7 harg7 arg8 harg8 arg9 harg9 x0 x1 x2 x3 x4

theorem n_A_zero : n_A i c arg2 harg2 arg3 harg3 arg4 harg4 arg5 harg5 arg6 harg6 arg7 harg7 arg8 harg8 arg9 harg9 x0 x1 x2 x3 x4 0 = s_A i c arg2 harg2 arg3 harg3 arg4 harg4 arg5 harg5 arg6 harg6 arg7 harg7 arg8 harg8 arg9 harg9 x0 x1 x2 x3 x4 := rfl

set_option maxHeartbeats 20000000 in
theorem n_A_step : ∀ j < 14, n_A i c arg2 harg2 arg3 harg3 arg4 harg4 arg5 harg5 arg6 harg6 arg7 harg7 arg8 harg8 arg9 harg9 x0 x1 x2 x3 x4 (j + 1) = dSt (I0 arg2 harg2 arg5 harg5 arg6 harg6 x0 x3 x4) (kD i arg3 (harg3.unread x1)) (kD i arg4 (harg4.unread x2)) (n_A i c arg2 harg2 arg3 harg3 arg4 harg4 arg5 harg5 arg6 harg6 arg7 harg7 arg8 harg8 arg9 harg9 x0 x1 x2 x3 x4 j) j
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl

set_option maxHeartbeats 20000000 in
theorem h8_A_step : ∀ j < 15, h8_A i c arg2 harg2 arg3 harg3 arg4 harg4 arg5 harg5 arg6 harg6 arg7 harg7 arg8 harg8 arg9 harg9 x0 x1 x2 x3 x4 (j + 1) =
    dP i arg8 (arg8.view.writes (Elt Ideal) arg8.view.junk (h8_A i c arg2 harg2 arg3 harg3 arg4 harg4 arg5 harg5 arg6 harg6 arg7 harg7 arg8 harg8 arg9 harg9 x0 x1 x2 x3 x4 j)) j (gkD (I0 arg2 harg2 arg5 harg5 arg6 harg6 x0 x3 x4) (qT0 arg2 harg2 x0) (kD i arg3 (harg3.unread x1)) (kD i arg4 (harg4.unread x2)) (n_A i c arg2 harg2 arg3 harg3 arg4 harg4 arg5 harg5 arg6 harg6 arg7 harg7 arg8 harg8 arg9 harg9 x0 x1 x2 x3 x4 j) j) :: h8_A i c arg2 harg2 arg3 harg3 arg4 harg4 arg5 harg5 arg6 harg6 arg7 harg7 arg8 harg8 arg9 harg9 x0 x1 x2 x3 x4 j
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl

set_option maxHeartbeats 20000000 in
theorem h9_A_step : ∀ j < 15, h9_A i c arg2 harg2 arg3 harg3 arg4 harg4 arg5 harg5 arg6 harg6 arg7 harg7 arg8 harg8 arg9 harg9 x0 x1 x2 x3 x4 (j + 1) =
    dP i arg9 (arg9.view.writes (Elt Ideal) arg9.view.junk (h9_A i c arg2 harg2 arg3 harg3 arg4 harg4 arg5 harg5 arg6 harg6 arg7 harg7 arg8 harg8 arg9 harg9 x0 x1 x2 x3 x4 j)) j (gvD (I0 arg2 harg2 arg5 harg5 arg6 harg6 x0 x3 x4) (dT0 arg6 harg6 x4) (kD i arg3 (harg3.unread x1)) (n_A i c arg2 harg2 arg3 harg3 arg4 harg4 arg5 harg5 arg6 harg6 arg7 harg7 arg8 harg8 arg9 harg9 x0 x1 x2 x3 x4 j) j) :: h9_A i c arg2 harg2 arg3 harg3 arg4 harg4 arg5 harg5 arg6 harg6 arg7 harg7 arg8 harg8 arg9 harg9 x0 x1 x2 x3 x4 j
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl

set_option maxHeartbeats 20000000 in
theorem q14_A : (dSt (I0 arg2 harg2 arg5 harg5 arg6 harg6 x0 x3 x4) (kD i arg3 (harg3.unread x1)) (kD i arg4 (harg4.unread x2)) (n_A i c arg2 harg2 arg3 harg3 arg4 harg4 arg5 harg5 arg6 harg6 arg7 harg7 arg8 harg8 arg9 harg9 x0 x1 x2 x3 x4 14) 14).dq = kernelRun0_A.sl.r_260 c i arg2 harg2 arg3 harg3 arg4 harg4 arg5 harg5 arg6 harg6 arg7 harg7 arg8 harg8 arg9 harg9 x0 x1 x2 x3 x4 := rfl

set_option maxHeartbeats 20000000 in
theorem l14_A : (dSt (I0 arg2 harg2 arg5 harg5 arg6 harg6 x0 x3 x4) (kD i arg3 (harg3.unread x1)) (kD i arg4 (harg4.unread x2)) (n_A i c arg2 harg2 arg3 harg3 arg4 harg4 arg5 harg5 arg6 harg6 arg7 harg7 arg8 harg8 arg9 harg9 x0 x1 x2 x3 x4 14) 14).low (cutD 15) = ⟨kernelRun0_A.sl.r_261 c i arg2 harg2 arg3 harg3 arg4 harg4 arg5 harg5 arg6 harg6 arg7 harg7 arg8 harg8 arg9 harg9 x0 x1 x2 x3 x4, kernelRun0_A.sl.r_262 c i arg2 harg2 arg3 harg3 arg4 harg4 arg5 harg5 arg6 harg6 arg7 harg7 arg8 harg8 arg9 harg9 x0 x1 x2 x3 x4, kernelRun0_A.sl.r_263 c i arg2 harg2 arg3 harg3 arg4 harg4 arg5 harg5 arg6 harg6 arg7 harg7 arg8 harg8 arg9 harg9 x0 x1 x2 x3 x4⟩ := rfl

set_option maxHeartbeats 20000000 in
theorem run_A5 (hc0 : cond0_0 i) : (kernelRun0_A (F := Ideal) c i arg2 harg2 arg3 harg3 arg4 harg4 arg5 harg5 arg6 harg6 arg7 harg7 arg8 harg8 arg9 harg9 hc0 x0 x1 x2 x3 x4).1 = outQ (dSt (I0 arg2 harg2 arg5 harg5 arg6 harg6 x0 x3 x4) (kD i arg3 (harg3.unread x1)) (kD i arg4 (harg4.unread x2)) (dSt (I0 arg2 harg2 arg5 harg5 arg6 harg6 x0 x3 x4) (kD i arg3 (harg3.unread x1)) (kD i arg4 (harg4.unread x2)) (n_A i c arg2 harg2 arg3 harg3 arg4 harg4 arg5 harg5 arg6 harg6 arg7 harg7 arg8 harg8 arg9 harg9 x0 x1 x2 x3 x4 14) 14) 15) := by
  have e : ∀ s : St 2048, (dSt (I0 arg2 harg2 arg5 harg5 arg6 harg6 x0 x3 x4) (kD i arg3 (harg3.unread x1)) (kD i arg4 (harg4.unread x2)) s 15).dq = concatenate (T 2048 64) 0 [⟨T (rowD 15) 64, extractStridedSlice (T (rowD 15) 64) ![0, 0] s.dq (cutD 15).hq⟩,
      ⟨T (numD 15) 64, (stepM (rowsD 15) ((I0 arg2 harg2 arg5 harg5 arg6 harg6 x0 x3 x4).low (cutD 15)) (kD i arg3 (harg3.unread x1) 15) (kD i arg4 (harg4.unread x2) 15) (s.low (cutD 15))).dq⟩] (cutD 15).cq := fun _ => rfl
  unfold outQ
  rw [e, q14_A, l14_A]
  unfold kernelRun0_A
  rfl

set_option maxHeartbeats 20000000 in
theorem run_A6 (hc0 : cond0_0 i) : (kernelRun0_A (F := Ideal) c i arg2 harg2 arg3 harg3 arg4 harg4 arg5 harg5 arg6 harg6 arg7 harg7 arg8 harg8 arg9 harg9 hc0 x0 x1 x2 x3 x4).2.1 =
    dP i arg8 (arg8.view.writes (Elt Ideal) arg8.view.junk (h8_A i c arg2 harg2 arg3 harg3 arg4 harg4 arg5 harg5 arg6 harg6 arg7 harg7 arg8 harg8 arg9 harg9 x0 x1 x2 x3 x4 15)) 15 (gkD (I0 arg2 harg2 arg5 harg5 arg6 harg6 x0 x3 x4) (qT0 arg2 harg2 x0) (kD i arg3 (harg3.unread x1)) (kD i arg4 (harg4.unread x2)) (dSt (I0 arg2 harg2 arg5 harg5 arg6 harg6 x0 x3 x4) (kD i arg3 (harg3.unread x1)) (kD i arg4 (harg4.unread x2)) (n_A i c arg2 harg2 arg3 harg3 arg4 harg4 arg5 harg5 arg6 harg6 arg7 harg7 arg8 harg8 arg9 harg9 x0 x1 x2 x3 x4 14) 14) 15) :: h8_A i c arg2 harg2 arg3 harg3 arg4 harg4 arg5 harg5 arg6 harg6 arg7 harg7 arg8 harg8 arg9 harg9 x0 x1 x2 x3 x4 15 := by
  unfold kernelRun0_A
  rfl

set_option maxHeartbeats 20000000 in
theorem run_A7 (hc0 : cond0_0 i) : (kernelRun0_A (F := Ideal) c i arg2 harg2 arg3 harg3 arg4 harg4 arg5 harg5 arg6 harg6 arg7 harg7 arg8 harg8 arg9 harg9 hc0 x0 x1 x2 x3 x4).2.2.1 =
    dP i arg9 (arg9.view.writes (Elt Ideal) arg9.view.junk (h9_A i c arg2 harg2 arg3 harg3 arg4 harg4 arg5 harg5 arg6 harg6 arg7 harg7 arg8 harg8 arg9 harg9 x0 x1 x2 x3 x4 15)) 15 (gvD (I0 arg2 harg2 arg5 harg5 arg6 harg6 x0 x3 x4) (dT0 arg6 harg6 x4) (kD i arg3 (harg3.unread x1)) (dSt (I0 arg2 harg2 arg5 harg5 arg6 harg6 x0 x3 x4) (kD i arg3 (harg3.unread x1)) (kD i arg4 (harg4.unread x2)) (n_A i c arg2 harg2 arg3 harg3 arg4 harg4 arg5 harg5 arg6 harg6 arg7 harg7 arg8 harg8 arg9 harg9 x0 x1 x2 x3 x4 14) 14) 15) :: h9_A i c arg2 harg2 arg3 harg3 arg4 harg4 arg5 harg5 arg6 harg6 arg7 harg7 arg8 harg8 arg9 harg9 x0 x1 x2 x3 x4 15 := by
  unfold kernelRun0_A
  rfl

end

end Cert.AttnBwdIdeal.Value

end
-- ==== Proof.AttnRunB.lean ====
module

public import proofs.«01_k».proof.Proof.AttnRun

@[expose] public section

set_option maxRecDepth 16384

noncomputable section

/-! The body's run at a head's second point, tile by tile, in the terms of `AttnRun`. -/

namespace Cert.AttnBwdIdeal.Value

open Cert.AttnBwdIdeal Cert.AttnBwdIdeal.Gen Cert.AttnTile Idealize.ShloMosaic Idealize.ShloMosaic.TcCoe Idealize.SL.Sem

attribute [local irreducible] st_k0_t1 st_k0_t2

section

variable (i : grid0.Coords) (c : Dev nD) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole) (arg6 : Memref sig .tc .vmem S1x2048x64 .bf16) (harg6 : arg6.IsWhole) (arg7 : Memref sig .tc .vmem S1x2048x64 .f32) (harg7 : arg7.IsWhole) (arg8 : Memref sig .tc .vmem S1x32x64x128 .f32) (harg8 : arg8.IsWhole) (arg9 : Memref sig .tc .vmem S1x32x64x128 .f32) (harg9 : arg9.IsWhole)
  (x0 : Vec Ideal S1x2048x64 .bf16) (x1 : Vec Ideal S1x4096x64 .bf16) (x2 : Vec Ideal S1x4096x64 .bf16) (x3 : Vec Ideal S1x2048x128 .f32) (x4 : Vec Ideal S1x2048x64 .bf16) (xo6 : Vec Ideal S1x32x64x128 .f32) (xo7 : Vec Ideal S1x32x64x128 .f32)

/-- The run's state after the diagonal's first `j` tiles, and its lists of stores. -/
def n_B : ℕ → St 2048
  | 0 => ⟨kernelRun0_B.sl.r_5 c i arg2 harg2 arg3 harg3 arg4 harg4 arg5 harg5 arg6 harg6 arg7 harg7 arg8 harg8 arg9 harg9 x0 x1 x2 x3 x4 xo6 xo7, kernelRun0_B.sl.r_6 c i arg2 harg2 arg3 harg3 arg4 harg4 arg5 harg5 arg6 harg6 arg7 harg7 arg8 harg8 arg9 harg9 x0 x1 x2 x3 x4 xo6 xo7, kernelRun0_B.sl.r_7 c i arg2 harg2 arg3 harg3 arg4 harg4 arg5 harg5 arg6 harg6 arg7 harg7 arg8 harg8 arg9 harg9 x0 x1 x2 x3 x4 xo6 xo7⟩
  | 1 => ⟨kernelRun0_B.sl.r_15 c i arg2 harg2 arg3 harg3 arg4 harg4 arg5 harg5 arg6 harg6 arg7 harg7 arg8 harg8 arg9 harg9 x0 x1 x2 x3 x4 xo6 xo7, kernelRun0_B.sl.r_17 c i arg2 harg2 arg3 harg3 arg4 harg4 arg5 harg5 arg6 harg6 arg7 harg7 arg8 harg8 arg9 harg9 x0 x1 x2 x3 x4 xo6 xo7, kernelRun0_B.sl.r_18 c i arg2 harg2 arg3 harg3 arg4 harg4 arg5 harg5 arg6 harg6 arg7 harg7 arg8 harg8 arg9 harg9 x0 x1 x2 x3 x4 xo6 xo7⟩
  | 2 => ⟨kernelRun0_B.sl.r_34 c i arg2 harg2 arg3 harg3 arg4 harg4 arg5 harg5 arg6 harg6 arg7 harg7 arg8 harg8 arg9 harg9 x0 x1 x2 x3 x4 xo6 xo7, kernelRun0_B.sl.r_35 c i arg2 harg2 arg3 harg3 arg4 harg4 arg5 harg5 arg6 harg6 arg7 harg7 arg8 harg8 arg9 harg9 x0 x1 x2 x3 x4 xo6 xo7, kernelRun0_B.sl.r_36 c i arg2 harg2 arg3 harg3 arg4 harg4 arg5 harg5 arg6 harg6 arg7 harg7 arg8 harg8 arg9 harg9 x0 x1 x2 x3 x4 xo6 xo7⟩
  | 3 => ⟨kernelRun0_B.sl.r_52 c i arg2 harg2 arg3 harg3 arg4 harg4 arg5 harg5 arg6 harg6 arg7 harg7 arg8 harg8 arg9 harg9 x0 x1 x2 x3 x4 xo6 xo7, kernelRun0_B.sl.r_53 c i arg2 harg2 arg3 harg3 arg4 harg4 arg5 harg5 arg6 harg6 arg7 harg7 arg8 harg8 arg9 harg9 x0 x1 x2 x3 x4 xo6 xo7, kernelRun0_B.sl.r_54 c i arg2 harg2 arg3 harg3 arg4 harg4 arg5 harg5 arg6 harg6 arg7 harg7 arg8 harg8 arg9 harg9 x0 x1 x2 x3 x4 xo6 xo7⟩
  | 4 => ⟨kernelRun0_B.sl.r_71 c i arg2 harg2 arg3 harg3 arg4 harg4 arg5 harg5 arg6 harg6 arg7 harg7 arg8 harg8 arg9 harg9 x0 x1 x2 x3 x4 xo6 xo7, kernelRun0_B.sl.r_72 c i arg2 harg2 arg3 harg3 arg4 harg4 arg5 harg5 arg6 harg6 arg7 harg7 arg8 harg8 arg9 harg9 x0 x1 x2 x3 x4 xo6 xo7, kernelRun0_B.sl.r_73 c i arg2 harg2 arg3 harg3 arg4 harg4 arg5 harg5 arg6 harg6 arg7 harg7 arg8 harg8 arg9 harg9 x0 x1 x2 x3 x4 xo6 xo7⟩
  | 5 => ⟨kernelRun0_B.sl.r_87 c i arg2 harg2 arg3 harg3 arg4 harg4 arg5 harg5 arg6 harg6 arg7 harg7 arg8 harg8 arg9 harg9 x0 x1 x2 x3 x4 xo6 xo7, kernelRun0_B.sl.r_88 c i arg2 harg2 arg3 harg3 arg4 harg4 arg5 harg5 arg6 harg6 arg7 harg7 arg8 harg8 arg9 harg9 x0 x1 x2 x3 x4 xo6 xo7, kernelRun0_B.sl.r_89 c i arg2 harg2 arg3 harg3 arg4 harg4 arg5 harg5 arg6 harg6 arg7 harg7 arg8 harg8 arg9 harg9 x0 x1 x2 x3 x4 xo6 xo7⟩
  | 6 => ⟨kernelRun0_B.sl.r_103 c i arg2 harg2 arg3 harg3 arg4 harg4 arg5 harg5 arg6 harg6 arg7 harg7 arg8 harg8 arg9 harg9 x0 x1 x2 x3 x4 xo6 xo7, kernelRun0_B.sl.r_104 c i arg2 harg2 arg3 harg3 arg4 harg4 arg5 harg5 arg6 harg6 arg7 harg7 arg8 harg8 arg9 harg9 x0 x1 x2 x3 x4 xo6 xo7, kernelRun0_B.sl.r_105 c i arg2 harg2 arg3 harg3 arg4 harg4 arg5 harg5 arg6 harg6 arg7 harg7 arg8 harg8 arg9 harg9 x0 x1 x2 x3 x4 xo6 xo7⟩
  | 7 => ⟨kernelRun0_B.sl.r_119 c i arg2 harg2 arg3 harg3 arg4 harg4 arg5 harg5 arg6 harg6 arg7 harg7 arg8 harg8 arg9 harg9 x0 x1 x2 x3 x4 xo6 xo7, kernelRun0_B.sl.r_120 c i arg2 harg2 arg3 harg3 arg4 harg4 arg5 harg5 arg6 harg6 arg7 harg7 arg8 harg8 arg9 harg9 x0 x1 x2 x3 x4 xo6 xo7, kernelRun0_B.sl.r_121 c i arg2 harg2 arg3 harg3 arg4 harg4 arg5 harg5 arg6 harg6 arg7 harg7 arg8 harg8 arg9 harg9 x0 x1 x2 x3 x4 xo6 xo7⟩
  | 8 => ⟨kernelRun0_B.sl.r_136 c i arg2 harg2 arg3 harg3 arg4 harg4 arg5 harg5 arg6 harg6 arg7 harg7 arg8 harg8 arg9 harg9 x0 x1 x2 x3 x4 xo6 xo7, kernelRun0_B.sl.r_137 c i arg2 harg2 arg3 harg3 arg4 harg4 arg5 harg5 arg6 harg6 arg7 harg7 arg8 harg8 arg9 harg9 x0 x1 x2 x3 x4 xo6 xo7, kernelRun0_B.sl.r_138 c i arg2 harg2 arg3 harg3 arg4 harg4 arg5 harg5 arg6 harg6 arg7 harg7 arg8 harg8 arg9 harg9 x0 x1 x2 x3 x4 xo6 xo7⟩
  | 9 => ⟨kernelRun0_B.sl.r_155 c i arg2 harg2 arg3 harg3 arg4 harg4 arg5 harg5 arg6 harg6 arg7 harg7 arg8 harg8 arg9 harg9 x0 x1 x2 x3 x4 xo6 xo7, kernelRun0_B.sl.r_156 c i arg2 harg2 arg3 harg3 arg4 harg4 arg5 harg5 arg6 harg6 arg7 harg7 arg8 harg8 arg9 harg9 x0 x1 x2 x3 x4 xo6 xo7, kernelRun0_B.sl.r_157 c i arg2 harg2 arg3 harg3 arg4 harg4 arg5 harg5 arg6 harg6 arg7 harg7 arg8 harg8 arg9 harg9 x0 x1 x2 x3 x4 xo6 xo7⟩
  | 10 => ⟨kernelRun0_B.sl.r_172 c i arg2 harg2 arg3 harg3 arg4 harg4 arg5 harg5 arg6 harg6 arg7 harg7 arg8 harg8 arg9 harg9 x0 x1 x2 x3 x4 xo6 xo7, kernelRun0_B.sl.r_173 c i arg2 harg2 arg3 harg3 arg4 harg4 arg5 harg5 arg6 harg6 arg7 harg7 arg8 harg8 arg9 harg9 x0 x1 x2 x3 x4 xo6 xo7, kernelRun0_B.sl.r_174 c i arg2 harg2 arg3 harg3 arg4 harg4 arg5 harg5 arg6 harg6 arg7 harg7 arg8 harg8 arg9 harg9 x0 x1 x2 x3 x4 xo6 xo7⟩
  | 11 => ⟨kernelRun0_B.sl.r_188 c i arg2 harg2 arg3 harg3 arg4 harg4 arg5 harg5 arg6 harg6 arg7 harg7 arg8 harg8 arg9 harg9 x0 x1 x2 x3 x4 xo6 xo7, kernelRun0_B.sl.r_189 c i arg2 harg2 arg3 harg3 arg4 harg4 arg5 harg5 arg6 harg6 arg7 harg7 arg8 harg8 arg9 harg9 x0 x1 x2 x3 x4 xo6 xo7, kernelRun0_B.sl.r_190 c i arg2 harg2 arg3 harg3 arg4 harg4 arg5 harg5 arg6 harg6 arg7 harg7 arg8 harg8 arg9 harg9 x0 x1 x2 x3 x4 xo6 xo7⟩
  | 12 => ⟨kernelRun0_B.sl.r_204 c i arg2 harg2 arg3 harg3 arg4 harg4 arg5 harg5 arg6 harg6 arg7 harg7 arg8 harg8 arg9 harg9 x0 x1 x2 x3 x4 xo6 xo7, kernelRun0_B.sl.r_205 c i arg2 harg2 arg3 harg3 arg4 harg4 arg5 harg5 arg6 harg6 arg7 harg7 arg8 harg8 arg9 harg9 x0 x1 x2 x3 x4 xo6 xo7, kernelRun0_B.sl.r_206 c i arg2 harg2 arg3 harg3 arg4 harg4 arg5 harg5 arg6 harg6 arg7 harg7 arg8 harg8 arg9 harg9 x0 x1 x2 x3 x4 xo6 xo7⟩
  | 13 => ⟨kernelRun0_B.sl.r_224 c i arg2 harg2 arg3 harg3 arg4 harg4 arg5 harg5 arg6 harg6 arg7 harg7 arg8 harg8 arg9 harg9 x0 x1 x2 x3 x4 xo6 xo7, kernelRun0_B.sl.r_225 c i arg2 harg2 arg3 harg3 arg4 harg4 arg5 harg5 arg6 harg6 arg7 harg7 arg8 harg8 arg9 harg9 x0 x1 x2 x3 x4 xo6 xo7, kernelRun0_B.sl.r_226 c i arg2 harg2 arg3 harg3 arg4 harg4 arg5 harg5 arg6 harg6 arg7 harg7 arg8 harg8 arg9 harg9 x0 x1 x2 x3 x4 xo6 xo7⟩
  | 14 => ⟨kernelRun0_B.sl.r_242 c i arg2 harg2 arg3 harg3 arg4 harg4 arg5 harg5 arg6 harg6 arg7 harg7 arg8 harg8 arg9 harg9 x0 x1 x2 x3 x4 xo6 xo7, kernelRun0_B.sl.r_243 c i arg2 harg2 arg3 harg3 arg4 harg4 arg5 harg5 arg6 harg6 arg7 harg7 arg8 harg8 arg9 harg9 x0 x1 x2 x3 x4 xo6 xo7, kernelRun0_B.sl.r_244 c i arg2 harg2 arg3 harg3 arg4 harg4 arg5 harg5 arg6 harg6 arg7 harg7 arg8 harg8 arg9 harg9 x0 x1 x2 x3 x4 xo6 xo7⟩
  | _ => ⟨kernelRun0_B.sl.r_242 c i arg2 harg2 arg3 harg3 arg4 harg4 arg5 harg5 arg6 harg6 arg7 harg7 arg8 harg8 arg9 harg9 x0 x1 x2 x3 x4 xo6 xo7, kernelRun0_B.sl.r_243 c i arg2 harg2 arg3 harg3 arg4 harg4 arg5 harg5 arg6 harg6 arg7 harg7 arg8 harg8 arg9 harg9 x0 x1 x2 x3 x4 xo6 xo7, kernelRun0_B.sl.r_244 c i arg2 harg2 arg3 harg3 arg4 harg4 arg5 harg5 arg6 harg6 arg7 harg7 arg8 harg8 arg9 harg9 x0 x1 x2 x3 x4 xo6 xo7⟩

def h8_B : ℕ → List (View.Piece (Elt Ideal) S1x32x64x128 .f32)
  | 0 => b8_B i c arg2 harg2 arg3 harg3 arg4 harg4 arg5 harg5 arg6 harg6 arg7 harg7 arg8 harg8 arg9 harg9 x0 x1 x2 x3 x4 xo6 xo7
  | 1 => kernelRun0_B.sl.H6_1 c i arg2 harg2 arg3 harg3 arg4 harg4 arg5 harg5 arg6 harg6 arg7 harg7 arg8 harg8 arg9 harg9 x0 x1 x2 x3 x4 xo6 xo7
  | 2 => kernelRun0_B.sl.H6_2 c i arg2 harg2 arg3 harg3 arg4 harg4 arg5 harg5 arg6 harg6 arg7 harg7 arg8 harg8 arg9 harg9 x0 x1 x2 x3 x4 xo6 xo7
  | 3 => kernelRun0_B.sl.H6_3 c i arg2 harg2 arg3 harg3 arg4 harg4 arg5 harg5 arg6 harg6 arg7 harg7 arg8 harg8 arg9 harg9 x0 x1 x2 x3 x4 xo6 xo7
  | 4 => kernelRun0_B.sl.H6_4 c i arg2 harg2 arg3 harg3 arg4 harg4 arg5 harg5 arg6 harg6 arg7 harg7 arg8 harg8 arg9 harg9 x0 x1 x2 x3 x4 xo6 xo7
  | 5 => kernelRun0_B.sl.H6_5 c i arg2 harg2 arg3 harg3 arg4 harg4 arg5 harg5 arg6 harg6 arg7 harg7 arg8 harg8 arg9 harg9 x0 x1 x2 x3 x4 xo6 xo7
  | 6 => kernelRun0_B.sl.H6_6 c i arg2 harg2 arg3 harg3 arg4 harg4 arg5 harg5 arg6 harg6 arg7 harg7 arg8 harg8 arg9 harg9 x0 x1 x2 x3 x4 xo6 xo7
  | 7 => kernelRun0_B.sl.H6_7 c i arg2 harg2 arg3 harg3 arg4 harg4 arg5 harg5 arg6 harg6 arg7 harg7 arg8 harg8 arg9 harg9 x0 x1 x2 x3 x4 xo6 xo7
  | 8 => kernelRun0_B.sl.H6_8 c i arg2 harg2 arg3 harg3 arg4 harg4 arg5 harg5 arg6 harg6 arg7 harg7 arg8 harg8 arg9 harg9 x0 x1 x2 x3 x4 xo6 xo7
  | 9 => kernelRun0_B.sl.H6_9 c i arg2 harg2 arg3 harg3 arg4 harg4 arg5 harg5 arg6 harg6 arg7 harg7 arg8 harg8 arg9 harg9 x0 x1 x2 x3 x4 xo6 xo7
  | 10 => kernelRun0_B.sl.H6_10 c i arg2 harg2 arg3 harg3 arg4 harg4 arg5 harg5 arg6 harg6 arg7 harg7 arg8 harg8 arg9 harg9 x0 x1 x2 x3 x4 xo6 xo7
  | 11 => kernelRun0_B.sl.H6_11 c i arg2 harg2 arg3 harg3 arg4 harg4 arg5 harg5 arg6 harg6 arg7 harg7 arg8 harg8 arg9 harg9 x0 x1 x2 x3 x4 xo6 xo7
  | 12 => kernelRun0_B.sl.H6_12 c i arg2 harg2 arg3 harg3 arg4 harg4 arg5 harg5 arg6 harg6 arg7 harg7 arg8 harg8 arg9 harg9 x0 x1 x2 x3 x4 xo6 xo7
  | 13 => kernelRun0_B.sl.H6_13 c i arg2 harg2 arg3 harg3 arg4 harg4 arg5 harg5 arg6 harg6 arg7 harg7 arg8 harg8 arg9 harg9 x0 x1 x2 x3 x4 xo6 xo7
  | 14 => kernelRun0_B.sl.H6_14 c i arg2 harg2 arg3 harg3 arg4 harg4 arg5 harg5 arg6 harg6 arg7 harg7 arg8 harg8 arg9 harg9 x0 x1 x2 x3 x4 xo6 xo7
  | _ => kernelRun0_B.sl.H6_15 c i arg2 harg2 arg3 harg3 arg4 harg4 arg5 harg5 arg6 harg6 arg7 harg7 arg8 harg8 arg9 harg9 x0 x1 x2 x3 x4 xo6 xo7

def h9_B : ℕ → List (View.Piece (Elt Ideal) S1x32x64x128 .f32)
  | 0 => b9_B i c arg2 harg2 arg3 harg3 arg4 harg4 arg5 harg5 arg6 harg6 arg7 harg7 arg8 harg8 arg9 harg9 x0 x1 x2 x3 x4 xo6 xo7
  | 1 => kernelRun0_B.sl.H7_1 c i arg2 harg2 arg3 harg3 arg4 harg4 arg5 harg5 arg6 harg6 arg7 harg7 arg8 harg8 arg9 harg9 x0 x1 x2 x3 x4 xo6 xo7
  | 2 => kernelRun0_B.sl.H7_2 c i arg2 harg2 arg3 harg3 arg4 harg4 arg5 harg5 arg6 harg6 arg7 harg7 arg8 harg8 arg9 harg9 x0 x1 x2 x3 x4 xo6 xo7
  | 3 => kernelRun0_B.sl.H7_3 c i arg2 harg2 arg3 harg3 arg4 harg4 arg5 harg5 arg6 harg6 arg7 harg7 arg8 harg8 arg9 harg9 x0 x1 x2 x3 x4 xo6 xo7
  | 4 => kernelRun0_B.sl.H7_4 c i arg2 harg2 arg3 harg3 arg4 harg4 arg5 harg5 arg6 harg6 arg7 harg7 arg8 harg8 arg9 harg9 x0 x1 x2 x3 x4 xo6 xo7
  | 5 => kernelRun0_B.sl.H7_5 c i arg2 harg2 arg3 harg3 arg4 harg4 arg5 harg5 arg6 harg6 arg7 harg7 arg8 harg8 arg9 harg9 x0 x1 x2 x3 x4 xo6 xo7
  | 6 => kernelRun0_B.sl.H7_6 c i arg2 harg2 arg3 harg3 arg4 harg4 arg5 harg5 arg6 harg6 arg7 harg7 arg8 harg8 arg9 harg9 x0 x1 x2 x3 x4 xo6 xo7
  | 7 => kernelRun0_B.sl.H7_7 c i arg2 harg2 arg3 harg3 arg4 harg4 arg5 harg5 arg6 harg6 arg7 harg7 arg8 harg8 arg9 harg9 x0 x1 x2 x3 x4 xo6 xo7
  | 8 => kernelRun0_B.sl.H7_8 c i arg2 harg2 arg3 harg3 arg4 harg4 arg5 harg5 arg6 harg6 arg7 harg7 arg8 harg8 arg9 harg9 x0 x1 x2 x3 x4 xo6 xo7
  | 9 => kernelRun0_B.sl.H7_9 c i arg2 harg2 arg3 harg3 arg4 harg4 arg5 harg5 arg6 harg6 arg7 harg7 arg8 harg8 arg9 harg9 x0 x1 x2 x3 x4 xo6 xo7
  | 10 => kernelRun0_B.sl.H7_10 c i arg2 harg2 arg3 harg3 arg4 harg4 arg5 harg5 arg6 harg6 arg7 harg7 arg8 harg8 arg9 harg9 x0 x1 x2 x3 x4 xo6 xo7
  | 11 => kernelRun0_B.sl.H7_11 c i arg2 harg2 arg3 harg3 arg4 harg4 arg5 harg5 arg6 harg6 arg7 harg7 arg8 harg8 arg9 harg9 x0 x1 x2 x3 x4 xo6 xo7
  | 12 => kernelRun0_B.sl.H7_12 c i arg2 harg2 arg3 harg3 arg4 harg4 arg5 harg5 arg6 harg6 arg7 harg7 arg8 harg8 arg9 harg9 x0 x1 x2 x3 x4 xo6 xo7
  | 13 => kernelRun0_B.sl.H7_13 c i arg2 harg2 arg3 harg3 arg4 harg4 arg5 harg5 arg6 harg6 arg7 harg7 arg8 harg8 arg9 harg9 x0 x1 x2 x3 x4 xo6 xo7
  | 14 => kernelRun0_B.sl.H7_14 c i arg2 harg2 arg3 harg3 arg4 harg4 arg5 harg5 arg6 harg6 arg7 harg7 arg8 harg8 arg9 harg9 x0 x1 x2 x3 x4 xo6 xo7
  | _ => kernelRun0_B.sl.H7_15 c i arg2 harg2 arg3 harg3 arg4 harg4 arg5 harg5 arg6 harg6 arg7 harg7 arg8 harg8 arg9 harg9 x0 x1 x2 x3 x4 xo6 xo7

theorem n_B_zero : n_B i c arg2 harg2 arg3 harg3 arg4 harg4 arg5 harg5 arg6 harg6 arg7 harg7 arg8 harg8 arg9 harg9 x0 x1 x2 x3 x4 xo6 xo7 0 = s_B i c arg2 harg2 arg3 harg3 arg4 harg4 arg5 harg5 arg6 harg6 arg7 harg7 arg8 harg8 arg9 harg9 x0 x1 x2 x3 x4 xo6 xo7 := rfl

set_option maxHeartbeats 20000000 in
theorem n_B_step : ∀ j < 14, n_B i c arg2 harg2 arg3 harg3 arg4 harg4 arg5 harg5 arg6 harg6 arg7 harg7 arg8 harg8 arg9 harg9 x0 x1 x2 x3 x4 xo6 xo7 (j + 1) = dSt (I0 arg2 harg2 arg5 harg5 arg6 harg6 x0 x3 x4) (kD i arg3 (harg3.unread x1)) (kD i arg4 (harg4.unread x2)) (n_B i c arg2 harg2 arg3 harg3 arg4 harg4 arg5 harg5 arg6 harg6 arg7 harg7 arg8 harg8 arg9 harg9 x0 x1 x2 x3 x4 xo6 xo7 j) j
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl

set_option maxHeartbeats 20000000 in
theorem h8_B_step : ∀ j < 15, h8_B i c arg2 harg2 arg3 harg3 arg4 harg4 arg5 harg5 arg6 harg6 arg7 harg7 arg8 harg8 arg9 harg9 x0 x1 x2 x3 x4 xo6 xo7 (j + 1) =
    dP i arg8 (arg8.view.writes (Elt Ideal) (harg8.unread xo6) (h8_B i c arg2 harg2 arg3 harg3 arg4 harg4 arg5 harg5 arg6 harg6 arg7 harg7 arg8 harg8 arg9 harg9 x0 x1 x2 x3 x4 xo6 xo7 j)) j (gkD (I0 arg2 harg2 arg5 harg5 arg6 harg6 x0 x3 x4) (qT0 arg2 harg2 x0) (kD i arg3 (harg3.unread x1)) (kD i arg4 (harg4.unread x2)) (n_B i c arg2 harg2 arg3 harg3 arg4 harg4 arg5 harg5 arg6 harg6 arg7 harg7 arg8 harg8 arg9 harg9 x0 x1 x2 x3 x4 xo6 xo7 j) j) :: h8_B i c arg2 harg2 arg3 harg3 arg4 harg4 arg5 harg5 arg6 harg6 arg7 harg7 arg8 harg8 arg9 harg9 x0 x1 x2 x3 x4 xo6 xo7 j
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl

set_option maxHeartbeats 20000000 in
theorem h9_B_step : ∀ j < 15, h9_B i c arg2 harg2 arg3 harg3 arg4 harg4 arg5 harg5 arg6 harg6 arg7 harg7 arg8 harg8 arg9 harg9 x0 x1 x2 x3 x4 xo6 xo7 (j + 1) =
    dP i arg9 (arg9.view.writes (Elt Ideal) (harg9.unread xo7) (h9_B i c arg2 harg2 arg3 harg3 arg4 harg4 arg5 harg5 arg6 harg6 arg7 harg7 arg8 harg8 arg9 harg9 x0 x1 x2 x3 x4 xo6 xo7 j)) j (gvD (I0 arg2 harg2 arg5 harg5 arg6 harg6 x0 x3 x4) (dT0 arg6 harg6 x4) (kD i arg3 (harg3.unread x1)) (n_B i c arg2 harg2 arg3 harg3 arg4 harg4 arg5 harg5 arg6 harg6 arg7 harg7 arg8 harg8 arg9 harg9 x0 x1 x2 x3 x4 xo6 xo7 j) j) :: h9_B i c arg2 harg2 arg3 harg3 arg4 harg4 arg5 harg5 arg6 harg6 arg7 harg7 arg8 harg8 arg9 harg9 x0 x1 x2 x3 x4 xo6 xo7 j
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl

set_option maxHeartbeats 20000000 in
theorem q14_B : (dSt (I0 arg2 harg2 arg5 harg5 arg6 harg6 x0 x3 x4) (kD i arg3 (harg3.unread x1)) (kD i arg4 (harg4.unread x2)) (n_B i c arg2 harg2 arg3 harg3 arg4 harg4 arg5 harg5 arg6 harg6 arg7 harg7 arg8 harg8 arg9 harg9 x0 x1 x2 x3 x4 xo6 xo7 14) 14).dq = kernelRun0_B.sl.r_260 c i arg2 harg2 arg3 harg3 arg4 harg4 arg5 harg5 arg6 harg6 arg7 harg7 arg8 harg8 arg9 harg9 x0 x1 x2 x3 x4 xo6 xo7 := rfl

set_option maxHeartbeats 20000000 in
theorem l14_B : (dSt (I0 arg2 harg2 arg5 harg5 arg6 harg6 x0 x3 x4) (kD i arg3 (harg3.unread x1)) (kD i arg4 (harg4.unread x2)) (n_B i c arg2 harg2 arg3 harg3 arg4 harg4 arg5 harg5 arg6 harg6 arg7 harg7 arg8 harg8 arg9 harg9 x0 x1 x2 x3 x4 xo6 xo7 14) 14).low (cutD 15) = ⟨kernelRun0_B.sl.r_261 c i arg2 harg2 arg3 harg3 arg4 harg4 arg5 harg5 arg6 harg6 arg7 harg7 arg8 harg8 arg9 harg9 x0 x1 x2 x3 x4 xo6 xo7, kernelRun0_B.sl.r_262 c i arg2 harg2 arg3 harg3 arg4 harg4 arg5 harg5 arg6 harg6 arg7 harg7 arg8 harg8 arg9 harg9 x0 x1 x2 x3 x4 xo6 xo7, kernelRun0_B.sl.r_263 c i arg2 harg2 arg3 harg3 arg4 harg4 arg5 harg5 arg6 harg6 arg7 harg7 arg8 harg8 arg9 harg9 x0 x1 x2 x3 x4 xo6 xo7⟩ := rfl

set_option maxHeartbeats 20000000 in
theorem run_B5 (hc0 : ¬cond0_0 i) : (kernelRun0_B (F := Ideal) c i arg2 harg2 arg3 harg3 arg4 harg4 arg5 harg5 arg6 harg6 arg7 harg7 arg8 harg8 arg9 harg9 hc0 x0 x1 x2 x3 x4 xo6 xo7).1 = outQ (dSt (I0 arg2 harg2 arg5 harg5 arg6 harg6 x0 x3 x4) (kD i arg3 (harg3.unread x1)) (kD i arg4 (harg4.unread x2)) (dSt (I0 arg2 harg2 arg5 harg5 arg6 harg6 x0 x3 x4) (kD i arg3 (harg3.unread x1)) (kD i arg4 (harg4.unread x2)) (n_B i c arg2 harg2 arg3 harg3 arg4 harg4 arg5 harg5 arg6 harg6 arg7 harg7 arg8 harg8 arg9 harg9 x0 x1 x2 x3 x4 xo6 xo7 14) 14) 15) := by
  have e : ∀ s : St 2048, (dSt (I0 arg2 harg2 arg5 harg5 arg6 harg6 x0 x3 x4) (kD i arg3 (harg3.unread x1)) (kD i arg4 (harg4.unread x2)) s 15).dq = concatenate (T 2048 64) 0 [⟨T (rowD 15) 64, extractStridedSlice (T (rowD 15) 64) ![0, 0] s.dq (cutD 15).hq⟩,
      ⟨T (numD 15) 64, (stepM (rowsD 15) ((I0 arg2 harg2 arg5 harg5 arg6 harg6 x0 x3 x4).low (cutD 15)) (kD i arg3 (harg3.unread x1) 15) (kD i arg4 (harg4.unread x2) 15) (s.low (cutD 15))).dq⟩] (cutD 15).cq := fun _ => rfl
  unfold outQ
  rw [e, q14_B, l14_B]
  unfold kernelRun0_B
  rfl

set_option maxHeartbeats 20000000 in
theorem run_B6 (hc0 : ¬cond0_0 i) : (kernelRun0_B (F := Ideal) c i arg2 harg2 arg3 harg3 arg4 harg4 arg5 harg5 arg6 harg6 arg7 harg7 arg8 harg8 arg9 harg9 hc0 x0 x1 x2 x3 x4 xo6 xo7).2.1 =
    dP i arg8 (arg8.view.writes (Elt Ideal) (harg8.unread xo6) (h8_B i c arg2 harg2 arg3 harg3 arg4 harg4 arg5 harg5 arg6 harg6 arg7 harg7 arg8 harg8 arg9 harg9 x0 x1 x2 x3 x4 xo6 xo7 15)) 15 (gkD (I0 arg2 harg2 arg5 harg5 arg6 harg6 x0 x3 x4) (qT0 arg2 harg2 x0) (kD i arg3 (harg3.unread x1)) (kD i arg4 (harg4.unread x2)) (dSt (I0 arg2 harg2 arg5 harg5 arg6 harg6 x0 x3 x4) (kD i arg3 (harg3.unread x1)) (kD i arg4 (harg4.unread x2)) (n_B i c arg2 harg2 arg3 harg3 arg4 harg4 arg5 harg5 arg6 harg6 arg7 harg7 arg8 harg8 arg9 harg9 x0 x1 x2 x3 x4 xo6 xo7 14) 14) 15) :: h8_B i c arg2 harg2 arg3 harg3 arg4 harg4 arg5 harg5 arg6 harg6 arg7 harg7 arg8 harg8 arg9 harg9 x0 x1 x2 x3 x4 xo6 xo7 15 := by
  unfold kernelRun0_B
  rfl

set_option maxHeartbeats 20000000 in
theorem run_B7 (hc0 : ¬cond0_0 i) : (kernelRun0_B (F := Ideal) c i arg2 harg2 arg3 harg3 arg4 harg4 arg5 harg5 arg6 harg6 arg7 harg7 arg8 harg8 arg9 harg9 hc0 x0 x1 x2 x3 x4 xo6 xo7).2.2.1 =
    dP i arg9 (arg9.view.writes (Elt Ideal) (harg9.unread xo7) (h9_B i c arg2 harg2 arg3 harg3 arg4 harg4 arg5 harg5 arg6 harg6 arg7 harg7 arg8 harg8 arg9 harg9 x0 x1 x2 x3 x4 xo6 xo7 15)) 15 (gvD (I0 arg2 harg2 arg5 harg5 arg6 harg6 x0 x3 x4) (dT0 arg6 harg6 x4) (kD i arg3 (harg3.unread x1)) (dSt (I0 arg2 harg2 arg5 harg5 arg6 harg6 x0 x3 x4) (kD i arg3 (harg3.unread x1)) (kD i arg4 (harg4.unread x2)) (n_B i c arg2 harg2 arg3 harg3 arg4 harg4 arg5 harg5 arg6 harg6 arg7 harg7 arg8 harg8 arg9 harg9 x0 x1 x2 x3 x4 xo6 xo7 14) 14) 15) :: h9_B i c arg2 harg2 arg3 harg3 arg4 harg4 arg5 harg5 arg6 harg6 arg7 harg7 arg8 harg8 arg9 harg9 x0 x1 x2 x3 x4 xo6 xo7 15 := by
  unfold kernelRun0_B
  rfl

end

end Cert.AttnBwdIdeal.Value

end
-- ==== Proof.AttnOut.lean ====
module

public import proofs.«01_k».proof.Proof.AttnPoint
public import proofs.«01_k».proof.Proof.AttnRunA
public import proofs.«01_k».proof.Proof.AttnRunB

@[expose] public section

set_option maxRecDepth 16384

noncomputable section

/-! What each of the two cases of the body leaves: a head's first half of the rows begins the transposed results from
    nothing, its second half adds to them. -/

namespace Cert.AttnBwdIdeal.Value

open Cert.AttnBwdIdeal Cert.AttnBwdIdeal.Gen Cert.AttnTile Cert.Reals Idealize.ShloMosaic Idealize.ShloMosaic.TcCoe Idealize.SL.Sem

/-- A whole block stored is read back. -/
theorem full_read (v : View sig .tc .vmem S1x32x64x128 .f32) (f : v.ty.Contents (Elt Ideal)) (w : Vec Ideal S1x32x64x128 .f32) (b : Fin 32) (d : Fin 64) (e : Fin 128) :
    v.read (Elt Ideal) (v.writes (Elt Ideal) f [⟨Rect.unit (s := S1x32x64x128) ![0, 0, 0, 0] S1x32x64x128.size inb_S1x32x64x128_S1x32x64x128_0_0_0_0, w⟩]) (ix4 0 b d e) = w (ix4 0 b d e) :=
  View.read_writes_cons_unit_of_mem v f _ w [] (ix4 0 b d e) (ix4 0 b d e) rfl fun a => by
    match a with
    | 0 => rfl
    | 1 => exact (Nat.zero_add _).symm
    | 2 => exact (Nat.zero_add _).symm
    | 3 => exact (Nat.zero_add _).symm

theorem pay265_at (b : Fin 32) (d : Fin 64) (e : Fin 128) : k0_pay265 (F := Ideal) (ix4 0 b d e) = 0 := by
  pointwise [k0_pay265]

theorem pay266_at (b : Fin 32) (d : Fin 64) (e : Fin 128) : k0_pay266 (F := Ideal) (ix4 0 b d e) = 0 := by
  pointwise [k0_pay266]

/-- A row's sum is whole once every column below it is in. -/
theorem Q_all (H : Head) (t0 : ℕ) (h : t0 ≤ 2048) (r : Fin 2048) (d : ℕ) : H.Q (t0 + r.val) (t0 + 2048) d = H.Q (t0 + r.val) 4096 d := by
  have := H.Q_stay (t0 + r.val) (t0 + 2048) (2048 - t0) d (by omega)
  rw [show t0 + 2048 + (2048 - t0) = 4096 by omega] at this
  exact this.symm

theorem row_le (i : grid0.Coords) : 2048 * (i 1).val ≤ 2048 := by
  have hi : (i 1).val < 2 := (i 1).isLt
  omega

section

variable (i : grid0.Coords) (c : Dev nD) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole) (arg6 : Memref sig .tc .vmem S1x2048x64 .bf16) (harg6 : arg6.IsWhole) (arg7 : Memref sig .tc .vmem S1x2048x64 .f32) (harg7 : arg7.IsWhole) (arg8 : Memref sig .tc .vmem S1x32x64x128 .f32) (harg8 : arg8.IsWhole) (arg9 : Memref sig .tc .vmem S1x32x64x128 .f32) (harg9 : arg9.IsWhole)
  (x0 : Vec Ideal S1x2048x64 .bf16) (x1 : Vec Ideal S1x4096x64 .bf16) (x2 : Vec Ideal S1x4096x64 .bf16) (x3 : Vec Ideal S1x2048x128 .f32) (x4 : Vec Ideal S1x2048x64 .bf16) (H : Head) (h : PtAt H (2048 * (i 1).val) x0 x1 x2 x3 x4)

include h

theorem kD3 (j : ℕ) (c : Fin 128) (d : Fin 64) (hj : j < 16) : kD i arg3 (harg3.unread x1) j (ix2 c d) = ((H.k (2048 * (i 1).val + 128 * j + c.val) d.val : ℝ) : EReal) :=
  kD_at i arg3 _ H.k (get3 i arg3 harg3 x0 x1 x2 x3 x4 H h) j hj c d

theorem kD4 (j : ℕ) (c : Fin 128) (d : Fin 64) (hj : j < 16) : kD i arg4 (harg4.unread x2) j (ix2 c d) = ((H.v (2048 * (i 1).val + 128 * j + c.val) d.val : ℝ) : EReal) :=
  kD_at i arg4 _ H.v (get4 i arg4 harg4 x0 x1 x2 x3 x4 H h) j hj c d

theorem I0_at : InpAt H (2048 * (i 1).val) (I0 arg2 harg2 arg5 harg5 arg6 harg6 x0 x3 x4) :=
  inp_at h (get2 arg2 harg2 x0) (get5 arg5 harg5 x3) (get2 arg6 harg6 x4)

theorem s_A_at : StAt H (2048 * (i 1).val) (2048 * (i 1).val) (n_A i c arg2 harg2 arg3 harg3 arg4 harg4 arg5 harg5 arg6 harg6 arg7 harg7 arg8 harg8 arg9 harg9 x0 x1 x2 x3 x4 0) := by
  rw [n_A_zero]
  unfold s_A
  simp only [lp2_eq]
  exact (lp1_at i c arg2 harg2 arg3 harg3 arg4 harg4 arg5 harg5 arg6 harg6 arg7 harg7 arg8 harg8 arg9 harg9 x0 x1 x2 x3 x4 H h _ _).1

theorem b8_A_at (b : Fin 32) (d : Fin 64) (e : Fin 128) : arg8.view.read (Elt Ideal) (arg8.view.writes (Elt Ideal) arg8.view.junk (h8_A i c arg2 harg2 arg3 harg3 arg4 harg4 arg5 harg5 arg6 harg6 arg7 harg7 arg8 harg8 arg9 harg9 x0 x1 x2 x3 x4 0)) (ix4 0 b d e)
    = if b.val < 16 * (i 1).val then (0 : EReal) + ((partK H (2048 * (i 1).val) b.val d.val e.val : ℝ) : EReal) else 0 := by
  show arg8.view.read (Elt Ideal) (arg8.view.writes (Elt Ideal) arg8.view.junk (b8_A i c arg2 harg2 arg3 harg3 arg4 harg4 arg5 harg5 arg6 harg6 arg7 harg7 arg8 harg8 arg9 harg9 x0 x1 x2 x3 x4)) (ix4 0 b d e) = _
  unfold b8_A
  rw [lp2_eq]
  dsimp only
  rw [List.nil_append, View.writes_append]
  refine ((lp1_at i c arg2 harg2 arg3 harg3 arg4 harg4 arg5 harg5 arg6 harg6 arg7 harg7 arg8 harg8 arg9 harg9 x0 x1 x2 x3 x4 H h _ _).2.1 b d e).trans ?_
  rw [full_read, pay265_at]

theorem b9_A_at (b : Fin 32) (d : Fin 64) (e : Fin 128) : arg9.view.read (Elt Ideal) (arg9.view.writes (Elt Ideal) arg9.view.junk (h9_A i c arg2 harg2 arg3 harg3 arg4 harg4 arg5 harg5 arg6 harg6 arg7 harg7 arg8 harg8 arg9 harg9 x0 x1 x2 x3 x4 0)) (ix4 0 b d e)
    = if b.val < 16 * (i 1).val then (0 : EReal) + ((partV H (2048 * (i 1).val) b.val d.val e.val : ℝ) : EReal) else 0 := by
  show arg9.view.read (Elt Ideal) (arg9.view.writes (Elt Ideal) arg9.view.junk (b9_A i c arg2 harg2 arg3 harg3 arg4 harg4 arg5 harg5 arg6 harg6 arg7 harg7 arg8 harg8 arg9 harg9 x0 x1 x2 x3 x4)) (ix4 0 b d e) = _
  unfold b9_A
  rw [lp2_eq]
  dsimp only
  rw [List.nil_append, View.writes_append]
  refine ((lp1_at i c arg2 harg2 arg3 harg3 arg4 harg4 arg5 harg5 arg6 harg6 arg7 harg7 arg8 harg8 arg9 harg9 x0 x1 x2 x3 x4 H h _ _).2.2 b d e).trans ?_
  rw [full_read, pay266_at]

theorem out_A5 (hc0 : cond0_0 i) (r : Fin 2048) (d : Fin 64) : out0_A_5 (F := Ideal) c i arg2 harg2 arg3 harg3 arg4 harg4 arg5 harg5 arg6 harg6 arg7 harg7 arg8 harg8 arg9 harg9 hc0 x0 x1 x2 x3 x4 (ix3 0 r d) = ((H.Q (2048 * (i 1).val + r.val) 4096 d.val * (1 / 8) : ℝ) : EReal) := by
  unfold out0_A_5
  rw [run_A5]
  refine (outQ_read _ _ _ r d).trans ?_
  rw [(last_at16 (I0_at i arg2 harg2 arg5 harg5 arg6 harg6 x0 x1 x2 x3 x4 H h) (kD3 i arg3 harg3 x0 x1 x2 x3 x4 H h) (kD4 i arg4 harg4 x0 x1 x2 x3 x4 H h) (n_A_step i c arg2 harg2 arg3 harg3 arg4 harg4 arg5 harg5 arg6 harg6 arg7 harg7 arg8 harg8 arg9 harg9 x0 x1 x2 x3 x4) (s_A_at i c arg2 harg2 arg3 harg3 arg4 harg4 arg5 harg5 arg6 harg6 arg7 harg7 arg8 harg8 arg9 harg9 x0 x1 x2 x3 x4 H h)).dq r d,
    Q_all H _ (row_le i), ceighth_f32, ← EReal.coe_mul]

theorem out_A6 (hc0 : cond0_0 i) (b : Fin 32) (d : Fin 64) (e : Fin 128) : out0_A_6 (F := Ideal) c i arg2 harg2 arg3 harg3 arg4 harg4 arg5 harg5 arg6 harg6 arg7 harg7 arg8 harg8 arg9 harg9 hc0 x0 x1 x2 x3 x4 (ix4 0 b d e)
    = (0 : EReal) + ((partK H (2048 * (i 1).val) b.val d.val e.val : ℝ) : EReal) := by
  unfold out0_A_6
  rw [View.read_writes_of_cover VO0_6 VO0_6.junk arg8.view arg8.view.junk _ (cover0_A_6 c i arg2 harg2 arg3 harg3 arg4 harg4 arg5 harg5 arg6 harg6 arg7 harg7 arg8 harg8 arg9 harg9 hc0 x0 x1 x2 x3 x4)]
  rw [run_A6]
  exact keys_at (I0_at i arg2 harg2 arg5 harg5 arg6 harg6 x0 x1 x2 x3 x4 H h) (qT_at h (get2 arg2 harg2 x0)) (kD3 i arg3 harg3 x0 x1 x2 x3 x4 H h) (kD4 i arg4 harg4 x0 x1 x2 x3 x4 H h) (n_A_step i c arg2 harg2 arg3 harg3 arg4 harg4 arg5 harg5 arg6 harg6 arg7 harg7 arg8 harg8 arg9 harg9 x0 x1 x2 x3 x4) (s_A_at i c arg2 harg2 arg3 harg3 arg4 harg4 arg5 harg5 arg6 harg6 arg7 harg7 arg8 harg8 arg9 harg9 x0 x1 x2 x3 x4 H h)
    arg8 arg8.view.junk (h8_A i c arg2 harg2 arg3 harg3 arg4 harg4 arg5 harg5 arg6 harg6 arg7 harg7 arg8 harg8 arg9 harg9 x0 x1 x2 x3 x4) (h8_A_step i c arg2 harg2 arg3 harg3 arg4 harg4 arg5 harg5 arg6 harg6 arg7 harg7 arg8 harg8 arg9 harg9 x0 x1 x2 x3 x4) (fun b d e => 0) (b8_A_at i c arg2 harg2 arg3 harg3 arg4 harg4 arg5 harg5 arg6 harg6 arg7 harg7 arg8 harg8 arg9 harg9 x0 x1 x2 x3 x4 H h) b d e

theorem out_A7 (hc0 : cond0_0 i) (b : Fin 32) (d : Fin 64) (e : Fin 128) : out0_A_7 (F := Ideal) c i arg2 harg2 arg3 harg3 arg4 harg4 arg5 harg5 arg6 harg6 arg7 harg7 arg8 harg8 arg9 harg9 hc0 x0 x1 x2 x3 x4 (ix4 0 b d e)
    = (0 : EReal) + ((partV H (2048 * (i 1).val) b.val d.val e.val : ℝ) : EReal) := by
  unfold out0_A_7
  rw [View.read_writes_of_cover VO0_7 VO0_7.junk arg9.view arg9.view.junk _ (cover0_A_7 c i arg2 harg2 arg3 harg3 arg4 harg4 arg5 harg5 arg6 harg6 arg7 harg7 arg8 harg8 arg9 harg9 hc0 x0 x1 x2 x3 x4)]
  rw [run_A7]
  exact vals_at (I0_at i arg2 harg2 arg5 harg5 arg6 harg6 x0 x1 x2 x3 x4 H h) (dT_at h (get2 arg6 harg6 x4)) (kD3 i arg3 harg3 x0 x1 x2 x3 x4 H h) (kD4 i arg4 harg4 x0 x1 x2 x3 x4 H h) (n_A_step i c arg2 harg2 arg3 harg3 arg4 harg4 arg5 harg5 arg6 harg6 arg7 harg7 arg8 harg8 arg9 harg9 x0 x1 x2 x3 x4) (s_A_at i c arg2 harg2 arg3 harg3 arg4 harg4 arg5 harg5 arg6 harg6 arg7 harg7 arg8 harg8 arg9 harg9 x0 x1 x2 x3 x4 H h)
    arg9 arg9.view.junk (h9_A i c arg2 harg2 arg3 harg3 arg4 harg4 arg5 harg5 arg6 harg6 arg7 harg7 arg8 harg8 arg9 harg9 x0 x1 x2 x3 x4) (h9_A_step i c arg2 harg2 arg3 harg3 arg4 harg4 arg5 harg5 arg6 harg6 arg7 harg7 arg8 harg8 arg9 harg9 x0 x1 x2 x3 x4) (fun b d e => 0) (b9_A_at i c arg2 harg2 arg3 harg3 arg4 harg4 arg5 harg5 arg6 harg6 arg7 harg7 arg8 harg8 arg9 harg9 x0 x1 x2 x3 x4 H h) b d e

variable (xo6 xo7 : Vec Ideal S1x32x64x128 .f32)

theorem s_B_at : StAt H (2048 * (i 1).val) (2048 * (i 1).val) (n_B i c arg2 harg2 arg3 harg3 arg4 harg4 arg5 harg5 arg6 harg6 arg7 harg7 arg8 harg8 arg9 harg9 x0 x1 x2 x3 x4 xo6 xo7 0) := by
  rw [n_B_zero]
  unfold s_B
  simp only [lp2_eq]
  exact (lp1_at i c arg2 harg2 arg3 harg3 arg4 harg4 arg5 harg5 arg6 harg6 arg7 harg7 arg8 harg8 arg9 harg9 x0 x1 x2 x3 x4 H h _ _).1

theorem b8_B_at (b : Fin 32) (d : Fin 64) (e : Fin 128) : arg8.view.read (Elt Ideal) (arg8.view.writes (Elt Ideal) (harg8.unread xo6) (h8_B i c arg2 harg2 arg3 harg3 arg4 harg4 arg5 harg5 arg6 harg6 arg7 harg7 arg8 harg8 arg9 harg9 x0 x1 x2 x3 x4 xo6 xo7 0)) (ix4 0 b d e)
    = if b.val < 16 * (i 1).val then (xo6 (ix4 0 b d e) : EReal) + ((partK H (2048 * (i 1).val) b.val d.val e.val : ℝ) : EReal) else xo6 (ix4 0 b d e) := by
  show arg8.view.read (Elt Ideal) (arg8.view.writes (Elt Ideal) (harg8.unread xo6) (b8_B i c arg2 harg2 arg3 harg3 arg4 harg4 arg5 harg5 arg6 harg6 arg7 harg7 arg8 harg8 arg9 harg9 x0 x1 x2 x3 x4 xo6 xo7)) (ix4 0 b d e) = _
  unfold b8_B
  rw [lp2_eq]
  dsimp only
  rw [List.nil_append]
  refine ((lp1_at i c arg2 harg2 arg3 harg3 arg4 harg4 arg5 harg5 arg6 harg6 arg7 harg7 arg8 harg8 arg9 harg9 x0 x1 x2 x3 x4 H h _ _).2.1 b d e).trans ?_
  rw [Memref.IsWhole.read_unread]

theorem b9_B_at (b : Fin 32) (d : Fin 64) (e : Fin 128) : arg9.view.read (Elt Ideal) (arg9.view.writes (Elt Ideal) (harg9.unread xo7) (h9_B i c arg2 harg2 arg3 harg3 arg4 harg4 arg5 harg5 arg6 harg6 arg7 harg7 arg8 harg8 arg9 harg9 x0 x1 x2 x3 x4 xo6 xo7 0)) (ix4 0 b d e)
    = if b.val < 16 * (i 1).val then (xo7 (ix4 0 b d e) : EReal) + ((partV H (2048 * (i 1).val) b.val d.val e.val : ℝ) : EReal) else xo7 (ix4 0 b d e) := by
  show arg9.view.read (Elt Ideal) (arg9.view.writes (Elt Ideal) (harg9.unread xo7) (b9_B i c arg2 harg2 arg3 harg3 arg4 harg4 arg5 harg5 arg6 harg6 arg7 harg7 arg8 harg8 arg9 harg9 x0 x1 x2 x3 x4 xo6 xo7)) (ix4 0 b d e) = _
  unfold b9_B
  rw [lp2_eq]
  dsimp only
  rw [List.nil_append]
  refine ((lp1_at i c arg2 harg2 arg3 harg3 arg4 harg4 arg5 harg5 arg6 harg6 arg7 harg7 arg8 harg8 arg9 harg9 x0 x1 x2 x3 x4 H h _ _).2.2 b d e).trans ?_
  rw [Memref.IsWhole.read_unread]

theorem out_B5 (hc0 : ¬cond0_0 i) (r : Fin 2048) (d : Fin 64) : out0_B_5 (F := Ideal) c i arg2 harg2 arg3 harg3 arg4 harg4 arg5 harg5 arg6 harg6 arg7 harg7 arg8 harg8 arg9 harg9 hc0 x0 x1 x2 x3 x4 xo6 xo7 (ix3 0 r d) = ((H.Q (2048 * (i 1).val + r.val) 4096 d.val * (1 / 8) : ℝ) : EReal) := by
  unfold out0_B_5
  rw [run_B5]
  refine (outQ_read _ _ _ r d).trans ?_
  rw [(last_at16 (I0_at i arg2 harg2 arg5 harg5 arg6 harg6 x0 x1 x2 x3 x4 H h) (kD3 i arg3 harg3 x0 x1 x2 x3 x4 H h) (kD4 i arg4 harg4 x0 x1 x2 x3 x4 H h) (n_B_step i c arg2 harg2 arg3 harg3 arg4 harg4 arg5 harg5 arg6 harg6 arg7 harg7 arg8 harg8 arg9 harg9 x0 x1 x2 x3 x4 xo6 xo7) (s_B_at i c arg2 harg2 arg3 harg3 arg4 harg4 arg5 harg5 arg6 harg6 arg7 harg7 arg8 harg8 arg9 harg9 x0 x1 x2 x3 x4 H h xo6 xo7)).dq r d,
    Q_all H _ (row_le i), ceighth_f32, ← EReal.coe_mul]

theorem out_B6 (hc0 : ¬cond0_0 i) (b : Fin 32) (d : Fin 64) (e : Fin 128) : out0_B_6 (F := Ideal) c i arg2 harg2 arg3 harg3 arg4 harg4 arg5 harg5 arg6 harg6 arg7 harg7 arg8 harg8 arg9 harg9 hc0 x0 x1 x2 x3 x4 xo6 xo7 (ix4 0 b d e)
    = (xo6 (ix4 0 b d e) : EReal) + ((partK H (2048 * (i 1).val) b.val d.val e.val : ℝ) : EReal) := by
  unfold out0_B_6
  rw [run_B6]
  exact keys_at (I0_at i arg2 harg2 arg5 harg5 arg6 harg6 x0 x1 x2 x3 x4 H h) (qT_at h (get2 arg2 harg2 x0)) (kD3 i arg3 harg3 x0 x1 x2 x3 x4 H h) (kD4 i arg4 harg4 x0 x1 x2 x3 x4 H h) (n_B_step i c arg2 harg2 arg3 harg3 arg4 harg4 arg5 harg5 arg6 harg6 arg7 harg7 arg8 harg8 arg9 harg9 x0 x1 x2 x3 x4 xo6 xo7) (s_B_at i c arg2 harg2 arg3 harg3 arg4 harg4 arg5 harg5 arg6 harg6 arg7 harg7 arg8 harg8 arg9 harg9 x0 x1 x2 x3 x4 H h xo6 xo7)
    arg8 (harg8.unread xo6) (h8_B i c arg2 harg2 arg3 harg3 arg4 harg4 arg5 harg5 arg6 harg6 arg7 harg7 arg8 harg8 arg9 harg9 x0 x1 x2 x3 x4 xo6 xo7) (h8_B_step i c arg2 harg2 arg3 harg3 arg4 harg4 arg5 harg5 arg6 harg6 arg7 harg7 arg8 harg8 arg9 harg9 x0 x1 x2 x3 x4 xo6 xo7) (fun b d e => xo6 (ix4 0 b d e)) (b8_B_at i c arg2 harg2 arg3 harg3 arg4 harg4 arg5 harg5 arg6 harg6 arg7 harg7 arg8 harg8 arg9 harg9 x0 x1 x2 x3 x4 H h xo6 xo7) b d e

theorem out_B7 (hc0 : ¬cond0_0 i) (b : Fin 32) (d : Fin 64) (e : Fin 128) : out0_B_7 (F := Ideal) c i arg2 harg2 arg3 harg3 arg4 harg4 arg5 harg5 arg6 harg6 arg7 harg7 arg8 harg8 arg9 harg9 hc0 x0 x1 x2 x3 x4 xo6 xo7 (ix4 0 b d e)
    = (xo7 (ix4 0 b d e) : EReal) + ((partV H (2048 * (i 1).val) b.val d.val e.val : ℝ) : EReal) := by
  unfold out0_B_7
  rw [run_B7]
  exact vals_at (I0_at i arg2 harg2 arg5 harg5 arg6 harg6 x0 x1 x2 x3 x4 H h) (dT_at h (get2 arg6 harg6 x4)) (kD3 i arg3 harg3 x0 x1 x2 x3 x4 H h) (kD4 i arg4 harg4 x0 x1 x2 x3 x4 H h) (n_B_step i c arg2 harg2 arg3 harg3 arg4 harg4 arg5 harg5 arg6 harg6 arg7 harg7 arg8 harg8 arg9 harg9 x0 x1 x2 x3 x4 xo6 xo7) (s_B_at i c arg2 harg2 arg3 harg3 arg4 harg4 arg5 harg5 arg6 harg6 arg7 harg7 arg8 harg8 arg9 harg9 x0 x1 x2 x3 x4 H h xo6 xo7)
    arg9 (harg9.unread xo7) (h9_B i c arg2 harg2 arg3 harg3 arg4 harg4 arg5 harg5 arg6 harg6 arg7 harg7 arg8 harg8 arg9 harg9 x0 x1 x2 x3 x4 xo6 xo7) (h9_B_step i c arg2 harg2 arg3 harg3 arg4 harg4 arg5 harg5 arg6 harg6 arg7 harg7 arg8 harg8 arg9 harg9 x0 x1 x2 x3 x4 xo6 xo7) (fun b d e => xo7 (ix4 0 b d e)) (b9_B_at i c arg2 harg2 arg3 harg3 arg4 harg4 arg5 harg5 arg6 harg6 arg7 harg7 arg8 harg8 arg9 harg9 x0 x1 x2 x3 x4 H h xo6 xo7) b d e

end

end Cert.AttnBwdIdeal.Value

end
-- ==== Proof.AttnRead.lean ====
/- What the attention kernel's windows hold at each grid point: its head's operands. -/
module

public import proofs.«01_k».proof.Proof.AttnHost
public import proofs.«01_k».proof.Proof.AttnOut

@[expose] public section

set_option maxRecDepth 16384

noncomputable section

namespace Cert.AttnBwdIdeal.Value

open Cert.AttnBwdIdeal Cert.AttnBwdIdeal.Gen Cert.AttnBwdIdeal.Facts Cert.Reals Cert.AttnTile Idealize.ShloMosaic Idealize.ShloMosaic.TcCoe Idealize.SL.Sem
open Cert.AttnRefIdeal.Value (wR tailR hd rd)

variable (m : (ℓ : Loc nD τ sig) → Buf (Elt Ideal) ℓ) (c : Dev nD)

/-- The windows' block indices: head and half of the queries. -/
theorem idx : ∀ t : Fin cfg0.N, win0_0.index t = ![t.val / 2, t.val % 2, 0] ∧ win0_1.index t = ![16 + t.val / 2, 0, 0] ∧ win0_2.index t = ![32 + t.val / 2, 0, 0]
    ∧ win0_3.index t = ![t.val / 2, t.val % 2, 0] ∧ win0_4.index t = ![t.val / 2, t.val % 2, 0] ∧ win0_5.index t = ![t.val / 2, t.val % 2, 0]
    ∧ win0_6.index t = ![t.val / 2, 0, 0, 0] ∧ win0_7.index t = ![t.val / 2, 0, 0, 0] :=
  (by decide +kernel : ∀ t : Fin grid0.N, _)

theorem half : ∀ t : Fin cfg0.N, (grid0.coords t 1).val = t.val % 2 :=
  (by decide +kernel : ∀ t : Fin grid0.N, _)

/-- Queries, keys and values one above the other. -/
abbrev catA (x y z : FVec Ideal S16x4096x64 .f32) : FVec Ideal S48x4096x64 .bf16 :=
  truncf (F := Ideal) .bf16 (concatenate S48x4096x64 0 [⟨S16x4096x64, x⟩, ⟨S16x4096x64, y⟩, ⟨S16x4096x64, z⟩]
    concatenates_S16x4096x64_S16x4096x64_S16x4096x64_S48x4096x64_d0) bitsLt_bf16_f32

variable (x y z : FVec Ideal S16x4096x64 .f32)

theorem cat_q (h : Fin 16) (s : Fin 4096) (d : Fin 64) : catA x y z (ix3 ⟨h.val, by omega⟩ s d) = x (ix3 h s d) := by
  pointwise

theorem cat_k (h : Fin 16) (s : Fin 4096) (d : Fin 64) : catA x y z (ix3 ⟨16 + h.val, by omega⟩ s d) = y (ix3 h s d) := by
  pointwise

theorem cat_v (h : Fin 16) (s : Fin 4096) (d : Fin 64) : catA x y z (ix3 ⟨32 + h.val, by omega⟩ s d) = z (ix3 h s d) := by
  pointwise
  rw [dif_neg (by omega), dif_neg (by omega)]
  exact congrArg z (congrArg (ix3 · s d) (Fin.ext (by show 32 + h.val - 16 - 16 = h.val; omega)))

theorem tot_at (h : Fin 16) (s : Fin 4096) (w : FVec Ideal S16x4096x4096 .f32) : concatenate S16x4096x128 2 [⟨S16x4096x64, x⟩, ⟨S16x4096x64, broadcastInDim S16x4096x64 ![0, 1, 2] bcast_S16x4096x1_S16x4096x64_0_1_2
        (extractStridedSlice S16x4096x1 ![0, 0, 0] w slices_S16x4096x4096_S16x4096x1_0_0_0)⟩]
    concatenates_S16x4096x64_S16x4096x64_S16x4096x128_d2 (ix3 h s 64) = w (ix3 h s 0) := by
  pointwise

theorem rd0 (t : Fin cfg0.N) (r : Fin 2048) (d : Fin 64) (h : Fin 16) (hh : h.val = t.val / 2) (s : Fin 4096) (hs : s.val = t.val % 2 * 2048 + r.val) :
    iblk m c 0 t (ix3 0 r d) = qA m c (ix3 h s d) := by
  rw [← cat_q (qA m c) (kA m c) (vA m c) h s d]
  blk_simp [iblk, idx t, V_v24 m c]
  blk_ext [idx t]

theorem rd1 (t : Fin cfg0.N) (s : Fin 4096) (d : Fin 64) (h : Fin 16) (hh : h.val = t.val / 2) :
    iblk m c 1 t (ix3 0 s d) = kA m c (ix3 h s d) := by
  rw [← cat_k (qA m c) (kA m c) (vA m c) h s d]
  blk_simp [iblk, idx t, V_v24 m c]
  blk_ext [idx t]

theorem rd2 (t : Fin cfg0.N) (s : Fin 4096) (d : Fin 64) (h : Fin 16) (hh : h.val = t.val / 2) :
    iblk m c 2 t (ix3 0 s d) = vA m c (ix3 h s d) := by
  rw [← cat_v (qA m c) (kA m c) (vA m c) h s d]
  blk_simp [iblk, idx t, V_v24 m c]
  blk_ext [idx t]

theorem rd3_of (X : FVec Ideal S16x4096x128 .f32) (hV : V m c main_v22 = X) (t : Fin cfg0.N) (r : Fin 2048) (h : Fin 16) (hh : h.val = t.val / 2)
    (s : Fin 4096) (hs : s.val = t.val % 2 * 2048 + r.val) : iblk m c 3 t (ix3 0 r 64) = X (ix3 h s 64) := by
  blk_simp [iblk, idx t, hV]
  blk_ext [idx t]

theorem rd3 (t : Fin cfg0.N) (r : Fin 2048) (h : Fin 16) (hh : h.val = t.val / 2) (s : Fin 4096) (hs : s.val = t.val % 2 * 2048 + r.val) :
    iblk m c 3 t (ix3 0 r 64) = tailR (qA m c) (kA m c) (ix3 h s 0) :=
  (rd3_of m c _ (V_v22 m c) t r h hh s hs).trans (tot_at _ h s _)

theorem rd4 (t : Fin cfg0.N) (r : Fin 2048) (d : Fin 64) (h : Fin 16) (hh : h.val = t.val / 2) (s : Fin 4096) (hs : s.val = t.val % 2 * 2048 + r.val) :
    iblk m c 4 t (ix3 0 r d) = ctA m c (ix3 h s d) := by
  blk_simp [iblk, idx t, V_v25 m c]
  blk_ext [idx t]

/-- Every element is a real. -/
abbrev Fin' (x : FVec Ideal S16x4096x64 .f32) : Prop := ∀ i, ∃ r : ℝ, x i = r

/-- A head of the arguments. -/
abbrev hdA (h : Fin 16) : Head := hd (qA m c) (kA m c) (vA m c) (ctA m c) h

variable (hq : Fin' (qA m c)) (hk : Fin' (kA m c)) (hv : Fin' (vA m c)) (hct : Fin' (ctA m c))

include hq hk hv hct in
/-- A grid point's blocks are its head's. -/
theorem pt_at (t : Fin cfg0.N) (h : Fin 16) (hh : h.val = t.val / 2) :
    PtAt (hdA m c h) (2048 * (grid0.coords t 1).val) (iblk m c 0 t) (iblk m c 1 t) (iblk m c 2 t) (iblk m c 3 t) (iblk m c 4 t) := by
  have hb : t.val % 2 < 2 := Nat.mod_lt _ (by norm_num)
  rw [half t]
  have row : ∀ r : Fin 2048, 2048 * (t.val % 2) + r.val < 4096 := fun r => by omega
  have rowe : ∀ r : Fin 2048, (⟨2048 * (t.val % 2) + r.val, row r⟩ : Fin 4096).val = t.val % 2 * 2048 + r.val := fun r => by
    show 2048 * (t.val % 2) + r.val = _; omega
  refine ⟨fun r d => ?_, fun r d => ?_, fun r d => ?_, fun r => ?_, fun r d => ?_⟩
  · refine (rd0 m c t r d h hh _ (rowe r)).trans ((Cert.AttnRefIdeal.Value.rd_at _ hq h _ d).trans (congrArg _ ?_))
    show rd (qA m c) h (2048 * (t.val % 2) + r.val) d.val = 8 * (rd (qA m c) h (2048 * (t.val % 2) + r.val) d.val / 8)
    ring
  · exact (rd1 m c t r d h hh).trans (Cert.AttnRefIdeal.Value.rd_at _ hk h _ d)
  · exact (rd2 m c t r d h hh).trans (Cert.AttnRefIdeal.Value.rd_at _ hv h _ d)
  · refine (rd3 m c t r h hh _ (rowe r)).trans ((Cert.AttnRefIdeal.Value.tail_at _ _ (vA m c) (ctA m c) hq hk h _ 0).trans (congrArg _ ?_))
    show Head.P _ _ 4096 - Head.P _ _ 0 = _
    unfold Head.P
    rw [Finset.range_zero, Finset.sum_empty, sub_zero]
  · exact (rd4 m c t r d h hh _ (rowe r)).trans (Cert.AttnRefIdeal.Value.rd_at _ hct h _ d)

end Cert.AttnBwdIdeal.Value

end
-- ==== Proof.AttnPts.lean ====
/- What the attention kernel's grid points leave of the three results. -/
module

public import proofs.«01_k».proof.Proof.AttnRead

@[expose] public section

set_option maxRecDepth 16384

noncomputable section

namespace Cert.AttnBwdIdeal.Value

open Cert.AttnBwdIdeal Cert.AttnBwdIdeal.Gen Cert.AttnBwdIdeal.Facts Cert.Reals Cert.AttnTile Idealize.ShloMosaic Idealize.ShloMosaic.TcCoe Idealize.SL.Sem
open Cert.AttnRefIdeal.Value (wR tailR hd rd)

variable (m : (ℓ : Loc nD τ sig) → Buf (Elt Ideal) ℓ) (c : Dev nD)

section

variable (t : Fin cfg0.N) (H : Head) (p : PtAt H (2048 * (grid0.coords t 1).val) (iblk m c 0 t) (iblk m c 1 t) (iblk m c 2 t) (iblk m c 3 t) (iblk m c 4 t))
include p

/-- What a grid point leaves of the queries' gradient. -/
theorem dq_pt (r : Fin 2048) (d : Fin 64) :
    (outsAt0 m c t.val t.isLt).1 (ix3 0 r d) = ((H.Q (2048 * (grid0.coords t 1).val + r.val) 4096 d.val * (1 / 8) : ℝ) : EReal) := by
  by_cases h0 : t.val % 2 = 0
  · rw [outsAt0_A m c t h0]
    dsimp only
    rw [out_A5 (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) H p ((hcond0_0 t).mpr h0) r d]
  · rw [outsAt0_B m c t h0]
    dsimp only
    rw [out_B5 (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) H p _ _ _ r d]

/-- What the first point of a head leaves of the keys' gradient. -/
theorem k_first (h0 : t.val % 2 = 0) (b : Fin 32) (d : Fin 64) (e : Fin 128) :
    (outsAt0 m c t.val t.isLt).2.1 (ix4 0 b d e) = 0 + ((partK H (2048 * (grid0.coords t 1).val) b.val d.val e.val : ℝ) : EReal) := by
  rw [outsAt0_A m c t h0]
  dsimp only
  rw [out_A6 (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) H p ((hcond0_0 t).mpr h0) b d e]

/-- What the first point of a head leaves of the values' gradient. -/
theorem v_first (h0 : t.val % 2 = 0) (b : Fin 32) (d : Fin 64) (e : Fin 128) :
    (outsAt0 m c t.val t.isLt).2.2 (ix4 0 b d e) = 0 + ((partV H (2048 * (grid0.coords t 1).val) b.val d.val e.val : ℝ) : EReal) := by
  rw [outsAt0_A m c t h0]
  dsimp only
  rw [out_A7 (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) H p ((hcond0_0 t).mpr h0) b d e]

/-- What the second adds to the keys' gradient. -/
theorem k_second (h0 : ¬t.val % 2 = 0) (b : Fin 32) (d : Fin 64) (e : Fin 128) :
    (outsAt0 m c t.val t.isLt).2.1 (ix4 0 b d e) = (outsAt0 m c (t.val - 1) (Nat.lt_of_le_of_lt (Nat.sub_le _ _) t.isLt)).2.1 (ix4 0 b d e)
      + ((partK H (2048 * (grid0.coords t 1).val) b.val d.val e.val : ℝ) : EReal) := by
  rw [outsAt0_B m c t h0]
  dsimp only
  rw [out_B6 (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) H p _ _ _ b d e]

/-- What the second adds to the values' gradient. -/
theorem v_second (h0 : ¬t.val % 2 = 0) (b : Fin 32) (d : Fin 64) (e : Fin 128) :
    (outsAt0 m c t.val t.isLt).2.2 (ix4 0 b d e) = (outsAt0 m c (t.val - 1) (Nat.lt_of_le_of_lt (Nat.sub_le _ _) t.isLt)).2.2 (ix4 0 b d e)
      + ((partV H (2048 * (grid0.coords t 1).val) b.val d.val e.val : ℝ) : EReal) := by
  rw [outsAt0_B m c t h0]
  dsimp only
  rw [out_B7 (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) H p _ _ _ b d e]

end

theorem partK_add (H : Head) (b d e : ℕ) : partK H 0 b d e + partK H 2048 b d e = ∑ t ∈ Finset.range 4096, H.q t d * H.G t (128 * b + e) := by
  unfold partK
  rw [show 4096 = 2048 + 2048 from rfl, Finset.sum_range_add]
  simp only [zero_add]

theorem partV_add (H : Head) (b d e : ℕ) : partV H 0 b d e + partV H 2048 b d e = ∑ t ∈ Finset.range 4096, H.ct t d * H.W t (128 * b + e) := by
  unfold partV
  rw [show 4096 = 2048 + 2048 from rfl, Finset.sum_range_add]
  simp only [zero_add]

end Cert.AttnBwdIdeal.Value

end
-- ==== Proof.AttnFinal.lean ====
/- The attention kernel's three results over the whole arrays. -/
module

public import proofs.«01_k».proof.Proof.AttnPts

@[expose] public section

set_option maxRecDepth 16384

noncomputable section

namespace Cert.AttnBwdIdeal.Value

open Cert.AttnBwdIdeal Cert.AttnBwdIdeal.Gen Cert.AttnBwdIdeal.Facts Cert.Reals Cert.AttnTile Idealize.ShloMosaic Idealize.ShloMosaic.TcCoe Idealize.SL.Sem
open Cert.AttnRefIdeal.Value (wR tailR hd rd)

variable (m : (ℓ : Loc nD τ sig) → Buf (Elt Ideal) ℓ) (c : Dev nD)

theorem dq_of (f : Fin 16 → ℕ → ℕ → EReal) (t : Fin cfg0.N) (X : S1x2048x64.Idx → EReal)
    (hX : ∀ (h : Fin 16), h.val = t.val / 2 → ∀ r d, X (ix3 0 r d) = f h (2048 * (t.val % 2) + r.val) d.val)
    (y : S1x2048x64.Idx) (j : S16x4096x64.Idx) (h0 : (j 0).val = t.val / 2) (h1 : (j 1).val = t.val % 2 * 2048 + (y 1).val) (h2 : (j 2).val = (y 2).val) :
    X y = f (j 0) (j 1).val (j 2).val := by
  obtain ⟨a, r, d, rfl⟩ : ∃ (a : Fin 1) (r : Fin 2048) (d : Fin 64), y = ix3 a r d := ⟨_, _, _, eq_ix3 y⟩
  obtain rfl : a = 0 := Subsingleton.elim _ _
  rw [hX (j 0) h0, h1, h2]
  exact congrArg₂ (f (j 0)) (congrArg (· + r.val) (Nat.mul_comm _ _)) rfl

theorem kv_of (f : Fin 16 → ℕ → ℕ → ℕ → EReal) (t : Fin cfg0.N) (X : S1x32x64x128.Idx → EReal)
    (hX : ∀ (h : Fin 16), h.val = t.val / 2 → ∀ b d e, X (ix4 0 b d e) = f h b.val d.val e.val)
    (y : S1x32x64x128.Idx) (j : S16x32x64x128.Idx) (h0 : (j 0).val = t.val / 2) (h1 : (j 1).val = (y 1).val) (h2 : (j 2).val = (y 2).val) (h3 : (j 3).val = (y 3).val) :
    X y = f (j 0) (j 1).val (j 2).val (j 3).val := by
  obtain ⟨a, b, d, e, rfl⟩ : ∃ (a : Fin 1) (b : Fin 32) (d : Fin 64) (e : Fin 128), y = ix4 a b d e := ⟨_, _, _, _, eq_ix4 y⟩
  obtain rfl : a = 0 := Subsingleton.elim _ _
  rw [hX (j 0) h0, h1, h2, h3]
  rfl

theorem flush6 : ∀ t : Fin cfg0.N, (cfg0.win 6).flush t = true → ¬t.val % 2 = 0 :=
  (by decide +kernel : ∀ t : Fin grid0.N, _)

theorem flush7 : ∀ t : Fin cfg0.N, (cfg0.win 7).flush t = true → ¬t.val % 2 = 0 :=
  (by decide +kernel : ∀ t : Fin grid0.N, _)

theorem final5_of (f : S16x4096x64.Idx → EReal) (hX : ∀ t : Fin cfg0.N, ∀ (y : S1x2048x64.Idx) (j : S16x4096x64.Idx), (j 0).val = t.val / 2 → (j 1).val = t.val % 2 * 2048 + (y 1).val → (j 2).val = (y 2).val
      → (outsAt0 m c t.val t.isLt).1 y = f j) : (dats m 0 c).arrAt 5 cfg0.N = f := by
  refine (dats m 0 c).arrAt_eq_of_covers 5 _ (by decide +kernel) fun t hf y => ?_
  blk_simp
  rw [after0_5]
  have h0 : ((win0_5.blk t).view.emb y 0 : ℕ) = t.val / 2 := by blk_simp [idx t]
  have h1 : ((win0_5.blk t).view.emb y 1 : ℕ) = t.val % 2 * 2048 + (y 1 : ℕ) := by blk_simp [idx t]
  have h2 : ((win0_5.blk t).view.emb y 2 : ℕ) = (y 2 : ℕ) := by blk_simp [idx t]
  exact hX t y _ h0 h1 h2

theorem final6_of (f : S16x32x64x128.Idx → EReal) (hX : ∀ t : Fin cfg0.N, ¬t.val % 2 = 0 → ∀ (y : S1x32x64x128.Idx) (j : S16x32x64x128.Idx), (j 0).val = t.val / 2 → (j 1).val = (y 1).val → (j 2).val = (y 2).val → (j 3).val = (y 3).val
      → (outsAt0 m c t.val t.isLt).2.1 y = f j) : (dats m 0 c).arrAt 6 cfg0.N = f := by
  refine (dats m 0 c).arrAt_eq_of_covers 6 _ (by decide +kernel) fun t hf y => ?_
  blk_simp
  rw [after0_6]
  have h0 : ((win0_6.blk t).view.emb y 0 : ℕ) = t.val / 2 := by blk_simp [idx t]
  have h1 : ((win0_6.blk t).view.emb y 1 : ℕ) = (y 1 : ℕ) := by blk_simp [idx t]
  have h2 : ((win0_6.blk t).view.emb y 2 : ℕ) = (y 2 : ℕ) := by blk_simp [idx t]
  have h3 : ((win0_6.blk t).view.emb y 3 : ℕ) = (y 3 : ℕ) := by blk_simp [idx t]
  exact hX t (flush6 t hf) y _ h0 h1 h2 h3

theorem final7_of (f : S16x32x64x128.Idx → EReal) (hX : ∀ t : Fin cfg0.N, ¬t.val % 2 = 0 → ∀ (y : S1x32x64x128.Idx) (j : S16x32x64x128.Idx), (j 0).val = t.val / 2 → (j 1).val = (y 1).val → (j 2).val = (y 2).val → (j 3).val = (y 3).val
      → (outsAt0 m c t.val t.isLt).2.2 y = f j) : (dats m 0 c).arrAt 7 cfg0.N = f := by
  refine (dats m 0 c).arrAt_eq_of_covers 7 _ (by decide +kernel) fun t hf y => ?_
  blk_simp
  rw [after0_7]
  have h0 : ((win0_7.blk t).view.emb y 0 : ℕ) = t.val / 2 := by blk_simp [idx t]
  have h1 : ((win0_7.blk t).view.emb y 1 : ℕ) = (y 1 : ℕ) := by blk_simp [idx t]
  have h2 : ((win0_7.blk t).view.emb y 2 : ℕ) = (y 2 : ℕ) := by blk_simp [idx t]
  have h3 : ((win0_7.blk t).view.emb y 3 : ℕ) = (y 3 : ℕ) := by blk_simp [idx t]
  exact hX t (flush7 t hf) y _ h0 h1 h2 h3

variable (hq : Fin' (qA m c)) (hk : Fin' (kA m c)) (hv : Fin' (vA m c)) (hct : Fin' (ctA m c))

include hq hk hv hct

/-- What a grid point leaves of the queries' gradient. -/
theorem dq_head (t : Fin cfg0.N) (h : Fin 16) (hh : h.val = t.val / 2) (r : Fin 2048) (d : Fin 64) :
    (outsAt0 m c t.val t.isLt).1 (ix3 0 r d) = (((hdA m c h).Q (2048 * (t.val % 2) + r.val) 4096 d.val * (1 / 8) : ℝ) : EReal) := by
  rw [dq_pt m c t (hdA m c h) (pt_at m c hq hk hv hct t h hh), half t]

/-- The point before a head's second. -/
theorem before (t : Fin cfg0.N) (h0 : ¬t.val % 2 = 0) (h : Fin 16) (hh : h.val = t.val / 2) (b : Fin 32) (d : Fin 64) (e : Fin 128) :
    (outsAt0 m c (t.val - 1) (Nat.lt_of_le_of_lt (Nat.sub_le _ _) t.isLt)).2.1 (ix4 0 b d e) = ((partK (hdA m c h) 0 b.val d.val e.val : ℝ) : EReal)
    ∧ (outsAt0 m c (t.val - 1) (Nat.lt_of_le_of_lt (Nat.sub_le _ _) t.isLt)).2.2 (ix4 0 b d e) = ((partV (hdA m c h) 0 b.val d.val e.val : ℝ) : EReal) := by
  have hlt : t.val - 1 < cfg0.N := Nat.lt_of_le_of_lt (Nat.sub_le _ _) t.isLt
  have e0 : (t.val - 1) % 2 = 0 := by omega
  have p := pt_at m c hq hk hv hct ⟨t.val - 1, hlt⟩ h (by show h.val = (t.val - 1) / 2; omega)
  have hz : 2048 * (grid0.coords (⟨t.val - 1, hlt⟩ : Fin cfg0.N) 1).val = 0 := by
    rw [half ⟨t.val - 1, hlt⟩]
    show 2048 * ((t.val - 1) % 2) = 0
    omega
  have f6 := k_first m c ⟨t.val - 1, hlt⟩ (hdA m c h) p e0 b d e
  have f7 := v_first m c ⟨t.val - 1, hlt⟩ (hdA m c h) p e0 b d e
  rw [hz, zero_add] at f6 f7
  exact ⟨f6, f7⟩

/-- What a head's second point leaves of the keys' gradient. -/
theorem k_head (t : Fin cfg0.N) (h0 : ¬t.val % 2 = 0) (h : Fin 16) (hh : h.val = t.val / 2) (b : Fin 32) (d : Fin 64) (e : Fin 128) :
    (outsAt0 m c t.val t.isLt).2.1 (ix4 0 b d e) = ((∑ t ∈ Finset.range 4096, (hdA m c h).q t d * (hdA m c h).G t (128 * b + e) : ℝ) : EReal) := by
  have e1 : 2048 * (grid0.coords t 1).val = 2048 := by rw [half t]; omega
  rw [k_second m c t (hdA m c h) (pt_at m c hq hk hv hct t h hh) h0, (before m c hq hk hv hct t h0 h hh b d e).1, e1, ← EReal.coe_add, partK_add]

/-- What a head's second point leaves of the values' gradient. -/
theorem v_head (t : Fin cfg0.N) (h0 : ¬t.val % 2 = 0) (h : Fin 16) (hh : h.val = t.val / 2) (b : Fin 32) (d : Fin 64) (e : Fin 128) :
    (outsAt0 m c t.val t.isLt).2.2 (ix4 0 b d e) = ((∑ t ∈ Finset.range 4096, (hdA m c h).ct t d * (hdA m c h).W t (128 * b + e) : ℝ) : EReal) := by
  have e1 : 2048 * (grid0.coords t 1).val = 2048 := by rw [half t]; omega
  rw [v_second m c t (hdA m c h) (pt_at m c hq hk hv hct t h hh) h0, (before m c hq hk hv hct t h0 h hh b d e).2, e1, ← EReal.coe_add, partV_add]

/-- The queries' gradient. -/
theorem final5 : (dats m 0 c).arrAt 5 cfg0.N = fun j => (((hdA m c (j 0)).Q (j 1).val 4096 (j 2).val * (1 / 8) : ℝ) : EReal) :=
  final5_of m c _ fun t y j => dq_of (fun h s d => (((hdA m c h).Q s 4096 d * (1 / 8) : ℝ) : EReal)) t _
    (dq_head m c hq hk hv hct t) y j

/-- The keys' gradient, tiled. -/
theorem final6 : (dats m 0 c).arrAt 6 cfg0.N
    = fun j => ((∑ t ∈ Finset.range 4096, (hdA m c (j 0)).q t (j 2).val * (hdA m c (j 0)).G t (128 * (j 1).val + (j 3).val) : ℝ) : EReal) :=
  final6_of m c _ fun t h0 y j => kv_of (fun h b d e => ((∑ t ∈ Finset.range 4096, (hdA m c h).q t d * (hdA m c h).G t (128 * b + e) : ℝ) : EReal)) t _
    (k_head m c hq hk hv hct t h0) y j

/-- The values' gradient, tiled. -/
theorem final7 : (dats m 0 c).arrAt 7 cfg0.N
    = fun j => ((∑ t ∈ Finset.range 4096, (hdA m c (j 0)).ct t (j 2).val * (hdA m c (j 0)).W t (128 * (j 1).val + (j 3).val) : ℝ) : EReal) :=
  final7_of m c _ fun t h0 y j => kv_of (fun h b d e => ((∑ t ∈ Finset.range 4096, (hdA m c h).ct t d * (hdA m c h).W t (128 * b + e) : ℝ) : EReal)) t _
    (v_head m c hq hk hv hct t h0) y j

end Cert.AttnBwdIdeal.Value

end
-- ==== Proof.AttnAlg.lean ====
/- The attention's backward call against the derivative of its forward lines: the claims about the pair. -/
module

public import proofs.«01_k».proof.Defs
public import proofs.«01_k».proof.Proof.Gen.Pre_attn_finite
public import proofs.«01_k».proof.Proof.Gen.AttnBwd.Frame
public import proofs.«01_k».proof.Proof.AttnFinal

@[expose] public section

set_option maxRecDepth 16384

noncomputable section

namespace Cert.AttnPair

open Cert.AttnRefIdeal Cert.AttnRefIdeal.Gen Cert.AttnRefIdeal.Value Cert.Reals Idealize.ShloMosaic Idealize.ShloMosaic.TcCoe Idealize.SL.Sem
open Cert.AttnBwdIdeal.Value (Fin' final5 final6 final7)

/-- The precondition says that all arguments are real. -/
theorem decode (q k v ct : FVec Ideal S16x4096x64 .f32) (hp : Cert.Pre_attn_finite.fn (F := Ideal) q k v ct = fun _ => 1#1) :
    Fin' q ∧ Fin' k ∧ Fin' v ∧ Fin' ct := by
  have h0 := congrFun hp (fun i => i.elim0)
  obtain ⟨h1, hct⟩ := andi_one h0
  obtain ⟨h2, hv⟩ := andi_one h1
  obtain ⟨hq, hk⟩ := andi_one h2
  haveI : Subsingleton S_.Idx := ⟨fun a b => funext fun i => i.elim0⟩
  exact ⟨all_real _ _ _ _ _ inf_f32 _ hq, all_real _ _ _ _ _ inf_f32 _ hk, all_real _ _ _ _ _ inf_f32 _ hv, all_real _ _ _ _ _ inf_f32 _ hct⟩

section

variable (q k v ct : FVec Ideal S16x4096x64 .f32) (hq : Fin' q) (hk : Fin' k) (hv : Fin' v) (hct : Fin' ct)

include hq hk hv hct in
theorem dq_eq : dqR q k v ct = fun j => (((hd q k v ct (j 0)).Q (j 1).val 4096 (j 2).val * (1 / 8) : ℝ) : EReal) := by
  funext j
  obtain ⟨h, t, d, rfl⟩ : ∃ (h : Fin 16) (t : Fin 4096) (d : Fin 64), j = ix3 h t d := ⟨_, _, _, eq_ix3 j⟩
  exact dq_at q k v ct hq hk hv hct h t d

include hq hk hv hct in
theorem dk_eq : dkR q k v ct
    = fun j => ((∑ t ∈ Finset.range 4096, (hd q k v ct (j 0)).q t (j 2).val * (hd q k v ct (j 0)).G t (128 * (j 1).val + (j 3).val) : ℝ) : EReal) := by
  funext j
  obtain ⟨h, b, d, e, rfl⟩ : ∃ (h : Fin 16) (b : Fin 32) (d : Fin 64) (e : Fin 128), j = ix4 h b d e := ⟨_, _, _, _, eq_ix4 j⟩
  exact dk_at q k v ct hq hk hv hct h b d e

include hq hk hv hct in
theorem dv_eq : dvR q k ct
    = fun j => ((∑ t ∈ Finset.range 4096, (hd q k v ct (j 0)).ct t (j 2).val * (hd q k v ct (j 0)).W t (128 * (j 1).val + (j 3).val) : ℝ) : EReal) := by
  funext j
  obtain ⟨h, b, d, e, rfl⟩ : ∃ (h : Fin 16) (b : Fin 32) (d : Fin 64) (e : Fin 128), j = ix4 h b d e := ⟨_, _, _, _, eq_ix4 j⟩
  exact dv_at q k v ct hq hk hv hct h b d e

end

/-- The reference's frame. -/
theorem frame_ref : Cert.quiescent_AttnRefIdeal := fun m ρ _ =>
  (θ_run Cert.AttnRefIdeal.defs _ _).mono (fun r h => ⟨fun c => (h c).2.2.2, Idealize.ShloMosaic.sem_eq_zero_of_no_sems (by decide) r.2⟩) (Cert.AttnRefIdeal.Value.run (F := Ideal) m ρ)

theorem frame_ref_pre : Cert.quiescent_AttnRefIdeal_pre_attn_finite := fun m ρ _ => frame_ref m ρ trivial

/-- Kernel and reference return the same three arrays. -/
theorem algebraic : Cert.algebraic_AttnBwdIdeal_AttnRefIdeal_pre_attn_finite := by
  intro m ρ m' ρ' hp ha
  refine ⟨fun c => (Cert.AttnBwdIdeal.Gen.dats m 0 c).arrAt 5 Cert.AttnBwdIdeal.cfg0.N, fun c => (Cert.AttnBwdIdeal.Gen.dats m 0 c).arrAt 6 Cert.AttnBwdIdeal.cfg0.N,
    fun c => (Cert.AttnBwdIdeal.Gen.dats m 0 c).arrAt 7 Cert.AttnBwdIdeal.cfg0.N, Cert.AttnBwdIdeal.Value.run_blocks m ρ, ?_⟩
  refine (θ_run Cert.AttnRefIdeal.defs _ _).mono (fun r h c => ?_) (Cert.AttnRefIdeal.Value.run (F := Ideal) m' ρ')
  obtain ⟨r0, r1, r2, keep⟩ := h c
  obtain ⟨h0, h1, h2, h3⟩ := ha c
  obtain ⟨fq, fk, fv, fct⟩ := decode _ _ _ _ (hp c)
  refine ⟨?_, ?_, ?_, keep⟩
  · refine r0.trans ((res0_eq m' c).trans ?_)
    rw [h0, h1, h2, h3]
    exact (dq_eq _ _ _ _ fq fk fv fct).trans (final5 m c fq fk fv fct).symm
  · refine r1.trans ((res1_eq m' c).trans ?_)
    rw [h0, h1, h2, h3]
    exact (dk_eq _ _ _ _ fq fk fv fct).trans (final6 m c fq fk fv fct).symm
  · refine r2.trans ((res2_eq m' c).trans ?_)
    rw [h0, h1, h3]
    exact (dv_eq _ _ _ _ fq fk fv fct).trans (final7 m c fq fk fv fct).symm

/-- All claims about the pair. -/
theorem claims : (Cert.quiescent_AttnBwd ∧ Cert.quiescent_AttnBwdIdeal ∧ Cert.quiescent_AttnBwdIdeal_pre_attn_finite ∧ Cert.quiescent_AttnRefIdeal
    ∧ Cert.quiescent_AttnRefIdeal_pre_attn_finite) ∧ Cert.preserves_AttnBwd_AttnBwdIdeal ∧ Cert.algebraic_AttnBwdIdeal_AttnRefIdeal_pre_attn_finite :=
  ⟨⟨fun m ρ _ => Cert.AttnBwd.Gen.frame m ρ, fun m ρ _ => Cert.AttnBwdIdeal.Gen.frame m ρ, fun m ρ _ => Cert.AttnBwdIdeal.Gen.frame m ρ,
    frame_ref, frame_ref_pre⟩, trivial, algebraic⟩

end Cert.AttnPair

end
-- ==== Proof.PostRow.lean ====
/- The step after the two head groups, on real numbers: the gated norms, the output product, the loss and what each hands back, row by row.
   Rows and columns are numbered by naturals, so that a block of rows is a shift. -/
module

public import proofs.«01_k».proof.Proof.Rms

@[expose] public section

noncomputable section

namespace Cert.Reals

open Idealize.ShloMosaic

def sg (v : ℝ) : ℝ := 1 / (1 + Real.exp (-v))
def silu (v : ℝ) : ℝ := v * sg v
def dsilu (v : ℝ) : ℝ := sg v * (1 + v * (1 - sg v))

/-- The inverse root of a row's mean square. -/
def rinv (f : ℕ → ℝ) : ℝ := (√((∑ l : Fin 1024, f l.val * f l.val) / 1024 + eps))⁻¹

/-- The normed row. -/
def hat (f : ℕ → ℝ) (j : ℕ) : ℝ := f j * rinv f

/-- What the norm of the row `f` hands back of the cotangent `d`. -/
def back (f d : ℕ → ℝ) (j : ℕ) : ℝ := rinv f * (d j - hat f j * ((∑ l : Fin 1024, d l.val * hat f l.val) / 1024))

/-- The arguments: rows of the stream, the target, the attention's and the scan's outputs and their gates, the weights and the gains. -/
structure Step where
  x : ℕ → ℕ → ℝ
  t : ℕ → ℕ → ℝ
  o : ℕ → ℕ → ℝ
  y : ℕ → ℕ → ℝ
  za : ℕ → ℕ → ℝ
  zs : ℕ → ℕ → ℝ
  w : ℕ → ℕ → ℝ
  gate : ℕ → ℝ
  gb : ℕ → ℝ
  gs : ℕ → ℝ
  gf : ℕ → ℝ

namespace Step

variable (P : Step)

/-- The step from row `a` on. -/
def from_ (a : ℕ) : Step where
  x i := P.x (a + i)
  t i := P.t (a + i)
  o i := P.o (a + i)
  y i := P.y (a + i)
  za i := P.za (a + i)
  zs i := P.zs (a + i)
  w := P.w
  gate := P.gate
  gb := P.gb
  gs := P.gs
  gf := P.gf

def ya (i j : ℕ) : ℝ := hat (P.o i) j * P.gb j * silu (P.za i j)
def u (i j : ℕ) : ℝ := P.y i j * silu (P.zs i j)
def ys (i j : ℕ) : ℝ := hat (P.u i) j * P.gs j
def mixed (i j : ℕ) : ℝ := ∑ k : Fin 1024, P.ya i k.val * P.w k.val j + ∑ k : Fin 1024, P.ys i k.val * P.w (1024 + k.val) j
def x2 (i j : ℕ) : ℝ := P.x i j + P.gate j * P.mixed i j
def diff (i j : ℕ) : ℝ := hat (P.x2 i) j * P.gf j - P.t i j
def dout (i j : ℕ) : ℝ := P.diff i j * (1 / 1024)
def dxh (i j : ℕ) : ℝ := P.dout i j * P.gf j
def dx2 (i j : ℕ) : ℝ := back (P.x2 i) (P.dxh i) j
def dm (i j : ℕ) : ℝ := P.dx2 i j * P.gate j
def dya (i k : ℕ) : ℝ := ∑ b : Fin 1024, P.dm i b.val * P.w k b.val
def dys (i k : ℕ) : ℝ := ∑ b : Fin 1024, P.dm i b.val * P.w (1024 + k) b.val
def dza (i j : ℕ) : ℝ := P.dya i j * hat (P.o i) j * P.gb j * dsilu (P.za i j)
def da (i j : ℕ) : ℝ := P.dya i j * P.gb j * silu (P.za i j)
def do_ (i j : ℕ) : ℝ := back (P.o i) (P.da i) j
def dus (i j : ℕ) : ℝ := P.dys i j * P.gs j
def du (i j : ℕ) : ℝ := back (P.u i) (P.dus i) j
def dy (i j : ℕ) : ℝ := P.du i j * silu (P.zs i j)
def dzs (i j : ℕ) : ℝ := P.du i j * P.y i j * dsilu (P.zs i j)

/-! What a row adds to the sums over all rows. -/

def rloss (i : ℕ) : ℝ := ∑ j : Fin 1024, P.diff i j.val * P.diff i j.val
def rgf (i j : ℕ) : ℝ := P.dout i j * hat (P.x2 i) j
def rgate (i j : ℕ) : ℝ := P.dx2 i j * P.mixed i j
def rgb (i j : ℕ) : ℝ := P.dya i j * hat (P.o i) j * silu (P.za i j)
def rgs (i j : ℕ) : ℝ := P.dys i j * hat (P.u i) j

end Step

/-! The same in the extended reals. -/

theorem cinv1024_f32 : Ideal.ofBits .f32 0x3A800000#32 = ((1 / 1024 : ℝ) : EReal) := by
  simp [Ideal.ofBits, Ideal.ieee]; norm_num [← EReal.coe_mul]

theorem cinv2048_f32 : Ideal.ofBits .f32 0x3A000000#32 = ((1 / 2048 : ℝ) : EReal) := by
  simp [Ideal.ofBits, Ideal.ieee]; norm_num [← EReal.coe_mul]

theorem sg_pos (v : ℝ) : 1 + Real.exp (-v) ≠ 0 := by positivity

theorem sg_coe (v : ℝ) : Ideal.div (Ideal.ofBits .f32 0x3F800000#32) (Ideal.ofBits .f32 0x3F800000#32 + Ideal.exp (-(v : EReal))) = ((sg v : ℝ) : EReal) := by
  rw [cone_f32, ← EReal.coe_neg, exp_coe, ← EReal.coe_add, div_coe _ _ (sg_pos v), sg]

theorem sg_coe' (v : ℝ) : Ideal.div 1 (1 + Ideal.exp (0 - (v : EReal))) = ((sg v : ℝ) : EReal) := by
  rw [← sg_coe, Ideal.ofBits_one_f32, zero_sub]

theorem rinv_coe (f : ℕ → ℝ) : Ideal.rsqrt (Ideal.div (∑ l : Fin 1024, (f l.val : EReal) * (f l.val : EReal)) (Ideal.ofBits .f32 0x44800000#32)
    + Ideal.ofBits .f32 0x358637BD#32) = ((rinv f : ℝ) : EReal) := by
  rw [c1024_f32, eps_f32, ms_real 1024 (by norm_num) (fun l : Fin 1024 => f l.val), rsqrt_coe _ (ms_pos 1024 (by norm_num) _), rinv]

theorem mean_coe (f : ℕ → ℝ) : Ideal.div (∑ l : Fin 1024, (f l.val : EReal)) (Ideal.ofBits .f32 0x44800000#32)
    = (((∑ l : Fin 1024, f l.val) / 1024 : ℝ) : EReal) := by
  rw [c1024_f32, sum_coe, div_coe _ _ (by norm_num)]

/-- What differentiating the norm gives is `back`. -/
theorem back_coe (f d : ℕ → ℝ) (b : Fin 1024) (v r B : EReal)
    (hv : v = Ideal.div (∑ l : Fin 1024, (f l.val : EReal) * (f l.val : EReal)) ((1024 : ℝ) : EReal) + (eps : EReal)) (hr : r = Ideal.rsqrt v)
    (hB : B = Ideal.div ((∑ l : Fin 1024, (f l.val : EReal) * (d l.val : EReal)) * (((-(1 / 2) : ℝ) : EReal) * Ideal.div r v)) ((1024 : ℝ) : EReal)) :
    (d b.val : EReal) * r + (f b.val : EReal) * B + B * (f b.val : EReal) = ((back f d b.val : ℝ) : EReal) := by
  have h := rms_back 1024 (by norm_num) (fun l : Fin 1024 => (f l.val : EReal)) (fun l => (d l.val : EReal)) (fun l => ⟨_, rfl⟩) (fun l => ⟨_, rfl⟩) b v r B hv hr hB
  refine h.trans ?_
  have e : r = ((rinv f : ℝ) : EReal) := by rw [hr, hv, ← rinv_coe f, c1024_f32, eps_f32]
  rw [e]
  simp only [← EReal.coe_mul]
  rw [sum_coe, div_coe _ _ (by norm_num), ← EReal.coe_mul, ← EReal.coe_sub, ← EReal.coe_mul]
  rfl

end Cert.Reals

end
-- ==== Proof.PostPay.lean ====
/- What the body of the step after the heads computes from a block of rows, stage by stage, where its loads are real. -/
module

public import proofs.«01_k».proof.Proof.PostRow
public import proofs.«01_k».proof.Proof.Gen.PostIdeal.Skeleton
public import Idealize.ShloMosaic.Lib.Pipeline.ValueKit
public import Idealize.ShloMosaic.Lib.Pointwise

@[expose] public section

set_option maxRecDepth 16384

noncomputable section

namespace Cert.PostIdeal.Value

open Cert.PostIdeal Cert.PostIdeal.Gen Cert.Reals Idealize.ShloMosaic Idealize.ShloMosaic.TcCoe Idealize.SL.Sem

/-- What the body loads of its blocks: the heads of the attention's output one by one, the weights by halves. -/
structure Ld where
  h : Fin 16 → Vec Ideal S1x256x128 .f32
  x : Vec Ideal S256x1024 .f32
  t : Vec Ideal S256x1024 .f32
  y : Vec Ideal S256x1024 .f32
  za : Vec Ideal S256x1024 .f32
  zs : Vec Ideal S256x1024 .f32
  w0 : Vec Ideal S1024x1024 .bf16
  w1 : Vec Ideal S1024x1024 .bf16
  gate : Vec Ideal S1x1024 .f32
  gb : Vec Ideal S1x1024 .f32
  gs : Vec Ideal S1x1024 .f32
  gf : Vec Ideal S1x1024 .f32

/-- The loads are the rows of a step on reals. -/
structure LdAt (P : Step) (L : Ld) : Prop where
  h : ∀ (n : Fin 16) (a : Fin 256) (d : Fin 128), d.val < 64 → L.h n (ix3 0 a d) = ((P.o a.val (64 * n.val + d.val) : ℝ) : EReal)
  x : ∀ (a : Fin 256) (b : Fin 1024), L.x (ix2 a b) = ((P.x a.val b.val : ℝ) : EReal)
  t : ∀ (a : Fin 256) (b : Fin 1024), L.t (ix2 a b) = ((P.t a.val b.val : ℝ) : EReal)
  y : ∀ (a : Fin 256) (b : Fin 1024), L.y (ix2 a b) = ((P.y a.val b.val : ℝ) : EReal)
  za : ∀ (a : Fin 256) (b : Fin 1024), L.za (ix2 a b) = ((P.za a.val b.val : ℝ) : EReal)
  zs : ∀ (a : Fin 256) (b : Fin 1024), L.zs (ix2 a b) = ((P.zs a.val b.val : ℝ) : EReal)
  w0 : ∀ (k b : Fin 1024), L.w0 (ix2 k b) = ((P.w k.val b.val : ℝ) : EReal)
  w1 : ∀ (k b : Fin 1024), L.w1 (ix2 k b) = ((P.w (1024 + k.val) b.val : ℝ) : EReal)
  gate : ∀ b : Fin 1024, L.gate (ix2 0 b) = ((P.gate b.val : ℝ) : EReal)
  gb : ∀ b : Fin 1024, L.gb (ix2 0 b) = ((P.gb b.val : ℝ) : EReal)
  gs : ∀ b : Fin 1024, L.gs (ix2 0 b) = ((P.gs b.val : ℝ) : EReal)
  gf : ∀ b : Fin 1024, L.gf (ix2 0 b) = ((P.gf b.val : ℝ) : EReal)

/-! The stages, as the body's payloads compose. -/

namespace Ld

variable (L : Ld)

def s51 : FVec Ideal S256x1024 .f32 := k0_pay15 (k0_pay6 (L.h 0)) (k0_pay7 (L.h 1)) (k0_pay8 (L.h 2)) (k0_pay9 (L.h 3)) (k0_pay10 (L.h 4)) (k0_pay11 (L.h 5))
  (k0_pay12 (L.h 6)) (k0_pay13 (L.h 7)) (k0_pay14 (L.h 8)) (L.h 9) (L.h 10) (L.h 11) (L.h 12) (L.h 13) (L.h 14) (L.h 15)
def s59 : FVec Ideal S256x1 .f32 := k0_pay16 (k0_pay6 (L.h 0)) (k0_pay7 (L.h 1)) (k0_pay8 (L.h 2)) (k0_pay9 (L.h 3)) (k0_pay10 (L.h 4)) (k0_pay11 (L.h 5))
  (k0_pay12 (L.h 6)) (k0_pay13 (L.h 7)) (k0_pay14 (L.h 8)) (L.h 9) (L.h 10) (L.h 11) (L.h 12) (L.h 13) (L.h 14) (L.h 15)
def s68 : FVec Ideal S256x1024 .f32 := k0_pay19 L.za k0_pay17
def s74 : FVec Ideal S256x1024 .f32 := k0_pay20 L.za k0_pay17
def s80 : FVec Ideal S256x1024 .f32 := k0_pay21 L.s51 L.s59 L.za k0_pay17 L.gb
def s90 : FVec Ideal S256x1024 .f32 := k0_pay23 L.zs
def s96 : FVec Ideal S256x1024 .f32 := k0_pay24 L.zs
def s97 : FVec Ideal S256x1024 .f32 := k0_pay25 L.y L.zs
def s102 : FVec Ideal S256x1 .f32 := k0_pay26 L.y L.zs
def s105 : FVec Ideal S256x1 .f32 := k0_pay28 L.s102 k0_pay27
def s111 : FVec Ideal S256x1024 .bf16 := k0_pay29 L.s80
def s112 : FVec Ideal S256x1024 .bf16 := k0_pay30 L.s97 L.s102 k0_pay27 L.gs
def s171 : FVec Ideal S256x1024 .f32 := k0_pay42 L.s111 L.s112 L.w0 L.w1
def s176 : FVec Ideal S256x1024 .f32 := k0_pay43 L.s111 L.s112 L.w0 L.w1 L.gate L.x
def s184 : FVec Ideal S256x1 .f32 := k0_pay44 L.s111 L.s112 L.w0 L.w1 L.gate L.x
def s186 : FVec Ideal S256x1024 .f32 := k0_pay45 L.s111 L.s112 L.w0 L.w1 L.gate L.x
def s191 : FVec Ideal S256x1024 .f32 := k0_pay46 L.s111 L.s112 L.w0 L.w1 L.gate L.x L.gf L.t
def s223 : FVec Ideal S256x1024 .f32 := k0_pay50 L.s184 L.s186 L.gf L.s191
def s234 : FVec Ideal S256x1024 .bf16 := k0_pay52 L.gate L.s184 L.s186 L.gf L.s191
def s238 : FVec Ideal S256x1024 .f32 := k0_pay54 L.s234 (k0_pay53 L.w0) (constant S256x1024 .f32 0x00000000#32)
def s241 : FVec Ideal S256x1024 .f32 := k0_pay55 L.s234 L.w1
def s243 : FVec Ideal S256x1024 .f32 := k0_pay56 L.s51 L.s59
def s248 : FVec Ideal S256x1024 .bf16 := k0_pay57 L.s51 L.s59 L.s74 L.gb L.s234 (k0_pay53 L.w0) (constant S256x1024 .f32 0x00000000#32)
def s270 : FVec Ideal S256x1024 .f32 := k0_pay59 L.s51 L.s59 L.s68 L.gb L.s234 (k0_pay53 L.w0) (constant S256x1024 .f32 0x00000000#32)
def s371 : FVec Ideal S256x1024 .f32 := k0_pay81 L.s97 L.s105 L.gs L.s241
def s372 : FVec Ideal S256x1024 .f32 := k0_pay82 L.s90 L.s97 L.s105 L.gs L.s241
def s376 : FVec Ideal S256x1024 .bf16 := k0_pay83 L.y L.s96 L.s97 L.s105 L.gs L.s241
def s201 (v : Vec Ideal S1x128 .f32) : FVec Ideal S1x128 .f32 := k0_pay47 L.s111 L.s112 L.w0 L.w1 L.gate L.x L.gf L.t v
def s210 (v : Vec Ideal S1x1024 .f32) : FVec Ideal S1x1024 .f32 := k0_pay49 L.s186 L.s191 v
def s230 (v : Vec Ideal S1x1024 .f32) : FVec Ideal S1x1024 .f32 := k0_pay51 L.s171 L.s184 L.s186 L.gf L.s191 v
def s256 (v : Vec Ideal S1x1024 .f32) : FVec Ideal S1x1024 .f32 := k0_pay58 L.s51 L.s59 L.s68 L.s234 (k0_pay53 L.w0) (constant S256x1024 .f32 0x00000000#32) v
def s358 (v : Vec Ideal S1x1024 .f32) : FVec Ideal S1x1024 .f32 := k0_pay80 L.s97 L.s105 L.s241 v

end Ld

variable {P : Step} {L : Ld}

/-- A head's rows: the left half of what is loaded of it. -/
def Ld.head (L : Ld) (n : Fin 16) : FVec Ideal S256x64 .f32 :=
  extractStridedSlice S256x64 ![0, 0] (shapeCast S256x128 (L.h n) shapeCasts_S1x256x128_S256x128) slices_S256x128_o0_0_S256x64

theorem head_at (H : LdAt P L) (n : Fin 16) (a : Fin 256) (d : Fin 64) : L.head n (ix2 a d) = ((P.o a.val (64 * n.val + d.val) : ℝ) : EReal) := by
  have e : L.head n (ix2 a d) = L.h n (ix3 0 a ⟨d.val, by omega⟩) := by
    unfold Ld.head
    pointwise
  rw [e]
  exact H.h n a _ d.isLt

theorem concatenates_heads : Shape.Concatenates ((List.ofFn fun n : Fin 16 => (⟨S256x64, L.head n⟩ : (s : Shape) × (s.Idx → EReal))).map (·.1)) S256x1024 1 :=
  concatenates_S256x64_S256x64_S256x64_S256x64_S256x64_S256x64_S256x64_S256x64_S256x64_S256x64_S256x64_S256x64_S256x64_S256x64_S256x64_S256x64_S256x1024_d1

section

variable (H : LdAt P L) (a : Fin 256) (b : Fin 1024)

include H

theorem s51_at : L.s51 (ix2 a b) = ((P.o a.val b.val : ℝ) : EReal) := by
  have hb := b.isLt
  refine (concatenate_ofFn_apply (t := S256x1024) (s₁ := S256x64) 1 L.head concatenates_heads rfl 64 rfl (ix2 a b) ⟨b.val / 64, by omega⟩ rfl
    (ix2 a ⟨b.val % 64, by omega⟩) rfl fun k hk => ?_).trans ?_
  · match k with
    | 0 => rfl
    | 1 => exact absurd rfl hk
  · rw [head_at H]
    congr 3
    show 64 * (b.val / 64) + b.val % 64 = b.val
    omega

theorem s59_at (u : Fin 1) : L.s59 (ix2 a u) = ((rinv (P.o a.val) : ℝ) : EReal) := by
  have e : L.s59 (ix2 a u) = Ideal.rsqrt (Ideal.div (∑ l : Fin 1024, L.s51 (ix2 a l) * L.s51 (ix2 a l)) (Ideal.ofBits .f32 0x44800000#32)
      + Ideal.ofBits .f32 0x358637BD#32) := by
    unfold Ld.s59 Ld.s51
    pointwise [k0_pay16]
  rw [e]
  simp only [s51_at H]
  exact rinv_coe _

theorem s68_at : L.s68 (ix2 a b) = ((silu (P.za a.val b.val) : ℝ) : EReal) := by
  unfold Ld.s68
  pointwise [k0_pay19, k0_pay18, k0_pay17]
  rw [H.za, sg_coe']
  simp only [← EReal.coe_mul]
  rfl

theorem s74_at : L.s74 (ix2 a b) = ((dsilu (P.za a.val b.val) : ℝ) : EReal) := by
  unfold Ld.s74
  pointwise [k0_pay20, k0_pay18, k0_pay17]
  rw [H.za, sg_coe']
  simp only [← EReal.coe_one, ← EReal.coe_mul, ← EReal.coe_sub, ← EReal.coe_add]
  rfl

theorem s80_at : L.s80 (ix2 a b) = ((P.ya a.val b.val : ℝ) : EReal) := by
  have e : L.s80 (ix2 a b) = L.s51 (ix2 a b) * L.s59 (ix2 a 0) * L.gb (ix2 0 b) * L.s68 (ix2 a b) := by
    unfold Ld.s80 Ld.s68
    pointwise [k0_pay21]
  rw [e, s51_at H, s59_at H, H.gb, s68_at H]
  simp only [← EReal.coe_mul]
  rfl

theorem s90_at : L.s90 (ix2 a b) = ((silu (P.zs a.val b.val) : ℝ) : EReal) := by
  unfold Ld.s90
  pointwise [k0_pay23, k0_pay22]
  rw [H.zs, sg_coe']
  simp only [← EReal.coe_mul]
  rfl

theorem s96_at : L.s96 (ix2 a b) = ((dsilu (P.zs a.val b.val) : ℝ) : EReal) := by
  unfold Ld.s96
  pointwise [k0_pay24, k0_pay22]
  rw [H.zs, sg_coe']
  simp only [← EReal.coe_one, ← EReal.coe_mul, ← EReal.coe_sub, ← EReal.coe_add]
  rfl

theorem s97_at : L.s97 (ix2 a b) = ((P.u a.val b.val : ℝ) : EReal) := by
  have e : L.s97 (ix2 a b) = L.y (ix2 a b) * L.s90 (ix2 a b) := by
    unfold Ld.s97 Ld.s90
    pointwise [k0_pay25]
  rw [e, H.y, s90_at H]
  simp only [← EReal.coe_mul]
  rfl

theorem s105_at (u : Fin 1) : L.s105 (ix2 a u) = ((rinv (P.u a.val) : ℝ) : EReal) := by
  have e : L.s105 (ix2 a u) = Ideal.rsqrt (Ideal.div (∑ l : Fin 1024, L.s97 (ix2 a l) * L.s97 (ix2 a l)) (Ideal.ofBits .f32 0x44800000#32)
      + Ideal.ofBits .f32 0x358637BD#32) := by
    unfold Ld.s105 Ld.s102 Ld.s97
    pointwise [k0_pay28, k0_pay27, k0_pay26]
  rw [e]
  simp only [s97_at H]
  exact rinv_coe _

theorem s111_at : L.s111 (ix2 a b) = ((P.ya a.val b.val : ℝ) : EReal) := by
  rw [← s80_at H]
  unfold Ld.s111
  pointwise [k0_pay29]

theorem s112_at : L.s112 (ix2 a b) = ((P.ys a.val b.val : ℝ) : EReal) := by
  have e : L.s112 (ix2 a b) = L.s97 (ix2 a b) * L.s105 (ix2 a 0) * L.gs (ix2 0 b) := by
    unfold Ld.s112 Ld.s105
    pointwise [k0_pay30]
  rw [e, s97_at H, s105_at H, H.gs]
  simp only [← EReal.coe_mul]
  rfl

theorem s171_at : L.s171 (ix2 a b) = ((P.mixed a.val b.val : ℝ) : EReal) := by
  have e : L.s171 (ix2 a b) = ∑ k : Fin 1024, L.s111 (ix2 a k) * L.w0 (ix2 k b) + ∑ k : Fin 1024, L.s112 (ix2 a k) * L.w1 (ix2 k b) := by
    unfold Ld.s171
    pointwise [k0_pay42]
  rw [e]
  simp only [s111_at H, s112_at H, H.w0, H.w1, ← EReal.coe_mul]
  rw [sum_coe, sum_coe, ← EReal.coe_add]
  rfl

theorem s176_at : L.s176 (ix2 a b) = ((P.x2 a.val b.val : ℝ) : EReal) := by
  have e : L.s176 (ix2 a b) = L.x (ix2 a b) + L.gate (ix2 0 b) * L.s171 (ix2 a b) := by
    unfold Ld.s176 Ld.s171
    pointwise [k0_pay43]
  rw [e, H.x, H.gate, s171_at H]
  simp only [← EReal.coe_mul, ← EReal.coe_add]
  rfl

theorem s184_at (u : Fin 1) : L.s184 (ix2 a u) = ((rinv (P.x2 a.val) : ℝ) : EReal) := by
  have e : L.s184 (ix2 a u) = Ideal.rsqrt (Ideal.div (∑ l : Fin 1024, L.s176 (ix2 a l) * L.s176 (ix2 a l)) (Ideal.ofBits .f32 0x44800000#32)
      + Ideal.ofBits .f32 0x358637BD#32) := by
    unfold Ld.s184 Ld.s176
    pointwise [k0_pay44]
  rw [e]
  simp only [s176_at H]
  exact rinv_coe _

theorem s186_at : L.s186 (ix2 a b) = ((hat (P.x2 a.val) b.val : ℝ) : EReal) := by
  have e : L.s186 (ix2 a b) = L.s176 (ix2 a b) * L.s184 (ix2 a 0) := by
    unfold Ld.s186 Ld.s176 Ld.s184
    pointwise [k0_pay45]
  rw [e, s176_at H, s184_at H, ← EReal.coe_mul]
  rfl

theorem s191_at : L.s191 (ix2 a b) = ((P.diff a.val b.val : ℝ) : EReal) := by
  have e : L.s191 (ix2 a b) = L.s186 (ix2 a b) * L.gf (ix2 0 b) - L.t (ix2 a b) := by
    unfold Ld.s191 Ld.s186
    pointwise [k0_pay46]
  rw [e, s186_at H, H.gf, H.t, ← EReal.coe_mul, ← EReal.coe_sub]
  rfl

theorem dout_at : L.s191 (ix2 a b) * Ideal.ofBits .f32 0x3A800000#32 = ((P.dout a.val b.val : ℝ) : EReal) := by
  rw [s191_at H, cinv1024_f32, ← EReal.coe_mul]
  rfl

theorem s223_at : L.s223 (ix2 a b) = ((P.dx2 a.val b.val : ℝ) : EReal) := by
  have e : L.s223 (ix2 a b) = L.s184 (ix2 a 0) * (L.s191 (ix2 a b) * Ideal.ofBits .f32 0x3A800000#32 * L.gf (ix2 0 b)
      - L.s186 (ix2 a b) * Ideal.div (∑ l : Fin 1024, L.s191 (ix2 a l) * Ideal.ofBits .f32 0x3A800000#32 * L.gf (ix2 0 l) * L.s186 (ix2 a l))
        (Ideal.ofBits .f32 0x44800000#32)) := by
    unfold Ld.s223
    pointwise [k0_pay50, k0_pay48]
  rw [e]
  simp only [dout_at H, s184_at H, s186_at H, H.gf, ← EReal.coe_mul]
  rw [sum_coe, c1024_f32, div_coe _ _ (by norm_num), ← EReal.coe_mul, ← EReal.coe_sub, ← EReal.coe_mul]
  rfl

theorem s234_at : L.s234 (ix2 a b) = ((P.dm a.val b.val : ℝ) : EReal) := by
  have e : L.s234 (ix2 a b) = L.s223 (ix2 a b) * L.gate (ix2 0 b) := by
    unfold Ld.s234 Ld.s223
    pointwise [k0_pay52]
  rw [e, s223_at H, H.gate, ← EReal.coe_mul]
  rfl

theorem s238_at : L.s238 (ix2 a b) = ((P.dya a.val b.val : ℝ) : EReal) := by
  have e : L.s238 (ix2 a b) = ∑ k : Fin 1024, L.s234 (ix2 a k) * L.w0 (ix2 b k) := by
    unfold Ld.s238
    pointwise [k0_pay54, k0_pay53]
  rw [e]
  simp only [s234_at H, H.w0, ← EReal.coe_mul]
  rw [sum_coe]
  rfl

theorem s241_at : L.s241 (ix2 a b) = ((P.dys a.val b.val : ℝ) : EReal) := by
  have e : L.s241 (ix2 a b) = ∑ k : Fin 1024, L.s234 (ix2 a k) * L.w1 (ix2 b k) := by
    unfold Ld.s241
    pointwise [k0_pay55]
  rw [e]
  simp only [s234_at H, H.w1, ← EReal.coe_mul]
  rw [sum_coe]
  rfl

theorem s243_at : L.s243 (ix2 a b) = ((hat (P.o a.val) b.val : ℝ) : EReal) := by
  have e : L.s243 (ix2 a b) = L.s51 (ix2 a b) * L.s59 (ix2 a 0) := by
    unfold Ld.s243
    pointwise [k0_pay56]
  rw [e, s51_at H, s59_at H, ← EReal.coe_mul]
  rfl

theorem s248_at : L.s248 (ix2 a b) = ((P.dza a.val b.val : ℝ) : EReal) := by
  have e : L.s248 (ix2 a b) = L.s238 (ix2 a b) * L.s243 (ix2 a b) * L.gb (ix2 0 b) * L.s74 (ix2 a b) := by
    unfold Ld.s248 Ld.s238 Ld.s243
    pointwise [k0_pay57]
  rw [e, s238_at H, s243_at H, H.gb, s74_at H]
  simp only [← EReal.coe_mul]
  rfl

theorem s270_at : L.s270 (ix2 a b) = ((P.do_ a.val b.val : ℝ) : EReal) := by
  have e : L.s270 (ix2 a b) = L.s59 (ix2 a 0) * (L.s238 (ix2 a b) * L.gb (ix2 0 b) * L.s68 (ix2 a b)
      - L.s243 (ix2 a b) * Ideal.div (∑ l : Fin 1024, L.s238 (ix2 a l) * L.gb (ix2 0 l) * L.s68 (ix2 a l) * L.s243 (ix2 a l)) (Ideal.ofBits .f32 0x44800000#32)) := by
    unfold Ld.s270 Ld.s238 Ld.s243
    pointwise [k0_pay59]
  rw [e]
  simp only [s59_at H, s238_at H, s243_at H, s68_at H, H.gb, ← EReal.coe_mul]
  rw [sum_coe, c1024_f32, div_coe _ _ (by norm_num), ← EReal.coe_mul, ← EReal.coe_sub, ← EReal.coe_mul]
  rfl

theorem s371_at : L.s371 (ix2 a b) = ((P.du a.val b.val : ℝ) : EReal) := by
  have e : L.s371 (ix2 a b) = L.s105 (ix2 a 0) * (L.s241 (ix2 a b) * L.gs (ix2 0 b)
      - L.s97 (ix2 a b) * L.s105 (ix2 a 0) * Ideal.div (∑ l : Fin 1024, L.s241 (ix2 a l) * L.gs (ix2 0 l) * (L.s97 (ix2 a l) * L.s105 (ix2 a 0))) (Ideal.ofBits .f32 0x44800000#32)) := by
    unfold Ld.s371
    pointwise [k0_pay81, k0_pay79]
  rw [e]
  simp only [s105_at H, s241_at H, s97_at H, H.gs, ← EReal.coe_mul]
  rw [sum_coe, c1024_f32, div_coe _ _ (by norm_num), ← EReal.coe_mul, ← EReal.coe_sub, ← EReal.coe_mul]
  rfl

theorem s372_at : L.s372 (ix2 a b) = ((P.dy a.val b.val : ℝ) : EReal) := by
  have e : L.s372 (ix2 a b) = L.s371 (ix2 a b) * L.s90 (ix2 a b) := by
    unfold Ld.s372 Ld.s371
    pointwise [k0_pay82]
  rw [e, s371_at H, s90_at H, ← EReal.coe_mul]
  rfl

theorem s376_at : L.s376 (ix2 a b) = ((P.dzs a.val b.val : ℝ) : EReal) := by
  have e : L.s376 (ix2 a b) = L.s371 (ix2 a b) * L.y (ix2 a b) * L.s96 (ix2 a b) := by
    unfold Ld.s376 Ld.s371
    pointwise [k0_pay83]
  rw [e, s371_at H, H.y, s96_at H]
  simp only [← EReal.coe_mul]
  rfl

/-! The accumulators: what the block adds. -/

theorem s201_at (v : Vec Ideal S1x128 .f32) (e : Fin 128) : L.s201 v (ix2 0 e)
    = v (ix2 0 e) + (((∑ a : Fin 256, P.rloss a.val) * (1 / 2048) : ℝ) : EReal) := by
  have h : L.s201 v (ix2 0 e) = v (ix2 0 e)
      + (∑ a : Fin 256, ∑ b : Fin 1024, L.s191 (ix2 a b) * L.s191 (ix2 a b)) * Ideal.ofBits .f32 0x3A000000#32 := by
    unfold Ld.s201 Ld.s191
    pointwise [k0_pay47]
  rw [h, cinv2048_f32]
  simp only [s191_at H, ← EReal.coe_mul]
  simp only [sum_coe]
  rw [← EReal.coe_mul]
  rfl

theorem s210_at (v : Vec Ideal S1x1024 .f32) : L.s210 v (ix2 0 b) = v (ix2 0 b) + ((∑ a : Fin 256, P.rgf a.val b.val : ℝ) : EReal) := by
  have h : L.s210 v (ix2 0 b) = v (ix2 0 b) + ∑ a : Fin 256, L.s191 (ix2 a b) * Ideal.ofBits .f32 0x3A800000#32 * L.s186 (ix2 a b) := by
    unfold Ld.s210
    pointwise [k0_pay49, k0_pay48]
  rw [h]
  simp only [dout_at H, s186_at H, ← EReal.coe_mul]
  rw [sum_coe]
  rfl

theorem s230_at (v : Vec Ideal S1x1024 .f32) : L.s230 v (ix2 0 b) = v (ix2 0 b) + ((∑ a : Fin 256, P.rgate a.val b.val : ℝ) : EReal) := by
  have h : L.s230 v (ix2 0 b) = v (ix2 0 b) + ∑ a : Fin 256, L.s223 (ix2 a b) * L.s171 (ix2 a b) := by
    unfold Ld.s230 Ld.s223
    pointwise [k0_pay51]
  rw [h]
  simp only [s223_at H, s171_at H, ← EReal.coe_mul]
  rw [sum_coe]
  rfl

theorem s256_at (v : Vec Ideal S1x1024 .f32) : L.s256 v (ix2 0 b) = v (ix2 0 b) + ((∑ a : Fin 256, P.rgb a.val b.val : ℝ) : EReal) := by
  have h : L.s256 v (ix2 0 b) = v (ix2 0 b) + ∑ a : Fin 256, L.s238 (ix2 a b) * L.s243 (ix2 a b) * L.s68 (ix2 a b) := by
    unfold Ld.s256 Ld.s238 Ld.s243
    pointwise [k0_pay58]
  rw [h]
  simp only [s238_at H, s243_at H, s68_at H, ← EReal.coe_mul]
  rw [sum_coe]
  rfl

theorem s358_at (v : Vec Ideal S1x1024 .f32) : L.s358 v (ix2 0 b) = v (ix2 0 b) + ((∑ a : Fin 256, P.rgs a.val b.val : ℝ) : EReal) := by
  have h : L.s358 v (ix2 0 b) = v (ix2 0 b) + ∑ a : Fin 256, L.s241 (ix2 a b) * (L.s97 (ix2 a b) * L.s105 (ix2 a 0)) := by
    unfold Ld.s358
    pointwise [k0_pay80, k0_pay79]
  rw [h]
  simp only [s241_at H, s97_at H, s105_at H, ← EReal.coe_mul]
  rw [sum_coe]
  rfl

end

end Cert.PostIdeal.Value

end
-- ==== Proof.PostCols.lean ====
/- The blocks that the step after the heads stores piece by piece: the transposed head outputs, four blocks of columns of each group, and
   the attention's cotangent, a head at a time. -/
module

public import proofs.«01_k».proof.Proof.PostPay
public import Idealize.ShloMosaic.Lib.Pipeline.ReadBack
public import Idealize.ShloMosaic.Lib.VecWindow

@[expose] public section

set_option maxRecDepth 16384

noncomputable section

namespace Cert.PostIdeal.Value

open Cert.PostIdeal Cert.PostIdeal.Gen Cert.Reals Idealize.ShloMosaic Idealize.ShloMosaic.TcCoe Idealize.SL.Sem

variable (P : Step) {L : Ld}

/-- The heads' stores. -/
def Ld.doPieces (L : Ld) : List (View.Piece (Elt Ideal) S16x256x64 .bf16) :=
  [⟨Rect.unit (s := S16x256x64) ![15, 0, 0] S1x256x64.size inb_S16x256x64_S1x256x64_15_0_0, k0_pay78 L.s270⟩,
    ⟨Rect.unit (s := S16x256x64) ![14, 0, 0] S1x256x64.size inb_S16x256x64_S1x256x64_14_0_0, k0_pay77 (k0_pay76 L.s270)⟩,
    ⟨Rect.unit (s := S16x256x64) ![13, 0, 0] S1x256x64.size inb_S16x256x64_S1x256x64_13_0_0, k0_pay75 L.s270⟩,
    ⟨Rect.unit (s := S16x256x64) ![12, 0, 0] S1x256x64.size inb_S16x256x64_S1x256x64_12_0_0, k0_pay74 L.s270⟩,
    ⟨Rect.unit (s := S16x256x64) ![11, 0, 0] S1x256x64.size inb_S16x256x64_S1x256x64_11_0_0, k0_pay73 L.s270⟩,
    ⟨Rect.unit (s := S16x256x64) ![10, 0, 0] S1x256x64.size inb_S16x256x64_S1x256x64_10_0_0, k0_pay72 L.s270⟩,
    ⟨Rect.unit (s := S16x256x64) ![9, 0, 0] S1x256x64.size inb_S16x256x64_S1x256x64_9_0_0, k0_pay71 L.s270⟩,
    ⟨Rect.unit (s := S16x256x64) ![8, 0, 0] S1x256x64.size inb_S16x256x64_S1x256x64_8_0_0, k0_pay70 (k0_pay69 L.s270)⟩,
    ⟨Rect.unit (s := S16x256x64) ![7, 0, 0] S1x256x64.size inb_S16x256x64_S1x256x64_7_0_0, k0_pay68 L.s270⟩,
    ⟨Rect.unit (s := S16x256x64) ![6, 0, 0] S1x256x64.size inb_S16x256x64_S1x256x64_6_0_0, k0_pay67 L.s270⟩,
    ⟨Rect.unit (s := S16x256x64) ![5, 0, 0] S1x256x64.size inb_S16x256x64_S1x256x64_5_0_0, k0_pay66 L.s270⟩,
    ⟨Rect.unit (s := S16x256x64) ![4, 0, 0] S1x256x64.size inb_S16x256x64_S1x256x64_4_0_0, k0_pay65 L.s270⟩,
    ⟨Rect.unit (s := S16x256x64) ![3, 0, 0] S1x256x64.size inb_S16x256x64_S1x256x64_3_0_0, k0_pay64 L.s270⟩,
    ⟨Rect.unit (s := S16x256x64) ![2, 0, 0] S1x256x64.size inb_S16x256x64_S1x256x64_2_0_0, k0_pay63 L.s270⟩,
    ⟨Rect.unit (s := S16x256x64) ![1, 0, 0] S1x256x64.size inb_S16x256x64_S1x256x64_1_0_0, k0_pay62 (k0_pay61 L.s51 L.s59 L.s68 L.gb L.s234 (k0_pay53 L.w0) (constant S256x1024 .f32 0x00000000#32))⟩,
    ⟨Rect.unit (s := S16x256x64) ![0, 0, 0] S1x256x64.size inb_S16x256x64_S1x256x64_0_0_0, k0_pay60 L.s51 L.s59 L.s68 L.gb L.s234 (k0_pay53 L.w0) (constant S256x1024 .f32 0x00000000#32)⟩]

/-- The transposed blocks' stores. -/
def Ld.yPieces (L : Ld) : List (View.Piece (Elt Ideal) S2048x256 .bf16) :=
  [⟨Rect.unit (s := S2048x256) ![1792, 0] S256x256.size inb_S2048x256_S256x256_1792_0, k0_pay41 L.s112⟩,
    ⟨Rect.unit (s := S2048x256) ![1536, 0] S256x256.size inb_S2048x256_S256x256_1536_0, k0_pay40 L.s112⟩,
    ⟨Rect.unit (s := S2048x256) ![1280, 0] S256x256.size inb_S2048x256_S256x256_1280_0, k0_pay39 L.s112⟩,
    ⟨Rect.unit (s := S2048x256) ![1024, 0] S256x256.size inb_S2048x256_S256x256_1024_0, k0_pay38 L.s112⟩,
    ⟨Rect.unit (s := S2048x256) ![768, 0] S256x256.size inb_S2048x256_S256x256_768_0, k0_pay36 (k0_pay35 L.s80)⟩,
    ⟨Rect.unit (s := S2048x256) ![512, 0] S256x256.size inb_S2048x256_S256x256_512_0, k0_pay34 L.s80⟩,
    ⟨Rect.unit (s := S2048x256) ![256, 0] S256x256.size inb_S2048x256_S256x256_256_0, k0_pay33 L.s80⟩,
    ⟨Rect.unit (s := S2048x256) ![0, 0] S256x256.size inb_S2048x256_S256x256_0_0, k0_pay32 L.s80⟩]

/-- The attention's cotangent by heads. -/
def doG (j : S16x256x64.Idx) : EReal := ((P.do_ (j 1).val (64 * (j 0).val + (j 2).val) : ℝ) : EReal)

/-- Both groups' outputs, side by side. -/
def _root_.Cert.Reals.Step.yb (i k : ℕ) : ℝ := if k < 1024 then P.ya i k else P.ys i (k - 1024)

def ybG (j : S2048x256.Idx) : EReal := ((P.yb (j 1).val (j 0).val : ℝ) : EReal)

theorem doBlk (n : ℕ) (hn : ∀ a, (![n, 0, 0] : Fin 3 → ℕ) a + S1x256x64.size a ≤ S16x256x64.size a) (w : (Rect.unit (s := S16x256x64) ![n, 0, 0] S1x256x64.size hn).shape.Idx → EReal)
    (hw : ∀ (r : Fin 256) (d : Fin 64), w (ix3 0 r d) = ((P.do_ r.val (64 * n + d.val) : ℝ) : EReal)) (x : (Rect.unit (s := S16x256x64) ![n, 0, 0] S1x256x64.size hn).shape.Idx) :
    w x = doG P ((Rect.unit (s := S16x256x64) ![n, 0, 0] S1x256x64.size hn).emb x) := by
  obtain ⟨u, r, d, rfl⟩ : ∃ (u : Fin 1) (r : Fin 256) (d : Fin 64), x = ix3 u r d := ⟨_, _, _, eq_ix3 x⟩
  obtain rfl : u = 0 := Subsingleton.elim _ _
  refine (hw r d).trans (congrArg (fun v : ℝ => (v : EReal)) ?_)
  show _ = P.do_ (0 + 1 * r.val) (64 * (n + 1 * 0) + (0 + 1 * d.val))
  congr 1 <;> omega

theorem tBlk (o : ℕ) (hn : ∀ a, (![o, 0] : Fin 2 → ℕ) a + S256x256.size a ≤ S2048x256.size a) (w : (Rect.unit (s := S2048x256) ![o, 0] S256x256.size hn).shape.Idx → EReal)
    (hw : ∀ (i r : Fin 256), w (ix2 i r) = ((P.yb r.val (o + i.val) : ℝ) : EReal)) (x : (Rect.unit (s := S2048x256) ![o, 0] S256x256.size hn).shape.Idx) :
    w x = ybG P ((Rect.unit (s := S2048x256) ![o, 0] S256x256.size hn).emb x) := by
  obtain ⟨i, r, rfl⟩ : ∃ (i r : Fin 256), x = ix2 i r := ⟨_, _, eq_ix2 x⟩
  refine (hw i r).trans (congrArg (fun v : ℝ => (v : EReal)) ?_)
  show _ = P.yb (0 + 1 * r.val) (o + 1 * i.val)
  congr 1 <;> omega

/-- The product with the unit matrix. -/
def eye (i k : Fin 256) : EReal := if k = i then 1 else 0

theorem eye_one (i k : Fin 256) : (FloatOps.sitofp (F := Ideal) .f32 (BitVec.setWidth 32 (IntOp.cmpi .eq (BitVec.ofNat 32 i.val) (BitVec.ofNat 32 k.val)))) = eye i k := by
  unfold eye
  by_cases h : k = i
  · subst h
    simp [FloatOps.sitofp, IntOp.cmpi]
  · have h' : ¬BitVec.ofNat 32 i.val = BitVec.ofNat 32 k.val := by
      intro e
      have := congrArg BitVec.toNat e
      simp only [BitVec.toNat_ofNat] at this
      rw [Nat.mod_eq_of_lt (by omega), Nat.mod_eq_of_lt (by omega)] at this
      exact h (Fin.ext this.symm)
    simp [FloatOps.sitofp, IntOp.cmpi, h, beq_eq_false_iff_ne.mpr h']

theorem eye_at (i k : Fin 256) : k0_pay31 (F := Ideal) (ix2 i k) = eye i k := by
  rw [← eye_one]
  pointwise [k0_pay31]

theorem eye_at' (i k : Fin 256) : k0_pay37 (F := Ideal) (ix2 i k) = eye i k := by
  rw [← eye_one]
  pointwise [k0_pay37]

theorem eye_sum (i : Fin 256) (f : Fin 256 → EReal) : ∑ k, eye i k * f k = f i := by
  simp only [eye, ite_mul, one_mul, zero_mul, Finset.sum_ite_eq', Finset.mem_univ, if_true]

variable {P} (H : LdAt P L)

include H

theorem do_pieces : View.PiecesOf (doG P) L.doPieces := by
  refine ⟨doBlk P 15 inb_S16x256x64_S1x256x64_15_0_0 _ ?_, doBlk P 14 inb_S16x256x64_S1x256x64_14_0_0 _ ?_, doBlk P 13 inb_S16x256x64_S1x256x64_13_0_0 _ ?_, doBlk P 12 inb_S16x256x64_S1x256x64_12_0_0 _ ?_, doBlk P 11 inb_S16x256x64_S1x256x64_11_0_0 _ ?_, doBlk P 10 inb_S16x256x64_S1x256x64_10_0_0 _ ?_, doBlk P 9 inb_S16x256x64_S1x256x64_9_0_0 _ ?_, doBlk P 8 inb_S16x256x64_S1x256x64_8_0_0 _ ?_, doBlk P 7 inb_S16x256x64_S1x256x64_7_0_0 _ ?_, doBlk P 6 inb_S16x256x64_S1x256x64_6_0_0 _ ?_, doBlk P 5 inb_S16x256x64_S1x256x64_5_0_0 _ ?_, doBlk P 4 inb_S16x256x64_S1x256x64_4_0_0 _ ?_, doBlk P 3 inb_S16x256x64_S1x256x64_3_0_0 _ ?_, doBlk P 2 inb_S16x256x64_S1x256x64_2_0_0 _ ?_, doBlk P 1 inb_S16x256x64_S1x256x64_1_0_0 _ ?_, doBlk P 0 inb_S16x256x64_S1x256x64_0_0_0 _ ?_, trivial⟩
  all_goals intro r d
  · refine Eq.trans ?_ (s270_at H r ⟨960 + d.val, by omega⟩)
    pointwise [k0_pay78]
  · refine Eq.trans ?_ (s270_at H r ⟨896 + d.val, by omega⟩)
    pointwise [k0_pay77, k0_pay76]
  · refine Eq.trans ?_ (s270_at H r ⟨832 + d.val, by omega⟩)
    pointwise [k0_pay75]
  · refine Eq.trans ?_ (s270_at H r ⟨768 + d.val, by omega⟩)
    pointwise [k0_pay74]
  · refine Eq.trans ?_ (s270_at H r ⟨704 + d.val, by omega⟩)
    pointwise [k0_pay73]
  · refine Eq.trans ?_ (s270_at H r ⟨640 + d.val, by omega⟩)
    pointwise [k0_pay72]
  · refine Eq.trans ?_ (s270_at H r ⟨576 + d.val, by omega⟩)
    pointwise [k0_pay71]
  · refine Eq.trans ?_ (s270_at H r ⟨512 + d.val, by omega⟩)
    pointwise [k0_pay70, k0_pay69]
  · refine Eq.trans ?_ (s270_at H r ⟨448 + d.val, by omega⟩)
    pointwise [k0_pay68]
  · refine Eq.trans ?_ (s270_at H r ⟨384 + d.val, by omega⟩)
    pointwise [k0_pay67]
  · refine Eq.trans ?_ (s270_at H r ⟨320 + d.val, by omega⟩)
    pointwise [k0_pay66]
  · refine Eq.trans ?_ (s270_at H r ⟨256 + d.val, by omega⟩)
    pointwise [k0_pay65]
  · refine Eq.trans ?_ (s270_at H r ⟨192 + d.val, by omega⟩)
    pointwise [k0_pay64]
  · refine Eq.trans ?_ (s270_at H r ⟨128 + d.val, by omega⟩)
    pointwise [k0_pay63]
  · refine Eq.trans ?_ (s270_at H r ⟨64 + d.val, by omega⟩)
    pointwise [k0_pay62, k0_pay61]
    rfl
  · refine Eq.trans ?_ (s270_at H r ⟨0 + d.val, by omega⟩)
    pointwise [k0_pay60]
    rfl

theorem ya_col (o : ℕ) (i r : Fin 256) (c : Fin 1024) (hc : c.val = o + i.val) : L.s80 (ix2 r c) = ((P.yb r.val (o + i.val) : ℝ) : EReal) := by
  rw [s80_at H, Step.yb, if_pos (by omega), hc]

theorem ys_col (o : ℕ) (i r : Fin 256) (c : Fin 1024) (hc : 1024 + c.val = o + i.val) : L.s112 (ix2 r c) = ((P.yb r.val (o + i.val) : ℝ) : EReal) := by
  rw [s112_at H, Step.yb, if_neg (by omega), show o + i.val - 1024 = c.val by omega]

theorem y_pieces : View.PiecesOf (ybG P) L.yPieces := by
  refine ⟨tBlk P 1792 inb_S2048x256_S256x256_1792_0 _ ?_, tBlk P 1536 inb_S2048x256_S256x256_1536_0 _ ?_, tBlk P 1280 inb_S2048x256_S256x256_1280_0 _ ?_, tBlk P 1024 inb_S2048x256_S256x256_1024_0 _ ?_, tBlk P 768 inb_S2048x256_S256x256_768_0 _ ?_, tBlk P 512 inb_S2048x256_S256x256_512_0 _ ?_, tBlk P 256 inb_S2048x256_S256x256_256_0 _ ?_, tBlk P 0 inb_S2048x256_S256x256_0_0 _ ?_, trivial⟩
  all_goals intro i r
  · pointwise [k0_pay41]
    simp only [eye_at']
    refine (eye_sum i fun k => L.s112 (ix2 r ⟨768 + k.val, by omega⟩)).trans (ys_col H 1792 i r _ ?_)
    show 1024 + (768 + i.val) = 1792 + i.val
    omega
  · pointwise [k0_pay40]
    simp only [eye_at']
    refine (eye_sum i fun k => L.s112 (ix2 r ⟨512 + k.val, by omega⟩)).trans (ys_col H 1536 i r _ ?_)
    show 1024 + (512 + i.val) = 1536 + i.val
    omega
  · pointwise [k0_pay39]
    simp only [eye_at']
    refine (eye_sum i fun k => L.s112 (ix2 r ⟨256 + k.val, by omega⟩)).trans (ys_col H 1280 i r _ ?_)
    show 1024 + (256 + i.val) = 1280 + i.val
    omega
  · pointwise [k0_pay38]
    simp only [eye_at']
    refine (eye_sum i fun k => L.s112 (ix2 r ⟨k.val, by omega⟩)).trans (ys_col H 1024 i r _ ?_)
    show 1024 + i.val = 1024 + i.val
    omega
  · pointwise [k0_pay36, k0_pay35, k0_pay29]
    simp only [eye_at]
    refine (eye_sum i fun k => L.s80 (ix2 r ⟨768 + k.val, by omega⟩)).trans (ya_col H 768 i r _ ?_)
    show (768 + i.val) = 768 + i.val
    omega
  · pointwise [k0_pay34, k0_pay29]
    simp only [eye_at]
    refine (eye_sum i fun k => L.s80 (ix2 r ⟨512 + k.val, by omega⟩)).trans (ya_col H 512 i r _ ?_)
    show (512 + i.val) = 512 + i.val
    omega
  · pointwise [k0_pay33, k0_pay29]
    simp only [eye_at]
    refine (eye_sum i fun k => L.s80 (ix2 r ⟨256 + k.val, by omega⟩)).trans (ya_col H 256 i r _ ?_)
    show (256 + i.val) = 256 + i.val
    omega
  · pointwise [k0_pay32, k0_pay29]
    simp only [eye_at]
    refine (eye_sum i fun k => L.s80 (ix2 r ⟨k.val, by omega⟩)).trans ((ya_col H 0 i r _ (Nat.zero_add _).symm).trans ?_)
    rw [Nat.zero_add]

end Cert.PostIdeal.Value

end
-- ==== Proof.PostGoal.lean ====
/- What the step after the heads is to return, on real arguments. -/
module

public import proofs.«01_k».proof.Proof.PostCols

@[expose] public section

noncomputable section

namespace Cert.PostIdeal.Value

open Cert.PostIdeal Cert.Reals Idealize.ShloMosaic

/-- The heads' outputs, transposed. -/
def goalY (P : Step) (j : S2048x4096.Idx) : EReal := ((P.yb (j 1).val (j 0).val : ℝ) : EReal)

/-- A matrix of rows. -/
def goalM (f : ℕ → ℕ → ℝ) (j : S4096x1024.Idx) : EReal := ((f (j 0).val (j 1).val : ℝ) : EReal)

/-- A matrix summed down its rows. -/
def goalS (f : ℕ → ℕ → ℝ) (j : S1x1024.Idx) : EReal := ((∑ i : Fin 4096, f i.val (j 1).val : ℝ) : EReal)

/-- The loss, in every place of a row. -/
def goalL (P : Step) (_ : S1x128.Idx) : EReal := (((∑ i : Fin 4096, P.rloss i.val) * (1 / 2048) : ℝ) : EReal)

/-- The attention's cotangent by heads. -/
def goalO (P : Step) (j : S16x4096x64.Idx) : EReal := ((P.do_ (j 1).val (64 * (j 0).val + (j 2).val) : ℝ) : EReal)

end Cert.PostIdeal.Value

end
-- ==== Proof.PostRefVal.lean ====
/- What the reference of the step after the heads computes, stage by stage, on real arguments. -/
module

public import proofs.«01_k».proof.Proof.Gen.PostRefIdeal.Run
public import proofs.«01_k».proof.Proof.PostGoal

@[expose] public section

set_option maxRecDepth 16384

noncomputable section

namespace Cert.PostRefIdeal.Value

open Cert.PostRefIdeal Cert.PostRefIdeal.Gen Cert.PostRefIdeal.Facts Cert.Reals Idealize.ShloMosaic Idealize.ShloMosaic.TcCoe Idealize.SL.Sem

theorem chalf_f32 : Ideal.ofBits .f32 0x3F000000#32 = ((1 / 2 : ℝ) : EReal) := by
  simp [Ideal.ofBits, Ideal.ieee]; norm_num [← EReal.coe_mul]

theorem ctwo_f32 : Ideal.ofBits .f32 0x40000000#32 = ((2 : ℝ) : EReal) := by
  simp [Ideal.ofBits, Ideal.ieee]; norm_num [← EReal.coe_mul]

abbrev Mat := FVec Ideal S4096x1024 .f32
abbrev Col := FVec Ideal S4096x1 .f32
abbrev Row := FVec Ideal S1x1024 .f32

/-- A column over the row. -/
abbrev wide (r : Col) : Mat := broadcastInDim S4096x1024 ![0, 1] bcast_S4096x1_S4096x1024_0_1 r

/-- A row over all rows. -/
abbrev tall (v : Row) : Mat := broadcastInDim S4096x1024 ![0, 1] bcast_S1x1024_S4096x1024_0_1 v

/-- The mean square of a row with its small constant. -/
abbrev ms (x : Mat) : Col :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- The sum down the rows. -/
abbrev down (v : Mat) : Row :=
  shapeCast _ (Host.reduceAdd v (constant S_ .f32 0x00000000#32) reducesTo_S4096x1024_S1024_d0 h_S_) shapeCasts_S1024_S1x1024

/-- What the mean square hands back to every element of a row, halved. -/
abbrev half (x t : Mat) (r v : Col) : Mat :=
  broadcastInDim S4096x1024 ![0] bcast_S4096_S4096x1024_0 (Host.reduceAdd (Host.divf (mulf (shapeCast _ (Host.reduceAdd (mulf x t)
    (constant S_ .f32 0x00000000#32) reducesTo_S4096x1024_S4096_d1 h_S_) shapeCasts_S4096_S4096x1)
    (mulf (broadcastInDim S4096x1 ![] bcast_S_S4096x1 (constant S_ .f32 0xBF000000#32)) (Host.divf r v)))
    (broadcastInDim S4096x1 ![] bcast_S_S4096x1 (constant S_ .f32 0x44800000#32))) (constant S_ .f32 0x00000000#32) reducesTo_S4096x1_S4096_d1 h_S_)

/-- The logistic function. -/
abbrev sig1 (z : Mat) : Mat := Host.divf (broadcastInDim S4096x1024 ![] bcast_S_S4096x1024 (constant S_ .f32 0x3F800000#32))
  (addf (broadcastInDim S4096x1024 ![] bcast_S_S4096x1024 (constant S_ .f32 0x3F800000#32)) (Host.exp (Host.negf z)))

theorem wide_at (r : Col) (i : Fin 4096) (b : Fin 1024) : wide r (ix2 i b) = r (ix2 i 0) := by
  pointwise

theorem tall_at (v : Row) (i : Fin 4096) (b : Fin 1024) : tall v (ix2 i b) = v (ix2 0 b) := by
  pointwise

theorem ms_at (x : Mat) (i : Fin 4096) : ms x (ix2 i 0) =
    Ideal.div (∑ l : Fin 1024, x (ix2 i l) * x (ix2 i l)) (Ideal.ofBits .f32 0x44800000#32) + Ideal.ofBits .f32 0x358637BD#32 := by
  pointwise

theorem down_at (v : Mat) (j : S1x1024.Idx) : down v j = ∑ i : Fin 4096, v (ix2 i (j 1)) := by
  pointwise

theorem half_at (x t : Mat) (r v : Col) (i : Fin 4096) (b : Fin 1024) : half x t r v (ix2 i b) =
    Ideal.div ((∑ l : Fin 1024, x (ix2 i l) * t (ix2 i l)) * (Ideal.ofBits .f32 0xBF000000#32 * Ideal.div (r (ix2 i 0)) (v (ix2 i 0))))
      (Ideal.ofBits .f32 0x44800000#32) := by
  pointwise
  simp only [Finset.univ_unique, Finset.sum_singleton]
  rfl

theorem sig1_at (z : Mat) (i : Fin 4096) (b : Fin 1024) (v : ℝ) (h : z (ix2 i b) = (v : EReal)) : sig1 z (ix2 i b) = ((sg v : ℝ) : EReal) := by
  rw [← sg_coe v, ← h]
  pointwise

/-- A matrix of real rows. -/
def IsM (x : Mat) (f : ℕ → ℕ → ℝ) : Prop := ∀ (i : Fin 4096) (b : Fin 1024), x (ix2 i b) = ((f i.val b.val : ℝ) : EReal)

def IsR (x : Row) (f : ℕ → ℝ) : Prop := ∀ b : Fin 1024, x (ix2 0 b) = ((f b.val : ℝ) : EReal)

theorem IsM.mul {x y : Mat} {f g : ℕ → ℕ → ℝ} (hx : IsM x f) (hy : IsM y g) : IsM (mulf x y) fun i b => f i b * g i b := fun i b => by
  show x (ix2 i b) * y (ix2 i b) = _
  rw [hx, hy, EReal.coe_mul]

theorem IsM.add {x y : Mat} {f g : ℕ → ℕ → ℝ} (hx : IsM x f) (hy : IsM y g) : IsM (addf x y) fun i b => f i b + g i b := fun i b => by
  show x (ix2 i b) + y (ix2 i b) = _
  rw [hx, hy, EReal.coe_add]

theorem IsM.sub {x y : Mat} {f g : ℕ → ℕ → ℝ} (hx : IsM x f) (hy : IsM y g) : IsM (subf x y) fun i b => f i b - g i b := fun i b => by
  show x (ix2 i b) - y (ix2 i b) = _
  rw [hx, hy, EReal.coe_sub]

theorem IsR.tall {x : Row} {f : ℕ → ℝ} (hx : IsR x f) : IsM (tall x) fun _ b => f b := fun i b => by rw [tall_at, hx]

theorem IsM.sig {x : Mat} {f : ℕ → ℕ → ℝ} (hx : IsM x f) : IsM (sig1 x) fun i b => sg (f i b) := fun i b => sig1_at x i b _ (hx i b)

theorem one_at (i : Fin 4096) (b : Fin 1024) : (broadcastInDim S4096x1024 ![] bcast_S_S4096x1024 (constant (F := Ideal) S_ .f32 0x3F800000#32) : Mat) (ix2 i b) = ((1 : ℝ) : EReal) := by
  rw [← cone_f32]
  pointwise

theorem IsM.of {x : Mat} {f g : ℕ → ℕ → ℝ} (hx : IsM x f) (h : ∀ (i b : ℕ), f i b = g i b) : IsM x g := fun i b => by rw [hx, h]

theorem IsM.rinv {x : Mat} {f : ℕ → ℕ → ℝ} (hx : IsM x f) : IsM (wide (Host.rsqrt (ms x))) fun i _ => rinv (f i) := fun i b => by
  rw [wide_at]
  show Ideal.rsqrt (ms x (ix2 i 0)) = _
  rw [ms_at, ← rinv_coe (f i.val)]
  simp only [hx i]

theorem IsM.hat {x : Mat} {f : ℕ → ℕ → ℝ} (hx : IsM x f) : IsM (mulf x (wide (Host.rsqrt (ms x)))) fun i b => hat (f i) b := hx.mul hx.rinv

theorem IsM.back {x t : Mat} {f d : ℕ → ℕ → ℝ} (hx : IsM x f) (ht : IsM t d) :
    IsM (addf (addf (mulf t (wide (Host.rsqrt (ms x)))) (mulf x (half x t (Host.rsqrt (ms x)) (ms x)))) (mulf (half x t (Host.rsqrt (ms x)) (ms x)) x))
      fun i b => back (f i) (d i) b := fun i b => by
  show t (ix2 i b) * wide (Host.rsqrt (ms x)) (ix2 i b) + x (ix2 i b) * half x t (Host.rsqrt (ms x)) (ms x) (ix2 i b)
    + half x t (Host.rsqrt (ms x)) (ms x) (ix2 i b) * x (ix2 i b) = _
  rw [wide_at, half_at, hx i b, ht i b]
  refine back_coe (f i.val) (d i.val) b (ms x (ix2 i 0)) _ _ ?_ rfl ?_
  · rw [ms_at, c1024_f32, eps_f32]
    simp only [hx i]
  · rw [c1024_f32, cneghalf_f32]
    simp only [hx i, ht i]

theorem IsM.down {x : Mat} {f : ℕ → ℕ → ℝ} (hx : IsM x f) : Value.down x = Cert.PostIdeal.Value.goalS f := by
  funext j
  rw [down_at, Cert.PostIdeal.Value.goalS, ← sum_coe]
  exact Finset.sum_congr rfl fun i _ => hx i (j 1)

theorem IsM.eq {x : Mat} {f : ℕ → ℕ → ℝ} (hx : IsM x f) : x = Cert.PostIdeal.Value.goalM f := by
  funext j
  rw [eq_ix2 j]
  exact hx (j 0) (j 1)

open Cert.PostIdeal.Value (goalY goalM goalS goalL goalO)

/-- A sum over both groups' columns. -/
theorem sum2 {M : Type} [AddCommMonoid M] (f : Fin 2048 → M) : ∑ k, f k = ∑ k : Fin 1024, f ⟨k.val, by omega⟩ + ∑ k : Fin 1024, f ⟨1024 + k.val, by omega⟩ :=
  Fin.sum_univ_add (a := 1024) (b := 1024) f

theorem dot1_at (A : FVec Ideal S4096x2048 .f32) (B : FVec Ideal S2048x1024 .f32) (i : Fin 4096) (b : Fin 1024) :
    Host.dotGeneral dot_S4096x2048_S2048x1024_S4096x1024_1_0_0_1_n_n none A B (ix2 i b) = ∑ k : Fin 2048, A (ix2 i k) * B (ix2 k b) := by
  pointwise

theorem dot2_at (A : Mat) (B : FVec Ideal S2048x1024 .f32) (i : Fin 4096) (k : Fin 2048) :
    Host.dotGeneral dot_S4096x1024_S2048x1024_S4096x2048_1_1_0_0_n_n none A B (ix2 i k) = ∑ b : Fin 1024, A (ix2 i b) * B (ix2 k b) := by
  pointwise

/-- The arguments are real. -/
structure ArgsAt (P : Step) (V0 : Valuation τ sig (Elt Ideal)) : Prop where
  x : IsM (V0 (Proc.devRef .tc main_arg0)) P.x
  t : IsM (V0 (Proc.devRef .tc main_arg1)) P.t
  o : ∀ (n : Fin 16) (i : Fin 4096) (d : Fin 64), (V0 (Proc.devRef .tc main_arg2) : FVec Ideal S16x4096x64 .f32) (ix3 n i d) = ((P.o i.val (64 * n.val + d.val) : ℝ) : EReal)
  y : IsM (V0 (Proc.devRef .tc main_arg3)) P.y
  za : IsM (V0 (Proc.devRef .tc main_arg4)) P.za
  zs : IsM (V0 (Proc.devRef .tc main_arg5)) P.zs
  w : ∀ (k : Fin 2048) (b : Fin 1024), (V0 (Proc.devRef .tc main_arg6) : FVec Ideal S2048x1024 .f32) (ix2 k b) = ((P.w k.val b.val : ℝ) : EReal)
  gate : IsR (V0 (Proc.devRef .tc main_arg7)) P.gate
  gb : IsR (V0 (Proc.devRef .tc main_arg8)) P.gb
  gs : IsR (V0 (Proc.devRef .tc main_arg9)) P.gs
  gf : IsR (V0 (Proc.devRef .tc main_arg10)) P.gf

variable {P : Step} {V0 : Valuation τ sig (Elt Ideal)} (H : ArgsAt P V0)

include H

theorem v1_is : IsM (res_main_v1 V0) P.o := fun i b => by
  have e : res_main_v1 V0 (ix2 i b) = (V0 (Proc.devRef .tc main_arg2) : FVec Ideal S16x4096x64 .f32) (ix3 ⟨b.val / 64, by omega⟩ i ⟨b.val % 64, by omega⟩) := by
    unfold res_main_v1
    pointwise
  rw [e, H.o]
  congr 2
  show 64 * (b.val / 64) + b.val % 64 = b.val
  omega

theorem v14_is : IsM (res_main_v14 V0) fun i b => hat (P.o i) b := (v1_is H).hat

theorem v16_is : IsM (res_main_v16 V0) fun i b => hat (P.o i) b * P.gb b := (v14_is H).mul H.gb.tall

theorem v17_2_is : IsM (res_main_v17_2 V0) fun i b => sg (P.za i b) := H.za.sig

theorem v17_0_is : IsM (res_main_v17_0 V0) fun i b => silu (P.za i b) := H.za.mul (v17_2_is H)

theorem v19_2_is : IsM (res_main_v19_2 V0) fun i b => sg (P.zs i b) := H.zs.sig

theorem v19_0_is : IsM (res_main_v19_0 V0) fun i b => silu (P.zs i b) := H.zs.mul (v19_2_is H)

theorem v20_is : IsM (res_main_v20 V0) P.u := H.y.mul (v19_0_is H)

theorem v33_is : IsM (res_main_v33 V0) fun i b => hat (P.u i) b := (v20_is H).hat

theorem v36_is (i : Fin 4096) (k : Fin 2048) : res_main_v36 V0 (ix2 i k) = ((P.yb i.val k.val : ℝ) : EReal) := by
  have ea : IsM (mulf (res_main_v16 V0) (res_main_v17_0 V0)) P.ya := (v16_is H).mul (v17_0_is H)
  have es : IsM (mulf (res_main_v33 V0) (tall (V0 (Proc.devRef .tc main_arg9)))) P.ys := (v33_is H).mul H.gs.tall
  unfold res_main_v36
  generalize mulf (res_main_v16 V0) (res_main_v17_0 V0) = A at ea ⊢
  generalize mulf (res_main_v33 V0) (tall (V0 (Proc.devRef .tc main_arg9))) = B at es ⊢
  unfold Step.yb
  by_cases hk : k.val < 1024
  · rw [if_pos hk, ← ea i ⟨k.val, hk⟩]
    pointwise
    rw [dif_pos hk]
  · rw [if_neg hk, ← es i ⟨k.val - 1024, by omega⟩]
    pointwise
    rw [dif_neg hk]

theorem v37_is : IsM (res_main_v37 V0) P.mixed := fun i b => by
  unfold res_main_v37
  refine (dot1_at _ _ i b).trans ?_
  simp only [v36_is H, H.w, ← EReal.coe_mul]
  rw [sum_coe, sum2, Step.mixed]
  refine congrArg (fun v : ℝ => (v : EReal)) (congrArg₂ (· + ·) ?_ ?_)
  · exact Finset.sum_congr rfl fun k _ => by rw [Step.yb, if_pos k.isLt]
  · exact Finset.sum_congr rfl fun k _ => by rw [Step.yb, if_neg (by simp), Nat.add_sub_cancel_left]

theorem v40_is : IsM (res_main_v40 V0) P.x2 := H.x.add (H.gate.tall.mul (v37_is H))

theorem v53_is : IsM (res_main_v53 V0) fun i b => hat (P.x2 i) b := (v40_is H).hat

theorem v56_is : IsM (res_main_v56 V0) P.diff := ((v53_is H).mul H.gf.tall).sub H.t

theorem v70_is : IsM (res_main_v70 V0) P.dout := fun i b => by
  have e : res_main_v70 V0 (ix2 i b) = Ideal.div (Ideal.ofBits .f32 0x3F000000#32 * Ideal.ofBits .f32 0x3F800000#32) (Ideal.ofBits .f32 0x44800000#32)
      * (Ideal.ofBits .f32 0x40000000#32 * res_main_v56 V0 (ix2 i b)) := by
    unfold res_main_v70
    pointwise
  rw [e, chalf_f32, cone_f32, c1024_f32, ctwo_f32, v56_is H, ← EReal.coe_mul, div_coe _ _ (by norm_num), ← EReal.coe_mul, ← EReal.coe_mul, Step.dout]
  congr 1
  ring

theorem v75_is : IsM (res_main_v75 V0) P.dxh := (v70_is H).mul H.gf.tall

theorem v89_is : IsM (res_main_v89 V0) P.dx2 := (v40_is H).back (v75_is H)

theorem v91_is : IsM (res_main_v91 V0) P.dm := (H.gate.tall.mul (v89_is H)).of fun _ _ => mul_comm _ _

theorem v95_is (i : Fin 4096) (k : Fin 2048) : res_main_v95 V0 (ix2 i k) = ((∑ b : Fin 1024, P.dm i.val b.val * P.w k.val b.val : ℝ) : EReal) := by
  unfold res_main_v95
  refine (dot2_at _ _ i k).trans ?_
  simp only [v91_is H _ _, H.w, ← EReal.coe_mul]
  rw [sum_coe]

theorem v96_is : IsM (res_main_v96 V0) P.dya := fun i b => by
  have e : res_main_v96 V0 (ix2 i b) = res_main_v95 V0 (ix2 i ⟨b.val, by omega⟩) := by
    unfold res_main_v96
    pointwise
  rw [e, v95_is H]; rfl

theorem v97_is : IsM (res_main_v97 V0) P.dys := fun i b => by
  have e : res_main_v97 V0 (ix2 i b) = res_main_v95 V0 (ix2 i ⟨1024 + b.val, by omega⟩) := by
    unfold res_main_v97
    pointwise
  rw [e, v95_is H]; rfl

theorem v102_is : IsM (res_main_v102 V0) P.dus := (v97_is H).mul H.gs.tall

theorem v116_is : IsM (res_main_v116 V0) P.du := (v20_is H).back (v102_is H)

theorem v117_is : IsM (res_main_v117 V0) fun i b => P.y i b * P.du i b := H.y.mul (v116_is H)

theorem v120_is : IsM (res_main_v120 V0) fun i b => hat (P.o i) b * P.gb b * P.dya i b := (v16_is H).mul (v96_is H)

theorem v121_is : IsM (res_main_v121 V0) fun i b => P.dya i b * silu (P.za i b) := (v96_is H).mul (v17_0_is H)

theorem v127_is : IsM (res_main_v127 V0) P.da := ((v121_is H).mul H.gb.tall).of fun _ _ => mul_right_comm _ _ _

theorem out1_is : IsM (addf (addf (mulf (res_main_v127 V0) (wide (res_main_v9 V0))) (mulf (res_main_v1 V0) (res_main_v137 V0))) (mulf (res_main_v137 V0) (res_main_v1 V0))) P.do_ :=
  (v1_is H).back (v127_is H)

theorem res0 : (transpose S2048x4096 [1, 0] (truncf .bf16 (res_main_v36 V0) bitsLt_bf16_f32) transposes_S4096x2048_S2048x4096_1_0 : FVec Ideal S2048x4096 .bf16) = goalY P := by
  funext j
  refine Eq.trans ?_ (v36_is H (j 1) (j 0))
  generalize res_main_v36 V0 = A
  pointwise

theorem res1 : (truncf .bf16 (res_main_v91 V0) bitsLt_bf16_f32 : FVec Ideal S4096x1024 .bf16) = goalM P.dm :=
  (v91_is H).eq

theorem res2 : (res_main_v89 V0 : FVec Ideal S4096x1024 .f32) = goalM P.dx2 :=
  (v89_is H).eq

theorem res3 : (broadcastInDim S1x128 ![] bcast_S_S1x128 (mulf (constant S_ .f32 0x3F000000#32) (Host.reduceAdd (Host.divf (Host.reduceAdd (mulf (res_main_v56 V0) (res_main_v56 V0)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S1x128 .f32) = goalL P := by
  funext j
  have e : ∀ D : Mat, (broadcastInDim S1x128 ![] bcast_S_S1x128 (mulf (constant S_ .f32 0x3F000000#32) (Host.reduceAdd (Host.divf (Host.reduceAdd (mulf D D) (constant S_ .f32 0x00000000#32) reducesTo_S4096x1024_S4096_d1 h_S_)
      (broadcastInDim S4096 ![] bcast_S_S4096 (constant S_ .f32 0x44800000#32))) (constant S_ .f32 0x00000000#32) reducesTo_S4096_S_d0 h_S_)) : FVec Ideal S1x128 .f32) j
      = Ideal.ofBits .f32 0x3F000000#32 * ∑ i : Fin 4096, Ideal.div (∑ l : Fin 1024, D (ix2 i l) * D (ix2 i l)) (Ideal.ofBits .f32 0x44800000#32) := fun D => by
    pointwise
  refine (e _).trans ?_
  rw [goalL, chalf_f32, c1024_f32]
  simp only [v56_is H _ _, ← EReal.coe_mul, sum_coe]
  have h : ∀ i : Fin 4096, Ideal.div ((∑ l : Fin 1024, P.diff i.val l.val * P.diff i.val l.val : ℝ) : EReal) ((1024 : ℝ) : EReal) = ((P.rloss i.val / 1024 : ℝ) : EReal) :=
    fun i => div_coe _ _ (by norm_num)
  simp only [h]
  rw [sum_coe, ← EReal.coe_mul, ← Finset.sum_div]
  congr 1
  ring

theorem res4 : (down (mulf (res_main_v53 V0) (res_main_v70 V0)) : FVec Ideal S1x1024 .f32) = goalS P.rgf :=
  IsM.down (((v53_is H).mul (v70_is H)).of fun _ _ => mul_comm _ _)

theorem res5 : (down (mulf (res_main_v89 V0) (res_main_v37 V0)) : FVec Ideal S1x1024 .f32) = goalS P.rgate :=
  IsM.down ((v89_is H).mul (v37_is H))

theorem res6 : (truncf .bf16 (transpose S16x4096x64 [1, 0, 2] (shapeCast _ (addf (addf (mulf (res_main_v127 V0) (broadcastInDim S4096x1024 ![0, 1] bcast_S4096x1_S4096x1024_0_1 (res_main_v9 V0))) (mulf (res_main_v1 V0) (res_main_v137 V0))) (mulf (res_main_v137 V0) (res_main_v1 V0))) shapeCasts_S4096x1024_S4096x16x64) transposes_S4096x16x64_S16x4096x64_1_0_2) bitsLt_bf16_f32 : FVec Ideal S16x4096x64 .bf16) = goalO P := by
  funext j
  have e := out1_is H (j 1) ⟨64 * (j 0).val + (j 2).val, by have h0 := (j 0).isLt; have h2 := (j 2).isLt; change (j 0).val < 16 at h0; change (j 2).val < 64 at h2; omega⟩
  refine Eq.trans ?_ e
  generalize addf (addf (mulf (res_main_v127 V0) (wide (res_main_v9 V0))) (mulf (res_main_v1 V0) (res_main_v137 V0))) (mulf (res_main_v137 V0) (res_main_v1 V0)) = A
  pointwise
  exact congrArg (fun k => A (ix2 (j 1) k)) (Fin.ext (by show (j 0).val * 64 + (j 2).val = 64 * (j 0).val + (j 2).val; rw [mul_comm]))

theorem res7 : (truncf .bf16 (addf (mulf (res_main_v120 V0) (res_main_v17_2 V0)) (mulf (mulf (V0 (Proc.devRef .tc main_arg4)) (res_main_v120 V0)) (mulf (res_main_v17_2 V0) (subf (broadcastInDim S4096x1024 ![] bcast_S_S4096x1024 (constant S_ .f32 0x3F800000#32)) (res_main_v17_2 V0))))) bitsLt_bf16_f32 : FVec Ideal S4096x1024 .bf16) = goalM P.dza :=
  IsM.eq ((((v120_is H).mul (v17_2_is H)).add ((H.za.mul (v120_is H)).mul ((v17_2_is H).mul ((show IsM _ fun _ _ => 1 from one_at).sub (v17_2_is H))))).of fun i b => by
    unfold Step.dza dsilu
    ring)

theorem res8 : (truncf .bf16 (addf (mulf (res_main_v117 V0) (res_main_v19_2 V0)) (mulf (mulf (V0 (Proc.devRef .tc main_arg5)) (res_main_v117 V0)) (mulf (res_main_v19_2 V0) (subf (broadcastInDim S4096x1024 ![] bcast_S_S4096x1024 (constant S_ .f32 0x3F800000#32)) (res_main_v19_2 V0))))) bitsLt_bf16_f32 : FVec Ideal S4096x1024 .bf16) = goalM P.dzs :=
  IsM.eq ((((v117_is H).mul (v19_2_is H)).add ((H.zs.mul (v117_is H)).mul ((v19_2_is H).mul ((show IsM _ fun _ _ => 1 from one_at).sub (v19_2_is H))))).of fun i b => by
    unfold Step.dzs dsilu
    ring)

theorem res9 : (mulf (res_main_v116 V0) (res_main_v19_0 V0) : FVec Ideal S4096x1024 .f32) = goalM P.dy :=
  ((v116_is H).mul (v19_0_is H)).eq

theorem res10 : (down (mulf (res_main_v14 V0) (res_main_v121 V0)) : FVec Ideal S1x1024 .f32) = goalS P.rgb :=
  IsM.down (((v14_is H).mul (v121_is H)).of fun i b => by unfold Step.rgb; ring)

theorem res11 : (down (mulf (res_main_v33 V0) (res_main_v97 V0)) : FVec Ideal S1x1024 .f32) = goalS P.rgs :=
  IsM.down (((v33_is H).mul (v97_is H)).of fun _ _ => mul_comm _ _)

end Cert.PostRefIdeal.Value

end
-- ==== Proof.PostLds.lean ====
/- What a grid point of the step after the heads leaves in its output blocks, in both cases of its body: the first point starts the sums from
   nothing, the others from what the point before left. -/
module

public import proofs.«01_k».proof.Proof.PostCols
public import proofs.«01_k».proof.Proof.Gen.PostIdeal.Value

@[expose] public section

set_option maxRecDepth 16384

noncomputable section

namespace Cert.PostIdeal.Value

open Cert.PostIdeal Cert.PostIdeal.Gen Cert.Reals Idealize.ShloMosaic Idealize.ShloMosaic.TcCoe Idealize.SL.Sem

/-- Stores that are blocks of `G` and cover an index leave `G` there. -/
theorem readPieces {s : Shape} {e : EltTy} {κ : Kind} {sp : Space} (v : View sig κ sp s e) (f : v.ty.Contents (Elt Ideal)) (L : List (View.Piece (Elt Ideal) s e))
    (G : s.Idx → Elt Ideal e) (h : View.PiecesOf G L) (y : s.Idx) (hc : ∃ p ∈ L, y ∈ p.1.set) : v.read (Elt Ideal) (v.writes (Elt Ideal) f L) y = G y := by
  rw [View.read_writes_apply_eq_canon v f y L hc]
  have := View.canon_append_of_piecesOf G [] L h y hc
  rwa [List.append_nil] at this

/-- The blocks a point reads are rows of a step on reals. -/
structure PtAt (P : Step) (x0 : Vec Ideal S256x1024 .f32) (x1 : Vec Ideal S256x1024 .f32) (x2 : Vec Ideal S16x256x128 .f32) (x3 : Vec Ideal S256x1024 .f32) (x4 : Vec Ideal S256x1024 .f32) (x5 : Vec Ideal S256x1024 .f32) (x6 : Vec Ideal S2048x1024 .bf16) (x7 : Vec Ideal S1x1024 .f32) (x8 : Vec Ideal S1x1024 .f32) (x9 : Vec Ideal S1x1024 .f32) (x10 : Vec Ideal S1x1024 .f32) : Prop where
  x : ∀ (a : Fin 256) (b : Fin 1024), x0 (ix2 a b) = ((P.x a.val b.val : ℝ) : EReal)
  t : ∀ (a : Fin 256) (b : Fin 1024), x1 (ix2 a b) = ((P.t a.val b.val : ℝ) : EReal)
  h : ∀ (n : Fin 16) (a : Fin 256) (d : Fin 128), d.val < 64 → x2 (ix3 n a d) = ((P.o a.val (64 * n.val + d.val) : ℝ) : EReal)
  y : ∀ (a : Fin 256) (b : Fin 1024), x3 (ix2 a b) = ((P.y a.val b.val : ℝ) : EReal)
  za : ∀ (a : Fin 256) (b : Fin 1024), x4 (ix2 a b) = ((P.za a.val b.val : ℝ) : EReal)
  zs : ∀ (a : Fin 256) (b : Fin 1024), x5 (ix2 a b) = ((P.zs a.val b.val : ℝ) : EReal)
  w : ∀ (k : Fin 2048) (b : Fin 1024), x6 (ix2 k b) = ((P.w k.val b.val : ℝ) : EReal)
  gate : ∀ b : Fin 1024, x7 (ix2 0 b) = ((P.gate b.val : ℝ) : EReal)
  gb : ∀ b : Fin 1024, x8 (ix2 0 b) = ((P.gb b.val : ℝ) : EReal)
  gs : ∀ b : Fin 1024, x9 (ix2 0 b) = ((P.gs b.val : ℝ) : EReal)
  gf : ∀ b : Fin 1024, x10 (ix2 0 b) = ((P.gf b.val : ℝ) : EReal)

/-- What a point leaves in its blocks of outputs, `z14` … being what the sums hold before. -/
structure OutAt (P : Step) (z14 : Vec Ideal S1x128 .f32) (z15 z16 z21 z22 : Vec Ideal S1x1024 .f32)
    (O : Vec Ideal S2048x256 .bf16 × Vec Ideal S256x1024 .bf16 × Vec Ideal S256x1024 .f32 × Vec Ideal S1x128 .f32 × Vec Ideal S1x1024 .f32 × Vec Ideal S1x1024 .f32 × Vec Ideal S16x256x64 .bf16 × Vec Ideal S256x1024 .bf16 × Vec Ideal S256x1024 .bf16 × Vec Ideal S256x1024 .f32 × Vec Ideal S1x1024 .f32 × Vec Ideal S1x1024 .f32) : Prop where
  y : ∀ j, O.1 j = ybG P j
  dm : ∀ (a : Fin 256) (b : Fin 1024), O.2.1 (ix2 a b) = ((P.dm a.val b.val : ℝ) : EReal)
  dx : ∀ (a : Fin 256) (b : Fin 1024), O.2.2.1 (ix2 a b) = ((P.dx2 a.val b.val : ℝ) : EReal)
  loss : ∀ e : Fin 128, O.2.2.2.1 (ix2 0 e) = z14 (ix2 0 e) + (((∑ a : Fin 256, P.rloss a.val) * (1 / 2048) : ℝ) : EReal)
  gf : ∀ b : Fin 1024, O.2.2.2.2.1 (ix2 0 b) = z15 (ix2 0 b) + ((∑ a : Fin 256, P.rgf a.val b.val : ℝ) : EReal)
  gate : ∀ b : Fin 1024, O.2.2.2.2.2.1 (ix2 0 b) = z16 (ix2 0 b) + ((∑ a : Fin 256, P.rgate a.val b.val : ℝ) : EReal)
  do_ : ∀ j, O.2.2.2.2.2.2.1 j = doG P j
  dza : ∀ (a : Fin 256) (b : Fin 1024), O.2.2.2.2.2.2.2.1 (ix2 a b) = ((P.dza a.val b.val : ℝ) : EReal)
  dzs : ∀ (a : Fin 256) (b : Fin 1024), O.2.2.2.2.2.2.2.2.1 (ix2 a b) = ((P.dzs a.val b.val : ℝ) : EReal)
  dy : ∀ (a : Fin 256) (b : Fin 1024), O.2.2.2.2.2.2.2.2.2.1 (ix2 a b) = ((P.dy a.val b.val : ℝ) : EReal)
  gb : ∀ b : Fin 1024, O.2.2.2.2.2.2.2.2.2.2.1 (ix2 0 b) = z21 (ix2 0 b) + ((∑ a : Fin 256, P.rgb a.val b.val : ℝ) : EReal)
  gs : ∀ b : Fin 1024, O.2.2.2.2.2.2.2.2.2.2.2 (ix2 0 b) = z22 (ix2 0 b) + ((∑ a : Fin 256, P.rgs a.val b.val : ℝ) : EReal)

theorem outAt_mk (P : Step) (z14 : Vec Ideal S1x128 .f32) (z15 z16 z21 z22 : Vec Ideal S1x1024 .f32) (o0 : Vec Ideal S2048x256 .bf16) (o1 : Vec Ideal S256x1024 .bf16) (o2 : Vec Ideal S256x1024 .f32) (o3 : Vec Ideal S1x128 .f32) (o4 : Vec Ideal S1x1024 .f32) (o5 : Vec Ideal S1x1024 .f32) (o6 : Vec Ideal S16x256x64 .bf16) (o7 : Vec Ideal S256x1024 .bf16) (o8 : Vec Ideal S256x1024 .bf16) (o9 : Vec Ideal S256x1024 .f32) (o10 : Vec Ideal S1x1024 .f32) (o11 : Vec Ideal S1x1024 .f32)
    (h_y : ∀ j, o0 j = ybG P j)
    (h_dm : ∀ (a : Fin 256) (b : Fin 1024), o1 (ix2 a b) = ((P.dm a.val b.val : ℝ) : EReal))
    (h_dx : ∀ (a : Fin 256) (b : Fin 1024), o2 (ix2 a b) = ((P.dx2 a.val b.val : ℝ) : EReal))
    (h_loss : ∀ e : Fin 128, o3 (ix2 0 e) = z14 (ix2 0 e) + (((∑ a : Fin 256, P.rloss a.val) * (1 / 2048) : ℝ) : EReal))
    (h_gf : ∀ b : Fin 1024, o4 (ix2 0 b) = z15 (ix2 0 b) + ((∑ a : Fin 256, P.rgf a.val b.val : ℝ) : EReal))
    (h_gate : ∀ b : Fin 1024, o5 (ix2 0 b) = z16 (ix2 0 b) + ((∑ a : Fin 256, P.rgate a.val b.val : ℝ) : EReal))
    (h_do_ : ∀ j, o6 j = doG P j)
    (h_dza : ∀ (a : Fin 256) (b : Fin 1024), o7 (ix2 a b) = ((P.dza a.val b.val : ℝ) : EReal))
    (h_dzs : ∀ (a : Fin 256) (b : Fin 1024), o8 (ix2 a b) = ((P.dzs a.val b.val : ℝ) : EReal))
    (h_dy : ∀ (a : Fin 256) (b : Fin 1024), o9 (ix2 a b) = ((P.dy a.val b.val : ℝ) : EReal))
    (h_gb : ∀ b : Fin 1024, o10 (ix2 0 b) = z21 (ix2 0 b) + ((∑ a : Fin 256, P.rgb a.val b.val : ℝ) : EReal))
    (h_gs : ∀ b : Fin 1024, o11 (ix2 0 b) = z22 (ix2 0 b) + ((∑ a : Fin 256, P.rgs a.val b.val : ℝ) : EReal)) :
    OutAt P z14 z15 z16 z21 z22 (o0, o1, o2, o3, o4, o5, o6, o7, o8, o9, o10, o11) :=
  ⟨h_y, h_dm, h_dx, h_loss, h_gf, h_gate, h_do_, h_dza, h_dzs, h_dy, h_gb, h_gs⟩

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x256x128 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2048x256 .bf16) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S1x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S16x256x64 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .f32) (harg21 : arg21.IsWhole) (arg22 : Memref sig .tc .vmem S1x1024 .f32) (harg22 : arg22.IsWhole) (arg23 : Memref sig .tc .vmem S1x1024 .f32) (harg23 : arg23.IsWhole)
  (x0 : Vec Ideal S256x1024 .f32) (x1 : Vec Ideal S256x1024 .f32) (x2 : Vec Ideal S16x256x128 .f32) (x3 : Vec Ideal S256x1024 .f32) (x4 : Vec Ideal S256x1024 .f32) (x5 : Vec Ideal S256x1024 .f32) (x6 : Vec Ideal S2048x1024 .bf16) (x7 : Vec Ideal S1x1024 .f32) (x8 : Vec Ideal S1x1024 .f32) (x9 : Vec Ideal S1x1024 .f32) (x10 : Vec Ideal S1x1024 .f32)

theorem headInb (n : Fin 16) (a : Fin 3) : (![n.val, 0, 0] : Fin 3 → ℕ) a + S1x256x128.size a ≤ S16x256x128.size a := by
  match a with
  | 0 => show n.val + 1 ≤ 16; omega
  | 1 => exact le_refl _
  | 2 => exact le_refl _

/-- The body's loads of the blocks it is given. -/
def lds : Ld where
  h n := View.readAt (Elt Ideal) arg3.view (Rect.unit (s := S16x256x128) ![n.val, 0, 0] S1x256x128.size (headInb n)).toLoadRect (harg3.unread x2)
  x := View.readAt (Elt Ideal) arg1.view (Rect.unit ![0, 0] S256x1024.size inb_S256x1024_S256x1024_0_0).toLoadRect (harg1.unread x0)
  t := View.readAt (Elt Ideal) arg2.view (Rect.unit ![0, 0] S256x1024.size inb_S256x1024_S256x1024_0_0).toLoadRect (harg2.unread x1)
  y := View.readAt (Elt Ideal) arg4.view (Rect.unit ![0, 0] S256x1024.size inb_S256x1024_S256x1024_0_0).toLoadRect (harg4.unread x3)
  za := View.readAt (Elt Ideal) arg5.view (Rect.unit ![0, 0] S256x1024.size inb_S256x1024_S256x1024_0_0).toLoadRect (harg5.unread x4)
  zs := View.readAt (Elt Ideal) arg6.view (Rect.unit ![0, 0] S256x1024.size inb_S256x1024_S256x1024_0_0).toLoadRect (harg6.unread x5)
  gate := View.readAt (Elt Ideal) arg8.view (Rect.unit ![0, 0] S1x1024.size inb_S1x1024_S1x1024_0_0).toLoadRect (harg8.unread x7)
  gb := View.readAt (Elt Ideal) arg9.view (Rect.unit ![0, 0] S1x1024.size inb_S1x1024_S1x1024_0_0).toLoadRect (harg9.unread x8)
  gs := View.readAt (Elt Ideal) arg10.view (Rect.unit ![0, 0] S1x1024.size inb_S1x1024_S1x1024_0_0).toLoadRect (harg10.unread x9)
  gf := View.readAt (Elt Ideal) arg11.view (Rect.unit ![0, 0] S1x1024.size inb_S1x1024_S1x1024_0_0).toLoadRect (harg11.unread x10)
  w0 := View.readAt (Elt Ideal) arg7.view (Rect.unit (s := S2048x1024) ![0, 0] S1024x1024.size inb_S2048x1024_S1024x1024_0_0).toLoadRect (harg7.unread x6)
  w1 := View.readAt (Elt Ideal) arg7.view (Rect.unit (s := S2048x1024) ![1024, 0] S1024x1024.size inb_S2048x1024_S1024x1024_1024_0).toLoadRect (harg7.unread x6)

variable {P : Step}

theorem lds_at (h : PtAt P x0 x1 x2 x3 x4 x5 x6 x7 x8 x9 x10) : LdAt P (lds arg1 harg1 arg2 harg2 arg3 harg3 arg4 harg4 arg5 harg5 arg6 harg6 arg7 harg7 arg8 harg8 arg9 harg9 arg10 harg10 arg11 harg11 x0 x1 x2 x3 x4 x5 x6 x7 x8 x9 x10) where
  h n a d hd := by
    unfold lds
    dsimp only
    rw [View.readAt_eq_ld, Memref.IsWhole.read_unread]
    refine Eq.trans (congrArg x2 ?_) (h.h n a d hd)
    funext k
    refine Fin.ext ?_
    match k with
    | 0 => show n.val + 1 * 0 = n.val; omega
    | 1 => show 0 + 1 * a.val = a.val; omega
    | 2 => show 0 + 1 * d.val = d.val; omega
  x a b := by
    unfold lds
    dsimp only
    rw [View.readAt_full, Memref.IsWhole.read_unread]
    exact h.x a b
  t a b := by
    unfold lds
    dsimp only
    rw [View.readAt_full, Memref.IsWhole.read_unread]
    exact h.t a b
  y a b := by
    unfold lds
    dsimp only
    rw [View.readAt_full, Memref.IsWhole.read_unread]
    exact h.y a b
  za a b := by
    unfold lds
    dsimp only
    rw [View.readAt_full, Memref.IsWhole.read_unread]
    exact h.za a b
  zs a b := by
    unfold lds
    dsimp only
    rw [View.readAt_full, Memref.IsWhole.read_unread]
    exact h.zs a b
  gate b := by
    unfold lds
    dsimp only
    rw [View.readAt_full, Memref.IsWhole.read_unread]
    exact h.gate b
  gb b := by
    unfold lds
    dsimp only
    rw [View.readAt_full, Memref.IsWhole.read_unread]
    exact h.gb b
  gs b := by
    unfold lds
    dsimp only
    rw [View.readAt_full, Memref.IsWhole.read_unread]
    exact h.gs b
  gf b := by
    unfold lds
    dsimp only
    rw [View.readAt_full, Memref.IsWhole.read_unread]
    exact h.gf b
  w0 k b := by
    unfold lds
    dsimp only
    rw [View.readAt_eq_ld, Memref.IsWhole.read_unread]
    refine Eq.trans (congrArg x6 ?_) (h.w ⟨k.val, by omega⟩ b)
    funext q
    refine Fin.ext ?_
    match q with
    | 0 => show 0 + 1 * k.val = k.val; omega
    | 1 => show 0 + 1 * b.val = b.val; omega
  w1 k b := by
    unfold lds
    dsimp only
    rw [View.readAt_eq_ld, Memref.IsWhole.read_unread]
    refine Eq.trans (congrArg x6 ?_) (h.w ⟨1024 + k.val, by omega⟩ b)
    funext q
    refine Fin.ext ?_
    match q with
    | 0 => show 1024 + 1 * k.val = 1024 + k.val; omega
    | 1 => show 0 + 1 * b.val = b.val; omega

end

end Cert.PostIdeal.Value

end
-- ==== Proof.PostOutA.lean ====
/- What the first grid point, which starts the sums from nothing, leaves in the blocks of the step after the heads. -/
module

public import proofs.«01_k».proof.Proof.PostLds

@[expose] public section

set_option maxRecDepth 16384

noncomputable section

namespace Cert.PostIdeal.Value

open Cert.PostIdeal Cert.PostIdeal.Gen Cert.Reals Idealize.ShloMosaic Idealize.ShloMosaic.TcCoe Idealize.SL.Sem

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x256x128 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2048x256 .bf16) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S1x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S16x256x64 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .f32) (harg21 : arg21.IsWhole) (arg22 : Memref sig .tc .vmem S1x1024 .f32) (harg22 : arg22.IsWhole) (arg23 : Memref sig .tc .vmem S1x1024 .f32) (harg23 : arg23.IsWhole)
  (x0 : Vec Ideal S256x1024 .f32) (x1 : Vec Ideal S256x1024 .f32) (x2 : Vec Ideal S16x256x128 .f32) (x3 : Vec Ideal S256x1024 .f32) (x4 : Vec Ideal S256x1024 .f32) (x5 : Vec Ideal S256x1024 .f32) (x6 : Vec Ideal S2048x1024 .bf16) (x7 : Vec Ideal S1x1024 .f32) (x8 : Vec Ideal S1x1024 .f32) (x9 : Vec Ideal S1x1024 .f32) (x10 : Vec Ideal S1x1024 .f32)

variable {P : Step}

theorem run_A11 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).1 = (lds arg1 harg1 arg2 harg2 arg3 harg3 arg4 harg4 arg5 harg5 arg6 harg6 arg7 harg7 arg8 harg8 arg9 harg9 arg10 harg10 arg11 harg11 x0 x1 x2 x3 x4 x5 x6 x7 x8 x9 x10).yPieces := by
  sl_kernel_rfl

theorem out_A11 (hc0 : cond0_0 i) (h : PtAt P x0 x1 x2 x3 x4 x5 x6 x7 x8 x9 x10) (j) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 j = ybG P j := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 j
  unfold out0_A_11
  rw [run_A11] at hc ⊢
  exact readPieces VO0_11 _ _ (ybG P) (y_pieces h') j hc

theorem run_A12 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s234⟩] := by
  sl_kernel_rfl

theorem out_A12 (hc0 : cond0_0 i) (h : PtAt P x0 x1 x2 x3 x4 x5 x6 x7 x8 x9 x10) (a : Fin 256) (b : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 a b) = ((P.dm a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_A_12
  rw [run_A12]
  exact (congrFun (View.read_writes_full (s := S256x1024) VO0_12 _ _ _ _) (ix2 a b)).trans (s234_at h' a b)

theorem run_A13 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s223⟩] := by
  sl_kernel_rfl

theorem out_A13 (hc0 : cond0_0 i) (h : PtAt P x0 x1 x2 x3 x4 x5 x6 x7 x8 x9 x10) (a : Fin 256) (b : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 a b) = ((P.dx2 a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_A_13
  rw [run_A13]
  exact (congrFun (View.read_writes_full (s := S256x1024) VO0_13 _ _ _ _) (ix2 a b)).trans (s223_at h' a b)

theorem run_A14 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.1 = ⟨Rect.unit (s := S1x128) ![0, 0] S1x128.size inb_S1x128_S1x128_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s201 (kernelRun0_A.sl.v192 (F := Ideal) c arg15)⟩ :: (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.1.tail := by
  sl_kernel_rfl

theorem out_A14 (hc0 : cond0_0 i) (h : PtAt P x0 x1 x2 x3 x4 x5 x6 x7 x8 x9 x10) (e : Fin 128) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 0 e) = (k0_pay1 (F := Ideal)) (ix2 0 e) + (((∑ a : Fin 256, P.rloss a.val) * (1 / 2048) : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (kernelRun0_A.sl.v192 (F := Ideal) c arg15) = (k0_pay1 (F := Ideal)) := View.readCov_full (s := S1x128) _ _ _ _ _
  unfold out0_A_14
  rw [run_A14]
  refine (congrFun (View.read_writes_full (s := S1x128) VO0_14 _ _ _ _) (ix2 0 e)).trans ((s201_at h' _ e).trans ?_)
  rw [ev]

theorem run_A15 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.1 = ⟨Rect.unit (s := S1x1024) ![0, 0] S1x1024.size inb_S1x1024_S1x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s210 (kernelRun0_A.sl.v205 (F := Ideal) c arg16)⟩ :: (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.1.tail := by
  sl_kernel_rfl

theorem out_A15 (hc0 : cond0_0 i) (h : PtAt P x0 x1 x2 x3 x4 x5 x6 x7 x8 x9 x10) (b : Fin 1024) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 0 b) = (k0_pay2 (F := Ideal)) (ix2 0 b) + ((∑ a : Fin 256, P.rgf a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (kernelRun0_A.sl.v205 (F := Ideal) c arg16) = (k0_pay2 (F := Ideal)) := View.readCov_full (s := S1x1024) _ _ _ _ _
  unfold out0_A_15
  rw [run_A15]
  refine (congrFun (View.read_writes_full (s := S1x1024) VO0_15 _ _ _ _) (ix2 0 b)).trans ((s210_at h' b _).trans ?_)
  rw [ev]

theorem run_A16 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.1 = ⟨Rect.unit (s := S1x1024) ![0, 0] S1x1024.size inb_S1x1024_S1x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s230 (kernelRun0_A.sl.v225 (F := Ideal) c arg17)⟩ :: (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.1.tail := by
  sl_kernel_rfl

theorem out_A16 (hc0 : cond0_0 i) (h : PtAt P x0 x1 x2 x3 x4 x5 x6 x7 x8 x9 x10) (b : Fin 1024) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 0 b) = (k0_pay3 (F := Ideal)) (ix2 0 b) + ((∑ a : Fin 256, P.rgate a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (kernelRun0_A.sl.v225 (F := Ideal) c arg17) = (k0_pay3 (F := Ideal)) := View.readCov_full (s := S1x1024) _ _ _ _ _
  unfold out0_A_16
  rw [run_A16]
  refine (congrFun (View.read_writes_full (s := S1x1024) VO0_16 _ _ _ _) (ix2 0 b)).trans ((s230_at h' b _).trans ?_)
  rw [ev]

theorem run_A17 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.2.1 = (lds arg1 harg1 arg2 harg2 arg3 harg3 arg4 harg4 arg5 harg5 arg6 harg6 arg7 harg7 arg8 harg8 arg9 harg9 arg10 harg10 arg11 harg11 x0 x1 x2 x3 x4 x5 x6 x7 x8 x9 x10).doPieces := by
  sl_kernel_rfl

theorem out_A17 (hc0 : cond0_0 i) (h : PtAt P x0 x1 x2 x3 x4 x5 x6 x7 x8 x9 x10) (j) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 j = doG P j := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have hc := cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 j
  unfold out0_A_17
  rw [run_A17] at hc ⊢
  exact readPieces VO0_17 _ _ (doG P) (do_pieces h') j hc

theorem run_A18 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.2.2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s248⟩] := by
  sl_kernel_rfl

theorem out_A18 (hc0 : cond0_0 i) (h : PtAt P x0 x1 x2 x3 x4 x5 x6 x7 x8 x9 x10) (a : Fin 256) (b : Fin 1024) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 a b) = ((P.dza a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_A_18
  rw [run_A18]
  exact (congrFun (View.read_writes_full (s := S256x1024) VO0_18 _ _ _ _) (ix2 a b)).trans (s248_at h' a b)

theorem run_A19 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.2.2.2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s376⟩] := by
  sl_kernel_rfl

theorem out_A19 (hc0 : cond0_0 i) (h : PtAt P x0 x1 x2 x3 x4 x5 x6 x7 x8 x9 x10) (a : Fin 256) (b : Fin 1024) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 a b) = ((P.dzs a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_A_19
  rw [run_A19]
  exact (congrFun (View.read_writes_full (s := S256x1024) VO0_19 _ _ _ _) (ix2 a b)).trans (s376_at h' a b)

theorem run_A20 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.2.2.2.2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s372⟩] := by
  sl_kernel_rfl

theorem out_A20 (hc0 : cond0_0 i) (h : PtAt P x0 x1 x2 x3 x4 x5 x6 x7 x8 x9 x10) (a : Fin 256) (b : Fin 1024) : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 a b) = ((P.dy a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_A_20
  rw [run_A20]
  exact (congrFun (View.read_writes_full (s := S256x1024) VO0_20 _ _ _ _) (ix2 a b)).trans (s372_at h' a b)

theorem run_A21 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.2.2.2.2.2.1 = ⟨Rect.unit (s := S1x1024) ![0, 0] S1x1024.size inb_S1x1024_S1x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s256 (kernelRun0_A.sl.v250 (F := Ideal) c arg22)⟩ :: (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.2.2.2.2.2.1.tail := by
  sl_kernel_rfl

theorem out_A21 (hc0 : cond0_0 i) (h : PtAt P x0 x1 x2 x3 x4 x5 x6 x7 x8 x9 x10) (b : Fin 1024) : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 0 b) = (k0_pay4 (F := Ideal)) (ix2 0 b) + ((∑ a : Fin 256, P.rgb a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (kernelRun0_A.sl.v250 (F := Ideal) c arg22) = (k0_pay4 (F := Ideal)) := View.readCov_full (s := S1x1024) _ _ _ _ _
  unfold out0_A_21
  rw [run_A21]
  refine (congrFun (View.read_writes_full (s := S1x1024) VO0_21 _ _ _ _) (ix2 0 b)).trans ((s256_at h' b _).trans ?_)
  rw [ev]

theorem run_A22 (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.2.2.2.2.2.2.1 = ⟨Rect.unit (s := S1x1024) ![0, 0] S1x1024.size inb_S1x1024_S1x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s358 (kernelRun0_A.sl.v353 (F := Ideal) c arg23)⟩ :: (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10).2.2.2.2.2.2.2.2.2.2.2.1.tail := by
  sl_kernel_rfl

theorem out_A22 (hc0 : cond0_0 i) (h : PtAt P x0 x1 x2 x3 x4 x5 x6 x7 x8 x9 x10) (b : Fin 1024) : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix2 0 b) = (k0_pay5 (F := Ideal)) (ix2 0 b) + ((∑ a : Fin 256, P.rgs a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (kernelRun0_A.sl.v353 (F := Ideal) c arg23) = (k0_pay5 (F := Ideal)) := View.readCov_full (s := S1x1024) _ _ _ _ _
  unfold out0_A_22
  rw [run_A22]
  refine (congrFun (View.read_writes_full (s := S1x1024) VO0_22 _ _ _ _) (ix2 0 b)).trans ((s358_at h' b _).trans ?_)
  rw [ev]

/-- A point in case A leaves what the step says. -/
theorem out_A (hc0 : cond0_0 i) (h : PtAt P x0 x1 x2 x3 x4 x5 x6 x7 x8 x9 x10) : OutAt P (k0_pay1 (F := Ideal)) (k0_pay2 (F := Ideal)) (k0_pay3 (F := Ideal)) (k0_pay4 (F := Ideal)) (k0_pay5 (F := Ideal))
    (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10, out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10) :=
  outAt_mk P _ _ _ _ _ _ _ _ _ _ _ _ _ _ _ _ _
    (out_A11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)
    (out_A22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 hc0 h)

end

end Cert.PostIdeal.Value

end
-- ==== Proof.PostOutB.lean ====
/- What a later grid point, which adds to what the point before left, leaves in the blocks of the step after the heads. -/
module

public import proofs.«01_k».proof.Proof.PostLds

@[expose] public section

set_option maxRecDepth 16384

noncomputable section

namespace Cert.PostIdeal.Value

open Cert.PostIdeal Cert.PostIdeal.Gen Cert.Reals Idealize.ShloMosaic Idealize.ShloMosaic.TcCoe Idealize.SL.Sem

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S16x256x128 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2048x256 .bf16) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S1x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S16x256x64 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .f32) (harg21 : arg21.IsWhole) (arg22 : Memref sig .tc .vmem S1x1024 .f32) (harg22 : arg22.IsWhole) (arg23 : Memref sig .tc .vmem S1x1024 .f32) (harg23 : arg23.IsWhole)
  (x0 : Vec Ideal S256x1024 .f32) (x1 : Vec Ideal S256x1024 .f32) (x2 : Vec Ideal S16x256x128 .f32) (x3 : Vec Ideal S256x1024 .f32) (x4 : Vec Ideal S256x1024 .f32) (x5 : Vec Ideal S256x1024 .f32) (x6 : Vec Ideal S2048x1024 .bf16) (x7 : Vec Ideal S1x1024 .f32) (x8 : Vec Ideal S1x1024 .f32) (x9 : Vec Ideal S1x1024 .f32) (x10 : Vec Ideal S1x1024 .f32)
  (z14 : Vec Ideal S1x128 .f32) (z15 z16 z21 z22 : Vec Ideal S1x1024 .f32)

variable {P : Step}

theorem run_B11 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).1 = (lds arg1 harg1 arg2 harg2 arg3 harg3 arg4 harg4 arg5 harg5 arg6 harg6 arg7 harg7 arg8 harg8 arg9 harg9 arg10 harg10 arg11 harg11 x0 x1 x2 x3 x4 x5 x6 x7 x8 x9 x10).yPieces := by
  sl_kernel_rfl

theorem out_B11 (hc0 : ¬cond0_0 i) (h : PtAt P x0 x1 x2 x3 x4 x5 x6 x7 x8 x9 x10) (j) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 j = ybG P j := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have hc := cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 j
  unfold out0_B_11
  rw [run_B11] at hc ⊢
  exact readPieces VO0_11 _ _ (ybG P) (y_pieces h') j hc

theorem run_B12 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s234⟩] := by
  sl_kernel_rfl

theorem out_B12 (hc0 : ¬cond0_0 i) (h : PtAt P x0 x1 x2 x3 x4 x5 x6 x7 x8 x9 x10) (a : Fin 256) (b : Fin 1024) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 a b) = ((P.dm a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_B_12
  rw [run_B12]
  exact (congrFun (View.read_writes_full (s := S256x1024) VO0_12 _ _ _ _) (ix2 a b)).trans (s234_at h' a b)

theorem run_B13 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s223⟩] := by
  sl_kernel_rfl

theorem out_B13 (hc0 : ¬cond0_0 i) (h : PtAt P x0 x1 x2 x3 x4 x5 x6 x7 x8 x9 x10) (a : Fin 256) (b : Fin 1024) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 a b) = ((P.dx2 a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_B_13
  rw [run_B13]
  exact (congrFun (View.read_writes_full (s := S256x1024) VO0_13 _ _ _ _) (ix2 a b)).trans (s223_at h' a b)

theorem run_B14 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.1 = [⟨Rect.unit (s := S1x128) ![0, 0] S1x128.size inb_S1x128_S1x128_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s201 (View.readAt (Elt Ideal) arg15.view (Rect.unit ![0, 0] S1x128.size inb_S1x128_S1x128_0_0).toLoadRect (harg15.unread z14))⟩] := by
  sl_kernel_rfl

theorem out_B14 (hc0 : ¬cond0_0 i) (h : PtAt P x0 x1 x2 x3 x4 x5 x6 x7 x8 x9 x10) (e : Fin 128) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 0 e) = z14 (ix2 0 e) + (((∑ a : Fin 256, P.rloss a.val) * (1 / 2048) : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (View.readAt (Elt Ideal) arg15.view (Rect.unit ![0, 0] S1x128.size inb_S1x128_S1x128_0_0).toLoadRect (harg15.unread z14)) = z14 := (View.readAt_full (s := S1x128) _ _ _).trans (Memref.IsWhole.read_unread _ _)
  unfold out0_B_14
  rw [run_B14]
  refine (congrFun (View.read_writes_full (s := S1x128) VO0_14 _ _ _ _) (ix2 0 e)).trans ((s201_at h' _ e).trans ?_)
  rw [ev]

theorem run_B15 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.2.1 = [⟨Rect.unit (s := S1x1024) ![0, 0] S1x1024.size inb_S1x1024_S1x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s210 (View.readAt (Elt Ideal) arg16.view (Rect.unit ![0, 0] S1x1024.size inb_S1x1024_S1x1024_0_0).toLoadRect (harg16.unread z15))⟩] := by
  sl_kernel_rfl

theorem out_B15 (hc0 : ¬cond0_0 i) (h : PtAt P x0 x1 x2 x3 x4 x5 x6 x7 x8 x9 x10) (b : Fin 1024) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 0 b) = z15 (ix2 0 b) + ((∑ a : Fin 256, P.rgf a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (View.readAt (Elt Ideal) arg16.view (Rect.unit ![0, 0] S1x1024.size inb_S1x1024_S1x1024_0_0).toLoadRect (harg16.unread z15)) = z15 := (View.readAt_full (s := S1x1024) _ _ _).trans (Memref.IsWhole.read_unread _ _)
  unfold out0_B_15
  rw [run_B15]
  refine (congrFun (View.read_writes_full (s := S1x1024) VO0_15 _ _ _ _) (ix2 0 b)).trans ((s210_at h' b _).trans ?_)
  rw [ev]

theorem run_B16 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.2.2.1 = [⟨Rect.unit (s := S1x1024) ![0, 0] S1x1024.size inb_S1x1024_S1x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s230 (View.readAt (Elt Ideal) arg17.view (Rect.unit ![0, 0] S1x1024.size inb_S1x1024_S1x1024_0_0).toLoadRect (harg17.unread z16))⟩] := by
  sl_kernel_rfl

theorem out_B16 (hc0 : ¬cond0_0 i) (h : PtAt P x0 x1 x2 x3 x4 x5 x6 x7 x8 x9 x10) (b : Fin 1024) : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 0 b) = z16 (ix2 0 b) + ((∑ a : Fin 256, P.rgate a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (View.readAt (Elt Ideal) arg17.view (Rect.unit ![0, 0] S1x1024.size inb_S1x1024_S1x1024_0_0).toLoadRect (harg17.unread z16)) = z16 := (View.readAt_full (s := S1x1024) _ _ _).trans (Memref.IsWhole.read_unread _ _)
  unfold out0_B_16
  rw [run_B16]
  refine (congrFun (View.read_writes_full (s := S1x1024) VO0_16 _ _ _ _) (ix2 0 b)).trans ((s230_at h' b _).trans ?_)
  rw [ev]

theorem run_B17 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.2.2.2.1 = (lds arg1 harg1 arg2 harg2 arg3 harg3 arg4 harg4 arg5 harg5 arg6 harg6 arg7 harg7 arg8 harg8 arg9 harg9 arg10 harg10 arg11 harg11 x0 x1 x2 x3 x4 x5 x6 x7 x8 x9 x10).doPieces := by
  sl_kernel_rfl

theorem out_B17 (hc0 : ¬cond0_0 i) (h : PtAt P x0 x1 x2 x3 x4 x5 x6 x7 x8 x9 x10) (j) : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 j = doG P j := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have hc := cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 j
  unfold out0_B_17
  rw [run_B17] at hc ⊢
  exact readPieces VO0_17 _ _ (doG P) (do_pieces h') j hc

theorem run_B18 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.2.2.2.2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s248⟩] := by
  sl_kernel_rfl

theorem out_B18 (hc0 : ¬cond0_0 i) (h : PtAt P x0 x1 x2 x3 x4 x5 x6 x7 x8 x9 x10) (a : Fin 256) (b : Fin 1024) : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 a b) = ((P.dza a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_B_18
  rw [run_B18]
  exact (congrFun (View.read_writes_full (s := S256x1024) VO0_18 _ _ _ _) (ix2 a b)).trans (s248_at h' a b)

theorem run_B19 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.2.2.2.2.2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s376⟩] := by
  sl_kernel_rfl

theorem out_B19 (hc0 : ¬cond0_0 i) (h : PtAt P x0 x1 x2 x3 x4 x5 x6 x7 x8 x9 x10) (a : Fin 256) (b : Fin 1024) : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 a b) = ((P.dzs a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_B_19
  rw [run_B19]
  exact (congrFun (View.read_writes_full (s := S256x1024) VO0_19 _ _ _ _) (ix2 a b)).trans (s376_at h' a b)

theorem run_B20 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.2.2.2.2.2.2.1 = [⟨Rect.unit (s := S256x1024) ![0, 0] S256x1024.size inb_S256x1024_S256x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s372⟩] := by
  sl_kernel_rfl

theorem out_B20 (hc0 : ¬cond0_0 i) (h : PtAt P x0 x1 x2 x3 x4 x5 x6 x7 x8 x9 x10) (a : Fin 256) (b : Fin 1024) : out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 a b) = ((P.dy a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  unfold out0_B_20
  rw [run_B20]
  exact (congrFun (View.read_writes_full (s := S256x1024) VO0_20 _ _ _ _) (ix2 a b)).trans (s372_at h' a b)

theorem run_B21 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.2.2.2.2.2.2.2.1 = [⟨Rect.unit (s := S1x1024) ![0, 0] S1x1024.size inb_S1x1024_S1x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s256 (View.readAt (Elt Ideal) arg22.view (Rect.unit ![0, 0] S1x1024.size inb_S1x1024_S1x1024_0_0).toLoadRect (harg22.unread z21))⟩] := by
  sl_kernel_rfl

theorem out_B21 (hc0 : ¬cond0_0 i) (h : PtAt P x0 x1 x2 x3 x4 x5 x6 x7 x8 x9 x10) (b : Fin 1024) : out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 0 b) = z21 (ix2 0 b) + ((∑ a : Fin 256, P.rgb a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (View.readAt (Elt Ideal) arg22.view (Rect.unit ![0, 0] S1x1024.size inb_S1x1024_S1x1024_0_0).toLoadRect (harg22.unread z21)) = z21 := (View.readAt_full (s := S1x1024) _ _ _).trans (Memref.IsWhole.read_unread _ _)
  unfold out0_B_21
  rw [run_B21]
  refine (congrFun (View.read_writes_full (s := S1x1024) VO0_21 _ _ _ _) (ix2 0 b)).trans ((s256_at h' b _).trans ?_)
  rw [ev]

theorem run_B22 (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22).2.2.2.2.2.2.2.2.2.2.2.1 = [⟨Rect.unit (s := S1x1024) ![0, 0] S1x1024.size inb_S1x1024_S1x1024_0_0, (lds arg1 harg1 arg2 harg2 arg3 harg3 arg4 harg4 arg5 harg5 arg6 harg6 arg7 harg7 arg8 harg8 arg9 harg9 arg10 harg10 arg11 harg11 x0 x1 x2 x3 x4 x5 x6 x7 x8 x9 x10).s358 (View.readAt (Elt Ideal) arg23.view (Rect.unit ![0, 0] S1x1024.size inb_S1x1024_S1x1024_0_0).toLoadRect (harg23.unread z22))⟩] := by
  sl_kernel_rfl

theorem out_B22 (hc0 : ¬cond0_0 i) (h : PtAt P x0 x1 x2 x3 x4 x5 x6 x7 x8 x9 x10) (b : Fin 1024) : out0_B_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22 (ix2 0 b) = z22 (ix2 0 b) + ((∑ a : Fin 256, P.rgs a.val b.val : ℝ) : EReal) := by
  have h' := lds_at arg1 harg1 arg2 harg2 arg3 harg3 arg4 harg4 arg5 harg5 arg6 harg6 arg7 harg7 arg8 harg8 arg9 harg9 arg10 harg10 arg11 harg11 x0 x1 x2 x3 x4 x5 x6 x7 x8 x9 x10 h
  have ev : (View.readAt (Elt Ideal) arg23.view (Rect.unit ![0, 0] S1x1024.size inb_S1x1024_S1x1024_0_0).toLoadRect (harg23.unread z22)) = z22 := (View.readAt_full (s := S1x1024) _ _ _).trans (Memref.IsWhole.read_unread _ _)
  unfold out0_B_22
  rw [run_B22]
  refine (congrFun (View.read_writes_full (s := S1x1024) VO0_22 _ _ _ _) (ix2 0 b)).trans ((s358_at h' b _).trans ?_)
  rw [ev]

/-- A point in case B leaves what the step says. -/
theorem out_B (hc0 : ¬cond0_0 i) (h : PtAt P x0 x1 x2 x3 x4 x5 x6 x7 x8 x9 x10) : OutAt P z14 z15 z16 z21 z22
    (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22, out0_B_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 z14 z15 z16 z21 z22) :=
  outAt_mk P _ _ _ _ _ _ _ _ _ _ _ _ _ _ _ _ _
    (out_B11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)
    (out_B22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 z14 z15 z16 z21 z22 hc0 h)

end

end Cert.PostIdeal.Value

end
-- ==== Proof.PostRead.lean ====
/- What the windows of the step after the heads hold at each grid point: 256 rows of the arguments. -/
module

public import proofs.«01_k».proof.Proof.PostOutA
public import proofs.«01_k».proof.Proof.PostOutB
public import proofs.«01_k».proof.Proof.PostGoal

@[expose] public section

set_option maxRecDepth 16384

noncomputable section

namespace Cert.PostIdeal.Value

open Cert.PostIdeal Cert.PostIdeal.Gen Cert.PostIdeal.Facts Cert.Reals Idealize.ShloMosaic Idealize.ShloMosaic.TcCoe Idealize.SL.Sem

variable (m : (ℓ : Loc nD τ sig) → Buf (Elt Ideal) ℓ) (c : Dev nD)

/-- The windows' block indices. -/
theorem idx : ∀ t : Fin cfg0.N, win0_0.index t = ![t.val, 0] ∧ win0_1.index t = ![t.val, 0] ∧ win0_2.index t = ![0, t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![0, t.val] ∧ win0_12.index t = ![t.val, 0] ∧ win0_13.index t = ![t.val, 0]
    ∧ win0_14.index t = ![0, 0] ∧ win0_15.index t = ![0, 0] ∧ win0_16.index t = ![0, 0] ∧ win0_17.index t = ![0, t.val, 0] ∧ win0_18.index t = ![t.val, 0]
    ∧ win0_19.index t = ![t.val, 0] ∧ win0_20.index t = ![t.val, 0] ∧ win0_21.index t = ![0, 0] ∧ win0_22.index t = ![0, 0] :=
  (by decide +kernel : ∀ t : Fin grid0.N, _)

abbrev oA : FVec Ideal S16x4096x64 .f32 := m ((c : Thread nD τ).loc main_arg2)
abbrev wA : FVec Ideal S2048x1024 .f32 := m ((c : Thread nD τ).loc main_arg6)

/-- The attention's output with a second half, of which nothing is read. -/
abbrev catO (x y : FVec Ideal S16x4096x64 .f32) : FVec Ideal S16x4096x128 .f32 :=
  concatenate S16x4096x128 2 [⟨S16x4096x64, x⟩, ⟨S16x4096x64, y⟩] concatenates_S16x4096x64_S16x4096x64_S16x4096x128_d2

theorem catO_at (x y : FVec Ideal S16x4096x64 .f32) (n : Fin 16) (i : Fin 4096) (d : Fin 64) : catO x y (ix3 n i ⟨d.val, by omega⟩) = x (ix3 n i d) := by
  pointwise

theorem V_v1 : V m c main_v1 = catO (oA m c) (broadcastInDim S16x4096x64 ![] bcast_S_S16x4096x64 (constant S_ .f32 0x00000000#32)) := by
  unfold V
  after_results_simp <;> rfl

theorem V_v2 : V m c main_v2 = truncf (F := Ideal) .bf16 (wA m c) bitsLt_bf16_f32 := by
  unfold V
  after_results_simp <;> rfl

theorem rd0 (t : Fin cfg0.N) (a : Fin 256) (b : Fin 1024) (i : Fin 4096) (hi : i.val = t.val * 256 + a.val) :
    iblk m c 0 t (ix2 a b) = m ((c : Thread nD τ).loc main_arg0) (ix2 i b) := by
  blk_simp [iblk, idx t, V_main_arg0 m c]
  blk_ext [idx t]

theorem rd1 (t : Fin cfg0.N) (a : Fin 256) (b : Fin 1024) (i : Fin 4096) (hi : i.val = t.val * 256 + a.val) :
    iblk m c 1 t (ix2 a b) = m ((c : Thread nD τ).loc main_arg1) (ix2 i b) := by
  blk_simp [iblk, idx t, V_main_arg1 m c]
  blk_ext [idx t]

theorem rd3 (t : Fin cfg0.N) (a : Fin 256) (b : Fin 1024) (i : Fin 4096) (hi : i.val = t.val * 256 + a.val) :
    iblk m c 3 t (ix2 a b) = m ((c : Thread nD τ).loc main_arg3) (ix2 i b) := by
  blk_simp [iblk, idx t, V_main_arg3 m c]
  blk_ext [idx t]

theorem rd4 (t : Fin cfg0.N) (a : Fin 256) (b : Fin 1024) (i : Fin 4096) (hi : i.val = t.val * 256 + a.val) :
    iblk m c 4 t (ix2 a b) = m ((c : Thread nD τ).loc main_arg4) (ix2 i b) := by
  blk_simp [iblk, idx t, V_main_arg4 m c]
  blk_ext [idx t]

theorem rd5 (t : Fin cfg0.N) (a : Fin 256) (b : Fin 1024) (i : Fin 4096) (hi : i.val = t.val * 256 + a.val) :
    iblk m c 5 t (ix2 a b) = m ((c : Thread nD τ).loc main_arg5) (ix2 i b) := by
  blk_simp [iblk, idx t, V_main_arg5 m c]
  blk_ext [idx t]

theorem rd7 (t : Fin cfg0.N) (b : Fin 1024) : iblk m c 7 t (ix2 0 b) = m ((c : Thread nD τ).loc main_arg7) (ix2 0 b) := by
  blk_simp [iblk, idx t, V_main_arg7 m c]
  blk_ext [idx t]

theorem rd8 (t : Fin cfg0.N) (b : Fin 1024) : iblk m c 8 t (ix2 0 b) = m ((c : Thread nD τ).loc main_arg8) (ix2 0 b) := by
  blk_simp [iblk, idx t, V_main_arg8 m c]
  blk_ext [idx t]

theorem rd9 (t : Fin cfg0.N) (b : Fin 1024) : iblk m c 9 t (ix2 0 b) = m ((c : Thread nD τ).loc main_arg9) (ix2 0 b) := by
  blk_simp [iblk, idx t, V_main_arg9 m c]
  blk_ext [idx t]

theorem rd10 (t : Fin cfg0.N) (b : Fin 1024) : iblk m c 10 t (ix2 0 b) = m ((c : Thread nD τ).loc main_arg10) (ix2 0 b) := by
  blk_simp [iblk, idx t, V_main_arg10 m c]
  blk_ext [idx t]

theorem rd2_of (X : FVec Ideal S16x4096x128 .f32) (hV : V m c main_v1 = X) (t : Fin cfg0.N) (n : Fin 16) (a : Fin 256) (d : Fin 128) (i : Fin 4096)
    (hi : i.val = t.val * 256 + a.val) : iblk m c 2 t (ix3 n a d) = X (ix3 n i d) := by
  blk_simp [iblk, idx t, hV]
  blk_ext [idx t]

theorem rd2 (t : Fin cfg0.N) (n : Fin 16) (a : Fin 256) (d : Fin 128) (hd : d.val < 64) (i : Fin 4096) (hi : i.val = t.val * 256 + a.val) :
    iblk m c 2 t (ix3 n a d) = oA m c (ix3 n i ⟨d.val, hd⟩) :=
  (rd2_of m c _ (V_v1 m c) t n a d i hi).trans (catO_at _ _ n i ⟨d.val, hd⟩)

theorem rd6 (t : Fin cfg0.N) (k : Fin 2048) (b : Fin 1024) : iblk m c 6 t (ix2 k b) = wA m c (ix2 k b) := by
  blk_simp [iblk, idx t, V_v2 m c]
  blk_ext [idx t]

/-- The arguments are real. -/
structure RealArgs (P : Step) : Prop where
  x : ∀ (i : Fin 4096) (b : Fin 1024), (m ((c : Thread nD τ).loc main_arg0) : FVec Ideal S4096x1024 .f32) (ix2 i b) = ((P.x i.val b.val : ℝ) : EReal)
  t : ∀ (i : Fin 4096) (b : Fin 1024), (m ((c : Thread nD τ).loc main_arg1) : FVec Ideal S4096x1024 .f32) (ix2 i b) = ((P.t i.val b.val : ℝ) : EReal)
  y : ∀ (i : Fin 4096) (b : Fin 1024), (m ((c : Thread nD τ).loc main_arg3) : FVec Ideal S4096x1024 .f32) (ix2 i b) = ((P.y i.val b.val : ℝ) : EReal)
  za : ∀ (i : Fin 4096) (b : Fin 1024), (m ((c : Thread nD τ).loc main_arg4) : FVec Ideal S4096x1024 .f32) (ix2 i b) = ((P.za i.val b.val : ℝ) : EReal)
  zs : ∀ (i : Fin 4096) (b : Fin 1024), (m ((c : Thread nD τ).loc main_arg5) : FVec Ideal S4096x1024 .f32) (ix2 i b) = ((P.zs i.val b.val : ℝ) : EReal)
  o : ∀ (n : Fin 16) (i : Fin 4096) (d : Fin 64), oA m c (ix3 n i d) = ((P.o i.val (64 * n.val + d.val) : ℝ) : EReal)
  w : ∀ (k : Fin 2048) (b : Fin 1024), wA m c (ix2 k b) = ((P.w k.val b.val : ℝ) : EReal)
  gate : ∀ b : Fin 1024, (m ((c : Thread nD τ).loc main_arg7) : FVec Ideal S1x1024 .f32) (ix2 0 b) = ((P.gate b.val : ℝ) : EReal)
  gb : ∀ b : Fin 1024, (m ((c : Thread nD τ).loc main_arg8) : FVec Ideal S1x1024 .f32) (ix2 0 b) = ((P.gb b.val : ℝ) : EReal)
  gs : ∀ b : Fin 1024, (m ((c : Thread nD τ).loc main_arg9) : FVec Ideal S1x1024 .f32) (ix2 0 b) = ((P.gs b.val : ℝ) : EReal)
  gf : ∀ b : Fin 1024, (m ((c : Thread nD τ).loc main_arg10) : FVec Ideal S1x1024 .f32) (ix2 0 b) = ((P.gf b.val : ℝ) : EReal)

variable {P : Step} (H : RealArgs m c P)

include H

/-- A grid point's blocks are 256 rows of the arguments. -/
theorem pt_at (t : Fin cfg0.N) : PtAt (P.from_ (256 * t.val)) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  have ht : t.val < 16 := Nat.lt_of_lt_of_eq t.isLt N_0
  have row : ∀ a : Fin 256, 256 * t.val + a.val < 4096 := fun a => by omega
  have rowe : ∀ a : Fin 256, (⟨256 * t.val + a.val, row a⟩ : Fin 4096).val = t.val * 256 + a.val := fun a => by
    show 256 * t.val + a.val = _; omega
  exact {
    x := fun a b => (rd0 m c t a b _ (rowe a)).trans (H.x _ b)
    t := fun a b => (rd1 m c t a b _ (rowe a)).trans (H.t _ b)
    h := fun n a d hd => (rd2 m c t n a d hd _ (rowe a)).trans (H.o n _ ⟨d.val, hd⟩)
    y := fun a b => (rd3 m c t a b _ (rowe a)).trans (H.y _ b)
    za := fun a b => (rd4 m c t a b _ (rowe a)).trans (H.za _ b)
    zs := fun a b => (rd5 m c t a b _ (rowe a)).trans (H.zs _ b)
    w := fun k b => (rd6 m c t k b).trans (H.w k b)
    gate := fun b => (rd7 m c t b).trans (H.gate b)
    gb := fun b => (rd8 m c t b).trans (H.gb b)
    gs := fun b => (rd9 m c t b).trans (H.gs b)
    gf := fun b => (rd10 m c t b).trans (H.gf b) }

theorem point_A (t : Fin cfg0.N) (h0 : t.val % 16 = 0) : OutAt (P.from_ (256 * t.val)) (k0_pay1 (F := Ideal)) (k0_pay2 (F := Ideal)) (k0_pay3 (F := Ideal)) (k0_pay4 (F := Ideal)) (k0_pay5 (F := Ideal))
    (outsAt0 m c t.val t.isLt) := by
  have p := pt_at m c H t
  rw [outsAt0_A m c t h0]
  exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) p

theorem point_B (t : Fin cfg0.N) (h0 : ¬t.val % 16 = 0) : OutAt (P.from_ (256 * t.val)) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2
    (outsAt0 m c t.val t.isLt) := by
  have p := pt_at m c H t
  rw [outsAt0_B m c t h0]
  exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (fun h => h0 ((hcond0_0 t).mp h)) p

end Cert.PostIdeal.Value

end
-- ==== Proof.PostFinal.lean ====
/- The results of the step after the heads over the whole arrays. -/
module

public import proofs.«01_k».proof.Proof.PostRead

@[expose] public section

set_option maxRecDepth 16384

noncomputable section

namespace Cert.PostIdeal.Value

open Cert.PostIdeal Cert.PostIdeal.Gen Cert.PostIdeal.Facts Cert.Reals Idealize.ShloMosaic Idealize.ShloMosaic.TcCoe Idealize.SL.Sem

variable (m : (ℓ : Loc nD τ sig) → Buf (Elt Ideal) ℓ) (c : Dev nD)

theorem zero_at (j : S1x1024.Idx) : k0_pay2 (F := Ideal) j = 0 ∧ k0_pay3 (F := Ideal) j = 0 ∧ k0_pay4 (F := Ideal) j = 0 ∧ k0_pay5 (F := Ideal) j = 0 := by
  refine ⟨?_, ?_, ?_, ?_⟩ <;> pointwise [k0_pay2, k0_pay3, k0_pay4, k0_pay5]

theorem zero1_at (j : S1x128.Idx) : k0_pay1 (F := Ideal) j = 0 := by
  pointwise [k0_pay1]

/-- The sum over the rows, in the grid's blocks. -/
theorem sum_blocks (f : ℕ → ℝ) : ∑ t : Fin cfg0.N, ∑ a : Fin 256, f (256 * t.val + a.val) = ∑ i : Fin 4096, f i.val := by
  refine Fin.sum_mul_add_congr fun t a hi => ?_
  exact congrArg f (congrArg (· + a.val) (Nat.mul_comm _ _))

theorem final12_of (f : S4096x1024.Idx → EReal) (hX : ∀ t : Fin cfg0.N, ∀ (y : S256x1024.Idx) (j : S4096x1024.Idx), (j 0).val = t.val * 256 + (y 0).val → (j 1).val = (y 1).val
    → (outsAt0 m c t.val t.isLt).2.1 y = f j) : (dats m 0 c).arrAt 12 cfg0.N = f := by
  refine (dats m 0 c).arrAt_eq_of_covers 12 _ (by decide +kernel) fun t hf y => ?_
  blk_simp
  rw [after0_12]
  have h0 : ((win0_12.blk t).view.emb y 0 : ℕ) = t.val * 256 + (y 0 : ℕ) := by blk_simp [idx t]
  have h1 : ((win0_12.blk t).view.emb y 1 : ℕ) = (y 1 : ℕ) := by blk_simp [idx t]
  exact hX t y _ h0 h1

theorem final13_of (f : S4096x1024.Idx → EReal) (hX : ∀ t : Fin cfg0.N, ∀ (y : S256x1024.Idx) (j : S4096x1024.Idx), (j 0).val = t.val * 256 + (y 0).val → (j 1).val = (y 1).val
    → (outsAt0 m c t.val t.isLt).2.2.1 y = f j) : (dats m 0 c).arrAt 13 cfg0.N = f := by
  refine (dats m 0 c).arrAt_eq_of_covers 13 _ (by decide +kernel) fun t hf y => ?_
  blk_simp
  rw [after0_13]
  have h0 : ((win0_13.blk t).view.emb y 0 : ℕ) = t.val * 256 + (y 0 : ℕ) := by blk_simp [idx t]
  have h1 : ((win0_13.blk t).view.emb y 1 : ℕ) = (y 1 : ℕ) := by blk_simp [idx t]
  exact hX t y _ h0 h1

theorem final18_of (f : S4096x1024.Idx → EReal) (hX : ∀ t : Fin cfg0.N, ∀ (y : S256x1024.Idx) (j : S4096x1024.Idx), (j 0).val = t.val * 256 + (y 0).val → (j 1).val = (y 1).val
    → (outsAt0 m c t.val t.isLt).2.2.2.2.2.2.2.1 y = f j) : (dats m 0 c).arrAt 18 cfg0.N = f := by
  refine (dats m 0 c).arrAt_eq_of_covers 18 _ (by decide +kernel) fun t hf y => ?_
  blk_simp
  rw [after0_18]
  have h0 : ((win0_18.blk t).view.emb y 0 : ℕ) = t.val * 256 + (y 0 : ℕ) := by blk_simp [idx t]
  have h1 : ((win0_18.blk t).view.emb y 1 : ℕ) = (y 1 : ℕ) := by blk_simp [idx t]
  exact hX t y _ h0 h1

theorem final19_of (f : S4096x1024.Idx → EReal) (hX : ∀ t : Fin cfg0.N, ∀ (y : S256x1024.Idx) (j : S4096x1024.Idx), (j 0).val = t.val * 256 + (y 0).val → (j 1).val = (y 1).val
    → (outsAt0 m c t.val t.isLt).2.2.2.2.2.2.2.2.1 y = f j) : (dats m 0 c).arrAt 19 cfg0.N = f := by
  refine (dats m 0 c).arrAt_eq_of_covers 19 _ (by decide +kernel) fun t hf y => ?_
  blk_simp
  rw [after0_19]
  have h0 : ((win0_19.blk t).view.emb y 0 : ℕ) = t.val * 256 + (y 0 : ℕ) := by blk_simp [idx t]
  have h1 : ((win0_19.blk t).view.emb y 1 : ℕ) = (y 1 : ℕ) := by blk_simp [idx t]
  exact hX t y _ h0 h1

theorem final20_of (f : S4096x1024.Idx → EReal) (hX : ∀ t : Fin cfg0.N, ∀ (y : S256x1024.Idx) (j : S4096x1024.Idx), (j 0).val = t.val * 256 + (y 0).val → (j 1).val = (y 1).val
    → (outsAt0 m c t.val t.isLt).2.2.2.2.2.2.2.2.2.1 y = f j) : (dats m 0 c).arrAt 20 cfg0.N = f := by
  refine (dats m 0 c).arrAt_eq_of_covers 20 _ (by decide +kernel) fun t hf y => ?_
  blk_simp
  rw [after0_20]
  have h0 : ((win0_20.blk t).view.emb y 0 : ℕ) = t.val * 256 + (y 0 : ℕ) := by blk_simp [idx t]
  have h1 : ((win0_20.blk t).view.emb y 1 : ℕ) = (y 1 : ℕ) := by blk_simp [idx t]
  exact hX t y _ h0 h1

theorem final11_of (f : S2048x4096.Idx → EReal) (hX : ∀ t : Fin cfg0.N, ∀ (y : S2048x256.Idx) (j : S2048x4096.Idx), (j 0).val = (y 0).val → (j 1).val = t.val * 256 + (y 1).val
    → (outsAt0 m c t.val t.isLt).1 y = f j) : (dats m 0 c).arrAt 11 cfg0.N = f := by
  refine (dats m 0 c).arrAt_eq_of_covers 11 _ (by decide +kernel) fun t hf y => ?_
  blk_simp
  rw [after0_11]
  have h0 : ((win0_11.blk t).view.emb y 0 : ℕ) = (y 0 : ℕ) := by blk_simp [idx t]
  have h1 : ((win0_11.blk t).view.emb y 1 : ℕ) = t.val * 256 + (y 1 : ℕ) := by blk_simp [idx t]
  exact hX t y _ h0 h1

theorem final17_of (f : S16x4096x64.Idx → EReal) (hX : ∀ t : Fin cfg0.N, ∀ (y : S16x256x64.Idx) (j : S16x4096x64.Idx), (j 0).val = (y 0).val → (j 1).val = t.val * 256 + (y 1).val
    → (j 2).val = (y 2).val → (outsAt0 m c t.val t.isLt).2.2.2.2.2.2.1 y = f j) : (dats m 0 c).arrAt 17 cfg0.N = f := by
  refine (dats m 0 c).arrAt_eq_of_covers 17 _ (by decide +kernel) fun t hf y => ?_
  blk_simp
  rw [after0_17]
  have h0 : ((win0_17.blk t).view.emb y 0 : ℕ) = (y 0 : ℕ) := by blk_simp [idx t]
  have h1 : ((win0_17.blk t).view.emb y 1 : ℕ) = t.val * 256 + (y 1 : ℕ) := by blk_simp [idx t]
  have h2 : ((win0_17.blk t).view.emb y 2 : ℕ) = (y 2 : ℕ) := by blk_simp [idx t]
  exact hX t y _ h0 h1 h2

theorem mat_of (f : ℕ → ℕ → ℝ) (t : Fin cfg0.N) (X : S256x1024.Idx → EReal) (hX : ∀ (a : Fin 256) (b : Fin 1024), X (ix2 a b) = ((f (256 * t.val + a.val) b.val : ℝ) : EReal))
    (y : S256x1024.Idx) (j : S4096x1024.Idx) (h0 : (j 0).val = t.val * 256 + (y 0).val) (h1 : (j 1).val = (y 1).val) : X y = goalM f j := by
  rw [eq_ix2 y, goalM, h0, h1, Nat.mul_comm t.val 256]
  exact hX (y 0) (y 1)

variable {P : Step} (H : RealArgs m c P)

include H

/-- In either case a point leaves what the step says of its rows. -/
theorem point (t : Fin cfg0.N) : ∃ z14 z15 z16 z21 z22, OutAt (P.from_ (256 * t.val)) z14 z15 z16 z21 z22 (outsAt0 m c t.val t.isLt) := by
  by_cases h0 : t.val % 16 = 0
  · exact ⟨_, _, _, _, _, point_A m c H t h0⟩
  · exact ⟨_, _, _, _, _, point_B m c H t h0⟩

/-- The heads' outputs, transposed. -/
theorem final11 : (dats m 0 c).arrAt 11 cfg0.N = goalY P := by
  refine final11_of m c _ fun t y j h0 h1 => ?_
  obtain ⟨_, _, _, _, _, h⟩ := point m c H t
  refine (h.y y).trans ?_
  rw [ybG, goalY, h0, h1, Nat.mul_comm t.val 256]
  rfl

/-- The attention's cotangent. -/
theorem final17 : (dats m 0 c).arrAt 17 cfg0.N = goalO P := by
  refine final17_of m c _ fun t y j h0 h1 h2 => ?_
  obtain ⟨_, _, _, _, _, h⟩ := point m c H t
  refine (h.do_ y).trans ?_
  rw [doG, goalO, h0, h1, h2, Nat.mul_comm t.val 256]
  rfl

/-- What the output product hands back. -/
theorem final12 : (dats m 0 c).arrAt 12 cfg0.N = goalM P.dm := by
  refine final12_of m c _ fun t y j h0 h1 => ?_
  obtain ⟨_, _, _, _, _, h⟩ := point m c H t
  exact mat_of P.dm t _ h.dm y j h0 h1

/-- The stream's cotangent. -/
theorem final13 : (dats m 0 c).arrAt 13 cfg0.N = goalM P.dx2 := by
  refine final13_of m c _ fun t y j h0 h1 => ?_
  obtain ⟨_, _, _, _, _, h⟩ := point m c H t
  exact mat_of P.dx2 t _ h.dx y j h0 h1

/-- The attention gate's cotangent. -/
theorem final18 : (dats m 0 c).arrAt 18 cfg0.N = goalM P.dza := by
  refine final18_of m c _ fun t y j h0 h1 => ?_
  obtain ⟨_, _, _, _, _, h⟩ := point m c H t
  exact mat_of P.dza t _ h.dza y j h0 h1

/-- The scan gate's cotangent. -/
theorem final19 : (dats m 0 c).arrAt 19 cfg0.N = goalM P.dzs := by
  refine final19_of m c _ fun t y j h0 h1 => ?_
  obtain ⟨_, _, _, _, _, h⟩ := point m c H t
  exact mat_of P.dzs t _ h.dzs y j h0 h1

/-- The scan's cotangent. -/
theorem final20 : (dats m 0 c).arrAt 20 cfg0.N = goalM P.dy := by
  refine final20_of m c _ fun t y j h0 h1 => ?_
  obtain ⟨_, _, _, _, _, h⟩ := point m c H t
  exact mat_of P.dy t _ h.dy y j h0 h1

/-- The last gain's gradient. -/
theorem final15 : (dats m 0 c).arrAt 15 cfg0.N = goalS P.rgf := by
  refine (dats m 0 c).arrAt_eq_of_after_last 15 t0_15 (by decide +kernel) _ fun j => ?_
  blk_simp
  rw [after0_15, Pipeline.eq_sum_fin_of_reset_step_apply_last (fun n h => (outsAt0 m c n h).2.2.2.2.1) 16 (fun _ => 0)
    (fun t j => ((∑ a : Fin 256, P.rgf (256 * t.val + a.val) (j 1).val : ℝ) : EReal))
    (fun t h j => by
      obtain ⟨u, b, rfl⟩ : ∃ (u : Fin 1) (b : Fin 1024), j = ix2 u b := ⟨_, _, eq_ix2 j⟩
      obtain rfl : u = 0 := Subsingleton.elim _ _
      refine ((point_A m c H t h).gf b).trans ?_
      rw [(zero_at (ix2 0 b)).1]
      rfl)
    (fun t h j => by
      obtain ⟨u, b, rfl⟩ : ∃ (u : Fin 1) (b : Fin 1024), j = ix2 u b := ⟨_, _, eq_ix2 j⟩
      obtain rfl : u = 0 := Subsingleton.elim _ _
      exact (point_B m c H t h).gf b)
    (le_of_eq N_0) t0_15 rfl j, zero_add, sum_coe, sum_blocks fun i => P.rgf i (j 1).val]
  rfl

/-- The residual gate's gradient. -/
theorem final16 : (dats m 0 c).arrAt 16 cfg0.N = goalS P.rgate := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.1) 16 (fun _ => 0)
    (fun t j => ((∑ a : Fin 256, P.rgate (256 * t.val + a.val) (j 1).val : ℝ) : EReal))
    (fun t h j => by
      obtain ⟨u, b, rfl⟩ : ∃ (u : Fin 1) (b : Fin 1024), j = ix2 u b := ⟨_, _, eq_ix2 j⟩
      obtain rfl : u = 0 := Subsingleton.elim _ _
      refine ((point_A m c H t h).gate b).trans ?_
      rw [(zero_at (ix2 0 b)).2.1]
      rfl)
    (fun t h j => by
      obtain ⟨u, b, rfl⟩ : ∃ (u : Fin 1) (b : Fin 1024), j = ix2 u b := ⟨_, _, eq_ix2 j⟩
      obtain rfl : u = 0 := Subsingleton.elim _ _
      exact (point_B m c H t h).gate b)
    (le_of_eq N_0) t0_15 rfl j, zero_add, sum_coe, sum_blocks fun i => P.rgate i (j 1).val]
  rfl

/-- The attention gain's gradient. -/
theorem final21 : (dats m 0 c).arrAt 21 cfg0.N = goalS P.rgb := by
  refine (dats m 0 c).arrAt_eq_of_after_last 21 t0_15 (by decide +kernel) _ fun j => ?_
  blk_simp
  rw [after0_21, Pipeline.eq_sum_fin_of_reset_step_apply_last (fun n h => (outsAt0 m c n h).2.2.2.2.2.2.2.2.2.2.1) 16 (fun _ => 0)
    (fun t j => ((∑ a : Fin 256, P.rgb (256 * t.val + a.val) (j 1).val : ℝ) : EReal))
    (fun t h j => by
      obtain ⟨u, b, rfl⟩ : ∃ (u : Fin 1) (b : Fin 1024), j = ix2 u b := ⟨_, _, eq_ix2 j⟩
      obtain rfl : u = 0 := Subsingleton.elim _ _
      refine ((point_A m c H t h).gb b).trans ?_
      rw [(zero_at (ix2 0 b)).2.2.1]
      rfl)
    (fun t h j => by
      obtain ⟨u, b, rfl⟩ : ∃ (u : Fin 1) (b : Fin 1024), j = ix2 u b := ⟨_, _, eq_ix2 j⟩
      obtain rfl : u = 0 := Subsingleton.elim _ _
      exact (point_B m c H t h).gb b)
    (le_of_eq N_0) t0_15 rfl j, zero_add, sum_coe, sum_blocks fun i => P.rgb i (j 1).val]
  rfl

/-- The scan gain's gradient. -/
theorem final22 : (dats m 0 c).arrAt 22 cfg0.N = goalS P.rgs := by
  refine (dats m 0 c).arrAt_eq_of_after_last 22 t0_15 (by decide +kernel) _ fun j => ?_
  blk_simp
  rw [after0_22, Pipeline.eq_sum_fin_of_reset_step_apply_last (fun n h => (outsAt0 m c n h).2.2.2.2.2.2.2.2.2.2.2) 16 (fun _ => 0)
    (fun t j => ((∑ a : Fin 256, P.rgs (256 * t.val + a.val) (j 1).val : ℝ) : EReal))
    (fun t h j => by
      obtain ⟨u, b, rfl⟩ : ∃ (u : Fin 1) (b : Fin 1024), j = ix2 u b := ⟨_, _, eq_ix2 j⟩
      obtain rfl : u = 0 := Subsingleton.elim _ _
      refine ((point_A m c H t h).gs b).trans ?_
      rw [(zero_at (ix2 0 b)).2.2.2]
      rfl)
    (fun t h j => by
      obtain ⟨u, b, rfl⟩ : ∃ (u : Fin 1) (b : Fin 1024), j = ix2 u b := ⟨_, _, eq_ix2 j⟩
      obtain rfl : u = 0 := Subsingleton.elim _ _
      exact (point_B m c H t h).gs b)
    (le_of_eq N_0) t0_15 rfl j, zero_add, sum_coe, sum_blocks fun i => P.rgs i (j 1).val]
  rfl

/-- The loss. -/
theorem final14 : (dats m 0 c).arrAt 14 cfg0.N = goalL P := by
  refine (dats m 0 c).arrAt_eq_of_after_last 14 t0_15 (by decide +kernel) _ fun j => ?_
  blk_simp
  rw [after0_14, Pipeline.eq_sum_fin_of_reset_step_apply_last (fun n h => (outsAt0 m c n h).2.2.2.1) 16 (fun _ => 0)
    (fun t _ => (((∑ a : Fin 256, P.rloss (256 * t.val + a.val)) * (1 / 2048) : ℝ) : EReal))
    (fun t h j => by
      obtain ⟨u, b, rfl⟩ : ∃ (u : Fin 1) (b : Fin 128), j = ix2 u b := ⟨_, _, eq_ix2 j⟩
      obtain rfl : u = 0 := Subsingleton.elim _ _
      refine ((point_A m c H t h).loss b).trans ?_
      rw [zero1_at (ix2 0 b)]
      rfl)
    (fun t h j => by
      obtain ⟨u, b, rfl⟩ : ∃ (u : Fin 1) (b : Fin 128), j = ix2 u b := ⟨_, _, eq_ix2 j⟩
      obtain rfl : u = 0 := Subsingleton.elim _ _
      exact (point_B m c H t h).loss b)
    (le_of_eq N_0) t0_15 rfl j, zero_add, sum_coe, ← Finset.sum_mul, sum_blocks P.rloss]
  rfl

end Cert.PostIdeal.Value

end
-- ==== Proof.PostAlg.lean ====
/- The step after the heads against the derivative of its forward lines: the claims about the pair. -/
module

public import proofs.«01_k».proof.Defs
public import proofs.«01_k».proof.Proof.Gen.Pre_post_finite
public import proofs.«01_k».proof.Proof.Gen.Post.Frame
public import proofs.«01_k».proof.Proof.PostRefVal
public import proofs.«01_k».proof.Proof.PostFinal

@[expose] public section

set_option maxRecDepth 16384

noncomputable section

namespace Cert.PostPair

open Cert.PostRefIdeal Cert.PostRefIdeal.Gen Cert.PostRefIdeal.Value Cert.Reals Idealize.ShloMosaic Idealize.ShloMosaic.TcCoe Idealize.SL.Sem
open Cert.PostIdeal.Value (RealArgs)
open Idealize.ShloMosaic.StableHlo (launchContents)

/-- Every element is a real. -/
abbrev Real' {s : Shape} (x : FVec Ideal s .f32) : Prop := ∀ i, ∃ r : ℝ, x i = r

theorem real_eq {s : Shape} {x : FVec Ideal s .f32} (h : Real' x) (i : s.Idx) : x i = (((x i).toReal : ℝ) : EReal) := by
  obtain ⟨r, hr⟩ := h i
  rw [hr, EReal.toReal_coe]

/-- The precondition says that all arguments are real. -/
theorem decode (x : FVec Ideal S4096x1024 .f32) (t : FVec Ideal S4096x1024 .f32) (o : FVec Ideal S16x4096x64 .f32) (y : FVec Ideal S4096x1024 .f32) (za : FVec Ideal S4096x1024 .f32) (zs : FVec Ideal S4096x1024 .f32) (w : FVec Ideal S2048x1024 .f32) (gate : FVec Ideal S1x1024 .f32) (gb : FVec Ideal S1x1024 .f32) (gs : FVec Ideal S1x1024 .f32) (gf : FVec Ideal S1x1024 .f32)
    (hp : Cert.Pre_post_finite.fn (F := Ideal) x t o y za zs w gate gb gs gf = fun _ => 1#1) :
    Real' x ∧ Real' t ∧ Real' o ∧ Real' y ∧ Real' za ∧ Real' zs ∧ Real' w ∧ Real' gate ∧ Real' gb ∧ Real' gs ∧ Real' gf := by
  have h0 := congrFun hp (fun i => i.elim0)
  obtain ⟨h1, f10⟩ := andi_one h0
  obtain ⟨h2, f9⟩ := andi_one h1
  obtain ⟨h3, f8⟩ := andi_one h2
  obtain ⟨h4, f7⟩ := andi_one h3
  obtain ⟨h5, f6⟩ := andi_one h4
  obtain ⟨h6, f5⟩ := andi_one h5
  obtain ⟨h7, f4⟩ := andi_one h6
  obtain ⟨h8, f3⟩ := andi_one h7
  obtain ⟨h9, f2⟩ := andi_one h8
  obtain ⟨f0, f1⟩ := andi_one h9
  haveI : Subsingleton S_.Idx := ⟨fun a b => funext fun i => i.elim0⟩
  exact ⟨all_real _ _ _ _ _ inf_f32 _ f0, all_real _ _ _ _ _ inf_f32 _ f1, all_real _ _ _ _ _ inf_f32 _ f2, all_real _ _ _ _ _ inf_f32 _ f3, all_real _ _ _ _ _ inf_f32 _ f4, all_real _ _ _ _ _ inf_f32 _ f5, all_real _ _ _ _ _ inf_f32 _ f6, all_real _ _ _ _ _ inf_f32 _ f7, all_real _ _ _ _ _ inf_f32 _ f8, all_real _ _ _ _ _ inf_f32 _ f9, all_real _ _ _ _ _ inf_f32 _ f10⟩

/-- An array of two axes as a function of naturals. -/
def nat2 {p q : ℕ} (hp : 0 < p) (hq : 0 < q) (x : (⟨2, ![p, q]⟩ : Shape).Idx → EReal) (i j : ℕ) : ℝ :=
  (x (ix2 ⟨i % p, Nat.mod_lt _ hp⟩ ⟨j % q, Nat.mod_lt _ hq⟩)).toReal

theorem nat2_at {p q : ℕ} (hp : 0 < p) (hq : 0 < q) (x : FVec Ideal ⟨2, ![p, q]⟩ .f32) (h : Real' x) (i : Fin p) (j : Fin q) :
    x (ix2 i j) = ((nat2 hp hq x i.val j.val : ℝ) : EReal) := by
  rw [nat2]
  simp only [Nat.mod_eq_of_lt i.isLt, Nat.mod_eq_of_lt j.isLt]
  exact real_eq h _

/-- The arguments as a step on reals. -/
def step (x : FVec Ideal S4096x1024 .f32) (t : FVec Ideal S4096x1024 .f32) (o : FVec Ideal S16x4096x64 .f32) (y : FVec Ideal S4096x1024 .f32) (za : FVec Ideal S4096x1024 .f32) (zs : FVec Ideal S4096x1024 .f32) (w : FVec Ideal S2048x1024 .f32) (gate : FVec Ideal S1x1024 .f32) (gb : FVec Ideal S1x1024 .f32) (gs : FVec Ideal S1x1024 .f32) (gf : FVec Ideal S1x1024 .f32) : Step where
  x := nat2 (by norm_num : 0 < 4096) (by norm_num : 0 < 1024) x
  t := nat2 (by norm_num : 0 < 4096) (by norm_num : 0 < 1024) t
  o i j := (o (ix3 ⟨j / 64 % 16, Nat.mod_lt _ (by norm_num)⟩ ⟨i % 4096, Nat.mod_lt _ (by norm_num)⟩ ⟨j % 64, Nat.mod_lt _ (by norm_num)⟩)).toReal
  y := nat2 (by norm_num : 0 < 4096) (by norm_num : 0 < 1024) y
  za := nat2 (by norm_num : 0 < 4096) (by norm_num : 0 < 1024) za
  zs := nat2 (by norm_num : 0 < 4096) (by norm_num : 0 < 1024) zs
  w := nat2 (by norm_num : 0 < 2048) (by norm_num : 0 < 1024) w
  gate := nat2 (by norm_num : 0 < 1) (by norm_num : 0 < 1024) gate 0
  gb := nat2 (by norm_num : 0 < 1) (by norm_num : 0 < 1024) gb 0
  gs := nat2 (by norm_num : 0 < 1) (by norm_num : 0 < 1024) gs 0
  gf := nat2 (by norm_num : 0 < 1) (by norm_num : 0 < 1024) gf 0

/-- The reference's frame. -/
theorem frame_ref : Cert.quiescent_PostRefIdeal := fun m ρ _ =>
  (θ_run Cert.PostRefIdeal.defs _ _).mono (fun r h => ⟨fun c => (h c).2.2.2.2.2.2.2.2.2.2.2.2, Idealize.ShloMosaic.sem_eq_zero_of_no_sems (by decide) r.2⟩) (Cert.PostRefIdeal.Value.run (F := Ideal) m ρ)

theorem frame_ref_pre : Cert.quiescent_PostRefIdeal_pre_post_finite := fun m ρ _ => frame_ref m ρ trivial

theorem real_args (m : (ℓ : Loc Cert.PostIdeal.nD Cert.PostIdeal.τ Cert.PostIdeal.sig) → Buf (Elt Ideal) ℓ) (c : Dev Cert.PostIdeal.nD)
    (hp : Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) = fun _ => 1#1) :
    RealArgs m c (step (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))) := by
  obtain ⟨fx, ft, fo, fy, fza, fzs, fw, fgate, fgb, fgs, fgf⟩ := decode _ _ _ _ _ _ _ _ _ _ _ hp
  exact {
    x := nat2_at (by norm_num : 0 < 4096) (by norm_num : 0 < 1024) _ fx
    t := nat2_at (by norm_num : 0 < 4096) (by norm_num : 0 < 1024) _ ft
    o := fun n i d => by
      have e1 : (64 * n.val + d.val) / 64 % 16 = n.val := by omega
      have e2 : (64 * n.val + d.val) % 64 = d.val := by omega
      unfold step
      dsimp only
      simp only [e1, e2, Nat.mod_eq_of_lt i.isLt]
      exact real_eq fo _
    y := nat2_at (by norm_num : 0 < 4096) (by norm_num : 0 < 1024) _ fy
    za := nat2_at (by norm_num : 0 < 4096) (by norm_num : 0 < 1024) _ fza
    zs := nat2_at (by norm_num : 0 < 4096) (by norm_num : 0 < 1024) _ fzs
    w := nat2_at (by norm_num : 0 < 2048) (by norm_num : 0 < 1024) _ fw
    gate := nat2_at (by norm_num : 0 < 1) (by norm_num : 0 < 1024) _ fgate 0
    gb := nat2_at (by norm_num : 0 < 1) (by norm_num : 0 < 1024) _ fgb 0
    gs := nat2_at (by norm_num : 0 < 1) (by norm_num : 0 < 1024) _ fgs 0
    gf := nat2_at (by norm_num : 0 < 1) (by norm_num : 0 < 1024) _ fgf 0 }

/-- Kernel and reference return the same twelve arrays. -/
theorem algebraic : Cert.algebraic_PostIdeal_PostRefIdeal_pre_post_finite := by
  intro m ρ m' ρ' hp ha
  refine ⟨fun c => (Cert.PostIdeal.Gen.dats m 0 c).arrAt 11 Cert.PostIdeal.cfg0.N, fun c => (Cert.PostIdeal.Gen.dats m 0 c).arrAt 12 Cert.PostIdeal.cfg0.N, fun c => (Cert.PostIdeal.Gen.dats m 0 c).arrAt 13 Cert.PostIdeal.cfg0.N, fun c => (Cert.PostIdeal.Gen.dats m 0 c).arrAt 14 Cert.PostIdeal.cfg0.N, fun c => (Cert.PostIdeal.Gen.dats m 0 c).arrAt 15 Cert.PostIdeal.cfg0.N, fun c => (Cert.PostIdeal.Gen.dats m 0 c).arrAt 16 Cert.PostIdeal.cfg0.N, fun c => (Cert.PostIdeal.Gen.dats m 0 c).arrAt 17 Cert.PostIdeal.cfg0.N, fun c => (Cert.PostIdeal.Gen.dats m 0 c).arrAt 18 Cert.PostIdeal.cfg0.N, fun c => (Cert.PostIdeal.Gen.dats m 0 c).arrAt 19 Cert.PostIdeal.cfg0.N, fun c => (Cert.PostIdeal.Gen.dats m 0 c).arrAt 20 Cert.PostIdeal.cfg0.N, fun c => (Cert.PostIdeal.Gen.dats m 0 c).arrAt 21 Cert.PostIdeal.cfg0.N, fun c => (Cert.PostIdeal.Gen.dats m 0 c).arrAt 22 Cert.PostIdeal.cfg0.N,
    Cert.PostIdeal.Value.run_blocks m ρ, ?_⟩
  refine (θ_run Cert.PostRefIdeal.defs _ _).mono (fun r h c => ?_) (Cert.PostRefIdeal.Value.run (F := Ideal) m' ρ')
  obtain ⟨r0, r1, r2, r3, r4, r5, r6, r7, r8, r9, r10, r11, keep⟩ := h c
  obtain ⟨h0, h1, h2, h3, h4, h5, h6, h7, h8, h9, h10⟩ := ha c
  have H := real_args m c (hp c)
  have HA : ArgsAt (step (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10))) (launchContents m' c) := {
    x := fun i b => (congrFun h0 (ix2 i b)).trans (H.x i b)
    t := fun i b => (congrFun h1 (ix2 i b)).trans (H.t i b)
    o := fun n i d => (congrFun h2 (ix3 n i d)).trans (H.o n i d)
    y := fun i b => (congrFun h3 (ix2 i b)).trans (H.y i b)
    za := fun i b => (congrFun h4 (ix2 i b)).trans (H.za i b)
    zs := fun i b => (congrFun h5 (ix2 i b)).trans (H.zs i b)
    w := fun k b => (congrFun h6 (ix2 k b)).trans (H.w k b)
    gate := fun b => (congrFun h7 (ix2 0 b)).trans (H.gate b)
    gb := fun b => (congrFun h8 (ix2 0 b)).trans (H.gb b)
    gs := fun b => (congrFun h9 (ix2 0 b)).trans (H.gs b)
    gf := fun b => (congrFun h10 (ix2 0 b)).trans (H.gf b) }
  exact ⟨r0.trans ((res0 HA).trans (Cert.PostIdeal.Value.final11 m c H).symm),
    r1.trans ((res1 HA).trans (Cert.PostIdeal.Value.final12 m c H).symm),
    r2.trans ((res2 HA).trans (Cert.PostIdeal.Value.final13 m c H).symm),
    r3.trans ((res3 HA).trans (Cert.PostIdeal.Value.final14 m c H).symm),
    r4.trans ((res4 HA).trans (Cert.PostIdeal.Value.final15 m c H).symm),
    r5.trans ((res5 HA).trans (Cert.PostIdeal.Value.final16 m c H).symm),
    r6.trans ((res6 HA).trans (Cert.PostIdeal.Value.final17 m c H).symm),
    r7.trans ((res7 HA).trans (Cert.PostIdeal.Value.final18 m c H).symm),
    r8.trans ((res8 HA).trans (Cert.PostIdeal.Value.final19 m c H).symm),
    r9.trans ((res9 HA).trans (Cert.PostIdeal.Value.final20 m c H).symm),
    r10.trans ((res10 HA).trans (Cert.PostIdeal.Value.final21 m c H).symm),
    r11.trans ((res11 HA).trans (Cert.PostIdeal.Value.final22 m c H).symm), keep⟩

/-- All claims about the pair. -/
theorem claims : (Cert.quiescent_Post ∧ Cert.quiescent_PostIdeal ∧ Cert.quiescent_PostIdeal_pre_post_finite ∧ Cert.quiescent_PostRefIdeal
    ∧ Cert.quiescent_PostRefIdeal_pre_post_finite) ∧ Cert.preserves_Post_PostIdeal ∧ Cert.algebraic_PostIdeal_PostRefIdeal_pre_post_finite :=
  ⟨⟨fun m ρ _ => Cert.Post.Gen.frame m ρ, fun m ρ _ => Cert.PostIdeal.Gen.frame m ρ, fun m ρ _ => Cert.PostIdeal.Gen.frame m ρ,
    frame_ref, frame_ref_pre⟩, trivial, algebraic⟩

end Cert.PostPair

end
-- ==== Proof.FwdTile.lean ====
module

public import proofs.«01_k».proof.Proof.AttnCut

@[expose] public section

noncomputable section

/-! One tile of the attention's forward pass on `n` query rows and one block of 128 keys, from the last block of keys
    to the first: the state carried is the sum of the weighted values over the keys so far, and the sum of the
    logarithms over them. -/

namespace Cert.AttnTile

open Cert.Reals Idealize.ShloMosaic Finset

/-- The state carried over the key blocks. -/
structure StF (n : ℕ) where
  acc : FVec Ideal (T n 64) .f32
  run : FVec Ideal (T n 1) .f32

/-- The first column of a tile. -/
theorem sl0 (n : ℕ) : (T n 128).Slices ![0, 0] (T n 1) :=
  ⟨rfl, fun a => by
    match a with
    | 0 => exact (Nat.zero_add n).le
    | 1 => exact (by decide : 0 + 1 ≤ 128)⟩

section

variable {n : ℕ} (h : Rows n)

def expoF (lb tl : FVec Ideal (T n 128) .f32) (run : FVec Ideal (T n 1) .f32) : FVec Ideal (T n 128) .f32 :=
  addf (addf lb tl) (broadcastTo (T n 128) run h.bc)

def runN (run : FVec Ideal (T n 1) .f32) (tl lom : FVec Ideal (T n 128) .f32) : FVec Ideal (T n 1) .f32 :=
  addf (addf run (extractStridedSlice (T n 1) ![0, 0] tl (sl0 n))) (extractStridedSlice (T n 1) ![0, 0] lom (sl0 n))

variable (q : FVec Ideal (T n 64) .bf16) (up : FVec Ideal (T 256 128) .bf16) (k v : FVec Ideal (T 128 64) .bf16) (s : StF n)

/-- A tile below the diagonal. -/
def fstepU : StF n :=
  ⟨dqN s.acc (exp (expoF h (lsg (sc q k)) (pin h (subf (lsg (sc q k)) (sc q k)) up) s.run)) v,
    runN s.run (pin h (subf (lsg (sc q k)) (sc q k)) up) (subf (lsg (sc q k)) (sc q k))⟩

/-- A tile on the diagonal. -/
def fstepM : StF n :=
  ⟨dqN s.acc (wgtM h (expoF h (lsg (sc q k)) (pin h (lomM h (sc q k)) up) s.run)) v,
    runN s.run (pin h (lomM h (sc q k)) up) (lomM h (sc q k))⟩

end

section

variable {N r n : ℕ} (c : Cut N r n)

def StF.low (s : StF N) : StF n :=
  ⟨extractStridedSlice (T n 64) ![r, 0] s.acc c.sq, extractStridedSlice (T n 1) ![r, 0] s.run c.s1⟩

def StF.put (s : StF N) (p : StF n) : StF N :=
  ⟨concatenate (T N 64) 0 [⟨T r 64, extractStridedSlice (T r 64) ![0, 0] s.acc c.hq⟩, ⟨T n 64, p.acc⟩] c.cq,
    concatenate (T N 1) 0 [⟨T r 1, extractStridedSlice (T r 1) ![0, 0] s.run c.h1⟩, ⟨T n 1, p.run⟩] c.c1⟩

end

theorem first_at {n : ℕ} (x : FVec Ideal (T n 128) .f32) (i : Fin n) : extractStridedSlice (T n 1) ![0, 0] x (sl0 n) (ix2 i 0) = x (ix2 i 0) := by
  pointwise
  refine congrArg x (funext fun a => Fin.ext ?_)
  match a with
  | 0 => show 0 + i.val = i.val; omega
  | 1 => rfl

/-- The sum over what lies beyond a column. -/
theorem sum_gt (f : ℕ → ℝ) (c : Fin 128) :
    ∑ x : Fin 128, f x * (if c.val < x.val then 1 else 0) = (∑ x ∈ range 128, f x) - ∑ x ∈ range (c + 1), f x := by
  rw [← sum_le, ← Fin.sum_univ_eq_sum_range, ← sum_sub_distrib]
  refine sum_congr rfl fun x _ => ?_
  by_cases hx : c.val < x.val
  · rw [if_pos hx, if_neg (by omega)]; ring
  · rw [if_neg hx, if_pos (by omega)]; ring

/-- The weighted values' sum over the first `m` keys. -/
def Head.O (H : Head) (t m d : ℕ) : ℝ := ∑ s ∈ range m, H.W t s * H.v s d

theorem Head.O_stay (H : Head) (t m n d : ℕ) (ht : t ≤ m) : H.O t (m + n) d = H.O t m d :=
  Head.stay t m (fun s => H.W t s * H.v s d) n (fun s hs => by rw [H.W_zero t s hs, zero_mul]) ht

/-- The state is the one of the keys from `m` on. -/
structure StFAt (H : Head) (t0 m : ℕ) {n : ℕ} (s : StF n) : Prop where
  acc : ∀ i d, s.acc (ix2 i d) = ((H.O (t0 + i.val) 4096 d.val - H.O (t0 + i.val) m d.val : ℝ) : EReal)
  run : ∀ i, s.run (ix2 i 0) = ((H.P (t0 + i.val) 4096 - H.P (t0 + i.val) m : ℝ) : EReal)

def UpAt (up : FVec Ideal (T 256 128) .bf16) : Prop := ∀ x c, up (ix2 x c) = (((if c.val < x.val % 128 then 1 else 0 : ℝ)) : EReal)

def QAt (H : Head) (t0 : ℕ) {n : ℕ} (q : FVec Ideal (T n 64) .bf16) : Prop := ∀ i d, q (ix2 i d) = ((H.q (t0 + i.val) d.val : ℝ) : EReal)

section

variable {n : ℕ} (h : Rows n) (H : Head) (t0 m : ℕ) (q : FVec Ideal (T n 64) .bf16) (up : FVec Ideal (T 256 128) .bf16)
  (k v : FVec Ideal (T 128 64) .bf16) (s : StF n) (hq : QAt H t0 q) (hu : UpAt up)

include hq in
theorem scF_coe (hk : ∀ c d, k (ix2 c d) = ((H.k (m + c.val) d.val : ℝ) : EReal)) (i : Fin n) (c : Fin 128) :
    sc q k (ix2 i c) = ((H.Z (t0 + i) (m + c) : ℝ) : EReal) := by
  rw [sc_at]
  simp only [hq _ _, hk, ← EReal.coe_mul]
  rw [sum_coe]; rfl

include hu in
theorem tail_coe (x : FVec Ideal (T n 128) .f32)
    (hx : ∀ i c, x (ix2 i c) = ((H.L (t0 + i.val) (m + c.val) : ℝ) : EReal)) (i : Fin n) (c : Fin 128) :
    pin h x up (ix2 i c) = ((H.P (t0 + i) (m + 128) - H.P (t0 + i) (m + (c + 1)) : ℝ) : EReal) := by
  rw [pin_at]
  simp only [hx, hu _ _, ← EReal.coe_sub, sub_self, ← EReal.coe_mul, zero_mul]
  rw [sum_coe, sum_coe, sum_const_zero, ← EReal.coe_add, add_zero]
  congr 1
  have e : H.P (t0 + i) (m + 128) - H.P (t0 + i) (m + (c + 1))
      = (∑ x ∈ range 128, H.L (t0 + i) (m + x)) - ∑ x ∈ range (c + 1), H.L (t0 + i) (m + x) := by
    rw [sum_from, sum_from]; unfold Head.P; ring
  rw [e, ← sum_gt]
  refine sum_congr rfl fun x _ => ?_
  rw [Nat.mod_eq_of_lt x.isLt]

theorem expoF_coe (hs : StFAt H t0 (m + 128) s) (lb tl : FVec Ideal (T n 128) .f32) (i : Fin n) (c : Fin 128) (z : ℝ)
    (hl : lb (ix2 i c) = (z : EReal)) (ht : tl (ix2 i c) = ((H.P (t0 + i) (m + 128) - H.P (t0 + i) (m + (c + 1)) : ℝ) : EReal)) :
    Ideal.exp (expoF h lb tl s.run (ix2 i c)) = ((Real.exp (z + (H.P (t0 + i) 4096 - H.P (t0 + i) (m + c + 1))) : ℝ) : EReal) := by
  unfold expoF
  rw [addf_apply, addf_apply, bc_at h, hl, ht, hs.run]
  show Ideal.exp (((_ : ℝ) : EReal) + _ + _) = _
  rw [← EReal.coe_add, ← EReal.coe_add, exp_coe, show m + c.val + 1 = m + (c.val + 1) by omega]
  congr 2
  ring

/-- The state after the tile. -/
theorem fstep_coe (hs : StFAt H t0 (m + 128) s) (hv : ∀ c d, v (ix2 c d) = ((H.v (m + c.val) d.val : ℝ) : EReal)) (w tl lom : FVec Ideal (T n 128) .f32)
    (hw : ∀ i c, w (ix2 i c) = ((H.W (t0 + i.val) (m + c.val) : ℝ) : EReal))
    (ht : ∀ i c, tl (ix2 i c) = ((H.P (t0 + i.val) (m + 128) - H.P (t0 + i.val) (m + (c.val + 1)) : ℝ) : EReal))
    (hl : ∀ i c, lom (ix2 i c) = ((H.L (t0 + i.val) (m + c.val) : ℝ) : EReal)) :
    StFAt H t0 m (⟨dqN s.acc w v, runN s.run tl lom⟩ : StF n) where
  acc i d := by
    show dqN s.acc w v (ix2 i d) = _
    rw [dqN_at, hs.acc]
    simp only [hw, hv, ← EReal.coe_mul]
    rw [sum_coe, ← EReal.coe_add]
    congr 1
    have e : H.O (t0 + i) (m + 128) d = H.O (t0 + i) m d + ∑ c : Fin 128, H.W (t0 + i) (m + c) * H.v (m + c) d := by
      unfold Head.O
      rw [sum_range_add, Fin.sum_univ_eq_sum_range (fun c => H.W (t0 + i.val) (m + c) * H.v (m + c) d.val) 128]
    rw [e]; ring
  run i := by
    show runN s.run tl lom (ix2 i 0) = _
    unfold runN
    rw [addf_apply, addf_apply, first_at, first_at, ht, hl, hs.run]
    show ((_ : ℝ) : EReal) + _ + _ = _
    rw [← EReal.coe_add, ← EReal.coe_add]
    congr 1
    have e : H.P (t0 + i) (m + (0 + 1)) = H.P (t0 + i) m + H.L (t0 + i) (m + 0) := sum_range_succ _ _
    show _ + (_ - H.P (t0 + i) (m + (0 + 1))) + H.L (t0 + i) (m + 0) = _
    rw [e]; ring

variable (hs : StFAt H t0 (m + 128) s)
  (hk : ∀ c d, k (ix2 c d) = ((H.k (m + c.val) d.val : ℝ) : EReal)) (hv : ∀ c d, v (ix2 c d) = ((H.v (m + c.val) d.val : ℝ) : EReal))

include hq hu hs hk hv

theorem ftileU (ht : m + 128 ≤ t0) : StFAt H t0 m (fstepU h q up k v s) := by
  have lt : ∀ (i : Fin n) (c : Fin 128), m + c.val < t0 + i.val := fun i c => by omega
  have hz := scF_coe H t0 m q k hq hk
  have hl : ∀ i c, subf (lsg (sc q k)) (sc q k) (ix2 i c) = ((H.L (t0 + i.val) (m + c.val) : ℝ) : EReal) := fun i c => by
    rw [subf_apply, lsg_coe _ i c _ (hz i c), hz i c]
    show (_ : EReal) - _ = _
    rw [← EReal.coe_sub]
    unfold Head.L; rw [if_pos (lt i c)]
  have hp := tail_coe h H t0 m up hu (subf (lsg (sc q k)) (sc q k)) hl
  refine fstep_coe H t0 m v s hs hv _ _ _ (fun i c => ?_) hp hl
  refine (expoF_coe h H t0 m s hs _ _ i c _ (lsg_coe _ i c _ (hz i c)) (hp i c)).trans ?_
  unfold Head.W; rw [if_pos (lt i c)]

theorem ftileM (hn : n ≤ 2048) (ht : t0 = m) : StFAt H t0 m (fstepM h q up k v s) := by
  have lt : ∀ (i : Fin n) (c : Fin 128), c.val < i.val ↔ m + c.val < t0 + i.val := fun i c => by omega
  have hz := scF_coe H t0 m q k hq hk
  have hl : ∀ i c, lomM h (sc q k) (ix2 i c) = ((H.L (t0 + i.val) (m + c.val) : ℝ) : EReal) := fun i c => by
    rw [lomM_at h hn, lsg_coe _ i c _ (hz i c), hz i c, ← EReal.coe_sub]
    unfold Head.L; simp only [lt]; split <;> rfl
  have hp := tail_coe h H t0 m up hu (lomM h (sc q k)) hl
  refine fstep_coe H t0 m v s hs hv _ _ _ (fun i c => ?_) hp hl
  rw [wgtM_at h hn, expoF_coe h H t0 m s hs _ _ i c _ (lsg_coe _ i c _ (hz i c)) (hp i c)]
  unfold Head.W; simp only [lt]; split <;> rfl

end

section

variable {N r n : ℕ} (c : Cut N r n) (hN : r + n = N) (H : Head) (t0 m : ℕ)

include hN

theorem QAt.low {q : FVec Ideal (T N 64) .bf16} (hq : QAt H t0 q) : QAt H (t0 + r) (extractStridedSlice (T n 64) ![r, 0] q c.sq) :=
  fun i d => (cut2_at q c.sq i d (by omega)).trans ((hq _ _).trans (by rw [Nat.add_assoc]))

theorem StFAt.low {s : StF N} (hs : StFAt H t0 m s) : StFAt H (t0 + r) m (s.low c) where
  acc i d := (cut2_at s.acc c.sq i d (by omega)).trans ((hs.acc _ _).trans (by rw [Nat.add_assoc]))
  run i := (cut2_at s.run c.s1 i 0 (by omega)).trans ((hs.run _).trans (by rw [Nat.add_assoc]))

theorem StFAt.put {s : StF N} {p : StF n} (hs : StFAt H t0 (m + 128) s) (hp : StFAt H (t0 + r) m p) (hm : m = t0 + r) : StFAt H t0 m (s.put c p) where
  acc i d := by
    by_cases hi : i.val < r
    · refine ((put2_at _ _ c.cq i d).1 hi).trans ((cut2_at s.acc c.hq _ d (by show 0 + i.val < N; omega)).trans ((hs.acc _ _).trans ?_))
      simp only [Nat.zero_add]
      rw [H.O_stay _ _ _ _ (by omega)]
    · refine ((put2_at _ _ c.cq i d).2 ⟨i.val - r, by omega⟩ (by show i.val = r + (i.val - r); omega)).trans ((hp.acc _ _).trans ?_)
      rw [show t0 + r + (i.val - r) = t0 + i.val by omega]
  run i := by
    by_cases hi : i.val < r
    · refine ((put2_at _ _ c.c1 i 0).1 hi).trans ((cut2_at s.run c.h1 _ 0 (by show 0 + i.val < N; omega)).trans ((hs.run _).trans ?_))
      simp only [Nat.zero_add]
      rw [H.P_stay _ _ _ (by omega)]
    · refine ((put2_at _ _ c.c1 i 0).2 ⟨i.val - r, by omega⟩ (by show i.val = r + (i.val - r); omega)).trans ((hp.run _).trans ?_)
      rw [show t0 + r + (i.val - r) = t0 + i.val by omega]

end

/-- The diagonal's tile `j` from the state of the tiles after it: the first tile takes every row, each other the rows
    from its own first row on. -/
def fSt (q : FVec Ideal (T 2048 64) .bf16) (up : FVec Ideal (T 256 128) .bf16) (K V : ℕ → FVec Ideal (T 128 64) .bf16) (s : StF 2048) : ℕ → StF 2048
  | 0 => fstepM Cert.AttnBwdIdeal.Value.rows2048 q up (K 0) (V 0) s
  | j + 1 => s.put (Cert.AttnBwdIdeal.Value.cutD (j + 1)) (fstepM (Cert.AttnBwdIdeal.Value.rowsD (j + 1))
      (extractStridedSlice (T (Cert.AttnBwdIdeal.Value.numD (j + 1)) 64) ![Cert.AttnBwdIdeal.Value.rowD (j + 1), 0] q (Cert.AttnBwdIdeal.Value.cutD (j + 1)).sq)
      up (K (j + 1)) (V (j + 1)) (s.low (Cert.AttnBwdIdeal.Value.cutD (j + 1))))

/-- The state after the diagonal's last `j` tiles, taken from the last one back. -/
def fS (q : FVec Ideal (T 2048 64) .bf16) (up : FVec Ideal (T 256 128) .bf16) (K V : ℕ → FVec Ideal (T 128 64) .bf16) (s : StF 2048) : ℕ → StF 2048
  | 0 => s
  | j + 1 => fSt q up K V (fS q up K V s j) (15 - j)

/-- The state after the first `u` tiles of a trip. -/
def fU (q : FVec Ideal (T 2048 64) .bf16) (up : FVec Ideal (T 256 128) .bf16) (K V : ℕ → FVec Ideal (T 128 64) .bf16) (s : StF 2048) : ℕ → StF 2048
  | 0 => s
  | u + 1 => fstepU Cert.AttnBwdIdeal.Value.rows2048 q up (K u) (V u) (fU q up K V s u)

section

variable (H : Head) (t0 : ℕ) (q : FVec Ideal (T 2048 64) .bf16) (up : FVec Ideal (T 256 128) .bf16)
  (K V : ℕ → FVec Ideal (T 128 64) .bf16) (s : StF 2048) (hq : QAt H t0 q) (hu : UpAt up)

include hq hu

theorem fSt_at (j : ℕ) (hj : j < 16) (hK : ∀ c d, K j (ix2 c d) = ((H.k (t0 + 128 * j + c.val) d.val : ℝ) : EReal))
    (hV : ∀ c d, V j (ix2 c d) = ((H.v (t0 + 128 * j + c.val) d.val : ℝ) : EReal)) (hs : StFAt H t0 (t0 + 128 * j + 128) s) :
    StFAt H t0 (t0 + 128 * j) (fSt q up K V s j) := by
  cases j with
  | zero => exact ftileM _ H t0 t0 q up (K 0) (V 0) s hq hu hs hK hV (le_refl _) rfl
  | succ j =>
    have e : (Fin.ofNat 16 (j + 1)).val = j + 1 := Nat.mod_eq_of_lt hj
    have hN : Cert.AttnBwdIdeal.Value.rowD (j + 1) + Cert.AttnBwdIdeal.Value.numD (j + 1) = 2048 := by show 128 * _ + (2048 - 128 * _) = 2048; omega
    have hr : t0 + Cert.AttnBwdIdeal.Value.rowD (j + 1) = t0 + 128 * (j + 1) := by show t0 + 128 * _ = _; omega
    exact hs.put (Cert.AttnBwdIdeal.Value.cutD (j + 1)) hN H t0 _
      (ftileM _ H _ (t0 + 128 * (j + 1)) _ up (K (j + 1)) (V (j + 1)) _ (hq.low (Cert.AttnBwdIdeal.Value.cutD (j + 1)) hN) hu (hs.low (Cert.AttnBwdIdeal.Value.cutD (j + 1)) hN) hK hV (by omega) hr) hr.symm

theorem fS_at (hK : ∀ j < 16, ∀ c d, K j (ix2 c d) = ((H.k (t0 + 128 * j + c.val) d.val : ℝ) : EReal))
    (hV : ∀ j < 16, ∀ c d, V j (ix2 c d) = ((H.v (t0 + 128 * j + c.val) d.val : ℝ) : EReal)) (hs : StFAt H t0 (t0 + 2048) s) (j : ℕ) (hj : j ≤ 16) :
    StFAt H t0 (t0 + (2048 - 128 * j)) (fS q up K V s j) := by
  induction j with
  | zero => exact hs
  | succ j ih =>
    have := fSt_at H t0 q up K V (fS q up K V s j) hq hu (15 - j) (by omega) (hK _ (by omega)) (hV _ (by omega))
      (by rw [show t0 + 128 * (15 - j) + 128 = t0 + (2048 - 128 * j) by omega]; exact ih (by omega))
    rwa [show t0 + 128 * (15 - j) = t0 + (2048 - 128 * (j + 1)) by omega] at this

/-- A trip's tiles in turn, from the keys before `m` down. -/
theorem fU_at (m : ℕ) (hm : m ≤ t0) (hK : ∀ j < 8, ∀ c d, K j (ix2 c d) = ((H.k (m - 128 * (j + 1) + c.val) d.val : ℝ) : EReal))
    (hV : ∀ j < 8, ∀ c d, V j (ix2 c d) = ((H.v (m - 128 * (j + 1) + c.val) d.val : ℝ) : EReal)) (hs : StFAt H t0 m s) (u : ℕ) (h8 : u ≤ 8) (h0 : 128 * u ≤ m) :
    StFAt H t0 (m - 128 * u) (fU q up K V s u) := by
  induction u with
  | zero => exact hs
  | succ u ih =>
    exact ftileU _ H t0 (m - 128 * (u + 1)) q up (K u) (V u) _ hq hu
      (by rw [show m - 128 * (u + 1) + 128 = m - 128 * u by omega]; exact ih (by omega) (by omega)) (hK u (by omega)) (hV u (by omega)) (by omega)

end

end Cert.AttnTile

end
-- ==== Proof.FwdLoop.lean ====
module

public import proofs.«01_k».proof.Proof.FwdTile
public import proofs.«01_k».proof.Proof.Gen.AttnFwdIdeal.Value

@[expose] public section

set_option maxRecDepth 16384

noncomputable section

/-! The loop of the forward pass below the diagonal: each trip takes the eight blocks of keys before those taken so far. -/

namespace Cert.AttnFwdIdeal.Value

open Cert.AttnFwdIdeal Cert.AttnFwdIdeal.Gen Cert.AttnTile Idealize.ShloMosaic Idealize.ShloMosaic.TcCoe Idealize.SL.Sem

theorem trips1 (i : grid0.Coords) : Scf.trips (k0_t1_loop i).lb (k0_t1_loop i).ub (k0_t1_loop i).st = 2 * (i 1).val := by
  unfold k0_t1_loop
  generalize i 1 = b
  revert b
  change ∀ b : Fin 2, _
  decide +kernel

theorem trips2 (i : grid0.Coords) : Scf.trips (k0_t2_loop i).lb (k0_t2_loop i).ub (k0_t2_loop i).st = 0 := by
  unfold k0_t2_loop
  generalize i 1 = b
  revert b
  change ∀ b : Fin 2, _
  decide +kernel

theorem off1 (i : grid0.Coords) (j : ℕ) : k0_off1 i (BitVec.ofNat 32 (Fin.ofNat 16 j).val) = ![0, 2048 * (i 1).val + 128 * (Fin.ofNat 16 j).val, 0] := by
  unfold k0_off1
  generalize Fin.ofNat 16 j = u
  generalize i 1 = b
  revert b u
  change ∀ (u : Fin 16) (b : Fin 2), _
  decide +kernel

theorem trip_lt {i : grid0.Coords} (k : Fin (k0_t1_loop i).trips) : k.val < 2 ∧ (i 1).val = 1 := by
  have := k.isLt
  have e : (k0_t1_loop i).trips = 2 * (i 1).val := trips1 i
  have h2 : (i 1).val < 2 := (i 1).isLt
  omega

theorem off2 (i : grid0.Coords) (k : Fin (k0_t1_loop i).trips) (u : ℕ) :
    k0_off2 i k (BitVec.ofNat 32 (Fin.ofNat 8 u).val) = ![0, 2048 - 1024 * k.val - 128 * ((Fin.ofNat 8 u).val + 1), 0] := by
  unfold k0_off2
  obtain ⟨hk, hi⟩ := trip_lt k
  simp only [hi]
  generalize k.val = b at hk
  generalize Fin.ofNat 8 u = u
  revert u
  obtain ⟨b', rfl⟩ : ∃ b' : Fin 2, b = b'.val := ⟨⟨b, hk⟩, rfl⟩
  revert b'
  change ∀ (b : Fin 2), _ → ∀ (u : Fin 8), _
  decide +kernel

/-- A block of keys or values, as a matrix. -/
abbrev blk (x : Vec Ideal S1x128x64 .bf16) : FVec Ideal (T 128 64) .bf16 := shapeCast S128x64 x shapeCasts_S1x128x64_S128x64

/-- A block of 128 rows of a whole buffer of keys or values. -/
theorem blk_read (arg : Memref sig .tc .vmem S1x4096x64 .bf16) (X : BufTy.Contents (Elt Ideal) arg.view.ty) (off : Fin 3 → ℕ) (o : ℕ) (ho : off = ![0, o, 0])
    (inb : ∀ a, off a + S1x128x64.size a ≤ S1x4096x64.size a) (c : Fin 128) (d : Fin 64) (hc : o + c.val < 4096) :
    blk (View.readAt (Elt Ideal) arg.view (Rect.unit (s := S1x4096x64) off S1x128x64.size inb).toLoadRect X) (ix2 c d)
      = arg.view.read (Elt Ideal) X (ix3 0 ⟨o + c.val, hc⟩ d) := by
  subst ho
  pointwise [blk]
  refine congrArg (arg.view.read (Elt Ideal) X) (funext fun a => Fin.ext ?_)
  match a with
  | 0 => rfl
  | 1 => show o + 1 * c.val = o + c.val; omega
  | 2 => show 0 + 1 * d.val = d.val; omega

/-- The keys, or the values, of the trip's tile `u`, and of the diagonal's tile `j`. -/
abbrev kU (i : grid0.Coords) (arg : Memref sig .tc .vmem S1x4096x64 .bf16) (X : BufTy.Contents (Elt Ideal) arg.view.ty) (k : Fin (k0_t1_loop i).trips) (u : ℕ) : FVec Ideal (T 128 64) .bf16 :=
  blk (View.readAt (Elt Ideal) arg.view (Rect.unit (s := S1x4096x64) (k0_off2 i k (BitVec.ofNat 32 (Fin.ofNat 8 u).val)) S1x128x64.size (k0_off2_inb i k (Fin.ofNat 8 u))).toLoadRect X)

abbrev kD (i : grid0.Coords) (arg : Memref sig .tc .vmem S1x4096x64 .bf16) (X : BufTy.Contents (Elt Ideal) arg.view.ty) (j : ℕ) : FVec Ideal (T 128 64) .bf16 :=
  blk (View.readAt (Elt Ideal) arg.view (Rect.unit (s := S1x4096x64) (k0_off1 i (BitVec.ofNat 32 (Fin.ofNat 16 j).val)) S1x128x64.size (k0_off1_inb i (Fin.ofNat 16 j))).toLoadRect X)

section

variable (i : grid0.Coords) (arg : Memref sig .tc .vmem S1x4096x64 .bf16) (X : BufTy.Contents (Elt Ideal) arg.view.ty) (f : ℕ → ℕ → ℝ)
  (h : ∀ r d, arg.view.read (Elt Ideal) X (ix3 0 r d) = ((f r.val d.val : ℝ) : EReal))

include h

theorem kU_at (k : Fin (k0_t1_loop i).trips) (u : ℕ) (hu : u < 8) (c : Fin 128) (d : Fin 64) :
    kU i arg X k u (ix2 c d) = ((f (2048 - 1024 * k.val - 128 * (u + 1) + c.val) d.val : ℝ) : EReal) := by
  have hk := trip_lt k
  have e : (Fin.ofNat 8 u).val = u := Nat.mod_eq_of_lt hu
  have ho := (off2 i k u).trans (by rw [e])
  exact (blk_read arg X _ _ ho _ c d (by omega)).trans (h _ _)

theorem kD_at (j : ℕ) (hj : j < 16) (c : Fin 128) (d : Fin 64) :
    kD i arg X j (ix2 c d) = ((f (2048 * (i 1).val + 128 * j + c.val) d.val : ℝ) : EReal) := by
  have hi : (i 1).val < 2 := (i 1).isLt
  have e : (Fin.ofNat 16 j).val = j := Nat.mod_eq_of_lt hj
  have ho := (off1 i j).trans (by rw [e])
  exact (blk_read arg X _ _ ho _ c d (by omega)).trans (h _ _)

end

section

variable (𝒱 : Variants) (c : Dev nD) (bd : Option 𝒱.V) (i : grid0.Coords) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole) (arg1 : BitVec 32) (v3 : FVec Ideal S2048x64 .bf16) (v11 : FVec Ideal S256x128 .bf16) (X_arg3 : BufTy.Contents (Elt Ideal) arg3.view.ty) (X_arg4 : BufTy.Contents (Elt Ideal) arg4.view.ty)

/-- A trip is its eight tiles in turn. -/
theorem trip_state (k : Fin (k0_t1_loop i).trips) (acc : FVec Ideal S2048x64 .f32 × FVec Ideal S2048x1 .f32) :
    tripR_k0_t1 (F := Ideal) 𝒱 c bd i arg2 harg2 arg3 harg3 arg4 harg4 arg5 harg5 arg1 v3 v11 X_arg3 X_arg4 k acc =
      ((fU v3 v11 (kU i arg3 X_arg3 k) (kU i arg4 X_arg4 k) ⟨acc.1, acc.2⟩ 8).acc, (fU v3 v11 (kU i arg3 X_arg3 k) (kU i arg4 X_arg4 k) ⟨acc.1, acc.2⟩ 8).run) := by
  unfold tripR_k0_t1 trip_k0_t1
  rfl

variable (init : FVec Ideal S2048x64 .f32 × FVec Ideal S2048x1 .f32) (H : Head) (hq : QAt H (2048 * (i 1).val) v3) (hu : UpAt v11)
  (h3 : ∀ r d, arg3.view.read (Elt Ideal) X_arg3 (ix3 0 r d) = ((H.k r.val d.val : ℝ) : EReal)) (h4 : ∀ r d, arg4.view.read (Elt Ideal) X_arg4 (ix3 0 r d) = ((H.v r.val d.val : ℝ) : EReal))
  (h0 : StFAt H (2048 * (i 1).val) (2048 * (i 1).val) (⟨init.1, init.2⟩ : StF 2048))

include hq hu h3 h4 h0

theorem loop_at (k : ℕ) (hk : k ≤ 2 * (i 1).val) :
    StFAt H (2048 * (i 1).val) (2048 * (i 1).val - 1024 * k) (⟨(st_k0_t1 (F := Ideal) 𝒱 c bd i arg2 harg2 arg3 harg3 arg4 harg4 arg5 harg5 arg1 v3 v11 X_arg3 X_arg4 init k).1, (st_k0_t1 (F := Ideal) 𝒱 c bd i arg2 harg2 arg3 harg3 arg4 harg4 arg5 harg5 arg1 v3 v11 X_arg3 X_arg4 init k).2⟩ : StF 2048) := by
  induction k with
  | zero => exact h0
  | succ k ih =>
    have ht : (k0_t1_loop i).trips = 2 * (i 1).val := trips1 i
    have hs := st_k0_t1_succ (F := Ideal) 𝒱 c bd i arg2 harg2 arg3 harg3 arg4 harg4 arg5 harg5 arg1 v3 v11 X_arg3 X_arg4 init ⟨k, by omega⟩
    rw [trip_state] at hs
    simp only at hs
    rw [hs]
    have hi := (trip_lt (⟨k, by omega⟩ : Fin (k0_t1_loop i).trips)).2
    have h2 : 2048 * (i 1).val = 2048 := by omega
    have hK : ∀ j < 8, ∀ c d, kU i arg3 X_arg3 ⟨k, by omega⟩ j (ix2 c d) = ((H.k (2048 * (i 1).val - 1024 * k - 128 * (j + 1) + c.val) d.val : ℝ) : EReal) := fun j hj c d => by
      rw [h2]; exact kU_at i arg3 X_arg3 H.k h3 _ j hj c d
    have hV : ∀ j < 8, ∀ c d, kU i arg4 X_arg4 ⟨k, by omega⟩ j (ix2 c d) = ((H.v (2048 * (i 1).val - 1024 * k - 128 * (j + 1) + c.val) d.val : ℝ) : EReal) := fun j hj c d => by
      rw [h2]; exact kU_at i arg4 X_arg4 H.v h4 _ j hj c d
    have := fU_at H (2048 * (i 1).val) v3 v11 _ _ _ hq hu (2048 * (i 1).val - 1024 * k) (by omega) hK hV (ih (by omega)) 8 (by omega) (by omega)
    rwa [show 2048 * (i 1).val - 1024 * k - 128 * 8 = 2048 * (i 1).val - 1024 * (k + 1) by omega] at this

end

end Cert.AttnFwdIdeal.Value

end
-- ==== Proof.FwdRun.lean ====
module

public import proofs.«01_k».proof.Proof.FwdLoop

@[expose] public section

set_option maxRecDepth 16384

noncomputable section

/-! The forward body's run: the diagonal's tiles from the last one back, then the loop, then one store. -/

namespace Cert.AttnFwdIdeal.Value

open Cert.AttnFwdIdeal Cert.AttnFwdIdeal.Gen Cert.AttnTile Idealize.ShloMosaic Idealize.ShloMosaic.TcCoe Idealize.SL.Sem

attribute [local irreducible] st_k0_t1 st_k0_t2

section

variable (i : grid0.Coords) (c : Dev nD) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole)
  (x0 : Vec Ideal S1x2048x64 .bf16) (x1 : Vec Ideal S1x4096x64 .bf16) (x2 : Vec Ideal S1x4096x64 .bf16)

/-- The block's scaled queries. -/
abbrev q0 : FVec Ideal S2048x64 .bf16 :=
  k0_pay90 (View.readAt (Elt Ideal) arg2.view (Rect.unit (s := S1x2048x64) ![0, 0, 0] S1x2048x64.size inb_S1x2048x64_S1x2048x64_0_0_0).toLoadRect (harg2.unread x0))

/-- The run's state after the diagonal's last `j` tiles. -/
def n_F : ℕ → StF 2048
  | 0 => ⟨k0_pay92, k0_pay93⟩
  | 1 => ⟨kernelRun0_A.sl.r_4 c i arg2 harg2 arg3 harg3 arg4 harg4 x0 x1 x2, kernelRun0_A.sl.r_5 c i arg2 harg2 arg3 harg3 x0 x1⟩
  | 2 => ⟨kernelRun0_A.sl.r_12 c i arg2 harg2 arg3 harg3 arg4 harg4 x0 x1 x2, kernelRun0_A.sl.r_13 c i arg2 harg2 arg3 harg3 x0 x1⟩
  | 3 => ⟨kernelRun0_A.sl.r_19 c i arg2 harg2 arg3 harg3 arg4 harg4 x0 x1 x2, kernelRun0_A.sl.r_20 c i arg2 harg2 arg3 harg3 x0 x1⟩
  | 4 => ⟨kernelRun0_A.sl.r_24 c i arg2 harg2 arg3 harg3 arg4 harg4 x0 x1 x2, kernelRun0_A.sl.r_25 c i arg2 harg2 arg3 harg3 x0 x1⟩
  | 5 => ⟨kernelRun0_A.sl.r_30 c i arg2 harg2 arg3 harg3 arg4 harg4 x0 x1 x2, kernelRun0_A.sl.r_31 c i arg2 harg2 arg3 harg3 x0 x1⟩
  | 6 => ⟨kernelRun0_A.sl.r_38 c i arg2 harg2 arg3 harg3 arg4 harg4 x0 x1 x2, kernelRun0_A.sl.r_39 c i arg2 harg2 arg3 harg3 x0 x1⟩
  | 7 => ⟨kernelRun0_A.sl.r_46 c i arg2 harg2 arg3 harg3 arg4 harg4 x0 x1 x2, kernelRun0_A.sl.r_47 c i arg2 harg2 arg3 harg3 x0 x1⟩
  | 8 => ⟨kernelRun0_A.sl.r_53 c i arg2 harg2 arg3 harg3 arg4 harg4 x0 x1 x2, kernelRun0_A.sl.r_54 c i arg2 harg2 arg3 harg3 x0 x1⟩
  | 9 => ⟨kernelRun0_A.sl.r_61 c i arg2 harg2 arg3 harg3 arg4 harg4 x0 x1 x2, kernelRun0_A.sl.r_62 c i arg2 harg2 arg3 harg3 x0 x1⟩
  | 10 => ⟨kernelRun0_A.sl.r_68 c i arg2 harg2 arg3 harg3 arg4 harg4 x0 x1 x2, kernelRun0_A.sl.r_69 c i arg2 harg2 arg3 harg3 x0 x1⟩
  | 11 => ⟨kernelRun0_A.sl.r_74 c i arg2 harg2 arg3 harg3 arg4 harg4 x0 x1 x2, kernelRun0_A.sl.r_75 c i arg2 harg2 arg3 harg3 x0 x1⟩
  | 12 => ⟨kernelRun0_A.sl.r_79 c i arg2 harg2 arg3 harg3 arg4 harg4 x0 x1 x2, kernelRun0_A.sl.r_80 c i arg2 harg2 arg3 harg3 x0 x1⟩
  | 13 => ⟨kernelRun0_A.sl.r_85 c i arg2 harg2 arg3 harg3 arg4 harg4 x0 x1 x2, kernelRun0_A.sl.r_86 c i arg2 harg2 arg3 harg3 x0 x1⟩
  | 14 => ⟨kernelRun0_A.sl.r_93 c i arg2 harg2 arg3 harg3 arg4 harg4 x0 x1 x2, kernelRun0_A.sl.r_94 c i arg2 harg2 arg3 harg3 x0 x1⟩
  | 15 => ⟨kernelRun0_A.sl.r_102 c i arg2 harg2 arg3 harg3 arg4 harg4 x0 x1 x2, kernelRun0_A.sl.r_103 c i arg2 harg2 arg3 harg3 x0 x1⟩
  | _ => ⟨k0_pay92, k0_pay93⟩

set_option maxHeartbeats 20000000 in
theorem n_F_step : ∀ j < 15, n_F i c arg2 harg2 arg3 harg3 arg4 harg4 x0 x1 x2 (j + 1) = fSt (q0 arg2 harg2 x0) k0_pay91 (kD i arg3 (harg3.unread x1)) (kD i arg4 (harg4.unread x2)) (n_F i c arg2 harg2 arg3 harg3 arg4 harg4 x0 x1 x2 j) (15 - j)
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | j + 15, h => absurd h (by omega)

theorem n_F_eq (j : ℕ) (hj : j ≤ 15) : n_F i c arg2 harg2 arg3 harg3 arg4 harg4 x0 x1 x2 j = fS (q0 arg2 harg2 x0) k0_pay91 (kD i arg3 (harg3.unread x1)) (kD i arg4 (harg4.unread x2)) ⟨k0_pay92, k0_pay93⟩ j := by
  induction j with
  | zero => rfl
  | succ j ih => exact (n_F_step _ _ _ _ _ _ _ _ _ _ _ j (by omega)).trans (congrArg (fun s => fSt (q0 arg2 harg2 x0) k0_pay91 (kD i arg3 (harg3.unread x1)) (kD i arg4 (harg4.unread x2)) s (15 - j)) (ih (by omega)))

/-- What the body stores: the block's output, and each row's sum to its right. -/
def outF (s : FVec Ideal S2048x64 .f32 × FVec Ideal S2048x1 .f32) : List (View.Piece (Elt Ideal) S1x2048x128 .f32) :=
  [⟨Rect.unit (s := S1x2048x128) ![0, 0, 0] S1x2048x128.size inb_S1x2048x128_S1x2048x128_0_0_0, k0_pay1 (k0_pay282 s.1 s.2)⟩]

/-- The states the diagonal and the loop leave. -/
abbrev dF : StF 2048 := fS (q0 arg2 harg2 x0) k0_pay91 (kD i arg3 (harg3.unread x1)) (kD i arg4 (harg4.unread x2)) ⟨k0_pay92, k0_pay93⟩ 16

abbrev lF : FVec Ideal S2048x64 .f32 × FVec Ideal S2048x1 .f32 :=
  st_k0_t1 (F := Ideal) Variants.none c none i arg2 harg2 arg3 harg3 arg4 harg4 arg5 harg5 (BitVec.ofNat 32 (i 1).val) (q0 arg2 harg2 x0) k0_pay91 (harg3.unread x1) (harg4.unread x2) ((dF i arg2 harg2 arg3 harg3 arg4 harg4 x0 x1 x2).acc, (dF i arg2 harg2 arg3 harg3 arg4 harg4 x0 x1 x2).run) (Scf.trips (k0_t1_loop i).lb (k0_t1_loop i).ub (k0_t1_loop i).st)

set_option maxHeartbeats 20000000 in
theorem run_F0 :
    (kernelRun0_A (F := Ideal) c i arg2 harg2 arg3 harg3 arg4 harg4 arg5 harg5 x0 x1 x2).1 =
      outF (st_k0_t2 (F := Ideal) Variants.none c none i arg2 harg2 arg3 harg3 arg4 harg4 arg5 harg5 (BitVec.ofNat 32 (i 1).val) (q0 arg2 harg2 x0) k0_pay91 (kernelRun0_A.sl.v860 i) (harg3.unread x1) (harg4.unread x2)
        (st_k0_t1 (F := Ideal) Variants.none c none i arg2 harg2 arg3 harg3 arg4 harg4 arg5 harg5 (BitVec.ofNat 32 (i 1).val) (q0 arg2 harg2 x0) k0_pay91 (harg3.unread x1) (harg4.unread x2) ((fSt (q0 arg2 harg2 x0) k0_pay91 (kD i arg3 (harg3.unread x1)) (kD i arg4 (harg4.unread x2)) (n_F i c arg2 harg2 arg3 harg3 arg4 harg4 x0 x1 x2 15) 0).acc, (fSt (q0 arg2 harg2 x0) k0_pay91 (kD i arg3 (harg3.unread x1)) (kD i arg4 (harg4.unread x2)) (n_F i c arg2 harg2 arg3 harg3 arg4 harg4 x0 x1 x2 15) 0).run) (Scf.trips (k0_t1_loop i).lb (k0_t1_loop i).ub (k0_t1_loop i).st))
        (Scf.trips (k0_t2_loop i).lb (k0_t2_loop i).ub (k0_t2_loop i).st)) := by
  sl_kernel_rfl

theorem run_F : (kernelRun0_A (F := Ideal) c i arg2 harg2 arg3 harg3 arg4 harg4 arg5 harg5 x0 x1 x2).1 = outF (lF i c arg2 harg2 arg3 harg3 arg4 harg4 arg5 harg5 x0 x1 x2) := by
  rw [run_F0, n_F_eq _ _ _ _ _ _ _ _ _ _ _ 15 (le_refl _), trips2]
  exact congrArg outF (st_k0_t2_zero ..)

end

end Cert.AttnFwdIdeal.Value

end
-- ==== Proof.FwdPoint.lean ====
module

public import proofs.«01_k».proof.Proof.FwdRun
public import proofs.«01_k».proof.Proof.AttnPay

@[expose] public section

set_option maxRecDepth 16384

noncomputable section

/-! What one grid point of the forward pass leaves in its block: the output's 64 columns, and to their right each row's
    sum of log(1 - beta), 64 times. -/

namespace Cert.AttnFwdIdeal.Value

open Cert.AttnFwdIdeal Cert.AttnFwdIdeal.Gen Cert.AttnTile Cert.Reals Idealize.ShloMosaic Idealize.ShloMosaic.TcCoe Idealize.SL.Sem
open Cert.AttnBwdIdeal.Value (bit_at and127 ceighth_bf16)

theorem sgt_ofNat (a b : ℕ) (ha : a ≤ 2048) (hb : b ≤ 2048) : IntOp.cmpi .sgt (BitVec.ofNat 32 a) (BitVec.ofNat 32 b) = if b < a then 1#1 else 0#1 := by
  have e : ∀ n ≤ 2048, (BitVec.ofNat 32 n).toInt = (n : ℤ) := fun n hn => by
    rw [BitVec.toInt_eq_toNat_of_lt] <;> rw [BitVec.toNat_ofNat, Nat.mod_eq_of_lt (by omega)]
    omega
  show BitVec.ofBool (BitVec.slt _ _) = _
  rw [BitVec.slt, e a ha, e b hb]
  by_cases hab : b < a
  · rw [if_pos hab, decide_eq_true (by exact_mod_cast hab)]; rfl
  · rw [if_neg hab, decide_eq_false (by exact_mod_cast hab)]; rfl

theorem pay90_at (v : Vec Ideal S1x2048x64 .bf16) (r : Fin 2048) (d : Fin 64) : k0_pay90 v (ix2 r d) = (v (ix3 0 r d) : EReal) * Ideal.ofBits .bf16 0x3E00#16 := by
  pointwise [k0_pay90]

theorem pay91_at : UpAt (k0_pay91 (F := Ideal)) := by
  intro x c
  pointwise [k0_pay91]
  exact bit_at _ _ (by rw [and127]; exact sgt_ofNat _ _ (by omega) (by omega))

theorem pay92_at (r : Fin 2048) (d : Fin 64) : k0_pay92 (F := Ideal) (ix2 r d) = 0 := by
  pointwise [k0_pay92]

theorem pay93_at (r : Fin 2048) : k0_pay93 (F := Ideal) (ix2 r 0) = 0 := by
  pointwise [k0_pay93]

/-- Past the block's last row nothing is left of a row's sums. -/
theorem init_at (H : Head) (t0 : ℕ) (h : t0 ≤ 2048) : StFAt H t0 (t0 + 2048) (⟨k0_pay92 (F := Ideal), k0_pay93 (F := Ideal)⟩ : StF 2048) where
  acc i d := by
    have := H.O_stay (t0 + i.val) (t0 + 2048) (2048 - t0) d.val (by omega)
    rw [show t0 + 2048 + (2048 - t0) = 4096 by omega] at this
    exact (pay92_at i d).trans (by rw [this, sub_self, EReal.coe_zero])
  run i := by
    have := H.P_stay (t0 + i.val) (t0 + 2048) (2048 - t0) (by omega)
    rw [show t0 + 2048 + (2048 - t0) = 4096 by omega] at this
    exact (pay93_at i).trans (by rw [this, sub_self, EReal.coe_zero])

/-- What is stored at one row and column. -/
theorem out_at (a : FVec Ideal S2048x64 .f32) (b : FVec Ideal S2048x1 .f32) (r : Fin 2048) (e : Fin 128) :
    k0_pay1 (k0_pay282 a b) (ix3 0 r e) = if h : e.val < 64 then a (ix2 r ⟨e.val, h⟩) else b (ix2 r 0) := by
  pointwise [k0_pay1, k0_pay282]

theorem outF_read (v : View sig .tc .vmem S1x2048x128 .f32) (f : v.ty.Contents (Elt Ideal)) (s : FVec Ideal S2048x64 .f32 × FVec Ideal S2048x1 .f32) (r : Fin 2048) (e : Fin 128) :
    v.read (Elt Ideal) (v.writes (Elt Ideal) f (outF s)) (ix3 0 r e) = if h : e.val < 64 then s.1 (ix2 r ⟨e.val, h⟩) else s.2 (ix2 r 0) := by
  refine (View.read_writes_cons_unit_of_mem v f _ _ [] (ix3 0 r e) (ix3 0 r e) rfl fun a => ?_).trans (out_at _ _ _ _)
  match a with
  | 0 => rfl
  | 1 => exact (Nat.zero_add _).symm
  | 2 => exact (Nat.zero_add _).symm

/-- The blocks a point reads are the head's, from row `t0` on. -/
structure PtAt (H : Head) (t0 : ℕ) (x0 : Vec Ideal S1x2048x64 .bf16) (x1 x2 : Vec Ideal S1x4096x64 .bf16) : Prop where
  q : ∀ r d, x0 (ix3 0 r d) = ((8 * H.q (t0 + r.val) d.val : ℝ) : EReal)
  k : ∀ r d, x1 (ix3 0 r d) = ((H.k r.val d.val : ℝ) : EReal)
  v : ∀ r d, x2 (ix3 0 r d) = ((H.v r.val d.val : ℝ) : EReal)

section

variable (i : grid0.Coords) (c : Dev nD) (arg2 : Memref sig .tc .vmem S1x2048x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x2048x128 .f32) (harg5 : arg5.IsWhole)
  (x0 : Vec Ideal S1x2048x64 .bf16) (x1 : Vec Ideal S1x4096x64 .bf16) (x2 : Vec Ideal S1x4096x64 .bf16) (H : Head) (h : PtAt H (2048 * (i 1).val) x0 x1 x2)

theorem get2 : View.readAt (Elt Ideal) arg2.view (Rect.unit ![0, 0, 0] S1x2048x64.size inb_S1x2048x64_S1x2048x64_0_0_0).toLoadRect (harg2.unread x0) = x0 := by
  rw [View.readAt_eq_ld, Memref.IsWhole.read_unread]
  exact View.ld_unit_zero (by funext a; match a with | 0 => rfl | 1 => rfl | 2 => rfl) _ _

theorem row_le : 2048 * (i 1).val ≤ 2048 := by
  have hi : (i 1).val < 2 := (i 1).isLt
  omega

include h

theorem q0_at : QAt H (2048 * (i 1).val) (q0 arg2 harg2 x0) := fun r d => by
  unfold q0
  rw [get2, pay90_at, h.q, ceighth_bf16, ← EReal.coe_mul]
  exact congrArg _ (by ring)

theorem get3 (r : Fin 4096) (d : Fin 64) : arg3.view.read (Elt Ideal) (harg3.unread x1) (ix3 0 r d) = ((H.k r.val d.val : ℝ) : EReal) := by
  rw [Memref.IsWhole.read_unread]; exact h.k r d

theorem get4 (r : Fin 4096) (d : Fin 64) : arg4.view.read (Elt Ideal) (harg4.unread x2) (ix3 0 r d) = ((H.v r.val d.val : ℝ) : EReal) := by
  rw [Memref.IsWhole.read_unread]; exact h.v r d

theorem dF_at : StFAt H (2048 * (i 1).val) (2048 * (i 1).val) (dF i arg2 harg2 arg3 harg3 arg4 harg4 x0 x1 x2) :=
  fS_at H (2048 * (i 1).val) _ _ _ _ _ (q0_at i arg2 harg2 x0 x1 x2 H h) pay91_at
    (fun j hj c d => kD_at i arg3 _ H.k (get3 i arg3 harg3 x0 x1 x2 H h) j hj c d) (fun j hj c d => kD_at i arg4 _ H.v (get4 i arg4 harg4 x0 x1 x2 H h) j hj c d)
    (init_at H _ (row_le i)) 16 (le_refl _)

theorem lF_at : StFAt H (2048 * (i 1).val) 0 (⟨(lF i c arg2 harg2 arg3 harg3 arg4 harg4 arg5 harg5 x0 x1 x2).1, (lF i c arg2 harg2 arg3 harg3 arg4 harg4 arg5 harg5 x0 x1 x2).2⟩ : StF 2048) := by
  have key := loop_at Variants.none c none i arg2 harg2 arg3 harg3 arg4 harg4 arg5 harg5 (BitVec.ofNat 32 (i 1).val) (q0 arg2 harg2 x0) k0_pay91 (harg3.unread x1) (harg4.unread x2) ((dF i arg2 harg2 arg3 harg3 arg4 harg4 x0 x1 x2).acc, (dF i arg2 harg2 arg3 harg3 arg4 harg4 x0 x1 x2).run) H
    (q0_at i arg2 harg2 x0 x1 x2 H h) pay91_at (get3 i arg3 harg3 x0 x1 x2 H h) (get4 i arg4 harg4 x0 x1 x2 H h) (dF_at i arg2 harg2 arg3 harg3 arg4 harg4 x0 x1 x2 H h)
    (2 * (i 1).val) (le_refl _)
  rw [show 2048 * (i 1).val - 1024 * (2 * (i 1).val) = 0 by omega, ← trips1] at key
  exact key

theorem out_F (r : Fin 2048) (e : Fin 128) : out0_A_3 (F := Ideal) c i arg2 harg2 arg3 harg3 arg4 harg4 arg5 harg5 x0 x1 x2 (ix3 0 r e)
    = if e.val < 64 then ((H.O (2048 * (i 1).val + r.val) 4096 e.val : ℝ) : EReal) else ((H.P (2048 * (i 1).val + r.val) 4096 : ℝ) : EReal) := by
  unfold out0_A_3
  rw [run_F]
  refine (outF_read _ _ _ r e).trans ?_
  have key := lF_at i c arg2 harg2 arg3 harg3 arg4 harg4 arg5 harg5 x0 x1 x2 H h
  by_cases he : e.val < 64
  · rw [dif_pos he, if_pos he]
    refine (key.acc r ⟨e.val, he⟩).trans (congrArg _ ?_)
    simp [Head.O]
  · rw [dif_neg he, if_neg he]
    refine (key.run r).trans (congrArg _ ?_)
    simp [Head.P]

end

end Cert.AttnFwdIdeal.Value

end
-- ==== Proof.FwdFinal.lean ====
/- The forward kernel's result over the whole array: the attention's output, and each row's sum to its right. -/
module

public import proofs.«01_k».proof.Proof.FwdPoint
public import proofs.«01_k».proof.Proof.AttnRefVal

@[expose] public section

set_option maxRecDepth 16384

noncomputable section

namespace Cert.AttnFwdIdeal.Value

open Cert.AttnFwdIdeal Cert.AttnFwdIdeal.Gen Cert.AttnFwdIdeal.Facts Cert.Reals Cert.AttnTile Idealize.ShloMosaic Idealize.ShloMosaic.TcCoe Idealize.SL.Sem
open Cert.AttnRefIdeal.Value (hd rd rd_at)

variable (m : (ℓ : Loc nD τ sig) → Buf (Elt Ideal) ℓ) (c : Dev nD)

abbrev qA : FVec Ideal S16x4096x64 .f32 := m ((c : Thread nD τ).loc main_arg0)
abbrev kA : FVec Ideal S16x4096x64 .f32 := m ((c : Thread nD τ).loc main_arg1)
abbrev vA : FVec Ideal S16x4096x64 .f32 := m ((c : Thread nD τ).loc main_arg2)

/-- Queries, keys and values one above the other. -/
abbrev catA (x y z : FVec Ideal S16x4096x64 .f32) : FVec Ideal S48x4096x64 .bf16 :=
  truncf (F := Ideal) .bf16 (concatenate S48x4096x64 0 [⟨S16x4096x64, x⟩, ⟨S16x4096x64, y⟩, ⟨S16x4096x64, z⟩]
    concatenates_S16x4096x64_S16x4096x64_S16x4096x64_S48x4096x64_d0) bitsLt_bf16_f32

theorem V_v1 : V m c main_v1 = catA (qA m c) (kA m c) (vA m c) := by
  unfold V
  after_results_simp <;> rfl

/-- The windows' block indices: head and half of the queries. -/
theorem idx : ∀ t : Fin cfg0.N, win0_0.index t = ![t.val / 2, t.val % 2, 0] ∧ win0_1.index t = ![16 + t.val / 2, 0, 0] ∧ win0_2.index t = ![32 + t.val / 2, 0, 0]
    ∧ win0_3.index t = ![t.val / 2, t.val % 2, 0] :=
  (by decide +kernel : ∀ t : Fin grid0.N, _)

theorem half : ∀ t : Fin cfg0.N, (grid0.coords t 1).val = t.val % 2 :=
  (by decide +kernel : ∀ t : Fin grid0.N, _)

section

variable (x y z : FVec Ideal S16x4096x64 .f32)

theorem cat_q (h : Fin 16) (s : Fin 4096) (d : Fin 64) : catA x y z (ix3 ⟨h.val, by omega⟩ s d) = x (ix3 h s d) := by
  pointwise

theorem cat_k (h : Fin 16) (s : Fin 4096) (d : Fin 64) : catA x y z (ix3 ⟨16 + h.val, by omega⟩ s d) = y (ix3 h s d) := by
  pointwise

theorem cat_v (h : Fin 16) (s : Fin 4096) (d : Fin 64) : catA x y z (ix3 ⟨32 + h.val, by omega⟩ s d) = z (ix3 h s d) := by
  pointwise
  rw [dif_neg (by omega), dif_neg (by omega)]
  exact congrArg z (congrArg (ix3 · s d) (Fin.ext (by show 32 + h.val - 16 - 16 = h.val; omega)))

end

theorem rd0 (t : Fin cfg0.N) (r : Fin 2048) (d : Fin 64) (h : Fin 16) (hh : h.val = t.val / 2) (s : Fin 4096) (hs : s.val = t.val % 2 * 2048 + r.val) :
    iblk m c 0 t (ix3 0 r d) = qA m c (ix3 h s d) := by
  rw [← cat_q (qA m c) (kA m c) (vA m c) h s d]
  blk_simp [iblk, idx t, V_v1 m c]
  blk_ext [idx t]

theorem rd1 (t : Fin cfg0.N) (s : Fin 4096) (d : Fin 64) (h : Fin 16) (hh : h.val = t.val / 2) :
    iblk m c 1 t (ix3 0 s d) = kA m c (ix3 h s d) := by
  rw [← cat_k (qA m c) (kA m c) (vA m c) h s d]
  blk_simp [iblk, idx t, V_v1 m c]
  blk_ext [idx t]

theorem rd2 (t : Fin cfg0.N) (s : Fin 4096) (d : Fin 64) (h : Fin 16) (hh : h.val = t.val / 2) :
    iblk m c 2 t (ix3 0 s d) = vA m c (ix3 h s d) := by
  rw [← cat_v (qA m c) (kA m c) (vA m c) h s d]
  blk_simp [iblk, idx t, V_v1 m c]
  blk_ext [idx t]

/-- Every element is a real. -/
abbrev Fin' (x : FVec Ideal S16x4096x64 .f32) : Prop := ∀ i, ∃ r : ℝ, x i = r

/-- A head of the arguments; no cotangent is read, and the values stand for it. -/
abbrev hdA (h : Fin 16) : Head := hd (qA m c) (kA m c) (vA m c) (vA m c) h

/-- The result at a head, a row and a column. -/
def outH (H : Head) (s e : ℕ) : EReal := if e < 64 then ((H.O s 4096 e : ℝ) : EReal) else ((H.P s 4096 : ℝ) : EReal)

theorem blk_of (f : Fin 16 → ℕ → ℕ → EReal) (t : Fin cfg0.N) (X : S1x2048x128.Idx → EReal)
    (hX : ∀ (h : Fin 16), h.val = t.val / 2 → ∀ r d, X (ix3 0 r d) = f h (2048 * (t.val % 2) + r.val) d.val)
    (y : S1x2048x128.Idx) (j : S16x4096x128.Idx) (h0 : (j 0).val = t.val / 2) (h1 : (j 1).val = t.val % 2 * 2048 + (y 1).val) (h2 : (j 2).val = (y 2).val) :
    X y = f (j 0) (j 1).val (j 2).val := by
  obtain ⟨a, r, d, rfl⟩ : ∃ (a : Fin 1) (r : Fin 2048) (d : Fin 128), y = ix3 a r d := ⟨_, _, _, eq_ix3 y⟩
  obtain rfl : a = 0 := Subsingleton.elim _ _
  rw [hX (j 0) h0, h1, h2]
  exact congrArg₂ (f (j 0)) (congrArg (· + r.val) (Nat.mul_comm _ _)) rfl

theorem final_of (f : S16x4096x128.Idx → EReal) (hX : ∀ t : Fin cfg0.N, ∀ (y : S1x2048x128.Idx) (j : S16x4096x128.Idx), (j 0).val = t.val / 2 → (j 1).val = t.val % 2 * 2048 + (y 1).val → (j 2).val = (y 2).val
      → outsAt0 m c t y = f j) : (dats m 0 c).arrAt 3 cfg0.N = f := by
  refine (dats m 0 c).arrAt_eq_of_covers 3 _ (by decide +kernel) fun t hf y => ?_
  blk_simp
  rw [after0_3]
  have h0 : ((win0_3.blk t).view.emb y 0 : ℕ) = t.val / 2 := by blk_simp [idx t]
  have h1 : ((win0_3.blk t).view.emb y 1 : ℕ) = t.val % 2 * 2048 + (y 1 : ℕ) := by blk_simp [idx t]
  have h2 : ((win0_3.blk t).view.emb y 2 : ℕ) = (y 2 : ℕ) := by blk_simp [idx t]
  exact hX t y _ h0 h1 h2

variable (hq : Fin' (qA m c)) (hk : Fin' (kA m c)) (hv : Fin' (vA m c))

include hq hk hv

/-- A grid point's blocks are its head's. -/
theorem pt_at (t : Fin cfg0.N) (h : Fin 16) (hh : h.val = t.val / 2) :
    PtAt (hdA m c h) (2048 * (grid0.coords t 1).val) (iblk m c 0 t) (iblk m c 1 t) (iblk m c 2 t) := by
  have hb : t.val % 2 < 2 := Nat.mod_lt _ (by norm_num)
  rw [half t]
  have row : ∀ r : Fin 2048, 2048 * (t.val % 2) + r.val < 4096 := fun r => by omega
  have rowe : ∀ r : Fin 2048, (⟨2048 * (t.val % 2) + r.val, row r⟩ : Fin 4096).val = t.val % 2 * 2048 + r.val := fun r => by
    show 2048 * (t.val % 2) + r.val = _; omega
  refine ⟨fun r d => ?_, fun r d => ?_, fun r d => ?_⟩
  · refine (rd0 m c t r d h hh _ (rowe r)).trans ((rd_at _ hq h _ d).trans (congrArg _ ?_))
    show rd (qA m c) h (2048 * (t.val % 2) + r.val) d.val = 8 * (rd (qA m c) h (2048 * (t.val % 2) + r.val) d.val / 8)
    ring
  · exact (rd1 m c t r d h hh).trans (rd_at _ hk h _ d)
  · exact (rd2 m c t r d h hh).trans (rd_at _ hv h _ d)

/-- What a grid point leaves. -/
theorem out_head (t : Fin cfg0.N) (h : Fin 16) (hh : h.val = t.val / 2) (r : Fin 2048) (e : Fin 128) :
    outsAt0 m c t (ix3 0 r e) = outH (hdA m c h) (2048 * (t.val % 2) + r.val) e.val := by
  unfold outsAt0 outH
  rw [out_F (grid0.coords t) c (ms0_0 t) (hs0_0 t) (ms0_1 t) (hs0_1 t) (ms0_2 t) (hs0_2 t) (ms0_3 t) (hs0_3 t) (iblk m c 0 t) (iblk m c 1 t) (iblk m c 2 t) (hdA m c h) (pt_at m c hq hk hv t h hh) r e, half t]

/-- The whole result. -/
theorem final3 : (dats m 0 c).arrAt 3 cfg0.N = fun j => outH (hdA m c (j 0)) (j 1).val (j 2).val :=
  final_of m c _ fun t y j => blk_of (fun h => outH (hdA m c h)) t _ (out_head m c hq hk hv t) y j

end Cert.AttnFwdIdeal.Value

end
-- ==== Proof.FwdAlg.lean ====
/- The attention's forward call against its forward lines: the claims about the pair. -/
module

public import proofs.«01_k».proof.Defs
public import proofs.«01_k».proof.Proof.Gen.Pre_fwd_finite
public import proofs.«01_k».proof.Proof.Gen.AttnFwd.Frame
public import proofs.«01_k».proof.Proof.Gen.FwdRefIdeal.Run
public import proofs.«01_k».proof.Proof.FwdFinal

@[expose] public section

set_option maxRecDepth 16384

noncomputable section

namespace Cert.FwdPair

open Cert.FwdRefIdeal Cert.FwdRefIdeal.Gen Cert.FwdRefIdeal.Value Cert.Reals Cert.AttnTile Idealize.ShloMosaic Idealize.ShloMosaic.TcCoe Idealize.SL.Sem
open Cert.AttnFwdIdeal.Value (Fin' final3 outH)
open Cert.AttnRefIdeal.Value (wR tailR hd rd rd_at w_at tail_at)

/-- The precondition says that all arguments are real. -/
theorem decode (q k v : FVec Ideal S16x4096x64 .f32) (hp : Cert.Pre_fwd_finite.fn (F := Ideal) q k v = fun _ => 1#1) : Fin' q ∧ Fin' k ∧ Fin' v := by
  have h0 := congrFun hp (fun i => i.elim0)
  obtain ⟨h1, hv⟩ := andi_one h0
  obtain ⟨hq, hk⟩ := andi_one h1
  haveI : Subsingleton S_.Idx := ⟨fun a b => funext fun i => i.elim0⟩
  exact ⟨all_real _ _ _ _ _ inf_f32 _ hq, all_real _ _ _ _ _ inf_f32 _ hk, all_real _ _ _ _ _ inf_f32 _ hv⟩

section

variable (q k v : FVec Ideal S16x4096x64 .f32)

/-- The output, and the sums spread over 64 columns. -/
abbrev oR : FVec Ideal S16x4096x64 .f32 := Host.dotGeneral dot_S16x4096x4096_S16x4096x64_S16x4096x64_2_1_1_2_0_0 none (wR q k) v

abbrev sR : FVec Ideal S16x4096x64 .f32 :=
  broadcastInDim S16x4096x64 ![0, 1, 2] bcast_S16x4096x1_S16x4096x64_0_1_2 (extractStridedSlice S16x4096x1 ![0, 0, 0] (tailR q k) slices_S16x4096x4096_S16x4096x1_0_0_0)

abbrev fwdR : FVec Ideal S16x4096x128 .f32 :=
  concatenate S16x4096x128 2 [⟨S16x4096x64, oR q k v⟩, ⟨S16x4096x64, sR q k⟩] concatenates_S16x4096x64_S16x4096x64_S16x4096x128_d2

theorem res_eq (m : (ℓ : Loc nD τ sig) → Buf (Elt Ideal) ℓ) (c : Dev nD) :
    res_out0 (F := Ideal) m c = fwdR (m ((c.tc : Thread nD τ).loc main_arg0)) (m ((c.tc : Thread nD τ).loc main_arg1)) (m ((c.tc : Thread nD τ).loc main_arg2)) := rfl

theorem cat_at (x y : FVec Ideal S16x4096x64 .f32) (h : Fin 16) (t : Fin 4096) (e : Fin 128) :
    concatenate S16x4096x128 2 [⟨S16x4096x64, x⟩, ⟨S16x4096x64, y⟩] concatenates_S16x4096x64_S16x4096x64_S16x4096x128_d2 (ix3 h t e)
      = if p : e.val < 64 then x (ix3 h t ⟨e.val, p⟩) else y (ix3 h t ⟨e.val - 64, by omega⟩) := by
  pointwise

theorem sR_at (w : FVec Ideal S16x4096x4096 .f32) (h : Fin 16) (t : Fin 4096) (d : Fin 64) :
    broadcastInDim S16x4096x64 ![0, 1, 2] bcast_S16x4096x1_S16x4096x64_0_1_2 (extractStridedSlice S16x4096x1 ![0, 0, 0] w slices_S16x4096x4096_S16x4096x1_0_0_0) (ix3 h t d)
      = w (ix3 h t 0) := by
  pointwise

theorem dot_at (g : FVec Ideal S16x4096x4096 .f32) (h : Fin 16) (t : Fin 4096) (d : Fin 64) :
    Host.dotGeneral dot_S16x4096x4096_S16x4096x64_S16x4096x64_2_1_1_2_0_0 none g v (ix3 h t d) = ∑ s : Fin 4096, g (ix3 h t s) * v (ix3 h s d) := by
  pointwise

variable (hq : Fin' q) (hk : Fin' k) (hv : Fin' v)

include hq hk hv

theorem oR_at (h : Fin 16) (t : Fin 4096) (d : Fin 64) : oR q k v (ix3 h t d) = (((hd q k v v h).O t 4096 d : ℝ) : EReal) := by
  rw [oR, dot_at]
  simp only [w_at q k v v hq hk, rd_at v hv, ← EReal.coe_mul]
  rw [sum_coe]
  congr 1

theorem fwd_eq : fwdR q k v = fun j => outH (hd q k v v (j 0)) (j 1).val (j 2).val := by
  funext j
  obtain ⟨h, t, e, rfl⟩ : ∃ (h : Fin 16) (t : Fin 4096) (e : Fin 128), j = ix3 h t e := ⟨_, _, _, eq_ix3 j⟩
  refine (cat_at _ _ h t e).trans ?_
  show _ = outH (hd q k v v h) t.val e.val
  unfold outH
  by_cases p : e.val < 64
  · rw [dif_pos p, if_pos p]
    exact oR_at q k v hq hk hv h t ⟨e.val, p⟩
  · rw [dif_neg p, if_neg p]
    refine (sR_at _ h t _).trans ((tail_at q k v v hq hk h t 0).trans (congrArg _ ?_))
    show Head.P _ _ 4096 - Head.P _ _ 0 = _
    unfold Head.P
    rw [Finset.range_zero, Finset.sum_empty, sub_zero]

end

/-- The reference's frame. -/
theorem frame_ref : Cert.quiescent_FwdRefIdeal := fun m ρ _ =>
  (θ_run Cert.FwdRefIdeal.defs _ _).mono (fun r h => ⟨fun c => (h c).2, Idealize.ShloMosaic.sem_eq_zero_of_no_sems (by decide) r.2⟩) (Cert.FwdRefIdeal.Value.run (F := Ideal) m ρ)

theorem frame_ref_pre : Cert.quiescent_FwdRefIdeal_pre_fwd_finite := fun m ρ _ => frame_ref m ρ trivial

/-- Kernel and reference return the same array. -/
theorem algebraic : Cert.algebraic_AttnFwdIdeal_FwdRefIdeal_pre_fwd_finite := by
  intro m ρ m' ρ' hp ha
  refine ⟨fun c => (Cert.AttnFwdIdeal.Gen.dats m 0 c).arrAt 3 Cert.AttnFwdIdeal.cfg0.N, Cert.AttnFwdIdeal.Value.run_blocks m ρ, ?_⟩
  refine (θ_run Cert.FwdRefIdeal.defs _ _).mono (fun r h c => ?_) (Cert.FwdRefIdeal.Value.run (F := Ideal) m' ρ')
  obtain ⟨r0, keep⟩ := h c
  obtain ⟨h0, h1, h2⟩ := ha c
  obtain ⟨fq, fk, fv⟩ := decode _ _ _ (hp c)
  refine ⟨?_, keep⟩
  refine r0.trans ((res_eq m' c).trans ?_)
  rw [h0, h1, h2]
  exact (fwd_eq _ _ _ fq fk fv).trans (final3 m c fq fk fv).symm

/-- All claims about the pair. -/
theorem claims : (Cert.quiescent_AttnFwd ∧ Cert.quiescent_AttnFwdIdeal ∧ Cert.quiescent_AttnFwdIdeal_pre_fwd_finite ∧ Cert.quiescent_FwdRefIdeal
    ∧ Cert.quiescent_FwdRefIdeal_pre_fwd_finite) ∧ Cert.preserves_AttnFwd_AttnFwdIdeal ∧ Cert.algebraic_AttnFwdIdeal_FwdRefIdeal_pre_fwd_finite :=
  ⟨⟨fun m ρ _ => Cert.AttnFwd.Gen.frame m ρ, fun m ρ _ => Cert.AttnFwdIdeal.Gen.frame m ρ, fun m ρ _ => Cert.AttnFwdIdeal.Gen.frame m ρ,
    frame_ref, frame_ref_pre⟩, trivial, algebraic⟩

end Cert.FwdPair

end
-- ==== Proof.SmallAlg.lean ====
/- The small gradients' sums and the adaLN weight's gradient: the claims about the pair. No element need be real. -/
module

public import proofs.«01_k».proof.Defs
public import proofs.«01_k».proof.Proof.Gen.Small.Frame
public import proofs.«01_k».proof.Proof.Gen.SmallIdeal.Value
public import proofs.«01_k».proof.Proof.Gen.SmallRefIdeal.Run
public import Idealize.ShloMosaic.Lib.Pointwise

@[expose] public section

set_option maxRecDepth 16384

noncomputable section

namespace Cert.SmallPair

open Cert.SmallRefIdeal Cert.SmallRefIdeal.Gen Cert.SmallRefIdeal.Value Idealize.ShloMosaic Idealize.ShloMosaic.TcCoe Idealize.SL.Sem
open Cert.SmallIdeal.Value (G3 G4)
open Cert.SmallIdeal.Gen (r0_0 r0_1 r0_2 r0_3 r0_4 r0_5 r0_6 r0_7)

section

variable (g : FVec Ideal S8x15360 .f32) (x : FVec Ideal S8x1024 .f32) (d : FVec Ideal S8x384 .f32)

/-- The sum over the devices. -/
abbrev totR : FVec Ideal S1x15360 .f32 :=
  broadcastInDim S1x15360 ![1] bcast_S15360_S1x15360_1 (Host.reduceAdd g (constant S_ .f32 0x00000000#32) reducesTo_S8x15360_S15360_d0 h_S_)

/-- The gated conditioning. -/
abbrev siluR : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- The weight's gradient. -/
abbrev gradR : FVec Ideal S1024x384 .f32 :=
  transpose S1024x384 [1, 0] (Host.dotGeneral dot_S8x384_S8x1024_S384x1024_0_0_1_1_n_n none d (siluR x)) transposes_S384x1024_S1024x384_1_0

theorem tot_at (e : Fin 15360) : totR g (ix2 0 e) = ∑ i : Fin 8, g (ix2 i e) := by
  pointwise

theorem G3_at (e : Fin 15360) : G3 (F := Ideal) g x d (ix2 0 e) = ∑ i : Fin 8, g (ix2 i e) := by
  rw [Fin.sum_univ_eight]
  pointwise [Cert.SmallIdeal.Gen.k0_pay1]

theorem grad_at (a : Fin 1024) (e : Fin 384) : gradR x d (ix2 a e) = ∑ i : Fin 8, d (ix2 i e) * siluR x (ix2 i a) := by
  pointwise

theorem silu_at (i : Fin 8) (a : Fin 1024) : siluR x (ix2 i a)
    = x (ix2 i a) * Ideal.div (Ideal.ofBits .f32 0x3F800000#32) (Ideal.ofBits .f32 0x3F800000#32 + Ideal.exp (-(x (ix2 i a)))) := by
  pointwise

theorem G4_at (a : Fin 1024) (e : Fin 384) : G4 (F := Ideal) g x d (ix2 a e)
    = ∑ i : Fin 8, x (ix2 i a) * Ideal.div (Ideal.ofBits .f32 0x3F800000#32) (Ideal.ofBits .f32 0x3F800000#32 + Ideal.exp (-(x (ix2 i a)))) * d (ix2 i e) := by
  pointwise [Cert.SmallIdeal.Gen.k0_pay2]
  simp only [zero_sub]

theorem tot_eq : totR g = G3 (F := Ideal) g x d := by
  funext j
  obtain ⟨a, e, rfl⟩ : ∃ (a : Fin 1) (e : Fin 15360), j = ix2 a e := ⟨_, _, eq_ix2 j⟩
  obtain rfl : a = 0 := Subsingleton.elim _ _
  exact (tot_at g e).trans (G3_at g x d e).symm

theorem grad_eq : gradR x d = G4 (F := Ideal) g x d := by
  funext j
  obtain ⟨a, e, rfl⟩ : ∃ (a : Fin 1024) (e : Fin 384), j = ix2 a e := ⟨_, _, eq_ix2 j⟩
  rw [grad_at, G4_at]
  exact Finset.sum_congr rfl fun i _ => by rw [silu_at, mul_comm]

end

/-- The reference's frame. -/
theorem frame_ref : Cert.quiescent_SmallRefIdeal := fun m ρ _ =>
  (θ_run Cert.SmallRefIdeal.defs _ _).mono (fun r h => ⟨fun c => (h c).2.2, Idealize.ShloMosaic.sem_eq_zero_of_no_sems (by decide) r.2⟩) (Cert.SmallRefIdeal.Value.run (F := Ideal) m ρ)

/-- Kernel and reference return the same two arrays. -/
theorem algebraic : Cert.algebraic_SmallIdeal_SmallRefIdeal := by
  intro m ρ m' ρ' _ ha
  refine ⟨_, _, Cert.SmallIdeal.Value.run m ρ, ?_⟩
  refine (θ_run Cert.SmallRefIdeal.defs _ _).mono (fun r h c => ?_) (Cert.SmallRefIdeal.Value.run (F := Ideal) m' ρ')
  obtain ⟨r0, r1, keep⟩ := h c
  obtain ⟨h0, h1, h2⟩ := ha c
  refine ⟨r0.trans ?_, r1.trans ?_, keep⟩
  · rw [h0]
    exact tot_eq _ _ _
  · rw [h1, h2]
    exact grad_eq _ _ _

/-- All claims about the pair. -/
theorem claims : (Cert.quiescent_Small ∧ Cert.quiescent_SmallIdeal ∧ Cert.quiescent_SmallRefIdeal) ∧ Cert.preserves_Small_SmallIdeal ∧ Cert.algebraic_SmallIdeal_SmallRefIdeal :=
  ⟨⟨fun m ρ _ => Cert.Small.Gen.frame m ρ, fun m ρ _ => Cert.SmallIdeal.Gen.frame m ρ, frame_ref⟩, trivial, algebraic⟩

end Cert.SmallPair

end
-- ==== Proof.ProjOut.lean ====
/- The blocks that the projection stores piece by piece: the transposed normalised rows, a head at a time the attention's three inputs, and the
   other groups of columns. Each is the block's rows times the weight's columns. -/
module

public import proofs.«01_k».proof.Proof.PostCols
public import proofs.«01_k».proof.Proof.Gen.ProjIdeal.Value
public import Idealize.ShloMosaic.Lib.Pipeline.ReadBack
public import Idealize.ShloMosaic.Lib.VecWindow
public import Idealize.ShloMosaic.Lib.Pointwise

@[expose] public section

set_option maxRecDepth 16384

noncomputable section

namespace Cert.ProjIdeal.Value

open Cert.ProjIdeal Cert.ProjIdeal.Gen Idealize.ShloMosaic Idealize.ShloMosaic.TcCoe Idealize.SL.Sem
open Cert.PostIdeal.Value (eye eye_one eye_sum)

/-- A row of the block times column `c` of the weight: 0 past its end. -/
def prodAt (H : Vec Ideal S256x1024 .bf16) (W : Vec Ideal S1024x6784 .bf16) (r : Fin 256) (c : ℕ) : EReal :=
  if h : c < 6784 then ∑ k : Fin 1024, H (ix2 r k) * W (ix2 k ⟨c, h⟩) else 0

theorem prod_of (H : Vec Ideal S256x1024 .bf16) (W : Vec Ideal S1024x6784 .bf16) (r : Fin 256) (l : Fin 6784) (c : ℕ) (hc : l.val = c) :
    ∑ k : Fin 1024, H (ix2 r k) * W (ix2 k l) = prodAt H W r c := by
  subst hc
  rw [prodAt, dif_pos l.isLt]

/-- The rows, transposed. -/
def rowG (H : Vec Ideal S256x1024 .bf16) (j : S1024x256.Idx) : EReal := H (ix2 ⟨(j 1).val, (j 1).isLt⟩ ⟨(j 0).val, (j 0).isLt⟩)

/-- The attention's inputs by heads. -/
def headG (H : Vec Ideal S256x1024 .bf16) (W : Vec Ideal S1024x6784 .bf16) (j : S48x256x64.Idx) : EReal :=
  prodAt H W ⟨(j 1).val, (j 1).isLt⟩ (64 * (j 0).val + (j 2).val)

/-- `N` columns from `o` on. -/
def colG (N o : ℕ) (H : Vec Ideal S256x1024 .bf16) (W : Vec Ideal S1024x6784 .bf16) (j : (⟨2, ![256, N]⟩ : Shape).Idx) : EReal :=
  prodAt H W ⟨(j 0).val, (j 0).isLt⟩ (o + (j 1).val)

/-- Stores that are blocks of `G` and cover an index leave `G` there. -/
theorem canon_of {s : Shape} {e : EltTy} (L : List (View.Piece (Elt Ideal) s e)) (G : s.Idx → Elt Ideal e) (y : s.Idx) (hc : ∃ p ∈ L, y ∈ p.1.set) (h : View.PiecesOf G L) :
    View.canon L y = G y := by
  have := View.canon_append_of_piecesOf G [] L h y hc
  rwa [List.append_nil] at this

theorem rBlk (H : Vec Ideal S256x1024 .bf16) (o : ℕ) (hn : ∀ a, (![o, 0] : Fin 2 → ℕ) a + S256x256.size a ≤ S1024x256.size a) (w : (Rect.unit (s := S1024x256) ![o, 0] S256x256.size hn).shape.Idx → EReal)
    (hw : ∀ (i r : Fin 256), ∃ l : Fin 1024, l.val = o + i.val ∧ w (ix2 i r) = H (ix2 r l)) (x : (Rect.unit (s := S1024x256) ![o, 0] S256x256.size hn).shape.Idx) :
    w x = rowG H ((Rect.unit (s := S1024x256) ![o, 0] S256x256.size hn).emb x) := by
  obtain ⟨i, r, rfl⟩ : ∃ (i r : Fin 256), x = ix2 i r := ⟨_, _, eq_ix2 x⟩
  obtain ⟨l, hl, e⟩ := hw i r
  refine e.trans (congrArg H (congrArg₂ ix2 (Fin.ext ?_) (Fin.ext ?_)))
  · show r.val = 0 + 1 * r.val
    omega
  · show l.val = o + 1 * i.val
    omega

theorem qBlk (H : Vec Ideal S256x1024 .bf16) (W : Vec Ideal S1024x6784 .bf16) (n : ℕ) (hn : ∀ a, (![n, 0, 0] : Fin 3 → ℕ) a + S1x256x64.size a ≤ S48x256x64.size a)
    (w : (Rect.unit (s := S48x256x64) ![n, 0, 0] S1x256x64.size hn).shape.Idx → EReal)
    (hw : ∀ (r : Fin 256) (d : Fin 64), w (ix3 0 r d) = prodAt H W r (64 * n + d.val)) (x : (Rect.unit (s := S48x256x64) ![n, 0, 0] S1x256x64.size hn).shape.Idx) :
    w x = headG H W ((Rect.unit (s := S48x256x64) ![n, 0, 0] S1x256x64.size hn).emb x) := by
  obtain ⟨u, r, d, rfl⟩ : ∃ (u : Fin 1) (r : Fin 256) (d : Fin 64), x = ix3 u r d := ⟨_, _, _, eq_ix3 x⟩
  obtain rfl : u = 0 := Subsingleton.elim _ _
  refine (hw r d).trans (congrArg₂ (prodAt H W) (Fin.ext ?_) ?_)
  · show r.val = 0 + 1 * r.val
    omega
  · show 64 * n + d.val = 64 * (n + 1 * 0) + (0 + 1 * d.val)
    omega

theorem cBlk (H : Vec Ideal S256x1024 .bf16) (W : Vec Ideal S1024x6784 .bf16) (N M o q : ℕ) (hn : ∀ a, (![0, q] : Fin 2 → ℕ) a + (⟨2, ![256, M]⟩ : Shape).size a ≤ (⟨2, ![256, N]⟩ : Shape).size a)
    (w : (Rect.unit (s := (⟨2, ![256, N]⟩ : Shape)) ![0, q] (⟨2, ![256, M]⟩ : Shape).size hn).shape.Idx → EReal)
    (hw : ∀ (r : Fin 256) (d : Fin M), w (ix2 r d) = prodAt H W r (o + (q + d.val)))
    (x : (Rect.unit (s := (⟨2, ![256, N]⟩ : Shape)) ![0, q] (⟨2, ![256, M]⟩ : Shape).size hn).shape.Idx) :
    w x = colG N o H W ((Rect.unit (s := (⟨2, ![256, N]⟩ : Shape)) ![0, q] (⟨2, ![256, M]⟩ : Shape).size hn).emb x) := by
  obtain ⟨r, d, rfl⟩ : ∃ (r : Fin 256) (d : Fin M), x = ix2 r d := ⟨_, _, eq_ix2 x⟩
  refine (hw r d).trans (congrArg₂ (prodAt H W) (Fin.ext ?_) ?_)
  · show r.val = 0 + 1 * r.val
    omega
  · show o + (q + d.val) = o + (q + 1 * d.val)
    omega

theorem eye3 (i k : Fin 256) : k0_pay3 (F := Ideal) (ix2 i k) = eye i k := by
  rw [← eye_one]
  pointwise [k0_pay3]

theorem row_of (H : Vec Ideal S256x1024 .bf16) (o : ℕ) (i r : Fin 256) (ho : o + 256 ≤ 1024) (v : EReal)
    (hv : v = ∑ k : Fin 256, k0_pay3 (F := Ideal) (ix2 i k) * H (ix2 r ⟨o + k.val, by omega⟩)) : ∃ l : Fin 1024, l.val = o + i.val ∧ v = H (ix2 r l) := by
  refine ⟨⟨o + i.val, by omega⟩, rfl, hv.trans ?_⟩
  simp only [eye3]
  exact eye_sum i fun k => H (ix2 r ⟨o + k.val, by omega⟩)

variable (x0 : Vec Ideal S256x1024 .f32) (x1 x2 x3 : Vec Ideal S1x1024 .f32) (x4 : Vec Ideal S1024x6784 .bf16)

theorem row_at (r : Fin 256) (k : Fin 1024) : k0_pay84 (F := Ideal) x0 x1 x2 x3 x4 (ix2 r k) =
    x0 (ix2 r k) * Ideal.rsqrt (Ideal.div (∑ a : Fin 1024, x0 (ix2 r a) * x0 (ix2 r a)) (Ideal.ofBits .f32 0x44800000#32) + Ideal.ofBits .f32 0x358637BD#32)
      * x1 (ix2 0 k) * (1 + x2 (ix2 0 k)) + x3 (ix2 0 k) := by
  unfold k0_pay84
  pointwise [k0_pay2]

theorem out5 (y : S1024x256.Idx) : out0_5 (F := Ideal) x0 x1 x2 x3 x4 y = rowG (k0_pay84 (F := Ideal) x0 x1 x2 x3 x4) y := by
  unfold out0_5 k0_pay85
  refine canon_of _ (rowG (k0_pay84 (F := Ideal) x0 x1 x2 x3 x4)) y (cover0_5 _ _ _ _ y) ?_
  refine ⟨rBlk _ 768 inb_S1024x256_S256x256_768_0 _ fun i r => row_of _ 768 i r (by omega) _ ?_, rBlk _ 512 inb_S1024x256_S256x256_512_0 _ fun i r => row_of _ 512 i r (by omega) _ ?_,
    rBlk _ 256 inb_S1024x256_S256x256_256_0 _ fun i r => row_of _ 256 i r (by omega) _ ?_, rBlk _ 0 inb_S1024x256_S256x256_0_0 _ fun i r => row_of _ 0 i r (by omega) _ ?_, trivial⟩
  · pointwise [k0_pay8]
  · show k0_pay7 (F := Ideal) k0_pay3 (extractStridedSlice S256x256 ![0, 512] (k0_pay84 (F := Ideal) x0 x1 x2 x3 x4) slices_S256x1024_o0_512_S256x256) (constant S256x256 .f32 0x00000000#32) (ix2 i r) = _
    pointwise [k0_pay7]
  · show k0_pay7 (F := Ideal) k0_pay3 (extractStridedSlice S256x256 ![0, 256] (k0_pay84 (F := Ideal) x0 x1 x2 x3 x4) slices_S256x1024_o0_256_S256x256) (constant S256x256 .f32 0x00000000#32) (ix2 i r) = _
    pointwise [k0_pay7]
  · show k0_pay7 (F := Ideal) k0_pay3 (extractStridedSlice S256x256 ![0, 0] (k0_pay84 (F := Ideal) x0 x1 x2 x3 x4) slices_S256x1024_o0_0_S256x256) (constant S256x256 .f32 0x00000000#32) (ix2 i r) = _
    pointwise [k0_pay7]

theorem out6 (y : S48x256x64.Idx) : out0_6 (F := Ideal) x0 x1 x2 x3 x4 y = headG (k0_pay84 (F := Ideal) x0 x1 x2 x3 x4) x4 y := by
  unfold out0_6 k0_pay90 k0_pay89 k0_pay88 k0_pay87 k0_pay86
  generalize k0_pay84 (F := Ideal) x0 x1 x2 x3 x4 = H
  generalize x4 = W
  refine canon_of _ (headG H W) y (cover0_6 _ _ _ _ _ _ _ _ _ _ _ _ _ _ _ _ _ _ _ _ _ _ _ _ _ _ _ _ _ _ _ _ _ _ _ _ _ _ _ _ _ _ _ _ _ _ _ _ y) ?_
  refine ⟨qBlk H W 47 inb_S48x256x64_S1x256x64_47_0_0 _ ?_, qBlk H W 46 inb_S48x256x64_S1x256x64_46_0_0 _ ?_, qBlk H W 45 inb_S48x256x64_S1x256x64_45_0_0 _ ?_, qBlk H W 44 inb_S48x256x64_S1x256x64_44_0_0 _ ?_,
    qBlk H W 43 inb_S48x256x64_S1x256x64_43_0_0 _ ?_, qBlk H W 42 inb_S48x256x64_S1x256x64_42_0_0 _ ?_, qBlk H W 41 inb_S48x256x64_S1x256x64_41_0_0 _ ?_, qBlk H W 40 inb_S48x256x64_S1x256x64_40_0_0 _ ?_,
    qBlk H W 39 inb_S48x256x64_S1x256x64_39_0_0 _ ?_, qBlk H W 38 inb_S48x256x64_S1x256x64_38_0_0 _ ?_, qBlk H W 37 inb_S48x256x64_S1x256x64_37_0_0 _ ?_, qBlk H W 36 inb_S48x256x64_S1x256x64_36_0_0 _ ?_,
    qBlk H W 35 inb_S48x256x64_S1x256x64_35_0_0 _ ?_, qBlk H W 34 inb_S48x256x64_S1x256x64_34_0_0 _ ?_, qBlk H W 33 inb_S48x256x64_S1x256x64_33_0_0 _ ?_, qBlk H W 32 inb_S48x256x64_S1x256x64_32_0_0 _ ?_,
    qBlk H W 31 inb_S48x256x64_S1x256x64_31_0_0 _ ?_, qBlk H W 30 inb_S48x256x64_S1x256x64_30_0_0 _ ?_, qBlk H W 29 inb_S48x256x64_S1x256x64_29_0_0 _ ?_, qBlk H W 28 inb_S48x256x64_S1x256x64_28_0_0 _ ?_,
    qBlk H W 27 inb_S48x256x64_S1x256x64_27_0_0 _ ?_, qBlk H W 26 inb_S48x256x64_S1x256x64_26_0_0 _ ?_, qBlk H W 25 inb_S48x256x64_S1x256x64_25_0_0 _ ?_, qBlk H W 24 inb_S48x256x64_S1x256x64_24_0_0 _ ?_,
    qBlk H W 23 inb_S48x256x64_S1x256x64_23_0_0 _ ?_, qBlk H W 22 inb_S48x256x64_S1x256x64_22_0_0 _ ?_, qBlk H W 21 inb_S48x256x64_S1x256x64_21_0_0 _ ?_, qBlk H W 20 inb_S48x256x64_S1x256x64_20_0_0 _ ?_,
    qBlk H W 19 inb_S48x256x64_S1x256x64_19_0_0 _ ?_, qBlk H W 18 inb_S48x256x64_S1x256x64_18_0_0 _ ?_, qBlk H W 17 inb_S48x256x64_S1x256x64_17_0_0 _ ?_, qBlk H W 16 inb_S48x256x64_S1x256x64_16_0_0 _ ?_,
    qBlk H W 15 inb_S48x256x64_S1x256x64_15_0_0 _ ?_, qBlk H W 14 inb_S48x256x64_S1x256x64_14_0_0 _ ?_, qBlk H W 13 inb_S48x256x64_S1x256x64_13_0_0 _ ?_, qBlk H W 12 inb_S48x256x64_S1x256x64_12_0_0 _ ?_,
    qBlk H W 11 inb_S48x256x64_S1x256x64_11_0_0 _ ?_, qBlk H W 10 inb_S48x256x64_S1x256x64_10_0_0 _ ?_, qBlk H W 9 inb_S48x256x64_S1x256x64_9_0_0 _ ?_, qBlk H W 8 inb_S48x256x64_S1x256x64_8_0_0 _ ?_,
    qBlk H W 7 inb_S48x256x64_S1x256x64_7_0_0 _ ?_, qBlk H W 6 inb_S48x256x64_S1x256x64_6_0_0 _ ?_, qBlk H W 5 inb_S48x256x64_S1x256x64_5_0_0 _ ?_, qBlk H W 4 inb_S48x256x64_S1x256x64_4_0_0 _ ?_,
    qBlk H W 3 inb_S48x256x64_S1x256x64_3_0_0 _ ?_, qBlk H W 2 inb_S48x256x64_S1x256x64_2_0_0 _ ?_, qBlk H W 1 inb_S48x256x64_S1x256x64_1_0_0 _ ?_, qBlk H W 0 inb_S48x256x64_S1x256x64_0_0_0 _ ?_, trivial⟩
  all_goals
    intro r d
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
    exact prod_of H W r _ _ (by first | rfl | (simp only []; omega))

theorem out7 (y : S256x1024.Idx) : out0_7 (F := Ideal) x0 x1 x2 x3 x4 y = colG 1024 3072 (k0_pay84 (F := Ideal) x0 x1 x2 x3 x4) x4 y := by
  unfold out0_7
  refine canon_of _ (colG 1024 3072 (k0_pay84 (F := Ideal) x0 x1 x2 x3 x4) x4) y (cover0_7 _ _ y) ?_
  refine ⟨cBlk _ _ 1024 512 3072 512 inb_S256x1024_S256x512_0_512 _ ?_, cBlk _ _ 1024 512 3072 0 inb_S256x1024_S256x512_0_0 _ ?_, trivial⟩
  all_goals intro r d
  · pointwise [k0_pay78]
    exact prod_of _ _ r _ _ (by first | rfl | (simp only []; omega))
  · pointwise [k0_pay77]
    exact prod_of _ _ r _ _ (by first | rfl | (simp only []; omega))

theorem out8 (y : S256x1024.Idx) : out0_8 (F := Ideal) x0 x1 x2 x3 x4 y = colG 1024 4096 (k0_pay84 (F := Ideal) x0 x1 x2 x3 x4) x4 y := by
  unfold out0_8
  refine canon_of _ (colG 1024 4096 (k0_pay84 (F := Ideal) x0 x1 x2 x3 x4) x4) y (cover0_8 _ _ y) ?_
  refine ⟨cBlk _ _ 1024 512 4096 512 inb_S256x1024_S256x512_0_512 _ ?_, cBlk _ _ 1024 512 4096 0 inb_S256x1024_S256x512_0_0 _ ?_, trivial⟩
  all_goals intro r d
  · pointwise [k0_pay80]
    exact prod_of _ _ r _ _ (by first | rfl | (simp only []; omega))
  · pointwise [k0_pay79]
    exact prod_of _ _ r _ _ (by first | rfl | (simp only []; omega))

theorem out9 (y : S256x1536.Idx) : out0_9 (F := Ideal) x0 x1 x2 x3 x4 y = colG 1536 5120 (k0_pay84 (F := Ideal) x0 x1 x2 x3 x4) x4 y := by
  unfold out0_9
  refine canon_of _ (colG 1536 5120 (k0_pay84 (F := Ideal) x0 x1 x2 x3 x4) x4) y (cover0_9 _ _ _ y) ?_
  refine ⟨cBlk _ _ 1536 512 5120 1024 inb_S256x1536_S256x512_0_1024 _ ?_, cBlk _ _ 1536 512 5120 512 inb_S256x1536_S256x512_0_512 _ ?_, cBlk _ _ 1536 512 5120 0 inb_S256x1536_S256x512_0_0 _ ?_, trivial⟩
  all_goals intro r d
  · pointwise [k0_pay83]
    exact prod_of _ _ r _ _ (by first | rfl | (simp only []; omega))
  · pointwise [k0_pay82]
    exact prod_of _ _ r _ _ (by first | rfl | (simp only []; omega))
  · pointwise [k0_pay81]
    exact prod_of _ _ r _ _ (by first | rfl | (simp only []; omega))

theorem out10 (y : S256x128.Idx) : out0_10 (F := Ideal) x0 x1 x2 x3 x4 y = colG 128 6656 (k0_pay84 (F := Ideal) x0 x1 x2 x3 x4) x4 y := by
  unfold out0_10
  refine canon_of _ (colG 128 6656 (k0_pay84 (F := Ideal) x0 x1 x2 x3 x4) x4) y (cover0_10 _ y) ?_
  refine ⟨cBlk _ _ 128 128 6656 0 inb_S256x128_S256x128_0_0 _ ?_, trivial⟩
  intro r d
  pointwise [k0_pay1]
  exact prod_of _ _ r _ _ (by first | rfl | (simp only []; omega))

end Cert.ProjIdeal.Value

end
-- ==== Proof.ProjFinal.lean ====
/- The projection's six results over the whole arrays: the normalised rows, transposed, and their products with the weight's columns. -/
module

public import proofs.«01_k».proof.Proof.InVal
public import proofs.«01_k».proof.Proof.ProjOut
public import Idealize.ShloMosaic.Lib.Pipeline.ValueKit

@[expose] public section

set_option maxRecDepth 16384

noncomputable section

namespace Cert.ProjIdeal.Value

open Cert.ProjIdeal Cert.ProjIdeal.Gen Cert.Reals Idealize.ShloMosaic Idealize.ShloMosaic.TcCoe Idealize.SL.Sem
open Cert.InBwdIdeal.Value (col wcol wcol_qkvz wcol_zs wcol_xbc wcol_pad wp_ladder ladder_col)

/-- An element of the normalised rows. -/
def hrow (X : FVec Ideal S4096x1024 .f32) (g sc sh : FVec Ideal S1x1024 .f32) (s : Fin 4096) (k : Fin 1024) : EReal :=
  X (ix2 s k) * Ideal.rsqrt (Ideal.div (∑ a : Fin 1024, X (ix2 s a) * X (ix2 s a)) (Ideal.ofBits .f32 0x44800000#32) + Ideal.ofBits .f32 0x358637BD#32)
    * g (ix2 0 k) * (1 + sc (ix2 0 k)) + sh (ix2 0 k)

/-- A row of the product, read at any column: 0 past the end. -/
def proj (X : FVec Ideal S4096x1024 .f32) (g sc sh : FVec Ideal S1x1024 .f32) (W : FVec Ideal S1024x6672 .f32) (s : Fin 4096) (e : ℕ) : EReal :=
  ∑ k : Fin 1024, hrow X g sc sh s k * col W k e

variable (m : (ℓ : Loc nD τ sig) → Buf (Elt Ideal) ℓ) (c : Dev nD)

/-- The arguments: the rows, the gain, the scale, the shift and the weight. -/
abbrev xA : FVec Ideal S4096x1024 .f32 := m ((c : Thread nD τ).loc main_arg0)
abbrev gA : FVec Ideal S1x1024 .f32 := m ((c : Thread nD τ).loc main_arg1)
abbrev scA : FVec Ideal S1x1024 .f32 := m ((c : Thread nD τ).loc main_arg2)
abbrev shA : FVec Ideal S1x1024 .f32 := m ((c : Thread nD τ).loc main_arg3)
abbrev wA : FVec Ideal S1024x6672 .f32 := m ((c : Thread nD τ).loc main_arg4)

theorem V_v6 : V m c main_v6 = concatenate S1024x6784 1
    [⟨S1024x4096, extractStridedSlice S1024x4096 ![0, 0] (truncf (F := Ideal) .bf16 (wA m c) bitsLt_bf16_f32) slices_S1024x6672_S1024x4096_0_0⟩,
      ⟨S1024x1024, extractStridedSlice S1024x1024 ![0, 5648] (truncf (F := Ideal) .bf16 (wA m c) bitsLt_bf16_f32) slices_S1024x6672_S1024x1024_0_5648⟩,
      ⟨S1024x1536, extractStridedSlice S1024x1536 ![0, 4096] (truncf (F := Ideal) .bf16 (wA m c) bitsLt_bf16_f32) slices_S1024x6672_S1024x1536_0_4096⟩,
      ⟨S1024x128, pad S1024x128 ![0, 0] ![0, 112] ![0, 0] (extractStridedSlice S1024x16 ![0, 5632] (truncf (F := Ideal) .bf16 (wA m c) bitsLt_bf16_f32) slices_S1024x6672_S1024x16_0_5632)
        (sitofp (F := Ideal) .bf16 (constantI S_ 32 0#32)) pads_S1024x16_S1024x128_000_01120 h_S_⟩]
    concatenates_S1024x4096_S1024x1024_S1024x1536_S1024x128_S1024x6784_d1 := by
  unfold V
  simp only [List.flatten_cons, List.flatten_nil, List.append_nil, List.cons_append, List.nil_append]
  after_results_simp
  refine cat4_congr _ ?_ ?_ ?_ ?_
  all_goals (dsimp only [Matrix.cons_val]; after_results_simp <;> rfl)

/-- The windows' block indices: a point takes 256 rows. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, t.val] ∧ win0_6.index t = ![0, t.val, 0] ∧ win0_7.index t = ![t.val, 0] ∧ win0_8.index t = ![t.val, 0] ∧ win0_9.index t = ![t.val, 0] ∧ win0_10.index t = ![t.val, 0] :=
  (by decide +kernel : ∀ t : Fin grid0.N, _)

theorem rd0 (t : Fin cfg0.N) (r : Fin 256) (k : Fin 1024) (s : Fin 4096) (hs : s.val = t.val * 256 + r.val) : iblk m c 0 t (ix2 r k) = xA m c (ix2 s k) := by
  blk_simp [iblk, idx t]
  blk_ext [idx t]

theorem rd1 (t : Fin cfg0.N) (k : Fin 1024) : iblk m c 1 t (ix2 0 k) = gA m c (ix2 0 k) := by
  blk_simp [iblk, idx t]
  blk_ext [idx t]

theorem rd2 (t : Fin cfg0.N) (k : Fin 1024) : iblk m c 2 t (ix2 0 k) = scA m c (ix2 0 k) := by
  blk_simp [iblk, idx t]
  blk_ext [idx t]

theorem rd3 (t : Fin cfg0.N) (k : Fin 1024) : iblk m c 3 t (ix2 0 k) = shA m c (ix2 0 k) := by
  blk_simp [iblk, idx t]
  blk_ext [idx t]

theorem rd4 (t : Fin cfg0.N) (b : Fin 1024) (k : Fin 6784) : iblk m c 4 t (ix2 b k) = col (wA m c) b (wcol k) := by
  refine Eq.trans (b := V m c main_v6 (ix2 b k)) ?_ ?_
  · blk_simp [iblk, idx t]
    blk_ext [idx t]
  · rw [V_v6]
    exact (wp_ladder _ _ _).trans (ladder_col _ _ _)

/-- A point's normalised rows. -/
abbrev hT (t : Fin cfg0.N) : FVec Ideal S256x1024 .bf16 := k0_pay84 (F := Ideal) (iblk m c 0 t) (iblk m c 1 t) (iblk m c 2 t) (iblk m c 3 t) (iblk m c 4 t)

theorem hT_at (t : Fin cfg0.N) (r : Fin 256) (k : Fin 1024) (s : Fin 4096) (hs : s.val = t.val * 256 + r.val) :
    hT m c t (ix2 r k) = hrow (xA m c) (gA m c) (scA m c) (shA m c) s k := by
  refine (row_at _ _ _ _ _ r k).trans ?_
  simp only [rd0 m c t r _ s hs, rd1, rd2, rd3]
  rfl

theorem prod_at (t : Fin cfg0.N) (r : Fin 256) (e : ℕ) (he : e < 6784) (s : Fin 4096) (hs : s.val = t.val * 256 + r.val) :
    prodAt (hT m c t) (iblk m c 4 t) r e = proj (xA m c) (gA m c) (scA m c) (shA m c) (wA m c) s (wcol e) := by
  rw [prodAt, dif_pos he]
  exact Finset.sum_congr rfl fun k _ => congrArg₂ (· * ·) (hT_at m c t r k s hs) (rd4 m c t k ⟨e, he⟩)

/-- Columns from `o` on are the weight's columns `q`. -/
theorem col_of (N o : ℕ) (q : ℕ → ℕ) (hq : ∀ d, d < N → o + d < 6784 ∧ wcol (o + d) = q d) (t : Fin cfg0.N) (y : (⟨2, ![256, N]⟩ : Shape).Idx) (s : Fin 4096) (e : ℕ)
    (hs : s.val = t.val * 256 + (y 0).val) (he : e = (y 1).val) :
    colG N o (hT m c t) (iblk m c 4 t) y = proj (xA m c) (gA m c) (scA m c) (shA m c) (wA m c) s (q e) := by
  subst he
  obtain ⟨h1, h2⟩ := hq _ (y 1).isLt
  refine (prod_at m c t ⟨(y 0).val, (y 0).isLt⟩ _ h1 s hs).trans ?_
  exact congrArg _ h2

theorem final5 : (dats m 0 c).arrAt 5 cfg0.N = fun j : S1024x4096.Idx => hrow (xA m c) (gA m c) (scA m c) (shA m c) (j 1) (j 0) := by
  refine (dats m 0 c).arrAt_eq_of_covers 5 _ (by decide +kernel) fun t hf y => ?_
  blk_simp
  rw [after0_5]
  have h0 : ((win0_5.blk t).view.emb y 0 : ℕ) = (y 0 : ℕ) := by blk_simp [idx t]
  have h1 : ((win0_5.blk t).view.emb y 1 : ℕ) = t.val * 256 + (y 1 : ℕ) := by blk_simp [idx t]
  refine (out5 _ _ _ _ _ y).trans ((hT_at m c t _ _ _ h1).trans ?_)
  exact congrArg _ (Fin.ext h0.symm)

theorem final6 : (dats m 0 c).arrAt 6 cfg0.N = fun j : S48x4096x64.Idx => proj (xA m c) (gA m c) (scA m c) (shA m c) (wA m c) (j 1) (64 * (j 0).val + (j 2).val) := by
  refine (dats m 0 c).arrAt_eq_of_covers 6 _ (by decide +kernel) fun t hf y => ?_
  blk_simp
  rw [after0_6]
  have h1 : ((win0_6.blk t).view.emb y 1 : ℕ) = t.val * 256 + (y 1 : ℕ) := by blk_simp [idx t]
  have hy0 : (y 0 : ℕ) < 48 := (y 0).isLt
  have hy2 : (y 2 : ℕ) < 64 := (y 2).isLt
  refine (out6 _ _ _ _ _ y).trans ((prod_at m c t _ _ (by omega) _ h1).trans (congrArg _ ?_))
  rw [wcol_qkvz (by omega)]
  simp [idx t]

theorem final7 : (dats m 0 c).arrAt 7 cfg0.N = fun j : S4096x1024.Idx => proj (xA m c) (gA m c) (scA m c) (shA m c) (wA m c) (j 0) (3072 + (j 1).val) := by
  refine (dats m 0 c).arrAt_eq_of_covers 7 _ (by decide +kernel) fun t hf y => ?_
  blk_simp
  rw [after0_7]
  have h0 : ((win0_7.blk t).view.emb y 0 : ℕ) = t.val * 256 + (y 0 : ℕ) := by blk_simp [idx t]
  exact (out7 _ _ _ _ _ y).trans (col_of m c 1024 3072 (3072 + ·) (fun d hd => ⟨by omega, wcol_qkvz (by omega)⟩) t y _ _ h0 (by simp [idx t]))

theorem final8 : (dats m 0 c).arrAt 8 cfg0.N = fun j : S4096x1024.Idx => proj (xA m c) (gA m c) (scA m c) (shA m c) (wA m c) (j 0) (5648 + (j 1).val) := by
  refine (dats m 0 c).arrAt_eq_of_covers 8 _ (by decide +kernel) fun t hf y => ?_
  blk_simp
  rw [after0_8]
  have h0 : ((win0_8.blk t).view.emb y 0 : ℕ) = t.val * 256 + (y 0 : ℕ) := by blk_simp [idx t]
  refine (out8 _ _ _ _ _ y).trans (col_of m c 1024 4096 (5648 + ·) (fun d hd => ⟨by omega, ?_⟩) t y _ _ h0 (by simp [idx t]))
  rw [wcol_zs (by omega) (by omega)]
  omega

theorem final9 : (dats m 0 c).arrAt 9 cfg0.N = fun j : S4096x1536.Idx => proj (xA m c) (gA m c) (scA m c) (shA m c) (wA m c) (j 0) (4096 + (j 1).val) := by
  refine (dats m 0 c).arrAt_eq_of_covers 9 _ (by decide +kernel) fun t hf y => ?_
  blk_simp
  rw [after0_9]
  have h0 : ((win0_9.blk t).view.emb y 0 : ℕ) = t.val * 256 + (y 0 : ℕ) := by blk_simp [idx t]
  refine (out9 _ _ _ _ _ y).trans (col_of m c 1536 5120 (4096 + ·) (fun d hd => ⟨by omega, ?_⟩) t y _ _ h0 (by simp [idx t]))
  rw [wcol_xbc (by omega) (by omega)]
  omega

/-- The 16 steps' column, or none. -/
def dtCol (d : ℕ) : ℕ := if d < 16 then 5632 + d else 6672

theorem final10 : (dats m 0 c).arrAt 10 cfg0.N = fun j : S4096x128.Idx => proj (xA m c) (gA m c) (scA m c) (shA m c) (wA m c) (j 0) (dtCol (j 1).val) := by
  refine (dats m 0 c).arrAt_eq_of_covers 10 _ (by decide +kernel) fun t hf y => ?_
  blk_simp
  rw [after0_10]
  have h0 : ((win0_10.blk t).view.emb y 0 : ℕ) = t.val * 256 + (y 0 : ℕ) := by blk_simp [idx t]
  refine (out10 _ _ _ _ _ y).trans (col_of m c 128 6656 dtCol (fun d hd => ⟨by omega, ?_⟩) t y _ _ h0 (by simp [idx t]))
  unfold dtCol
  split_ifs with h
  · rw [wcol_xbc (by omega) (by omega)]
    omega
  · exact wcol_pad (by omega)

end Cert.ProjIdeal.Value

end
-- ==== Proof.ProjAlg.lean ====
/- The projection of the normalised rows against its forward lines: the claims about the pair. No element need be real. -/
module

public import proofs.«01_k».proof.Defs
public import proofs.«01_k».proof.Proof.Gen.Proj.Frame
public import proofs.«01_k».proof.Proof.Gen.ProjRefIdeal.Run
public import proofs.«01_k».proof.Proof.ProjFinal

@[expose] public section

set_option maxRecDepth 16384

noncomputable section

namespace Cert.ProjPair

open Cert.ProjRefIdeal Cert.ProjRefIdeal.Gen Cert.ProjRefIdeal.Value Idealize.ShloMosaic Idealize.ShloMosaic.TcCoe Idealize.SL.Sem
open Cert.InBwdIdeal.Value (col)
open Cert.ProjIdeal.Value (hrow proj dtCol final5 final6 final7 final8 final9 final10)

section

variable (x : FVec Ideal S4096x1024 .f32) (g sc sh : FVec Ideal S1x1024 .f32) (w : FVec Ideal S1024x6672 .f32)

/-- The normalised rows, scaled and shifted. -/
abbrev hR : FVec Ideal S4096x1024 .f32 :=
  addf (mulf (mulf (mulf x (broadcastInDim S4096x1024 ![0, 1] bcast_S4096x1_S4096x1024_0_1 (Host.rsqrt (addf (Host.divf (broadcastInDim S4096x1 ![0] bcast_S4096_S4096x1_0
    (Host.reduceAdd (mulf x x) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g))
    (broadcastInDim S4096x1024 ![0, 1] bcast_S1x1024_S4096x1024_0_1 (addf (broadcastInDim S1x1024 ![] bcast_S_S1x1024 (constant S_ .f32 0x3F800000#32)) sc)))
    (broadcastInDim S4096x1024 ![0, 1] bcast_S1x1024_S4096x1024_0_1 sh)

/-- Their product with the weight. -/
abbrev dR (h : FVec Ideal S4096x1024 .f32) : FVec Ideal S4096x6672 .f32 := Host.dotGeneral dot_S4096x1024_S1024x6672_S4096x6672_1_0_0_1_n_n none h w

theorem hR_at (s : Fin 4096) (k : Fin 1024) : hR x g sc sh (ix2 s k) = hrow x g sc sh s k := by
  unfold hrow
  pointwise

theorem dot_at (h : FVec Ideal S4096x1024 .f32) (s : Fin 4096) (e : Fin 6672) : dR w h (ix2 s e) = ∑ k : Fin 1024, h (ix2 s k) * w (ix2 k e) := by
  pointwise

theorem dR_at (s : Fin 4096) (l : Fin 6672) (e : ℕ) (hl : l.val = e) : dR w (hR x g sc sh) (ix2 s l) = proj x g sc sh w s e := by
  subst hl
  refine (dot_at w _ s l).trans (Finset.sum_congr rfl fun k _ => congrArg₂ (· * ·) (hR_at x g sc sh s k) ?_)
  rw [col, dif_pos l.isLt]

theorem proj_end (s : Fin 4096) : proj x g sc sh w s 6672 = 0 :=
  Finset.sum_eq_zero fun k _ => by rw [col, dif_neg (lt_irrefl _), mul_zero]

section

variable (h : FVec Ideal S4096x1024 .f32) (p : FVec Ideal S4096x6672 .f32)

theorem t_at (k : Fin 1024) (s : Fin 4096) : truncf .bf16 (transpose S1024x4096 [1, 0] h transposes_S4096x1024_S1024x4096_1_0) bitsLt_bf16_f32 (ix2 k s) = h (ix2 s k) := by
  pointwise

theorem heads_at (n : Fin 48) (s : Fin 4096) (d : Fin 64) :
    truncf .bf16 (transpose S48x4096x64 [1, 0, 2] (shapeCast S4096x48x64 (extractStridedSlice S4096x3072 ![0, 0] p slices_S4096x6672_S4096x3072_0_0) shapeCasts_S4096x3072_S4096x48x64)
      transposes_S4096x48x64_S48x4096x64_1_0_2) bitsLt_bf16_f32 (ix3 n s d) = p (ix2 s ⟨n.val * 64 + d.val, by omega⟩) := by
  pointwise

theorem za_at (s : Fin 4096) (d : Fin 1024) : extractStridedSlice S4096x1024 ![0, 3072] p slices_S4096x6672_S4096x1024_0_3072 (ix2 s d) = p (ix2 s ⟨3072 + d.val, by omega⟩) := by
  pointwise

theorem zs_at (s : Fin 4096) (d : Fin 1024) : extractStridedSlice S4096x1024 ![0, 5648] p slices_S4096x6672_S4096x1024_0_5648 (ix2 s d) = p (ix2 s ⟨5648 + d.val, by omega⟩) := by
  pointwise

theorem xbc_at (s : Fin 4096) (d : Fin 1536) : extractStridedSlice S4096x1536 ![0, 4096] p slices_S4096x6672_S4096x1536_0_4096 (ix2 s d) = p (ix2 s ⟨4096 + d.val, by omega⟩) := by
  pointwise

theorem dt_at (s : Fin 4096) (d : Fin 128) :
    pad S4096x128 ![0, 0] ![0, 112] ![0, 0] (extractStridedSlice S4096x16 ![0, 5632] p slices_S4096x6672_S4096x16_0_5632) (sitofp (F := Ideal) .f32 (constantI S_ 32 0#32))
      pads_S4096x16_S4096x128_000_01120 h_S_ (ix2 s d) = if q : d.val < 16 then p (ix2 s ⟨5632 + d.val, by omega⟩) else FloatOps.sitofp (F := Ideal) FTy.f32 0#32 := by
  pointwise

end

/-! The reference's results are the kernel's. -/

theorem t_eq : truncf .bf16 (transpose S1024x4096 [1, 0] (hR x g sc sh) transposes_S4096x1024_S1024x4096_1_0) bitsLt_bf16_f32 = fun j : S1024x4096.Idx => hrow x g sc sh (j 1) (j 0) := by
  funext j
  obtain ⟨k, s, rfl⟩ : ∃ (k : Fin 1024) (s : Fin 4096), j = ix2 k s := ⟨_, _, eq_ix2 j⟩
  exact (t_at _ k s).trans (hR_at x g sc sh s k)

theorem heads_eq : truncf .bf16 (transpose S48x4096x64 [1, 0, 2] (shapeCast S4096x48x64 (extractStridedSlice S4096x3072 ![0, 0] (dR w (hR x g sc sh)) slices_S4096x6672_S4096x3072_0_0)
    shapeCasts_S4096x3072_S4096x48x64) transposes_S4096x48x64_S48x4096x64_1_0_2) bitsLt_bf16_f32 = fun j : S48x4096x64.Idx => proj x g sc sh w (j 1) (64 * (j 0).val + (j 2).val) := by
  funext j
  obtain ⟨n, s, d, rfl⟩ : ∃ (n : Fin 48) (s : Fin 4096) (d : Fin 64), j = ix3 n s d := ⟨_, _, _, eq_ix3 j⟩
  exact (heads_at _ n s d).trans (dR_at x g sc sh w s _ _ (congrArg (· + d.val) (Nat.mul_comm _ _)))

theorem za_eq : extractStridedSlice S4096x1024 ![0, 3072] (dR w (hR x g sc sh)) slices_S4096x6672_S4096x1024_0_3072 = fun j : S4096x1024.Idx => proj x g sc sh w (j 0) (3072 + (j 1).val) := by
  funext j
  obtain ⟨s, d, rfl⟩ : ∃ (s : Fin 4096) (d : Fin 1024), j = ix2 s d := ⟨_, _, eq_ix2 j⟩
  exact (za_at _ s d).trans (dR_at x g sc sh w s _ _ rfl)

theorem zs_eq : extractStridedSlice S4096x1024 ![0, 5648] (dR w (hR x g sc sh)) slices_S4096x6672_S4096x1024_0_5648 = fun j : S4096x1024.Idx => proj x g sc sh w (j 0) (5648 + (j 1).val) := by
  funext j
  obtain ⟨s, d, rfl⟩ : ∃ (s : Fin 4096) (d : Fin 1024), j = ix2 s d := ⟨_, _, eq_ix2 j⟩
  exact (zs_at _ s d).trans (dR_at x g sc sh w s _ _ rfl)

theorem xbc_eq : extractStridedSlice S4096x1536 ![0, 4096] (dR w (hR x g sc sh)) slices_S4096x6672_S4096x1536_0_4096 = fun j : S4096x1536.Idx => proj x g sc sh w (j 0) (4096 + (j 1).val) := by
  funext j
  obtain ⟨s, d, rfl⟩ : ∃ (s : Fin 4096) (d : Fin 1536), j = ix2 s d := ⟨_, _, eq_ix2 j⟩
  exact (xbc_at _ s d).trans (dR_at x g sc sh w s _ _ rfl)

theorem dt_eq : pad S4096x128 ![0, 0] ![0, 112] ![0, 0] (extractStridedSlice S4096x16 ![0, 5632] (dR w (hR x g sc sh)) slices_S4096x6672_S4096x16_0_5632)
    (sitofp (F := Ideal) .f32 (constantI S_ 32 0#32)) pads_S4096x16_S4096x128_000_01120 h_S_ = fun j : S4096x128.Idx => proj x g sc sh w (j 0) (dtCol (j 1).val) := by
  funext j
  obtain ⟨s, d, rfl⟩ : ∃ (s : Fin 4096) (d : Fin 128), j = ix2 s d := ⟨_, _, eq_ix2 j⟩
  refine (dt_at _ s d).trans ?_
  show _ = proj x g sc sh w s (dtCol d.val)
  unfold dtCol
  split_ifs with q
  · exact dR_at x g sc sh w s _ _ rfl
  · rw [proj_end]
    simp [FloatOps.sitofp]

end

/-- The reference's frame. -/
theorem frame_ref : Cert.quiescent_ProjRefIdeal := fun m ρ _ =>
  (θ_run Cert.ProjRefIdeal.defs _ _).mono (fun r h => ⟨fun c => (h c).2.2.2.2.2.2, Idealize.ShloMosaic.sem_eq_zero_of_no_sems (by decide) r.2⟩) (Cert.ProjRefIdeal.Value.run (F := Ideal) m ρ)

/-- Kernel and reference return the same six arrays. -/
theorem algebraic : Cert.algebraic_ProjIdeal_ProjRefIdeal := by
  intro m ρ m' ρ' _ ha
  refine ⟨_, _, _, _, _, _, Cert.ProjIdeal.Value.run_blocks m ρ, ?_⟩
  refine (θ_run Cert.ProjRefIdeal.defs _ _).mono (fun r h c => ?_) (Cert.ProjRefIdeal.Value.run (F := Ideal) m' ρ')
  obtain ⟨r0, r1, r2, r3, r4, r5, keep⟩ := h c
  obtain ⟨h0, h1, h2, h3, h4⟩ := ha c
  rw [h0, h1, h2, h3] at r0
  rw [h0, h1, h2, h3, h4] at r1 r2 r3 r4 r5
  exact ⟨r0.trans ((t_eq _ _ _ _).trans (final5 m c).symm), r1.trans ((heads_eq _ _ _ _ _).trans (final6 m c).symm), r2.trans ((za_eq _ _ _ _ _).trans (final7 m c).symm),
    r3.trans ((zs_eq _ _ _ _ _).trans (final8 m c).symm), r4.trans ((xbc_eq _ _ _ _ _).trans (final9 m c).symm), r5.trans ((dt_eq _ _ _ _ _).trans (final10 m c).symm), keep⟩

/-- All claims about the pair. -/
theorem claims : (Cert.quiescent_Proj ∧ Cert.quiescent_ProjIdeal ∧ Cert.quiescent_ProjRefIdeal) ∧ Cert.preserves_Proj_ProjIdeal ∧ Cert.algebraic_ProjIdeal_ProjRefIdeal :=
  ⟨⟨fun m ρ _ => Cert.Proj.Gen.frame m ρ, fun m ρ _ => Cert.ProjIdeal.Gen.frame m ρ, frame_ref⟩, trivial, algebraic⟩

end Cert.ProjPair

end
-- ==== Proof.GradAlg.lean ====
/- A weight's gradient, one product summed over four blocks of rows: the claims about the pair. No element need be real. -/
module

public import proofs.«01_k».proof.Defs
public import proofs.«01_k».proof.Proof.Gen.GradW.Frame
public import proofs.«01_k».proof.Proof.Gen.GradWIdeal.Value
public import proofs.«01_k».proof.Proof.Gen.GradWRefIdeal.Run
public import Idealize.ShloMosaic.Lib.Pointwise
public import Idealize.ShloMosaic.Lib.Pipeline.ValueKit

@[expose] public section

set_option maxRecDepth 16384

noncomputable section

namespace Cert.GradWIdeal.Value

open Cert.GradWIdeal Cert.GradWIdeal.Gen Idealize.ShloMosaic Idealize.ShloMosaic.TcCoe Idealize.SL.Sem

/-- An element of the gradient. -/
def gradE (h : FVec Ideal S1024x4096 .bf16) (d : FVec Ideal S4096x3072 .bf16) (a : Fin 1024) (e : Fin 3072) : EReal :=
  ∑ s : Fin 4096, h (ix2 a s) * d (ix2 s e)

theorem zero_at (j : S1024x1536.Idx) : k0_pay1 (F := Ideal) j = 0 := by
  pointwise [k0_pay1]

theorem step_at (acc : Vec Ideal S1024x1536 .f32) (x0 : Vec Ideal S1024x1024 .bf16) (x1 : Vec Ideal S1024x1536 .bf16) (j : S1024x1536.Idx) :
    k0_pay2 (F := Ideal) acc x0 x1 j = acc j + ∑ k : Fin 1024, x0 (ix2 (j 0) k) * x1 (ix2 k (j 1)) := by
  pointwise [k0_pay2]

variable (m : (ℓ : Loc nD τ sig) → Buf (Elt Ideal) ℓ) (c : Dev nD)

/-- The windows' block indices: four points take one block of columns. -/
theorem idx : ∀ t : Fin cfg0.N, win0_0.index t = ![0, t.val % 4] ∧ win0_1.index t = ![t.val % 4, t.val / 4] ∧ win0_2.index t = ![0, t.val / 4] :=
  (by decide +kernel : ∀ t : Fin grid0.N, _)

theorem rd0 (t : Fin cfg0.N) (a k : Fin 1024) (s : Fin 4096) (hs : s.val = t.val % 4 * 1024 + k.val) :
    iblk m c 0 t (ix2 a k) = m ((c : Thread nD τ).loc main_arg0) (ix2 a s) := by
  blk_simp [iblk, idx t]
  blk_ext [idx t]

theorem rd1 (t : Fin cfg0.N) (k : Fin 1024) (b : Fin 1536) (s : Fin 4096) (e : Fin 3072) (hs : s.val = t.val % 4 * 1024 + k.val) (he : e.val = t.val / 4 * 1536 + b.val) :
    iblk m c 1 t (ix2 k b) = m ((c : Thread nD τ).loc main_arg1) (ix2 s e) := by
  blk_simp [iblk, idx t]
  blk_ext [idx t]

/-- The array at the end. -/
theorem final : (dats m 0 c).arrAt 2 cfg0.N = fun j : S1024x3072.Idx =>
    gradE (m ((c : Thread nD τ).loc main_arg0)) (m ((c : Thread nD τ).loc main_arg1)) (j 0) (j 1) := by
  refine (dats m 0 c).arrAt_eq_of_covers 2 _ (by decide +kernel) fun t hf y => ?_
  have hm : t.val % 4 = 3 := (flush0_2 t).mp hf
  have h0 : ((win0_2.blk t).view.emb y 0 : ℕ) = (y 0 : ℕ) := by blk_simp [idx t]
  have h1 : ((win0_2.blk t).view.emb y 1 : ℕ) = t.val / 4 * 1536 + (y 1 : ℕ) := by blk_simp [idx t]
  have hacc : (outsAt0 m c t.val t.isLt).1 = k0_pay3 (F := Ideal) (outsAt0 m c t.val t.isLt).2 := by
    rw [outsAt0_C m c t (by omega) hm]; frame_out
  blk_simp
  rw [after0_2, hacc]
  refine Eq.trans (b := (outsAt0 m c t.val t.isLt).2 y) (by pointwise [k0_pay3]) ?_
  rw [Pipeline.eq_sum_fin_of_reset_step_apply_of_flush (fun n h => (outsAt0 m c n h).2) 4 (fun _ => 0)
    (fun t j => ∑ k : Fin 1024, (show FVec Ideal S1024x1024 .bf16 from iblk m c 0 t) (ix2 (j 0) k) * (show FVec Ideal S1024x1536 .bf16 from iblk m c 1 t) (ix2 k (j 1)))
    (fun t h j => by rw [outsAt0_A m c t h (by omega)]; frame_out; rw [step_at, zero_at])
    (fun t h j => by
      by_cases h3 : t.val % 4 = 3
      · rw [outsAt0_C m c t h h3]; frame_out; rw [step_at]; exact congrArg (· + _) (congrFun (Memref.IsWhole.read_unread _ _) j)
      · rw [outsAt0_B m c t h h3]; frame_out; rw [step_at]; exact congrArg (· + _) (congrFun (Memref.IsWhole.read_unread _ _) j))
    t hm y, zero_add]
  refine Fin.sum_mul_add_congr fun p k hl => ?_
  have hp : (4 * (t.val / 4) + p.val) % 4 = p.val := by have := p.isLt; omega
  refine congrArg₂ (· * ·) ?_ ?_
  · refine (rd0 m c _ _ _ ⟨_, hl⟩ ?_).trans ?_
    · show p.val * 1024 + k.val = (4 * (t.val / 4) + p.val) % 4 * 1024 + k.val
      rw [hp]
    · exact congrArg (fun z => m ((c : Thread nD τ).loc main_arg0) (ix2 z ⟨_, hl⟩)) (Fin.ext h0.symm)
  · refine rd1 m c _ _ _ ⟨_, hl⟩ _ ?_ ?_
    · show p.val * 1024 + k.val = (4 * (t.val / 4) + p.val) % 4 * 1024 + k.val
      rw [hp]
    · show _ = (4 * (t.val / 4) + p.val) / 4 * 1536 + _
      have := p.isLt
      have h2 : (4 * (t.val / 4) + p.val) / 4 = t.val / 4 := by omega
      rw [h2]
      exact h1

end Cert.GradWIdeal.Value

namespace Cert.GradPair

open Cert.GradWRefIdeal Cert.GradWRefIdeal.Gen Cert.GradWRefIdeal.Value Idealize.ShloMosaic Idealize.ShloMosaic.TcCoe Idealize.SL.Sem
open Cert.GradWIdeal.Value (gradE)

section

variable (h : FVec Ideal S1024x4096 .bf16) (d : FVec Ideal S4096x3072 .bf16)

/-- The reference's gradient. -/
abbrev gradR : FVec Ideal S1024x3072 .bf16 :=
  truncf .bf16 (transpose S1024x3072 [1, 0] (Host.dotGeneral dot_S4096x3072_S4096x1024_S3072x1024_0_0_1_1_n_n none (extf .f32 d bitsLt_bf16_f32)
    (transpose S4096x1024 [1, 0] (extf .f32 h bitsLt_bf16_f32) transposes_S1024x4096_S4096x1024_1_0)) transposes_S3072x1024_S1024x3072_1_0) bitsLt_bf16_f32

theorem grad_at (a : Fin 1024) (e : Fin 3072) : gradR h d (ix2 a e) = ∑ s : Fin 4096, d (ix2 s e) * h (ix2 a s) := by
  pointwise

theorem grad_eq : gradR h d = fun j : S1024x3072.Idx => gradE h d (j 0) (j 1) := by
  funext j
  obtain ⟨a, e, rfl⟩ : ∃ (a : Fin 1024) (e : Fin 3072), j = ix2 a e := ⟨_, _, eq_ix2 j⟩
  exact (grad_at h d a e).trans (Finset.sum_congr rfl fun s _ => mul_comm _ _)

end

/-- The reference's frame. -/
theorem frame_ref : Cert.quiescent_GradWRefIdeal := fun m ρ _ =>
  (θ_run Cert.GradWRefIdeal.defs _ _).mono (fun r h => ⟨fun c => (h c).2, Idealize.ShloMosaic.sem_eq_zero_of_no_sems (by decide) r.2⟩) (Cert.GradWRefIdeal.Value.run (F := Ideal) m ρ)

/-- Kernel and reference return the same array. -/
theorem algebraic : Cert.algebraic_GradWIdeal_GradWRefIdeal := by
  intro m ρ m' ρ' _ ha
  refine ⟨_, Cert.GradWIdeal.Value.run_blocks m ρ, ?_⟩
  refine (θ_run Cert.GradWRefIdeal.defs _ _).mono (fun r h c => ?_) (Cert.GradWRefIdeal.Value.run (F := Ideal) m' ρ')
  obtain ⟨r0, keep⟩ := h c
  obtain ⟨h0, h1⟩ := ha c
  refine ⟨r0.trans ?_, keep⟩
  rw [h0, h1, Cert.GradWIdeal.Value.final]
  exact grad_eq _ _

/-- All claims about the pair. -/
theorem claims : (Cert.quiescent_GradW ∧ Cert.quiescent_GradWIdeal ∧ Cert.quiescent_GradWRefIdeal) ∧ Cert.preserves_GradW_GradWIdeal ∧ Cert.algebraic_GradWIdeal_GradWRefIdeal :=
  ⟨⟨fun m ρ _ => Cert.GradW.Gen.frame m ρ, fun m ρ _ => Cert.GradWIdeal.Gen.frame m ρ, frame_ref⟩, trivial, algebraic⟩

end Cert.GradPair

end
-- ==== Proof.AdamAlg.lean ====
/- The optimiser's step on the small weights, side by side in one row: the claims about the pair. No element need be real. -/
module

public import proofs.«01_k».proof.Defs
public import proofs.«01_k».proof.Proof.Gen.Adam.Frame
public import proofs.«01_k».proof.Proof.Gen.AdamIdeal.Value
public import proofs.«01_k».proof.Proof.Gen.AdamRefIdeal.Run
public import Idealize.ShloMosaic.Lib.Pointwise
public import Idealize.ShloMosaic.Lib.Pipeline.ValueKit

@[expose] public section

set_option maxRecDepth 16384

noncomputable section

namespace Cert.AdamIdeal.Value

open Cert.AdamIdeal Cert.AdamIdeal.Gen Idealize.ShloMosaic Idealize.ShloMosaic.TcCoe Idealize.SL.Sem

/-- The small weights' part of the summed gradients. -/
def gE (T : FVec Ideal S1x15360 .f32) (e : Fin 9088) : EReal := T (ix2 0 ⟨128 + e.val, by omega⟩)

/-- The running mean of the gradient, the one of its square, and the weight's change, of one element each. -/
def meanE (g m : EReal) : EReal := Ideal.ofBits .f32 0x3F666666#32 * m + Ideal.ofBits .f32 0x3DCCCCCD#32 * g
def squareE (g v : EReal) : EReal := Ideal.ofBits .f32 0x3F7FBE77#32 * v + Ideal.ofBits .f32 0x3A83126F#32 * (g * g)
def deltaE (g w m v : EReal) : EReal :=
  Ideal.ofBits .f32 0xBA83126F#32 * (Ideal.div (Ideal.div (meanE g m) (Ideal.ofBits .f32 0x3F26BD02#32))
    (Ideal.sqrt (Ideal.div (squareE g v) (Ideal.ofBits .f32 0x3C231ACC#32)) + Ideal.ofBits .f32 0x322BCC77#32) + Ideal.ofBits .f32 0x3C23D70A#32 * w)

theorem pay1_at (g : Vec Ideal S1x1x9088 .f32) (e : Fin 9088) : k0_pay1 (F := Ideal) g (ix2 0 e) = g (ix3 0 0 e) := by
  pointwise [k0_pay1]

theorem pay2_at (g : Vec Ideal S1x1x9088 .f32) (m : Vec Ideal S1x9088 .f32) (e : Fin 9088) : k0_pay2 (F := Ideal) g m (ix2 0 e) = meanE (g (ix3 0 0 e)) (m (ix2 0 e)) := by
  unfold meanE
  pointwise [k0_pay2, k0_pay1]

theorem pay3_at (g : Vec Ideal S1x1x9088 .f32) (v : Vec Ideal S1x9088 .f32) (e : Fin 9088) : k0_pay3 (F := Ideal) g v (ix2 0 e) = squareE (g (ix3 0 0 e)) (v (ix2 0 e)) := by
  unfold squareE
  pointwise [k0_pay3, k0_pay1]

theorem pay4_at (g : Vec Ideal S1x1x9088 .f32) (m v w : Vec Ideal S1x9088 .f32) (e : Fin 9088) :
    k0_pay4 (F := Ideal) g m v w (ix2 0 e) = deltaE (g (ix3 0 0 e)) (w (ix2 0 e)) (m (ix2 0 e)) (v (ix2 0 e)) := by
  unfold deltaE
  rw [← pay2_at, ← pay3_at]
  pointwise [k0_pay4]

variable (m : (ℓ : Loc nD τ sig) → Buf (Elt Ideal) ℓ) (c : Dev nD)

/-- The arguments: the weights, the summed gradients, the two running means. -/
abbrev wA : FVec Ideal S1x9088 .f32 := m ((c : Thread nD τ).loc main_arg0)
abbrev tA : FVec Ideal S1x15360 .f32 := m ((c : Thread nD τ).loc main_arg1)
abbrev mA : FVec Ideal S1x9088 .f32 := m ((c : Thread nD τ).loc main_arg2)
abbrev vA : FVec Ideal S1x9088 .f32 := m ((c : Thread nD τ).loc main_arg3)

theorem V_v1 : V m c main_v1 = broadcastInDim S1x1x9088 ![1, 2] bcast_S1x9088_S1x1x9088_1_2 (extractStridedSlice S1x9088 ![0, 128] (tA m c) slices_S1x15360_S1x9088_0_128) := by
  unfold V
  simp only [List.flatten_cons, List.flatten_nil, List.append_nil, List.cons_append, List.nil_append]
  after_results_simp <;> rfl

/-- There is one point, and every window is its whole array. -/
theorem idx : ∀ t : Fin cfg0.N, win0_0.index t = ![0, 0] ∧ win0_1.index t = ![0, 0, 0] ∧ win0_2.index t = ![0, 0] ∧ win0_3.index t = ![0, 0] :=
  (by decide +kernel : ∀ t : Fin grid0.N, _)

theorem rd0 (t : Fin cfg0.N) (e : Fin 9088) : iblk m c 0 t (ix2 0 e) = wA m c (ix2 0 e) := by
  blk_simp [iblk, idx t]
  blk_ext [idx t]

theorem rd2 (t : Fin cfg0.N) (e : Fin 9088) : iblk m c 2 t (ix2 0 e) = mA m c (ix2 0 e) := by
  blk_simp [iblk, idx t]
  blk_ext [idx t]

theorem rd3 (t : Fin cfg0.N) (e : Fin 9088) : iblk m c 3 t (ix2 0 e) = vA m c (ix2 0 e) := by
  blk_simp [iblk, idx t]
  blk_ext [idx t]

theorem rd1 (t : Fin cfg0.N) (e : Fin 9088) : iblk m c 1 t (ix3 0 0 e) = gE (tA m c) e := by
  refine Eq.trans (b := V m c main_v1 (ix3 0 0 e)) ?_ ?_
  · blk_simp [iblk, idx t]
    blk_ext [idx t]
  · rw [V_v1, gE]
    pointwise

/-- An index of a block of one row. -/
theorem row_ix (y : S1x9088.Idx) : y = ix2 0 (y 1) := by
  obtain ⟨a, e, rfl⟩ : ∃ (a : Fin 1) (e : Fin 9088), y = ix2 a e := ⟨_, _, eq_ix2 y⟩
  obtain rfl : a = 0 := Subsingleton.elim _ _
  rfl

theorem final4 : (dats m 0 c).arrAt 4 cfg0.N = fun j : S1x9088.Idx => gE (tA m c) (j 1) := by
  refine (dats m 0 c).arrAt_eq_of_after_last 4 t0_0 (by decide +kernel) _ fun j => ?_
  blk_simp
  rw [after0_4]
  frame_out
  exact (congrArg (k0_pay1 (F := Ideal) (iblk m c 1 t0_0)) (row_ix j)).trans ((pay1_at _ _).trans (rd1 m c _ _))

theorem final6 : (dats m 0 c).arrAt 6 cfg0.N = fun j : S1x9088.Idx => meanE (gE (tA m c) (j 1)) (mA m c (ix2 0 (j 1))) := by
  refine (dats m 0 c).arrAt_eq_of_after_last 6 t0_0 (by decide +kernel) _ fun j => ?_
  blk_simp
  rw [after0_6]
  frame_out
  refine (congrArg (k0_pay2 (F := Ideal) (iblk m c 1 t0_0) (iblk m c 2 t0_0)) (row_ix j)).trans ((pay2_at _ _ _).trans ?_)
  exact congrArg₂ meanE (rd1 m c _ _) (rd2 m c _ _)

theorem final7 : (dats m 0 c).arrAt 7 cfg0.N = fun j : S1x9088.Idx => squareE (gE (tA m c) (j 1)) (vA m c (ix2 0 (j 1))) := by
  refine (dats m 0 c).arrAt_eq_of_after_last 7 t0_0 (by decide +kernel) _ fun j => ?_
  blk_simp
  rw [after0_7]
  frame_out
  refine (congrArg (k0_pay3 (F := Ideal) (iblk m c 1 t0_0) (iblk m c 3 t0_0)) (row_ix j)).trans ((pay3_at _ _ _).trans ?_)
  exact congrArg₂ squareE (rd1 m c _ _) (rd3 m c _ _)

theorem final5 : (dats m 0 c).arrAt 5 cfg0.N = fun j : S1x9088.Idx =>
    deltaE (gE (tA m c) (j 1)) (wA m c (ix2 0 (j 1))) (mA m c (ix2 0 (j 1))) (vA m c (ix2 0 (j 1))) := by
  refine (dats m 0 c).arrAt_eq_of_after_last 5 t0_0 (by decide +kernel) _ fun j => ?_
  blk_simp
  rw [after0_5]
  frame_out
  refine (congrArg (k0_pay4 (F := Ideal) (iblk m c 1 t0_0) (iblk m c 2 t0_0) (iblk m c 3 t0_0) (iblk m c 0 t0_0)) (row_ix j)).trans ((pay4_at _ _ _ _ _).trans ?_)
  exact congr (congr (congrArg₂ deltaE (rd1 m c _ _) (rd0 m c _ _)) (rd2 m c _ _)) (rd3 m c _ _)

end Cert.AdamIdeal.Value

namespace Cert.AdamPair

open Cert.AdamRefIdeal Cert.AdamRefIdeal.Gen Cert.AdamRefIdeal.Value Idealize.ShloMosaic Idealize.ShloMosaic.TcCoe Idealize.SL.Sem
open Cert.AdamIdeal.Value (gE meanE squareE deltaE row_ix)

section

variable (w m v : FVec Ideal S1x9088 .f32) (T : FVec Ideal S1x15360 .f32)

/-- A constant row. -/
abbrev cst (b : BitVec 32) : FVec Ideal S1x9088 .f32 := broadcastInDim S1x9088 ![] bcast_S_S1x9088 (constant S_ .f32 b)

/-- The reference's gradient, running means and change. -/
abbrev gR : FVec Ideal S1x9088 .f32 := extractStridedSlice S1x9088 ![0, 128] T slices_S1x15360_S1x9088_0_128
abbrev meanR : FVec Ideal S1x9088 .f32 := addf (mulf (cst 0x3F666666#32) m) (mulf (cst 0x3DCCCCCD#32) (gR T))
abbrev squareR : FVec Ideal S1x9088 .f32 := addf (mulf (cst 0x3F7FBE77#32) v) (mulf (cst 0x3A83126F#32) (mulf (gR T) (gR T)))
abbrev deltaR : FVec Ideal S1x9088 .f32 :=
  mulf (cst 0xBA83126F#32) (addf (Host.divf (Host.divf (meanR m T) (cst 0x3F26BD02#32)) (addf (Host.sqrt (Host.divf (squareR v T) (cst 0x3C231ACC#32))) (cst 0x322BCC77#32)))
    (mulf (cst 0x3C23D70A#32) w))

theorem gR_at (e : Fin 9088) : gR T (ix2 0 e) = gE T e := by
  unfold gE
  pointwise

theorem meanR_at (e : Fin 9088) : meanR m T (ix2 0 e) = meanE (gE T e) (m (ix2 0 e)) := by
  rw [← gR_at, meanE]
  pointwise

theorem squareR_at (e : Fin 9088) : squareR v T (ix2 0 e) = squareE (gE T e) (v (ix2 0 e)) := by
  rw [← gR_at, squareE]
  pointwise

theorem deltaR_at (e : Fin 9088) : deltaR w m v T (ix2 0 e) = deltaE (gE T e) (w (ix2 0 e)) (m (ix2 0 e)) (v (ix2 0 e)) := by
  rw [deltaE, ← meanR_at, ← squareR_at]
  pointwise

end

/-- The reference's frame. -/
theorem frame_ref : Cert.quiescent_AdamRefIdeal := fun m ρ _ =>
  (θ_run Cert.AdamRefIdeal.defs _ _).mono (fun r h => ⟨fun c => (h c).2.2.2.2, Idealize.ShloMosaic.sem_eq_zero_of_no_sems (by decide) r.2⟩) (Cert.AdamRefIdeal.Value.run (F := Ideal) m ρ)

/-- Kernel and reference return the same four arrays. -/
theorem algebraic : Cert.algebraic_AdamIdeal_AdamRefIdeal := by
  intro m ρ m' ρ' _ ha
  refine ⟨_, _, _, _, Cert.AdamIdeal.Value.run_blocks m ρ, ?_⟩
  refine (θ_run Cert.AdamRefIdeal.defs _ _).mono (fun r h c => ?_) (Cert.AdamRefIdeal.Value.run (F := Ideal) m' ρ')
  obtain ⟨r0, r1, r2, r3, keep⟩ := h c
  obtain ⟨h0, h1, h2, h3⟩ := ha c
  rw [h0, h1, h2, h3] at r1
  rw [h1] at r0
  rw [h1, h2] at r2
  rw [h1, h3] at r3
  refine ⟨r0.trans ?_, r1.trans ?_, r2.trans ?_, r3.trans ?_, keep⟩
  · rw [Cert.AdamIdeal.Value.final4]
    exact funext fun j => (congrArg (gR _) (row_ix j)).trans (gR_at _ _)
  · rw [Cert.AdamIdeal.Value.final5]
    exact funext fun j => (congrArg (deltaR _ _ _ _) (row_ix j)).trans (deltaR_at _ _ _ _ _)
  · rw [Cert.AdamIdeal.Value.final6]
    exact funext fun j => (congrArg (meanR _ _) (row_ix j)).trans (meanR_at _ _ _)
  · rw [Cert.AdamIdeal.Value.final7]
    exact funext fun j => (congrArg (squareR _ _) (row_ix j)).trans (squareR_at _ _ _)

/-- All claims about the pair. -/
theorem claims : (Cert.quiescent_Adam ∧ Cert.quiescent_AdamIdeal ∧ Cert.quiescent_AdamRefIdeal) ∧ Cert.preserves_Adam_AdamIdeal ∧ Cert.algebraic_AdamIdeal_AdamRefIdeal :=
  ⟨⟨fun m ρ _ => Cert.Adam.Gen.frame m ρ, fun m ρ _ => Cert.AdamIdeal.Gen.frame m ρ, frame_ref⟩, trivial, algebraic⟩

end Cert.AdamPair

end
-- ==== Proof.ColsAlg.lean ====
/- The attention's gradients laid out as columns: a block's sixteen heads side by side, the transposed ones through a product with the unit matrix,
   which returns every element, infinite or not. -/
module

public import proofs.«01_k».proof.Defs
public import proofs.«01_k».proof.Proof.ProjOut
public import proofs.«01_k».proof.Proof.Gen.Cols.Frame
public import proofs.«01_k».proof.Proof.Gen.ColsIdeal.Value
public import proofs.«01_k».proof.Proof.Gen.ColsRefIdeal.Run
public import Idealize.ShloMosaic.Lib.Pipeline.Value

@[expose] public section

set_option maxRecDepth 16384

noncomputable section

namespace Cert.ColsIdeal.Value

open Cert.ColsIdeal Cert.ColsIdeal.Gen Idealize.ShloMosaic Idealize.ShloMosaic.TcCoe Idealize.SL.Sem
open Cert.ProjIdeal.Value (canon_of)

/-- A column's head. -/
def hd (c : ℕ) : Fin 16 := ⟨c % 1024 / 64, by omega⟩

/-- A column within its head. -/
def dm (c : ℕ) : Fin 64 := ⟨c % 64, by omega⟩

theorem hd_dm (c l o : ℕ) (hl : l < 1024) (ho : o % 1024 = 0) (h : c = o + l) : (⟨l / 64, by omega⟩ : Fin 16) = hd c ∧ (⟨l % 64, by omega⟩ : Fin 64) = dm c :=
  ⟨Fin.ext (show l / 64 = c % 1024 / 64 by omega), Fin.ext (show l % 64 = c % 64 by omega)⟩

/-- The columns: the queries' heads, the keys', the values'. -/
def colG (n nb : ℕ) (hn : n = 128 * nb) (x0 : (⟨3, ![16, n, 64]⟩ : Shape).Idx → EReal) (x1 x2 : (⟨4, ![16, nb, 64, 128]⟩ : Shape).Idx → EReal) (r : Fin n) (c : ℕ) : EReal :=
  if c < 1024 then x0 (ix3 (hd c) r (dm c)) else if c < 2048 then x1 (ix4 (hd c) ⟨r.val / 128, by omega⟩ (dm c) ⟨r.val % 128, by omega⟩)
  else x2 (ix4 (hd c) ⟨r.val / 128, by omega⟩ (dm c) ⟨r.val % 128, by omega⟩)

/-- A head of a block, transposed. -/
abbrev turn (w : Vec Ideal S1x1x64x128 .f32) : FVec Ideal S128x64 .f32 := k0_pay1 (F := Ideal) k0_pay17 w

theorem unit_at (i k : Fin 128) : k0_pay17 (F := Ideal) (ix2 i k) = if k = i then 1 else 0 := by
  refine Eq.trans (b := FloatOps.sitofp (F := Ideal) .f32 (BitVec.setWidth 32 (IntOp.cmpi .eq (BitVec.ofNat 32 i.val) (BitVec.ofNat 32 k.val)))) (by pointwise [k0_pay17]) ?_
  refine (Cert.PostIdeal.Value.eye_one ⟨i.val, by omega⟩ ⟨k.val, by omega⟩).trans ?_
  unfold Cert.PostIdeal.Value.eye
  simp only [Fin.mk.injEq, Fin.ext_iff]

theorem turn_at (w : Vec Ideal S1x1x64x128 .f32) (r : Fin 128) (d : Fin 64) : turn w (ix2 r d) = w (ix4 0 0 d r) := by
  refine Eq.trans (b := ∑ k : Fin 128, k0_pay17 (F := Ideal) (ix2 r k) * w (ix4 0 0 d k)) (by pointwise [k0_pay1]) ?_
  simp only [unit_at, ite_mul, one_mul, zero_mul, Finset.sum_ite_eq', Finset.mem_univ, if_true]

theorem cat128 (v : Fin 16 → FVec Ideal S128x64 .f32) (r : Fin 128) (l : Fin 1024) :
    k0_pay4 (F := Ideal) (v 0) (v 1) (v 2) (v 3) (v 4) (v 5) (v 6) (v 7) (v 8) (v 9) (v 10) (v 11) (v 12) (v 13) (v 14) (v 15) (ix2 r l) = v ⟨l.val / 64, by omega⟩ (ix2 r ⟨l.val % 64, by omega⟩) :=
  concatenate_ofFn_apply (s₁ := S128x64) (t := S128x1024) 1 v concatenates_S128x64_S128x64_S128x64_S128x64_S128x64_S128x64_S128x64_S128x64_S128x64_S128x64_S128x64_S128x64_S128x64_S128x64_S128x64_S128x64_S128x1024_d1
    rfl 64 rfl (ix2 r l) _ rfl (ix2 r ⟨l.val % 64, by omega⟩) rfl fun b hb => by
      match b with
      | ⟨0, _⟩ => rfl
      | ⟨1, _⟩ => exact absurd rfl hb

theorem cat256 (w : Fin 16 → Vec Ideal S1x256x64 .f32) (r : Fin 256) (l : Fin 1024) :
    k0_pay16 (F := Ideal) (k0_pay5 (w 0)) (k0_pay5 (w 1)) (k0_pay5 (w 2)) (k0_pay5 (w 3)) (k0_pay5 (w 4)) (k0_pay5 (w 5)) (k0_pay5 (w 6)) (k0_pay5 (w 7)) (k0_pay5 (w 8)) (k0_pay5 (w 9)) (k0_pay5 (w 10)) (w 11) (w 12) (w 13) (w 14) (w 15) (ix2 r l) = w ⟨l.val / 64, by omega⟩ (ix3 0 r ⟨l.val % 64, by omega⟩) := by
  refine (concatenate_ofFn_apply (s₁ := S256x64) (t := S256x1024) 1 (fun n => k0_pay5 (F := Ideal) (w n)) concatenates_S256x64_S256x64_S256x64_S256x64_S256x64_S256x64_S256x64_S256x64_S256x64_S256x64_S256x64_S256x64_S256x64_S256x64_S256x64_S256x64_S256x1024_d1
    rfl 64 rfl (ix2 r l) ⟨l.val / 64, by omega⟩ rfl (ix2 r ⟨l.val % 64, by omega⟩) rfl fun b hb => by
      match b with
      | ⟨0, _⟩ => rfl
      | ⟨1, _⟩ => exact absurd rfl hb).trans ?_
  pointwise [k0_pay5]

/-- A block of columns from `o` on, of the rows from `128 b` on, is `x`'s heads. -/
theorem tBlk (G : Fin 256 → ℕ → EReal) (x : Vec Ideal S16x2x64x128 .f32) (b : Fin 2) (o p : ℕ) (ho : o % 1024 = 0) (hp : p = 128 * b.val)
    (hG : ∀ r c, o ≤ c → c < o + 1024 → G r c = x (ix4 (hd c) ⟨r.val / 128, by omega⟩ (dm c) ⟨r.val % 128, by omega⟩))
    (hn : ∀ a, (![p, o] : Fin 2 → ℕ) a + S128x1024.size a ≤ S256x3072.size a) (w : (Rect.unit (s := S256x3072) ![p, o] S128x1024.size hn).shape.Idx → EReal)
    (hw : ∀ (r : Fin 128) (l : Fin 1024), w (ix2 r l) = x (ix4 ⟨l.val / 64, by omega⟩ b ⟨l.val % 64, by omega⟩ r)) (y : (Rect.unit (s := S256x3072) ![p, o] S128x1024.size hn).shape.Idx) :
    w y = (fun j : S256x3072.Idx => G ⟨(j 0).val, (j 0).isLt⟩ (j 1).val) ((Rect.unit (s := S256x3072) ![p, o] S128x1024.size hn).emb y) := by
  obtain ⟨r, l, rfl⟩ : ∃ (r : Fin 128) (l : Fin 1024), y = ix2 r l := ⟨_, _, eq_ix2 y⟩
  obtain ⟨e1, e2⟩ := hd_dm (o + 1 * l.val) l.val o l.isLt ho (by omega)
  have hr : (⟨p + 1 * r.val, by omega⟩ : Fin 256).val = p + 1 * r.val := rfl
  refine (hw r l).trans (Eq.trans ?_ (hG ⟨p + 1 * r.val, by omega⟩ (o + 1 * l.val) (by omega) (by omega)).symm)
  rw [e1, e2]
  refine congrArg x (congrArg₂ (fun u v => ix4 (hd (o + 1 * l.val)) u (dm (o + 1 * l.val)) v) (Fin.ext ?_) (Fin.ext ?_))
  · show b.val = (p + 1 * r.val) / 128
    omega
  · show r.val = (p + 1 * r.val) % 128
    omega

section

variable (c : Dev nD) (i : grid0.Coords) (arg1 : Memref sig .tc .vmem S16x256x64 .f32) (harg1 : arg1.IsWhole) (arg2 : Memref sig .tc .vmem S16x2x64x128 .f32) (harg2 : arg2.IsWhole)
  (arg3 : Memref sig .tc .vmem S16x2x64x128 .f32) (harg3 : arg3.IsWhole) (arg4 : Memref sig .tc .vmem S256x3072 .bf16) (harg4 : arg4.IsWhole)
  (x0 : Vec Ideal S16x256x64 .f32) (x1 : Vec Ideal S16x2x64x128 .f32) (x2 : Vec Ideal S16x2x64x128 .f32)

/-- A head of one of the block's two groups of rows. -/
abbrev tile (x : Vec Ideal S16x2x64x128 .f32) (b : Fin 2) (n : Fin 16) : Vec Ideal S1x1x64x128 .f32 := View.ld x (Rect.unit (s := S16x2x64x128) ![n.val, b.val, 0, 0] S1x1x64x128.size fun a => by
  match a with
  | ⟨0, _⟩ => show n.val + 1 ≤ 16; omega
  | ⟨1, _⟩ => show b.val + 1 ≤ 2; omega
  | ⟨2, _⟩ => show 0 + 64 ≤ 64; omega
  | ⟨3, _⟩ => show 0 + 128 ≤ 128; omega)

/-- A head of the block's rows. -/
abbrev head (x : Vec Ideal S16x256x64 .f32) (n : Fin 16) : Vec Ideal S1x256x64 .f32 := View.ld x (Rect.unit (s := S16x256x64) ![n.val, 0, 0] S1x256x64.size fun a => by
  match a with
  | ⟨0, _⟩ => show n.val + 1 ≤ 16; omega
  | ⟨1, _⟩ => show 0 + 256 ≤ 256; omega
  | ⟨2, _⟩ => show 0 + 64 ≤ 64; omega)

theorem tile_at (x : Vec Ideal S16x2x64x128 .f32) (b : Fin 2) (n : Fin 16) (d : Fin 64) (r : Fin 128) : tile x b n (ix4 0 0 d r) = x (ix4 n b d r) := by
  refine congrArg x (funext fun a => Fin.ext ?_)
  match a with
  | ⟨0, _⟩ => show n.val + 1 * 0 = n.val; omega
  | ⟨1, _⟩ => show b.val + 1 * 0 = b.val; omega
  | ⟨2, _⟩ => show 0 + 1 * d.val = d.val; omega
  | ⟨3, _⟩ => show 0 + 1 * r.val = r.val; omega

theorem head_at (x : Vec Ideal S16x256x64 .f32) (n : Fin 16) (r : Fin 256) (d : Fin 64) : head x n (ix3 0 r d) = x (ix3 n r d) := by
  refine congrArg x (funext fun a => Fin.ext ?_)
  match a with
  | ⟨0, _⟩ => show n.val + 1 * 0 = n.val; omega
  | ⟨1, _⟩ => show 0 + 1 * r.val = r.val; omega
  | ⟨2, _⟩ => show 0 + 1 * d.val = d.val; omega

theorem turned (x : Vec Ideal S16x2x64x128 .f32) (b : Fin 2) (r : Fin 128) (l : Fin 1024) :
    k0_pay4 (F := Ideal) (turn (tile x b 0)) (turn (tile x b 1)) (turn (tile x b 2)) (turn (tile x b 3)) (turn (tile x b 4)) (turn (tile x b 5)) (turn (tile x b 6)) (turn (tile x b 7)) (turn (tile x b 8)) (turn (tile x b 9)) (turn (tile x b 10)) (turn (tile x b 11)) (turn (tile x b 12)) (turn (tile x b 13)) (turn (tile x b 14)) (turn (tile x b 15)) (ix2 r l) = x (ix4 ⟨l.val / 64, by omega⟩ b ⟨l.val % 64, by omega⟩ r) :=
  (cat128 (fun n => turn (tile x b n)) r l).trans ((turn_at _ _ _).trans (tile_at x b _ _ _))

section

variable (w : Fin 16 → Vec Ideal S1x1x64x128 .f32)

theorem keys0 : k0_pay28 (F := Ideal) k0_pay17 (k0_pay18 (w 0)) (k0_pay19 (w 1)) (k0_pay20 (w 2)) (k0_pay21 k0_pay17 (w 3)) (k0_pay22 k0_pay17 (w 4)) (k0_pay23 k0_pay17 (w 5)) (k0_pay24 k0_pay17 (w 6)) (k0_pay25 k0_pay17 (w 7)) (k0_pay26 k0_pay17 (w 8)) (k0_pay27 (w 9)) (w 10) (w 11) (w 12) (w 13) (w 14) (w 15) = k0_pay4 (turn (w 0)) (turn (w 1)) (turn (w 2)) (turn (w 3)) (turn (w 4)) (turn (w 5)) (turn (w 6)) (turn (w 7)) (turn (w 8)) (turn (w 9)) (turn (w 10)) (turn (w 11)) (turn (w 12)) (turn (w 13)) (turn (w 14)) (turn (w 15)) := rfl

theorem keys1 : k0_pay42 (F := Ideal) k0_pay17 (k0_pay29 k0_pay17 (w 0)) (k0_pay30 k0_pay17 (w 1)) (k0_pay31 k0_pay17 (w 2)) (k0_pay32 k0_pay17 (w 3)) (k0_pay33 k0_pay17 (w 4)) (k0_pay34 k0_pay17 (w 5)) (k0_pay35 k0_pay17 (w 6)) (k0_pay36 k0_pay17 (w 7)) (k0_pay37 k0_pay17 (w 8)) (k0_pay38 k0_pay17 (w 9)) (k0_pay39 k0_pay17 (w 10)) (k0_pay40 k0_pay17 (w 11)) (k0_pay41 k0_pay17 (w 12)) (w 13) (w 14) (w 15) = k0_pay4 (turn (w 0)) (turn (w 1)) (turn (w 2)) (turn (w 3)) (turn (w 4)) (turn (w 5)) (turn (w 6)) (turn (w 7)) (turn (w 8)) (turn (w 9)) (turn (w 10)) (turn (w 11)) (turn (w 12)) (turn (w 13)) (turn (w 14)) (turn (w 15)) := rfl

theorem vals0 : k0_pay53 (F := Ideal) k0_pay17 (k0_pay43 k0_pay17 (w 0)) (k0_pay44 k0_pay17 (w 1)) (k0_pay45 k0_pay17 (w 2)) (k0_pay46 k0_pay17 (w 3)) (k0_pay47 k0_pay17 (w 4)) (k0_pay48 k0_pay17 (w 5)) (k0_pay49 k0_pay17 (w 6)) (k0_pay50 k0_pay17 (w 7)) (k0_pay51 k0_pay17 (w 8)) (k0_pay52 (w 9)) (w 10) (w 11) (w 12) (w 13) (w 14) (w 15) = k0_pay4 (turn (w 0)) (turn (w 1)) (turn (w 2)) (turn (w 3)) (turn (w 4)) (turn (w 5)) (turn (w 6)) (turn (w 7)) (turn (w 8)) (turn (w 9)) (turn (w 10)) (turn (w 11)) (turn (w 12)) (turn (w 13)) (turn (w 14)) (turn (w 15)) := rfl

theorem vals1 : k0_pay4 (F := Ideal) (k0_pay54 k0_pay17 (w 0)) (k0_pay55 k0_pay17 (w 1)) (k0_pay56 k0_pay17 (w 2)) (k0_pay57 k0_pay17 (w 3)) (k0_pay58 k0_pay17 (w 4)) (k0_pay59 k0_pay17 (w 5)) (k0_pay60 k0_pay17 (w 6)) (k0_pay61 k0_pay17 (w 7)) (k0_pay62 k0_pay17 (w 8)) (k0_pay63 k0_pay17 (w 9)) (k0_pay64 k0_pay17 (w 10)) (k0_pay65 k0_pay17 (w 11)) (k0_pay66 k0_pay17 (w 12)) (k0_pay1 k0_pay17 (w 13)) (k0_pay2 k0_pay17 (w 14)) (k0_pay3 k0_pay17 (w 15)) = k0_pay4 (turn (w 0)) (turn (w 1)) (turn (w 2)) (turn (w 3)) (turn (w 4)) (turn (w 5)) (turn (w 6)) (turn (w 7)) (turn (w 8)) (turn (w 9)) (turn (w 10)) (turn (w 11)) (turn (w 12)) (turn (w 13)) (turn (w 14)) (turn (w 15)) := rfl

end

abbrev blockG (j : S256x3072.Idx) : EReal := colG 256 2 rfl x0 x1 x2 ⟨(j 0).val, (j 0).isLt⟩ (j 1).val

theorem kBlk (b : Fin 2) (p : ℕ) (hp : p = 128 * b.val) (hn : ∀ a, (![p, 1024] : Fin 2 → ℕ) a + S128x1024.size a ≤ S256x3072.size a) (w : FVec Ideal S128x1024 .bf16)
    (hw : w = k0_pay4 (F := Ideal) (turn (tile x1 b 0)) (turn (tile x1 b 1)) (turn (tile x1 b 2)) (turn (tile x1 b 3)) (turn (tile x1 b 4)) (turn (tile x1 b 5)) (turn (tile x1 b 6)) (turn (tile x1 b 7)) (turn (tile x1 b 8)) (turn (tile x1 b 9)) (turn (tile x1 b 10)) (turn (tile x1 b 11)) (turn (tile x1 b 12)) (turn (tile x1 b 13)) (turn (tile x1 b 14)) (turn (tile x1 b 15))) (y : (Rect.unit (s := S256x3072) ![p, 1024] S128x1024.size hn).shape.Idx) :
    w y = blockG x0 x1 x2 ((Rect.unit (s := S256x3072) ![p, 1024] S128x1024.size hn).emb y) :=
  tBlk (colG 256 2 rfl x0 x1 x2) x1 b 1024 p rfl hp (fun r c h h' => by rw [colG, if_neg (by omega), if_pos (by omega)]) hn w (fun r l => (congrFun hw _).trans (turned x1 b r l)) y

theorem vBlk (b : Fin 2) (p : ℕ) (hp : p = 128 * b.val) (hn : ∀ a, (![p, 2048] : Fin 2 → ℕ) a + S128x1024.size a ≤ S256x3072.size a) (w : FVec Ideal S128x1024 .bf16)
    (hw : w = k0_pay4 (F := Ideal) (turn (tile x2 b 0)) (turn (tile x2 b 1)) (turn (tile x2 b 2)) (turn (tile x2 b 3)) (turn (tile x2 b 4)) (turn (tile x2 b 5)) (turn (tile x2 b 6)) (turn (tile x2 b 7)) (turn (tile x2 b 8)) (turn (tile x2 b 9)) (turn (tile x2 b 10)) (turn (tile x2 b 11)) (turn (tile x2 b 12)) (turn (tile x2 b 13)) (turn (tile x2 b 14)) (turn (tile x2 b 15))) (y : (Rect.unit (s := S256x3072) ![p, 2048] S128x1024.size hn).shape.Idx) :
    w y = blockG x0 x1 x2 ((Rect.unit (s := S256x3072) ![p, 2048] S128x1024.size hn).emb y) :=
  tBlk (colG 256 2 rfl x0 x1 x2) x2 b 2048 p rfl hp (fun r c h h' => by rw [colG, if_neg (by omega), if_neg (by omega)]) hn w (fun r l => (congrFun hw _).trans (turned x2 b r l)) y

theorem qBlk (hn : ∀ a, (![0, 0] : Fin 2 → ℕ) a + S256x1024.size a ≤ S256x3072.size a) (z : (Rect.unit (s := S256x3072) ![0, 0] S256x1024.size hn).shape.Idx) :
    k0_pay16 (F := Ideal) (k0_pay5 (head x0 0)) (k0_pay6 (head x0 1)) (k0_pay7 (head x0 2)) (k0_pay8 (head x0 3)) (k0_pay9 (head x0 4)) (k0_pay10 (head x0 5)) (k0_pay11 (head x0 6)) (k0_pay12 (head x0 7)) (k0_pay13 (head x0 8)) (k0_pay14 (head x0 9)) (k0_pay15 (head x0 10)) (head x0 11) (head x0 12) (head x0 13) (head x0 14) (head x0 15) z = blockG x0 x1 x2 ((Rect.unit (s := S256x3072) ![0, 0] S256x1024.size hn).emb z) := by
  obtain ⟨r, l, rfl⟩ : ∃ (r : Fin 256) (l : Fin 1024), z = ix2 r l := ⟨_, _, eq_ix2 z⟩
  refine (cat256 (fun n => head x0 n) r l).trans ((head_at x0 _ _ _).trans ?_)
  obtain ⟨e1, e2⟩ := hd_dm (0 + 1 * l.val) l.val 0 l.isLt rfl (by omega)
  show _ = colG 256 2 rfl x0 x1 x2 ⟨0 + 1 * r.val, by omega⟩ (0 + 1 * l.val)
  rw [colG, if_pos (by omega), e1, e2]
  exact congrArg (fun u => x0 (ix3 _ u _)) (Fin.ext (show r.val = 0 + 1 * r.val by omega))

theorem out3 (y : S256x3072.Idx) : out0_A_3 (F := Ideal) c i arg1 harg1 arg2 harg2 arg3 harg3 arg4 harg4 x0 x1 x2 y = blockG x0 x1 x2 y := by
  frame_out
  refine canon_of (s := S256x3072) (e := .bf16) _ (blockG x0 x1 x2) y ?_ ?_
  · exact View.cover_of_tiledBy _ ![128, 1024] (by sl_kernel_rfl) y
  refine ⟨vBlk x0 x1 x2 1 128 rfl inb_S256x3072_S128x1024_128_2048 _ ?_, ?_⟩
  · exact vals1 (tile x2 1)
  refine ⟨vBlk x0 x1 x2 0 0 rfl inb_S256x3072_S128x1024_0_2048 _ ?_, ?_⟩
  · exact vals0 (tile x2 0)
  refine ⟨kBlk x0 x1 x2 1 128 rfl inb_S256x3072_S128x1024_128_1024 _ ?_, ?_⟩
  · exact keys1 (tile x1 1)
  refine ⟨kBlk x0 x1 x2 0 0 rfl inb_S256x3072_S128x1024_0_1024 _ ?_, ?_⟩
  · exact keys0 (tile x1 0)
  exact ⟨qBlk x0 x1 x2 inb_S256x3072_S256x1024_0_0, trivial⟩

end

variable (m : (ℓ : Loc nD τ sig) → Buf (Elt Ideal) ℓ) (c : Dev nD)

theorem idx : ∀ t : Fin cfg0.N, win0_0.index t = ![0, t.val, 0] ∧ win0_1.index t = ![0, t.val, 0, 0] ∧ win0_2.index t = ![0, t.val, 0, 0] ∧ win0_3.index t = ![t.val, 0] :=
  (by decide +kernel : ∀ t : Fin grid0.N, _)

theorem rd0 (t : Fin cfg0.N) (n : Fin 16) (r : Fin 256) (d : Fin 64) (s : Fin 4096) (hs : s.val = t.val * 256 + r.val) :
    iblk m c 0 t (ix3 n r d) = m ((c : Thread nD τ).loc main_arg0) (ix3 n s d) := by
  blk_simp [iblk, idx t]
  blk_ext [idx t]

theorem rd1 (t : Fin cfg0.N) (n : Fin 16) (b : Fin 2) (d : Fin 64) (r : Fin 128) (s : Fin 32) (hs : s.val = t.val * 2 + b.val) :
    iblk m c 1 t (ix4 n b d r) = m ((c : Thread nD τ).loc main_arg1) (ix4 n s d r) := by
  blk_simp [iblk, idx t]
  blk_ext [idx t]

theorem rd2 (t : Fin cfg0.N) (n : Fin 16) (b : Fin 2) (d : Fin 64) (r : Fin 128) (s : Fin 32) (hs : s.val = t.val * 2 + b.val) :
    iblk m c 2 t (ix4 n b d r) = m ((c : Thread nD τ).loc main_arg2) (ix4 n s d r) := by
  blk_simp [iblk, idx t]
  blk_ext [idx t]

/-- The array at the end. -/
theorem final : (dats m 0 c).arrAt 3 cfg0.N = fun j : S4096x3072.Idx =>
    colG 4096 32 rfl (m ((c : Thread nD τ).loc main_arg0)) (m ((c : Thread nD τ).loc main_arg1)) (m ((c : Thread nD τ).loc main_arg2)) (j 0) (j 1).val := by
  refine (dats m 0 c).arrAt_eq_of_covers 3 _ (by decide +kernel) fun t hf y => ?_
  have h0 : ((win0_3.blk t).view.emb y 0 : ℕ) = t.val * 256 + (y 0 : ℕ) := by blk_simp [idx t]
  have h1 : win0_3.index t 1 * 3072 + (y 1 : ℕ) = (y 1 : ℕ) := by simp [idx t]
  have hr : (y 0 : ℕ) < 256 := (y 0).isLt
  have hs : ((win0_3.blk t).view.emb y 0 : ℕ) < 4096 := ((win0_3.blk t).view.emb y 0).isLt
  blk_simp
  rw [after0_3]
  refine (out3 c _ _ _ _ _ _ _ _ _ _ _ _ y).trans ?_
  rw [h1]
  unfold blockG colG
  split_ifs
  · exact rd0 m c t _ _ _ _ h0
  · refine (rd1 m c t _ _ _ _ ⟨((win0_3.blk t).view.emb y 0 : ℕ) / 128, by omega⟩ ?_).trans (congrArg (fun u => m ((c : Thread nD τ).loc main_arg1) (ix4 _ _ _ u)) (Fin.ext ?_))
    · show ((win0_3.blk t).view.emb y 0 : ℕ) / 128 = t.val * 2 + (y 0 : ℕ) / 128
      omega
    · show (y 0 : ℕ) % 128 = ((win0_3.blk t).view.emb y 0 : ℕ) % 128
      omega
  · refine (rd2 m c t _ _ _ _ ⟨((win0_3.blk t).view.emb y 0 : ℕ) / 128, by omega⟩ ?_).trans (congrArg (fun u => m ((c : Thread nD τ).loc main_arg2) (ix4 _ _ _ u)) (Fin.ext ?_))
    · show ((win0_3.blk t).view.emb y 0 : ℕ) / 128 = t.val * 2 + (y 0 : ℕ) / 128
      omega
    · show (y 0 : ℕ) % 128 = ((win0_3.blk t).view.emb y 0 : ℕ) % 128
      omega

end Cert.ColsIdeal.Value

namespace Cert.ColsPair

open Cert.ColsRefIdeal Cert.ColsRefIdeal.Gen Cert.ColsRefIdeal.Value Idealize.ShloMosaic Idealize.ShloMosaic.TcCoe Idealize.SL.Sem
open Cert.ColsIdeal.Value (colG hd dm)

section

variable (q : FVec Ideal S16x4096x64 .f32) (k v : FVec Ideal S16x32x64x128 .f32)

/-- The heads of rows side by side. -/
abbrev side (x : FVec Ideal S16x4096x64 .f32) : FVec Ideal S4096x1024 .f32 :=
  shapeCast S4096x1024 (transpose S4096x16x64 [1, 0, 2] x transposes_S16x4096x64_S4096x16x64_1_0_2) shapeCasts_S4096x16x64_S4096x1024

/-- The transposed heads as rows. -/
abbrev rows (x : FVec Ideal S16x32x64x128 .f32) : FVec Ideal S16x4096x64 .f32 :=
  shapeCast S16x4096x64 (transpose S16x32x128x64 [0, 1, 3, 2] x transposes_S16x32x64x128_S16x32x128x64_0_1_3_2) shapeCasts_S16x32x128x64_S16x4096x64

/-- The reference's columns. -/
abbrev colR : FVec Ideal S4096x3072 .bf16 :=
  truncf .bf16 (concatenate S4096x3072 1 [⟨S4096x1024, side q⟩, ⟨S4096x1024, side (rows k)⟩, ⟨S4096x1024, side (rows v)⟩] concatenates_S4096x1024_S4096x1024_S4096x1024_S4096x3072_d1) bitsLt_bf16_f32

theorem side_at (x : FVec Ideal S16x4096x64 .f32) (s : Fin 4096) (l : Fin 1024) : side x (ix2 s l) = x (ix3 ⟨l.val / 64, by omega⟩ s ⟨l.val % 64, by omega⟩) := by
  obtain ⟨n, d, h⟩ : ∃ (n : Fin 16) (d : Fin 64), l = ⟨64 * n.val + d.val, by omega⟩ := ⟨⟨l.val / 64, by omega⟩, ⟨l.val % 64, by omega⟩, Fin.ext (by simp only []; omega)⟩
  pointwise

theorem rows_at (x : FVec Ideal S16x32x64x128 .f32) (n : Fin 16) (s : Fin 4096) (d : Fin 64) : rows x (ix3 n s d) = x (ix4 n ⟨s.val / 128, by omega⟩ d ⟨s.val % 128, by omega⟩) := by
  pointwise

theorem col_eq : colR q k v = fun j : S4096x3072.Idx => colG 4096 32 rfl q k v (j 0) (j 1).val := by
  funext j
  obtain ⟨s, e, rfl⟩ : ∃ (s : Fin 4096) (e : Fin 3072), j = ix2 s e := ⟨_, _, eq_ix2 j⟩
  have he := e.isLt
  show concatenate S4096x3072 1 [⟨S4096x1024, side q⟩, ⟨S4096x1024, side (rows k)⟩, ⟨S4096x1024, side (rows v)⟩] concatenates_S4096x1024_S4096x1024_S4096x1024_S4096x3072_d1 (ix2 s e) = colG 4096 32 rfl q k v s e.val
  refine (concatenate_ofFn_apply (s₁ := S4096x1024) (t := S4096x3072) 1 ![side q, side (rows k), side (rows v)] concatenates_S4096x1024_S4096x1024_S4096x1024_S4096x3072_d1
    rfl 1024 rfl (ix2 s e) ⟨e.val / 1024, by omega⟩ rfl (ix2 s ⟨e.val % 1024, by omega⟩) rfl fun b hb => by
      match b with
      | ⟨0, _⟩ => rfl
      | ⟨1, _⟩ => exact absurd rfl hb).trans ?_
  have hd' : (⟨e.val % 1024 % 64, by omega⟩ : Fin 64) = dm e.val := Fin.ext (show e.val % 1024 % 64 = e.val % 64 by omega)
  unfold colG
  split_ifs with a b
  · have hn : (⟨e.val / 1024, by omega⟩ : Fin 3) = 0 := Fin.ext (show e.val / 1024 = 0 by omega)
    rw [hn]
    exact (side_at q s _).trans (congrArg (fun u => q (ix3 _ s u)) hd')
  · have hn : (⟨e.val / 1024, by omega⟩ : Fin 3) = 1 := Fin.ext (show e.val / 1024 = 1 by omega)
    rw [hn]
    exact (side_at (rows k) s _).trans ((rows_at k _ s _).trans (congrArg (fun u => k (ix4 _ _ u _)) hd'))
  · have hn : (⟨e.val / 1024, by omega⟩ : Fin 3) = 2 := Fin.ext (show e.val / 1024 = 2 by omega)
    rw [hn]
    exact (side_at (rows v) s _).trans ((rows_at v _ s _).trans (congrArg (fun u => v (ix4 _ _ u _)) hd'))

end

/-- The reference's frame. -/
theorem frame_ref : Cert.quiescent_ColsRefIdeal := fun m ρ _ =>
  (θ_run Cert.ColsRefIdeal.defs _ _).mono (fun r h => ⟨fun c => (h c).2, Idealize.ShloMosaic.sem_eq_zero_of_no_sems (by decide) r.2⟩) (Cert.ColsRefIdeal.Value.run (F := Ideal) m ρ)

/-- Kernel and reference return the same columns. -/
theorem algebraic : Cert.algebraic_ColsIdeal_ColsRefIdeal := by
  intro m ρ m' ρ' _ ha
  refine ⟨_, Cert.ColsIdeal.Value.run_blocks m ρ, ?_⟩
  refine (θ_run Cert.ColsRefIdeal.defs _ _).mono (fun r h c => ?_) (Cert.ColsRefIdeal.Value.run (F := Ideal) m' ρ')
  obtain ⟨r0, keep⟩ := h c
  obtain ⟨h0, h1, h2⟩ := ha c
  refine ⟨r0.trans ?_, keep⟩
  rw [h0, h1, h2, Cert.ColsIdeal.Value.final]
  exact col_eq _ _ _

/-- All claims about the pair. -/
theorem claims : (Cert.quiescent_Cols ∧ Cert.quiescent_ColsIdeal ∧ Cert.quiescent_ColsRefIdeal) ∧ Cert.preserves_Cols_ColsIdeal ∧ Cert.algebraic_ColsIdeal_ColsRefIdeal :=
  ⟨⟨fun m ρ _ => Cert.Cols.Gen.frame m ρ, fun m ρ _ => Cert.ColsIdeal.Gen.frame m ρ, frame_ref⟩, trivial, algebraic⟩

end Cert.ColsPair

end
-- ==== Proof.CastAlg.lean ====
/- The input weight's cast: the claims about the pair. No element need be real. -/
module

public import proofs.«01_k».proof.Defs
public import proofs.«01_k».proof.Proof.Gen.Cast.Frame
public import proofs.«01_k».proof.Proof.Gen.CastIdeal.Value
public import proofs.«01_k».proof.Proof.Gen.CastRefIdeal.Run

@[expose] public section

noncomputable section

namespace Cert.CastPair

open Idealize.ShloMosaic Idealize.ShloMosaic.TcCoe Idealize.SL.Sem

/-- The reference's frame. -/
theorem frame_ref : Cert.quiescent_CastRefIdeal := fun m ρ _ =>
  (θ_run Cert.CastRefIdeal.defs _ _).mono (fun r h => ⟨fun c => (h c).2, Idealize.ShloMosaic.sem_eq_zero_of_no_sems (by decide) r.2⟩) (Cert.CastRefIdeal.Value.run (F := Ideal) m ρ)

/-- The cast by blocks of rows is the whole cast. -/
theorem algebraic : Cert.algebraic_CastIdeal_CastRefIdeal := by
  intro m ρ m' ρ' _ ha
  refine ⟨_, Cert.CastIdeal.Value.run m ρ, ?_⟩
  refine (θ_run Cert.CastRefIdeal.defs _ _).mono (fun r h c => ⟨(h c).1.trans ?_, (h c).2⟩) (Cert.CastRefIdeal.Value.run (F := Ideal) m' ρ')
  rw [ha c]
  rfl

/-- All claims about the pair. -/
theorem claims : (Cert.quiescent_Cast ∧ Cert.quiescent_CastIdeal ∧ Cert.quiescent_CastRefIdeal) ∧ Cert.preserves_Cast_CastIdeal ∧ Cert.algebraic_CastIdeal_CastRefIdeal :=
  ⟨⟨fun m ρ _ => Cert.Cast.Gen.frame m ρ, fun m ρ _ => Cert.CastIdeal.Gen.frame m ρ, frame_ref⟩, trivial, algebraic⟩

end Cert.CastPair

end
-- ==== Proof.ConvAlg.lean ====
/- The convolution of the scan's forward call, carried from block to block: the claims about the pair. No element need be real. -/
module

public import proofs.«01_k».proof.Defs
public import proofs.«01_k».proof.Proof.Gen.SsdFwd.Frame
public import proofs.«01_k».proof.Proof.Gen.SsdFwdIdeal.Value
public import proofs.«01_k».proof.Proof.Gen.ConvRefIdeal.Run
public import Idealize.ShloMosaic.Lib.Pointwise
public import Idealize.ShloMosaic.Lib.Pipeline.ValueKit

@[expose] public section

set_option maxRecDepth 16384

noncomputable section

namespace Cert.SsdFwdIdeal.Value

open Cert.SsdFwdIdeal Cert.SsdFwdIdeal.Gen Idealize.ShloMosaic Idealize.ShloMosaic.TcCoe Idealize.SL.Sem

/-- Row `r` of a block shifted down by `m` rows, the rows of the block before above it. -/
def shiftE (cur prev : Vec Ideal S128x1536 .f32) (m : ℕ) (r : Fin 128) (e : Fin 1536) : EReal :=
  if r.val < m then prev (ix2 ⟨(r.val + 128 - m) % 128, Nat.mod_lt _ (by decide)⟩ e) else cur (ix2 ⟨(r.val + 128 - m) % 128, Nat.mod_lt _ (by decide)⟩ e)

theorem slt_row : ∀ (k : Fin 4) (r : Fin 128), IntOp.cmpi CmpIPredicate.slt (BitVec.ofNat 32 r.val) (BitVec.ofNat 32 k.val) = if r.val < k.val then 1#1 else 0#1 := by
  decide +kernel

theorem sel_row (k : Fin 4) (r : Fin 128) (a b : EReal) :
    Scalar.select (IntOp.cmpi CmpIPredicate.slt (BitVec.ofNat 32 r.val) (BitVec.ofNat 32 k.val)) a b = if r.val < k.val then a else b := by
  rw [slt_row]
  split_ifs <;> rfl

theorem shift3_at (cur prev : Vec Ideal S128x1536 .f32) (r : Fin 128) (e : Fin 1536) :
    k0_pay5 (F := Ideal) cur prev (ix2 r e) = shiftE cur prev 3 r e := by
  pointwise [k0_pay5]
  exact sel_row 3 r _ _

theorem zero_at (j : S128x1536.Idx) : k0_pay2 (F := Ideal) j = 0 := by
  pointwise [k0_pay2]

theorem keep_at (x : Vec Ideal S128x1536 .f32) : k0_pay7 (F := Ideal) x = x := by
  funext j
  pointwise [k0_pay7]

theorem conv_at (cur prev : Vec Ideal S128x1536 .f32) (w3 b w2 w1 w0 : Vec Ideal S1x1536 .f32) (r : Fin 128) (e : Fin 1536) :
    k0_pay6 (F := Ideal) (k0_pay4 cur prev w3 b w2 w1) (k0_pay5 cur prev) w0 (ix2 r e) =
      cur (ix2 r e) * w3 (ix2 0 e) + b (ix2 0 e) + shiftE cur prev 1 r e * w2 (ix2 0 e) + shiftE cur prev 2 r e * w1 (ix2 0 e) + shiftE cur prev 3 r e * w0 (ix2 0 e) := by
  rw [← shift3_at]
  generalize k0_pay5 (F := Ideal) cur prev = g
  pointwise [k0_pay4, k0_pay6]
  exact congrArg (· + _) (congrArg₂ (· + ·) (congrArg (_ + ·) (congrArg (· * _) (sel_row 1 r _ _))) (congrArg (· * _) (sel_row 2 r _ _)))

/-- The element `m` rows above row `s`, zero above the array. -/
def tap (x : FVec Ideal S4096x1536 .f32) (m : ℕ) (s : Fin 4096) (e : Fin 1536) : EReal :=
  if s.val < m then 0 else x (ix2 ⟨s.val - m, by omega⟩ e)

/-- An element of the convolution. -/
def convE (x : FVec Ideal S4096x1536 .f32) (w : FVec Ideal S4x1536 .f32) (b : FVec Ideal S1x1536 .f32) (s : Fin 4096) (e : Fin 1536) : EReal :=
  x (ix2 s e) * w (ix2 3 e) + b (ix2 0 e) + tap x 1 s e * w (ix2 2 e) + tap x 2 s e * w (ix2 1 e) + tap x 3 s e * w (ix2 0 e)

/-- A block's shifted rows are the array's: the block before holds the rows before, or zeros before the first. -/
theorem shift_eq (x : FVec Ideal S4096x1536 .f32) (cur prev : Vec Ideal S128x1536 .f32) (t m : ℕ) (hm : m ≤ 3) (r : Fin 128) (e e' : Fin 1536) (s : Fin 4096)
    (hs : s.val = t * 128 + r.val)
    (hc : ∀ (a : Fin 128) (s' : Fin 4096), s'.val = t * 128 + a.val → cur (ix2 a e) = x (ix2 s' e'))
    (h0 : t = 0 → ∀ a : Fin 128, prev (ix2 a e) = 0)
    (hp : t ≠ 0 → ∀ (a : Fin 128) (s' : Fin 4096), s'.val = (t - 1) * 128 + a.val → prev (ix2 a e) = x (ix2 s' e')) :
    shiftE cur prev m r e = tap x m s e' := by
  have hr := r.isLt
  unfold shiftE tap
  by_cases h : r.val < m
  · rw [if_pos h]
    by_cases ht : t = 0
    · rw [if_pos (by omega), h0 ht]
    · rw [if_neg (by omega)]
      exact hp ht _ _ (show s.val - m = (t - 1) * 128 + (r.val + 128 - m) % 128 by omega)
  · rw [if_neg h, if_neg (by omega)]
    exact hc _ _ (show s.val - m = t * 128 + (r.val + 128 - m) % 128 by omega)

variable (m : (ℓ : Loc nD τ sig) → Buf (Elt Ideal) ℓ) (c : Dev nD)

/-- The windows' block indices. -/
theorem idx : ∀ t : Fin cfg0.N, win0_0.index t = ![t.val, 0] ∧ win0_2.index t = ![0, 0] ∧ win0_3.index t = ![0, 0] ∧ win0_7.index t = ![t.val, 0] :=
  (by decide +kernel : ∀ t : Fin grid0.N, _)

theorem rd0 (t : Fin cfg0.N) (a : Fin 128) (e : Fin 1536) (s : Fin 4096) (hs : s.val = t.val * 128 + a.val) :
    iblk m c 0 t (ix2 a e) = m ((c : Thread nD τ).loc main_arg0) (ix2 s e) := by
  blk_simp [iblk, idx t]
  blk_ext [idx t]

theorem rd2 (t : Fin cfg0.N) (k : Fin 4) (e : Fin 1536) :
    iblk m c 2 t (ix2 k e) = m ((c : Thread nD τ).loc main_arg2) (ix2 k e) := by
  blk_simp [iblk, idx t]
  blk_ext [idx t]

theorem rd3 (t : Fin cfg0.N) (e : Fin 1536) :
    iblk m c 3 t (ix2 0 e) = m ((c : Thread nD τ).loc main_arg3) (ix2 0 e) := by
  blk_simp [iblk, idx t]
  blk_ext [idx t]

/-- The first carried scratch is the block. -/
theorem carried (t : Fin cfg0.N) : (outsAt0 m c t.val t.isLt).2.2.2.1 = iblk m c 0 t := by
  by_cases h : t.val % 32 = 0
  · rw [outsAt0_A m c t h]; frame_out; rw [keep_at]
  · rw [outsAt0_B m c t h]; frame_out; rw [keep_at]

/-- A row of the taps' weights. -/
theorem ld_row (x : Vec Ideal S4x1536 .f32) (k : Fin 4) (hn : ∀ a, (![k.val, 0] : Fin 2 → ℕ) a + (![1, 1536] : Fin 2 → ℕ) a ≤ S4x1536.size a) (e : Fin 1536) :
    (show FVec Ideal S1x1536 .f32 from View.ld x (Rect.unit ![k.val, 0] ![1, 1536] hn)) (ix2 0 e) = x (ix2 k e) := by
  refine congrArg x (funext fun a => Fin.ext ?_)
  match a with
  | ⟨0, _⟩ => show k.val + 1 * 0 = k.val; omega
  | ⟨1, _⟩ => show 0 + 1 * e.val = e.val; omega

/-- A block's convolution is the array's, the block before being carried. -/
theorem point (t : Fin cfg0.N) (prev : Vec Ideal S128x1536 .f32) (h0 : t.val = 0 → ∀ j, prev j = 0)
    (hp : t.val ≠ 0 → ∀ (a : Fin 128) (e : Fin 1536) (s : Fin 4096), s.val = (t.val - 1) * 128 + a.val → prev (ix2 a e) = m ((c : Thread nD τ).loc main_arg0) (ix2 s e))
    (r : Fin 128) (e : Fin 1536) (s : Fin 4096) (hs : s.val = t.val * 128 + r.val) :
    k0_pay6 (F := Ideal) (k0_pay4 (iblk m c 0 t) prev (View.ld (iblk m c 2 t) (Rect.unit ![3, 0] ![1, 1536] inb_S4x1536_S1x1536_3_0)) (iblk m c 3 t)
        (View.ld (iblk m c 2 t) (Rect.unit ![2, 0] ![1, 1536] inb_S4x1536_S1x1536_2_0)) (View.ld (iblk m c 2 t) (Rect.unit ![1, 0] ![1, 1536] inb_S4x1536_S1x1536_1_0)))
      (k0_pay5 (iblk m c 0 t) prev) (View.ld (iblk m c 2 t) (Rect.unit ![0, 0] ![1, 1536] inb_S4x1536_S1x1536_0_0)) (ix2 r e) =
    convE (m ((c : Thread nD τ).loc main_arg0)) (m ((c : Thread nD τ).loc main_arg2)) (m ((c : Thread nD τ).loc main_arg3)) s e := by
  have w := fun (k : Fin 4) hn => (ld_row (iblk m c 2 t) k hn e).trans (rd2 m c t k e)
  have sh := fun k hk => shift_eq (m ((c : Thread nD τ).loc main_arg0)) (iblk m c 0 t) prev t.val k hk r e e s hs (fun a s' h => rd0 m c t a e s' h)
    (fun h a => h0 h _) (fun h a s' h' => hp h a e s' h')
  refine (conv_at _ _ _ _ _ _ _ r e).trans ?_
  rw [sh 1 (by decide), sh 2 (by decide), sh 3 (by decide)]
  exact congrArg₂ (· + ·) (congrArg₂ (· + ·) (congrArg₂ (· + ·) (congrArg₂ (· + ·) (congrArg₂ (· * ·) (rd0 m c t r e s hs) (w 3 _)) (rd3 m c t e))
    (congrArg (_ * ·) (w 2 _))) (congrArg (_ * ·) (w 1 _))) (congrArg (_ * ·) (w 0 _))

/-- The array at the end. -/
theorem final : (dats m 0 c).arrAt 7 cfg0.N = fun j : S4096x1536.Idx =>
    convE (m ((c : Thread nD τ).loc main_arg0)) (m ((c : Thread nD τ).loc main_arg2)) (m ((c : Thread nD τ).loc main_arg3)) (j 0) (j 1) := by
  refine (dats m 0 c).arrAt_eq_of_covers 7 _ (by decide +kernel) fun t hf y => ?_
  have hN : t.val < 32 := lt_of_lt_of_eq t.isLt N_0
  have h0 : ((win0_7.blk t).view.emb y 0 : ℕ) = t.val * 128 + (y 0 : ℕ) := by blk_simp [idx t]
  have h1 : (win0_7.blk t).view.emb y 1 = y 1 := Fin.ext (by blk_simp [idx t])
  blk_simp
  rw [after0_7]
  obtain ⟨r, e, rfl⟩ : ∃ (r : Fin 128) (e : Fin 1536), y = ix2 r e := ⟨_, _, eq_ix2 y⟩
  by_cases h : t.val % 32 = 0
  · rw [outsAt0_A m c t h]
    frame_out
    exact (point m c t _ (fun _ j => zero_at j) (fun h' => absurd h (by omega)) r e _ h0).trans (congrArg _ h1.symm)
  · rw [outsAt0_B m c t h]
    frame_out
    refine (point m c t _ (fun h' => absurd (show t.val % 32 = 0 by omega) h) (fun _ a e s hs => ?_) r e _ h0).trans (congrArg _ h1.symm)
    refine (congrFun (Memref.IsWhole.read_unread _ _) _).trans ?_
    exact (congrFun (carried m c ⟨t.val - 1, lt_of_le_of_lt (Nat.sub_le _ _) t.isLt⟩) _).trans (rd0 m c ⟨t.val - 1, _⟩ a e s hs)

end Cert.SsdFwdIdeal.Value

namespace Cert.ConvPair

open Cert.ConvRefIdeal Cert.ConvRefIdeal.Gen Cert.ConvRefIdeal.Value Idealize.ShloMosaic Idealize.ShloMosaic.TcCoe Idealize.SL.Sem
open Cert.SsdFwdIdeal.Value (convE tap)

section

variable (x : FVec Ideal S4096x1536 .f32) (w : FVec Ideal S4x1536 .f32) (b : FVec Ideal S1x1536 .f32)

/-- The reference's rows with the three zero rows above them. -/
abbrev padR : FVec Ideal S4099x1536 .f32 :=
  concatenate S4099x1536 0 [⟨S3x1536, broadcastInDim S3x1536 ![] bcast_S_S3x1536 (constant S_ .f32 0x00000000#32)⟩, ⟨S4096x1536, x⟩] concatenates_S3x1536_S4096x1536_S4099x1536_d0

theorem pad_at (s : Fin 4099) (e : Fin 1536) : padR x (ix2 s e) = if h : s.val < 3 then 0 else x (ix2 ⟨s.val - 3, by omega⟩ e) := by
  pointwise

/-- The reference's convolution of a padded array. -/
abbrev convR (u : FVec Ideal S4099x1536 .f32) : FVec Ideal S4096x1536 .f32 :=
  addf (addf (addf (addf (mulf (extractStridedSlice S4096x1536 ![0, 0] u slices_S4099x1536_S4096x1536_0_0) (broadcastInDim S4096x1536 ![0, 1] bcast_S1x1536_S4096x1536_0_1 (extractStridedSlice S1x1536 ![0, 0] w slices_S4x1536_S1x1536_0_0)))
    (mulf (extractStridedSlice S4096x1536 ![1, 0] u slices_S4099x1536_S4096x1536_1_0) (broadcastInDim S4096x1536 ![0, 1] bcast_S1x1536_S4096x1536_0_1 (extractStridedSlice S1x1536 ![1, 0] w slices_S4x1536_S1x1536_1_0))))
    (mulf (extractStridedSlice S4096x1536 ![2, 0] u slices_S4099x1536_S4096x1536_2_0) (broadcastInDim S4096x1536 ![0, 1] bcast_S1x1536_S4096x1536_0_1 (extractStridedSlice S1x1536 ![2, 0] w slices_S4x1536_S1x1536_2_0))))
    (mulf (extractStridedSlice S4096x1536 ![3, 0] u slices_S4099x1536_S4096x1536_3_0) (broadcastInDim S4096x1536 ![0, 1] bcast_S1x1536_S4096x1536_0_1 (extractStridedSlice S1x1536 ![3, 0] w slices_S4x1536_S1x1536_3_0))))
    (broadcastInDim S4096x1536 ![0, 1] bcast_S1x1536_S4096x1536_0_1 b)

theorem conv_at (u : FVec Ideal S4099x1536 .f32) (s : Fin 4096) (e : Fin 1536) : convR w b u (ix2 s e) =
    u (ix2 ⟨s.val, by omega⟩ e) * w (ix2 0 e) + u (ix2 ⟨1 + s.val, by omega⟩ e) * w (ix2 1 e) + u (ix2 ⟨2 + s.val, by omega⟩ e) * w (ix2 2 e) + u (ix2 ⟨3 + s.val, by omega⟩ e) * w (ix2 3 e) + b (ix2 0 e) := by
  pointwise

theorem five (p q r t u : EReal) : p + q + r + t + u = t + u + r + q + p := by
  ac_rfl

theorem conv_eq : convR w b (padR x) = fun j : S4096x1536.Idx => convE x w b (j 0) (j 1) := by
  funext j
  obtain ⟨s, e, rfl⟩ : ∃ (s : Fin 4096) (e : Fin 1536), j = ix2 s e := ⟨_, _, eq_ix2 j⟩
  have hp : ∀ (k i : ℕ) (hk : k + i = 3) (h : k + s.val < 4099), padR x (ix2 ⟨k + s.val, h⟩ e) = tap x i s e := by
    intro k i hk h
    rw [pad_at]
    unfold tap
    by_cases hs : s.val < i
    · rw [if_pos hs, dif_pos (show k + s.val < 3 by omega)]
    · rw [if_neg hs, dif_neg (show ¬k + s.val < 3 by omega)]
      exact congrArg (fun z => x (ix2 z e)) (Fin.ext (show k + s.val - 3 = s.val - i by omega))
  have h3 : padR x (ix2 ⟨3 + s.val, by omega⟩ e) = x (ix2 s e) := hp 3 0 rfl _
  have h0 : padR x (ix2 ⟨s.val, by omega⟩ e) = tap x 3 s e := (congrArg (fun z => padR x (ix2 z e)) (Fin.ext (Nat.zero_add _).symm)).trans (hp 0 3 rfl (by omega))
  refine (conv_at w b (padR x) s e).trans ?_
  rw [h0, hp 1 2 rfl, hp 2 1 rfl, h3]
  exact five _ _ _ _ _

end

/-- The reference's frame. -/
theorem frame_ref : Cert.quiescent_ConvRefIdeal := fun m ρ _ =>
  (θ_run Cert.ConvRefIdeal.defs _ _).mono (fun r h => ⟨fun c => (h c).2, Idealize.ShloMosaic.sem_eq_zero_of_no_sems (by decide) r.2⟩) (Cert.ConvRefIdeal.Value.run (F := Ideal) m ρ)

/-- Kernel and reference return the same array. -/
theorem algebraic : Cert.algebraic_SsdFwdIdeal_ConvRefIdeal := by
  intro m ρ m' ρ' _ ha
  refine ⟨_, (θ_run Cert.SsdFwdIdeal.defs _ _).mono (fun r h c => ⟨(h c).1, (h c).2.2.2⟩) (Cert.SsdFwdIdeal.Value.run_blocks m ρ), ?_⟩
  refine (θ_run Cert.ConvRefIdeal.defs _ _).mono (fun r h c => ?_) (Cert.ConvRefIdeal.Value.run (F := Ideal) m' ρ')
  obtain ⟨r0, keep⟩ := h c
  obtain ⟨h0, -, h2, h3, -⟩ := ha c
  refine ⟨r0.trans ?_, keep⟩
  rw [h0, h2, h3, Cert.SsdFwdIdeal.Value.final]
  exact conv_eq _ _ _

/-- All claims about the pair. -/
theorem claims : (Cert.quiescent_SsdFwd ∧ Cert.quiescent_SsdFwdIdeal ∧ Cert.quiescent_ConvRefIdeal) ∧ Cert.preserves_SsdFwd_SsdFwdIdeal ∧ Cert.algebraic_SsdFwdIdeal_ConvRefIdeal :=
  ⟨⟨fun m ρ _ => Cert.SsdFwd.Gen.frame m ρ, fun m ρ _ => Cert.SsdFwdIdeal.Gen.frame m ρ, frame_ref⟩, trivial, algebraic⟩

end Cert.ConvPair

end
-- ==== Proof.lean ====
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InRefIdeal
public import proofs.«01_k».proof.Proof.Gen.Pre_in_finite
public import proofs.«01_k».proof.Proof.Gen.InBwdIdeal.Value
public import proofs.«01_k».proof.Proof.Gen.InRefIdeal.Run
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnRefIdeal
public import proofs.«01_k».proof.Proof.Gen.Pre_attn_finite
public import proofs.«01_k».proof.Proof.Gen.AttnBwdIdeal.Value
public import proofs.«01_k».proof.Proof.Gen.AttnRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Pre_post_finite
public import proofs.«01_k».proof.Proof.Gen.PostIdeal.Value
public import proofs.«01_k».proof.Proof.Gen.PostRefIdeal.Run
public import proofs.«01_k».proof.Proof.Gen.AttnFwd
public import proofs.«01_k».proof.Proof.Gen.AttnFwd.Skeleton
public import proofs.«01_k».proof.Proof.Gen.AttnFwd.Loops
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Loops
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.FwdRefIdeal
public import proofs.«01_k».proof.Proof.Gen.AttnFwdIdeal.Value
public import proofs.«01_k».proof.Proof.Gen.FwdRefIdeal.Run
public import proofs.«01_k».proof.Proof.Gen.Pre_fwd_finite
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.SmallIdeal.Value
public import proofs.«01_k».proof.Proof.Gen.SmallRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.GradW
public import proofs.«01_k».proof.Proof.Gen.GradW.Skeleton
public import proofs.«01_k».proof.Proof.Gen.GradW.Launch
public import proofs.«01_k».proof.Proof.Gen.GradW.Points
public import proofs.«01_k».proof.Proof.Gen.GradW.Frame
public import proofs.«01_k».proof.Proof.Gen.GradWIdeal
public import proofs.«01_k».proof.Proof.Gen.GradWIdeal.Skeleton
public import proofs.«01_k».proof.Proof.Gen.GradWIdeal.Launch
public import proofs.«01_k».proof.Proof.Gen.GradWIdeal.Points
public import proofs.«01_k».proof.Proof.Gen.GradWIdeal.Frame
public import proofs.«01_k».proof.Proof.Gen.GradWRefIdeal
public import proofs.«01_k».proof.Proof.Gen.GradWIdeal.Value
public import proofs.«01_k».proof.Proof.Gen.GradWRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.Cols
public import proofs.«01_k».proof.Proof.Gen.Cols.Skeleton
public import proofs.«01_k».proof.Proof.Gen.Cols.Launch
public import proofs.«01_k».proof.Proof.Gen.Cols.Points
public import proofs.«01_k».proof.Proof.Gen.Cols.Frame
public import proofs.«01_k».proof.Proof.Gen.ColsIdeal
public import proofs.«01_k».proof.Proof.Gen.ColsIdeal.Skeleton
public import proofs.«01_k».proof.Proof.Gen.ColsIdeal.Launch
public import proofs.«01_k».proof.Proof.Gen.ColsIdeal.Points
public import proofs.«01_k».proof.Proof.Gen.ColsIdeal.Frame
public import proofs.«01_k».proof.Proof.Gen.ColsRefIdeal
public import proofs.«01_k».proof.Proof.Gen.ColsIdeal.Value
public import proofs.«01_k».proof.Proof.Gen.ColsRefIdeal.Run
public import proofs.«01_k».proof.Proof.Gen.Cast
public import proofs.«01_k».proof.Proof.Gen.Cast.Skeleton
public import proofs.«01_k».proof.Proof.Gen.Cast.Launch
public import proofs.«01_k».proof.Proof.Gen.Cast.Points
public import proofs.«01_k».proof.Proof.Gen.Cast.Frame
public import proofs.«01_k».proof.Proof.Gen.CastIdeal
public import proofs.«01_k».proof.Proof.Gen.CastIdeal.Skeleton
public import proofs.«01_k».proof.Proof.Gen.CastIdeal.Launch
public import proofs.«01_k».proof.Proof.Gen.CastIdeal.Points
public import proofs.«01_k».proof.Proof.Gen.CastIdeal.Frame
public import proofs.«01_k».proof.Proof.Gen.CastRefIdeal
public import proofs.«01_k».proof.Proof.Gen.CastIdeal.Value
public import proofs.«01_k».proof.Proof.Gen.CastRefIdeal.Run
public import proofs.«01_k».proof.Proof.Gen.SsdFwd
public import proofs.«01_k».proof.Proof.Gen.SsdFwd.Skeleton
public import proofs.«01_k».proof.Proof.Gen.SsdFwd.Launch
public import proofs.«01_k».proof.Proof.Gen.SsdFwd.Points
public import proofs.«01_k».proof.Proof.Gen.SsdFwd.Frame
public import proofs.«01_k».proof.Proof.Gen.SsdFwdIdeal
public import proofs.«01_k».proof.Proof.Gen.SsdFwdIdeal.Skeleton
public import proofs.«01_k».proof.Proof.Gen.SsdFwdIdeal.Launch
public import proofs.«01_k».proof.Proof.Gen.SsdFwdIdeal.Points
public import proofs.«01_k».proof.Proof.Gen.SsdFwdIdeal.Frame
public import proofs.«01_k».proof.Proof.Gen.ConvRefIdeal
public import proofs.«01_k».proof.Proof.Gen.SsdFwdIdeal.Value
public import proofs.«01_k».proof.Proof.Gen.ConvRefIdeal.Run
public import proofs.«01_k».proof.Proof.InAlg
public import proofs.«01_k».proof.Proof.AttnAlg
public import proofs.«01_k».proof.Proof.PostAlg
public import proofs.«01_k».proof.Proof.FwdAlg
public import proofs.«01_k».proof.Proof.SmallAlg
public import proofs.«01_k».proof.Proof.ProjAlg
public import proofs.«01_k».proof.Proof.GradAlg
public import proofs.«01_k».proof.Proof.AdamAlg
public import proofs.«01_k».proof.Proof.ColsAlg
public import proofs.«01_k».proof.Proof.CastAlg
public import proofs.«01_k».proof.Proof.ConvAlg
public import Idealize.ShloMosaic.Adequacy
public import Idealize.ShloMosaic.Init

@[expose] public section

noncomputable section

namespace Cert.Proof

open Idealize.ShloMosaic Idealize.SL.Sem Cert.InBwd

theorem claim : Cert.Claim :=
  have a := Cert.InPair.claims
  have b := Cert.AttnPair.claims
  have c := Cert.PostPair.claims
  have d := Cert.FwdPair.claims
  have e := Cert.SmallPair.claims
  have f := Cert.ProjPair.claims
  have g := Cert.GradPair.claims
  have h := Cert.AdamPair.claims
  have i := Cert.ColsPair.claims
  have j := Cert.CastPair.claims
  have k := Cert.ConvPair.claims
  ⟨Cert.InBwd.Gen.facts, Cert.InBwdIdeal.Gen.facts, Cert.InRefIdeal.Gen.facts, Cert.AttnBwd.Gen.facts, Cert.AttnBwdIdeal.Gen.facts,
    Cert.AttnRefIdeal.Gen.facts, Cert.Post.Gen.facts, Cert.PostIdeal.Gen.facts, Cert.PostRefIdeal.Gen.facts, Cert.AttnFwd.Gen.facts,
    Cert.AttnFwdIdeal.Gen.facts, Cert.FwdRefIdeal.Gen.facts, Cert.Small.Gen.facts, Cert.SmallIdeal.Gen.facts, Cert.SmallRefIdeal.Gen.facts,
    Cert.Proj.Gen.facts, Cert.ProjIdeal.Gen.facts, Cert.ProjRefIdeal.Gen.facts, Cert.GradW.Gen.facts, Cert.GradWIdeal.Gen.facts, Cert.GradWRefIdeal.Gen.facts,
    Cert.Adam.Gen.facts, Cert.AdamIdeal.Gen.facts, Cert.AdamRefIdeal.Gen.facts, Cert.Cols.Gen.facts, Cert.ColsIdeal.Gen.facts, Cert.ColsRefIdeal.Gen.facts,
    Cert.Cast.Gen.facts, Cert.CastIdeal.Gen.facts, Cert.CastRefIdeal.Gen.facts, Cert.SsdFwd.Gen.facts, Cert.SsdFwdIdeal.Gen.facts, Cert.ConvRefIdeal.Gen.facts,
    Cert.Pre_in_finite.Gen.facts,
    Cert.Pre_attn_finite.Gen.facts, Cert.Pre_post_finite.Gen.facts, Cert.Pre_fwd_finite.Gen.facts,
    a.1.1, a.1.2.1, a.1.2.2.1, a.1.2.2.2.1, a.1.2.2.2.2, b.1.1, b.1.2.1, b.1.2.2.1, b.1.2.2.2.1, b.1.2.2.2.2,
    c.1.1, c.1.2.1, c.1.2.2.1, c.1.2.2.2.1, c.1.2.2.2.2,
    d.1.1, d.1.2.1, d.1.2.2.1, d.1.2.2.2.1, d.1.2.2.2.2, e.1.1, e.1.2.1, e.1.2.2, f.1.1, f.1.2.1, f.1.2.2,
    g.1.1, g.1.2.1, g.1.2.2, h.1.1, h.1.2.1, h.1.2.2, i.1.1, i.1.2.1, i.1.2.2, j.1.1, j.1.2.1, j.1.2.2, k.1.1, k.1.2.1, k.1.2.2,
    a.2.1, a.2.2, b.2.1, b.2.2, c.2.1, c.2.2, d.2.1, d.2.2, e.2.1, e.2.2, f.2.1, f.2.2,
    g.2.1, g.2.2, h.2.1, h.2.2, i.2.1, i.2.2, j.2.1, j.2.2, k.2.1, k.2.2⟩

end Cert.Proof

end
